-- ==== Defs.lean ====
def Pre_Kernel [hPre_dest_in_rows : Cert.Pre_dest_in_rows.Facts] (m : (ℓ : Loc Cert.Kernel.nD Cert.Kernel.τ Cert.Kernel.sig) → Buf (Elt Bits) ℓ) : Prop :=
  ∀ c : Dev Cert.Kernel.nD,
    (Cert.Pre_dest_in_rows.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_dest_in_rows : Cert.Pre_dest_in_rows.Facts] (m : (ℓ : Loc Cert.KernelIdeal.nD Cert.KernelIdeal.τ Cert.KernelIdeal.sig) → Buf (Elt Ideal) ℓ) : Prop :=
  ∀ c : Dev Cert.KernelIdeal.nD,
    (Cert.Pre_dest_in_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_dest_in_rows : Cert.Pre_dest_in_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_dest_in_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference [hPre_dest_in_rows : Cert.Pre_dest_in_rows.Facts] (m : (ℓ : Loc Cert.Reference.nD Cert.Reference.τ Cert.Reference.sig) → Buf (Elt Bits) ℓ) : Prop :=
  ∀ c : Dev Cert.Reference.nD,
    (Cert.Pre_dest_in_rows.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Kernel2 [hPre_tables_in_range : Cert.Pre_tables_in_range.Facts] (m : (ℓ : Loc Cert.Kernel2.nD Cert.Kernel2.τ Cert.Kernel2.sig) → Buf (Elt Bits) ℓ) : Prop :=
  ∀ c : Dev Cert.Kernel2.nD,
    (Cert.Pre_tables_in_range.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6)) (m ((c.tc : Thread Cert.Kernel2.nD Cert.Kernel2.τ).loc Cert.Kernel2.main_arg7))) = (fun _ => 1#1)

def Pre_Kernel2Ideal [hPre_tables_in_range : Cert.Pre_tables_in_range.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_tables_in_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))) = (fun _ => 1#1)

def Pre_Reference2Ideal [hPre_tables_in_range : Cert.Pre_tables_in_range.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_tables_in_range.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Reference8 (m : (ℓ : Loc Cert.Reference8.nD Cert.Reference8.τ Cert.Reference8.sig) → Buf (Elt Bits) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Reference9 (m : (ℓ : Loc Cert.Reference9.nD Cert.Reference9.τ Cert.Reference9.sig) → Buf (Elt Bits) ℓ) : Prop :=
  True

def quiescent_Kernel [hKernel : Cert.Kernel.Facts] [hPre_dest_in_rows : Cert.Pre_dest_in_rows.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_dest_in_rows : Cert.Pre_dest_in_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] [hPre_dest_in_rows : Cert.Pre_dest_in_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] [hPre_dest_in_rows : Cert.Pre_dest_in_rows.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Kernel2 [hKernel2 : Cert.Kernel2.Facts] [hPre_tables_in_range : Cert.Pre_tables_in_range.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] [hPre_tables_in_range : Cert.Pre_tables_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] [hPre_tables_in_range : Cert.Pre_tables_in_range.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Reference8 [hReference8 : Cert.Reference8.Facts] : Prop :=
  ∀ (m : (ℓ : Loc Cert.Reference8.nD Cert.Reference8.τ Cert.Reference8.sig) → Buf (Elt Bits) ℓ) (g : Dev Cert.Reference8.nD → PrngReg), Pre_Reference8 m →
    θ_run (Cert.Reference8.defs (F := Bits)) (onTc (τ := Cert.Reference8.τ) (Cert.Reference8.main (F := Bits))) ⟨m, fun _ => 0, g⟩ (fun r => (∀ c : Dev Cert.Reference8.nD,
      r.2.mem ((c.tc : Thread Cert.Reference8.nD Cert.Reference8.τ).loc Cert.Reference8.main_arg0) = m ((c.tc : Thread Cert.Reference8.nD Cert.Reference8.τ).loc Cert.Reference8.main_arg0)
      ∧ r.2.mem ((c.tc : Thread Cert.Reference8.nD Cert.Reference8.τ).loc Cert.Reference8.main_arg1) = m ((c.tc : Thread Cert.Reference8.nD Cert.Reference8.τ).loc Cert.Reference8.main_arg1)
      ∧ r.2.mem ((c.tc : Thread Cert.Reference8.nD Cert.Reference8.τ).loc Cert.Reference8.main_arg2) = m ((c.tc : Thread Cert.Reference8.nD Cert.Reference8.τ).loc Cert.Reference8.main_arg2)
      ∧ r.2.mem ((c.tc : Thread Cert.Reference8.nD Cert.Reference8.τ).loc Cert.Reference8.main_arg3) = m ((c.tc : Thread Cert.Reference8.nD Cert.Reference8.τ).loc Cert.Reference8.main_arg3)
      ∧ r.2.mem ((c.tc : Thread Cert.Reference8.nD Cert.Reference8.τ).loc Cert.Reference8.main_arg4) = m ((c.tc : Thread Cert.Reference8.nD Cert.Reference8.τ).loc Cert.Reference8.main_arg4)
      ∧ r.2.mem ((c.tc : Thread Cert.Reference8.nD Cert.Reference8.τ).loc Cert.Reference8.main_arg5) = m ((c.tc : Thread Cert.Reference8.nD Cert.Reference8.τ).loc Cert.Reference8.main_arg5))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7)
      ∧ r.2.mem ((c.tc : Thread Cert.Kernel9.nD Cert.Kernel9.τ).loc Cert.Kernel9.main_arg8) = m ((c.tc : Thread Cert.Kernel9.nD Cert.Kernel9.τ).loc Cert.Kernel9.main_arg8))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8))
      ∧ r.2.sem = fun _ => 0)

def quiescent_Reference9 [hReference9 : Cert.Reference9.Facts] : Prop :=
  ∀ (m : (ℓ : Loc Cert.Reference9.nD Cert.Reference9.τ Cert.Reference9.sig) → Buf (Elt Bits) ℓ) (g : Dev Cert.Reference9.nD → PrngReg), Pre_Reference9 m →
    θ_run (Cert.Reference9.defs (F := Bits)) (onTc (τ := Cert.Reference9.τ) (Cert.Reference9.main (F := Bits))) ⟨m, fun _ => 0, g⟩ (fun r => (∀ c : Dev Cert.Reference9.nD,
      r.2.mem ((c.tc : Thread Cert.Reference9.nD Cert.Reference9.τ).loc Cert.Reference9.main_arg0) = m ((c.tc : Thread Cert.Reference9.nD Cert.Reference9.τ).loc Cert.Reference9.main_arg0)
      ∧ r.2.mem ((c.tc : Thread Cert.Reference9.nD Cert.Reference9.τ).loc Cert.Reference9.main_arg1) = m ((c.tc : Thread Cert.Reference9.nD Cert.Reference9.τ).loc Cert.Reference9.main_arg1)
      ∧ r.2.mem ((c.tc : Thread Cert.Reference9.nD Cert.Reference9.τ).loc Cert.Reference9.main_arg2) = m ((c.tc : Thread Cert.Reference9.nD Cert.Reference9.τ).loc Cert.Reference9.main_arg2)
      ∧ r.2.mem ((c.tc : Thread Cert.Reference9.nD Cert.Reference9.τ).loc Cert.Reference9.main_arg3) = m ((c.tc : Thread Cert.Reference9.nD Cert.Reference9.τ).loc Cert.Reference9.main_arg3)
      ∧ r.2.mem ((c.tc : Thread Cert.Reference9.nD Cert.Reference9.τ).loc Cert.Reference9.main_arg4) = m ((c.tc : Thread Cert.Reference9.nD Cert.Reference9.τ).loc Cert.Reference9.main_arg4)
      ∧ r.2.mem ((c.tc : Thread Cert.Reference9.nD Cert.Reference9.τ).loc Cert.Reference9.main_arg5) = m ((c.tc : Thread Cert.Reference9.nD Cert.Reference9.τ).loc Cert.Reference9.main_arg5)
      ∧ r.2.mem ((c.tc : Thread Cert.Reference9.nD Cert.Reference9.τ).loc Cert.Reference9.main_arg6) = m ((c.tc : Thread Cert.Reference9.nD Cert.Reference9.τ).loc Cert.Reference9.main_arg6)
      ∧ r.2.mem ((c.tc : Thread Cert.Reference9.nD Cert.Reference9.τ).loc Cert.Reference9.main_arg7) = m ((c.tc : Thread Cert.Reference9.nD Cert.Reference9.τ).loc Cert.Reference9.main_arg7)
      ∧ r.2.mem ((c.tc : Thread Cert.Reference9.nD Cert.Reference9.τ).loc Cert.Reference9.main_arg8) = m ((c.tc : Thread Cert.Reference9.nD Cert.Reference9.τ).loc Cert.Reference9.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_dest_in_rows : Cert.Pre_dest_in_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] [hPre_dest_in_rows : Cert.Pre_dest_in_rows.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v11)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v11) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v6) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def preserves_Kernel2_Kernel2Ideal : Prop :=
  True

def algebraic_Kernel2Ideal_Reference2Ideal_on_rows_used [hKernel2Ideal : Cert.Kernel2Ideal.Facts] [hReference2Ideal : Cert.Reference2Ideal.Facts] [hPre_tables_in_range : Cert.Pre_tables_in_range.Facts] [hOn_rows_used : Cert.On_rows_used.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          (∀ i : (⟨3, ![8, 151552, 128]⟩ : Shape).Idx, (Cert.On_rows_used.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))) i = 1#1 → r.2.mem ((c.tc : Thread Cert.Kernel2Ideal.nD Cert.Kernel2Ideal.τ).loc Cert.Kernel2Ideal.main_v0) i = v0 c i)
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          (∀ i : (⟨3, ![8, 151552, 128]⟩ : Shape).Idx, (Cert.On_rows_used.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))) i = 1#1 → r.2.mem ((c.tc : Thread Cert.Reference2Ideal.nD Cert.Reference2Ideal.τ).loc Cert.Reference2Ideal.main_v81) i = v0 c i)
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v8)) (v1 : (c : Dev Cert.Kernel3Ideal.nD) → Buf (Elt Ideal) ((c.tc : Thread Cert.Kernel3Ideal.nD Cert.Kernel3Ideal.τ).loc Cert.Kernel3Ideal.main_v9)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8) = v0 c
          ∧ r.2.mem ((c.tc : Thread Cert.Kernel3Ideal.nD Cert.Kernel3Ideal.τ).loc Cert.Kernel3Ideal.main_v9) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v1) = v0 c
          ∧ r.2.mem ((c.tc : Thread Cert.Reference3Ideal.nD Cert.Reference3Ideal.τ).loc Cert.Reference3Ideal.main_v3) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v13)) (v1 : (c : Dev Cert.Kernel4Ideal.nD) → Buf (Elt Ideal) ((c.tc : Thread Cert.Kernel4Ideal.nD Cert.Kernel4Ideal.τ).loc Cert.Kernel4Ideal.main_v14)) (v2 : (c : Dev Cert.Kernel4Ideal.nD) → Buf (Elt Ideal) ((c.tc : Thread Cert.Kernel4Ideal.nD Cert.Kernel4Ideal.τ).loc Cert.Kernel4Ideal.main_v15)) (v3 : (c : Dev Cert.Kernel4Ideal.nD) → Buf (Elt Ideal) ((c.tc : Thread Cert.Kernel4Ideal.nD Cert.Kernel4Ideal.τ).loc Cert.Kernel4Ideal.main_v16)) (v4 : (c : Dev Cert.Kernel4Ideal.nD) → Buf (Elt Ideal) ((c.tc : Thread Cert.Kernel4Ideal.nD Cert.Kernel4Ideal.τ).loc Cert.Kernel4Ideal.main_v17)) (v5 : (c : Dev Cert.Kernel4Ideal.nD) → Buf (Elt Ideal) ((c.tc : Thread Cert.Kernel4Ideal.nD Cert.Kernel4Ideal.τ).loc Cert.Kernel4Ideal.main_v18)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v13) = v0 c
          ∧ r.2.mem ((c.tc : Thread Cert.Kernel4Ideal.nD Cert.Kernel4Ideal.τ).loc Cert.Kernel4Ideal.main_v14) = v1 c
          ∧ r.2.mem ((c.tc : Thread Cert.Kernel4Ideal.nD Cert.Kernel4Ideal.τ).loc Cert.Kernel4Ideal.main_v15) = v2 c
          ∧ r.2.mem ((c.tc : Thread Cert.Kernel4Ideal.nD Cert.Kernel4Ideal.τ).loc Cert.Kernel4Ideal.main_v16) = v3 c
          ∧ r.2.mem ((c.tc : Thread Cert.Kernel4Ideal.nD Cert.Kernel4Ideal.τ).loc Cert.Kernel4Ideal.main_v17) = v4 c
          ∧ r.2.mem ((c.tc : Thread Cert.Kernel4Ideal.nD Cert.Kernel4Ideal.τ).loc Cert.Kernel4Ideal.main_v18) = v5 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_v7) = v1 c
          ∧ r.2.mem ((c.tc : Thread Cert.Reference4Ideal.nD Cert.Reference4Ideal.τ).loc Cert.Reference4Ideal.main_v8) = v2 c
          ∧ r.2.mem ((c.tc : Thread Cert.Reference4Ideal.nD Cert.Reference4Ideal.τ).loc Cert.Reference4Ideal.main_v9) = v3 c
          ∧ r.2.mem ((c.tc : Thread Cert.Reference4Ideal.nD Cert.Reference4Ideal.τ).loc Cert.Reference4Ideal.main_v10) = v4 c
          ∧ r.2.mem ((c.tc : Thread Cert.Reference4Ideal.nD Cert.Reference4Ideal.τ).loc Cert.Reference4Ideal.main_v5) = v5 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v7)) (v1 : (c : Dev Cert.Kernel5Ideal.nD) → Buf (Elt Ideal) ((c.tc : Thread Cert.Kernel5Ideal.nD Cert.Kernel5Ideal.τ).loc Cert.Kernel5Ideal.main_v9)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v7) = v0 c
          ∧ r.2.mem ((c.tc : Thread Cert.Kernel5Ideal.nD Cert.Kernel5Ideal.τ).loc Cert.Kernel5Ideal.main_v9) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v42) = v0 c
          ∧ r.2.mem ((c.tc : Thread Cert.Reference5Ideal.nD Cert.Reference5Ideal.τ).loc Cert.Reference5Ideal.main_v44) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v35)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v35) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v34) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v36)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v36) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v35) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v23_1)) (v1 : (c : Dev Cert.Kernel8Ideal.nD) → Buf (Elt Ideal) ((c.tc : Thread Cert.Kernel8Ideal.nD Cert.Kernel8Ideal.τ).loc Cert.Kernel8Ideal.main_v23_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v23_1) = v0 c
          ∧ r.2.mem ((c.tc : Thread Cert.Kernel8Ideal.nD Cert.Kernel8Ideal.τ).loc Cert.Kernel8Ideal.main_v23_3) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v8) = v0 c
          ∧ r.2.mem ((c.tc : Thread Cert.Reference8Ideal.nD Cert.Reference8Ideal.τ).loc Cert.Reference8Ideal.main_v11) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def bitexact_Kernel8_Reference8 [hKernel8 : Cert.Kernel8.Facts] [hReference8 : Cert.Reference8.Facts] : Prop :=
  ∀ (m : (ℓ : Loc Cert.Kernel8.nD Cert.Kernel8.τ Cert.Kernel8.sig) → Buf (Elt Bits) ℓ) (g : Dev Cert.Kernel8.nD → PrngReg)
    (m' : (ℓ : Loc Cert.Reference8.nD Cert.Reference8.τ Cert.Reference8.sig) → Buf (Elt Bits) ℓ) (g' : Dev Cert.Reference8.nD → PrngReg), Pre_Kernel8 m →
    (∀ c : Dev Cert.Kernel8.nD,
      m' ((c.tc : Thread Cert.Reference8.nD Cert.Reference8.τ).loc Cert.Reference8.main_arg0) = m ((c.tc : Thread Cert.Kernel8.nD Cert.Kernel8.τ).loc Cert.Kernel8.main_arg0)
      ∧ m' ((c.tc : Thread Cert.Reference8.nD Cert.Reference8.τ).loc Cert.Reference8.main_arg1) = m ((c.tc : Thread Cert.Kernel8.nD Cert.Kernel8.τ).loc Cert.Kernel8.main_arg1)
      ∧ m' ((c.tc : Thread Cert.Reference8.nD Cert.Reference8.τ).loc Cert.Reference8.main_arg2) = m ((c.tc : Thread Cert.Kernel8.nD Cert.Kernel8.τ).loc Cert.Kernel8.main_arg2)
      ∧ m' ((c.tc : Thread Cert.Reference8.nD Cert.Reference8.τ).loc Cert.Reference8.main_arg3) = m ((c.tc : Thread Cert.Kernel8.nD Cert.Kernel8.τ).loc Cert.Kernel8.main_arg3)
      ∧ m' ((c.tc : Thread Cert.Reference8.nD Cert.Reference8.τ).loc Cert.Reference8.main_arg4) = m ((c.tc : Thread Cert.Kernel8.nD Cert.Kernel8.τ).loc Cert.Kernel8.main_arg4)
      ∧ m' ((c.tc : Thread Cert.Reference8.nD Cert.Reference8.τ).loc Cert.Reference8.main_arg5) = m ((c.tc : Thread Cert.Kernel8.nD Cert.Kernel8.τ).loc Cert.Kernel8.main_arg5)) →
    ∃ (v0 : (c : Dev Cert.Kernel8.nD) → Buf (Elt Bits) ((c.tc : Thread Cert.Kernel8.nD Cert.Kernel8.τ).loc Cert.Kernel8.main_v23_1)) (v1 : (c : Dev Cert.Kernel8.nD) → Buf (Elt Bits) ((c.tc : Thread Cert.Kernel8.nD Cert.Kernel8.τ).loc Cert.Kernel8.main_v23_3)),
      θ_run (Cert.Kernel8.defs (F := Bits)) (onTc (τ := Cert.Kernel8.τ) (Cert.Kernel8.main (F := Bits))) ⟨m, fun _ => 0, g⟩ (fun r => ∀ c : Dev Cert.Kernel8.nD,
          r.2.mem ((c.tc : Thread Cert.Kernel8.nD Cert.Kernel8.τ).loc Cert.Kernel8.main_v23_1) = v0 c
          ∧ r.2.mem ((c.tc : Thread Cert.Kernel8.nD Cert.Kernel8.τ).loc Cert.Kernel8.main_v23_3) = v1 c
          ∧ r.2.mem ((c.tc : Thread Cert.Kernel8.nD Cert.Kernel8.τ).loc Cert.Kernel8.main_arg0) = m ((c.tc : Thread Cert.Kernel8.nD Cert.Kernel8.τ).loc Cert.Kernel8.main_arg0)
          ∧ r.2.mem ((c.tc : Thread Cert.Kernel8.nD Cert.Kernel8.τ).loc Cert.Kernel8.main_arg1) = m ((c.tc : Thread Cert.Kernel8.nD Cert.Kernel8.τ).loc Cert.Kernel8.main_arg1)
          ∧ r.2.mem ((c.tc : Thread Cert.Kernel8.nD Cert.Kernel8.τ).loc Cert.Kernel8.main_arg2) = m ((c.tc : Thread Cert.Kernel8.nD Cert.Kernel8.τ).loc Cert.Kernel8.main_arg2)
          ∧ r.2.mem ((c.tc : Thread Cert.Kernel8.nD Cert.Kernel8.τ).loc Cert.Kernel8.main_arg3) = m ((c.tc : Thread Cert.Kernel8.nD Cert.Kernel8.τ).loc Cert.Kernel8.main_arg3)
          ∧ r.2.mem ((c.tc : Thread Cert.Kernel8.nD Cert.Kernel8.τ).loc Cert.Kernel8.main_arg4) = m ((c.tc : Thread Cert.Kernel8.nD Cert.Kernel8.τ).loc Cert.Kernel8.main_arg4)
          ∧ r.2.mem ((c.tc : Thread Cert.Kernel8.nD Cert.Kernel8.τ).loc Cert.Kernel8.main_arg5) = m ((c.tc : Thread Cert.Kernel8.nD Cert.Kernel8.τ).loc Cert.Kernel8.main_arg5))
      ∧ θ_run (Cert.Reference8.defs (F := Bits)) (onTc (τ := Cert.Reference8.τ) (Cert.Reference8.main (F := Bits))) ⟨m', fun _ => 0, g'⟩ (fun r => ∀ c : Dev Cert.Reference8.nD,
          r.2.mem ((c.tc : Thread Cert.Reference8.nD Cert.Reference8.τ).loc Cert.Reference8.main_v8) = v0 c
          ∧ r.2.mem ((c.tc : Thread Cert.Reference8.nD Cert.Reference8.τ).loc Cert.Reference8.main_v11) = v1 c
          ∧ r.2.mem ((c.tc : Thread Cert.Reference8.nD Cert.Reference8.τ).loc Cert.Reference8.main_arg0) = m' ((c.tc : Thread Cert.Reference8.nD Cert.Reference8.τ).loc Cert.Reference8.main_arg0)
          ∧ r.2.mem ((c.tc : Thread Cert.Reference8.nD Cert.Reference8.τ).loc Cert.Reference8.main_arg1) = m' ((c.tc : Thread Cert.Reference8.nD Cert.Reference8.τ).loc Cert.Reference8.main_arg1)
          ∧ r.2.mem ((c.tc : Thread Cert.Reference8.nD Cert.Reference8.τ).loc Cert.Reference8.main_arg2) = m' ((c.tc : Thread Cert.Reference8.nD Cert.Reference8.τ).loc Cert.Reference8.main_arg2)
          ∧ r.2.mem ((c.tc : Thread Cert.Reference8.nD Cert.Reference8.τ).loc Cert.Reference8.main_arg3) = m' ((c.tc : Thread Cert.Reference8.nD Cert.Reference8.τ).loc Cert.Reference8.main_arg3)
          ∧ r.2.mem ((c.tc : Thread Cert.Reference8.nD Cert.Reference8.τ).loc Cert.Reference8.main_arg4) = m' ((c.tc : Thread Cert.Reference8.nD Cert.Reference8.τ).loc Cert.Reference8.main_arg4)
          ∧ r.2.mem ((c.tc : Thread Cert.Reference8.nD Cert.Reference8.τ).loc Cert.Reference8.main_arg5) = m' ((c.tc : Thread Cert.Reference8.nD Cert.Reference8.τ).loc Cert.Reference8.main_arg5))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)
      ∧ m' ((c.tc : Thread Cert.Reference9Ideal.nD Cert.Reference9Ideal.τ).loc Cert.Reference9Ideal.main_arg8) = m ((c.tc : Thread Cert.Kernel9Ideal.nD Cert.Kernel9Ideal.τ).loc Cert.Kernel9Ideal.main_arg8)) →
    ∃ (v0 : (c : Dev Cert.Kernel9Ideal.nD) → Buf (Elt Ideal) ((c.tc : Thread Cert.Kernel9Ideal.nD Cert.Kernel9Ideal.τ).loc Cert.Kernel9Ideal.main_v20_1)) (v1 : (c : Dev Cert.Kernel9Ideal.nD) → Buf (Elt Ideal) ((c.tc : Thread Cert.Kernel9Ideal.nD Cert.Kernel9Ideal.τ).loc Cert.Kernel9Ideal.main_v20_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v20_1) = v0 c
          ∧ r.2.mem ((c.tc : Thread Cert.Kernel9Ideal.nD Cert.Kernel9Ideal.τ).loc Cert.Kernel9Ideal.main_v20_3) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
          ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v6) = v0 c
          ∧ r.2.mem ((c.tc : Thread Cert.Reference9Ideal.nD Cert.Reference9Ideal.τ).loc Cert.Reference9Ideal.main_v9) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7)
          ∧ r.2.mem ((c.tc : Thread Cert.Reference9Ideal.nD Cert.Reference9Ideal.τ).loc Cert.Reference9Ideal.main_arg8) = m' ((c.tc : Thread Cert.Reference9Ideal.nD Cert.Reference9Ideal.τ).loc Cert.Reference9Ideal.main_arg8))

def bitexact_Kernel9_Reference9 [hKernel9 : Cert.Kernel9.Facts] [hReference9 : Cert.Reference9.Facts] : Prop :=
  ∀ (m : (ℓ : Loc Cert.Kernel9.nD Cert.Kernel9.τ Cert.Kernel9.sig) → Buf (Elt Bits) ℓ) (g : Dev Cert.Kernel9.nD → PrngReg)
    (m' : (ℓ : Loc Cert.Reference9.nD Cert.Reference9.τ Cert.Reference9.sig) → Buf (Elt Bits) ℓ) (g' : Dev Cert.Reference9.nD → PrngReg), Pre_Kernel9 m →
    (∀ c : Dev Cert.Kernel9.nD,
      m' ((c.tc : Thread Cert.Reference9.nD Cert.Reference9.τ).loc Cert.Reference9.main_arg0) = m ((c.tc : Thread Cert.Kernel9.nD Cert.Kernel9.τ).loc Cert.Kernel9.main_arg0)
      ∧ m' ((c.tc : Thread Cert.Reference9.nD Cert.Reference9.τ).loc Cert.Reference9.main_arg1) = m ((c.tc : Thread Cert.Kernel9.nD Cert.Kernel9.τ).loc Cert.Kernel9.main_arg1)
      ∧ m' ((c.tc : Thread Cert.Reference9.nD Cert.Reference9.τ).loc Cert.Reference9.main_arg2) = m ((c.tc : Thread Cert.Kernel9.nD Cert.Kernel9.τ).loc Cert.Kernel9.main_arg2)
      ∧ m' ((c.tc : Thread Cert.Reference9.nD Cert.Reference9.τ).loc Cert.Reference9.main_arg3) = m ((c.tc : Thread Cert.Kernel9.nD Cert.Kernel9.τ).loc Cert.Kernel9.main_arg3)
      ∧ m' ((c.tc : Thread Cert.Reference9.nD Cert.Reference9.τ).loc Cert.Reference9.main_arg4) = m ((c.tc : Thread Cert.Kernel9.nD Cert.Kernel9.τ).loc Cert.Kernel9.main_arg4)
      ∧ m' ((c.tc : Thread Cert.Reference9.nD Cert.Reference9.τ).loc Cert.Reference9.main_arg5) = m ((c.tc : Thread Cert.Kernel9.nD Cert.Kernel9.τ).loc Cert.Kernel9.main_arg5)
      ∧ m' ((c.tc : Thread Cert.Reference9.nD Cert.Reference9.τ).loc Cert.Reference9.main_arg6) = m ((c.tc : Thread Cert.Kernel9.nD Cert.Kernel9.τ).loc Cert.Kernel9.main_arg6)
      ∧ m' ((c.tc : Thread Cert.Reference9.nD Cert.Reference9.τ).loc Cert.Reference9.main_arg7) = m ((c.tc : Thread Cert.Kernel9.nD Cert.Kernel9.τ).loc Cert.Kernel9.main_arg7)
      ∧ m' ((c.tc : Thread Cert.Reference9.nD Cert.Reference9.τ).loc Cert.Reference9.main_arg8) = m ((c.tc : Thread Cert.Kernel9.nD Cert.Kernel9.τ).loc Cert.Kernel9.main_arg8)) →
    ∃ (v0 : (c : Dev Cert.Kernel9.nD) → Buf (Elt Bits) ((c.tc : Thread Cert.Kernel9.nD Cert.Kernel9.τ).loc Cert.Kernel9.main_v20_1)) (v1 : (c : Dev Cert.Kernel9.nD) → Buf (Elt Bits) ((c.tc : Thread Cert.Kernel9.nD Cert.Kernel9.τ).loc Cert.Kernel9.main_v20_3)),
      θ_run (Cert.Kernel9.defs (F := Bits)) (onTc (τ := Cert.Kernel9.τ) (Cert.Kernel9.main (F := Bits))) ⟨m, fun _ => 0, g⟩ (fun r => ∀ c : Dev Cert.Kernel9.nD,
          r.2.mem ((c.tc : Thread Cert.Kernel9.nD Cert.Kernel9.τ).loc Cert.Kernel9.main_v20_1) = v0 c
          ∧ r.2.mem ((c.tc : Thread Cert.Kernel9.nD Cert.Kernel9.τ).loc Cert.Kernel9.main_v20_3) = v1 c
          ∧ r.2.mem ((c.tc : Thread Cert.Kernel9.nD Cert.Kernel9.τ).loc Cert.Kernel9.main_arg0) = m ((c.tc : Thread Cert.Kernel9.nD Cert.Kernel9.τ).loc Cert.Kernel9.main_arg0)
          ∧ r.2.mem ((c.tc : Thread Cert.Kernel9.nD Cert.Kernel9.τ).loc Cert.Kernel9.main_arg1) = m ((c.tc : Thread Cert.Kernel9.nD Cert.Kernel9.τ).loc Cert.Kernel9.main_arg1)
          ∧ r.2.mem ((c.tc : Thread Cert.Kernel9.nD Cert.Kernel9.τ).loc Cert.Kernel9.main_arg2) = m ((c.tc : Thread Cert.Kernel9.nD Cert.Kernel9.τ).loc Cert.Kernel9.main_arg2)
          ∧ r.2.mem ((c.tc : Thread Cert.Kernel9.nD Cert.Kernel9.τ).loc Cert.Kernel9.main_arg3) = m ((c.tc : Thread Cert.Kernel9.nD Cert.Kernel9.τ).loc Cert.Kernel9.main_arg3)
          ∧ r.2.mem ((c.tc : Thread Cert.Kernel9.nD Cert.Kernel9.τ).loc Cert.Kernel9.main_arg4) = m ((c.tc : Thread Cert.Kernel9.nD Cert.Kernel9.τ).loc Cert.Kernel9.main_arg4)
          ∧ r.2.mem ((c.tc : Thread Cert.Kernel9.nD Cert.Kernel9.τ).loc Cert.Kernel9.main_arg5) = m ((c.tc : Thread Cert.Kernel9.nD Cert.Kernel9.τ).loc Cert.Kernel9.main_arg5)
          ∧ r.2.mem ((c.tc : Thread Cert.Kernel9.nD Cert.Kernel9.τ).loc Cert.Kernel9.main_arg6) = m ((c.tc : Thread Cert.Kernel9.nD Cert.Kernel9.τ).loc Cert.Kernel9.main_arg6)
          ∧ r.2.mem ((c.tc : Thread Cert.Kernel9.nD Cert.Kernel9.τ).loc Cert.Kernel9.main_arg7) = m ((c.tc : Thread Cert.Kernel9.nD Cert.Kernel9.τ).loc Cert.Kernel9.main_arg7)
          ∧ r.2.mem ((c.tc : Thread Cert.Kernel9.nD Cert.Kernel9.τ).loc Cert.Kernel9.main_arg8) = m ((c.tc : Thread Cert.Kernel9.nD Cert.Kernel9.τ).loc Cert.Kernel9.main_arg8))
      ∧ θ_run (Cert.Reference9.defs (F := Bits)) (onTc (τ := Cert.Reference9.τ) (Cert.Reference9.main (F := Bits))) ⟨m', fun _ => 0, g'⟩ (fun r => ∀ c : Dev Cert.Reference9.nD,
          r.2.mem ((c.tc : Thread Cert.Reference9.nD Cert.Reference9.τ).loc Cert.Reference9.main_v6) = v0 c
          ∧ r.2.mem ((c.tc : Thread Cert.Reference9.nD Cert.Reference9.τ).loc Cert.Reference9.main_v9) = v1 c
          ∧ r.2.mem ((c.tc : Thread Cert.Reference9.nD Cert.Reference9.τ).loc Cert.Reference9.main_arg0) = m' ((c.tc : Thread Cert.Reference9.nD Cert.Reference9.τ).loc Cert.Reference9.main_arg0)
          ∧ r.2.mem ((c.tc : Thread Cert.Reference9.nD Cert.Reference9.τ).loc Cert.Reference9.main_arg1) = m' ((c.tc : Thread Cert.Reference9.nD Cert.Reference9.τ).loc Cert.Reference9.main_arg1)
          ∧ r.2.mem ((c.tc : Thread Cert.Reference9.nD Cert.Reference9.τ).loc Cert.Reference9.main_arg2) = m' ((c.tc : Thread Cert.Reference9.nD Cert.Reference9.τ).loc Cert.Reference9.main_arg2)
          ∧ r.2.mem ((c.tc : Thread Cert.Reference9.nD Cert.Reference9.τ).loc Cert.Reference9.main_arg3) = m' ((c.tc : Thread Cert.Reference9.nD Cert.Reference9.τ).loc Cert.Reference9.main_arg3)
          ∧ r.2.mem ((c.tc : Thread Cert.Reference9.nD Cert.Reference9.τ).loc Cert.Reference9.main_arg4) = m' ((c.tc : Thread Cert.Reference9.nD Cert.Reference9.τ).loc Cert.Reference9.main_arg4)
          ∧ r.2.mem ((c.tc : Thread Cert.Reference9.nD Cert.Reference9.τ).loc Cert.Reference9.main_arg5) = m' ((c.tc : Thread Cert.Reference9.nD Cert.Reference9.τ).loc Cert.Reference9.main_arg5)
          ∧ r.2.mem ((c.tc : Thread Cert.Reference9.nD Cert.Reference9.τ).loc Cert.Reference9.main_arg6) = m' ((c.tc : Thread Cert.Reference9.nD Cert.Reference9.τ).loc Cert.Reference9.main_arg6)
          ∧ r.2.mem ((c.tc : Thread Cert.Reference9.nD Cert.Reference9.τ).loc Cert.Reference9.main_arg7) = m' ((c.tc : Thread Cert.Reference9.nD Cert.Reference9.τ).loc Cert.Reference9.main_arg7)
          ∧ r.2.mem ((c.tc : Thread Cert.Reference9.nD Cert.Reference9.τ).loc Cert.Reference9.main_arg8) = m' ((c.tc : Thread Cert.Reference9.nD Cert.Reference9.τ).loc Cert.Reference9.main_arg8))

def Claim : Prop :=
  ∃ (hKernel : Cert.Kernel.Facts) (hKernelIdeal : Cert.KernelIdeal.Facts) (hReferenceIdeal : Cert.ReferenceIdeal.Facts) (hReference : Cert.Reference.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hReference8 : Cert.Reference8.Facts) (hKernel9 : Cert.Kernel9.Facts) (hKernel9Ideal : Cert.Kernel9Ideal.Facts) (hReference9Ideal : Cert.Reference9Ideal.Facts) (hReference9 : Cert.Reference9.Facts) (hPre_dest_in_rows : Cert.Pre_dest_in_rows.Facts) (hPre_tables_in_range : Cert.Pre_tables_in_range.Facts) (hOn_rows_used : Cert.On_rows_used.Facts),
    quiescent_Kernel (hKernel := hKernel) (hPre_dest_in_rows := hPre_dest_in_rows)
    ∧ quiescent_KernelIdeal (hKernelIdeal := hKernelIdeal) (hPre_dest_in_rows := hPre_dest_in_rows)
    ∧ quiescent_ReferenceIdeal (hReferenceIdeal := hReferenceIdeal) (hPre_dest_in_rows := hPre_dest_in_rows)
    ∧ quiescent_Reference (hReference := hReference) (hPre_dest_in_rows := hPre_dest_in_rows)
    ∧ quiescent_Kernel2 (hKernel2 := hKernel2) (hPre_tables_in_range := hPre_tables_in_range)
    ∧ quiescent_Kernel2Ideal (hKernel2Ideal := hKernel2Ideal) (hPre_tables_in_range := hPre_tables_in_range)
    ∧ quiescent_Reference2Ideal (hReference2Ideal := hReference2Ideal) (hPre_tables_in_range := hPre_tables_in_range)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Reference8 (hReference8 := hReference8)
    ∧ quiescent_Kernel9 (hKernel9 := hKernel9)
    ∧ quiescent_Kernel9Ideal (hKernel9Ideal := hKernel9Ideal)
    ∧ quiescent_Reference9Ideal (hReference9Ideal := hReference9Ideal)
    ∧ quiescent_Reference9 (hReference9 := hReference9)
    ∧ preserves_Kernel_KernelIdeal
    ∧ algebraic_KernelIdeal_ReferenceIdeal (hKernelIdeal := hKernelIdeal) (hReferenceIdeal := hReferenceIdeal) (hPre_dest_in_rows := hPre_dest_in_rows)
    ∧ bitexact_Kernel_Reference (hKernel := hKernel) (hReference := hReference) (hPre_dest_in_rows := hPre_dest_in_rows)
    ∧ preserves_Kernel2_Kernel2Ideal
    ∧ algebraic_Kernel2Ideal_Reference2Ideal_on_rows_used (hKernel2Ideal := hKernel2Ideal) (hReference2Ideal := hReference2Ideal) (hPre_tables_in_range := hPre_tables_in_range) (hOn_rows_used := hOn_rows_used)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ bitexact_Kernel8_Reference8 (hKernel8 := hKernel8) (hReference8 := hReference8)
    ∧ preserves_Kernel9_Kernel9Ideal
    ∧ algebraic_Kernel9Ideal_Reference9Ideal (hKernel9Ideal := hKernel9Ideal) (hReference9Ideal := hReference9Ideal)
    ∧ bitexact_Kernel9_Reference9 (hKernel9 := hKernel9) (hReference9 := hReference9)
-- ==== On_rows_used.lean ====
abbrev S4x151552x128 : Shape := ⟨3, ![4, 151552, 128]⟩
abbrev S296 : Shape := ⟨1, ![296]⟩
abbrev S1 : Shape := ⟨1, ![1]⟩
abbrev S4x32x1024x2048 : Shape := ⟨4, ![4, 32, 1024, 2048]⟩
abbrev S4x32x1x2048 : Shape := ⟨4, ![4, 32, 1, 2048]⟩
abbrev S4x32x1024x1024 : Shape := ⟨4, ![4, 32, 1024, 1024]⟩
abbrev S4x32x1x1024 : Shape := ⟨4, ![4, 32, 1, 1024]⟩
abbrev S8x296x512x128 : Shape := ⟨4, ![8, 296, 512, 128]⟩
abbrev S_ : Shape := ⟨0, ![]⟩
abbrev S8x151552x128 : Shape := ⟨3, ![8, 151552, 128]⟩

class Facts : Prop where
  shapeCasts_S1_S_ : S1.ShapeCasts S_
  bcast_S_S8x296x512x128 : S_.BroadcastsInDim S8x296x512x128 (![] : Fin 0 → Fin S8x296x512x128.rank)
  shapeCasts_S8x296x512x128_S8x151552x128 : S8x296x512x128.ShapeCasts S8x151552x128

variable [Facts]

def fn {F : FTy → Type} [FloatOps F] (main_arg0 : IVec S4x151552x128 32) (main_arg1 : IVec S296 32) (main_arg2 : IVec S296 32) (main_arg3 : IVec S1 32) (main_arg4 : FVec F S4x32x1024x2048 .f32) (main_arg5 : FVec F S4x32x1x2048 .f32) (main_arg6 : FVec F S4x32x1024x1024 .f32) (main_arg7 : FVec F S4x32x1x1024 .f32) : IVec S8x151552x128 1 :=
  let main_v0 : IVec S8x296x512x128 32 := iotaInDim S8x296x512x128 32 1
  let main_v1 : IVec S_ 32 := shapeCast S_ main_arg3 shapeCasts_S1_S_
  let main_v2 : IVec S8x296x512x128 32 := broadcastInDim S8x296x512x128 ![] bcast_S_S8x296x512x128 main_v1
  let main_v3 : IVec S8x296x512x128 1 := cmpi .slt main_v0 main_v2
  let main_v4 : IVec S8x151552x128 1 := shapeCast S8x151552x128 main_v3 shapeCasts_S8x296x512x128_S8x151552x128
  main_v4
-- ==== Pre_dest_in_rows.lean ====
abbrev S4x151552x128 : Shape := ⟨3, ![4, 151552, 128]⟩
abbrev S67584 : Shape := ⟨1, ![67584]⟩
abbrev S_ : Shape := ⟨0, ![]⟩

class Facts : Prop where
  bcast_S_S67584 : S_.BroadcastsInDim S67584 (![] : Fin 0 → Fin S67584.rank)
  reducesTo_S67584_S_d0 : S67584.ReducesTo [0] S_
  h_S_ : 0 < S_.numel

variable [Facts]

def fn {F : FTy → Type} [FloatOps F] (main_arg0 : IVec S4x151552x128 32) (main_arg1 : IVec S67584 32) : IVec S_ 1 :=
  let main_c : IVec S_ 32 := constantI S_ 32 0#32
  let main_v0 : IVec S67584 32 := broadcastInDim S67584 ![] bcast_S_S67584 main_c
  let main_v1 : IVec S67584 1 := cmpi .sge main_arg1 main_v0
  let main_c_0 : IVec S_ 32 := constantI S_ 32 151552#32
  let main_v2 : IVec S67584 32 := broadcastInDim S67584 ![] bcast_S_S67584 main_c_0
  let main_v3 : IVec S67584 1 := cmpi .slt main_arg1 main_v2
  let main_v4 : IVec S67584 1 := andi main_v1 main_v3
  let main_c_1 : IVec S_ 1 := constantI S_ 1 1#1
  let main_v5 : IVec S_ 1 := (fun x v => Host.reduce IntOp.andi x v reducesTo_S67584_S_d0 h_S_) main_v4 main_c_1
  main_v5
-- ==== Pre_tables_in_range.lean ====
abbrev S4x151552x128 : Shape := ⟨3, ![4, 151552, 128]⟩
abbrev S296 : Shape := ⟨1, ![296]⟩
abbrev S1 : Shape := ⟨1, ![1]⟩
abbrev S4x32x1024x2048 : Shape := ⟨4, ![4, 32, 1024, 2048]⟩
abbrev S4x32x1x2048 : Shape := ⟨4, ![4, 32, 1, 2048]⟩
abbrev S4x32x1024x1024 : Shape := ⟨4, ![4, 32, 1024, 1024]⟩
abbrev S4x32x1x1024 : Shape := ⟨4, ![4, 32, 1, 1024]⟩
abbrev S_ : Shape := ⟨0, ![]⟩

class Facts : Prop where
  bcast_S_S296 : S_.BroadcastsInDim S296 (![] : Fin 0 → Fin S296.rank)
  reducesTo_S296_S_d0 : S296.ReducesTo [0] S_
  h_S_ : 0 < S_.numel
  shapeCasts_S1_S_ : S1.ShapeCasts S_

variable [Facts]

def fn {F : FTy → Type} [FloatOps F] (main_arg0 : IVec S4x151552x128 32) (main_arg1 : IVec S296 32) (main_arg2 : IVec S296 32) (main_arg3 : IVec S1 32) (main_arg4 : FVec F S4x32x1024x2048 .f32) (main_arg5 : FVec F S4x32x1x2048 .f32) (main_arg6 : FVec F S4x32x1024x1024 .f32) (main_arg7 : FVec F S4x32x1x1024 .f32) : IVec S_ 1 :=
  let main_c : IVec S_ 32 := constantI S_ 32 0#32
  let main_v0 : IVec S296 32 := broadcastInDim S296 ![] bcast_S_S296 main_c
  let main_v1 : IVec S296 1 := cmpi .sge main_arg1 main_v0
  let main_c_0 : IVec S_ 32 := constantI S_ 32 32#32
  let main_v2 : IVec S296 32 := broadcastInDim S296 ![] bcast_S_S296 main_c_0
  let main_v3 : IVec S296 1 := cmpi .slt main_arg1 main_v2
  let main_v4 : IVec S296 1 := andi main_v1 main_v3
  let main_c_1 : IVec S_ 1 := constantI S_ 1 1#1
  let main_v5 : IVec S_ 1 := (fun x v => Host.reduce IntOp.andi x v reducesTo_S296_S_d0 h_S_) main_v4 main_c_1
  let main_v6 : IVec S_ 32 := shapeCast S_ main_arg3 shapeCasts_S1_S_
  let main_c_2 : IVec S_ 32 := constantI S_ 32 1#32
  let main_v7 : IVec S_ 1 := cmpi .sge main_v6 main_c_2
  let main_v8 : IVec S_ 1 := andi main_v5 main_v7
  let main_v9 : IVec S_ 32 := shapeCast S_ main_arg3 shapeCasts_S1_S_
  let main_c_3 : IVec S_ 32 := constantI S_ 32 296#32
  let main_v10 : IVec S_ 1 := cmpi .sle main_v9 main_c_3
  let main_v11 : IVec S_ 1 := andi main_v8 main_v10
  main_v11
-- ==== Kernel.lean ====
abbrev S4x151552x128 : Shape := ⟨3, ![4, 151552, 128]⟩
abbrev S67584 : Shape := ⟨1, ![67584]⟩
abbrev S4 : Shape := ⟨1, ![4]⟩
abbrev S_ : Shape := ⟨0, ![]⟩
abbrev S4x1 : Shape := ⟨2, ![4, 1]⟩
abbrev S1x67584 : Shape := ⟨2, ![1, 67584]⟩
abbrev S4x67584 : Shape := ⟨2, ![4, 67584]⟩
abbrev S1x270336 : Shape := ⟨2, ![1, 270336]⟩
abbrev S606208x128 : Shape := ⟨2, ![606208, 128]⟩
abbrev S270336x128 : Shape := ⟨2, ![270336, 128]⟩
abbrev S2x1x128 : Shape := ⟨3, ![2, 1, 128]⟩
abbrev S2 : Shape := ⟨1, ![2]⟩
abbrev S2x128x128 : Shape := ⟨3, ![2, 128, 128]⟩
abbrev S1x1x128 : Shape := ⟨3, ![1, 1, 128]⟩
abbrev S1x128 : Shape := ⟨2, ![1, 128]⟩
abbrev S1 : Shape := ⟨1, ![1]⟩
abbrev S1x128x128 : Shape := ⟨3, ![1, 128, 128]⟩
abbrev S128x128 : Shape := ⟨2, ![128, 128]⟩
abbrev S128 : Shape := ⟨1, ![128]⟩
abbrev S4x67584x128 : Shape := ⟨3, ![4, 67584, 128]⟩

abbrev nBuf : Table → Nat
  | .hbm => 15
  | .local .scVector .vmem => 2
  | _ => 0

abbrev bufTy : (tb : Table) → Fin (nBuf tb) → BufTy
  | .hbm, ⟨0, _⟩ => ⟨S4x151552x128, .i32⟩
  | .hbm, ⟨1, _⟩ => ⟨S67584, .i32⟩
  | .hbm, ⟨2, _⟩ => ⟨S4, .i32⟩
  | .hbm, ⟨3, _⟩ => ⟨S_, .i32⟩
  | .hbm, ⟨4, _⟩ => ⟨S4, .i32⟩
  | .hbm, ⟨5, _⟩ => ⟨S4, .i32⟩
  | .hbm, ⟨6, _⟩ => ⟨S4x1, .i32⟩
  | .hbm, ⟨7, _⟩ => ⟨S1x67584, .i32⟩
  | .hbm, ⟨8, _⟩ => ⟨S4x67584, .i32⟩
  | .hbm, ⟨9, _⟩ => ⟨S4x67584, .i32⟩
  | .hbm, ⟨10, _⟩ => ⟨S4x67584, .i32⟩
  | .hbm, ⟨11, _⟩ => ⟨S1x270336, .i32⟩
  | .hbm, ⟨12, _⟩ => ⟨S606208x128, .i32⟩
  | .hbm, ⟨13, _⟩ => ⟨S270336x128, .i32⟩
  | .hbm, ⟨14, _⟩ => ⟨S4x67584x128, .i32⟩
  | .local .scVector .vmem, ⟨0, _⟩ => ⟨S2x1x128, .i32⟩
  | .local .scVector .vmem, ⟨1, _⟩ => ⟨S2x128x128, .i32⟩
  | _, _ => ⟨S4x151552x128, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v9_scv : Ref sig .scVector := ⟨.hbm, 12, rfl⟩
abbrev main_v8_scv : Ref sig .scVector := ⟨.hbm, 11, rfl⟩
abbrev main_v10_scv : Ref sig .scVector := ⟨.hbm, 13, rfl⟩
abbrev cc0_scoped0 : Ref sig .scVector := ⟨.vmem, 0, rfl⟩
abbrev cc0_scoped2 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 3 → Nat :=
  let c0_i32_13_r0 : BitVec 32 := 0#32
  let c2_i32_r0 : BitVec 32 := 2#32
  let v21_r0 : BitVec 32 := Scalar.remui c0_i32_13_r0 c2_i32_r0
  let c0_i32_14_r0 : BitVec 32 := 0#32
  let c0_i32_15_r0 : BitVec 32 := 0#32
  ![v21_r0.toNat, 0, 0]
def k0_off2 (i : grid0.Coords) : Fin 2 → Nat :=
  let c0_i32_16_r0 : BitVec 32 := 0#32
  let c128_i32_r0 : BitVec 32 := 128#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c66_i32 : BitVec 32 := 66#32
  let v4 : BitVec 32 := Scalar.muli v3 c66_i32
  let v7_r0 : BitVec 32 := Scalar.addi c0_i32_1_r0 v4
  let v22_r0 : BitVec 32 := Scalar.muli c128_i32_r0 v7_r0
  ![0, v22_r0.toNat]
def k0_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k0_t1_loop : Scf.Loop 32 :=
  let c0_i32_26_r0 : BitVec 32 := 0#32
  let c66_i32_27_r0 : BitVec 32 := 66#32
  let v32_r0 : BitVec 32 := Scalar.addi c0_i32_26_r0 c66_i32_27_r0
  let c1_i32_28_r0 : BitVec 32 := 1#32
  ⟨c0_i32_26_r0, v32_r0, c1_i32_28_r0⟩
def k0_off4 (arg6_r0 : BitVec 32) : Fin 3 → Nat :=
  let c2_i32_99_r0 : BitVec 32 := 2#32
  let v144_r0 : BitVec 32 := Scalar.remui arg6_r0 c2_i32_99_r0
  let c0_i32_101_r0 : BitVec 32 := 0#32
  let c0_i32_102_r0 : BitVec 32 := 0#32
  ![v144_r0.toNat, 0, 0]
def k0_cond1 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c66_i32 : BitVec 32 := 66#32
  let v4 : BitVec 32 := Scalar.muli v3 c66_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c66_i32_62_r0 : BitVec 32 := 66#32
  let v74_r0 : BitVec 1 := Scalar.cmpi .eq v73_r0 c66_i32_62_r0
  let c0_i32_63_r0 : BitVec 32 := 0#32
  let v75_r0 : BitVec 32 := Scalar.select v74_r0 c0_i32_63_r0 v73_r0
  let v76_r0 : BitVec 32 := Scalar.addi v75_r0 v4
  let v82_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c65_i32_68_r0 : BitVec 32 := 65#32
  let v83_r0 : BitVec 1 := Scalar.cmpi .sge arg5_r0 c65_i32_68_r0
  let true_69_r0 : BitVec 1 := 1#1
  let v84_r0 : BitVec 1 := Scalar.xori v83_r0 true_69_r0
  let v85_r0 : BitVec 1 := Scalar.andi v82_r0 v84_r0
  let true_70_r0 : BitVec 1 := 1#1
  let v86_r0 : BitVec 1 := Scalar.andi v85_r0 true_70_r0
  let v87_r0 : BitVec 32 := Scalar.extui v86_r0
  let c0_i32_71_r0 : BitVec 32 := 0#32
  let v88_r0 : BitVec 1 := Scalar.cmpi .ne v87_r0 c0_i32_71_r0
  v88_r0

def k0_off5 (i : grid0.Coords) (arg10_r0 : BitVec 32) : Fin 2 → Nat :=
  let c0_i32_103_r0 : BitVec 32 := 0#32
  let c128_i32_100_r0 : BitVec 32 := 128#32
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c66_i32_62_r0 : BitVec 32 := 66#32
  let v74_r0 : BitVec 1 := Scalar.cmpi .eq v73_r0 c66_i32_62_r0
  let c0_i32_63_r0 : BitVec 32 := 0#32
  let v75_r0 : BitVec 32 := Scalar.select v74_r0 c0_i32_63_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c66_i32 : BitVec 32 := 66#32
  let v4 : BitVec 32 := Scalar.muli v3 c66_i32
  let v76_r0 : BitVec 32 := Scalar.addi v75_r0 v4
  let v145_r0 : BitVec 32 := Scalar.muli c128_i32_100_r0 v76_r0
  ![0, v145_r0.toNat]
def k0_off6 (arg6_r0 : BitVec 32) : Fin 1 → Nat :=
  let c2_i32_99_r0 : BitVec 32 := 2#32
  let v144_r0 : BitVec 32 := Scalar.remui arg6_r0 c2_i32_99_r0
  ![v144_r0.toNat]
def k0_off7 (arg7_r0 : BitVec 32) : Fin 3 → Nat :=
  let c2_i32_100_r0 : BitVec 32 := 2#32
  let v145_r0 : BitVec 32 := Scalar.remui arg7_r0 c2_i32_100_r0
  let c0_i32_101_r0 : BitVec 32 := 0#32
  let c0_i32_102_r0 : BitVec 32 := 0#32
  ![v145_r0.toNat, 0, 0]
def k0_cond2 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c66_i32 : BitVec 32 := 66#32
  let v4 : BitVec 32 := Scalar.muli v3 c66_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c65_i32_59_r0 : BitVec 32 := 65#32
  let v70_r0 : BitVec 32 := Scalar.select v69_r0 c65_i32_59_r0 v68_r0
  let v71_r0 : BitVec 32 := Scalar.addi v70_r0 v4
  let v96_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_54_r0 : BitVec 32 := 0#32
  let v64_r0 : BitVec 1 := Scalar.cmpi .eq arg5_r0 c0_i32_54_r0
  let v97_r0 : BitVec 1 := Scalar.ori v96_r0 v64_r0
  let c0_i32_76_r0 : BitVec 32 := 0#32
  let v98_r0 : BitVec 1 := Scalar.cmpi .sge arg5_r0 c0_i32_76_r0
  let v99_r0 : BitVec 1 := Scalar.andi v97_r0 v98_r0
  let v100_r0 : BitVec 32 := Scalar.extui v99_r0
  let c0_i32_77_r0 : BitVec 32 := 0#32
  let v101_r0 : BitVec 1 := Scalar.cmpi .ne v100_r0 c0_i32_77_r0
  v101_r0

def k0_off8 (i : grid0.Coords) (arg10_r0 : BitVec 32) : Fin 2 → Nat :=
  let c0_i32_103_r0 : BitVec 32 := 0#32
  let c128_i32_99_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c66_i32 : BitVec 32 := 66#32
  let v4 : BitVec 32 := Scalar.muli v3 c66_i32
  let v66_r0 : BitVec 32 := Scalar.addi arg10_r0 v4
  let v144_r0 : BitVec 32 := Scalar.muli c128_i32_99_r0 v66_r0
  ![0, v144_r0.toNat]
def k0_off9 (arg7_r0 : BitVec 32) : Fin 1 → Nat :=
  let c2_i32_100_r0 : BitVec 32 := 2#32
  let v145_r0 : BitVec 32 := Scalar.remui arg7_r0 c2_i32_100_r0
  ![v145_r0.toNat]
def k0_off10 (arg8_r0 : BitVec 32) : Fin 3 → Nat :=
  let c2_i32_81_r0 : BitVec 32 := 2#32
  let v109_r0 : BitVec 32 := Scalar.remui arg8_r0 c2_i32_81_r0
  let c0_i32_99_r1 : BitVec 32 := 0#32
  let c0_i32_100_r1 : BitVec 32 := 0#32
  ![v109_r0.toNat, 0, 0]

def k0_chk2 (arg8_r0 : BitVec 32) : Prop :=
  (∀ a, (k0_off10 arg8_r0) a + S1x128x128.size a ≤ S2x128x128.size a)
theorem k0_off10_inb : ∀ (arg8_r0 : BitVec 32) (k0_hw2 : k0_chk2 arg8_r0), ∀ a, (k0_off10 arg8_r0) a + S1x128x128.size a ≤ S2x128x128.size a := fun arg8_r0 k0_hw2 => k0_hw2

def k0_off11 (arg7_r0 : BitVec 32) : Fin 3 → Nat :=
  let c2_i32_80_r0 : BitVec 32 := 2#32
  let v108_r0 : BitVec 32 := Scalar.remui arg7_r0 c2_i32_80_r0
  let c0_i32_101_r1 : BitVec 32 := 0#32
  let c0_i32_102_r1 : BitVec 32 := 0#32
  ![v108_r0.toNat, 0, 0]

def k0_chk3 (arg7_r0 : BitVec 32) : Prop :=
  (∀ a, (k0_off11 arg7_r0) a + S1x1x128.size a ≤ S2x1x128.size a)
theorem k0_off11_inb : ∀ (arg7_r0 : BitVec 32) (k0_hw3 : k0_chk3 arg7_r0), ∀ a, (k0_off11 arg7_r0) a + S1x1x128.size a ≤ S2x1x128.size a := fun arg7_r0 k0_hw3 => k0_hw3

def k0_off12 (arg8_r0 : BitVec 32) : Fin 3 → Nat :=
  let c2_i32_99_r0 : BitVec 32 := 2#32
  let v144_r0 : BitVec 32 := Scalar.remui arg8_r0 c2_i32_99_r0
  let c0_i32_101_r0 : BitVec 32 := 0#32
  let c0_i32_102_r0 : BitVec 32 := 0#32
  ![v144_r0.toNat, 0, 0]
def k0_cond5 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c66_i32 : BitVec 32 := 66#32
  let v4 : BitVec 32 := Scalar.muli v3 c66_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c66_i32_62_r0 : BitVec 32 := 66#32
  let v74_r0 : BitVec 1 := Scalar.cmpi .eq v73_r0 c66_i32_62_r0
  let c0_i32_63_r0 : BitVec 32 := 0#32
  let v75_r0 : BitVec 32 := Scalar.select v74_r0 c0_i32_63_r0 v73_r0
  let v76_r0 : BitVec 32 := Scalar.addi v75_r0 v4
  let v115_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c65_i32_55_r0 : BitVec 32 := 65#32
  let v65_r0 : BitVec 1 := Scalar.cmpi .eq arg5_r0 c65_i32_55_r0
  let v116_r0 : BitVec 1 := Scalar.ori v115_r0 v65_r0
  let v117_r0 : BitVec 32 := Scalar.extui v116_r0
  let c0_i32_84_r0 : BitVec 32 := 0#32
  let v118_r0 : BitVec 1 := Scalar.cmpi .ne v117_r0 c0_i32_84_r0
  v118_r0

def k0_off13 (i : grid0.Coords) (arg10_r0 : BitVec 32) : Fin 2 → Nat :=
  let c128_i32_100_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c66_i32 : BitVec 32 := 66#32
  let v4 : BitVec 32 := Scalar.muli v3 c66_i32
  let v66_r0 : BitVec 32 := Scalar.addi arg10_r0 v4
  let v145_r0 : BitVec 32 := Scalar.muli c128_i32_100_r0 v66_r0
  let c0_i32_103_r0 : BitVec 32 := 0#32
  ![v145_r0.toNat, 0]
def k0_off14 (arg8_r0 : BitVec 32) : Fin 1 → Nat :=
  let c2_i32_99_r0 : BitVec 32 := 2#32
  let v144_r0 : BitVec 32 := Scalar.remui arg8_r0 c2_i32_99_r0
  ![v144_r0.toNat]
def k0_off15 (arg9_r0 : BitVec 32) : Fin 3 → Nat :=
  let c2_i32_99_r0 : BitVec 32 := 2#32
  let v144_r0 : BitVec 32 := Scalar.remui arg9_r0 c2_i32_99_r0
  let c0_i32_101_r0 : BitVec 32 := 0#32
  let c0_i32_102_r0 : BitVec 32 := 0#32
  ![v144_r0.toNat, 0, 0]
def k0_cond7 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c66_i32 : BitVec 32 := 66#32
  let v4 : BitVec 32 := Scalar.muli v3 c66_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c65_i32_59_r0 : BitVec 32 := 65#32
  let v70_r0 : BitVec 32 := Scalar.select v69_r0 c65_i32_59_r0 v68_r0
  let v71_r0 : BitVec 32 := Scalar.addi v70_r0 v4
  let v128_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_54_r0 : BitVec 32 := 0#32
  let v64_r0 : BitVec 1 := Scalar.cmpi .eq arg5_r0 c0_i32_54_r0
  let true_90_r0 : BitVec 1 := 1#1
  let v129_r0 : BitVec 1 := Scalar.xori v64_r0 true_90_r0
  let v130_r0 : BitVec 1 := Scalar.andi v128_r0 v129_r0
  let v131_r0 : BitVec 32 := Scalar.extui v130_r0
  let c0_i32_91_r0 : BitVec 32 := 0#32
  let v132_r0 : BitVec 1 := Scalar.cmpi .ne v131_r0 c0_i32_91_r0
  v132_r0

def k0_off16 (i : grid0.Coords) (arg10_r0 : BitVec 32) : Fin 2 → Nat :=
  let c128_i32_100_r0 : BitVec 32 := 128#32
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c65_i32_59_r0 : BitVec 32 := 65#32
  let v70_r0 : BitVec 32 := Scalar.select v69_r0 c65_i32_59_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c66_i32 : BitVec 32 := 66#32
  let v4 : BitVec 32 := Scalar.muli v3 c66_i32
  let v71_r0 : BitVec 32 := Scalar.addi v70_r0 v4
  let v145_r0 : BitVec 32 := Scalar.muli c128_i32_100_r0 v71_r0
  let c0_i32_103_r0 : BitVec 32 := 0#32
  ![v145_r0.toNat, 0]
def k0_off17 (arg9_r0 : BitVec 32) : Fin 1 → Nat :=
  let c2_i32_99_r0 : BitVec 32 := 2#32
  let v144_r0 : BitVec 32 := Scalar.remui arg9_r0 c2_i32_99_r0
  ![v144_r0.toNat]

def k0_chk1 (i : grid0.Coords) (k0_t1 : Fin k0_t1_loop.trips) (arg6_r0 : BitVec 32) (arg7_r0 : BitVec 32) (arg8_r0 : BitVec 32) (arg9_r0 : BitVec 32) (arg10_r0 : BitVec 32) : Prop :=
  (∀ (k0_h1 : k0_cond1 i k0_t1 arg10_r0 = 1#1), ∀ a, (k0_off4 arg6_r0) a + S1x1x128.size a ≤ S2x1x128.size a) ∧
  (∀ (k0_h1 : k0_cond1 i k0_t1 arg10_r0 = 1#1), ∀ a, (k0_off5 i arg10_r0) a + S1x128.size a ≤ S1x270336.size a) ∧
  (∀ (k0_h1 : k0_cond1 i k0_t1 arg10_r0 = 1#1), ∀ a, (k0_off6 arg6_r0) a + S1.size a ≤ S2.size a) ∧
  (∀ (k0_h2 : k0_cond2 i k0_t1 arg10_r0 = 1#1), ∀ a, (k0_off7 arg7_r0) a + S1x1x128.size a ≤ S2x1x128.size a) ∧
  (∀ (k0_h2 : k0_cond2 i k0_t1 arg10_r0 = 1#1), ∀ a, (k0_off8 i arg10_r0) a + S1x128.size a ≤ S1x270336.size a) ∧
  (∀ (k0_h2 : k0_cond2 i k0_t1 arg10_r0 = 1#1), ∀ a, (k0_off9 arg7_r0) a + S1.size a ≤ S2.size a) ∧
  (∀ (k0_h5 : k0_cond5 i k0_t1 arg10_r0 = 1#1), ∀ a, (k0_off12 arg8_r0) a + S1x128x128.size a ≤ S2x128x128.size a) ∧
  (∀ (k0_h5 : k0_cond5 i k0_t1 arg10_r0 = 1#1), ∀ a, (k0_off13 i arg10_r0) a + S128x128.size a ≤ S270336x128.size a) ∧
  (∀ (k0_h5 : k0_cond5 i k0_t1 arg10_r0 = 1#1), ∀ a, (k0_off14 arg8_r0) a + S1.size a ≤ S2.size a) ∧
  (∀ (k0_h7 : k0_cond7 i k0_t1 arg10_r0 = 1#1), ∀ a, (k0_off15 arg9_r0) a + S1x128x128.size a ≤ S2x128x128.size a) ∧
  (∀ (k0_h7 : k0_cond7 i k0_t1 arg10_r0 = 1#1), ∀ a, (k0_off16 i arg10_r0) a + S128x128.size a ≤ S270336x128.size a) ∧
  (∀ (k0_h7 : k0_cond7 i k0_t1 arg10_r0 = 1#1), ∀ a, (k0_off17 arg9_r0) a + S1.size a ≤ S2.size a)
theorem k0_off4_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off4 arg6_r0) a + S1x1x128.size a ≤ S2x1x128.size a := fun i k0_t1 arg6_r0 arg7_r0 arg8_r0 arg9_r0 arg10_r0 k0_hw1 k0_h1 => k0_hw1.1 k0_h1
theorem k0_off5_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off5 i arg10_r0) a + S1x128.size a ≤ S1x270336.size a := fun i k0_t1 arg6_r0 arg7_r0 arg8_r0 arg9_r0 arg10_r0 k0_hw1 k0_h1 => k0_hw1.2.1 k0_h1
theorem k0_off6_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off6 arg6_r0) a + S1.size a ≤ S2.size a := fun i k0_t1 arg6_r0 arg7_r0 arg8_r0 arg9_r0 arg10_r0 k0_hw1 k0_h1 => k0_hw1.2.2.1 k0_h1
theorem k0_off7_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off7 arg7_r0) a + S1x1x128.size a ≤ S2x1x128.size a := fun i k0_t1 arg6_r0 arg7_r0 arg8_r0 arg9_r0 arg10_r0 k0_hw1 k0_h2 => k0_hw1.2.2.2.1 k0_h2
theorem k0_off8_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off8 i arg10_r0) a + S1x128.size a ≤ S1x270336.size a := fun i k0_t1 arg6_r0 arg7_r0 arg8_r0 arg9_r0 arg10_r0 k0_hw1 k0_h2 => k0_hw1.2.2.2.2.1 k0_h2
theorem k0_off9_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off9 arg7_r0) a + S1.size a ≤ S2.size a := fun i k0_t1 arg6_r0 arg7_r0 arg8_r0 arg9_r0 arg10_r0 k0_hw1 k0_h2 => k0_hw1.2.2.2.2.2.1 k0_h2
theorem k0_off12_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off12 arg8_r0) a + S1x128x128.size a ≤ S2x128x128.size a := fun i k0_t1 arg6_r0 arg7_r0 arg8_r0 arg9_r0 arg10_r0 k0_hw1 k0_h5 => k0_hw1.2.2.2.2.2.2.1 k0_h5
theorem k0_off13_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off13 i arg10_r0) a + S128x128.size a ≤ S270336x128.size a := fun i k0_t1 arg6_r0 arg7_r0 arg8_r0 arg9_r0 arg10_r0 k0_hw1 k0_h5 => k0_hw1.2.2.2.2.2.2.2.1 k0_h5
theorem k0_off14_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off14 arg8_r0) a + S1.size a ≤ S2.size a := fun i k0_t1 arg6_r0 arg7_r0 arg8_r0 arg9_r0 arg10_r0 k0_hw1 k0_h5 => k0_hw1.2.2.2.2.2.2.2.2.1 k0_h5
theorem k0_off15_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off15 arg9_r0) a + S1x128x128.size a ≤ S2x128x128.size a := fun i k0_t1 arg6_r0 arg7_r0 arg8_r0 arg9_r0 arg10_r0 k0_hw1 k0_h7 => k0_hw1.2.2.2.2.2.2.2.2.2.1 k0_h7
theorem k0_off16_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off16 i arg10_r0) a + S128x128.size a ≤ S270336x128.size a := fun i k0_t1 arg6_r0 arg7_r0 arg8_r0 arg9_r0 arg10_r0 k0_hw1 k0_h7 => k0_hw1.2.2.2.2.2.2.2.2.2.2.1 k0_h7
theorem k0_off17_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off17 arg9_r0) a + S1.size a ≤ S2.size a := fun i k0_t1 arg6_r0 arg7_r0 arg8_r0 arg9_r0 arg10_r0 k0_hw1 k0_h7 => k0_hw1.2.2.2.2.2.2.2.2.2.2.2 k0_h7

def k0_off18 (v33_3_r0 : BitVec 32) : Fin 3 → Nat :=
  let c2_i32_46_r0 : BitVec 32 := 2#32
  let v54_r0 : BitVec 32 := Scalar.remui v33_3_r0 c2_i32_46_r0
  let c0_i32_48_r0 : BitVec 32 := 0#32
  let c0_i32_49_r0 : BitVec 32 := 0#32
  ![v54_r0.toNat, 0, 0]

def k0_off19 (i : grid0.Coords) (v33_4_r0 : BitVec 32) : Fin 2 → Nat :=
  let c128_i32_47_r0 : BitVec 32 := 128#32
  let true_31_r0 : BitVec 1 := 1#1
  let c1_i32_30_r0 : BitVec 32 := 1#32
  let v34_r0 : BitVec 32 := Scalar.subi v33_4_r0 c1_i32_30_r0
  let v35_r0 : BitVec 32 := Scalar.select true_31_r0 v34_r0 v33_4_r0
  let c_m1_i32_32_r0 : BitVec 32 := 4294967295#32
  let v36_r0 : BitVec 1 := Scalar.cmpi .eq v35_r0 c_m1_i32_32_r0
  let c65_i32_33_r0 : BitVec 32 := 65#32
  let v37_r0 : BitVec 32 := Scalar.select v36_r0 c65_i32_33_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c66_i32 : BitVec 32 := 66#32
  let v4 : BitVec 32 := Scalar.muli v3 c66_i32
  let v38_r0 : BitVec 32 := Scalar.addi v37_r0 v4
  let v55_r0 : BitVec 32 := Scalar.muli c128_i32_47_r0 v38_r0
  let c0_i32_50_r0 : BitVec 32 := 0#32
  ![v55_r0.toNat, 0]

def k0_chk5 (i : grid0.Coords) (v33_4_r0 : BitVec 32) : Prop :=
  (∀ a, (k0_off19 i v33_4_r0) a + S128x128.size a ≤ S270336x128.size a)
theorem k0_off19_inb : ∀ (i : grid0.Coords) (v33_4_r0 : BitVec 32) (k0_hw5 : k0_chk5 i v33_4_r0), ∀ a, (k0_off19 i v33_4_r0) a + S128x128.size a ≤ S270336x128.size a := fun i v33_4_r0 k0_hw5 => k0_hw5

def k0_off20 (v33_3_r0 : BitVec 32) : Fin 1 → Nat :=
  let c2_i32_46_r0 : BitVec 32 := 2#32
  let v54_r0 : BitVec 32 := Scalar.remui v33_3_r0 c2_i32_46_r0
  ![v54_r0.toNat]
def k0_off21 (v33_3_r0 : BitVec 32) : Fin 3 → Nat :=
  let c2_i32_46_r0 : BitVec 32 := 2#32
  let v54_r0 : BitVec 32 := Scalar.remui v33_3_r0 c2_i32_46_r0
  let c0_i32_52_r0 : BitVec 32 := 0#32
  let c0_i32_53_r0 : BitVec 32 := 0#32
  ![v54_r0.toNat, 0, 0]

def k0_chk4 (v33_3_r0 : BitVec 32) : Prop :=
  (∀ a, (k0_off18 v33_3_r0) a + S1x128x128.size a ≤ S2x128x128.size a) ∧
  (∀ a, (k0_off20 v33_3_r0) a + S1.size a ≤ S2.size a) ∧
  (∀ a, (k0_off21 v33_3_r0) a + S1x128x128.size a ≤ S2x128x128.size a)
theorem k0_off18_inb : ∀ (v33_3_r0 : BitVec 32) (k0_hw4 : k0_chk4 v33_3_r0), ∀ a, (k0_off18 v33_3_r0) a + S1x128x128.size a ≤ S2x128x128.size a := fun v33_3_r0 k0_hw4 => k0_hw4.1
theorem k0_off20_inb : ∀ (v33_3_r0 : BitVec 32) (k0_hw4 : k0_chk4 v33_3_r0), ∀ a, (k0_off20 v33_3_r0) a + S1.size a ≤ S2.size a := fun v33_3_r0 k0_hw4 => k0_hw4.2.1
theorem k0_off21_inb : ∀ (v33_3_r0 : BitVec 32) (k0_hw4 : k0_chk4 v33_3_r0), ∀ a, (k0_off21 v33_3_r0) a + S1x128x128.size a ≤ S2x128x128.size a := fun v33_3_r0 k0_hw4 => k0_hw4.2.2

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S4x151552x128 : Shape := ⟨3, ![4, 151552, 128]⟩
abbrev S67584 : Shape := ⟨1, ![67584]⟩
abbrev S_ : Shape := ⟨0, ![]⟩
abbrev S67584x1 : Shape := ⟨2, ![67584, 1]⟩
abbrev S4x67584x128 : Shape := ⟨3, ![4, 67584, 128]⟩

abbrev nBuf : Space → Nat
  | .hbm => 11
  | .vmem => 0
  | .smem => 0
  | _ => 0

abbrev bufTy : (tb : Table) → Fin (tcTables nBuf tb) → BufTy
  | .hbm, ⟨0, _⟩ => ⟨S4x151552x128, .i32⟩
  | .hbm, ⟨1, _⟩ => ⟨S67584, .i32⟩
  | .hbm, ⟨2, _⟩ => ⟨S_, .i32⟩
  | .hbm, ⟨3, _⟩ => ⟨S67584, .i32⟩
  | .hbm, ⟨4, _⟩ => ⟨S67584, .i1⟩
  | .hbm, ⟨5, _⟩ => ⟨S_, .i32⟩
  | .hbm, ⟨6, _⟩ => ⟨S67584, .i32⟩
  | .hbm, ⟨7, _⟩ => ⟨S67584, .i32⟩
  | .hbm, ⟨8, _⟩ => ⟨S67584, .i32⟩
  | .hbm, ⟨9, _⟩ => ⟨S67584x1, .i32⟩
  | .hbm, ⟨10, _⟩ => ⟨S4x67584x128, .i32⟩
  | _, _ => ⟨S4x151552x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel2.lean ====
abbrev S4x151552x128 : Shape := ⟨3, ![4, 151552, 128]⟩
abbrev S296 : Shape := ⟨1, ![296]⟩
abbrev S1 : Shape := ⟨1, ![1]⟩
abbrev S4x32x1024x2048 : Shape := ⟨4, ![4, 32, 1024, 2048]⟩
abbrev S4x32x1x2048 : Shape := ⟨4, ![4, 32, 1, 2048]⟩
abbrev S4x32x1024x1024 : Shape := ⟨4, ![4, 32, 1024, 1024]⟩
abbrev S4x32x1x1024 : Shape := ⟨4, ![4, 32, 1, 1024]⟩
abbrev S8x151552x128 : Shape := ⟨3, ![8, 151552, 128]⟩
abbrev S4x512x128 : Shape := ⟨3, ![4, 512, 128]⟩
abbrev S1x1x1024x2048 : Shape := ⟨4, ![1, 1, 1024, 2048]⟩
abbrev S1x1x1x2048 : Shape := ⟨4, ![1, 1, 1, 2048]⟩
abbrev S1x1x1024x1024 : Shape := ⟨4, ![1, 1, 1024, 1024]⟩
abbrev S1x1x1x1024 : Shape := ⟨4, ![1, 1, 1, 1024]⟩
abbrev S8x512x128 : Shape := ⟨3, ![8, 512, 128]⟩
abbrev S1024x2048 : Shape := ⟨2, ![1024, 2048]⟩
abbrev S1024x1024 : Shape := ⟨2, ![1024, 1024]⟩
abbrev S512x1 : Shape := ⟨2, ![512, 1]⟩
abbrev S1x512x128 : Shape := ⟨3, ![1, 512, 128]⟩
abbrev S512x128 : Shape := ⟨2, ![512, 128]⟩
abbrev S512x512 : Shape := ⟨2, ![512, 512]⟩
abbrev S512x1024 : Shape := ⟨2, ![512, 1024]⟩
abbrev S512x2048 : Shape := ⟨2, ![512, 2048]⟩
abbrev S1x2048 : Shape := ⟨2, ![1, 2048]⟩
abbrev S1x1024 : Shape := ⟨2, ![1, 1024]⟩

abbrev nBuf : Space → Nat
  | .hbm => 6
  | .vmem => 14
  | .smem => 3
  | _ => 0

abbrev bufTy : (tb : Table) → Fin (tcTables nBuf tb) → BufTy
  | .hbm, ⟨0, _⟩ => ⟨S4x151552x128, .i32⟩
  | .hbm, ⟨1, _⟩ => ⟨S4x32x1024x2048, .f32⟩
  | .hbm, ⟨2, _⟩ => ⟨S4x32x1x2048, .f32⟩
  | .hbm, ⟨3, _⟩ => ⟨S4x32x1024x1024, .f32⟩
  | .hbm, ⟨4, _⟩ => ⟨S4x32x1x1024, .f32⟩
  | .hbm, ⟨5, _⟩ => ⟨S8x151552x128, .bf16⟩
  | .local _ .vmem, ⟨0, _⟩ => ⟨S4x512x128, .i32⟩
  | .local _ .vmem, ⟨1, _⟩ => ⟨S4x512x128, .i32⟩
  | .local _ .vmem, ⟨2, _⟩ => ⟨S1x1x1024x2048, .f32⟩
  | .local _ .vmem, ⟨3, _⟩ => ⟨S1x1x1024x2048, .f32⟩
  | .local _ .vmem, ⟨4, _⟩ => ⟨S1x1x1x2048, .f32⟩
  | .local _ .vmem, ⟨5, _⟩ => ⟨S1x1x1x2048, .f32⟩
  | .local _ .vmem, ⟨6, _⟩ => ⟨S1x1x1024x1024, .f32⟩
  | .local _ .vmem, ⟨7, _⟩ => ⟨S1x1x1024x1024, .f32⟩
  | .local _ .vmem, ⟨8, _⟩ => ⟨S1x1x1x1024, .f32⟩
  | .local _ .vmem, ⟨9, _⟩ => ⟨S1x1x1x1024, .f32⟩
  | .local _ .vmem, ⟨10, _⟩ => ⟨S8x512x128, .bf16⟩
  | .local _ .vmem, ⟨11, _⟩ => ⟨S8x512x128, .bf16⟩
  | .local _ .vmem, ⟨12, _⟩ => ⟨S1024x2048, .bf16⟩
  | .local _ .vmem, ⟨13, _⟩ => ⟨S1024x1024, .bf16⟩
  | .local _ .smem, ⟨0, _⟩ => ⟨S296, .i32⟩
  | .local _ .smem, ⟨1, _⟩ => ⟨S296, .i32⟩
  | .local _ .smem, ⟨2, _⟩ => ⟨S1, .i32⟩
  | _, _ => ⟨S4x151552x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_arg7 : Ref sig .tc := ⟨.hbm, 4, rfl⟩
abbrev main_v0 : Ref sig .tc := ⟨.hbm, 5, rfl⟩
abbrev main_arg1 : Ref sig .tc := ⟨.smem, 0, rfl⟩
abbrev main_arg2 : Ref sig .tc := ⟨.smem, 1, rfl⟩
abbrev main_arg3 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![296], ![false]⟩

abbrev pre0 : Pipeline.Prefetch sig := ⟨3, ![main_arg1.idx, main_arg2.idx, main_arg3.idx], fun | 0 => main_arg1.names | 1 => main_arg2.names | 2 => main_arg3.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let v2 : Index := Scalar.indexCast v1
  ![v2.toNat]
def k0_off3 (i : grid0.Coords) : Fin 1 → Nat :=
  let arg0 : BitVec 32 := BitVec.ofNat 32 (i 0).val
  let v28 : Index := Scalar.indexCast arg0
  ![v28.toNat]
def k0_cond2 (i : grid0.Coords) (v14 : BitVec 32) : BitVec 1 :=
  let arg0 : BitVec 32 := BitVec.ofNat 32 (i 0).val
  let v15 : BitVec 1 := Scalar.cmpi .slt arg0 v14
  let v16 : BitVec 32 := Scalar.extui v15
  let c0_i32_3 : BitVec 32 := 0#32
  let v17 : BitVec 1 := Scalar.cmpi .ne v16 c0_i32_3
  v17

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 2 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  let c0_i32_1 : BitVec 32 := 0#32
  ![c0_i32.toNat, v2.toNat, c0_i32_0.toNat]

def cc0_transform_1 (k0_off1_inb : ∀ i : grid0.Coords, ∀ a, (k0_off1 i) a + S1.size a ≤ S296.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S296) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_2 (k0_off1_inb : ∀ i : grid0.Coords, ∀ a, (k0_off1 i) a + S1.size a ≤ S296.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S296) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_3 (k0_off1_inb : ∀ i : grid0.Coords, ∀ a, (k0_off1 i) a + S1.size a ≤ S296.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S296) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_4 (k0_off1_inb : ∀ i : grid0.Coords, ∀ a, (k0_off1 i) a + S1.size a ≤ S296.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S296) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_5 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 2 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  let c0_i32_1 : BitVec 32 := 0#32
  ![c0_i32.toNat, v2.toNat, c0_i32_0.toNat]

abbrev stage0_0 : Fin 2 → Memref sig .tc .vmem S4x512x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S4x151552x128 : Shape := ⟨3, ![4, 151552, 128]⟩
abbrev S296 : Shape := ⟨1, ![296]⟩
abbrev S1 : Shape := ⟨1, ![1]⟩
abbrev S4x32x1024x2048 : Shape := ⟨4, ![4, 32, 1024, 2048]⟩
abbrev S4x32x1x2048 : Shape := ⟨4, ![4, 32, 1, 2048]⟩
abbrev S4x32x1024x1024 : Shape := ⟨4, ![4, 32, 1024, 1024]⟩
abbrev S4x32x1x1024 : Shape := ⟨4, ![4, 32, 1, 1024]⟩
abbrev S4x296x512x128 : Shape := ⟨4, ![4, 296, 512, 128]⟩
abbrev S1x296x1x1 : Shape := ⟨4, ![1, 296, 1, 1]⟩
abbrev S_ : Shape := ⟨0, ![]⟩
abbrev S8x296x512x128 : Shape := ⟨4, ![8, 296, 512, 128]⟩
abbrev S296x512x8x128 : Shape := ⟨4, ![296, 512, 8, 128]⟩
abbrev S296x512x1024 : Shape := ⟨3, ![296, 512, 1024]⟩
abbrev S1x32x1024x2048 : Shape := ⟨4, ![1, 32, 1024, 2048]⟩
abbrev S32x1024x2048 : Shape := ⟨3, ![32, 1024, 2048]⟩
abbrev S296x1 : Shape := ⟨2, ![296, 1]⟩
abbrev S296x1024x2048 : Shape := ⟨3, ![296, 1024, 2048]⟩
abbrev S296x512x2048 : Shape := ⟨3, ![296, 512, 2048]⟩
abbrev S1x32x1x2048 : Shape := ⟨4, ![1, 32, 1, 2048]⟩
abbrev S32x1x2048 : Shape := ⟨3, ![32, 1, 2048]⟩
abbrev S296x1x2048 : Shape := ⟨3, ![296, 1, 2048]⟩
abbrev S1x32x1024x1024 : Shape := ⟨4, ![1, 32, 1024, 1024]⟩
abbrev S32x1024x1024 : Shape := ⟨3, ![32, 1024, 1024]⟩
abbrev S296x1024x1024 : Shape := ⟨3, ![296, 1024, 1024]⟩
abbrev S1x32x1x1024 : Shape := ⟨4, ![1, 32, 1, 1024]⟩
abbrev S32x1x1024 : Shape := ⟨3, ![32, 1, 1024]⟩
abbrev S296x1x1024 : Shape := ⟨3, ![296, 1, 1024]⟩
abbrev S151552x8x128 : Shape := ⟨3, ![151552, 8, 128]⟩
abbrev S8x151552x128 : Shape := ⟨3, ![8, 151552, 128]⟩

abbrev nBuf : Space → Nat
  | .hbm => 113
  | .vmem => 0
  | .smem => 0
  | _ => 0

abbrev bufTy : (tb : Table) → Fin (tcTables nBuf tb) → BufTy
  | .hbm, ⟨0, _⟩ => ⟨S4x151552x128, .i32⟩
  | .hbm, ⟨1, _⟩ => ⟨S296, .i32⟩
  | .hbm, ⟨2, _⟩ => ⟨S296, .i32⟩
  | .hbm, ⟨3, _⟩ => ⟨S1, .i32⟩
  | .hbm, ⟨4, _⟩ => ⟨S4x32x1024x2048, .f32⟩
  | .hbm, ⟨5, _⟩ => ⟨S4x32x1x2048, .f32⟩
  | .hbm, ⟨6, _⟩ => ⟨S4x32x1024x1024, .f32⟩
  | .hbm, ⟨7, _⟩ => ⟨S4x32x1x1024, .f32⟩
  | .hbm, ⟨8, _⟩ => ⟨S4x296x512x128, .i32⟩
  | .hbm, ⟨9, _⟩ => ⟨S4x296x512x128, .i32⟩
  | .hbm, ⟨10, _⟩ => ⟨S1x296x1x1, .i32⟩
  | .hbm, ⟨11, _⟩ => ⟨S4x296x512x128, .i32⟩
  | .hbm, ⟨12, _⟩ => ⟨S4x296x512x128, .i1⟩
  | .hbm, ⟨13, _⟩ => ⟨S_, .i32⟩
  | .hbm, ⟨14, _⟩ => ⟨S4x296x512x128, .i32⟩
  | .hbm, ⟨15, _⟩ => ⟨S4x296x512x128, .i32⟩
  | .hbm, ⟨16, _⟩ => ⟨S_, .i32⟩
  | .hbm, ⟨17, _⟩ => ⟨S4x296x512x128, .i32⟩
  | .hbm, ⟨18, _⟩ => ⟨S4x296x512x128, .i32⟩
  | .hbm, ⟨19, _⟩ => ⟨S4x296x512x128, .f32⟩
  | .hbm, ⟨20, _⟩ => ⟨S_, .i32⟩
  | .hbm, ⟨21, _⟩ => ⟨S4x296x512x128, .i32⟩
  | .hbm, ⟨22, _⟩ => ⟨S4x296x512x128, .i32⟩
  | .hbm, ⟨23, _⟩ => ⟨S4x296x512x128, .f32⟩
  | .hbm, ⟨24, _⟩ => ⟨S8x296x512x128, .f32⟩
  | .hbm, ⟨25, _⟩ => ⟨S296x512x8x128, .f32⟩
  | .hbm, ⟨26, _⟩ => ⟨S296x512x1024, .f32⟩
  | .hbm, ⟨27, _⟩ => ⟨S296x512x1024, .bf16⟩
  | .hbm, ⟨28, _⟩ => ⟨S1x32x1024x2048, .f32⟩
  | .hbm, ⟨29, _⟩ => ⟨S32x1024x2048, .f32⟩
  | .hbm, ⟨30, _⟩ => ⟨S_, .i32⟩
  | .hbm, ⟨31, _⟩ => ⟨S296, .i32⟩
  | .hbm, ⟨32, _⟩ => ⟨S296, .i1⟩
  | .hbm, ⟨33, _⟩ => ⟨S_, .i32⟩
  | .hbm, ⟨34, _⟩ => ⟨S296, .i32⟩
  | .hbm, ⟨35, _⟩ => ⟨S296, .i32⟩
  | .hbm, ⟨36, _⟩ => ⟨S296, .i32⟩
  | .hbm, ⟨37, _⟩ => ⟨S296x1, .i32⟩
  | .hbm, ⟨38, _⟩ => ⟨S296x1024x2048, .f32⟩
  | .hbm, ⟨39, _⟩ => ⟨S296x1024x2048, .bf16⟩
  | .hbm, ⟨40, _⟩ => ⟨S296x512x2048, .f32⟩
  | .hbm, ⟨41, _⟩ => ⟨S1x32x1x2048, .f32⟩
  | .hbm, ⟨42, _⟩ => ⟨S32x1x2048, .f32⟩
  | .hbm, ⟨43, _⟩ => ⟨S_, .i32⟩
  | .hbm, ⟨44, _⟩ => ⟨S296, .i32⟩
  | .hbm, ⟨45, _⟩ => ⟨S296, .i1⟩
  | .hbm, ⟨46, _⟩ => ⟨S_, .i32⟩
  | .hbm, ⟨47, _⟩ => ⟨S296, .i32⟩
  | .hbm, ⟨48, _⟩ => ⟨S296, .i32⟩
  | .hbm, ⟨49, _⟩ => ⟨S296, .i32⟩
  | .hbm, ⟨50, _⟩ => ⟨S296x1, .i32⟩
  | .hbm, ⟨51, _⟩ => ⟨S296x1x2048, .f32⟩
  | .hbm, ⟨52, _⟩ => ⟨S296x512x2048, .f32⟩
  | .hbm, ⟨53, _⟩ => ⟨S296x512x2048, .f32⟩
  | .hbm, ⟨54, _⟩ => ⟨S296x512x1024, .f32⟩
  | .hbm, ⟨55, _⟩ => ⟨S_, .f32⟩
  | .hbm, ⟨56, _⟩ => ⟨S296x512x1024, .f32⟩
  | .hbm, ⟨57, _⟩ => ⟨S296x512x1024, .f32⟩
  | .hbm, ⟨58, _⟩ => ⟨S296x512x1024, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S296x512x1024, .f32⟩
  | .hbm, ⟨63, _⟩ => ⟨S296x512x1024, .f32⟩
  | .hbm, ⟨64, _⟩ => ⟨S_, .f32⟩
  | .hbm, ⟨65, _⟩ => ⟨S296x512x1024, .f32⟩
  | .hbm, ⟨66, _⟩ => ⟨S296x512x1024, .f32⟩
  | .hbm, ⟨67, _⟩ => ⟨S_, .f32⟩
  | .hbm, ⟨68, _⟩ => ⟨S296x512x1024, .f32⟩
  | .hbm, ⟨69, _⟩ => ⟨S296x512x1024, .f32⟩
  | .hbm, ⟨70, _⟩ => ⟨S296x512x1024, .f32⟩
  | .hbm, ⟨71, _⟩ => ⟨S296x512x1024, .f32⟩
  | .hbm, ⟨72, _⟩ => ⟨S_, .f32⟩
  | .hbm, ⟨73, _⟩ => ⟨S296x512x1024, .f32⟩
  | .hbm, ⟨74, _⟩ => ⟨S296x512x1024, .f32⟩
  | .hbm, ⟨75, _⟩ => ⟨S_, .f32⟩
  | .hbm, ⟨76, _⟩ => ⟨S296x512x1024, .f32⟩
  | .hbm, ⟨77, _⟩ => ⟨S296x512x1024, .f32⟩
  | .hbm, ⟨78, _⟩ => ⟨S296x512x1024, .f32⟩
  | .hbm, ⟨79, _⟩ => ⟨S_, .f32⟩
  | .hbm, ⟨80, _⟩ => ⟨S296x512x1024, .f32⟩
  | .hbm, ⟨81, _⟩ => ⟨S296x512x1024, .f32⟩
  | .hbm, ⟨82, _⟩ => ⟨S296x512x1024, .f32⟩
  | .hbm, ⟨83, _⟩ => ⟨S296x512x1024, .bf16⟩
  | .hbm, ⟨84, _⟩ => ⟨S1x32x1024x1024, .f32⟩
  | .hbm, ⟨85, _⟩ => ⟨S32x1024x1024, .f32⟩
  | .hbm, ⟨86, _⟩ => ⟨S_, .i32⟩
  | .hbm, ⟨87, _⟩ => ⟨S296, .i32⟩
  | .hbm, ⟨88, _⟩ => ⟨S296, .i1⟩
  | .hbm, ⟨89, _⟩ => ⟨S_, .i32⟩
  | .hbm, ⟨90, _⟩ => ⟨S296, .i32⟩
  | .hbm, ⟨91, _⟩ => ⟨S296, .i32⟩
  | .hbm, ⟨92, _⟩ => ⟨S296, .i32⟩
  | .hbm, ⟨93, _⟩ => ⟨S296x1, .i32⟩
  | .hbm, ⟨94, _⟩ => ⟨S296x1024x1024, .f32⟩
  | .hbm, ⟨95, _⟩ => ⟨S296x1024x1024, .bf16⟩
  | .hbm, ⟨96, _⟩ => ⟨S296x512x1024, .f32⟩
  | .hbm, ⟨97, _⟩ => ⟨S1x32x1x1024, .f32⟩
  | .hbm, ⟨98, _⟩ => ⟨S32x1x1024, .f32⟩
  | .hbm, ⟨99, _⟩ => ⟨S_, .i32⟩
  | .hbm, ⟨100, _⟩ => ⟨S296, .i32⟩
  | .hbm, ⟨101, _⟩ => ⟨S296, .i1⟩
  | .hbm, ⟨102, _⟩ => ⟨S_, .i32⟩
  | .hbm, ⟨103, _⟩ => ⟨S296, .i32⟩
  | .hbm, ⟨104, _⟩ => ⟨S296, .i32⟩
  | .hbm, ⟨105, _⟩ => ⟨S296, .i32⟩
  | .hbm, ⟨106, _⟩ => ⟨S296x1, .i32⟩
  | .hbm, ⟨107, _⟩ => ⟨S296x1x1024, .f32⟩
  | .hbm, ⟨108, _⟩ => ⟨S296x512x1024, .f32⟩
  | .hbm, ⟨109, _⟩ => ⟨S296x512x1024, .f32⟩
  | .hbm, ⟨110, _⟩ => ⟨S296x512x1024, .bf16⟩
  | .hbm, ⟨111, _⟩ => ⟨S151552x8x128, .bf16⟩
  | .hbm, ⟨112, _⟩ => ⟨S8x151552x128, .bf16⟩
  | _, _ => ⟨S4x151552x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_2 : Ref sig .tc := ⟨.hbm, 30, rfl⟩
abbrev main_v19 : Ref sig .tc := ⟨.hbm, 31, rfl⟩
abbrev main_v20 : Ref sig .tc := ⟨.hbm, 32, rfl⟩
abbrev main_c_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_4 : Ref sig .tc := ⟨.hbm, 43, rfl⟩
abbrev main_v30 : Ref sig .tc := ⟨.hbm, 44, rfl⟩
abbrev main_v31 : Ref sig .tc := ⟨.hbm, 45, rfl⟩
abbrev main_c_5 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_6 : Ref sig .tc := ⟨.hbm, 59, rfl⟩
abbrev main_cst_7 : Ref sig .tc := ⟨.hbm, 60, rfl⟩
abbrev main_call1_v0 : Ref sig .tc := ⟨.hbm, 61, rfl⟩
abbrev main_call1_v1 : Ref sig .tc := ⟨.hbm, 62, rfl⟩
abbrev main_call1_v2 : Ref sig .tc := ⟨.hbm, 63, rfl⟩
abbrev main_call1_v3 : Ref sig .tc := ⟨.hbm, 64, rfl⟩
abbrev main_call1_v4 : Ref sig .tc := ⟨.hbm, 65, rfl⟩
abbrev main_v43 : Ref sig .tc := ⟨.hbm, 66, rfl⟩
abbrev main_cst_8 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_9 : Ref sig .tc := ⟨.hbm, 72, rfl⟩
abbrev main_v48 : Ref sig .tc := ⟨.hbm, 73, rfl⟩
abbrev main_v49 : Ref sig .tc := ⟨.hbm, 74, rfl⟩
abbrev main_cst_10 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_11 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_c_12 : Ref sig .tc := ⟨.hbm, 86, rfl⟩
abbrev main_v59 : Ref sig .tc := ⟨.hbm, 87, rfl⟩
abbrev main_v60 : Ref sig .tc := ⟨.hbm, 88, rfl⟩
abbrev main_c_13 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_c_14 : Ref sig .tc := ⟨.hbm, 99, rfl⟩
abbrev main_v70 : Ref sig .tc := ⟨.hbm, 100, rfl⟩
abbrev main_v71 : Ref sig .tc := ⟨.hbm, 101, rfl⟩
abbrev main_c_15 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩

abbrev nD : Nat := 1
abbrev τ : Topo := Topo.v7x

variable {F : FTy → Type} [FloatOps F]
-- ==== Kernel3.lean ====
abbrev S4x256x1024 : Shape := ⟨3, ![4, 256, 1024]⟩
abbrev S1024x256 : Shape := ⟨2, ![1024, 256]⟩
abbrev S1024x1024 : Shape := ⟨2, ![1024, 1024]⟩
abbrev S1024x512 : Shape := ⟨2, ![1024, 512]⟩
abbrev S512x1024 : Shape := ⟨2, ![512, 1024]⟩
abbrev S512x512 : Shape := ⟨2, ![512, 512]⟩
abbrev S4x256x256 : Shape := ⟨3, ![4, 256, 256]⟩
abbrev S4x256x4x64 : Shape := ⟨4, ![4, 256, 4, 64]⟩

abbrev nBuf : Space → Nat
  | .hbm => 13
  | .vmem => 5
  | .smem => 0
  | _ => 0

abbrev bufTy : (tb : Table) → Fin (tcTables nBuf tb) → BufTy
  | .hbm, ⟨0, _⟩ => ⟨S4x256x1024, .f32⟩
  | .hbm, ⟨1, _⟩ => ⟨S1024x256, .f32⟩
  | .hbm, ⟨2, _⟩ => ⟨S1024x256, .f32⟩
  | .hbm, ⟨3, _⟩ => ⟨S1024x1024, .f32⟩
  | .hbm, ⟨4, _⟩ => ⟨S1024x512, .f32⟩
  | .hbm, ⟨5, _⟩ => ⟨S1024x512, .bf16⟩
  | .hbm, ⟨6, _⟩ => ⟨S1024x512, .f32⟩
  | .hbm, ⟨7, _⟩ => ⟨S1024x256, .f32⟩
  | .hbm, ⟨8, _⟩ => ⟨S4x256x256, .f32⟩
  | .hbm, ⟨9, _⟩ => ⟨S1024x256, .f32⟩
  | .hbm, ⟨10, _⟩ => ⟨S4x256x256, .f32⟩
  | .hbm, ⟨11, _⟩ => ⟨S4x256x4x64, .f32⟩
  | .hbm, ⟨12, _⟩ => ⟨S4x256x4x64, .f32⟩
  | .local _ .vmem, ⟨0, _⟩ => ⟨S512x1024, .f32⟩
  | .local _ .vmem, ⟨1, _⟩ => ⟨S512x1024, .f32⟩
  | .local _ .vmem, ⟨2, _⟩ => ⟨S1024x512, .bf16⟩
  | .local _ .vmem, ⟨3, _⟩ => ⟨S512x512, .f32⟩
  | .local _ .vmem, ⟨4, _⟩ => ⟨S512x512, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference3Ideal.lean ====
abbrev S4x256x1024 : Shape := ⟨3, ![4, 256, 1024]⟩
abbrev S1024x256 : Shape := ⟨2, ![1024, 256]⟩
abbrev S4x256x256 : Shape := ⟨3, ![4, 256, 256]⟩
abbrev S4x256x4x64 : Shape := ⟨4, ![4, 256, 4, 64]⟩

abbrev nBuf : Space → Nat
  | .hbm => 7
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S1024x256, .f32⟩
  | .hbm, ⟨2, _⟩ => ⟨S1024x256, .f32⟩
  | .hbm, ⟨3, _⟩ => ⟨S4x256x256, .f32⟩
  | .hbm, ⟨4, _⟩ => ⟨S4x256x4x64, .f32⟩
  | .hbm, ⟨5, _⟩ => ⟨S4x256x256, .f32⟩
  | .hbm, ⟨6, _⟩ => ⟨S4x256x4x64, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel4.lean ====
abbrev S33792x1024 : Shape := ⟨2, ![33792, 1024]⟩
abbrev S1024x2956 : Shape := ⟨2, ![1024, 2956]⟩
abbrev S1024x12 : Shape := ⟨2, ![1024, 12]⟩
abbrev S_ : Shape := ⟨0, ![]⟩
abbrev S1024x116 : Shape := ⟨2, ![1024, 116]⟩
abbrev S1024x128 : Shape := ⟨2, ![1024, 128]⟩
abbrev S1024x1536 : Shape := ⟨2, ![1024, 1536]⟩
abbrev S1024x768 : Shape := ⟨2, ![1024, 768]⟩
abbrev S1024x640 : Shape := ⟨2, ![1024, 640]⟩
abbrev S1024x3072 : Shape := ⟨2, ![1024, 3072]⟩
abbrev S33792x3072 : Shape := ⟨2, ![33792, 3072]⟩
abbrev S512x1024 : Shape := ⟨2, ![512, 1024]⟩
abbrev S512x3072 : Shape := ⟨2, ![512, 3072]⟩
abbrev S32768x128 : Shape := ⟨2, ![32768, 128]⟩
abbrev S4x8192x128 : Shape := ⟨3, ![4, 8192, 128]⟩
abbrev S4x128x128 : Shape := ⟨3, ![4, 128, 128]⟩
abbrev S33792x1536 : Shape := ⟨2, ![33792, 1536]⟩
abbrev S33792x768 : Shape := ⟨2, ![33792, 768]⟩
abbrev S33792x640 : Shape := ⟨2, ![33792, 640]⟩
abbrev S33792x12 : Shape := ⟨2, ![33792, 12]⟩
abbrev S4x128x2x64 : Shape := ⟨4, ![4, 128, 2, 64]⟩
abbrev S16x64x2x64 : Shape := ⟨4, ![16, 64, 2, 64]⟩

abbrev nBuf : Space → Nat
  | .hbm => 22
  | .vmem => 5
  | .smem => 0
  | _ => 0

abbrev bufTy : (tb : Table) → Fin (tcTables nBuf tb) → BufTy
  | .hbm, ⟨0, _⟩ => ⟨S33792x1024, .f32⟩
  | .hbm, ⟨1, _⟩ => ⟨S1024x2956, .f32⟩
  | .hbm, ⟨2, _⟩ => ⟨S1024x12, .f32⟩
  | .hbm, ⟨3, _⟩ => ⟨S_, .f32⟩
  | .hbm, ⟨4, _⟩ => ⟨S1024x116, .f32⟩
  | .hbm, ⟨5, _⟩ => ⟨S1024x128, .f32⟩
  | .hbm, ⟨6, _⟩ => ⟨S1024x1536, .f32⟩
  | .hbm, ⟨7, _⟩ => ⟨S1024x768, .f32⟩
  | .hbm, ⟨8, _⟩ => ⟨S1024x640, .f32⟩
  | .hbm, ⟨9, _⟩ => ⟨S1024x3072, .f32⟩
  | .hbm, ⟨10, _⟩ => ⟨S1024x3072, .bf16⟩
  | .hbm, ⟨11, _⟩ => ⟨S33792x3072, .f32⟩
  | .hbm, ⟨12, _⟩ => ⟨S32768x128, .f32⟩
  | .hbm, ⟨13, _⟩ => ⟨S4x8192x128, .f32⟩
  | .hbm, ⟨14, _⟩ => ⟨S4x128x128, .f32⟩
  | .hbm, ⟨15, _⟩ => ⟨S1024x128, .f32⟩
  | .hbm, ⟨16, _⟩ => ⟨S33792x1536, .f32⟩
  | .hbm, ⟨17, _⟩ => ⟨S33792x768, .f32⟩
  | .hbm, ⟨18, _⟩ => ⟨S33792x640, .f32⟩
  | .hbm, ⟨19, _⟩ => ⟨S33792x12, .f32⟩
  | .hbm, ⟨20, _⟩ => ⟨S4x128x2x64, .f32⟩
  | .hbm, ⟨21, _⟩ => ⟨S16x64x2x64, .f32⟩
  | .local _ .vmem, ⟨0, _⟩ => ⟨S512x1024, .f32⟩
  | .local _ .vmem, ⟨1, _⟩ => ⟨S512x1024, .f32⟩
  | .local _ .vmem, ⟨2, _⟩ => ⟨S1024x3072, .bf16⟩
  | .local _ .vmem, ⟨3, _⟩ => ⟨S512x3072, .f32⟩
  | .local _ .vmem, ⟨4, _⟩ => ⟨S512x3072, .f32⟩
  | _, _ => ⟨S33792x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference4Ideal.lean ====
abbrev S33792x1024 : Shape := ⟨2, ![33792, 1024]⟩
abbrev S1024x2956 : Shape := ⟨2, ![1024, 2956]⟩
abbrev S33792x2956 : Shape := ⟨2, ![33792, 2956]⟩
abbrev S33792x128 : Shape := ⟨2, ![33792, 128]⟩
abbrev S32768x128 : Shape := ⟨2, ![32768, 128]⟩
abbrev S4x8192x2x64 : Shape := ⟨4, ![4, 8192, 2, 64]⟩
abbrev S1024x128 : Shape := ⟨2, ![1024, 128]⟩
abbrev S16x64x2x64 : Shape := ⟨4, ![16, 64, 2, 64]⟩
abbrev S33792x1536 : Shape := ⟨2, ![33792, 1536]⟩
abbrev S33792x768 : Shape := ⟨2, ![33792, 768]⟩
abbrev S33792x640 : Shape := ⟨2, ![33792, 640]⟩
abbrev S33792x12 : Shape := ⟨2, ![33792, 12]⟩
abbrev S4x128x2x64 : Shape := ⟨4, ![4, 128, 2, 64]⟩

abbrev nBuf : Space → Nat
  | .hbm => 13
  | .vmem => 0
  | .smem => 0
  | _ => 0

abbrev bufTy : (tb : Table) → Fin (tcTables nBuf tb) → BufTy
  | .hbm, ⟨0, _⟩ => ⟨S33792x1024, .f32⟩
  | .hbm, ⟨1, _⟩ => ⟨S1024x2956, .f32⟩
  | .hbm, ⟨2, _⟩ => ⟨S33792x2956, .f32⟩
  | .hbm, ⟨3, _⟩ => ⟨S33792x128, .f32⟩
  | .hbm, ⟨4, _⟩ => ⟨S32768x128, .f32⟩
  | .hbm, ⟨5, _⟩ => ⟨S4x8192x2x64, .f32⟩
  | .hbm, ⟨6, _⟩ => ⟨S1024x128, .f32⟩
  | .hbm, ⟨7, _⟩ => ⟨S16x64x2x64, .f32⟩
  | .hbm, ⟨8, _⟩ => ⟨S33792x1536, .f32⟩
  | .hbm, ⟨9, _⟩ => ⟨S33792x768, .f32⟩
  | .hbm, ⟨10, _⟩ => ⟨S33792x640, .f32⟩
  | .hbm, ⟨11, _⟩ => ⟨S33792x12, .f32⟩
  | .hbm, ⟨12, _⟩ => ⟨S4x128x2x64, .f32⟩
  | _, _ => ⟨S33792x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩

abbrev nD : Nat := 1
abbrev τ : Topo := Topo.v7x

variable {F : FTy → Type} [FloatOps F]
-- ==== Kernel5.lean ====
abbrev S4x67584x128 : Shape := ⟨3, ![4, 67584, 128]⟩
abbrev S33792x128 : Shape := ⟨2, ![33792, 128]⟩
abbrev S33792x1024 : Shape := ⟨2, ![33792, 1024]⟩
abbrev S1024 : Shape := ⟨1, ![1024]⟩
abbrev S1x1024 : Shape := ⟨2, ![1, 1024]⟩
abbrev S4x512x128 : Shape := ⟨3, ![4, 512, 128]⟩
abbrev S512x128 : Shape := ⟨2, ![512, 128]⟩
abbrev S512x1024 : Shape := ⟨2, ![512, 1024]⟩
abbrev S1x512x128 : Shape := ⟨3, ![1, 512, 128]⟩
abbrev S512x512 : Shape := ⟨2, ![512, 512]⟩
abbrev S512x1 : Shape := ⟨2, ![512, 1]⟩
abbrev S512 : Shape := ⟨1, ![512]⟩
abbrev S32768x1024 : Shape := ⟨2, ![32768, 1024]⟩
abbrev S4x8192x1024 : Shape := ⟨3, ![4, 8192, 1024]⟩
abbrev S1024x1024 : Shape := ⟨2, ![1024, 1024]⟩
abbrev S16x64x1024 : Shape := ⟨3, ![16, 64, 1024]⟩

abbrev nBuf : Space → Nat
  | .hbm => 16
  | .vmem => 32
  | .smem => 0
  | _ => 0

abbrev bufTy : (tb : Table) → Fin (tcTables nBuf tb) → BufTy
  | .hbm, ⟨0, _⟩ => ⟨S4x67584x128, .i32⟩
  | .hbm, ⟨1, _⟩ => ⟨S4x67584x128, .i32⟩
  | .hbm, ⟨2, _⟩ => ⟨S33792x128, .f32⟩
  | .hbm, ⟨3, _⟩ => ⟨S33792x1024, .f32⟩
  | .hbm, ⟨4, _⟩ => ⟨S1024, .f32⟩
  | .hbm, ⟨5, _⟩ => ⟨S1024, .f32⟩
  | .hbm, ⟨6, _⟩ => ⟨S1x1024, .f32⟩
  | .hbm, ⟨7, _⟩ => ⟨S1x1024, .f32⟩
  | .hbm, ⟨8, _⟩ => ⟨S33792x1024, .f32⟩
  | .hbm, ⟨9, _⟩ => ⟨S1x1024, .f32⟩
  | .hbm, ⟨10, _⟩ => ⟨S1x1024, .f32⟩
  | .hbm, ⟨11, _⟩ => ⟨S33792x1024, .f32⟩
  | .hbm, ⟨12, _⟩ => ⟨S32768x1024, .f32⟩
  | .hbm, ⟨13, _⟩ => ⟨S4x8192x1024, .f32⟩
  | .hbm, ⟨14, _⟩ => ⟨S1024x1024, .f32⟩
  | .hbm, ⟨15, _⟩ => ⟨S16x64x1024, .f32⟩
  | .local _ .vmem, ⟨0, _⟩ => ⟨S4x512x128, .i32⟩
  | .local _ .vmem, ⟨1, _⟩ => ⟨S4x512x128, .i32⟩
  | .local _ .vmem, ⟨2, _⟩ => ⟨S4x512x128, .i32⟩
  | .local _ .vmem, ⟨3, _⟩ => ⟨S4x512x128, .i32⟩
  | .local _ .vmem, ⟨4, _⟩ => ⟨S4x512x128, .i32⟩
  | .local _ .vmem, ⟨5, _⟩ => ⟨S4x512x128, .i32⟩
  | .local _ .vmem, ⟨6, _⟩ => ⟨S4x512x128, .i32⟩
  | .local _ .vmem, ⟨7, _⟩ => ⟨S4x512x128, .i32⟩
  | .local _ .vmem, ⟨8, _⟩ => ⟨S512x128, .f32⟩
  | .local _ .vmem, ⟨9, _⟩ => ⟨S512x128, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S4x512x128, .i32⟩
  | .local _ .vmem, ⟨17, _⟩ => ⟨S4x512x128, .i32⟩
  | .local _ .vmem, ⟨18, _⟩ => ⟨S4x512x128, .i32⟩
  | .local _ .vmem, ⟨19, _⟩ => ⟨S4x512x128, .i32⟩
  | .local _ .vmem, ⟨20, _⟩ => ⟨S4x512x128, .i32⟩
  | .local _ .vmem, ⟨21, _⟩ => ⟨S4x512x128, .i32⟩
  | .local _ .vmem, ⟨22, _⟩ => ⟨S4x512x128, .i32⟩
  | .local _ .vmem, ⟨23, _⟩ => ⟨S4x512x128, .i32⟩
  | .local _ .vmem, ⟨24, _⟩ => ⟨S512x128, .f32⟩
  | .local _ .vmem, ⟨25, _⟩ => ⟨S512x128, .f32⟩
  | .local _ .vmem, ⟨26, _⟩ => ⟨S512x1024, .f32⟩
  | .local _ .vmem, ⟨27, _⟩ => ⟨S512x1024, .f32⟩
  | .local _ .vmem, ⟨28, _⟩ => ⟨S1x1024, .f32⟩
  | .local _ .vmem, ⟨29, _⟩ => ⟨S1x1024, .f32⟩
  | .local _ .vmem, ⟨30, _⟩ => ⟨S512x1024, .f32⟩
  | .local _ .vmem, ⟨31, _⟩ => ⟨S512x1024, .f32⟩
  | _, _ => ⟨S4x67584x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg7_0 : Ref sig .tc := ⟨.vmem, 29, rfl⟩
abbrev cc1_stg8_0 : Ref sig .tc := ⟨.vmem, 30, rfl⟩
abbrev cc1_stg8_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem7_0 : DmaSem sig := 29
abbrev cc1_sem8_0 : DmaSem sig := 30
abbrev cc1_sem8_1 : DmaSem sig := 31

abbrev nD : Nat := 1
abbrev τ : Topo := Topo.v7x

variable {F : FTy → Type} [FloatOps F]

abbrev grid0 : Pipeline.Grid := ⟨1, ![33], ![false]⟩

def cc0_transform_0 (i : grid0.Coords) : Fin 3 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, v0.toNat, c0_i32_1.toNat]

def cc0_transform_1 (i : grid0.Coords) : Fin 3 → Nat :=
  let arg0 : BitVec 32 := BitVec.ofNat 32 (i 0).val
  let c33_i32 : BitVec 32 := 33#32
  let v0 : BitVec 32 := Scalar.addi c33_i32 arg0
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 3 → Nat :=
  let arg0 : BitVec 32 := BitVec.ofNat 32 (i 0).val
  let c66_i32 : BitVec 32 := 66#32
  let v0 : BitVec 32 := Scalar.addi c66_i32 arg0
  let c0_i32 : BitVec 32 := 0#32
  let c0_i32_0 : BitVec 32 := 0#32
  let c0_i32_1 : BitVec 32 := 0#32
  ![c0_i32.toNat, v0.toNat, c0_i32_0.toNat]

def cc0_transform_3 (i : grid0.Coords) : Fin 3 → Nat :=
  let arg0 : BitVec 32 := BitVec.ofNat 32 (i 0).val
  let c99_i32 : BitVec 32 := 99#32
  let v0 : BitVec 32 := Scalar.addi c99_i32 arg0
  let c0_i32 : BitVec 32 := 0#32
  let c0_i32_0 : BitVec 32 := 0#32
  let c0_i32_1 : BitVec 32 := 0#32
  ![c0_i32.toNat, v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 2 → Memref sig .tc .vmem S4x512x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x512x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x512x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![33], ![false]⟩

def cc1_transform_0 (i : grid1.Coords) : Fin 3 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, v0.toNat, c0_i32_1.toNat]

def cc1_transform_1 (i : grid1.Coords) : Fin 3 → Nat :=
  let arg0 : BitVec 32 := BitVec.ofNat 32 (i 0).val
  let c33_i32 : BitVec 32 := 33#32
  let v0 : BitVec 32 := Scalar.addi c33_i32 arg0
  let c0_i32 : BitVec 32 := 0#32
  let c0_i32_0 : BitVec 32 := 0#32
  let c0_i32_1 : BitVec 32 := 0#32
  ![c0_i32.toNat, v0.toNat, c0_i32_0.toNat]

def cc1_transform_2 (i : grid1.Coords) : Fin 3 → Nat :=
  let arg0 : BitVec 32 := BitVec.ofNat 32 (i 0).val
  let c66_i32 : BitVec 32 := 66#32
  let v0 : BitVec 32 := Scalar.addi c66_i32 arg0
  let c0_i32 : BitVec 32 := 0#32
  let c0_i32_0 : BitVec 32 := 0#32
  let c0_i32_1 : BitVec 32 := 0#32
  ![c0_i32.toNat, v0.toNat, c0_i32_0.toNat]

def cc1_transform_3 (i : grid1.Coords) : Fin 3 → Nat :=
  let arg0 : BitVec 32 := BitVec.ofNat 32 (i 0).val
  let c99_i32 : BitVec 32 := 99#32
  let v0 : BitVec 32 := Scalar.addi c99_i32 arg0
  let c0_i32 : BitVec 32 := 0#32
  let c0_i32_0 : BitVec 32 := 0#32
  let c0_i32_1 : BitVec 32 := 0#32
  ![c0_i32.toNat, v0.toNat, c0_i32_0.toNat]

def cc1_transform_4 (i : grid1.Coords) : Fin 2 → Nat :=
  let arg0 : BitVec 32 := BitVec.ofNat 32 (i 0).val
  let c33_i32 : BitVec 32 := 33#32
  let v0 : BitVec 32 := Scalar.addi c33_i32 arg0
  let c0_i32 : BitVec 32 := 0#32
  let c0_i32_0 : BitVec 32 := 0#32
  ![v0.toNat, c0_i32.toNat]

def cc1_transform_5 (i : grid1.Coords) : Fin 2 → Nat :=
  let arg0 : BitVec 32 := BitVec.ofNat 32 (i 0).val
  let c33_i32 : BitVec 32 := 33#32
  let v0 : BitVec 32 := Scalar.addi c33_i32 arg0
  let c0_i32 : BitVec 32 := 0#32
  let c0_i32_0 : BitVec 32 := 0#32
  ![v0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c33_i32 : BitVec 32 := 33#32
  let v0 : BitVec 32 := Scalar.addi c33_i32 arg0
  let c0_i32 : BitVec 32 := 0#32
  let c0_i32_0 : BitVec 32 := 0#32
  ![v0.toNat, c0_i32.toNat]

abbrev stage1_0 : Fin 2 → Memref sig .tc .vmem S4x512x128 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4x512x128 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4x512x128 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4x512x128 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S1x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S512x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]
-- ==== Reference5Ideal.lean ====
abbrev S4x67584x128 : Shape := ⟨3, ![4, 67584, 128]⟩
abbrev S33792x128 : Shape := ⟨2, ![33792, 128]⟩
abbrev S33792x1024 : Shape := ⟨2, ![33792, 1024]⟩
abbrev S1024 : Shape := ⟨1, ![1024]⟩
abbrev S4x4x16896x128 : Shape := ⟨4, ![4, 4, 16896, 128]⟩
abbrev S4x4x33792x128 : Shape := ⟨4, ![4, 4, 33792, 128]⟩
abbrev S_ : Shape := ⟨0, ![]⟩
abbrev S8x4x33792x128 : Shape := ⟨4, ![8, 4, 33792, 128]⟩
abbrev S33792x4x8x128 : Shape := ⟨4, ![33792, 4, 8, 128]⟩
abbrev S33792x4x1024 : Shape := ⟨3, ![33792, 4, 1024]⟩
abbrev S33792x4 : Shape := ⟨2, ![33792, 4]⟩
abbrev S33792 : Shape := ⟨1, ![33792]⟩
abbrev S33792x1 : Shape := ⟨2, ![33792, 1]⟩
abbrev S1x1024 : Shape := ⟨2, ![1, 1024]⟩
abbrev S32768x1024 : Shape := ⟨2, ![32768, 1024]⟩
abbrev S4x8192x1024 : Shape := ⟨3, ![4, 8192, 1024]⟩
abbrev S1024x1024 : Shape := ⟨2, ![1024, 1024]⟩
abbrev S16x64x1024 : Shape := ⟨3, ![16, 64, 1024]⟩

abbrev nBuf : Space → Nat
  | .hbm => 59
  | .vmem => 0
  | .smem => 0
  | _ => 0

abbrev bufTy : (tb : Table) → Fin (tcTables nBuf tb) → BufTy
  | .hbm, ⟨0, _⟩ => ⟨S4x67584x128, .i32⟩
  | .hbm, ⟨1, _⟩ => ⟨S4x67584x128, .i32⟩
  | .hbm, ⟨2, _⟩ => ⟨S33792x128, .f32⟩
  | .hbm, ⟨3, _⟩ => ⟨S33792x1024, .f32⟩
  | .hbm, ⟨4, _⟩ => ⟨S1024, .f32⟩
  | .hbm, ⟨5, _⟩ => ⟨S1024, .f32⟩
  | .hbm, ⟨6, _⟩ => ⟨S4x4x16896x128, .i32⟩
  | .hbm, ⟨7, _⟩ => ⟨S4x4x16896x128, .i32⟩
  | .hbm, ⟨8, _⟩ => ⟨S4x4x33792x128, .i32⟩
  | .hbm, ⟨9, _⟩ => ⟨S_, .i32⟩
  | .hbm, ⟨10, _⟩ => ⟨S4x4x33792x128, .i32⟩
  | .hbm, ⟨11, _⟩ => ⟨S4x4x33792x128, .i32⟩
  | .hbm, ⟨12, _⟩ => ⟨S4x4x33792x128, .f32⟩
  | .hbm, ⟨13, _⟩ => ⟨S_, .i32⟩
  | .hbm, ⟨14, _⟩ => ⟨S4x4x33792x128, .i32⟩
  | .hbm, ⟨15, _⟩ => ⟨S4x4x33792x128, .i32⟩
  | .hbm, ⟨16, _⟩ => ⟨S4x4x33792x128, .f32⟩
  | .hbm, ⟨17, _⟩ => ⟨S8x4x33792x128, .f32⟩
  | .hbm, ⟨18, _⟩ => ⟨S33792x4x8x128, .f32⟩
  | .hbm, ⟨19, _⟩ => ⟨S33792x4x1024, .f32⟩
  | .hbm, ⟨20, _⟩ => ⟨S_, .f32⟩
  | .hbm, ⟨21, _⟩ => ⟨S33792x1024, .f32⟩
  | .hbm, ⟨22, _⟩ => ⟨S33792x1024, .f32⟩
  | .hbm, ⟨23, _⟩ => ⟨S33792x4, .f32⟩
  | .hbm, ⟨24, _⟩ => ⟨S33792x1024, .f32⟩
  | .hbm, ⟨25, _⟩ => ⟨S33792x1024, .f32⟩
  | .hbm, ⟨26, _⟩ => ⟨S_, .f32⟩
  | .hbm, ⟨27, _⟩ => ⟨S33792, .f32⟩
  | .hbm, ⟨28, _⟩ => ⟨S33792x1, .f32⟩
  | .hbm, ⟨29, _⟩ => ⟨S_, .f32⟩
  | .hbm, ⟨30, _⟩ => ⟨S33792x1, .f32⟩
  | .hbm, ⟨31, _⟩ => ⟨S33792x1, .f32⟩
  | .hbm, ⟨32, _⟩ => ⟨S33792x1024, .f32⟩
  | .hbm, ⟨33, _⟩ => ⟨S33792x1024, .f32⟩
  | .hbm, ⟨34, _⟩ => ⟨S33792x1024, .f32⟩
  | .hbm, ⟨35, _⟩ => ⟨S_, .f32⟩
  | .hbm, ⟨36, _⟩ => ⟨S33792, .f32⟩
  | .hbm, ⟨37, _⟩ => ⟨S33792x1, .f32⟩
  | .hbm, ⟨38, _⟩ => ⟨S_, .f32⟩
  | .hbm, ⟨39, _⟩ => ⟨S33792x1, .f32⟩
  | .hbm, ⟨40, _⟩ => ⟨S33792x1, .f32⟩
  | .hbm, ⟨41, _⟩ => ⟨S33792x1024, .f32⟩
  | .hbm, ⟨42, _⟩ => ⟨S33792x1024, .f32⟩
  | .hbm, ⟨43, _⟩ => ⟨S_, .f32⟩
  | .hbm, ⟨44, _⟩ => ⟨S33792x1, .f32⟩
  | .hbm, ⟨45, _⟩ => ⟨S33792x1, .f32⟩
  | .hbm, ⟨46, _⟩ => ⟨S33792x1, .f32⟩
  | .hbm, ⟨47, _⟩ => ⟨S33792x1024, .f32⟩
  | .hbm, ⟨48, _⟩ => ⟨S33792x1024, .f32⟩
  | .hbm, ⟨49, _⟩ => ⟨S1x1024, .f32⟩
  | .hbm, ⟨50, _⟩ => ⟨S33792x1024, .f32⟩
  | .hbm, ⟨51, _⟩ => ⟨S33792x1024, .f32⟩
  | .hbm, ⟨52, _⟩ => ⟨S1x1024, .f32⟩
  | .hbm, ⟨53, _⟩ => ⟨S33792x1024, .f32⟩
  | .hbm, ⟨54, _⟩ => ⟨S33792x1024, .f32⟩
  | .hbm, ⟨55, _⟩ => ⟨S32768x1024, .f32⟩
  | .hbm, ⟨56, _⟩ => ⟨S4x8192x1024, .f32⟩
  | .hbm, ⟨57, _⟩ => ⟨S1024x1024, .f32⟩
  | .hbm, ⟨58, _⟩ => ⟨S16x64x1024, .f32⟩
  | _, _ => ⟨S4x67584x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩

abbrev nD : Nat := 1
abbrev τ : Topo := Topo.v7x

variable {F : FTy → Type} [FloatOps F]
-- ==== Kernel6.lean ====
abbrev S33792x2956 : Shape := ⟨2, ![33792, 2956]⟩
abbrev S6 : Shape := ⟨1, ![6]⟩
abbrev S33792x12 : Shape := ⟨2, ![33792, 12]⟩
abbrev S_ : Shape := ⟨0, ![]⟩
abbrev S33792x116 : Shape := ⟨2, ![33792, 116]⟩
abbrev S33792x128 : Shape := ⟨2, ![33792, 128]⟩
abbrev S33792x1536 : Shape := ⟨2, ![33792, 1536]⟩
abbrev S33792x768 : Shape := ⟨2, ![33792, 768]⟩
abbrev S33792x640 : Shape := ⟨2, ![33792, 640]⟩
abbrev S33792x3072 : Shape := ⟨2, ![33792, 3072]⟩
abbrev S8192 : Shape := ⟨1, ![8192]⟩
abbrev S32 : Shape := ⟨1, ![32]⟩
abbrev S8192x1 : Shape := ⟨2, ![8192, 1]⟩
abbrev S1x32 : Shape := ⟨2, ![1, 32]⟩
abbrev S8192x32 : Shape := ⟨2, ![8192, 32]⟩
abbrev S8192x128 : Shape := ⟨2, ![8192, 128]⟩
abbrev S1x128 : Shape := ⟨2, ![1, 128]⟩
abbrev S1 : Shape := ⟨1, ![1]⟩
abbrev S2 : Shape := ⟨1, ![2]⟩
abbrev S4x128x128 : Shape := ⟨3, ![4, 128, 128]⟩
abbrev S32768x128 : Shape := ⟨2, ![32768, 128]⟩
abbrev S256x768 : Shape := ⟨2, ![256, 768]⟩
abbrev S1x128x128 : Shape := ⟨3, ![1, 128, 128]⟩
abbrev S256x128 : Shape := ⟨2, ![256, 128]⟩
abbrev S256x384 : Shape := ⟨2, ![256, 384]⟩
abbrev S384x128 : Shape := ⟨2, ![384, 128]⟩
abbrev S128x128 : Shape := ⟨2, ![128, 128]⟩
abbrev S192x128 : Shape := ⟨2, ![192, 128]⟩
abbrev S64x128 : Shape := ⟨2, ![64, 128]⟩
abbrev S1x256 : Shape := ⟨2, ![1, 256]⟩
abbrev S1x1 : Shape := ⟨2, ![1, 1]⟩
abbrev S512x128 : Shape := ⟨2, ![512, 128]⟩
abbrev S64x512 : Shape := ⟨2, ![64, 512]⟩
abbrev S64x256 : Shape := ⟨2, ![64, 256]⟩
abbrev S64 : Shape := ⟨1, ![64]⟩
abbrev S64x1 : Shape := ⟨2, ![64, 1]⟩
abbrev S512x256 : Shape := ⟨2, ![512, 256]⟩
abbrev S4x8192x128 : Shape := ⟨3, ![4, 8192, 128]⟩
abbrev S4x128x2x64 : Shape := ⟨4, ![4, 128, 2, 64]⟩

abbrev nBuf : Space → Nat
  | .hbm => 46
  | .vmem => 17
  | .smem => 0
  | _ => 0

abbrev bufTy : (tb : Table) → Fin (tcTables nBuf tb) → BufTy
  | .hbm, ⟨0, _⟩ => ⟨S33792x2956, .f32⟩
  | .hbm, ⟨1, _⟩ => ⟨S6, .f32⟩
  | .hbm, ⟨2, _⟩ => ⟨S33792x12, .f32⟩
  | .hbm, ⟨3, _⟩ => ⟨S_, .f32⟩
  | .hbm, ⟨4, _⟩ => ⟨S33792x116, .f32⟩
  | .hbm, ⟨5, _⟩ => ⟨S33792x128, .f32⟩
  | .hbm, ⟨6, _⟩ => ⟨S33792x1536, .f32⟩
  | .hbm, ⟨7, _⟩ => ⟨S33792x768, .f32⟩
  | .hbm, ⟨8, _⟩ => ⟨S33792x640, .f32⟩
  | .hbm, ⟨9, _⟩ => ⟨S33792x3072, .f32⟩
  | .hbm, ⟨10, _⟩ => ⟨S8192, .i32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S8192, .f32⟩
  | .hbm, ⟨20, _⟩ => ⟨S8192x1, .f32⟩
  | .hbm, ⟨21, _⟩ => ⟨S1x32, .f32⟩
  | .hbm, ⟨22, _⟩ => ⟨S8192x32, .f32⟩
  | .hbm, ⟨23, _⟩ => ⟨S8192x32, .f32⟩
  | .hbm, ⟨24, _⟩ => ⟨S8192x32, .f32⟩
  | .hbm, ⟨25, _⟩ => ⟨S8192x32, .f32⟩
  | .hbm, ⟨26, _⟩ => ⟨S8192x32, .f32⟩
  | .hbm, ⟨27, _⟩ => ⟨S8192x128, .f32⟩
  | .hbm, ⟨28, _⟩ => ⟨S8192x32, .f32⟩
  | .hbm, ⟨29, _⟩ => ⟨S8192x32, .f32⟩
  | .hbm, ⟨30, _⟩ => ⟨S8192x128, .f32⟩
  | .hbm, ⟨31, _⟩ => ⟨S_, .f32⟩
  | .hbm, ⟨32, _⟩ => ⟨S1x128, .f32⟩
  | .hbm, ⟨33, _⟩ => ⟨S_, .i32⟩
  | .hbm, ⟨34, _⟩ => ⟨S1, .i32⟩
  | .hbm, ⟨35, _⟩ => ⟨S_, .i32⟩
  | .hbm, ⟨36, _⟩ => ⟨S1, .i32⟩
  | .hbm, ⟨37, _⟩ => ⟨S2, .i32⟩
  | .hbm, ⟨38, _⟩ => ⟨S1x128, .f32⟩
  | .hbm, ⟨39, _⟩ => ⟨S_, .f32⟩
  | .hbm, ⟨40, _⟩ => ⟨S4x128x128, .f32⟩
  | .hbm, ⟨41, _⟩ => ⟨S33792x3072, .f32⟩
  | .hbm, ⟨42, _⟩ => ⟨S32768x128, .f32⟩
  | .hbm, ⟨43, _⟩ => ⟨S4x8192x128, .f32⟩
  | .hbm, ⟨44, _⟩ => ⟨S4x128x128, .f32⟩
  | .hbm, ⟨45, _⟩ => ⟨S4x128x2x64, .f32⟩
  | .local _ .vmem, ⟨0, _⟩ => ⟨S256x768, .f32⟩
  | .local _ .vmem, ⟨1, _⟩ => ⟨S256x768, .f32⟩
  | .local _ .vmem, ⟨2, _⟩ => ⟨S1x128x128, .f32⟩
  | .local _ .vmem, ⟨3, _⟩ => ⟨S1x128x128, .f32⟩
  | .local _ .vmem, ⟨4, _⟩ => ⟨S1x128x128, .f32⟩
  | .local _ .vmem, ⟨5, _⟩ => ⟨S1x128x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S1x128, .f32⟩
  | .local _ .vmem, ⟨11, _⟩ => ⟨S256x384, .f32⟩
  | .local _ .vmem, ⟨12, _⟩ => ⟨S256x384, .f32⟩
  | .local _ .vmem, ⟨13, _⟩ => ⟨S256x128, .f32⟩
  | .local _ .vmem, ⟨14, _⟩ => ⟨S256x128, .f32⟩
  | .local _ .vmem, ⟨15, _⟩ => ⟨S384x128, .f32⟩
  | .local _ .vmem, ⟨16, _⟩ => ⟨S384x128, .f32⟩
  | _, _ => ⟨S33792x2956, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_cst_2 : Ref sig .tc := ⟨.hbm, 31, rfl⟩
abbrev main_v26 : Ref sig .tc := ⟨.hbm, 32, rfl⟩
abbrev main_c : Ref sig .tc := ⟨.hbm, 33, rfl⟩
abbrev main_v27 : Ref sig .tc := ⟨.hbm, 34, rfl⟩
abbrev main_c_3 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_4 : Ref sig .tc := ⟨.hbm, 39, rfl⟩
abbrev main_v31 : Ref sig .tc := ⟨.hbm, 40, rfl⟩
abbrev main_v32_0 : Ref sig .tc := ⟨.hbm, 41, rfl⟩
abbrev main_v32_1 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c0_i32 : BitVec 32 := 0#32
  let v1 : BitVec 32 := Scalar.addi c0_i32 v0
  let v2 : BitVec 32 := Scalar.addi v1 arg1
  let c3_i32 : BitVec 32 := 3#32
  let c0_i32_0 : BitVec 32 := 0#32
  ![v2.toNat, c3_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c0_i32 : BitVec 32 := 0#32
  let v1 : BitVec 32 := Scalar.addi c0_i32 v0
  let v2 : BitVec 32 := Scalar.addi v1 arg1
  let c1_i32 : BitVec 32 := 1#32
  let c0_i32_0 : BitVec 32 := 0#32
  ![v2.toNat, c1_i32.toNat]

def cc0_transform_7 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S256x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference6Ideal.lean ====
abbrev S33792x2956 : Shape := ⟨2, ![33792, 2956]⟩
abbrev S6 : Shape := ⟨1, ![6]⟩
abbrev S32768x2956 : Shape := ⟨2, ![32768, 2956]⟩
abbrev S4x8192x2956 : Shape := ⟨3, ![4, 8192, 2956]⟩
abbrev S4x8192x128 : Shape := ⟨3, ![4, 8192, 128]⟩
abbrev S4x8192x2x64 : Shape := ⟨4, ![4, 8192, 2, 64]⟩
abbrev S8192 : Shape := ⟨1, ![8192]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S1x8192x1x32 : Shape := ⟨4, ![1, 8192, 1, 32]⟩
abbrev S4x8192x2x32 : Shape := ⟨4, ![4, 8192, 2, 32]⟩
abbrev S4x128x2x64 : Shape := ⟨4, ![4, 128, 2, 64]⟩

abbrev nBuf : Space → Nat
  | .hbm => 39
  | .vmem => 0
  | .smem => 0
  | _ => 0

abbrev bufTy : (tb : Table) → Fin (tcTables nBuf tb) → BufTy
  | .hbm, ⟨0, _⟩ => ⟨S33792x2956, .f32⟩
  | .hbm, ⟨1, _⟩ => ⟨S6, .f32⟩
  | .hbm, ⟨2, _⟩ => ⟨S32768x2956, .f32⟩
  | .hbm, ⟨3, _⟩ => ⟨S4x8192x2956, .f32⟩
  | .hbm, ⟨4, _⟩ => ⟨S4x8192x128, .f32⟩
  | .hbm, ⟨5, _⟩ => ⟨S4x8192x2x64, .f32⟩
  | .hbm, ⟨6, _⟩ => ⟨S8192, .i32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S8192, .f32⟩
  | .hbm, ⟨16, _⟩ => ⟨S8192x1, .f32⟩
  | .hbm, ⟨17, _⟩ => ⟨S1x32, .f32⟩
  | .hbm, ⟨18, _⟩ => ⟨S8192x32, .f32⟩
  | .hbm, ⟨19, _⟩ => ⟨S8192x32, .f32⟩
  | .hbm, ⟨20, _⟩ => ⟨S8192x32, .f32⟩
  | .hbm, ⟨21, _⟩ => ⟨S8192x32, .f32⟩
  | .hbm, ⟨22, _⟩ => ⟨S1x8192x1x32, .f32⟩
  | .hbm, ⟨23, _⟩ => ⟨S8192x32, .f32⟩
  | .hbm, ⟨24, _⟩ => ⟨S1x8192x1x32, .f32⟩
  | .hbm, ⟨25, _⟩ => ⟨S4x8192x2x32, .f32⟩
  | .hbm, ⟨26, _⟩ => ⟨S4x8192x2x32, .f32⟩
  | .hbm, ⟨27, _⟩ => ⟨S4x8192x2x32, .f32⟩
  | .hbm, ⟨28, _⟩ => ⟨S4x8192x2x32, .f32⟩
  | .hbm, ⟨29, _⟩ => ⟨S4x8192x2x32, .f32⟩
  | .hbm, ⟨30, _⟩ => ⟨S4x8192x2x32, .f32⟩
  | .hbm, ⟨31, _⟩ => ⟨S4x8192x2x32, .f32⟩
  | .hbm, ⟨32, _⟩ => ⟨S4x8192x2x32, .f32⟩
  | .hbm, ⟨33, _⟩ => ⟨S4x8192x2x32, .f32⟩
  | .hbm, ⟨34, _⟩ => ⟨S4x8192x2x32, .f32⟩
  | .hbm, ⟨35, _⟩ => ⟨S4x8192x2x32, .f32⟩
  | .hbm, ⟨36, _⟩ => ⟨S4x8192x2x32, .f32⟩
  | .hbm, ⟨37, _⟩ => ⟨S4x8192x2x64, .f32⟩
  | .hbm, ⟨38, _⟩ => ⟨S4x128x2x64, .f32⟩
  | _, _ => ⟨S33792x2956, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩

abbrev nD : Nat := 1
abbrev τ : Topo := Topo.v7x

variable {F : FTy → Type} [FloatOps F]
-- ==== Kernel7.lean ====
abbrev S33792x2956 : Shape := ⟨2, ![33792, 2956]⟩
abbrev S16x128x2x64 : Shape := ⟨4, ![16, 128, 2, 64]⟩
abbrev S6 : Shape := ⟨1, ![6]⟩
abbrev S33792x12 : Shape := ⟨2, ![33792, 12]⟩
abbrev S_ : Shape := ⟨0, ![]⟩
abbrev S33792x116 : Shape := ⟨2, ![33792, 116]⟩
abbrev S33792x128 : Shape := ⟨2, ![33792, 128]⟩
abbrev S33792x1536 : Shape := ⟨2, ![33792, 1536]⟩
abbrev S33792x768 : Shape := ⟨2, ![33792, 768]⟩
abbrev S33792x640 : Shape := ⟨2, ![33792, 640]⟩
abbrev S33792x3072 : Shape := ⟨2, ![33792, 3072]⟩
abbrev S64 : Shape := ⟨1, ![64]⟩
abbrev S32 : Shape := ⟨1, ![32]⟩
abbrev S64x1 : Shape := ⟨2, ![64, 1]⟩
abbrev S1x32 : Shape := ⟨2, ![1, 32]⟩
abbrev S64x32 : Shape := ⟨2, ![64, 32]⟩
abbrev S64x128 : Shape := ⟨2, ![64, 128]⟩
abbrev S1x128 : Shape := ⟨2, ![1, 128]⟩
abbrev S1 : Shape := ⟨1, ![1]⟩
abbrev S2 : Shape := ⟨1, ![2]⟩
abbrev S16x128x128 : Shape := ⟨3, ![16, 128, 128]⟩
abbrev S1024x128 : Shape := ⟨2, ![1024, 128]⟩
abbrev S64x768 : Shape := ⟨2, ![64, 768]⟩
abbrev S1x128x128 : Shape := ⟨3, ![1, 128, 128]⟩
abbrev S64x384 : Shape := ⟨2, ![64, 384]⟩
abbrev S192x128 : Shape := ⟨2, ![192, 128]⟩
abbrev S128x128 : Shape := ⟨2, ![128, 128]⟩
abbrev S1x256 : Shape := ⟨2, ![1, 256]⟩
abbrev S1x1 : Shape := ⟨2, ![1, 1]⟩
abbrev S512x128 : Shape := ⟨2, ![512, 128]⟩
abbrev S64x512 : Shape := ⟨2, ![64, 512]⟩
abbrev S64x256 : Shape := ⟨2, ![64, 256]⟩
abbrev S512x256 : Shape := ⟨2, ![512, 256]⟩
abbrev S16x64x2x64 : Shape := ⟨4, ![16, 64, 2, 64]⟩

abbrev nBuf : Space → Nat
  | .hbm => 49
  | .vmem => 15
  | .smem => 0
  | _ => 0

abbrev bufTy : (tb : Table) → Fin (tcTables nBuf tb) → BufTy
  | .hbm, ⟨0, _⟩ => ⟨S33792x2956, .f32⟩
  | .hbm, ⟨1, _⟩ => ⟨S16x128x2x64, .f32⟩
  | .hbm, ⟨2, _⟩ => ⟨S16x128x2x64, .f32⟩
  | .hbm, ⟨3, _⟩ => ⟨S6, .f32⟩
  | .hbm, ⟨4, _⟩ => ⟨S33792x12, .f32⟩
  | .hbm, ⟨5, _⟩ => ⟨S_, .f32⟩
  | .hbm, ⟨6, _⟩ => ⟨S33792x116, .f32⟩
  | .hbm, ⟨7, _⟩ => ⟨S33792x128, .f32⟩
  | .hbm, ⟨8, _⟩ => ⟨S33792x1536, .f32⟩
  | .hbm, ⟨9, _⟩ => ⟨S33792x768, .f32⟩
  | .hbm, ⟨10, _⟩ => ⟨S33792x640, .f32⟩
  | .hbm, ⟨11, _⟩ => ⟨S33792x3072, .f32⟩
  | .hbm, ⟨12, _⟩ => ⟨S64, .i32⟩
  | .hbm, ⟨13, _⟩ => ⟨S_, .i32⟩
  | .hbm, ⟨14, _⟩ => ⟨S64, .i32⟩
  | .hbm, ⟨15, _⟩ => ⟨S64, .i32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S_, .f32⟩
  | .hbm, ⟨22, _⟩ => ⟨S32, .f32⟩
  | .hbm, ⟨23, _⟩ => ⟨S32, .f32⟩
  | .hbm, ⟨24, _⟩ => ⟨S64, .f32⟩
  | .hbm, ⟨25, _⟩ => ⟨S64x1, .f32⟩
  | .hbm, ⟨26, _⟩ => ⟨S1x32, .f32⟩
  | .hbm, ⟨27, _⟩ => ⟨S64x32, .f32⟩
  | .hbm, ⟨28, _⟩ => ⟨S64x32, .f32⟩
  | .hbm, ⟨29, _⟩ => ⟨S64x32, .f32⟩
  | .hbm, ⟨30, _⟩ => ⟨S64x32, .f32⟩
  | .hbm, ⟨31, _⟩ => ⟨S64x32, .f32⟩
  | .hbm, ⟨32, _⟩ => ⟨S64x128, .f32⟩
  | .hbm, ⟨33, _⟩ => ⟨S64x32, .f32⟩
  | .hbm, ⟨34, _⟩ => ⟨S64x32, .f32⟩
  | .hbm, ⟨35, _⟩ => ⟨S64x128, .f32⟩
  | .hbm, ⟨36, _⟩ => ⟨S_, .f32⟩
  | .hbm, ⟨37, _⟩ => ⟨S1x128, .f32⟩
  | .hbm, ⟨38, _⟩ => ⟨S_, .i32⟩
  | .hbm, ⟨39, _⟩ => ⟨S1, .i32⟩
  | .hbm, ⟨40, _⟩ => ⟨S_, .i32⟩
  | .hbm, ⟨41, _⟩ => ⟨S1, .i32⟩
  | .hbm, ⟨42, _⟩ => ⟨S2, .i32⟩
  | .hbm, ⟨43, _⟩ => ⟨S1x128, .f32⟩
  | .hbm, ⟨44, _⟩ => ⟨S16x128x128, .f32⟩
  | .hbm, ⟨45, _⟩ => ⟨S16x128x128, .f32⟩
  | .hbm, ⟨46, _⟩ => ⟨S33792x3072, .f32⟩
  | .hbm, ⟨47, _⟩ => ⟨S1024x128, .f32⟩
  | .hbm, ⟨48, _⟩ => ⟨S16x64x2x64, .f32⟩
  | .local _ .vmem, ⟨0, _⟩ => ⟨S64x768, .f32⟩
  | .local _ .vmem, ⟨1, _⟩ => ⟨S64x768, .f32⟩
  | .local _ .vmem, ⟨2, _⟩ => ⟨S1x128x128, .f32⟩
  | .local _ .vmem, ⟨3, _⟩ => ⟨S1x128x128, .f32⟩
  | .local _ .vmem, ⟨4, _⟩ => ⟨S1x128x128, .f32⟩
  | .local _ .vmem, ⟨5, _⟩ => ⟨S1x128x128, .f32⟩
  | .local _ .vmem, ⟨6, _⟩ => ⟨S64x128, .f32⟩
  | .local _ .vmem, ⟨7, _⟩ => ⟨S64x128, .f32⟩
  | .local _ .vmem, ⟨8, _⟩ => ⟨S1x128, .f32⟩
  | .local _ .vmem, ⟨9, _⟩ => ⟨S64x384, .f32⟩
  | .local _ .vmem, ⟨10, _⟩ => ⟨S64x384, .f32⟩
  | .local _ .vmem, ⟨11, _⟩ => ⟨S64x128, .f32⟩
  | .local _ .vmem, ⟨12, _⟩ => ⟨S64x128, .f32⟩
  | .local _ .vmem, ⟨13, _⟩ => ⟨S192x128, .f32⟩
  | .local _ .vmem, ⟨14, _⟩ => ⟨S192x128, .f32⟩
  | _, _ => ⟨S33792x2956, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_2 : Ref sig .tc := ⟨.hbm, 36, rfl⟩
abbrev main_v28 : Ref sig .tc := ⟨.hbm, 37, rfl⟩
abbrev main_c_3 : Ref sig .tc := ⟨.hbm, 38, rfl⟩
abbrev main_v29 : Ref sig .tc := ⟨.hbm, 39, rfl⟩
abbrev main_c_4 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35_0 : Ref sig .tc := ⟨.hbm, 46, rfl⟩
abbrev main_v35_1 : Ref sig .tc := ⟨.hbm, 47, rfl⟩
abbrev main_v36 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c512_i32 : BitVec 32 := 512#32
  let v1 : BitVec 32 := Scalar.addi c512_i32 v0
  let v2 : BitVec 32 := Scalar.addi v1 arg1
  let c3_i32 : BitVec 32 := 3#32
  let c0_i32 : BitVec 32 := 0#32
  ![v2.toNat, c3_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c512_i32 : BitVec 32 := 512#32
  let v1 : BitVec 32 := Scalar.addi c512_i32 v0
  let v2 : BitVec 32 := Scalar.addi v1 arg1
  let c1_i32_0 : BitVec 32 := 1#32
  let c0_i32 : BitVec 32 := 0#32
  ![v2.toNat, c1_i32_0.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S64x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S64x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S64x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference7Ideal.lean ====
abbrev S33792x2956 : Shape := ⟨2, ![33792, 2956]⟩
abbrev S16x128x2x64 : Shape := ⟨4, ![16, 128, 2, 64]⟩
abbrev S6 : Shape := ⟨1, ![6]⟩
abbrev S1024x2956 : Shape := ⟨2, ![1024, 2956]⟩
abbrev S16x64x2956 : Shape := ⟨3, ![16, 64, 2956]⟩
abbrev S16x64x128 : Shape := ⟨3, ![16, 64, 128]⟩
abbrev S16x64x2x64 : Shape := ⟨4, ![16, 64, 2, 64]⟩
abbrev S64 : Shape := ⟨1, ![64]⟩
abbrev S_ : Shape := ⟨0, ![]⟩
abbrev S32 : Shape := ⟨1, ![32]⟩
abbrev S64x1 : Shape := ⟨2, ![64, 1]⟩
abbrev S1x32 : Shape := ⟨2, ![1, 32]⟩
abbrev S64x32 : Shape := ⟨2, ![64, 32]⟩
abbrev S1x64x1x32 : Shape := ⟨4, ![1, 64, 1, 32]⟩
abbrev S16x64x2x32 : Shape := ⟨4, ![16, 64, 2, 32]⟩

abbrev nBuf : Space → Nat
  | .hbm => 43
  | .vmem => 0
  | .smem => 0
  | _ => 0

abbrev bufTy : (tb : Table) → Fin (tcTables nBuf tb) → BufTy
  | .hbm, ⟨0, _⟩ => ⟨S33792x2956, .f32⟩
  | .hbm, ⟨1, _⟩ => ⟨S16x128x2x64, .f32⟩
  | .hbm, ⟨2, _⟩ => ⟨S16x128x2x64, .f32⟩
  | .hbm, ⟨3, _⟩ => ⟨S6, .f32⟩
  | .hbm, ⟨4, _⟩ => ⟨S1024x2956, .f32⟩
  | .hbm, ⟨5, _⟩ => ⟨S16x64x2956, .f32⟩
  | .hbm, ⟨6, _⟩ => ⟨S16x64x128, .f32⟩
  | .hbm, ⟨7, _⟩ => ⟨S16x64x2x64, .f32⟩
  | .hbm, ⟨8, _⟩ => ⟨S64, .i32⟩
  | .hbm, ⟨9, _⟩ => ⟨S_, .i32⟩
  | .hbm, ⟨10, _⟩ => ⟨S64, .i32⟩
  | .hbm, ⟨11, _⟩ => ⟨S64, .i32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S64, .f32⟩
  | .hbm, ⟨21, _⟩ => ⟨S64x1, .f32⟩
  | .hbm, ⟨22, _⟩ => ⟨S1x32, .f32⟩
  | .hbm, ⟨23, _⟩ => ⟨S64x32, .f32⟩
  | .hbm, ⟨24, _⟩ => ⟨S64x32, .f32⟩
  | .hbm, ⟨25, _⟩ => ⟨S64x32, .f32⟩
  | .hbm, ⟨26, _⟩ => ⟨S64x32, .f32⟩
  | .hbm, ⟨27, _⟩ => ⟨S1x64x1x32, .f32⟩
  | .hbm, ⟨28, _⟩ => ⟨S64x32, .f32⟩
  | .hbm, ⟨29, _⟩ => ⟨S1x64x1x32, .f32⟩
  | .hbm, ⟨30, _⟩ => ⟨S16x64x2x32, .f32⟩
  | .hbm, ⟨31, _⟩ => ⟨S16x64x2x32, .f32⟩
  | .hbm, ⟨32, _⟩ => ⟨S16x64x2x32, .f32⟩
  | .hbm, ⟨33, _⟩ => ⟨S16x64x2x32, .f32⟩
  | .hbm, ⟨34, _⟩ => ⟨S16x64x2x32, .f32⟩
  | .hbm, ⟨35, _⟩ => ⟨S16x64x2x32, .f32⟩
  | .hbm, ⟨36, _⟩ => ⟨S16x64x2x32, .f32⟩
  | .hbm, ⟨37, _⟩ => ⟨S16x64x2x32, .f32⟩
  | .hbm, ⟨38, _⟩ => ⟨S16x64x2x32, .f32⟩
  | .hbm, ⟨39, _⟩ => ⟨S16x64x2x32, .f32⟩
  | .hbm, ⟨40, _⟩ => ⟨S16x64x2x32, .f32⟩
  | .hbm, ⟨41, _⟩ => ⟨S16x64x2x32, .f32⟩
  | .hbm, ⟨42, _⟩ => ⟨S16x64x2x64, .f32⟩
  | _, _ => ⟨S33792x2956, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩

abbrev nD : Nat := 1
abbrev τ : Topo := Topo.v7x

variable {F : FTy → Type} [FloatOps F]
-- ==== Kernel8.lean ====
abbrev S33792x2956 : Shape := ⟨2, ![33792, 2956]⟩
abbrev S4x1152 : Shape := ⟨2, ![4, 1152]⟩
abbrev S6 : Shape := ⟨1, ![6]⟩
abbrev S64 : Shape := ⟨1, ![64]⟩
abbrev S3x256 : Shape := ⟨2, ![3, 256]⟩
abbrev S33792x12 : Shape := ⟨2, ![33792, 12]⟩
abbrev S_ : Shape := ⟨0, ![]⟩
abbrev S33792x116 : Shape := ⟨2, ![33792, 116]⟩
abbrev S33792x128 : Shape := ⟨2, ![33792, 128]⟩
abbrev S33792x1536 : Shape := ⟨2, ![33792, 1536]⟩
abbrev S33792x768 : Shape := ⟨2, ![33792, 768]⟩
abbrev S33792x640 : Shape := ⟨2, ![33792, 640]⟩
abbrev S33792x3072 : Shape := ⟨2, ![33792, 3072]⟩
abbrev S8x128 : Shape := ⟨2, ![8, 128]⟩
abbrev S1 : Shape := ⟨1, ![1]⟩
abbrev S2 : Shape := ⟨1, ![2]⟩
abbrev S1x64 : Shape := ⟨2, ![1, 64]⟩
abbrev S1x1x1x64 : Shape := ⟨4, ![1, 1, 1, 64]⟩
abbrev S1x1x6x64 : Shape := ⟨4, ![1, 1, 6, 64]⟩
abbrev S1x384 : Shape := ⟨2, ![1, 384]⟩
abbrev S4x3x1152 : Shape := ⟨3, ![4, 3, 1152]⟩
abbrev S4x6x64x64 : Shape := ⟨4, ![4, 6, 64, 64]⟩
abbrev S4x2x256 : Shape := ⟨3, ![4, 2, 256]⟩
abbrev S256x3072 : Shape := ⟨2, ![256, 3072]⟩
abbrev S1x3x1152 : Shape := ⟨3, ![1, 3, 1152]⟩
abbrev S1x6x64x64 : Shape := ⟨4, ![1, 6, 64, 64]⟩
abbrev S1x2x256 : Shape := ⟨3, ![1, 2, 256]⟩
abbrev S256x1024 : Shape := ⟨2, ![256, 1024]⟩
abbrev S264x1152 : Shape := ⟨2, ![264, 1152]⟩
abbrev S264x256 : Shape := ⟨2, ![264, 256]⟩
abbrev S3x128x128 : Shape := ⟨3, ![3, 128, 128]⟩
abbrev S256x384 : Shape := ⟨2, ![256, 384]⟩
abbrev S2x7x256x384 : Shape := ⟨4, ![2, 7, 256, 384]⟩
abbrev S2x2x256x384 : Shape := ⟨4, ![2, 2, 256, 384]⟩
abbrev S2x256x640 : Shape := ⟨3, ![2, 256, 640]⟩
abbrev S5x1152 : Shape := ⟨2, ![5, 1152]⟩
abbrev S3x1152 : Shape := ⟨2, ![3, 1152]⟩
abbrev S8x1152 : Shape := ⟨2, ![8, 1152]⟩
abbrev S6x256 : Shape := ⟨2, ![6, 256]⟩
abbrev S2x256 : Shape := ⟨2, ![2, 256]⟩
abbrev S8x256 : Shape := ⟨2, ![8, 256]⟩
abbrev S64x64 : Shape := ⟨2, ![64, 64]⟩
abbrev S1x1x64x64 : Shape := ⟨4, ![1, 1, 64, 64]⟩
abbrev S64x128 : Shape := ⟨2, ![64, 128]⟩
abbrev S128x128 : Shape := ⟨2, ![128, 128]⟩
abbrev S1x128x128 : Shape := ⟨3, ![1, 128, 128]⟩
abbrev S384x384 : Shape := ⟨2, ![384, 384]⟩
abbrev S128x384 : Shape := ⟨2, ![128, 384]⟩
abbrev S1x1x256x384 : Shape := ⟨4, ![1, 1, 256, 384]⟩
abbrev S1x256x640 : Shape := ⟨3, ![1, 256, 640]⟩
abbrev S256x640 : Shape := ⟨2, ![256, 640]⟩
abbrev S256x1152 : Shape := ⟨2, ![256, 1152]⟩
abbrev S256x256 : Shape := ⟨2, ![256, 256]⟩
abbrev S128 : Shape := ⟨1, ![128]⟩
abbrev S1x128 : Shape := ⟨2, ![1, 128]⟩
abbrev S1x1152 : Shape := ⟨2, ![1, 1152]⟩
abbrev S64x1152 : Shape := ⟨2, ![64, 1152]⟩
abbrev S1x256 : Shape := ⟨2, ![1, 256]⟩
abbrev S64x256 : Shape := ⟨2, ![64, 256]⟩
abbrev S64x384 : Shape := ⟨2, ![64, 384]⟩
abbrev S64x640 : Shape := ⟨2, ![64, 640]⟩
abbrev S1x64x640 : Shape := ⟨3, ![1, 64, 640]⟩
abbrev S1x1x64x384 : Shape := ⟨4, ![1, 1, 64, 384]⟩
abbrev S128x256 : Shape := ⟨2, ![128, 256]⟩
abbrev S1x64x64 : Shape := ⟨3, ![1, 64, 64]⟩

abbrev nBuf : Space → Nat
  | .hbm => 42
  | .vmem => 27
  | .smem => 0
  | _ => 0

abbrev bufTy : (tb : Table) → Fin (tcTables nBuf tb) → BufTy
  | .hbm, ⟨0, _⟩ => ⟨S33792x2956, .f32⟩
  | .hbm, ⟨1, _⟩ => ⟨S4x1152, .f32⟩
  | .hbm, ⟨2, _⟩ => ⟨S6, .f32⟩
  | .hbm, ⟨3, _⟩ => ⟨S6, .f32⟩
  | .hbm, ⟨4, _⟩ => ⟨S64, .f32⟩
  | .hbm, ⟨5, _⟩ => ⟨S3x256, .f32⟩
  | .hbm, ⟨6, _⟩ => ⟨S33792x12, .f32⟩
  | .hbm, ⟨7, _⟩ => ⟨S_, .f32⟩
  | .hbm, ⟨8, _⟩ => ⟨S33792x116, .f32⟩
  | .hbm, ⟨9, _⟩ => ⟨S33792x128, .f32⟩
  | .hbm, ⟨10, _⟩ => ⟨S33792x1536, .f32⟩
  | .hbm, ⟨11, _⟩ => ⟨S33792x768, .f32⟩
  | .hbm, ⟨12, _⟩ => ⟨S33792x640, .f32⟩
  | .hbm, ⟨13, _⟩ => ⟨S33792x3072, .f32⟩
  | .hbm, ⟨14, _⟩ => ⟨S_, .f32⟩
  | .hbm, ⟨15, _⟩ => ⟨S8x128, .f32⟩
  | .hbm, ⟨16, _⟩ => ⟨S_, .i32⟩
  | .hbm, ⟨17, _⟩ => ⟨S1, .i32⟩
  | .hbm, ⟨18, _⟩ => ⟨S_, .i32⟩
  | .hbm, ⟨19, _⟩ => ⟨S1, .i32⟩
  | .hbm, ⟨20, _⟩ => ⟨S2, .i32⟩
  | .hbm, ⟨21, _⟩ => ⟨S8x128, .f32⟩
  | .hbm, ⟨22, _⟩ => ⟨S_, .i32⟩
  | .hbm, ⟨23, _⟩ => ⟨S1, .i32⟩
  | .hbm, ⟨24, _⟩ => ⟨S_, .i32⟩
  | .hbm, ⟨25, _⟩ => ⟨S1, .i32⟩
  | .hbm, ⟨26, _⟩ => ⟨S2, .i32⟩
  | .hbm, ⟨27, _⟩ => ⟨S8x128, .f32⟩
  | .hbm, ⟨28, _⟩ => ⟨S1x64, .f32⟩
  | .hbm, ⟨29, _⟩ => ⟨S1x1x1x64, .f32⟩
  | .hbm, ⟨30, _⟩ => ⟨S1x1x6x64, .f32⟩
  | .hbm, ⟨31, _⟩ => ⟨S1x384, .f32⟩
  | .hbm, ⟨32, _⟩ => ⟨S_, .f32⟩
  | .hbm, ⟨33, _⟩ => ⟨S4x3x1152, .f32⟩
  | .hbm, ⟨34, _⟩ => ⟨S_, .f32⟩
  | .hbm, ⟨35, _⟩ => ⟨S4x6x64x64, .f32⟩
  | .hbm, ⟨36, _⟩ => ⟨S_, .f32⟩
  | .hbm, ⟨37, _⟩ => ⟨S4x2x256, .f32⟩
  | .hbm, ⟨38, _⟩ => ⟨S33792x3072, .f32⟩
  | .hbm, ⟨39, _⟩ => ⟨S4x3x1152, .f32⟩
  | .hbm, ⟨40, _⟩ => ⟨S4x6x64x64, .f32⟩
  | .hbm, ⟨41, _⟩ => ⟨S4x2x256, .f32⟩
  | .local _ .vmem, ⟨0, _⟩ => ⟨S256x3072, .f32⟩
  | .local _ .vmem, ⟨1, _⟩ => ⟨S256x3072, .f32⟩
  | .local _ .vmem, ⟨2, _⟩ => ⟨S1x3x1152, .f32⟩
  | .local _ .vmem, ⟨3, _⟩ => ⟨S1x3x1152, .f32⟩
  | .local _ .vmem, ⟨4, _⟩ => ⟨S1x6x64x64, .f32⟩
  | .local _ .vmem, ⟨5, _⟩ => ⟨S1x6x64x64, .f32⟩
  | .local _ .vmem, ⟨6, _⟩ => ⟨S1x2x256, .f32⟩
  | .local _ .vmem, ⟨7, _⟩ => ⟨S1x2x256, .f32⟩
  | .local _ .vmem, ⟨8, _⟩ => ⟨S4x1152, .f32⟩
  | .local _ .vmem, ⟨9, _⟩ => ⟨S3x256, .f32⟩
  | .local _ .vmem, ⟨10, _⟩ => ⟨S8x128, .f32⟩
  | .local _ .vmem, ⟨11, _⟩ => ⟨S1x384, .f32⟩
  | .local _ .vmem, ⟨12, _⟩ => ⟨S256x1024, .f32⟩
  | .local _ .vmem, ⟨13, _⟩ => ⟨S256x1024, .f32⟩
  | .local _ .vmem, ⟨14, _⟩ => ⟨S1x3x1152, .f32⟩
  | .local _ .vmem, ⟨15, _⟩ => ⟨S1x3x1152, .f32⟩
  | .local _ .vmem, ⟨16, _⟩ => ⟨S1x6x64x64, .f32⟩
  | .local _ .vmem, ⟨17, _⟩ => ⟨S1x6x64x64, .f32⟩
  | .local _ .vmem, ⟨18, _⟩ => ⟨S1x2x256, .f32⟩
  | .local _ .vmem, ⟨19, _⟩ => ⟨S1x2x256, .f32⟩
  | .local _ .vmem, ⟨20, _⟩ => ⟨S264x1152, .f32⟩
  | .local _ .vmem, ⟨21, _⟩ => ⟨S264x256, .f32⟩
  | .local _ .vmem, ⟨22, _⟩ => ⟨S3x128x128, .f32⟩
  | .local _ .vmem, ⟨23, _⟩ => ⟨S256x384, .f32⟩
  | .local _ .vmem, ⟨24, _⟩ => ⟨S2x7x256x384, .bf16⟩
  | .local _ .vmem, ⟨25, _⟩ => ⟨S2x2x256x384, .f32⟩
  | .local _ .vmem, ⟨26, _⟩ => ⟨S2x256x640, .f32⟩
  | _, _ => ⟨S33792x2956, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_c : Ref sig .tc := ⟨.hbm, 16, rfl⟩
abbrev main_v8 : Ref sig .tc := ⟨.hbm, 17, rfl⟩
abbrev main_c_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_2 : Ref sig .tc := ⟨.hbm, 22, rfl⟩
abbrev main_v12 : Ref sig .tc := ⟨.hbm, 23, rfl⟩
abbrev main_c_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_cst_6 : Ref sig .tc := ⟨.hbm, 36, rfl⟩
abbrev main_v22 : Ref sig .tc := ⟨.hbm, 37, rfl⟩
abbrev main_v23_0 : Ref sig .tc := ⟨.hbm, 38, rfl⟩
abbrev main_v23_1 : Ref sig .tc := ⟨.hbm, 39, rfl⟩
abbrev main_v23_2 : Ref sig .tc := ⟨.hbm, 40, rfl⟩
abbrev main_v23_3 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_scratch6 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨2, ![4, 33], ![false, false]⟩

def k0_off1 (i : grid0.Coords) : Fin 4 → Nat :=
  let c1_i32_35 : BitVec 32 := 1#32
  let arg1 : BitVec 32 := BitVec.ofNat 32 (i 1).val
  let c1_i32_34 : BitVec 32 := 1#32
  let v132 : BitVec 32 := Scalar.andi arg1 c1_i32_34
  let v133 : BitVec 32 := Scalar.subi c1_i32_35 v132
  let v134 : Index := Scalar.indexCast v133
  let c0 : Index := 0#32
  let c0_36 : Index := 0#32
  let c0_37 : Index := 0#32
  ![v134.toNat, 0, 0, 0]
def k0_off2 (i : grid0.Coords) : Fin 4 → Nat :=
  let c1_i32_35 : BitVec 32 := 1#32
  let arg1 : BitVec 32 := BitVec.ofNat 32 (i 1).val
  let c1_i32_34 : BitVec 32 := 1#32
  let v132 : BitVec 32 := Scalar.andi arg1 c1_i32_34
  let v133 : BitVec 32 := Scalar.subi c1_i32_35 v132
  let v137 : Index := Scalar.indexCast v133
  let c1 : Index := 1#32
  let c0_38 : Index := 0#32
  let c0_39 : Index := 0#32
  ![v137.toNat, 1, 0, 0]
def k0_off3 (i : grid0.Coords) : Fin 4 → Nat :=
  let c1_i32_35 : BitVec 32 := 1#32
  let arg1 : BitVec 32 := BitVec.ofNat 32 (i 1).val
  let c1_i32_34 : BitVec 32 := 1#32
  let v132 : BitVec 32 := Scalar.andi arg1 c1_i32_34
  let v133 : BitVec 32 := Scalar.subi c1_i32_35 v132
  let v140 : Index := Scalar.indexCast v133
  let c2 : Index := 2#32
  let c0_40 : Index := 0#32
  let c0_41 : Index := 0#32
  ![v140.toNat, 2, 0, 0]
def k0_off4 (i : grid0.Coords) : Fin 4 → Nat :=
  let c1_i32_35 : BitVec 32 := 1#32
  let arg1 : BitVec 32 := BitVec.ofNat 32 (i 1).val
  let c1_i32_34 : BitVec 32 := 1#32
  let v132 : BitVec 32 := Scalar.andi arg1 c1_i32_34
  let v133 : BitVec 32 := Scalar.subi c1_i32_35 v132
  let v143 : Index := Scalar.indexCast v133
  let c3 : Index := 3#32
  let c0_42 : Index := 0#32
  let c0_43 : Index := 0#32
  ![v143.toNat, 3, 0, 0]
def k0_off5 (i : grid0.Coords) : Fin 4 → Nat :=
  let c1_i32_35 : BitVec 32 := 1#32
  let arg1 : BitVec 32 := BitVec.ofNat 32 (i 1).val
  let c1_i32_34 : BitVec 32 := 1#32
  let v132 : BitVec 32 := Scalar.andi arg1 c1_i32_34
  let v133 : BitVec 32 := Scalar.subi c1_i32_35 v132
  let v146 : Index := Scalar.indexCast v133
  let c4 : Index := 4#32
  let c0_44 : Index := 0#32
  let c0_45 : Index := 0#32
  ![v146.toNat, 4, 0, 0]
def k0_off6 (i : grid0.Coords) : Fin 4 → Nat :=
  let c1_i32_35 : BitVec 32 := 1#32
  let arg1 : BitVec 32 := BitVec.ofNat 32 (i 1).val
  let c1_i32_34 : BitVec 32 := 1#32
  let v132 : BitVec 32 := Scalar.andi arg1 c1_i32_34
  let v133 : BitVec 32 := Scalar.subi c1_i32_35 v132
  let v149 : Index := Scalar.indexCast v133
  let c5 : Index := 5#32
  let c0_46 : Index := 0#32
  let c0_47 : Index := 0#32
  ![v149.toNat, 5, 0, 0]
def k0_off7 (i : grid0.Coords) : Fin 4 → Nat :=
  let c1_i32_35 : BitVec 32 := 1#32
  let arg1 : BitVec 32 := BitVec.ofNat 32 (i 1).val
  let c1_i32_34 : BitVec 32 := 1#32
  let v132 : BitVec 32 := Scalar.andi arg1 c1_i32_34
  let v133 : BitVec 32 := Scalar.subi c1_i32_35 v132
  let v152 : Index := Scalar.indexCast v133
  let c6 : Index := 6#32
  let c0_48 : Index := 0#32
  let c0_49 : Index := 0#32
  ![v152.toNat, 6, 0, 0]
def k0_off8 (i : grid0.Coords) : Fin 4 → Nat :=
  let c1_i32_35 : BitVec 32 := 1#32
  let arg1 : BitVec 32 := BitVec.ofNat 32 (i 1).val
  let c1_i32_34 : BitVec 32 := 1#32
  let v132 : BitVec 32 := Scalar.andi arg1 c1_i32_34
  let v133 : BitVec 32 := Scalar.subi c1_i32_35 v132
  let v155 : Index := Scalar.indexCast v133
  let c0_50 : Index := 0#32
  let c0_51 : Index := 0#32
  let c0_52 : Index := 0#32
  ![v155.toNat, 0, 0, 0]
def k0_off9 (i : grid0.Coords) : Fin 4 → Nat :=
  let c1_i32_35 : BitVec 32 := 1#32
  let arg1 : BitVec 32 := BitVec.ofNat 32 (i 1).val
  let c1_i32_34 : BitVec 32 := 1#32
  let v132 : BitVec 32 := Scalar.andi arg1 c1_i32_34
  let v133 : BitVec 32 := Scalar.subi c1_i32_35 v132
  let v158 : Index := Scalar.indexCast v133
  let c1_53 : Index := 1#32
  let c0_54 : Index := 0#32
  let c0_55 : Index := 0#32
  ![v158.toNat, 1, 0, 0]
def k0_off10 (i : grid0.Coords) : Fin 3 → Nat :=
  let c1_i32_35 : BitVec 32 := 1#32
  let arg1 : BitVec 32 := BitVec.ofNat 32 (i 1).val
  let c1_i32_34 : BitVec 32 := 1#32
  let v132 : BitVec 32 := Scalar.andi arg1 c1_i32_34
  let v133 : BitVec 32 := Scalar.subi c1_i32_35 v132
  let v161 : Index := Scalar.indexCast v133
  let c0_56 : Index := 0#32
  let c0_57 : Index := 0#32
  ![v161.toNat, 0, 0]
def k0_off11 (i : grid0.Coords) : Fin 3 → Nat :=
  let arg1 : BitVec 32 := BitVec.ofNat 32 (i 1).val
  let c1_i32_34 : BitVec 32 := 1#32
  let v132 : BitVec 32 := Scalar.andi arg1 c1_i32_34
  let v664 : Index := Scalar.indexCast v132
  let c0_205 : Index := 0#32
  let c0_206 : Index := 0#32
  ![v664.toNat, 0, 0]
def k0_off12 (i : grid0.Coords) : Fin 4 → Nat :=
  let arg1 : BitVec 32 := BitVec.ofNat 32 (i 1).val
  let c1_i32_34 : BitVec 32 := 1#32
  let v132 : BitVec 32 := Scalar.andi arg1 c1_i32_34
  let v672 : Index := Scalar.indexCast v132
  let c1_208 : Index := 1#32
  let c0_209 : Index := 0#32
  let c0_210 : Index := 0#32
  ![v672.toNat, 1, 0, 0]
def k0_off13 (i : grid0.Coords) : Fin 4 → Nat :=
  let arg1 : BitVec 32 := BitVec.ofNat 32 (i 1).val
  let c1_i32_34 : BitVec 32 := 1#32
  let v132 : BitVec 32 := Scalar.andi arg1 c1_i32_34
  let v942 : Index := Scalar.indexCast v132
  let c0_276 : Index := 0#32
  let c0_277 : Index := 0#32
  let c0_278 : Index := 0#32
  ![v942.toNat, 0, 0, 0]
def k0_off14 (i : grid0.Coords) : Fin 4 → Nat :=
  let arg1 : BitVec 32 := BitVec.ofNat 32 (i 1).val
  let c1_i32_34 : BitVec 32 := 1#32
  let v132 : BitVec 32 := Scalar.andi arg1 c1_i32_34
  let v947 : Index := Scalar.indexCast v132
  let c1_279 : Index := 1#32
  let c0_280 : Index := 0#32
  let c0_281 : Index := 0#32
  ![v947.toNat, 1, 0, 0]
def k0_off15 (i : grid0.Coords) : Fin 4 → Nat :=
  let arg1 : BitVec 32 := BitVec.ofNat 32 (i 1).val
  let c1_i32_34 : BitVec 32 := 1#32
  let v132 : BitVec 32 := Scalar.andi arg1 c1_i32_34
  let v952 : Index := Scalar.indexCast v132
  let c2_282 : Index := 2#32
  let c0_283 : Index := 0#32
  let c0_284 : Index := 0#32
  ![v952.toNat, 2, 0, 0]
def k0_off16 (i : grid0.Coords) : Fin 4 → Nat :=
  let arg1 : BitVec 32 := BitVec.ofNat 32 (i 1).val
  let c1_i32_34 : BitVec 32 := 1#32
  let v132 : BitVec 32 := Scalar.andi arg1 c1_i32_34
  let v957 : Index := Scalar.indexCast v132
  let c3_285 : Index := 3#32
  let c0_286 : Index := 0#32
  let c0_287 : Index := 0#32
  ![v957.toNat, 3, 0, 0]
def k0_off17 (i : grid0.Coords) : Fin 4 → Nat :=
  let arg1 : BitVec 32 := BitVec.ofNat 32 (i 1).val
  let c1_i32_34 : BitVec 32 := 1#32
  let v132 : BitVec 32 := Scalar.andi arg1 c1_i32_34
  let v962 : Index := Scalar.indexCast v132
  let c4_288 : Index := 4#32
  let c0_289 : Index := 0#32
  let c0_290 : Index := 0#32
  ![v962.toNat, 4, 0, 0]
def k0_off18 (i : grid0.Coords) : Fin 4 → Nat :=
  let arg1 : BitVec 32 := BitVec.ofNat 32 (i 1).val
  let c1_i32_34 : BitVec 32 := 1#32
  let v132 : BitVec 32 := Scalar.andi arg1 c1_i32_34
  let v967 : Index := Scalar.indexCast v132
  let c5_291 : Index := 5#32
  let c0_292 : Index := 0#32
  let c0_293 : Index := 0#32
  ![v967.toNat, 5, 0, 0]
def k0_off19 (i : grid0.Coords) : Fin 4 → Nat :=
  let arg1 : BitVec 32 := BitVec.ofNat 32 (i 1).val
  let c1_i32_34 : BitVec 32 := 1#32
  let v132 : BitVec 32 := Scalar.andi arg1 c1_i32_34
  let v972 : Index := Scalar.indexCast v132
  let c6_294 : Index := 6#32
  let c0_295 : Index := 0#32
  let c0_296 : Index := 0#32
  ![v972.toNat, 6, 0, 0]
def k0_off20 (i : grid0.Coords) : Fin 4 → Nat :=
  let arg1 : BitVec 32 := BitVec.ofNat 32 (i 1).val
  let c1_i32_34 : BitVec 32 := 1#32
  let v132 : BitVec 32 := Scalar.andi arg1 c1_i32_34
  let v976 : Index := Scalar.indexCast v132
  let c0_297 : Index := 0#32
  let c0_298 : Index := 0#32
  let c0_299 : Index := 0#32
  ![v976.toNat, 0, 0, 0]
def k0_off21 (i : grid0.Coords) : Fin 3 → Nat :=
  let arg1 : BitVec 32 := BitVec.ofNat 32 (i 1).val
  let c1_i32_34 : BitVec 32 := 1#32
  let v132 : BitVec 32 := Scalar.andi arg1 c1_i32_34
  let v1117 : Index := Scalar.indexCast v132
  let c64_351 : Index := 64#32
  let c0_352 : Index := 0#32
  ![v1117.toNat, 64, 0]
def k0_off22 (i : grid0.Coords) : Fin 4 → Nat :=
  let arg1 : BitVec 32 := BitVec.ofNat 32 (i 1).val
  let c1_i32_34 : BitVec 32 := 1#32
  let v132 : BitVec 32 := Scalar.andi arg1 c1_i32_34
  let v1125 : Index := Scalar.indexCast v132
  let c1_355 : Index := 1#32
  let c64_356 : Index := 64#32
  let c0_357 : Index := 0#32
  ![v1125.toNat, 1, 64, 0]
def k0_off23 (i : grid0.Coords) : Fin 4 → Nat :=
  let arg1 : BitVec 32 := BitVec.ofNat 32 (i 1).val
  let c1_i32_34 : BitVec 32 := 1#32
  let v132 : BitVec 32 := Scalar.andi arg1 c1_i32_34
  let v1395 : Index := Scalar.indexCast v132
  let c0_424 : Index := 0#32
  let c64_425 : Index := 64#32
  let c0_426 : Index := 0#32
  ![v1395.toNat, 0, 64, 0]
def k0_off24 (i : grid0.Coords) : Fin 4 → Nat :=
  let arg1 : BitVec 32 := BitVec.ofNat 32 (i 1).val
  let c1_i32_34 : BitVec 32 := 1#32
  let v132 : BitVec 32 := Scalar.andi arg1 c1_i32_34
  let v1400 : Index := Scalar.indexCast v132
  let c1_427 : Index := 1#32
  let c64_428 : Index := 64#32
  let c0_429 : Index := 0#32
  ![v1400.toNat, 1, 64, 0]
def k0_off25 (i : grid0.Coords) : Fin 4 → Nat :=
  let arg1 : BitVec 32 := BitVec.ofNat 32 (i 1).val
  let c1_i32_34 : BitVec 32 := 1#32
  let v132 : BitVec 32 := Scalar.andi arg1 c1_i32_34
  let v1405 : Index := Scalar.indexCast v132
  let c2_430 : Index := 2#32
  let c64_431 : Index := 64#32
  let c0_432 : Index := 0#32
  ![v1405.toNat, 2, 64, 0]
def k0_off26 (i : grid0.Coords) : Fin 4 → Nat :=
  let arg1 : BitVec 32 := BitVec.ofNat 32 (i 1).val
  let c1_i32_34 : BitVec 32 := 1#32
  let v132 : BitVec 32 := Scalar.andi arg1 c1_i32_34
  let v1410 : Index := Scalar.indexCast v132
  let c3_433 : Index := 3#32
  let c64_434 : Index := 64#32
  let c0_435 : Index := 0#32
  ![v1410.toNat, 3, 64, 0]
def k0_off27 (i : grid0.Coords) : Fin 4 → Nat :=
  let arg1 : BitVec 32 := BitVec.ofNat 32 (i 1).val
  let c1_i32_34 : BitVec 32 := 1#32
  let v132 : BitVec 32 := Scalar.andi arg1 c1_i32_34
  let v1415 : Index := Scalar.indexCast v132
  let c4_436 : Index := 4#32
  let c64_437 : Index := 64#32
  let c0_438 : Index := 0#32
  ![v1415.toNat, 4, 64, 0]
def k0_off28 (i : grid0.Coords) : Fin 4 → Nat :=
  let arg1 : BitVec 32 := BitVec.ofNat 32 (i 1).val
  let c1_i32_34 : BitVec 32 := 1#32
  let v132 : BitVec 32 := Scalar.andi arg1 c1_i32_34
  let v1420 : Index := Scalar.indexCast v132
  let c5_439 : Index := 5#32
  let c64_440 : Index := 64#32
  let c0_441 : Index := 0#32
  ![v1420.toNat, 5, 64, 0]
def k0_off29 (i : grid0.Coords) : Fin 4 → Nat :=
  let arg1 : BitVec 32 := BitVec.ofNat 32 (i 1).val
  let c1_i32_34 : BitVec 32 := 1#32
  let v132 : BitVec 32 := Scalar.andi arg1 c1_i32_34
  let v1425 : Index := Scalar.indexCast v132
  let c6_442 : Index := 6#32
  let c64_443 : Index := 64#32
  let c0_444 : Index := 0#32
  ![v1425.toNat, 6, 64, 0]
def k0_off30 (i : grid0.Coords) : Fin 4 → Nat :=
  let arg1 : BitVec 32 := BitVec.ofNat 32 (i 1).val
  let c1_i32_34 : BitVec 32 := 1#32
  let v132 : BitVec 32 := Scalar.andi arg1 c1_i32_34
  let v1429 : Index := Scalar.indexCast v132
  let c0_445 : Index := 0#32
  let c64_446 : Index := 64#32
  let c0_447 : Index := 0#32
  ![v1429.toNat, 0, 64, 0]
def k0_off31 (i : grid0.Coords) : Fin 3 → Nat :=
  let arg1 : BitVec 32 := BitVec.ofNat 32 (i 1).val
  let c1_i32_34 : BitVec 32 := 1#32
  let v132 : BitVec 32 := Scalar.andi arg1 c1_i32_34
  let v1558 : Index := Scalar.indexCast v132
  let c128_499 : Index := 128#32
  let c0_500 : Index := 0#32
  ![v1558.toNat, 128, 0]
def k0_off32 (i : grid0.Coords) : Fin 4 → Nat :=
  let arg1 : BitVec 32 := BitVec.ofNat 32 (i 1).val
  let c1_i32_34 : BitVec 32 := 1#32
  let v132 : BitVec 32 := Scalar.andi arg1 c1_i32_34
  let v1566 : Index := Scalar.indexCast v132
  let c1_503 : Index := 1#32
  let c128_504 : Index := 128#32
  let c0_505 : Index := 0#32
  ![v1566.toNat, 1, 128, 0]
def k0_off33 (i : grid0.Coords) : Fin 4 → Nat :=
  let arg1 : BitVec 32 := BitVec.ofNat 32 (i 1).val
  let c1_i32_34 : BitVec 32 := 1#32
  let v132 : BitVec 32 := Scalar.andi arg1 c1_i32_34
  let v1836 : Index := Scalar.indexCast v132
  let c0_572 : Index := 0#32
  let c128_573 : Index := 128#32
  let c0_574 : Index := 0#32
  ![v1836.toNat, 0, 128, 0]
def k0_off34 (i : grid0.Coords) : Fin 4 → Nat :=
  let arg1 : BitVec 32 := BitVec.ofNat 32 (i 1).val
  let c1_i32_34 : BitVec 32 := 1#32
  let v132 : BitVec 32 := Scalar.andi arg1 c1_i32_34
  let v1841 : Index := Scalar.indexCast v132
  let c1_575 : Index := 1#32
  let c128_576 : Index := 128#32
  let c0_577 : Index := 0#32
  ![v1841.toNat, 1, 128, 0]
def k0_off35 (i : grid0.Coords) : Fin 4 → Nat :=
  let arg1 : BitVec 32 := BitVec.ofNat 32 (i 1).val
  let c1_i32_34 : BitVec 32 := 1#32
  let v132 : BitVec 32 := Scalar.andi arg1 c1_i32_34
  let v1846 : Index := Scalar.indexCast v132
  let c2_578 : Index := 2#32
  let c128_579 : Index := 128#32
  let c0_580 : Index := 0#32
  ![v1846.toNat, 2, 128, 0]
def k0_off36 (i : grid0.Coords) : Fin 4 → Nat :=
  let arg1 : BitVec 32 := BitVec.ofNat 32 (i 1).val
  let c1_i32_34 : BitVec 32 := 1#32
  let v132 : BitVec 32 := Scalar.andi arg1 c1_i32_34
  let v1851 : Index := Scalar.indexCast v132
  let c3_581 : Index := 3#32
  let c128_582 : Index := 128#32
  let c0_583 : Index := 0#32
  ![v1851.toNat, 3, 128, 0]
def k0_off37 (i : grid0.Coords) : Fin 4 → Nat :=
  let arg1 : BitVec 32 := BitVec.ofNat 32 (i 1).val
  let c1_i32_34 : BitVec 32 := 1#32
  let v132 : BitVec 32 := Scalar.andi arg1 c1_i32_34
  let v1856 : Index := Scalar.indexCast v132
  let c4_584 : Index := 4#32
  let c128_585 : Index := 128#32
  let c0_586 : Index := 0#32
  ![v1856.toNat, 4, 128, 0]
def k0_off38 (i : grid0.Coords) : Fin 4 → Nat :=
  let arg1 : BitVec 32 := BitVec.ofNat 32 (i 1).val
  let c1_i32_34 : BitVec 32 := 1#32
  let v132 : BitVec 32 := Scalar.andi arg1 c1_i32_34
  let v1861 : Index := Scalar.indexCast v132
  let c5_587 : Index := 5#32
  let c128_588 : Index := 128#32
  let c0_589 : Index := 0#32
  ![v1861.toNat, 5, 128, 0]
def k0_off39 (i : grid0.Coords) : Fin 4 → Nat :=
  let arg1 : BitVec 32 := BitVec.ofNat 32 (i 1).val
  let c1_i32_34 : BitVec 32 := 1#32
  let v132 : BitVec 32 := Scalar.andi arg1 c1_i32_34
  let v1866 : Index := Scalar.indexCast v132
  let c6_590 : Index := 6#32
  let c128_591 : Index := 128#32
  let c0_592 : Index := 0#32
  ![v1866.toNat, 6, 128, 0]
def k0_off40 (i : grid0.Coords) : Fin 4 → Nat :=
  let arg1 : BitVec 32 := BitVec.ofNat 32 (i 1).val
  let c1_i32_34 : BitVec 32 := 1#32
  let v132 : BitVec 32 := Scalar.andi arg1 c1_i32_34
  let v1870 : Index := Scalar.indexCast v132
  let c0_593 : Index := 0#32
  let c128_594 : Index := 128#32
  let c0_595 : Index := 0#32
  ![v1870.toNat, 0, 128, 0]
def k0_off41 (i : grid0.Coords) : Fin 3 → Nat :=
  let arg1 : BitVec 32 := BitVec.ofNat 32 (i 1).val
  let c1_i32_34 : BitVec 32 := 1#32
  let v132 : BitVec 32 := Scalar.andi arg1 c1_i32_34
  let v2011 : Index := Scalar.indexCast v132
  let c192_647 : Index := 192#32
  let c0_648 : Index := 0#32
  ![v2011.toNat, 192, 0]
def k0_off42 (i : grid0.Coords) : Fin 4 → Nat :=
  let arg1 : BitVec 32 := BitVec.ofNat 32 (i 1).val
  let c1_i32_34 : BitVec 32 := 1#32
  let v132 : BitVec 32 := Scalar.andi arg1 c1_i32_34
  let v2019 : Index := Scalar.indexCast v132
  let c1_651 : Index := 1#32
  let c192_652 : Index := 192#32
  let c0_653 : Index := 0#32
  ![v2019.toNat, 1, 192, 0]
def k0_off43 (i : grid0.Coords) : Fin 4 → Nat :=
  let arg1 : BitVec 32 := BitVec.ofNat 32 (i 1).val
  let c1_i32_34 : BitVec 32 := 1#32
  let v132 : BitVec 32 := Scalar.andi arg1 c1_i32_34
  let v2421 : Index := Scalar.indexCast v132
  let c0_744 : Index := 0#32
  let c192_745 : Index := 192#32
  let c0_746 : Index := 0#32
  ![v2421.toNat, 0, 192, 0]
def k0_off44 (i : grid0.Coords) : Fin 4 → Nat :=
  let arg1 : BitVec 32 := BitVec.ofNat 32 (i 1).val
  let c1_i32_34 : BitVec 32 := 1#32
  let v132 : BitVec 32 := Scalar.andi arg1 c1_i32_34
  let v2426 : Index := Scalar.indexCast v132
  let c1_747 : Index := 1#32
  let c192_748 : Index := 192#32
  let c0_749 : Index := 0#32
  ![v2426.toNat, 1, 192, 0]
def k0_off45 (i : grid0.Coords) : Fin 4 → Nat :=
  let arg1 : BitVec 32 := BitVec.ofNat 32 (i 1).val
  let c1_i32_34 : BitVec 32 := 1#32
  let v132 : BitVec 32 := Scalar.andi arg1 c1_i32_34
  let v2431 : Index := Scalar.indexCast v132
  let c2_750 : Index := 2#32
  let c192_751 : Index := 192#32
  let c0_752 : Index := 0#32
  ![v2431.toNat, 2, 192, 0]
def k0_off46 (i : grid0.Coords) : Fin 4 → Nat :=
  let arg1 : BitVec 32 := BitVec.ofNat 32 (i 1).val
  let c1_i32_34 : BitVec 32 := 1#32
  let v132 : BitVec 32 := Scalar.andi arg1 c1_i32_34
  let v2436 : Index := Scalar.indexCast v132
  let c3_753 : Index := 3#32
  let c192_754 : Index := 192#32
  let c0_755 : Index := 0#32
  ![v2436.toNat, 3, 192, 0]
def k0_off47 (i : grid0.Coords) : Fin 4 → Nat :=
  let arg1 : BitVec 32 := BitVec.ofNat 32 (i 1).val
  let c1_i32_34 : BitVec 32 := 1#32
  let v132 : BitVec 32 := Scalar.andi arg1 c1_i32_34
  let v2441 : Index := Scalar.indexCast v132
  let c4_756 : Index := 4#32
  let c192_757 : Index := 192#32
  let c0_758 : Index := 0#32
  ![v2441.toNat, 4, 192, 0]
def k0_off48 (i : grid0.Coords) : Fin 4 → Nat :=
  let arg1 : BitVec 32 := BitVec.ofNat 32 (i 1).val
  let c1_i32_34 : BitVec 32 := 1#32
  let v132 : BitVec 32 := Scalar.andi arg1 c1_i32_34
  let v2446 : Index := Scalar.indexCast v132
  let c5_759 : Index := 5#32
  let c192_760 : Index := 192#32
  let c0_761 : Index := 0#32
  ![v2446.toNat, 5, 192, 0]
def k0_off49 (i : grid0.Coords) : Fin 4 → Nat :=
  let arg1 : BitVec 32 := BitVec.ofNat 32 (i 1).val
  let c1_i32_34 : BitVec 32 := 1#32
  let v132 : BitVec 32 := Scalar.andi arg1 c1_i32_34
  let v2451 : Index := Scalar.indexCast v132
  let c6_762 : Index := 6#32
  let c192_763 : Index := 192#32
  let c0_764 : Index := 0#32
  ![v2451.toNat, 6, 192, 0]
def k0_off50 (i : grid0.Coords) : Fin 4 → Nat :=
  let arg1 : BitVec 32 := BitVec.ofNat 32 (i 1).val
  let c1_i32_34 : BitVec 32 := 1#32
  let v132 : BitVec 32 := Scalar.andi arg1 c1_i32_34
  let v2455 : Index := Scalar.indexCast v132
  let c0_765 : Index := 0#32
  let c192_766 : Index := 192#32
  let c0_767 : Index := 0#32
  ![v2455.toNat, 0, 192, 0]
def k0_cond2 (i : grid0.Coords) : BitVec 1 :=
  let arg1 : BitVec 32 := BitVec.ofNat 32 (i 1).val
  let c32_i32 : BitVec 32 := 32#32
  let v2794 : BitVec 1 := Scalar.cmpi .eq arg1 c32_i32
  let v2795 : BitVec 32 := Scalar.extui v2794
  let c0_i32_882 : BitVec 32 := 0#32
  let v2796 : BitVec 1 := Scalar.cmpi .ne v2795 c0_i32_882
  v2796

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c0_i32 : BitVec 32 := 0#32
  let v1 : BitVec 32 := Scalar.addi c0_i32 v0
  let c31_i32 : BitVec 32 := 31#32
  let v2 : BitVec 32 := Scalar.minsi arg1 c31_i32
  let v3 : BitVec 32 := Scalar.addi v1 v2
  let c0_i32_0 : BitVec 32 := 0#32
  let c0_i32_1 : BitVec 32 := 0#32
  ![v3.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c0_i32 : BitVec 32 := 0#32
  let v1 : BitVec 32 := Scalar.addi c0_i32 v0
  let c1_i32 : BitVec 32 := 1#32
  let v2 : BitVec 32 := Scalar.subi arg1 c1_i32
  let c0_i32_0 : BitVec 32 := 0#32
  let v3 : BitVec 32 := Scalar.maxsi v2 c0_i32_0
  let v4 : BitVec 32 := Scalar.addi v1 v3
  let c0_i32_1 : BitVec 32 := 0#32
  let c0_i32_2 : BitVec 32 := 0#32
  ![v4.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x1152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x6x64x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S4x1152 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S3x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x3x1152 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x6x64x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x2x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== Reference8.lean ====
abbrev S33792x2956 : Shape := ⟨2, ![33792, 2956]⟩
abbrev S4x1152 : Shape := ⟨2, ![4, 1152]⟩
abbrev S6 : Shape := ⟨1, ![6]⟩
abbrev S64 : Shape := ⟨1, ![64]⟩
abbrev S3x256 : Shape := ⟨2, ![3, 256]⟩
abbrev S32768x2956 : Shape := ⟨2, ![32768, 2956]⟩
abbrev S4x8192x2956 : Shape := ⟨3, ![4, 8192, 2956]⟩
abbrev S_ : Shape := ⟨0, ![]⟩
abbrev S4x3x1152 : Shape := ⟨3, ![4, 3, 1152]⟩
abbrev S4x2x256 : Shape := ⟨3, ![4, 2, 256]⟩
abbrev S4x8192x256 : Shape := ⟨3, ![4, 8192, 256]⟩
abbrev S4x8192x1152 : Shape := ⟨3, ![4, 8192, 1152]⟩
abbrev S4x8195x1152 : Shape := ⟨3, ![4, 8195, 1152]⟩
abbrev S4x8194x256 : Shape := ⟨3, ![4, 8194, 256]⟩

abbrev nBuf : Space → Nat
  | .hbm => 20
  | .vmem => 0
  | .smem => 0
  | _ => 0

abbrev bufTy : (tb : Table) → Fin (tcTables nBuf tb) → BufTy
  | .hbm, ⟨0, _⟩ => ⟨S33792x2956, .f32⟩
  | .hbm, ⟨1, _⟩ => ⟨S4x1152, .f32⟩
  | .hbm, ⟨2, _⟩ => ⟨S6, .f32⟩
  | .hbm, ⟨3, _⟩ => ⟨S6, .f32⟩
  | .hbm, ⟨4, _⟩ => ⟨S64, .f32⟩
  | .hbm, ⟨5, _⟩ => ⟨S3x256, .f32⟩
  | .hbm, ⟨6, _⟩ => ⟨S32768x2956, .f32⟩
  | .hbm, ⟨7, _⟩ => ⟨S4x8192x2956, .f32⟩
  | .hbm, ⟨8, _⟩ => ⟨S_, .f32⟩
  | .hbm, ⟨9, _⟩ => ⟨S4x3x1152, .f32⟩
  | .hbm, ⟨10, _⟩ => ⟨S_, .f32⟩
  | .hbm, ⟨11, _⟩ => ⟨S4x2x256, .f32⟩
  | .hbm, ⟨12, _⟩ => ⟨S4x8192x256, .f32⟩
  | .hbm, ⟨13, _⟩ => ⟨S4x8192x256, .f32⟩
  | .hbm, ⟨14, _⟩ => ⟨S4x8192x1152, .f32⟩
  | .hbm, ⟨15, _⟩ => ⟨S4x8195x1152, .f32⟩
  | .hbm, ⟨16, _⟩ => ⟨S4x3x1152, .f32⟩
  | .hbm, ⟨17, _⟩ => ⟨S4x8192x256, .f32⟩
  | .hbm, ⟨18, _⟩ => ⟨S4x8194x256, .f32⟩
  | .hbm, ⟨19, _⟩ => ⟨S4x2x256, .f32⟩
  | _, _ => ⟨S33792x2956, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩

abbrev nD : Nat := 1
abbrev τ : Topo := Topo.v7x

variable {F : FTy → Type} [FloatOps F]
-- ==== Kernel9.lean ====
abbrev S33792x2956 : Shape := ⟨2, ![33792, 2956]⟩
abbrev S16x6x64x64 : Shape := ⟨4, ![16, 6, 64, 64]⟩
abbrev S16x3x1152 : Shape := ⟨3, ![16, 3, 1152]⟩
abbrev S16x2x256 : Shape := ⟨3, ![16, 2, 256]⟩
abbrev S4x1152 : Shape := ⟨2, ![4, 1152]⟩
abbrev S6 : Shape := ⟨1, ![6]⟩
abbrev S64 : Shape := ⟨1, ![64]⟩
abbrev S3x256 : Shape := ⟨2, ![3, 256]⟩
abbrev S33792x12 : Shape := ⟨2, ![33792, 12]⟩
abbrev S_ : Shape := ⟨0, ![]⟩
abbrev S33792x116 : Shape := ⟨2, ![33792, 116]⟩
abbrev S33792x128 : Shape := ⟨2, ![33792, 128]⟩
abbrev S33792x1536 : Shape := ⟨2, ![33792, 1536]⟩
abbrev S33792x768 : Shape := ⟨2, ![33792, 768]⟩
abbrev S33792x640 : Shape := ⟨2, ![33792, 640]⟩
abbrev S33792x3072 : Shape := ⟨2, ![33792, 3072]⟩
abbrev S8x128 : Shape := ⟨2, ![8, 128]⟩
abbrev S1 : Shape := ⟨1, ![1]⟩
abbrev S2 : Shape := ⟨1, ![2]⟩
abbrev S1x64 : Shape := ⟨2, ![1, 64]⟩
abbrev S1x1x1x64 : Shape := ⟨4, ![1, 1, 1, 64]⟩
abbrev S1x1x6x64 : Shape := ⟨4, ![1, 1, 6, 64]⟩
abbrev S1x384 : Shape := ⟨2, ![1, 384]⟩
abbrev S64x3072 : Shape := ⟨2, ![64, 3072]⟩
abbrev S1x3x1152 : Shape := ⟨3, ![1, 3, 1152]⟩
abbrev S1x6x64x64 : Shape := ⟨4, ![1, 6, 64, 64]⟩
abbrev S1x2x256 : Shape := ⟨3, ![1, 2, 256]⟩
abbrev S64x1024 : Shape := ⟨2, ![64, 1024]⟩
abbrev S72x1152 : Shape := ⟨2, ![72, 1152]⟩
abbrev S72x256 : Shape := ⟨2, ![72, 256]⟩
abbrev S3x128x128 : Shape := ⟨3, ![3, 128, 128]⟩
abbrev S64x384 : Shape := ⟨2, ![64, 384]⟩
abbrev S2x7x64x384 : Shape := ⟨4, ![2, 7, 64, 384]⟩
abbrev S2x2x64x384 : Shape := ⟨4, ![2, 2, 64, 384]⟩
abbrev S2x64x640 : Shape := ⟨3, ![2, 64, 640]⟩
abbrev S5x1152 : Shape := ⟨2, ![5, 1152]⟩
abbrev S3x1152 : Shape := ⟨2, ![3, 1152]⟩
abbrev S8x1152 : Shape := ⟨2, ![8, 1152]⟩
abbrev S6x256 : Shape := ⟨2, ![6, 256]⟩
abbrev S2x256 : Shape := ⟨2, ![2, 256]⟩
abbrev S8x256 : Shape := ⟨2, ![8, 256]⟩
abbrev S64x64 : Shape := ⟨2, ![64, 64]⟩
abbrev S1x1x64x64 : Shape := ⟨4, ![1, 1, 64, 64]⟩
abbrev S64x128 : Shape := ⟨2, ![64, 128]⟩
abbrev S128x128 : Shape := ⟨2, ![128, 128]⟩
abbrev S1x128x128 : Shape := ⟨3, ![1, 128, 128]⟩
abbrev S384x384 : Shape := ⟨2, ![384, 384]⟩
abbrev S128x384 : Shape := ⟨2, ![128, 384]⟩
abbrev S256x384 : Shape := ⟨2, ![256, 384]⟩
abbrev S1x1x64x384 : Shape := ⟨4, ![1, 1, 64, 384]⟩
abbrev S1x64x640 : Shape := ⟨3, ![1, 64, 640]⟩
abbrev S64x640 : Shape := ⟨2, ![64, 640]⟩
abbrev S64x1152 : Shape := ⟨2, ![64, 1152]⟩
abbrev S64x256 : Shape := ⟨2, ![64, 256]⟩
abbrev S128 : Shape := ⟨1, ![128]⟩
abbrev S1x128 : Shape := ⟨2, ![1, 128]⟩
abbrev S1x1152 : Shape := ⟨2, ![1, 1152]⟩
abbrev S1x256 : Shape := ⟨2, ![1, 256]⟩
abbrev S128x256 : Shape := ⟨2, ![128, 256]⟩
abbrev S1x64x64 : Shape := ⟨3, ![1, 64, 64]⟩

abbrev nBuf : Space → Nat
  | .hbm => 39
  | .vmem => 27
  | .smem => 0
  | _ => 0

abbrev bufTy : (tb : Table) → Fin (tcTables nBuf tb) → BufTy
  | .hbm, ⟨0, _⟩ => ⟨S33792x2956, .f32⟩
  | .hbm, ⟨1, _⟩ => ⟨S16x6x64x64, .f32⟩
  | .hbm, ⟨2, _⟩ => ⟨S16x3x1152, .f32⟩
  | .hbm, ⟨3, _⟩ => ⟨S16x2x256, .f32⟩
  | .hbm, ⟨4, _⟩ => ⟨S4x1152, .f32⟩
  | .hbm, ⟨5, _⟩ => ⟨S6, .f32⟩
  | .hbm, ⟨6, _⟩ => ⟨S6, .f32⟩
  | .hbm, ⟨7, _⟩ => ⟨S64, .f32⟩
  | .hbm, ⟨8, _⟩ => ⟨S3x256, .f32⟩
  | .hbm, ⟨9, _⟩ => ⟨S33792x12, .f32⟩
  | .hbm, ⟨10, _⟩ => ⟨S_, .f32⟩
  | .hbm, ⟨11, _⟩ => ⟨S33792x116, .f32⟩
  | .hbm, ⟨12, _⟩ => ⟨S33792x128, .f32⟩
  | .hbm, ⟨13, _⟩ => ⟨S33792x1536, .f32⟩
  | .hbm, ⟨14, _⟩ => ⟨S33792x768, .f32⟩
  | .hbm, ⟨15, _⟩ => ⟨S33792x640, .f32⟩
  | .hbm, ⟨16, _⟩ => ⟨S33792x3072, .f32⟩
  | .hbm, ⟨17, _⟩ => ⟨S_, .f32⟩
  | .hbm, ⟨18, _⟩ => ⟨S8x128, .f32⟩
  | .hbm, ⟨19, _⟩ => ⟨S_, .i32⟩
  | .hbm, ⟨20, _⟩ => ⟨S1, .i32⟩
  | .hbm, ⟨21, _⟩ => ⟨S_, .i32⟩
  | .hbm, ⟨22, _⟩ => ⟨S1, .i32⟩
  | .hbm, ⟨23, _⟩ => ⟨S2, .i32⟩
  | .hbm, ⟨24, _⟩ => ⟨S8x128, .f32⟩
  | .hbm, ⟨25, _⟩ => ⟨S_, .i32⟩
  | .hbm, ⟨26, _⟩ => ⟨S1, .i32⟩
  | .hbm, ⟨27, _⟩ => ⟨S_, .i32⟩
  | .hbm, ⟨28, _⟩ => ⟨S1, .i32⟩
  | .hbm, ⟨29, _⟩ => ⟨S2, .i32⟩
  | .hbm, ⟨30, _⟩ => ⟨S8x128, .f32⟩
  | .hbm, ⟨31, _⟩ => ⟨S1x64, .f32⟩
  | .hbm, ⟨32, _⟩ => ⟨S1x1x1x64, .f32⟩
  | .hbm, ⟨33, _⟩ => ⟨S1x1x6x64, .f32⟩
  | .hbm, ⟨34, _⟩ => ⟨S1x384, .f32⟩
  | .hbm, ⟨35, _⟩ => ⟨S33792x3072, .f32⟩
  | .hbm, ⟨36, _⟩ => ⟨S16x3x1152, .f32⟩
  | .hbm, ⟨37, _⟩ => ⟨S16x6x64x64, .f32⟩
  | .hbm, ⟨38, _⟩ => ⟨S16x2x256, .f32⟩
  | .local _ .vmem, ⟨0, _⟩ => ⟨S64x3072, .f32⟩
  | .local _ .vmem, ⟨1, _⟩ => ⟨S64x3072, .f32⟩
  | .local _ .vmem, ⟨2, _⟩ => ⟨S1x3x1152, .f32⟩
  | .local _ .vmem, ⟨3, _⟩ => ⟨S1x3x1152, .f32⟩
  | .local _ .vmem, ⟨4, _⟩ => ⟨S1x6x64x64, .f32⟩
  | .local _ .vmem, ⟨5, _⟩ => ⟨S1x6x64x64, .f32⟩
  | .local _ .vmem, ⟨6, _⟩ => ⟨S1x2x256, .f32⟩
  | .local _ .vmem, ⟨7, _⟩ => ⟨S1x2x256, .f32⟩
  | .local _ .vmem, ⟨8, _⟩ => ⟨S4x1152, .f32⟩
  | .local _ .vmem, ⟨9, _⟩ => ⟨S3x256, .f32⟩
  | .local _ .vmem, ⟨10, _⟩ => ⟨S8x128, .f32⟩
  | .local _ .vmem, ⟨11, _⟩ => ⟨S1x384, .f32⟩
  | .local _ .vmem, ⟨12, _⟩ => ⟨S64x1024, .f32⟩
  | .local _ .vmem, ⟨13, _⟩ => ⟨S64x1024, .f32⟩
  | .local _ .vmem, ⟨14, _⟩ => ⟨S1x3x1152, .f32⟩
  | .local _ .vmem, ⟨15, _⟩ => ⟨S1x3x1152, .f32⟩
  | .local _ .vmem, ⟨16, _⟩ => ⟨S1x6x64x64, .f32⟩
  | .local _ .vmem, ⟨17, _⟩ => ⟨S1x6x64x64, .f32⟩
  | .local _ .vmem, ⟨18, _⟩ => ⟨S1x2x256, .f32⟩
  | .local _ .vmem, ⟨19, _⟩ => ⟨S1x2x256, .f32⟩
  | .local _ .vmem, ⟨20, _⟩ => ⟨S72x1152, .f32⟩
  | .local _ .vmem, ⟨21, _⟩ => ⟨S72x256, .f32⟩
  | .local _ .vmem, ⟨22, _⟩ => ⟨S3x128x128, .f32⟩
  | .local _ .vmem, ⟨23, _⟩ => ⟨S64x384, .f32⟩
  | .local _ .vmem, ⟨24, _⟩ => ⟨S2x7x64x384, .bf16⟩
  | .local _ .vmem, ⟨25, _⟩ => ⟨S2x2x64x384, .f32⟩
  | .local _ .vmem, ⟨26, _⟩ => ⟨S2x64x640, .f32⟩
  | _, _ => ⟨S33792x2956, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_c : Ref sig .tc := ⟨.hbm, 19, rfl⟩
abbrev main_v8 : Ref sig .tc := ⟨.hbm, 20, rfl⟩
abbrev main_c_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c_2 : Ref sig .tc := ⟨.hbm, 25, rfl⟩
abbrev main_v12 : Ref sig .tc := ⟨.hbm, 26, rfl⟩
abbrev main_c_3 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20_0 : Ref sig .tc := ⟨.hbm, 35, rfl⟩
abbrev main_v20_1 : Ref sig .tc := ⟨.hbm, 36, rfl⟩
abbrev main_v20_2 : Ref sig .tc := ⟨.hbm, 37, rfl⟩
abbrev main_v20_3 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_scratch6 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨2, ![1, 17], ![false, false]⟩

def k0_off1 (i : grid0.Coords) : Fin 4 → Nat :=
  let c1_i32_75 : BitVec 32 := 1#32
  let arg1 : BitVec 32 := BitVec.ofNat 32 (i 1).val
  let c1_i32_74 : BitVec 32 := 1#32
  let v177 : BitVec 32 := Scalar.andi arg1 c1_i32_74
  let v178 : BitVec 32 := Scalar.subi c1_i32_75 v177
  let v179 : Index := Scalar.indexCast v178
  let c0_76 : Index := 0#32
  let c0_77 : Index := 0#32
  let c0_78 : Index := 0#32
  ![v179.toNat, 0, 0, 0]
def k0_off2 (i : grid0.Coords) : Fin 4 → Nat :=
  let c1_i32_75 : BitVec 32 := 1#32
  let arg1 : BitVec 32 := BitVec.ofNat 32 (i 1).val
  let c1_i32_74 : BitVec 32 := 1#32
  let v177 : BitVec 32 := Scalar.andi arg1 c1_i32_74
  let v178 : BitVec 32 := Scalar.subi c1_i32_75 v177
  let v182 : Index := Scalar.indexCast v178
  let c1_79 : Index := 1#32
  let c0_80 : Index := 0#32
  let c0_81 : Index := 0#32
  ![v182.toNat, 1, 0, 0]
def k0_off3 (i : grid0.Coords) : Fin 4 → Nat :=
  let c1_i32_75 : BitVec 32 := 1#32
  let arg1 : BitVec 32 := BitVec.ofNat 32 (i 1).val
  let c1_i32_74 : BitVec 32 := 1#32
  let v177 : BitVec 32 := Scalar.andi arg1 c1_i32_74
  let v178 : BitVec 32 := Scalar.subi c1_i32_75 v177
  let v185 : Index := Scalar.indexCast v178
  let c2_82 : Index := 2#32
  let c0_83 : Index := 0#32
  let c0_84 : Index := 0#32
  ![v185.toNat, 2, 0, 0]
def k0_off4 (i : grid0.Coords) : Fin 4 → Nat :=
  let c1_i32_75 : BitVec 32 := 1#32
  let arg1 : BitVec 32 := BitVec.ofNat 32 (i 1).val
  let c1_i32_74 : BitVec 32 := 1#32
  let v177 : BitVec 32 := Scalar.andi arg1 c1_i32_74
  let v178 : BitVec 32 := Scalar.subi c1_i32_75 v177
  let v188 : Index := Scalar.indexCast v178
  let c3_85 : Index := 3#32
  let c0_86 : Index := 0#32
  let c0_87 : Index := 0#32
  ![v188.toNat, 3, 0, 0]
def k0_off5 (i : grid0.Coords) : Fin 4 → Nat :=
  let c1_i32_75 : BitVec 32 := 1#32
  let arg1 : BitVec 32 := BitVec.ofNat 32 (i 1).val
  let c1_i32_74 : BitVec 32 := 1#32
  let v177 : BitVec 32 := Scalar.andi arg1 c1_i32_74
  let v178 : BitVec 32 := Scalar.subi c1_i32_75 v177
  let v191 : Index := Scalar.indexCast v178
  let c4_88 : Index := 4#32
  let c0_89 : Index := 0#32
  let c0_90 : Index := 0#32
  ![v191.toNat, 4, 0, 0]
def k0_off6 (i : grid0.Coords) : Fin 4 → Nat :=
  let c1_i32_75 : BitVec 32 := 1#32
  let arg1 : BitVec 32 := BitVec.ofNat 32 (i 1).val
  let c1_i32_74 : BitVec 32 := 1#32
  let v177 : BitVec 32 := Scalar.andi arg1 c1_i32_74
  let v178 : BitVec 32 := Scalar.subi c1_i32_75 v177
  let v194 : Index := Scalar.indexCast v178
  let c5_91 : Index := 5#32
  let c0_92 : Index := 0#32
  let c0_93 : Index := 0#32
  ![v194.toNat, 5, 0, 0]
def k0_off7 (i : grid0.Coords) : Fin 4 → Nat :=
  let c1_i32_75 : BitVec 32 := 1#32
  let arg1 : BitVec 32 := BitVec.ofNat 32 (i 1).val
  let c1_i32_74 : BitVec 32 := 1#32
  let v177 : BitVec 32 := Scalar.andi arg1 c1_i32_74
  let v178 : BitVec 32 := Scalar.subi c1_i32_75 v177
  let v197 : Index := Scalar.indexCast v178
  let c6 : Index := 6#32
  let c0_94 : Index := 0#32
  let c0_95 : Index := 0#32
  ![v197.toNat, 6, 0, 0]
def k0_off8 (i : grid0.Coords) : Fin 4 → Nat :=
  let c1_i32_75 : BitVec 32 := 1#32
  let arg1 : BitVec 32 := BitVec.ofNat 32 (i 1).val
  let c1_i32_74 : BitVec 32 := 1#32
  let v177 : BitVec 32 := Scalar.andi arg1 c1_i32_74
  let v178 : BitVec 32 := Scalar.subi c1_i32_75 v177
  let v200 : Index := Scalar.indexCast v178
  let c0_96 : Index := 0#32
  let c0_97 : Index := 0#32
  let c0_98 : Index := 0#32
  ![v200.toNat, 0, 0, 0]
def k0_off9 (i : grid0.Coords) : Fin 4 → Nat :=
  let c1_i32_75 : BitVec 32 := 1#32
  let arg1 : BitVec 32 := BitVec.ofNat 32 (i 1).val
  let c1_i32_74 : BitVec 32 := 1#32
  let v177 : BitVec 32 := Scalar.andi arg1 c1_i32_74
  let v178 : BitVec 32 := Scalar.subi c1_i32_75 v177
  let v203 : Index := Scalar.indexCast v178
  let c1_99 : Index := 1#32
  let c0_100 : Index := 0#32
  let c0_101 : Index := 0#32
  ![v203.toNat, 1, 0, 0]
def k0_off10 (i : grid0.Coords) : Fin 3 → Nat :=
  let c1_i32_75 : BitVec 32 := 1#32
  let arg1 : BitVec 32 := BitVec.ofNat 32 (i 1).val
  let c1_i32_74 : BitVec 32 := 1#32
  let v177 : BitVec 32 := Scalar.andi arg1 c1_i32_74
  let v178 : BitVec 32 := Scalar.subi c1_i32_75 v177
  let v206 : Index := Scalar.indexCast v178
  let c0_102 : Index := 0#32
  let c0_103 : Index := 0#32
  ![v206.toNat, 0, 0]
def k0_off11 (i : grid0.Coords) : Fin 3 → Nat :=
  let arg1 : BitVec 32 := BitVec.ofNat 32 (i 1).val
  let c1_i32_74 : BitVec 32 := 1#32
  let v177 : BitVec 32 := Scalar.andi arg1 c1_i32_74
  let v376 : Index := Scalar.indexCast v177
  let c0_170 : Index := 0#32
  let c0_171 : Index := 0#32
  ![v376.toNat, 0, 0]
def k0_off12 (i : grid0.Coords) : Fin 4 → Nat :=
  let arg1 : BitVec 32 := BitVec.ofNat 32 (i 1).val
  let c1_i32_74 : BitVec 32 := 1#32
  let v177 : BitVec 32 := Scalar.andi arg1 c1_i32_74
  let v384 : Index := Scalar.indexCast v177
  let c1_173 : Index := 1#32
  let c0_174 : Index := 0#32
  let c0_175 : Index := 0#32
  ![v384.toNat, 1, 0, 0]
def k0_off13 (i : grid0.Coords) : Fin 4 → Nat :=
  let arg1 : BitVec 32 := BitVec.ofNat 32 (i 1).val
  let c1_i32_74 : BitVec 32 := 1#32
  let v177 : BitVec 32 := Scalar.andi arg1 c1_i32_74
  let v519 : Index := Scalar.indexCast v177
  let c0_205 : Index := 0#32
  let c0_206 : Index := 0#32
  let c0_207 : Index := 0#32
  ![v519.toNat, 0, 0, 0]
def k0_off14 (i : grid0.Coords) : Fin 4 → Nat :=
  let arg1 : BitVec 32 := BitVec.ofNat 32 (i 1).val
  let c1_i32_74 : BitVec 32 := 1#32
  let v177 : BitVec 32 := Scalar.andi arg1 c1_i32_74
  let v524 : Index := Scalar.indexCast v177
  let c1_208 : Index := 1#32
  let c0_209 : Index := 0#32
  let c0_210 : Index := 0#32
  ![v524.toNat, 1, 0, 0]
def k0_off15 (i : grid0.Coords) : Fin 4 → Nat :=
  let arg1 : BitVec 32 := BitVec.ofNat 32 (i 1).val
  let c1_i32_74 : BitVec 32 := 1#32
  let v177 : BitVec 32 := Scalar.andi arg1 c1_i32_74
  let v529 : Index := Scalar.indexCast v177
  let c2_211 : Index := 2#32
  let c0_212 : Index := 0#32
  let c0_213 : Index := 0#32
  ![v529.toNat, 2, 0, 0]
def k0_off16 (i : grid0.Coords) : Fin 4 → Nat :=
  let arg1 : BitVec 32 := BitVec.ofNat 32 (i 1).val
  let c1_i32_74 : BitVec 32 := 1#32
  let v177 : BitVec 32 := Scalar.andi arg1 c1_i32_74
  let v534 : Index := Scalar.indexCast v177
  let c3_214 : Index := 3#32
  let c0_215 : Index := 0#32
  let c0_216 : Index := 0#32
  ![v534.toNat, 3, 0, 0]
def k0_off17 (i : grid0.Coords) : Fin 4 → Nat :=
  let arg1 : BitVec 32 := BitVec.ofNat 32 (i 1).val
  let c1_i32_74 : BitVec 32 := 1#32
  let v177 : BitVec 32 := Scalar.andi arg1 c1_i32_74
  let v539 : Index := Scalar.indexCast v177
  let c4_217 : Index := 4#32
  let c0_218 : Index := 0#32
  let c0_219 : Index := 0#32
  ![v539.toNat, 4, 0, 0]
def k0_off18 (i : grid0.Coords) : Fin 4 → Nat :=
  let arg1 : BitVec 32 := BitVec.ofNat 32 (i 1).val
  let c1_i32_74 : BitVec 32 := 1#32
  let v177 : BitVec 32 := Scalar.andi arg1 c1_i32_74
  let v544 : Index := Scalar.indexCast v177
  let c5_220 : Index := 5#32
  let c0_221 : Index := 0#32
  let c0_222 : Index := 0#32
  ![v544.toNat, 5, 0, 0]
def k0_off19 (i : grid0.Coords) : Fin 4 → Nat :=
  let arg1 : BitVec 32 := BitVec.ofNat 32 (i 1).val
  let c1_i32_74 : BitVec 32 := 1#32
  let v177 : BitVec 32 := Scalar.andi arg1 c1_i32_74
  let v549 : Index := Scalar.indexCast v177
  let c6_223 : Index := 6#32
  let c0_224 : Index := 0#32
  let c0_225 : Index := 0#32
  ![v549.toNat, 6, 0, 0]
def k0_off20 (i : grid0.Coords) : Fin 4 → Nat :=
  let arg1 : BitVec 32 := BitVec.ofNat 32 (i 1).val
  let c1_i32_74 : BitVec 32 := 1#32
  let v177 : BitVec 32 := Scalar.andi arg1 c1_i32_74
  let v553 : Index := Scalar.indexCast v177
  let c0_226 : Index := 0#32
  let c0_227 : Index := 0#32
  let c0_228 : Index := 0#32
  ![v553.toNat, 0, 0, 0]
def cc0_transform_0 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c1_i32 : BitVec 32 := 1#32
  let v1 : BitVec 32 := Scalar.muli v0 c1_i32
  let c512_i32 : BitVec 32 := 512#32
  let v2 : BitVec 32 := Scalar.addi c512_i32 v1
  let c0_i32 : BitVec 32 := 0#32
  let v3 : BitVec 32 := Scalar.addi v2 c0_i32
  let c0_i32_0 : BitVec 32 := 0#32
  let c0_i32_1 : BitVec 32 := 0#32
  ![v3.toNat, c0_i32_0.toNat]

def cc0_transform_1 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  let c0_i32_3 : BitVec 32 := 0#32
  ![v1.toNat, c0_i32_0.toNat, c0_i32_1.toNat, c0_i32_2.toNat]

def cc0_transform_3 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c0_i32 : BitVec 32 := 0#32
  let c0_i32_0 : BitVec 32 := 0#32
  let c0_i32_1 : BitVec 32 := 0#32
  ![v0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c1_i32_0 : BitVec 32 := 1#32
  let v2 : BitVec 32 := Scalar.muli v1 c1_i32_0
  let c512_i32 : BitVec 32 := 512#32
  let v3 : BitVec 32 := Scalar.addi c512_i32 v2
  let c0_i32_1 : BitVec 32 := 0#32
  let v4 : BitVec 32 := Scalar.addi v3 c0_i32_1
  let c0_i32_2 : BitVec 32 := 0#32
  let c0_i32_3 : BitVec 32 := 0#32
  ![v4.toNat, c0_i32_2.toNat]

def cc0_transform_9 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c0_i32 : BitVec 32 := 0#32
  let c0_i32_0 : BitVec 32 := 0#32
  let c0_i32_1 : BitVec 32 := 0#32
  ![v0.toNat, c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  let c0_i32_3 : BitVec 32 := 0#32
  ![v1.toNat, c0_i32_0.toNat, c0_i32_1.toNat, c0_i32_2.toNat]

def cc0_transform_11 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c0_i32 : BitVec 32 := 0#32
  let c0_i32_0 : BitVec 32 := 0#32
  let c0_i32_1 : BitVec 32 := 0#32
  ![v0.toNat, c0_i32.toNat, c0_i32_0.toNat]

abbrev stage0_0 : Fin 2 → Memref sig .tc .vmem S64x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x3x1152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x6x64x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S4x1152 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S3x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x3x1152 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x6x64x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1x2x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]
-- ==== Reference9.lean ====
abbrev S33792x2956 : Shape := ⟨2, ![33792, 2956]⟩
abbrev S16x6x64x64 : Shape := ⟨4, ![16, 6, 64, 64]⟩
abbrev S16x3x1152 : Shape := ⟨3, ![16, 3, 1152]⟩
abbrev S16x2x256 : Shape := ⟨3, ![16, 2, 256]⟩
abbrev S4x1152 : Shape := ⟨2, ![4, 1152]⟩
abbrev S6 : Shape := ⟨1, ![6]⟩
abbrev S64 : Shape := ⟨1, ![64]⟩
abbrev S3x256 : Shape := ⟨2, ![3, 256]⟩
abbrev S1024x2956 : Shape := ⟨2, ![1024, 2956]⟩
abbrev S16x64x2956 : Shape := ⟨3, ![16, 64, 2956]⟩
abbrev S16x64x256 : Shape := ⟨3, ![16, 64, 256]⟩
abbrev S16x64x1152 : Shape := ⟨3, ![16, 64, 1152]⟩
abbrev S16x67x1152 : Shape := ⟨3, ![16, 67, 1152]⟩
abbrev S16x66x256 : Shape := ⟨3, ![16, 66, 256]⟩

abbrev nBuf : Space → Nat
  | .hbm => 19
  | .vmem => 0
  | .smem => 0
  | _ => 0

abbrev bufTy : (tb : Table) → Fin (tcTables nBuf tb) → BufTy
  | .hbm, ⟨0, _⟩ => ⟨S33792x2956, .f32⟩
  | .hbm, ⟨1, _⟩ => ⟨S16x6x64x64, .f32⟩
  | .hbm, ⟨2, _⟩ => ⟨S16x3x1152, .f32⟩
  | .hbm, ⟨3, _⟩ => ⟨S16x2x256, .f32⟩
  | .hbm, ⟨4, _⟩ => ⟨S4x1152, .f32⟩
  | .hbm, ⟨5, _⟩ => ⟨S6, .f32⟩
  | .hbm, ⟨6, _⟩ => ⟨S6, .f32⟩
  | .hbm, ⟨7, _⟩ => ⟨S64, .f32⟩
  | .hbm, ⟨8, _⟩ => ⟨S3x256, .f32⟩
  | .hbm, ⟨9, _⟩ => ⟨S1024x2956, .f32⟩
  | .hbm, ⟨10, _⟩ => ⟨S16x64x2956, .f32⟩
  | .hbm, ⟨11, _⟩ => ⟨S16x64x256, .f32⟩
  | .hbm, ⟨12, _⟩ => ⟨S16x64x256, .f32⟩
  | .hbm, ⟨13, _⟩ => ⟨S16x64x1152, .f32⟩
  | .hbm, ⟨14, _⟩ => ⟨S16x67x1152, .f32⟩
  | .hbm, ⟨15, _⟩ => ⟨S16x3x1152, .f32⟩
  | .hbm, ⟨16, _⟩ => ⟨S16x64x256, .f32⟩
  | .hbm, ⟨17, _⟩ => ⟨S16x66x256, .f32⟩
  | .hbm, ⟨18, _⟩ => ⟨S16x2x256, .f32⟩
  | _, _ => ⟨S33792x2956, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩

abbrev nD : Nat := 1
abbrev τ : Topo := Topo.v7x

variable {F : FTy → Type} [FloatOps F]
-- ==== Proof.InProj.lean ====
/-
  The layer's input projection: the array the call leaves is the product of the rows by the rearranged weights, and the columns
  the later calls read are the reference's.
-/
module

public import proofs.«01_k».proof.Proof.Gen.Kernel4Ideal.Frame
public import proofs.«01_k».proof.Proof.Gen.Reference4Ideal.Read
public import Idealize.ShloMosaic.Lib.Pipeline.Value
public import Idealize.ShloMosaic.Lib.Pipeline.ValueKit.Basic
public import Idealize.ShloMosaic.Lib.MatmulPlain
public import Idealize.ShloMosaic.PureOps.Ideal.Laws

@[expose] public section

set_option maxRecDepth 16384

noncomputable section

namespace Cert.Proof.InProj

open Cert.Kernel4Ideal Cert.Kernel4Ideal.Gen
open Idealize.ShloMosaic Idealize.ShloMosaic.TcCoe Idealize.ShloMosaic.Tactic Idealize.ShloMosaic.StableHlo
open Idealize.ShloMosaic.ValueIdx
open Idealize.ShloMosaic.Pipeline (Dat)

/-- Two indices with equal coordinates are equal. -/
theorem idx2_ext {n0 n1 : Nat} (y z : (⟨2, ![n0, n1]⟩ : Shape).Idx) (h0 : (y 0).val = (z 0).val) (h1 : (y 1).val = (z 1).val) :
    y = z := funext fun a => by
  match a with
  | ⟨0, _⟩ => exact Fin.ext h0
  | ⟨1, _⟩ => exact Fin.ext h1

/-! ## The program's arrays -/

section Run
variable {F : FTy → Type} [FloatOps F]
variable (m : (ℓ : Loc nD τ sig) → Buf (Elt F) ℓ) (c : Dev nD)

/-- The rows, as launched. -/
abbrev rowsIn : (⟨S33792x1024, .f32⟩ : BufTy).Contents (Elt F) := m ((c : Thread nD τ).loc main_arg0)
/-- The weights, as launched. -/
abbrev weightsIn : (⟨S1024x2956, .f32⟩ : BufTy).Contents (Elt F) := m ((c : Thread nD τ).loc main_arg1)

/-- The pieces the packed weights are made of. -/
abbrev pieces (w : (⟨S1024x2956, .f32⟩ : BufTy).Contents (Elt F)) : List ((s : Shape) × (s.Idx → Elt F .f32)) :=
    [⟨S1024x1536, (extractStridedSlice S1024x1536 ![0, 0] w slices_S1024x2956_S1024x1536_0_0 : (⟨S1024x1536, .f32⟩ : BufTy).Contents (Elt F))⟩,
     ⟨S1024x768, (extractStridedSlice S1024x768 ![0, 2188] w slices_S1024x2956_S1024x768_0_2188 : (⟨S1024x768, .f32⟩ : BufTy).Contents (Elt F))⟩,
     ⟨S1024x640, (extractStridedSlice S1024x640 ![0, 1548] w slices_S1024x2956_S1024x640_0_1548 : (⟨S1024x640, .f32⟩ : BufTy).Contents (Elt F))⟩,
     ⟨S1024x128, (concatenate S1024x128 1
        [⟨S1024x12, (extractStridedSlice S1024x12 ![0, 1536] w slices_S1024x2956_S1024x12_0_1536 : (⟨S1024x12, .f32⟩ : BufTy).Contents (Elt F))⟩,
         ⟨S1024x116, (broadcastInDim S1024x116 ![] bcast_S_S1024x116 (constant S_ .f32 0x00000000#32) : (⟨S1024x116, .f32⟩ : BufTy).Contents (Elt F))⟩]
        concatenates_S1024x12_S1024x116_S1024x128_d1 : (⟨S1024x128, .f32⟩ : BufTy).Contents (Elt F))⟩]

/-- The weights as the call takes them: columns regrouped, zero columns at the end, rounded. -/
def packed (w : (⟨S1024x2956, .f32⟩ : BufTy).Contents (Elt F)) : (⟨S1024x3072, .bf16⟩ : BufTy).Contents (Elt F) :=
  truncf .bf16 (concatenate S1024x3072 1 (pieces w)
    concatenates_S1024x1536_S1024x768_S1024x640_S1024x128_S1024x3072_d1 : (⟨S1024x3072, .f32⟩ : BufTy).Contents (Elt F)) bitsLt_bf16_f32

/-- The call's second operand is the packed weights. -/
theorem V_packed : V m c main_v7 = packed (weightsIn m c) := by
  unfold V V0 packed
  simp only [List.flatten_cons, List.flatten_nil, List.append_nil]
  after_results <;> rfl

/-- The array the call leaves. -/
abbrev outArr : (⟨S33792x3072, .f32⟩ : BufTy).Contents (Elt F) := (dats m 0 c).arrAt 2 cfg0.N

/-- The valuation the lines after the call start from. -/
abbrev Vout : Valuation τ sig (Elt F) := Pipeline.withArrays (cfgs 0).spec c (V0 m c) fun w => (dats m 0 c).arrAt w (cfgs 0).N
/-- After the call its result buffer holds the array the call leaves. -/
theorem Vout_out : Vout m c (Proc.devRef .tc main_v8) = outArr m c :=
  Pipeline.withArrays_arr spec0 launch0.win.arr_inj c (V0 m c) (fun w => (dats m 0 c).arrAt w (cfgs 0).N) 2

/-- A buffer's contents once the lines after the call have run. -/
abbrev ends (b : Ref sig .tc) : Buf (Elt F) ((c : Thread nD τ).loc b) := Pipeline.afterTail₀ cfgs (dats m) 0 (V0 m) [hostOps1] c b

/-- The first result is the first 1536 columns of the call's array. -/
theorem end_gdn : ends m c main_v13 = extractStridedSlice S33792x1536 ![0, 0] (outArr m c) slices_S33792x3072_S33792x1536_0_0 := by
  rw [← Vout_out m c]; unfold ends Pipeline.afterTail₀
  simp only [List.flatten_cons, List.flatten_nil, List.append_nil]
  after_results <;> rfl
/-- The second result is the columns from 1536 on. -/
theorem end_conv : ends m c main_v14 = extractStridedSlice S33792x768 ![0, 1536] (outArr m c) slices_S33792x3072_S33792x768_0_1536 := by
  rw [← Vout_out m c]; unfold ends Pipeline.afterTail₀
  simp only [List.flatten_cons, List.flatten_nil, List.append_nil]
  after_results <;> rfl
/-- The third result is the columns from 2304 on. -/
theorem end_swa : ends m c main_v15 = extractStridedSlice S33792x640 ![0, 2304] (outArr m c) slices_S33792x3072_S33792x640_0_2304 := by
  rw [← Vout_out m c]; unfold ends Pipeline.afterTail₀
  simp only [List.flatten_cons, List.flatten_nil, List.append_nil]
  after_results <;> rfl
/-- The fourth result is the twelve columns from 2944 on. -/
theorem end_gates : ends m c main_v16 = extractStridedSlice S33792x12 ![0, 2944] (outArr m c) slices_S33792x3072_S33792x12_0_2944 := by
  rw [← Vout_out m c]; unfold ends Pipeline.afterTail₀
  simp only [List.flatten_cons, List.flatten_nil, List.append_nil]
  after_results <;> rfl
/-- The fifth result is the last 128 positions of each prompt at the columns from 2816 on, split into heads. -/
theorem end_vPrompt : ends m c main_v17 = shapeCast S4x128x2x64 (extractStridedSlice S4x128x128 ![0, 8064, 0]
      (shapeCast S4x8192x128 (extractStridedSlice S32768x128 ![0, 2816] (outArr m c) slices_S33792x3072_S32768x128_0_2816) shapeCasts_S32768x128_S4x8192x128)
      slices_S4x8192x128_S4x128x128_0_8064_0) shapeCasts_S4x128x128_S4x128x2x64 := by
  rw [← Vout_out m c]; unfold ends Pipeline.afterTail₀
  simp only [List.flatten_cons, List.flatten_nil, List.append_nil]
  after_results <;> rfl
/-- The sixth result is the sample rows at the columns from 2816 on, split into heads. -/
theorem end_vSample : ends m c main_v18 = shapeCast S16x64x2x64
      (extractStridedSlice S1024x128 ![32768, 2816] (outArr m c) slices_S33792x3072_S1024x128_32768_2816) shapeCasts_S1024x128_S16x64x2x64 := by
  rw [← Vout_out m c]; unfold ends Pipeline.afterTail₀
  simp only [List.flatten_cons, List.flatten_nil, List.append_nil]
  after_results <;> rfl

end Run

/-! ## The product -/

section Product
variable (m : (ℓ : Loc nD τ sig) → Buf (Elt Ideal) ℓ) (c : Dev nD)

/-- Every element of the product of the rows by the packed weights. -/
def product (x : (⟨S33792x1024, .f32⟩ : BufTy).Contents (Elt Ideal)) (w : (⟨S1024x3072, .bf16⟩ : BufTy).Contents (Elt Ideal)) :
    (⟨S33792x3072, .f32⟩ : BufTy).Contents (Elt Ideal) := fun (i : S33792x3072.Idx) =>
  (∑ k : Fin 1024, (x : S33792x1024.Idx → EReal) (ix2 (n0 := 33792) (n1 := 1024) ⟨(i 0).val, (i 0).isLt⟩ k)
    * (w : S1024x3072.Idx → EReal) (ix2 (n0 := 1024) (n1 := 3072) k ⟨(i 1).val, (i 1).isLt⟩) : EReal)

/-- The body's product contracts the rows' columns with the weights' rows. -/
theorem dot_plain : dot_S512x1024_S1024x3072_S512x3072_1_0_0_1_n_n = DotDims.plain 512 1024 3072 := rfl

/-- The body's block is the product of its operands. -/
theorem block_apply (x : Vec Ideal S512x1024 .f32) (w : Vec Ideal S1024x3072 .bf16) (r : Fin 512) (q : Fin 3072) :
    (out0_2 (F := Ideal) x w : S512x3072.Idx → EReal) (ix2 r q)
      = ∑ k : Fin 1024, (x : S512x1024.Idx → EReal) (ix2 r k) * (w : S1024x3072.Idx → EReal) (ix2 k q) := by
  unfold out0_2
  rw [View.canon_cons_unit_lit _ _ _ (by decide), View.ld_unit_lit _ _ (by decide), View.ld_unit_lit _ _ (by decide)]
  unfold k0_pay1
  rw [dot_plain]
  refine (Ideal.matmul_plain_apply none _ _ _ r q).trans ?_
  show Ideal.ofBits .f32 0x00000000#32 + _ = _
  rw [Ideal.ofBits_zero_f32, zero_add]
  refine Finset.sum_congr rfl fun k _ => ?_
  rw [shapeCast_self]
  rfl

/-- A grid point's coordinate is its number. -/
theorem point_val (t : Fin cfg0.N) : (grid0.coords t 0).val = t.val := by
  have h : t.val < 66 := t.isLt
  show t.val / 1 % 66 = t.val
  omega

/-- The result's and the rows' windows move by one block a point. -/
theorem map_val (t : Fin cfg0.N) : cc0_transform_2 (grid0.coords t) 0 = t.val ∧ cc0_transform_0 (grid0.coords t) 0 = t.val := by
  have h : t.val < 66 := t.isLt
  have hp : ((grid0.coords t) 0).val = t.val := point_val t
  constructor
  · show ((BitVec.ofNat 32 ((grid0.coords t) 0).val).toNat) = t.val
    rw [hp, BitVec.toNat_ofNat]; omega
  · show ((BitVec.ofNat 32 ((grid0.coords t) 0).val).toNat) = t.val
    rw [hp, BitVec.toNat_ofNat]; omega

/-- Where an element of the result's block lies in the result. -/
theorem out_emb (t : Fin cfg0.N) (y : S512x3072.Idx) :
    ((cfg0.win 2).blk t).view.emb y = ix2 (n0 := 33792) (n1 := 3072)
      ⟨t.val * 512 + (y 0).val, by have h : t.val < 66 := t.isLt; have h0 : (y 0).val < 512 := (y 0).isLt; omega⟩ ⟨(y 1).val, (y 1).isLt⟩ := by
  refine idx2_ext (n0 := 33792) (n1 := 3072) _ _ ?_ ?_
  · show cc0_transform_2 (grid0.coords t) 0 * 512 + 1 * (y 0).val = t.val * 512 + (y 0).val
    rw [(map_val t).1]; omega
  · show cc0_transform_2 (grid0.coords t) 1 * 3072 + 1 * (y 1).val = (y 1).val
    rw [show cc0_transform_2 (grid0.coords t) 1 = 0 from rfl]; omega

/-- Where an element of the rows' block lies in the rows. -/
theorem rows_emb (t : Fin cfg0.N) (y : S512x1024.Idx) :
    ((cfg0.win 0).blk t).view.emb y = ix2 (n0 := 33792) (n1 := 1024)
      ⟨t.val * 512 + (y 0).val, by have h : t.val < 66 := t.isLt; have h0 : (y 0).val < 512 := (y 0).isLt; omega⟩ ⟨(y 1).val, (y 1).isLt⟩ := by
  refine idx2_ext (n0 := 33792) (n1 := 1024) _ _ ?_ ?_
  · show cc0_transform_0 (grid0.coords t) 0 * 512 + 1 * (y 0).val = t.val * 512 + (y 0).val
    rw [(map_val t).2]; omega
  · show cc0_transform_0 (grid0.coords t) 1 * 1024 + 1 * (y 1).val = (y 1).val
    rw [show cc0_transform_0 (grid0.coords t) 1 = 0 from rfl]; omega

/-- The weights' block is the whole array. -/
theorem weights_emb (t : Fin cfg0.N) (y : S1024x3072.Idx) : ((cfg0.win 1).blk t).view.emb y = y := by
  refine idx2_ext (n0 := 1024) (n1 := 3072) _ _ ?_ ?_
  · show cc0_transform_1 (grid0.coords t) 0 * 1024 + 1 * (y 0).val = (y 0).val
    rw [show cc0_transform_1 (grid0.coords t) 0 = 0 from rfl]; omega
  · show cc0_transform_1 (grid0.coords t) 1 * 3072 + 1 * (y 1).val = (y 1).val
    rw [show cc0_transform_1 (grid0.coords t) 1 = 0 from rfl]; omega

/-- A point writes back its block of the product. -/
theorem out_flushed (t : Fin cfg0.N) : (dats m 0 c).flushed 2 t
    = ((cfg0.win 2).blk t).view.read (Elt Ideal) (product (V m c main_arg0) (V m c main_v7)) := by
  refine funext fun (y : S512x3072.Idx) => ?_
  refine Eq.trans ?_ (congrArg (product (V m c main_arg0) (V m c main_v7)) (out_emb t y)).symm
  show (dats m 0 c).after 2 t (((cfg0.win 2).xinj _ y)) = _
  rw [after0_2]
  have hy : ((cfg0.win 2).xinj (cfg0.grid.coords t) y : S512x3072.Idx) = ix2 (n0 := 512) (n1 := 3072) ⟨(y 0).val, (y 0).isLt⟩ ⟨(y 1).val, (y 1).isLt⟩ :=
    idx2_ext (n0 := 512) (n1 := 3072) _ _ rfl rfl
  refine (congrArg (out0_2 (iblk m c 0 t) (iblk m c 1 t) : S512x3072.Idx → EReal) hy).trans ((block_apply _ _ _ _).trans ?_)
  unfold product
  refine Finset.sum_congr rfl fun k _ => congrArg₂ (fun a b : EReal => a * b) ?_ ?_
  · exact congrArg (V m c main_arg0 : S33792x1024.Idx → EReal) (rows_emb t _)
  · exact congrArg (V m c main_v7 : S1024x3072.Idx → EReal) (weights_emb t _)

/-- The array the call leaves is the product. -/
theorem out_eq : outArr m c = product (rowsIn m c) (packed (weightsIn m c)) := by
  rw [← V_packed m c]
  refine funext fun (i : S33792x3072.Idx) => ?_
  have h0 : (i 0).val < 33792 := (i 0).isLt
  have hN : (i 0).val / 512 < cfg0.N := show (i 0).val / 512 < 66 by omega
  have he : ((cfg0.win 2).blk ⟨(i 0).val / 512, hN⟩).view.emb (ix2 (n0 := 512) (n1 := 3072) ⟨(i 0).val % 512, Nat.mod_lt _ (by decide)⟩ ⟨(i 1).val, (i 1).isLt⟩) = i := by
    rw [out_emb]
    refine idx2_ext (n0 := 33792) (n1 := 3072) _ _ ?_ rfl
    show (i 0).val / 512 * 512 + (i 0).val % 512 = (i 0).val
    omega
  have h := (dats m 0 c).arrAt_apply_of_mem 2 (product (V m c main_arg0) (V m c main_v7)) (fun t _ => out_flushed m c t) cfg0.N
    ⟨(i 0).val / 512, hN⟩ i hN (flush0_2 _) (by
      have := ((cfg0.win 2).blk ⟨(i 0).val / 512, hN⟩).view.emb_mem_set (ix2 (n0 := 512) (n1 := 3072) ⟨(i 0).val % 512, Nat.mod_lt _ (by decide)⟩ ⟨(i 1).val, (i 1).isLt⟩)
      rwa [he] at this)
  exact h.trans (congrArg (fun x => product x (V m c main_v7) i) (V_main_arg0 m c))

end Product

/-! ## The columns -/

section Columns
variable (w : (⟨S1024x2956, .f32⟩ : BufTy).Contents (Elt Ideal)) (k : Fin 1024)

/-- The packed weights' first 1536 columns are the weights' first. -/
theorem packed_gdn (q : Fin 1536) : (packed (F := Ideal) w : S1024x3072.Idx → EReal) (ix2 (n0 := 1024) (n1 := 3072) k ⟨q.val, by omega⟩)
    = (w : S1024x2956.Idx → EReal) (ix2 (n0 := 1024) (n1 := 2956) k ⟨q.val, by omega⟩) := by
  unfold packed
  refine (concatenate_apply_piece (t := S1024x3072) 1 (pieces (F := Ideal) w) concatenates_S1024x1536_S1024x768_S1024x640_S1024x128_S1024x3072_d1 _ 0 (show 0 < 4 by decide) S1024x1536 _ rfl rfl 0 rfl (ix2 (n0 := 1024) (n1 := 1536) k q) ?_ ?_).trans ?_
  · intro b hb; match b with
    | ⟨0, _⟩ => rfl
    | ⟨1, _⟩ => exact absurd rfl hb
  · show 0 + q.val = q.val; omega
  · refine congrArg w (idx2_ext (n0 := 1024) (n1 := 2956) _ _ ?_ ?_)
    · show 0 + k.val = k.val; omega
    · show 0 + q.val = q.val; omega

/-- The packed weights' columns from 1536 on are the weights' from 2188 on. -/
theorem packed_conv (q : Fin 768) : (packed (F := Ideal) w : S1024x3072.Idx → EReal) (ix2 (n0 := 1024) (n1 := 3072) k ⟨1536 + q.val, by omega⟩)
    = (w : S1024x2956.Idx → EReal) (ix2 (n0 := 1024) (n1 := 2956) k ⟨2188 + q.val, by omega⟩) := by
  unfold packed
  refine (concatenate_apply_piece (t := S1024x3072) 1 (pieces (F := Ideal) w) concatenates_S1024x1536_S1024x768_S1024x640_S1024x128_S1024x3072_d1 _ 1 (show 1 < 4 by decide) S1024x768 _ rfl rfl 1536 rfl (ix2 (n0 := 1024) (n1 := 768) k q) ?_ rfl).trans ?_
  · intro b hb; match b with
    | ⟨0, _⟩ => rfl
    | ⟨1, _⟩ => exact absurd rfl hb
  · refine congrArg w (idx2_ext (n0 := 1024) (n1 := 2956) _ _ ?_ ?_)
    · show 0 + k.val = k.val; omega
    · show 2188 + q.val = 2188 + q.val; omega

/-- The packed weights' columns from 2304 on are the weights' from 1548 on. -/
theorem packed_swa (q : Fin 640) : (packed (F := Ideal) w : S1024x3072.Idx → EReal) (ix2 (n0 := 1024) (n1 := 3072) k ⟨2304 + q.val, by omega⟩)
    = (w : S1024x2956.Idx → EReal) (ix2 (n0 := 1024) (n1 := 2956) k ⟨1548 + q.val, by omega⟩) := by
  unfold packed
  refine (concatenate_apply_piece (t := S1024x3072) 1 (pieces (F := Ideal) w) concatenates_S1024x1536_S1024x768_S1024x640_S1024x128_S1024x3072_d1 _ 2 (show 2 < 4 by decide) S1024x640 _ rfl rfl 2304 rfl (ix2 (n0 := 1024) (n1 := 640) k q) ?_ rfl).trans ?_
  · intro b hb; match b with
    | ⟨0, _⟩ => rfl
    | ⟨1, _⟩ => exact absurd rfl hb
  · refine congrArg w (idx2_ext (n0 := 1024) (n1 := 2956) _ _ ?_ ?_)
    · show 0 + k.val = k.val; omega
    · show 1548 + q.val = 1548 + q.val; omega

/-- The packed weights' columns from 2944 on are the weights' from 1536 on. -/
theorem packed_gates (q : Fin 12) : (packed (F := Ideal) w : S1024x3072.Idx → EReal) (ix2 (n0 := 1024) (n1 := 3072) k ⟨2944 + q.val, by omega⟩)
    = (w : S1024x2956.Idx → EReal) (ix2 (n0 := 1024) (n1 := 2956) k ⟨1536 + q.val, by omega⟩) := by
  unfold packed
  refine (concatenate_apply_piece (t := S1024x3072) 1 (pieces (F := Ideal) w) concatenates_S1024x1536_S1024x768_S1024x640_S1024x128_S1024x3072_d1 _ 3 (show 3 < 4 by decide) S1024x128 _ rfl rfl 2944 rfl
    (ix2 (n0 := 1024) (n1 := 128) k ⟨q.val, by omega⟩) ?_ rfl).trans ?_
  · intro b hb; match b with
    | ⟨0, _⟩ => rfl
    | ⟨1, _⟩ => exact absurd rfl hb
  · refine (concatenate_pair_apply_left (t := S1024x128) 1 _ _ concatenates_S1024x12_S1024x116_S1024x128_d1 _ rfl (ix2 (n0 := 1024) (n1 := 12) k q) ?_).trans ?_
    · intro b; match b with
      | ⟨0, _⟩ => rfl
      | ⟨1, _⟩ => rfl
    · refine congrArg w (idx2_ext (n0 := 1024) (n1 := 2956) _ _ ?_ ?_)
      · show 0 + k.val = k.val; omega
      · show 1536 + q.val = 1536 + q.val; omega

end Columns

/-! ## The results -/

section Results

/-- A column of the product whose packed weights are a column of the weights is the reference's element there. -/
theorem product_eq (x : (⟨S33792x1024, .f32⟩ : BufTy).Contents (Elt Ideal)) (w : (⟨S1024x2956, .f32⟩ : BufTy).Contents (Elt Ideal))
    (r : Fin 33792) (p : Fin 3072) (q : Fin 2956)
    (h : ∀ k : Fin 1024, (packed (F := Ideal) w : S1024x3072.Idx → EReal) (ix2 (n0 := 1024) (n1 := 3072) k p)
      = (w : S1024x2956.Idx → EReal) (ix2 (n0 := 1024) (n1 := 2956) k q)) :
    (product x (packed (F := Ideal) w) : S33792x3072.Idx → EReal) (ix2 (n0 := 33792) (n1 := 3072) r p)
      = Cert.Reference4Ideal.Read.val_main_v0 (F := Ideal) x w (ix2 (n0 := 33792) (n1 := 2956) r q) := by
  refine Eq.trans ?_ (Cert.Reference4Ideal.Read.val_main_v0_apply x w _).symm
  unfold product
  refine Finset.sum_congr rfl fun k _ => congrArg₂ (fun a b : EReal => a * b) ?_ ?_
  · exact congrArg (x : S33792x1024.Idx → EReal) (idx2_ext (n0 := 33792) (n1 := 1024) _ _ rfl rfl)
  · exact (h k).trans (congrArg (w : S1024x2956.Idx → EReal) (idx2_ext (n0 := 1024) (n1 := 2956) _ _ rfl rfl))

variable (m : (ℓ : Loc nD τ sig) → Buf (Elt Ideal) ℓ) (c : Dev nD)

/-- The first result is the reference's first. -/
theorem gdn_eq : ends m c main_v13 = Cert.Reference4Ideal.Read.val_main_v6 (F := Ideal) (rowsIn m c) (weightsIn m c) := by
  rw [end_gdn m c, out_eq m c]
  refine funext fun (i : S33792x1536.Idx) => ?_
  have h1 : (i 1).val < 1536 := (i 1).isLt
  refine (extractStridedSlice_apply (t := S33792x1536) ![0, 0] _ slices_S33792x3072_S33792x1536_0_0 i
    (ix2 (n0 := 33792) (n1 := 3072) ⟨(i 0).val, (i 0).isLt⟩ ⟨0 + (i 1).val, by omega⟩) (fun a => match a with
      | ⟨0, _⟩ => by show (i 0).val = 0 + (i 0).val; omega
      | ⟨1, _⟩ => rfl)).trans ?_
  refine (product_eq _ _ ⟨(i 0).val, (i 0).isLt⟩ ⟨0 + (i 1).val, by omega⟩ ⟨0 + (i 1).val, by omega⟩ fun k => ?_).trans ?_
  · refine Eq.trans (congrArg (packed (F := Ideal) (weightsIn m c) : S1024x3072.Idx → EReal) ?_) ((packed_gdn (weightsIn m c) k ⟨(i 1).val, h1⟩).trans (congrArg (weightsIn m c : S1024x2956.Idx → EReal) ?_)) <;>
      exact idx2_ext _ _ rfl (by simp)
  · refine ((Cert.Reference4Ideal.Read.val_main_v6_apply (F := Ideal) (rowsIn m c) (weightsIn m c) i).trans ?_).symm
    exact congrArg (Cert.Reference4Ideal.Read.val_main_v0 (F := Ideal) (rowsIn m c) (weightsIn m c))
      (idx2_ext (n0 := 33792) (n1 := 2956) _ _ rfl (by show (i 1).val = 0 + (i 1).val; omega))

/-- The second result is the reference's second. -/
theorem conv_eq : ends m c main_v14 = Cert.Reference4Ideal.Read.val_main_v7 (F := Ideal) (rowsIn m c) (weightsIn m c) := by
  rw [end_conv m c, out_eq m c]
  refine funext fun (i : S33792x768.Idx) => ?_
  have h1 : (i 1).val < 768 := (i 1).isLt
  refine (extractStridedSlice_apply (t := S33792x768) ![0, 1536] _ slices_S33792x3072_S33792x768_0_1536 i
    (ix2 (n0 := 33792) (n1 := 3072) ⟨(i 0).val, (i 0).isLt⟩ ⟨1536 + (i 1).val, by omega⟩) (fun a => match a with
      | ⟨0, _⟩ => by show (i 0).val = 0 + (i 0).val; omega
      | ⟨1, _⟩ => rfl)).trans ?_
  refine (product_eq _ _ ⟨(i 0).val, (i 0).isLt⟩ ⟨1536 + (i 1).val, by omega⟩ ⟨2188 + (i 1).val, by omega⟩ fun k => ?_).trans ?_
  · exact packed_conv (weightsIn m c) k ⟨(i 1).val, h1⟩
  · refine ((Cert.Reference4Ideal.Read.val_main_v7_apply (F := Ideal) (rowsIn m c) (weightsIn m c) i).trans ?_).symm
    exact congrArg (Cert.Reference4Ideal.Read.val_main_v0 (F := Ideal) (rowsIn m c) (weightsIn m c))
      (idx2_ext (n0 := 33792) (n1 := 2956) _ _ rfl (by rfl))

/-- The third result is the reference's third. -/
theorem swa_eq : ends m c main_v15 = Cert.Reference4Ideal.Read.val_main_v8 (F := Ideal) (rowsIn m c) (weightsIn m c) := by
  rw [end_swa m c, out_eq m c]
  refine funext fun (i : S33792x640.Idx) => ?_
  have h1 : (i 1).val < 640 := (i 1).isLt
  refine (extractStridedSlice_apply (t := S33792x640) ![0, 2304] _ slices_S33792x3072_S33792x640_0_2304 i
    (ix2 (n0 := 33792) (n1 := 3072) ⟨(i 0).val, (i 0).isLt⟩ ⟨2304 + (i 1).val, by omega⟩) (fun a => match a with
      | ⟨0, _⟩ => by show (i 0).val = 0 + (i 0).val; omega
      | ⟨1, _⟩ => rfl)).trans ?_
  refine (product_eq _ _ ⟨(i 0).val, (i 0).isLt⟩ ⟨2304 + (i 1).val, by omega⟩ ⟨1548 + (i 1).val, by omega⟩ fun k => ?_).trans ?_
  · exact packed_swa (weightsIn m c) k ⟨(i 1).val, h1⟩
  · refine ((Cert.Reference4Ideal.Read.val_main_v8_apply (F := Ideal) (rowsIn m c) (weightsIn m c) i).trans ?_).symm
    exact congrArg (Cert.Reference4Ideal.Read.val_main_v0 (F := Ideal) (rowsIn m c) (weightsIn m c))
      (idx2_ext (n0 := 33792) (n1 := 2956) _ _ rfl (by rfl))

/-- The fourth result is the reference's fourth. -/
theorem gates_eq : ends m c main_v16 = Cert.Reference4Ideal.Read.val_main_v9 (F := Ideal) (rowsIn m c) (weightsIn m c) := by
  rw [end_gates m c, out_eq m c]
  refine funext fun (i : S33792x12.Idx) => ?_
  have h1 : (i 1).val < 12 := (i 1).isLt
  refine (extractStridedSlice_apply (t := S33792x12) ![0, 2944] _ slices_S33792x3072_S33792x12_0_2944 i
    (ix2 (n0 := 33792) (n1 := 3072) ⟨(i 0).val, (i 0).isLt⟩ ⟨2944 + (i 1).val, by omega⟩) (fun a => match a with
      | ⟨0, _⟩ => by show (i 0).val = 0 + (i 0).val; omega
      | ⟨1, _⟩ => rfl)).trans ?_
  refine (product_eq _ _ ⟨(i 0).val, (i 0).isLt⟩ ⟨2944 + (i 1).val, by omega⟩ ⟨1536 + (i 1).val, by omega⟩ fun k => ?_).trans ?_
  · exact packed_gates (weightsIn m c) k ⟨(i 1).val, h1⟩
  · refine ((Cert.Reference4Ideal.Read.val_main_v9_apply (F := Ideal) (rowsIn m c) (weightsIn m c) i).trans ?_).symm
    exact congrArg (Cert.Reference4Ideal.Read.val_main_v0 (F := Ideal) (rowsIn m c) (weightsIn m c))
      (idx2_ext (n0 := 33792) (n1 := 2956) _ _ rfl (by rfl))

/-- An element of the window's values in the product, as the reference's element. -/
theorem product_v (r : Fin 33792) (l : Nat) (hl : l < 128) :
    (product (rowsIn m c) (packed (F := Ideal) (weightsIn m c)) : S33792x3072.Idx → EReal) (ix2 (n0 := 33792) (n1 := 3072) r ⟨2816 + l, by omega⟩)
      = Cert.Reference4Ideal.Read.val_main_v0 (F := Ideal) (rowsIn m c) (weightsIn m c) (ix2 (n0 := 33792) (n1 := 2956) r ⟨2060 + l, by omega⟩) := by
  refine product_eq _ _ _ _ _ fun k => ?_
  refine Eq.trans (congrArg (packed (F := Ideal) (weightsIn m c) : S1024x3072.Idx → EReal) ?_)
    ((packed_swa (weightsIn m c) k ⟨512 + l, by omega⟩).trans (congrArg (weightsIn m c : S1024x2956.Idx → EReal) ?_))
  · exact idx2_ext _ _ rfl (show 2816 + l = 2304 + (512 + l) by omega)
  · exact idx2_ext _ _ rfl (show 1548 + (512 + l) = 2060 + l by omega)

/-- The sixth result is the reference's sixth. -/
theorem vSample_eq : ends m c main_v18 = Cert.Reference4Ideal.Read.val_main_v5 (F := Ideal) (rowsIn m c) (weightsIn m c) := by
  rw [end_vSample m c, out_eq m c]
  refine funext fun (i : S16x64x2x64.Idx) => ?_
  have h0 : (i 0).val < 16 := (i 0).isLt
  have h1 : (i 1).val < 64 := (i 1).isLt
  have h2 : (i 2).val < 2 := (i 2).isLt
  have h3 : (i 3).val < 64 := (i 3).isLt
  refine (shapeCast_apply _ shapeCasts_S1024x128_S16x64x2x64 i
    (ix2 (n0 := 1024) (n1 := 128) ⟨(i 0).val * 64 + (i 1).val, by omega⟩ ⟨(i 2).val * 64 + (i 3).val, by omega⟩) (by
      rewrite [Shape.rowMajor_val_two, Shape.rowMajor_val_four]
      show ((i 0).val * 64 + (i 1).val) * 128 + ((i 2).val * 64 + (i 3).val) = (((i 0).val * 64 + (i 1).val) * 2 + (i 2).val) * 64 + (i 3).val
      omega)).trans ?_
  refine (extractStridedSlice_apply (t := S1024x128) ![32768, 2816] _ slices_S33792x3072_S1024x128_32768_2816 _
    (ix2 (n0 := 33792) (n1 := 3072) ⟨32768 + ((i 0).val * 64 + (i 1).val), by omega⟩ ⟨2816 + ((i 2).val * 64 + (i 3).val), by omega⟩) (fun a => match a with
      | ⟨0, _⟩ => rfl
      | ⟨1, _⟩ => rfl)).trans ?_
  refine (product_v m c ⟨32768 + ((i 0).val * 64 + (i 1).val), by omega⟩ ((i 2).val * 64 + (i 3).val) (by omega)).trans ?_
  rw [Cert.Reference4Ideal.Read.val_main_v5_apply, Cert.Reference4Ideal.Read.val_main_v4_apply, Cert.Reference4Ideal.Read.val_main_v1_apply]
  refine congrArg (Cert.Reference4Ideal.Read.val_main_v0 (F := Ideal) (rowsIn m c) (weightsIn m c)) (idx2_ext (n0 := 33792) (n1 := 2956) _ _ ?_ ?_)
  · show 32768 + ((i 0).val * 64 + (i 1).val) = 32768 + ((((i 0).val * 64 + (i 1).val) * 2 + (i 2).val) * 64 + (i 3).val) / 128
    omega
  · show 2060 + ((i 2).val * 64 + (i 3).val) = 2060 + ((((i 0).val * 64 + (i 1).val) * 2 + (i 2).val) * 64 + (i 3).val) % 128
    omega

/-- The fifth result is the reference's fifth. -/
theorem vPrompt_eq : ends m c main_v17 = Cert.Reference4Ideal.Read.val_main_v10 (F := Ideal) (rowsIn m c) (weightsIn m c) := by
  rw [end_vPrompt m c, out_eq m c]
  refine funext fun (i : S4x128x2x64.Idx) => ?_
  have h0 : (i 0).val < 4 := (i 0).isLt
  have h1 : (i 1).val < 128 := (i 1).isLt
  have h2 : (i 2).val < 2 := (i 2).isLt
  have h3 : (i 3).val < 64 := (i 3).isLt
  refine (shapeCast_apply _ shapeCasts_S4x128x128_S4x128x2x64 i
    (ix3 (n0 := 4) (n1 := 128) (n2 := 128) ⟨(i 0).val, h0⟩ ⟨(i 1).val, h1⟩ ⟨(i 2).val * 64 + (i 3).val, by omega⟩) (by
      rewrite [Shape.rowMajor_val_three, Shape.rowMajor_val_four]
      show ((i 0).val * 128 + (i 1).val) * 128 + ((i 2).val * 64 + (i 3).val) = (((i 0).val * 128 + (i 1).val) * 2 + (i 2).val) * 64 + (i 3).val
      omega)).trans ?_
  refine (extractStridedSlice_apply (t := S4x128x128) ![0, 8064, 0] _ slices_S4x8192x128_S4x128x128_0_8064_0 _
    (ix3 (n0 := 4) (n1 := 8192) (n2 := 128) ⟨(i 0).val, h0⟩ ⟨8064 + (i 1).val, by omega⟩ ⟨(i 2).val * 64 + (i 3).val, by omega⟩) (fun a => match a with
      | ⟨0, _⟩ => by show (i 0).val = 0 + (i 0).val; omega
      | ⟨1, _⟩ => rfl
      | ⟨2, _⟩ => by show (i 2).val * 64 + (i 3).val = 0 + ((i 2).val * 64 + (i 3).val); omega)).trans ?_
  refine (shapeCast_apply _ shapeCasts_S32768x128_S4x8192x128 _
    (ix2 (n0 := 32768) (n1 := 128) ⟨(i 0).val * 8192 + (8064 + (i 1).val), by omega⟩ ⟨(i 2).val * 64 + (i 3).val, by omega⟩) (by
      rewrite [Shape.rowMajor_val_two, Shape.rowMajor_val_three]
      rfl)).trans ?_
  refine (extractStridedSlice_apply (t := S32768x128) ![0, 2816] _ slices_S33792x3072_S32768x128_0_2816 _
    (ix2 (n0 := 33792) (n1 := 3072) ⟨(i 0).val * 8192 + (8064 + (i 1).val), by omega⟩ ⟨2816 + ((i 2).val * 64 + (i 3).val), by omega⟩) (fun a => match a with
      | ⟨0, _⟩ => by show (i 0).val * 8192 + (8064 + (i 1).val) = 0 + ((i 0).val * 8192 + (8064 + (i 1).val)); omega
      | ⟨1, _⟩ => rfl)).trans ?_
  refine (product_v m c ⟨(i 0).val * 8192 + (8064 + (i 1).val), by omega⟩ ((i 2).val * 64 + (i 3).val) (by omega)).trans ?_
  rw [Cert.Reference4Ideal.Read.val_main_v10_apply, Cert.Reference4Ideal.Read.val_main_v3_apply, Cert.Reference4Ideal.Read.val_main_v2_apply,
    Cert.Reference4Ideal.Read.val_main_v1_apply]
  refine congrArg (Cert.Reference4Ideal.Read.val_main_v0 (F := Ideal) (rowsIn m c) (weightsIn m c)) (idx2_ext (n0 := 33792) (n1 := 2956) _ _ ?_ ?_)
  · show (i 0).val * 8192 + (8064 + (i 1).val) = ((((i 0).val * 8192 + (8064 + (i 1).val)) * 2 + (i 2).val) * 64 + (i 3).val) / 128
    omega
  · show 2060 + ((i 2).val * 64 + (i 3).val) = 2060 + ((((i 0).val * 8192 + (8064 + (i 1).val)) * 2 + (i 2).val) * 64 + (i 3).val) % 128
    omega

/-- Every execution ends with the six results at the reference's values and the arguments unchanged. -/
theorem run_vals (ρ : Dev nD → PrngReg) :
    θ_run (defs (F := Ideal)) (onTc (τ := τ) (main (F := Ideal))) ⟨m, fun _ => 0, ρ⟩ (fun r => ∀ c : Dev nD,
      r.2.mem ((c.tc : Thread nD τ).loc main_v13) = Cert.Reference4Ideal.Read.val_main_v6 (F := Ideal) (rowsIn m c) (weightsIn m c)
      ∧ r.2.mem ((c.tc : Thread nD τ).loc main_v14) = Cert.Reference4Ideal.Read.val_main_v7 (F := Ideal) (rowsIn m c) (weightsIn m c)
      ∧ r.2.mem ((c.tc : Thread nD τ).loc main_v15) = Cert.Reference4Ideal.Read.val_main_v8 (F := Ideal) (rowsIn m c) (weightsIn m c)
      ∧ r.2.mem ((c.tc : Thread nD τ).loc main_v16) = Cert.Reference4Ideal.Read.val_main_v9 (F := Ideal) (rowsIn m c) (weightsIn m c)
      ∧ r.2.mem ((c.tc : Thread nD τ).loc main_v17) = Cert.Reference4Ideal.Read.val_main_v10 (F := Ideal) (rowsIn m c) (weightsIn m c)
      ∧ r.2.mem ((c.tc : Thread nD τ).loc main_v18) = Cert.Reference4Ideal.Read.val_main_v5 (F := Ideal) (rowsIn m c) (weightsIn m c)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ?_) (θ_run_and (run_main m ρ) (unchanged m ρ))
  have hb := (h.1 c).2
  exact ⟨(hb main_v13 (Pipeline.mem_restRefs_of main_v13 (by decide) (by decide))).trans (gdn_eq m c),
    (hb main_v14 (Pipeline.mem_restRefs_of main_v14 (by decide) (by decide))).trans (conv_eq m c),
    (hb main_v15 (Pipeline.mem_restRefs_of main_v15 (by decide) (by decide))).trans (swa_eq m c),
    (hb main_v16 (Pipeline.mem_restRefs_of main_v16 (by decide) (by decide))).trans (gates_eq m c),
    (hb main_v17 (Pipeline.mem_restRefs_of main_v17 (by decide) (by decide))).trans (vPrompt_eq m c),
    (hb main_v18 (Pipeline.mem_restRefs_of main_v18 (by decide) (by decide))).trans (vSample_eq m c), h.2 c⟩

end Results

end Cert.Proof.InProj

end
-- ==== Proof.Turn.lean ====
/-
  Rotary positions on 128 lanes: what the body's rotated keys are at a point, the tables it reads, and the columns of the
  input projection the keys lie in.
-/
module

public import proofs.«01_k».proof.Proof.InProj
public import Idealize.ShloMosaic.Lib.KernelVsHost

@[expose] public section

set_option maxRecDepth 16384

noncomputable section

namespace Cert.Proof.Turn

open Idealize.ShloMosaic Idealize.ShloMosaic.TcCoe Idealize.ShloMosaic.Tactic Idealize.ShloMosaic.StableHlo
open Idealize.ShloMosaic.ValueIdx
open Cert.Proof.InProj (idx2_ext)

/-- The lane half a head away: forward in a head's first half, back in its second. -/
def mate (l : Nat) : Nat := if l % 64 < 32 then l + 32 else l - 32
/-- It is a lane. -/
theorem mate_lt {l : Nat} (h : l < 128) : mate l < 128 := by unfold mate; split <;> omega

/-- The mask is set on a head's first half. -/
theorem mask_at (l : Fin 128) : IntOp.cmpi .slt (BitVec.ofNat 32 l.val &&& 63#32) 32#32 = if l.val % 64 < 32 then 1#1 else 0#1 := by
  revert l; decide

/-- Four tables side by side. -/
abbrev fourOf {n : Nat} (a b c d : (⟨2, ![n, 32]⟩ : Shape).Idx → EReal) : List ((s : Shape) × (s.Idx → EReal)) :=
  [⟨(⟨2, ![n, 32]⟩ : Shape), a⟩, ⟨(⟨2, ![n, 32]⟩ : Shape), b⟩, ⟨(⟨2, ![n, 32]⟩ : Shape), c⟩, ⟨(⟨2, ![n, 32]⟩ : Shape), d⟩]

/-- A table of four copies' worth of lanes reads its piece. -/
theorem four_apply {n : Nat} (a b c d : (⟨2, ![n, 32]⟩ : Shape).Idx → EReal)
    (h : Shape.Concatenates [(⟨2, ![n, 32]⟩ : Shape), ⟨2, ![n, 32]⟩, ⟨2, ![n, 32]⟩, ⟨2, ![n, 32]⟩] (⟨2, ![n, 128]⟩ : Shape) 1) (r : Fin n) (l : Fin 128) :
    concatenate (⟨2, ![n, 128]⟩ : Shape) 1 [⟨(⟨2, ![n, 32]⟩ : Shape), a⟩, ⟨(⟨2, ![n, 32]⟩ : Shape), b⟩, ⟨(⟨2, ![n, 32]⟩ : Shape), c⟩, ⟨(⟨2, ![n, 32]⟩ : Shape), d⟩] h (ix2 r l)
      = (if l.val < 32 then a else if l.val < 64 then b else if l.val < 96 then c else d) (ix2 r (⟨l.val % 32, Nat.mod_lt _ (by decide)⟩ : Fin 32)) := by
  have hl : l.val < 128 := l.isLt
  by_cases h0 : l.val < 32
  · rw [if_pos h0]
    refine concatenate_apply_piece (t := (⟨2, ![n, 128]⟩ : Shape)) 1 (fourOf a b c d) h _ 0 (show 0 < 4 by decide) (⟨2, ![n, 32]⟩ : Shape) a rfl rfl 0 rfl _ ?_ ?_
    · intro p hp; match p with
      | ⟨0, _⟩ => rfl
      | ⟨1, _⟩ => exact absurd rfl hp
    · show 0 + l.val % 32 = l.val; omega
  rw [if_neg h0]
  by_cases h1 : l.val < 64
  · rw [if_pos h1]
    refine concatenate_apply_piece (t := (⟨2, ![n, 128]⟩ : Shape)) 1 (fourOf a b c d) h _ 1 (show 1 < 4 by decide) (⟨2, ![n, 32]⟩ : Shape) b rfl rfl 32 rfl _ ?_ ?_
    · intro p hp; match p with
      | ⟨0, _⟩ => rfl
      | ⟨1, _⟩ => exact absurd rfl hp
    · show 32 + l.val % 32 = l.val; omega
  rw [if_neg h1]
  by_cases h2 : l.val < 96
  · rw [if_pos h2]
    refine concatenate_apply_piece (t := (⟨2, ![n, 128]⟩ : Shape)) 1 (fourOf a b c d) h _ 2 (show 2 < 4 by decide) (⟨2, ![n, 32]⟩ : Shape) c rfl rfl 64 rfl _ ?_ ?_
    · intro p hp; match p with
      | ⟨0, _⟩ => rfl
      | ⟨1, _⟩ => exact absurd rfl hp
    · show 64 + l.val % 32 = l.val; omega
  rw [if_neg h2]
  refine concatenate_apply_piece (t := (⟨2, ![n, 128]⟩ : Shape)) 1 (fourOf a b c d) h _ 3 (show 3 < 4 by decide) (⟨2, ![n, 32]⟩ : Shape) d rfl rfl 96 rfl _ ?_ ?_
  · intro p hp; match p with
    | ⟨0, _⟩ => rfl
    | ⟨1, _⟩ => exact absurd rfl hp
  · show 96 + l.val % 32 = l.val; omega

/-- The element the body leaves: the lane's own times the first table's, plus its mate's times the second table's. -/
def turned {n : Nat} (x p q : (⟨2, ![n, 128]⟩ : Shape).Idx → EReal) (r : Fin n) (l : Fin 128) : EReal :=
  x (ix2 r l) * p (ix2 r l) + x (ix2 r ⟨mate l.val, mate_lt l.isLt⟩) * q (ix2 r l)

/-- The body's lines on a block of keys and its two tables, at a point. -/
theorem turned_apply {n : Nat} (x p q : FVec Ideal (⟨2, ![n, 128]⟩ : Shape) .f32)
    (hs : (⟨2, ![n, 128]⟩ : Shape).ShapeCasts (⟨2, ![n, 128]⟩ : Shape)) (hi : (⟨2, ![n, 128]⟩ : Shape).Iotas .tc 32 [1])
    (hr : (⟨2, ![n, 128]⟩ : Shape).Rotates 1 none) (r : Fin n) (l : Fin 128) :
    (addf (mulf (shapeCast (⟨2, ![n, 128]⟩ : Shape) x hs) (shapeCast (⟨2, ![n, 128]⟩ : Shape) p hs))
      (mulf (select (cmpi .slt (andi (iota .tc (⟨2, ![n, 128]⟩ : Shape) 32 [1] hi) (broadcast (⟨2, ![n, 128]⟩ : Shape) 63#32)) (broadcast (⟨2, ![n, 128]⟩ : Shape) 32#32))
          (dynamicRotate 1 96#32 none (shapeCast (⟨2, ![n, 128]⟩ : Shape) x hs) hr) (dynamicRotate 1 32#32 none (shapeCast (⟨2, ![n, 128]⟩ : Shape) x hs) hr))
        (shapeCast (⟨2, ![n, 128]⟩ : Shape) q hs)) : FVec Ideal (⟨2, ![n, 128]⟩ : Shape) .f32) (ix2 r l)
      = turned (n := n) x p q r l := by
  have hl : l.val < 128 := l.isLt
  rw [shapeCast_self, shapeCast_self, shapeCast_self]
  unfold turned
  show (x (ix2 r l) : EReal) * p (ix2 r l) + (select _ _ _ (ix2 r l) : EReal) * q (ix2 r l) = _
  refine congrArg (fun z : EReal => x (ix2 r l) * p (ix2 r l) + z * q (ix2 r l)) ?_
  have hc : (cmpi .slt (andi (iota .tc (⟨2, ![n, 128]⟩ : Shape) 32 [1] hi) (broadcast (⟨2, ![n, 128]⟩ : Shape) 63#32)) (broadcast (⟨2, ![n, 128]⟩ : Shape) 32#32)) (ix2 r l)
      = if l.val % 64 < 32 then 1#1 else 0#1 := by
    refine Eq.trans ?_ (mask_at l)
    show IntOp.cmpi .slt (iota .tc (⟨2, ![n, 128]⟩ : Shape) 32 [1] hi (ix2 r l) &&& 63#32) 32#32 = _
    rw [iota_single_apply]
    rfl
  show (if _ = 1#1 then _ else _ : EReal) = _
  by_cases h : l.val % 64 < 32
  · rw [hc, if_pos h, if_pos rfl]
    refine dynamicRotate_apply (s := (⟨2, ![n, 128]⟩ : Shape)) 1 _ x hr _ _ fun b => ?_
    match b with
    | ⟨0, _⟩ => rfl
    | ⟨1, _⟩ => show mate l.val = (l.val + 128 - 96 % 128) % 128; unfold mate; rw [if_pos h]; omega
  · rw [hc, if_neg h, if_neg (by decide)]
    refine dynamicRotate_apply (s := (⟨2, ![n, 128]⟩ : Shape)) 1 _ x hr _ _ fun b => ?_
    match b with
    | ⟨0, _⟩ => rfl
    | ⟨1, _⟩ => show mate l.val = (l.val + 128 - 32 % 128) % 128; unfold mate; rw [if_neg h]; omega

/-- A key's element after the rotation, by its position in its head: the first half takes the mate's product with the sine away,
    the second half adds it. -/
def rotated (x : Fin 128 → EReal) (cs sn : Fin 32 → EReal) (l : Fin 128) : EReal :=
  if l.val % 64 < 32 then x l * cs ⟨l.val % 32, Nat.mod_lt _ (by decide)⟩ - x ⟨mate l.val, mate_lt l.isLt⟩ * sn ⟨l.val % 32, Nat.mod_lt _ (by decide)⟩
  else x l * cs ⟨l.val % 32, Nat.mod_lt _ (by decide)⟩ + x ⟨mate l.val, mate_lt l.isLt⟩ * sn ⟨l.val % 32, Nat.mod_lt _ (by decide)⟩

/-- The element the body leaves is the rotated key's, whatever block and tables hold the key, the cosines and the signed sines. -/
theorem turned_eq {n : Nat} (x p q : (⟨2, ![n, 128]⟩ : Shape).Idx → EReal) (k : Fin 128 → EReal) (cs sn : Fin 32 → EReal) (r : Fin n) (l : Fin 128)
    (hx : ∀ l : Fin 128, x (ix2 r l) = k l) (hp : p (ix2 r l) = cs ⟨l.val % 32, Nat.mod_lt _ (by decide)⟩)
    (hq : q (ix2 r l) = if l.val % 64 < 32 then -(sn ⟨l.val % 32, Nat.mod_lt _ (by decide)⟩) else sn ⟨l.val % 32, Nat.mod_lt _ (by decide)⟩) :
    turned x p q r l = rotated k cs sn l := by
  unfold turned rotated
  rw [hp, hq, hx, hx]
  by_cases h : l.val % 64 < 32
  · rw [if_pos h, if_pos h, mul_neg, sub_eq_add_neg]
  · rw [if_neg h, if_neg h]

/-- The first table is the same row of cosines four times. -/
theorem cos_table {n : Nat} (a : (⟨2, ![n, 32]⟩ : Shape).Idx → EReal)
    (h : Shape.Concatenates [(⟨2, ![n, 32]⟩ : Shape), ⟨2, ![n, 32]⟩, ⟨2, ![n, 32]⟩, ⟨2, ![n, 32]⟩] (⟨2, ![n, 128]⟩ : Shape) 1) (r : Fin n) (l : Fin 128) :
    concatenate (⟨2, ![n, 128]⟩ : Shape) 1 [⟨(⟨2, ![n, 32]⟩ : Shape), a⟩, ⟨(⟨2, ![n, 32]⟩ : Shape), a⟩, ⟨(⟨2, ![n, 32]⟩ : Shape), a⟩, ⟨(⟨2, ![n, 32]⟩ : Shape), a⟩] h (ix2 r l)
      = a (ix2 r (⟨l.val % 32, Nat.mod_lt _ (by decide)⟩ : Fin 32)) := by
  rw [four_apply]
  repeat' split
  all_goals rfl

/-- The second table is the row of sines, its sign turned on each head's first half. -/
theorem sin_table {n : Nat} (a : FVec Ideal (⟨2, ![n, 32]⟩ : Shape) .f32)
    (h : Shape.Concatenates [(⟨2, ![n, 32]⟩ : Shape), ⟨2, ![n, 32]⟩, ⟨2, ![n, 32]⟩, ⟨2, ![n, 32]⟩] (⟨2, ![n, 128]⟩ : Shape) 1) (r : Fin n) (l : Fin 128) :
    (concatenate (⟨2, ![n, 128]⟩ : Shape) 1 [⟨(⟨2, ![n, 32]⟩ : Shape), Host.negf a⟩, ⟨(⟨2, ![n, 32]⟩ : Shape), a⟩, ⟨(⟨2, ![n, 32]⟩ : Shape), Host.negf a⟩, ⟨(⟨2, ![n, 32]⟩ : Shape), a⟩] h : (⟨2, ![n, 128]⟩ : Shape).Idx → EReal) (ix2 r l)
      = if l.val % 64 < 32 then -((a (ix2 r (⟨l.val % 32, Nat.mod_lt _ (by decide)⟩ : Fin 32)) : EReal)) else a (ix2 r (⟨l.val % 32, Nat.mod_lt _ (by decide)⟩ : Fin 32)) := by
  have hl : l.val < 128 := l.isLt
  refine (four_apply (n := n) (Host.negf a) a (Host.negf a) a h r l).trans ?_
  by_cases h0 : l.val < 32
  · rw [if_pos h0, if_pos (show l.val % 64 < 32 by omega)]; rfl
  rw [if_neg h0]
  by_cases h1 : l.val < 64
  · rw [if_pos h1, if_neg (show ¬ l.val % 64 < 32 by omega)]
  rw [if_neg h1]
  by_cases h2 : l.val < 96
  · rw [if_pos h2, if_pos (show l.val % 64 < 32 by omega)]; rfl
  · rw [if_neg h2, if_neg (show ¬ l.val % 64 < 32 by omega)]

/-- Rows whose columns are regrouped as the projection's call leaves them hold the window's columns from 2304 on. -/
theorem regrouped {α : Type} (n : Nat) (xs : List ((s : Shape) × (s.Idx → α))) (z : (⟨2, ![n, 2956]⟩ : Shape).Idx → α)
    (a : (⟨2, ![n, 1536]⟩ : Shape).Idx → α) (b : (⟨2, ![n, 768]⟩ : Shape).Idx → α) (d : (⟨2, ![n, 128]⟩ : Shape).Idx → α)
    (hz : (⟨2, ![n, 2956]⟩ : Shape).Slices ![0, 1548] (⟨2, ![n, 640]⟩ : Shape))
    (hx : xs = [⟨(⟨2, ![n, 1536]⟩ : Shape), a⟩, ⟨(⟨2, ![n, 768]⟩ : Shape), b⟩, ⟨(⟨2, ![n, 640]⟩ : Shape), extractStridedSlice (⟨2, ![n, 640]⟩ : Shape) ![0, 1548] z hz⟩, ⟨(⟨2, ![n, 128]⟩ : Shape), d⟩])
    (h : Shape.Concatenates (xs.map (·.1)) (⟨2, ![n, 3072]⟩ : Shape) 1) (r : Fin n) (q : Fin 640) :
    concatenate (⟨2, ![n, 3072]⟩ : Shape) 1 xs h (ix2 r (⟨2304 + q.val, by omega⟩ : Fin 3072)) = z (ix2 r (⟨1548 + q.val, by omega⟩ : Fin 2956)) := by
  subst hx
  refine (concatenate_apply_piece (t := (⟨2, ![n, 3072]⟩ : Shape)) 1 _ h _ 2 (show 2 < 4 by decide) (⟨2, ![n, 640]⟩ : Shape) _ rfl rfl 2304 rfl (ix2 r q) ?_ rfl).trans ?_
  · intro b hb; match b with
    | ⟨0, _⟩ => rfl
    | ⟨1, _⟩ => exact absurd rfl hb
  · refine congrArg z (idx2_ext _ _ ?_ ?_)
    · show 0 + r.val = r.val; omega
    · show 1548 + q.val = 1548 + q.val; rfl

end Cert.Proof.Turn

end
-- ==== Proof.KeyPrompt.lean ====
/-
  The prompts' rotated keys: the array the call leaves holds, row by row, the keys turned to their positions, and the
  result is the reference's.
-/
module

public import proofs.«01_k».proof.Proof.Gen.Kernel6Ideal.Frame
public import proofs.«01_k».proof.Proof.Gen.Reference6Ideal.Read
public import proofs.«01_k».proof.Proof.Turn
public import Idealize.ShloMosaic.Lib.WholeRead

@[expose] public section

set_option maxRecDepth 16384

noncomputable section

namespace Cert.Proof.KeyPrompt

open Cert.Kernel6Ideal Cert.Kernel6Ideal.Gen
open Idealize.ShloMosaic Idealize.ShloMosaic.TcCoe Idealize.ShloMosaic.Tactic Idealize.ShloMosaic.StableHlo
open Idealize.ShloMosaic.ValueIdx
open Idealize.ShloMosaic.Pipeline (Dat)
open Cert.Proof.InProj (idx2_ext)
open Cert.Proof.Turn

/-! ## The reference's element -/

section Reference
open Cert.Reference6Ideal.Read

/-- The keys, split into heads, at an index. -/
theorem heads_apply (x : (⟨S33792x2956, .f32⟩ : BufTy).Contents (Elt Ideal)) (b : Fin 4) (t : Fin 8192) (h : Fin 2) (e : Fin 64)
    (i : Cert.Reference6Ideal.S4x8192x2x64.Idx) (h0 : (i 0).val = b.val) (h1 : (i 1).val = t.val) (h2 : (i 2).val = h.val) (h3 : (i 3).val = e.val) :
    val_main_v3 (F := Ideal) x i = x (ix2 (n0 := 33792) (n1 := 2956) ⟨b.val * 8192 + t.val, by omega⟩ ⟨1932 + (h.val * 64 + e.val), by omega⟩) := by
  have hb : b.val < 4 := b.isLt
  have ht : t.val < 8192 := t.isLt
  have hh : h.val < 2 := h.isLt
  have he : e.val < 64 := e.isLt
  rw [val_main_v3_apply, val_main_v2_apply, val_main_v1_apply, val_main_v0_apply]
  refine congrArg x (idx2_ext (n0 := 33792) (n1 := 2956) _ _ ?_ ?_)
  · show (((((((i 0).val * 8192 + (i 1).val) * 2 + (i 2).val) * 64 + (i 3).val) / 1048576) * 8192 + ((((i 0).val * 8192 + (i 1).val) * 2 + (i 2).val) * 64 + (i 3).val) / 128 % 8192) * 2956
      + (1932 + ((((i 0).val * 8192 + (i 1).val) * 2 + (i 2).val) * 64 + (i 3).val) % 128)) / 2956 = b.val * 8192 + t.val
    rw [h0, h1, h2, h3]; omega
  · show (((((((i 0).val * 8192 + (i 1).val) * 2 + (i 2).val) * 64 + (i 3).val) / 1048576) * 8192 + ((((i 0).val * 8192 + (i 1).val) * 2 + (i 2).val) * 64 + (i 3).val) / 128 % 8192) * 2956
      + (1932 + ((((i 0).val * 8192 + (i 1).val) * 2 + (i 2).val) * 64 + (i 3).val) % 128)) % 2956 = 1932 + (h.val * 64 + e.val)
    rw [h0, h1, h2, h3]; omega

/-- The reference's result at an index is the rotated key there. -/
theorem ref_apply (x : (⟨S33792x2956, .f32⟩ : BufTy).Contents (Elt Ideal)) (i : Cert.Reference6Ideal.S4x8192x2x64.Idx) (b : Fin 4) (t : Fin 8192) (h : Fin 2) (e : Fin 64)
    (h0 : (i 0).val = b.val) (h1 : (i 1).val = t.val) (h2 : (i 2).val = h.val) (h3 : (i 3).val = e.val) :
    (val_main_v33 (F := Ideal) x i : EReal)
      = rotated (fun l => x (ix2 (n0 := 33792) (n1 := 2956) ⟨b.val * 8192 + t.val, by omega⟩ ⟨1932 + l.val, by omega⟩))
          (fun w => val_main_v17 (F := Ideal) (ix2 (n0 := 8192) (n1 := 32) t w)) (fun w => val_main_v19 (F := Ideal) (ix2 (n0 := 8192) (n1 := 32) t w)) ⟨h.val * 64 + e.val, by omega⟩ := by
  have hh : h.val < 2 := h.isLt
  have he : e.val < 64 := e.isLt
  unfold rotated
  by_cases hc : e.val < 32
  · rw [if_pos (show (h.val * 64 + e.val) % 64 < 32 by omega)]
    unfold val_main_v33
    refine (concatenate_pair_apply_left (t := Cert.Reference6Ideal.S4x8192x2x64) 3 _ _ Cert.Reference6Ideal.Gen.facts.concatenates_S4x8192x2x32_S4x8192x2x32_S4x8192x2x64_d3 i rfl
      (fun a => match a with
        | ⟨0, _⟩ => ⟨b.val, b.isLt⟩
        | ⟨1, _⟩ => ⟨t.val, t.isLt⟩
        | ⟨2, _⟩ => ⟨h.val, h.isLt⟩
        | ⟨3, _⟩ => ⟨e.val, hc⟩ : Cert.Reference6Ideal.S4x8192x2x32.Idx) ?_).trans ?_
    · intro a; match a with
      | ⟨0, _⟩ => exact h0.symm
      | ⟨1, _⟩ => exact h1.symm
      | ⟨2, _⟩ => exact h2.symm
      | ⟨3, _⟩ => exact h3.symm
    · rw [val_main_v27_apply, val_main_v24_apply, val_main_v26_apply, val_main_v21_apply, val_main_v22_apply, val_main_v23_apply, val_main_v18_apply, val_main_v25_apply, val_main_v20_apply]
      rw [heads_apply x b t h ⟨e.val, by omega⟩ _ rfl rfl rfl rfl, heads_apply x b t h ⟨32 + e.val, by omega⟩ _ rfl rfl rfl rfl]
      refine congrArg₂ (fun p q : EReal => p - q) (congrArg₂ (fun p q : EReal => p * q) rfl ?_) (congrArg₂ (fun p q : EReal => p * q) ?_ ?_)
      · exact congrArg (val_main_v17 (F := Ideal)) (idx2_ext (n0 := 8192) (n1 := 32) _ _ rfl (show e.val = (h.val * 64 + e.val) % 32 by omega))
      · refine congrArg x (idx2_ext (n0 := 33792) (n1 := 2956) _ _ rfl ?_)
        show 1932 + (h.val * 64 + (32 + e.val)) = 1932 + mate (h.val * 64 + e.val)
        unfold mate; rw [if_pos (show (h.val * 64 + e.val) % 64 < 32 by omega)]; omega
      · exact congrArg (val_main_v19 (F := Ideal)) (idx2_ext (n0 := 8192) (n1 := 32) _ _ rfl (show e.val = (h.val * 64 + e.val) % 32 by omega))
  · rw [if_neg (show ¬ (h.val * 64 + e.val) % 64 < 32 by omega)]
    unfold val_main_v33
    refine (concatenate_pair_apply_right (t := Cert.Reference6Ideal.S4x8192x2x64) 3 _ _ Cert.Reference6Ideal.Gen.facts.concatenates_S4x8192x2x32_S4x8192x2x32_S4x8192x2x64_d3 i rfl rfl
      (fun a => match a with
        | ⟨0, _⟩ => ⟨b.val, b.isLt⟩
        | ⟨1, _⟩ => ⟨t.val, t.isLt⟩
        | ⟨2, _⟩ => ⟨h.val, h.isLt⟩
        | ⟨3, _⟩ => ⟨e.val - 32, by show e.val - 32 < 32; omega⟩ : Cert.Reference6Ideal.S4x8192x2x32.Idx) ?_ ?_).trans ?_
    · intro a ha; match a with
      | ⟨0, _⟩ => exact h0.symm
      | ⟨1, _⟩ => exact h1.symm
      | ⟨2, _⟩ => exact h2.symm
      | ⟨3, _⟩ => exact absurd rfl ha
    · show e.val - 32 + 32 = (i 3).val; rw [h3]; omega
    · rw [val_main_v32_apply, val_main_v29_apply, val_main_v31_apply, val_main_v21_apply, val_main_v22_apply, val_main_v28_apply, val_main_v18_apply, val_main_v30_apply, val_main_v20_apply]
      rw [heads_apply x b t h e _ rfl rfl rfl (show 32 + (e.val - 32) = e.val by omega), heads_apply x b t h ⟨e.val - 32, by omega⟩ _ rfl rfl rfl rfl]
      refine congrArg₂ (fun p q : EReal => p + q) (congrArg₂ (fun p q : EReal => p * q) rfl ?_) (congrArg₂ (fun p q : EReal => p * q) ?_ ?_)
      · exact congrArg (val_main_v17 (F := Ideal)) (idx2_ext (n0 := 8192) (n1 := 32) _ _ rfl (show e.val - 32 = (h.val * 64 + e.val) % 32 by omega))
      · refine congrArg x (idx2_ext (n0 := 33792) (n1 := 2956) _ _ rfl ?_)
        show 1932 + (h.val * 64 + (e.val - 32)) = 1932 + mate (h.val * 64 + e.val)
        unfold mate; rw [if_neg (show ¬ (h.val * 64 + e.val) % 64 < 32 by omega)]; omega
      · exact congrArg (val_main_v19 (F := Ideal)) (idx2_ext (n0 := 8192) (n1 := 32) _ _ rfl (show e.val - 32 = (h.val * 64 + e.val) % 32 by omega))

end Reference

/-! ## The program's arrays -/

section Run
variable {F : FTy → Type} [FloatOps F]
variable (m : (ℓ : Loc nD τ sig) → Buf (Elt F) ℓ)

/-- The body leaves the rotated keys in its second output's buffer, at a prompt's first point. -/
theorem leftA (c : Dev nD) (i : grid0.Coords) (arg2 : Memref sig .tc .vmem S256x768 .f32) (harg2 : arg2.IsWhole) (arg3 : Memref sig .tc .vmem S1x128x128 .f32) (harg3 : arg3.IsWhole) (arg4 : Memref sig .tc .vmem S1x128x128 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S256x384 .f32) (harg8 : arg8.IsWhole) (arg9 : Memref sig .tc .vmem S256x128 .f32) (harg9 : arg9.IsWhole) (arg10 : Memref sig .tc .vmem S384x128 .f32) (harg10 : arg10.IsWhole) (arg11 : Memref sig .tc .vmem S384x128 .f32) (harg11 : arg11.IsWhole) (hc0 : cond0_0 i)
    (x0 : Vec F S256x768 .f32) (x1 : Vec F S1x128x128 .f32) (x2 : Vec F S1x128x128 .f32) (x3 : Vec F S256x128 .f32) (x4 : Vec F S256x128 .f32) (x5 : Vec F S1x128 .f32) :
    out0_A_7 (F := F) c i arg2 harg2 arg3 harg3 arg4 harg4 arg5 harg5 arg6 harg6 arg7 harg7 arg8 harg8 arg9 harg9 arg10 harg10 arg11 harg11 hc0 x0 x1 x2 x3 x4 x5 = k0_pay7 x3 x4 (View.ld x0 (Rect.unit (s := S256x768) ![0, 384] S256x128.size inb_S256x768_S256x128_0_384)) := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 hc0 x0 x1 x2 x3 x4 x5)]
  dsimp only [kernelRun0_A]
  rw [View.canon_cons_unit_lit _ _ _ (by decide)]
  refine (congrArg₂ (fun a b => k0_pay7 a b _) (funext fun y => ?_) (funext fun y => ?_)).trans (congrArg (fun a => k0_pay7 x3 x4 a) (funext fun y => ?_))
  · rw [Memref.IsWhole.readAt_unread]
    exact congrArg x3 (idx2_ext (n0 := 256) (n1 := 128) _ _ (show 0 + 1 * (y 0).val = (y 0).val by omega) (show 0 + 1 * (y 1).val = (y 1).val by omega))
  · rw [Memref.IsWhole.readAt_unread]
    exact congrArg x4 (idx2_ext (n0 := 256) (n1 := 128) _ _ (show 0 + 1 * (y 0).val = (y 0).val by omega) (show 0 + 1 * (y 1).val = (y 1).val by omega))
  · rw [Memref.IsWhole.readAt_unread]

/-- The body leaves the rotated keys in its second output's buffer, at a prompt's later points. -/
theorem leftB (c : Dev nD) (i : grid0.Coords) (arg2 : Memref sig .tc .vmem S256x768 .f32) (harg2 : arg2.IsWhole) (arg3 : Memref sig .tc .vmem S1x128x128 .f32) (harg3 : arg3.IsWhole) (arg4 : Memref sig .tc .vmem S1x128x128 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S256x384 .f32) (harg8 : arg8.IsWhole) (arg9 : Memref sig .tc .vmem S256x128 .f32) (harg9 : arg9.IsWhole) (arg10 : Memref sig .tc .vmem S384x128 .f32) (harg10 : arg10.IsWhole) (arg11 : Memref sig .tc .vmem S384x128 .f32) (harg11 : arg11.IsWhole) (hc0 : ¬cond0_0 i)
    (x0 : Vec F S256x768 .f32) (x1 : Vec F S1x128x128 .f32) (x2 : Vec F S1x128x128 .f32) (x3 : Vec F S256x128 .f32) (x4 : Vec F S256x128 .f32) (x5 : Vec F S1x128 .f32) (xs0 : Vec F S384x128 .f32) (xs1 : Vec F S384x128 .f32) :
    out0_B_7 (F := F) c i arg2 harg2 arg3 harg3 arg4 harg4 arg5 harg5 arg6 harg6 arg7 harg7 arg8 harg8 arg9 harg9 arg10 harg10 arg11 harg11 hc0 x0 x1 x2 x3 x4 x5 xs0 xs1 = k0_pay7 x3 x4 (View.ld x0 (Rect.unit (s := S256x768) ![0, 384] S256x128.size inb_S256x768_S256x128_0_384)) := by
  unfold out0_B_7
  rw [View.read_writes_eq_canon _ _ _ (cover0_B_7 c i arg2 harg2 arg3 harg3 arg4 harg4 arg5 harg5 arg6 harg6 arg7 harg7 arg8 harg8 arg9 harg9 arg10 harg10 arg11 harg11 hc0 x0 x1 x2 x3 x4 x5 xs0 xs1)]
  dsimp only [kernelRun0_B]
  rw [View.canon_cons_unit_lit _ _ _ (by decide)]
  refine (congrArg₂ (fun a b => k0_pay7 a b _) (funext fun y => ?_) (funext fun y => ?_)).trans (congrArg (fun a => k0_pay7 x3 x4 a) (funext fun y => ?_))
  · rw [Memref.IsWhole.readAt_unread]
    exact congrArg x3 (idx2_ext (n0 := 256) (n1 := 128) _ _ (show 0 + 1 * (y 0).val = (y 0).val by omega) (show 0 + 1 * (y 1).val = (y 1).val by omega))
  · rw [Memref.IsWhole.readAt_unread]
    exact congrArg x4 (idx2_ext (n0 := 256) (n1 := 128) _ _ (show 0 + 1 * (y 0).val = (y 0).val by omega) (show 0 + 1 * (y 1).val = (y 1).val by omega))
  · rw [Memref.IsWhole.readAt_unread]

variable (c : Dev nD)

/-- The projected rows, as launched. -/
abbrev rowsIn : (⟨S33792x2956, .f32⟩ : BufTy).Contents (Elt F) := m ((c : Thread nD τ).loc main_arg0)

/-- The body leaves the rotated keys at every point. -/
theorem left (t : Fin cfg0.N) : (outsAt0 m c t.val t.isLt).2.1
    = k0_pay7 (iblk m c 3 t) (iblk m c 4 t) (View.ld (iblk m c 0 t) (Rect.unit (s := S256x768) ![0, 384] S256x128.size inb_S256x768_S256x128_0_384)) := by
  by_cases h0 : t.val % 32 = 0
  · rw [outsAt0_A m c t h0]
    dsimp only
    rw [leftA]
    rfl
  · rw [outsAt0_B m c t h0]
    dsimp only
    rw [leftB]
    rfl

/-- The pieces the call's rows are made of. -/
abbrev pieces (x : (⟨S33792x2956, .f32⟩ : BufTy).Contents (Elt F)) : List ((s : Shape) × (s.Idx → Elt F .f32)) :=
    [⟨S33792x1536, (extractStridedSlice S33792x1536 ![0, 0] x slices_S33792x2956_S33792x1536_0_0 : (⟨S33792x1536, .f32⟩ : BufTy).Contents (Elt F))⟩,
     ⟨S33792x768, (extractStridedSlice S33792x768 ![0, 2188] x slices_S33792x2956_S33792x768_0_2188 : (⟨S33792x768, .f32⟩ : BufTy).Contents (Elt F))⟩,
     ⟨S33792x640, (extractStridedSlice S33792x640 ![0, 1548] x slices_S33792x2956_S33792x640_0_1548 : (⟨S33792x640, .f32⟩ : BufTy).Contents (Elt F))⟩,
     ⟨S33792x128, (concatenate S33792x128 1
        [⟨S33792x12, (extractStridedSlice S33792x12 ![0, 1536] x slices_S33792x2956_S33792x12_0_1536 : (⟨S33792x12, .f32⟩ : BufTy).Contents (Elt F))⟩,
         ⟨S33792x116, (broadcastInDim S33792x116 ![] bcast_S_S33792x116 (constant S_ .f32 0x00000000#32) : (⟨S33792x116, .f32⟩ : BufTy).Contents (Elt F))⟩]
        concatenates_S33792x12_S33792x116_S33792x128_d1 : (⟨S33792x128, .f32⟩ : BufTy).Contents (Elt F))⟩]

/-- The call's rows are the projected rows, their columns regrouped. -/
theorem V_rows : V m c main_v6 = concatenate S33792x3072 1 (pieces (rowsIn m c))
    concatenates_S33792x1536_S33792x768_S33792x640_S33792x128_S33792x3072_d1 := by
  unfold V V0
  simp only [List.flatten_cons, List.flatten_nil, List.append_nil]
  after_results <;> rfl

/-- The call's first table is the reference's cosines, four times. -/
theorem V_cos : V m c main_v22 = concatenate S8192x128 1
    [⟨S8192x32, Cert.Reference6Ideal.Read.val_main_v17 (F := F)⟩, ⟨S8192x32, Cert.Reference6Ideal.Read.val_main_v17 (F := F)⟩,
     ⟨S8192x32, Cert.Reference6Ideal.Read.val_main_v17 (F := F)⟩, ⟨S8192x32, Cert.Reference6Ideal.Read.val_main_v17 (F := F)⟩]
    concatenates_S8192x32_S8192x32_S8192x32_S8192x32_S8192x128_d1 := by
  unfold V V0
  simp only [List.flatten_cons, List.flatten_nil, List.append_nil]
  after_results <;> rfl

/-- The call's second table is the reference's sines, their sign turned in the first and the third piece. -/
theorem V_sin : V m c main_v25 = concatenate S8192x128 1
    [⟨S8192x32, Host.negf (Cert.Reference6Ideal.Read.val_main_v19 (F := F))⟩, ⟨S8192x32, Cert.Reference6Ideal.Read.val_main_v19 (F := F)⟩,
     ⟨S8192x32, Host.negf (Cert.Reference6Ideal.Read.val_main_v19 (F := F))⟩, ⟨S8192x32, Cert.Reference6Ideal.Read.val_main_v19 (F := F)⟩]
    concatenates_S8192x32_S8192x32_S8192x32_S8192x32_S8192x128_d1 := by
  unfold V V0
  simp only [List.flatten_cons, List.flatten_nil, List.append_nil]
  after_results <;> rfl

/-- The array of keys the call leaves. -/
abbrev outArr : (⟨S32768x128, .f32⟩ : BufTy).Contents (Elt F) := (dats m 0 c).arrAt 7 cfg0.N

/-- The valuation the lines after the call start from. -/
abbrev Vout : Valuation τ sig (Elt F) := Pipeline.withArrays (cfgs 0).spec c (V0 m c) fun w => (dats m 0 c).arrAt w (cfgs 0).N
/-- After the call its second result's buffer holds the array of keys. -/
theorem Vout_out : Vout m c (Proc.devRef .tc main_v32_1) = outArr m c :=
  (dats m 0 c).withArrays_arrAt sharedIn0 (V0 m c) (A_eq m c) 7

/-- A buffer's contents once the lines after the call have run. -/
abbrev ends (b : Ref sig .tc) : Buf (Elt F) ((c : Thread nD τ).loc b) := Pipeline.afterTail₀ cfgs (dats m) 0 (V0 m) [hostOps1] c b

/-- The result is the last 128 positions of each prompt in the array of keys, split into heads. -/
theorem end_keys : ends m c main_v35 = shapeCast S4x128x2x64 (extractStridedSlice S4x128x128 ![0, 8064, 0]
      (shapeCast S4x8192x128 (outArr m c) shapeCasts_S32768x128_S4x8192x128) slices_S4x8192x128_S4x128x128_0_8064_0) shapeCasts_S4x128x128_S4x128x2x64 := by
  rw [← Vout_out m c]; unfold ends Pipeline.afterTail₀
  simp only [List.flatten_cons, List.flatten_nil, List.append_nil]
  after_results <;> rfl

end Run

/-! ## The keys -/

section Keys
variable (m : (ℓ : Loc nD τ sig) → Buf (Elt Ideal) ℓ) (c : Dev nD)

/-- Every element of the array of keys: the row's key turned to its position in its stream. -/
def keys (x : (⟨S33792x2956, .f32⟩ : BufTy).Contents (Elt Ideal)) : (⟨S32768x128, .f32⟩ : BufTy).Contents (Elt Ideal) := fun (i : S32768x128.Idx) =>
  rotated (fun l => x (ix2 (n0 := 33792) (n1 := 2956) ⟨(i 0).val, by have h : (i 0).val < 32768 := (i 0).isLt; omega⟩ ⟨1932 + l.val, by omega⟩))
    (fun w => Cert.Reference6Ideal.Read.val_main_v17 (F := Ideal) (ix2 (n0 := 8192) (n1 := 32) ⟨(i 0).val % 8192, Nat.mod_lt _ (by decide)⟩ w))
    (fun w => Cert.Reference6Ideal.Read.val_main_v19 (F := Ideal) (ix2 (n0 := 8192) (n1 := 32) ⟨(i 0).val % 8192, Nat.mod_lt _ (by decide)⟩ w))
    ⟨(i 1).val, (i 1).isLt⟩

/-- The rows' window stands at the point's block, the keys' at the point's, and the tables' starts over with each prompt. -/
theorem map_val (t : Fin cfg0.N) : cc0_transform_7 (grid0.coords t) 0 = t.val ∧ cc0_transform_0 (grid0.coords t) 0 = t.val
    ∧ cc0_transform_3 (grid0.coords t) 0 = t.val % 32 ∧ cc0_transform_4 (grid0.coords t) 0 = t.val % 32 := by
  revert t
  decide +kernel

/-- Where an element of the keys' block lies in the array of keys. -/
theorem out_emb (t : Fin cfg0.N) (y : S256x128.Idx) :
    ((cfg0.win 7).blk t).view.emb y = ix2 (n0 := 32768) (n1 := 128)
      ⟨t.val * 256 + (y 0).val, by have h : t.val < 128 := t.isLt; have h0 : (y 0).val < 256 := (y 0).isLt; omega⟩ ⟨(y 1).val, (y 1).isLt⟩ := by
  refine idx2_ext (n0 := 32768) (n1 := 128) _ _ ?_ ?_
  · show cc0_transform_7 (grid0.coords t) 0 * 256 + 1 * (y 0).val = t.val * 256 + (y 0).val
    rw [(map_val t).1]; omega
  · show cc0_transform_7 (grid0.coords t) 1 * 128 + 1 * (y 1).val = (y 1).val
    rw [show cc0_transform_7 (grid0.coords t) 1 = 0 from rfl]; omega

/-- A point's keys, before they are turned, are the projected row's. -/
theorem rows_at (t : Fin cfg0.N) (r : Fin 256) (l : Fin 128) :
    (View.ld (iblk m c 0 t) (Rect.unit (s := S256x768) ![0, 384] S256x128.size inb_S256x768_S256x128_0_384) : S256x128.Idx → EReal) (ix2 r l)
      = rowsIn m c (ix2 (n0 := 33792) (n1 := 2956) ⟨t.val * 256 + r.val, by have h : t.val < 128 := t.isLt; have hr := r.isLt; omega⟩ ⟨1932 + l.val, by omega⟩) := by
  have ht : t.val < 128 := t.isLt
  have hl : l.val < 128 := l.isLt
  refine Eq.trans (b := (V m c main_v6 : S33792x3072.Idx → EReal) (ix2 (n0 := 33792) (n1 := 3072) ⟨t.val * 256 + r.val, by omega⟩ ⟨2304 + (384 + l.val), by omega⟩)) ?_ ?_
  · refine congrArg (V m c main_v6 : S33792x3072.Idx → EReal) (idx2_ext (n0 := 33792) (n1 := 3072) _ _ ?_ ?_)
    · show cc0_transform_0 (grid0.coords t) 0 * 256 + 1 * (0 + 1 * r.val) = t.val * 256 + r.val
      rw [(map_val t).2.1]; omega
    · show cc0_transform_0 (grid0.coords t) 1 * 768 + 1 * (384 + 1 * l.val) = 2304 + (384 + l.val)
      rw [show cc0_transform_0 (grid0.coords t) 1 = 3 from rfl]; omega
  · rw [V_rows]
    refine (regrouped 33792 (pieces (F := Ideal) (rowsIn m c)) (rowsIn m c) _ _ _ _ rfl _ ⟨t.val * 256 + r.val, by omega⟩ ⟨384 + l.val, by omega⟩).trans ?_
    exact congrArg (rowsIn m c) (idx2_ext (n0 := 33792) (n1 := 2956) _ _ rfl (show 1548 + (384 + l.val) = 1932 + l.val by omega))

/-- A point's first table. -/
theorem cos_at (t : Fin cfg0.N) (r : Fin 256) (l : Fin 128) : (iblk m c 3 t : S256x128.Idx → EReal) (ix2 r l)
    = Cert.Reference6Ideal.Read.val_main_v17 (F := Ideal) (ix2 (n0 := 8192) (n1 := 32) ⟨t.val % 32 * 256 + r.val, by have hr := r.isLt; omega⟩ ⟨l.val % 32, Nat.mod_lt _ (by decide)⟩) := by
  refine Eq.trans (b := (V m c main_v22 : S8192x128.Idx → EReal) (ix2 (n0 := 8192) (n1 := 128) ⟨t.val % 32 * 256 + r.val, by have hr := r.isLt; omega⟩ l)) ?_ ?_
  · refine congrArg (V m c main_v22 : S8192x128.Idx → EReal) (idx2_ext (n0 := 8192) (n1 := 128) _ _ ?_ ?_)
    · show cc0_transform_3 (grid0.coords t) 0 * 256 + 1 * r.val = t.val % 32 * 256 + r.val
      rw [(map_val t).2.2.1]; omega
    · show cc0_transform_3 (grid0.coords t) 1 * 128 + 1 * l.val = l.val
      rw [show cc0_transform_3 (grid0.coords t) 1 = 0 from rfl]; omega
  · rw [V_cos]
    exact cos_table (n := 8192) _ _ ⟨t.val % 32 * 256 + r.val, by have hr := r.isLt; omega⟩ l

/-- A point's second table. -/
theorem sin_at (t : Fin cfg0.N) (r : Fin 256) (l : Fin 128) : (iblk m c 4 t : S256x128.Idx → EReal) (ix2 r l)
    = if l.val % 64 < 32 then -((Cert.Reference6Ideal.Read.val_main_v19 (F := Ideal) (ix2 (n0 := 8192) (n1 := 32) ⟨t.val % 32 * 256 + r.val, by have hr := r.isLt; omega⟩ ⟨l.val % 32, Nat.mod_lt _ (by decide)⟩) : EReal))
      else Cert.Reference6Ideal.Read.val_main_v19 (F := Ideal) (ix2 (n0 := 8192) (n1 := 32) ⟨t.val % 32 * 256 + r.val, by have hr := r.isLt; omega⟩ ⟨l.val % 32, Nat.mod_lt _ (by decide)⟩) := by
  refine Eq.trans (b := (V m c main_v25 : S8192x128.Idx → EReal) (ix2 (n0 := 8192) (n1 := 128) ⟨t.val % 32 * 256 + r.val, by have hr := r.isLt; omega⟩ l)) ?_ ?_
  · refine congrArg (V m c main_v25 : S8192x128.Idx → EReal) (idx2_ext (n0 := 8192) (n1 := 128) _ _ ?_ ?_)
    · show cc0_transform_4 (grid0.coords t) 0 * 256 + 1 * r.val = t.val % 32 * 256 + r.val
      rw [(map_val t).2.2.2]; omega
    · show cc0_transform_4 (grid0.coords t) 1 * 128 + 1 * l.val = l.val
      rw [show cc0_transform_4 (grid0.coords t) 1 = 0 from rfl]; omega
  · rw [V_sin]
    exact sin_table (n := 8192) _ _ ⟨t.val % 32 * 256 + r.val, by have hr := r.isLt; omega⟩ l

/-- A point writes back its block of the keys. -/
theorem out_flushed (t : Fin cfg0.N) : (dats m 0 c).flushed 7 t = ((cfg0.win 7).blk t).view.read (Elt Ideal) (keys (rowsIn m c)) := by
  refine funext fun (y : S256x128.Idx) => ?_
  have ht : t.val < 128 := t.isLt
  have h0 : (y 0).val < 256 := (y 0).isLt
  refine Eq.trans ?_ (congrArg (keys (rowsIn m c)) (out_emb t y)).symm
  show (dats m 0 c).after 7 t (((cfg0.win 7).xinj _ y)) = _
  rw [after0_7]
  have hy : ((cfg0.win 7).xinj (cfg0.grid.coords t) y : S256x128.Idx) = ix2 (n0 := 256) (n1 := 128) ⟨(y 0).val, (y 0).isLt⟩ ⟨(y 1).val, (y 1).isLt⟩ :=
    idx2_ext (n0 := 256) (n1 := 128) _ _ rfl rfl
  refine (congrArg ((outsAt0 m c t.val t.isLt).2.1 : S256x128.Idx → EReal) hy).trans ?_
  rw [left]
  unfold k0_pay7 k0_pay4 k0_pay5
  dsimp only
  refine (turned_apply (n := 256) _ _ _ _ _ _ _ _).trans ?_
  refine (turned_eq (n := 256) _ _ _ _ (fun w => Cert.Reference6Ideal.Read.val_main_v17 (F := Ideal) (ix2 (n0 := 8192) (n1 := 32) ⟨t.val % 32 * 256 + (y 0).val, by omega⟩ w))
    (fun w => Cert.Reference6Ideal.Read.val_main_v19 (F := Ideal) (ix2 (n0 := 8192) (n1 := 32) ⟨t.val % 32 * 256 + (y 0).val, by omega⟩ w)) _ _
    (rows_at m c t ⟨(y 0).val, h0⟩) (cos_at m c t _ _) (sin_at m c t _ _)).trans ?_
  · have hm : (t.val * 256 + (y 0).val) % 8192 = t.val % 32 * 256 + (y 0).val := by omega
    unfold keys
    show rotated _ (fun w => Cert.Reference6Ideal.Read.val_main_v17 (F := Ideal) _) (fun w => Cert.Reference6Ideal.Read.val_main_v19 (F := Ideal) _) _ = rotated _ _ _ _
    refine congrArg₂ (fun p q => rotated _ p q _) (funext fun w => ?_) (funext fun w => ?_)
    · exact congrArg (Cert.Reference6Ideal.Read.val_main_v17 (F := Ideal)) (idx2_ext (n0 := 8192) (n1 := 32) _ _ hm.symm rfl)
    · exact congrArg (Cert.Reference6Ideal.Read.val_main_v19 (F := Ideal)) (idx2_ext (n0 := 8192) (n1 := 32) _ _ hm.symm rfl)

/-- The array the call leaves is the keys. -/
theorem out_eq : outArr m c = keys (rowsIn m c) := by
  refine funext fun (i : S32768x128.Idx) => ?_
  have h0 : (i 0).val < 32768 := (i 0).isLt
  have hN : (i 0).val / 256 < cfg0.N := show (i 0).val / 256 < 128 by omega
  have he : ((cfg0.win 7).blk ⟨(i 0).val / 256, hN⟩).view.emb (ix2 (n0 := 256) (n1 := 128) ⟨(i 0).val % 256, Nat.mod_lt _ (by decide)⟩ ⟨(i 1).val, (i 1).isLt⟩) = i := by
    rw [out_emb]
    refine idx2_ext (n0 := 32768) (n1 := 128) _ _ ?_ rfl
    show (i 0).val / 256 * 256 + (i 0).val % 256 = (i 0).val
    omega
  exact (dats m 0 c).arrAt_apply_of_mem 7 (keys (rowsIn m c)) (fun t _ => out_flushed m c t) cfg0.N
    ⟨(i 0).val / 256, hN⟩ i hN (flush0_7 _) (by
      have := ((cfg0.win 7).blk ⟨(i 0).val / 256, hN⟩).view.emb_mem_set (ix2 (n0 := 256) (n1 := 128) ⟨(i 0).val % 256, Nat.mod_lt _ (by decide)⟩ ⟨(i 1).val, (i 1).isLt⟩)
      rwa [he] at this)

/-- The result is the reference's. -/
theorem keys_eq : ends m c main_v35 = Cert.Reference6Ideal.Read.val_main_v34 (F := Ideal) (rowsIn m c) := by
  rw [end_keys m c, out_eq m c]
  refine funext fun (i : S4x128x2x64.Idx) => ?_
  have h0 : (i 0).val < 4 := (i 0).isLt
  have h1 : (i 1).val < 128 := (i 1).isLt
  have h2 : (i 2).val < 2 := (i 2).isLt
  have h3 : (i 3).val < 64 := (i 3).isLt
  refine (shapeCast_apply _ shapeCasts_S4x128x128_S4x128x2x64 i
    (ix3 (n0 := 4) (n1 := 128) (n2 := 128) ⟨(i 0).val, h0⟩ ⟨(i 1).val, h1⟩ ⟨(i 2).val * 64 + (i 3).val, by omega⟩) (by
      rewrite [Shape.rowMajor_val_three, Shape.rowMajor_val_four]
      show ((i 0).val * 128 + (i 1).val) * 128 + ((i 2).val * 64 + (i 3).val) = (((i 0).val * 128 + (i 1).val) * 2 + (i 2).val) * 64 + (i 3).val
      omega)).trans ?_
  refine (extractStridedSlice_apply (t := S4x128x128) ![0, 8064, 0] _ slices_S4x8192x128_S4x128x128_0_8064_0 _
    (ix3 (n0 := 4) (n1 := 8192) (n2 := 128) ⟨(i 0).val, h0⟩ ⟨8064 + (i 1).val, by omega⟩ ⟨(i 2).val * 64 + (i 3).val, by omega⟩) (fun a => match a with
      | ⟨0, _⟩ => by show (i 0).val = 0 + (i 0).val; omega
      | ⟨1, _⟩ => rfl
      | ⟨2, _⟩ => by show (i 2).val * 64 + (i 3).val = 0 + ((i 2).val * 64 + (i 3).val); omega)).trans ?_
  refine (shapeCast_apply _ shapeCasts_S32768x128_S4x8192x128 _
    (ix2 (n0 := 32768) (n1 := 128) ⟨(i 0).val * 8192 + (8064 + (i 1).val), by omega⟩ ⟨(i 2).val * 64 + (i 3).val, by omega⟩) (by
      rewrite [Shape.rowMajor_val_two, Shape.rowMajor_val_three]
      rfl)).trans ?_
  rw [Cert.Reference6Ideal.Read.val_main_v34_apply]
  refine Eq.trans ?_ (ref_apply (rowsIn m c) _ ⟨(i 0).val, h0⟩ ⟨8064 + (i 1).val, by omega⟩ ⟨(i 2).val, h2⟩ ⟨(i 3).val, h3⟩ rfl rfl rfl rfl).symm
  have hm : ((i 0).val * 8192 + (8064 + (i 1).val)) % 8192 = 8064 + (i 1).val := by omega
  unfold keys
  refine congrArg₂ (fun p q => rotated _ p q _) (funext fun w => ?_) (funext fun w => ?_)
  · exact congrArg (Cert.Reference6Ideal.Read.val_main_v17 (F := Ideal)) (idx2_ext (n0 := 8192) (n1 := 32) _ _ hm rfl)
  · exact congrArg (Cert.Reference6Ideal.Read.val_main_v19 (F := Ideal)) (idx2_ext (n0 := 8192) (n1 := 32) _ _ hm rfl)

/-- Every execution ends with the result at the reference's value and the arguments unchanged. -/
theorem run_vals (ρ : Dev nD → PrngReg) :
    θ_run (defs (F := Ideal)) (onTc (τ := τ) (main (F := Ideal))) ⟨m, fun _ => 0, ρ⟩ (fun r => ∀ c : Dev nD,
      r.2.mem ((c.tc : Thread nD τ).loc main_v35) = Cert.Reference6Ideal.Read.val_main_v34 (F := Ideal) (rowsIn m c)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ?_) (θ_run_and (run_main m ρ) (unchanged m ρ))
  have hb := (h.1 c).2
  exact ⟨(hb main_v35 (Pipeline.mem_restRefs_of main_v35 (by decide) (by decide))).trans (keys_eq m c), h.2 c⟩

end Keys

end Cert.Proof.KeyPrompt

end
-- ==== Proof.KeySample.lean ====
/-
  The sample rows' rotated keys: the array the call leaves holds, row by row, the keys turned to their positions, and the
  result is the reference's.
-/
module

public import proofs.«01_k».proof.Proof.Gen.Kernel7Ideal.Frame
public import proofs.«01_k».proof.Proof.Gen.Reference7Ideal.Read
public import proofs.«01_k».proof.Proof.Turn
public import Idealize.ShloMosaic.Lib.WholeRead

@[expose] public section

set_option maxRecDepth 16384

noncomputable section

namespace Cert.Proof.KeySample

open Cert.Kernel7Ideal Cert.Kernel7Ideal.Gen
open Idealize.ShloMosaic Idealize.ShloMosaic.TcCoe Idealize.ShloMosaic.Tactic Idealize.ShloMosaic.StableHlo
open Idealize.ShloMosaic.ValueIdx
open Idealize.ShloMosaic.Pipeline (Dat)
open Cert.Proof.InProj (idx2_ext)
open Cert.Proof.Turn

/-! ## The reference's element -/

section Reference
open Cert.Reference7Ideal.Read

/-- The keys, split into heads, at an index. -/
theorem heads_apply (x : (⟨S33792x2956, .f32⟩ : BufTy).Contents (Elt Ideal)) (b : Fin 16) (t : Fin 64) (h : Fin 2) (e : Fin 64)
    (i : S16x64x2x64.Idx) (h0 : (i 0).val = b.val) (h1 : (i 1).val = t.val) (h2 : (i 2).val = h.val) (h3 : (i 3).val = e.val) :
    val_main_v3 (F := Ideal) x i = x (ix2 (n0 := 33792) (n1 := 2956) ⟨32768 + (b.val * 64 + t.val), by omega⟩ ⟨1932 + (h.val * 64 + e.val), by omega⟩) := by
  have hb : b.val < 16 := b.isLt
  have ht : t.val < 64 := t.isLt
  have hh : h.val < 2 := h.isLt
  have he : e.val < 64 := e.isLt
  rw [val_main_v3_apply, val_main_v2_apply, val_main_v1_apply, val_main_v0_apply]
  refine congrArg x (idx2_ext (n0 := 33792) (n1 := 2956) _ _ ?_ ?_)
  · show 32768 + (((((((i 0).val * 64 + (i 1).val) * 2 + (i 2).val) * 64 + (i 3).val) / 8192) * 64 + ((((i 0).val * 64 + (i 1).val) * 2 + (i 2).val) * 64 + (i 3).val) / 128 % 64) * 2956
      + (1932 + ((((i 0).val * 64 + (i 1).val) * 2 + (i 2).val) * 64 + (i 3).val) % 128)) / 2956 = 32768 + (b.val * 64 + t.val)
    rw [h0, h1, h2, h3]; omega
  · show (((((((i 0).val * 64 + (i 1).val) * 2 + (i 2).val) * 64 + (i 3).val) / 8192) * 64 + ((((i 0).val * 64 + (i 1).val) * 2 + (i 2).val) * 64 + (i 3).val) / 128 % 64) * 2956
      + (1932 + ((((i 0).val * 64 + (i 1).val) * 2 + (i 2).val) * 64 + (i 3).val) % 128)) % 2956 = 1932 + (h.val * 64 + e.val)
    rw [h0, h1, h2, h3]; omega

/-- The reference's result at an index is the rotated key there. -/
theorem ref_apply (x : (⟨S33792x2956, .f32⟩ : BufTy).Contents (Elt Ideal)) (i : S16x64x2x64.Idx) (b : Fin 16) (t : Fin 64) (h : Fin 2) (e : Fin 64)
    (h0 : (i 0).val = b.val) (h1 : (i 1).val = t.val) (h2 : (i 2).val = h.val) (h3 : (i 3).val = e.val) :
    (val_main_v35 (F := Ideal) x i : EReal)
      = rotated (fun l => x (ix2 (n0 := 33792) (n1 := 2956) ⟨32768 + (b.val * 64 + t.val), by omega⟩ ⟨1932 + l.val, by omega⟩))
          (fun w => val_main_v19 (F := Ideal) (ix2 (n0 := 64) (n1 := 32) t w)) (fun w => val_main_v21 (F := Ideal) (ix2 (n0 := 64) (n1 := 32) t w)) ⟨h.val * 64 + e.val, by omega⟩ := by
  have hh : h.val < 2 := h.isLt
  have he : e.val < 64 := e.isLt
  unfold rotated
  by_cases hc : e.val < 32
  · rw [if_pos (show (h.val * 64 + e.val) % 64 < 32 by omega)]
    unfold val_main_v35
    refine (concatenate_pair_apply_left (t := Cert.Reference7Ideal.S16x64x2x64) 3 _ _ Cert.Reference7Ideal.Gen.facts.concatenates_S16x64x2x32_S16x64x2x32_S16x64x2x64_d3 i rfl
      (fun a => match a with
        | ⟨0, _⟩ => ⟨b.val, b.isLt⟩
        | ⟨1, _⟩ => ⟨t.val, t.isLt⟩
        | ⟨2, _⟩ => ⟨h.val, h.isLt⟩
        | ⟨3, _⟩ => ⟨e.val, hc⟩ : Cert.Reference7Ideal.S16x64x2x32.Idx) ?_).trans ?_
    · intro a; match a with
      | ⟨0, _⟩ => exact h0.symm
      | ⟨1, _⟩ => exact h1.symm
      | ⟨2, _⟩ => exact h2.symm
      | ⟨3, _⟩ => exact h3.symm
    · rw [val_main_v29_apply, val_main_v26_apply, val_main_v28_apply, val_main_v23_apply, val_main_v24_apply, val_main_v25_apply, val_main_v20_apply, val_main_v27_apply, val_main_v22_apply]
      rw [heads_apply x b t h ⟨e.val, by omega⟩ _ rfl rfl rfl rfl, heads_apply x b t h ⟨32 + e.val, by omega⟩ _ rfl rfl rfl rfl]
      refine congrArg₂ (fun p q : EReal => p - q) (congrArg₂ (fun p q : EReal => p * q) rfl ?_) (congrArg₂ (fun p q : EReal => p * q) ?_ ?_)
      · exact congrArg (val_main_v19 (F := Ideal)) (idx2_ext (n0 := 64) (n1 := 32) _ _ rfl (show e.val = (h.val * 64 + e.val) % 32 by omega))
      · refine congrArg x (idx2_ext (n0 := 33792) (n1 := 2956) _ _ rfl ?_)
        show 1932 + (h.val * 64 + (32 + e.val)) = 1932 + mate (h.val * 64 + e.val)
        unfold mate; rw [if_pos (show (h.val * 64 + e.val) % 64 < 32 by omega)]; omega
      · exact congrArg (val_main_v21 (F := Ideal)) (idx2_ext (n0 := 64) (n1 := 32) _ _ rfl (show e.val = (h.val * 64 + e.val) % 32 by omega))
  · rw [if_neg (show ¬ (h.val * 64 + e.val) % 64 < 32 by omega)]
    unfold val_main_v35
    refine (concatenate_pair_apply_right (t := Cert.Reference7Ideal.S16x64x2x64) 3 _ _ Cert.Reference7Ideal.Gen.facts.concatenates_S16x64x2x32_S16x64x2x32_S16x64x2x64_d3 i rfl rfl
      (fun a => match a with
        | ⟨0, _⟩ => ⟨b.val, b.isLt⟩
        | ⟨1, _⟩ => ⟨t.val, t.isLt⟩
        | ⟨2, _⟩ => ⟨h.val, h.isLt⟩
        | ⟨3, _⟩ => ⟨e.val - 32, by show e.val - 32 < 32; omega⟩ : Cert.Reference7Ideal.S16x64x2x32.Idx) ?_ ?_).trans ?_
    · intro a ha; match a with
      | ⟨0, _⟩ => exact h0.symm
      | ⟨1, _⟩ => exact h1.symm
      | ⟨2, _⟩ => exact h2.symm
      | ⟨3, _⟩ => exact absurd rfl ha
    · show e.val - 32 + 32 = (i 3).val; rw [h3]; omega
    · rw [val_main_v34_apply, val_main_v31_apply, val_main_v33_apply, val_main_v23_apply, val_main_v24_apply, val_main_v30_apply, val_main_v20_apply, val_main_v32_apply, val_main_v22_apply]
      rw [heads_apply x b t h e _ rfl rfl rfl (show 32 + (e.val - 32) = e.val by omega), heads_apply x b t h ⟨e.val - 32, by omega⟩ _ rfl rfl rfl rfl]
      refine congrArg₂ (fun p q : EReal => p + q) (congrArg₂ (fun p q : EReal => p * q) rfl ?_) (congrArg₂ (fun p q : EReal => p * q) ?_ ?_)
      · exact congrArg (val_main_v19 (F := Ideal)) (idx2_ext (n0 := 64) (n1 := 32) _ _ rfl (show e.val - 32 = (h.val * 64 + e.val) % 32 by omega))
      · refine congrArg x (idx2_ext (n0 := 33792) (n1 := 2956) _ _ rfl ?_)
        show 1932 + (h.val * 64 + (e.val - 32)) = 1932 + mate (h.val * 64 + e.val)
        unfold mate; rw [if_neg (show ¬ (h.val * 64 + e.val) % 64 < 32 by omega)]; omega
      · exact congrArg (val_main_v21 (F := Ideal)) (idx2_ext (n0 := 64) (n1 := 32) _ _ rfl (show e.val - 32 = (h.val * 64 + e.val) % 32 by omega))

end Reference

/-! ## The program's arrays -/

section Run
variable {F : FTy → Type} [FloatOps F]
variable (m : (ℓ : Loc nD τ sig) → Buf (Elt F) ℓ)

/-- The body leaves the rotated keys in its second output's buffer, whatever its grid point. -/
theorem left (c : Dev nD) (i : grid0.Coords) (arg2 : Memref sig .tc .vmem S64x768 .f32) (harg2 : arg2.IsWhole) (arg3 : Memref sig .tc .vmem S1x128x128 .f32) (harg3 : arg3.IsWhole) (arg4 : Memref sig .tc .vmem S1x128x128 .f32) (harg4 : arg4.IsWhole) (arg5 : Memref sig .tc .vmem S64x128 .f32) (harg5 : arg5.IsWhole) (arg6 : Memref sig .tc .vmem S64x128 .f32) (harg6 : arg6.IsWhole) (arg7 : Memref sig .tc .vmem S1x128 .f32) (harg7 : arg7.IsWhole) (arg8 : Memref sig .tc .vmem S64x384 .f32) (harg8 : arg8.IsWhole) (arg9 : Memref sig .tc .vmem S64x128 .f32) (harg9 : arg9.IsWhole) (arg10 : Memref sig .tc .vmem S192x128 .f32) (harg10 : arg10.IsWhole) (arg11 : Memref sig .tc .vmem S192x128 .f32) (harg11 : arg11.IsWhole) (hc0 : cond0_0 i)
    (x0 : Vec F S64x768 .f32) (x1 : Vec F S1x128x128 .f32) (x2 : Vec F S1x128x128 .f32) (x3 : Vec F S64x128 .f32) (x4 : Vec F S64x128 .f32) (x5 : Vec F S1x128 .f32) :
    out0_A_7 (F := F) c i arg2 harg2 arg3 harg3 arg4 harg4 arg5 harg5 arg6 harg6 arg7 harg7 arg8 harg8 arg9 harg9 arg10 harg10 arg11 harg11 hc0 x0 x1 x2 x3 x4 x5 = k0_pay9 x3 x4 (View.ld x0 (Rect.unit (s := S64x768) ![0, 384] S64x128.size inb_S64x768_S64x128_0_384)) := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 hc0 x0 x1 x2 x3 x4 x5)]
  dsimp only [kernelRun0_A]
  rw [View.canon_cons_unit_lit _ _ _ (by decide)]
  refine (congrArg₂ (fun a b => k0_pay9 a b _) (funext fun y => ?_) (funext fun y => ?_)).trans (congrArg (fun a => k0_pay9 x3 x4 a) (funext fun y => ?_))
  · rw [Memref.IsWhole.readAt_unread]
    exact congrArg x3 (idx2_ext (n0 := 64) (n1 := 128) _ _ (show 0 + 1 * (y 0).val = (y 0).val by omega) (show 0 + 1 * (y 1).val = (y 1).val by omega))
  · rw [Memref.IsWhole.readAt_unread]
    exact congrArg x4 (idx2_ext (n0 := 64) (n1 := 128) _ _ (show 0 + 1 * (y 0).val = (y 0).val by omega) (show 0 + 1 * (y 1).val = (y 1).val by omega))
  · rw [Memref.IsWhole.readAt_unread]

variable (c : Dev nD)

/-- The projected rows, as launched. -/
abbrev rowsIn : (⟨S33792x2956, .f32⟩ : BufTy).Contents (Elt F) := m ((c : Thread nD τ).loc main_arg0)

/-- The pieces the call's rows are made of. -/
abbrev pieces (x : (⟨S33792x2956, .f32⟩ : BufTy).Contents (Elt F)) : List ((s : Shape) × (s.Idx → Elt F .f32)) :=
    [⟨S33792x1536, (extractStridedSlice S33792x1536 ![0, 0] x slices_S33792x2956_S33792x1536_0_0 : (⟨S33792x1536, .f32⟩ : BufTy).Contents (Elt F))⟩,
     ⟨S33792x768, (extractStridedSlice S33792x768 ![0, 2188] x slices_S33792x2956_S33792x768_0_2188 : (⟨S33792x768, .f32⟩ : BufTy).Contents (Elt F))⟩,
     ⟨S33792x640, (extractStridedSlice S33792x640 ![0, 1548] x slices_S33792x2956_S33792x640_0_1548 : (⟨S33792x640, .f32⟩ : BufTy).Contents (Elt F))⟩,
     ⟨S33792x128, (concatenate S33792x128 1
        [⟨S33792x12, (extractStridedSlice S33792x12 ![0, 1536] x slices_S33792x2956_S33792x12_0_1536 : (⟨S33792x12, .f32⟩ : BufTy).Contents (Elt F))⟩,
         ⟨S33792x116, (broadcastInDim S33792x116 ![] bcast_S_S33792x116 (constant S_ .f32 0x00000000#32) : (⟨S33792x116, .f32⟩ : BufTy).Contents (Elt F))⟩]
        concatenates_S33792x12_S33792x116_S33792x128_d1 : (⟨S33792x128, .f32⟩ : BufTy).Contents (Elt F))⟩]

/-- The call's rows are the projected rows, their columns regrouped. -/
theorem V_rows : V m c main_v6 = concatenate S33792x3072 1 (pieces (rowsIn m c))
    concatenates_S33792x1536_S33792x768_S33792x640_S33792x128_S33792x3072_d1 := by
  unfold V V0
  simp only [List.flatten_cons, List.flatten_nil, List.append_nil]
  after_results <;> rfl

/-- The call's first table is the reference's cosines, four times. -/
theorem V_cos : V m c main_v24 = concatenate S64x128 1
    [⟨S64x32, Cert.Reference7Ideal.Read.val_main_v19 (F := F)⟩, ⟨S64x32, Cert.Reference7Ideal.Read.val_main_v19 (F := F)⟩,
     ⟨S64x32, Cert.Reference7Ideal.Read.val_main_v19 (F := F)⟩, ⟨S64x32, Cert.Reference7Ideal.Read.val_main_v19 (F := F)⟩]
    concatenates_S64x32_S64x32_S64x32_S64x32_S64x128_d1 := by
  unfold V V0
  simp only [List.flatten_cons, List.flatten_nil, List.append_nil]
  after_results <;> rfl

/-- The call's second table is the reference's sines, their sign turned in the first and the third piece. -/
theorem V_sin : V m c main_v27 = concatenate S64x128 1
    [⟨S64x32, Host.negf (Cert.Reference7Ideal.Read.val_main_v21 (F := F))⟩, ⟨S64x32, Cert.Reference7Ideal.Read.val_main_v21 (F := F)⟩,
     ⟨S64x32, Host.negf (Cert.Reference7Ideal.Read.val_main_v21 (F := F))⟩, ⟨S64x32, Cert.Reference7Ideal.Read.val_main_v21 (F := F)⟩]
    concatenates_S64x32_S64x32_S64x32_S64x32_S64x128_d1 := by
  unfold V V0
  simp only [List.flatten_cons, List.flatten_nil, List.append_nil]
  after_results <;> rfl

/-- The array of keys the call leaves. -/
abbrev outArr : (⟨S1024x128, .f32⟩ : BufTy).Contents (Elt F) := (dats m 0 c).arrAt 7 cfg0.N

/-- The valuation the lines after the call start from. -/
abbrev Vout : Valuation τ sig (Elt F) := Pipeline.withArrays (cfgs 0).spec c (V0 m c) fun w => (dats m 0 c).arrAt w (cfgs 0).N
/-- After the call its second result's buffer holds the array of keys. -/
theorem Vout_out : Vout m c (Proc.devRef .tc main_v35_1) = outArr m c :=
  Pipeline.withArrays_arr spec0 launch0.win.arr_inj c (V0 m c) (fun w => (dats m 0 c).arrAt w (cfgs 0).N) 7

/-- A buffer's contents once the lines after the call have run. -/
abbrev ends (b : Ref sig .tc) : Buf (Elt F) ((c : Thread nD τ).loc b) := Pipeline.afterTail₀ cfgs (dats m) 0 (V0 m) [hostOps1] c b

/-- The result is the array of keys, split into streams and heads. -/
theorem end_keys : ends m c main_v36 = shapeCast S16x64x2x64 (outArr m c) shapeCasts_S1024x128_S16x64x2x64 := by
  rw [← Vout_out m c]; unfold ends Pipeline.afterTail₀
  simp only [List.flatten_cons, List.flatten_nil, List.append_nil]
  after_results <;> rfl

end Run

/-! ## The keys -/

section Keys
variable (m : (ℓ : Loc nD τ sig) → Buf (Elt Ideal) ℓ) (c : Dev nD)

/-- Every element of the array of keys: the row's key turned to its position in its stream. -/
def keys (x : (⟨S33792x2956, .f32⟩ : BufTy).Contents (Elt Ideal)) : (⟨S1024x128, .f32⟩ : BufTy).Contents (Elt Ideal) := fun (i : S1024x128.Idx) =>
  rotated (fun l => x (ix2 (n0 := 33792) (n1 := 2956) ⟨32768 + (i 0).val, by have h : (i 0).val < 1024 := (i 0).isLt; omega⟩ ⟨1932 + l.val, by omega⟩))
    (fun w => Cert.Reference7Ideal.Read.val_main_v19 (F := Ideal) (ix2 (n0 := 64) (n1 := 32) ⟨(i 0).val % 64, Nat.mod_lt _ (by decide)⟩ w))
    (fun w => Cert.Reference7Ideal.Read.val_main_v21 (F := Ideal) (ix2 (n0 := 64) (n1 := 32) ⟨(i 0).val % 64, Nat.mod_lt _ (by decide)⟩ w))
    ⟨(i 1).val, (i 1).isLt⟩

/-- The rows' window stands at the samples' block of the point, the keys' at the point's, and the tables' does not move. -/
theorem map_val (t : Fin cfg0.N) : cc0_transform_7 (grid0.coords t) 0 = t.val ∧ cc0_transform_0 (grid0.coords t) 0 = 512 + t.val
    ∧ cc0_transform_3 (grid0.coords t) 0 = 0 ∧ cc0_transform_4 (grid0.coords t) 0 = 0 := by
  revert t
  decide +kernel

/-- Where an element of the keys' block lies in the array of keys. -/
theorem out_emb (t : Fin cfg0.N) (y : S64x128.Idx) :
    ((cfg0.win 7).blk t).view.emb y = ix2 (n0 := 1024) (n1 := 128)
      ⟨t.val * 64 + (y 0).val, by have h : t.val < 16 := t.isLt; have h0 : (y 0).val < 64 := (y 0).isLt; omega⟩ ⟨(y 1).val, (y 1).isLt⟩ := by
  refine idx2_ext (n0 := 1024) (n1 := 128) _ _ ?_ ?_
  · show cc0_transform_7 (grid0.coords t) 0 * 64 + 1 * (y 0).val = t.val * 64 + (y 0).val
    rw [(map_val t).1]; omega
  · show cc0_transform_7 (grid0.coords t) 1 * 128 + 1 * (y 1).val = (y 1).val
    rw [show cc0_transform_7 (grid0.coords t) 1 = 0 from rfl]; omega

/-- A point's keys, before they are turned, are the projected row's. -/
theorem rows_at (t : Fin cfg0.N) (r : Fin 64) (l : Fin 128) :
    (View.ld (iblk m c 0 t) (Rect.unit (s := S64x768) ![0, 384] S64x128.size inb_S64x768_S64x128_0_384) : S64x128.Idx → EReal) (ix2 r l)
      = rowsIn m c (ix2 (n0 := 33792) (n1 := 2956) ⟨32768 + (t.val * 64 + r.val), by have h : t.val < 16 := t.isLt; omega⟩ ⟨1932 + l.val, by omega⟩) := by
  have ht : t.val < 16 := t.isLt
  have hl : l.val < 128 := l.isLt
  refine Eq.trans (b := (V m c main_v6 : S33792x3072.Idx → EReal) (ix2 (n0 := 33792) (n1 := 3072) ⟨32768 + (t.val * 64 + r.val), by omega⟩ ⟨2304 + (384 + l.val), by omega⟩)) ?_ ?_
  · refine congrArg (V m c main_v6 : S33792x3072.Idx → EReal) (idx2_ext (n0 := 33792) (n1 := 3072) _ _ ?_ ?_)
    · show cc0_transform_0 (grid0.coords t) 0 * 64 + 1 * (0 + 1 * r.val) = 32768 + (t.val * 64 + r.val)
      rw [(map_val t).2.1]; omega
    · show cc0_transform_0 (grid0.coords t) 1 * 768 + 1 * (384 + 1 * l.val) = 2304 + (384 + l.val)
      rw [show cc0_transform_0 (grid0.coords t) 1 = 3 from rfl]; omega
  · rw [V_rows]
    refine (regrouped 33792 (pieces (F := Ideal) (rowsIn m c)) (rowsIn m c) _ _ _ _ rfl _ ⟨32768 + (t.val * 64 + r.val), by omega⟩ ⟨384 + l.val, by omega⟩).trans ?_
    exact congrArg (rowsIn m c) (idx2_ext (n0 := 33792) (n1 := 2956) _ _ rfl (show 1548 + (384 + l.val) = 1932 + l.val by omega))

/-- A point's first table. -/
theorem cos_at (t : Fin cfg0.N) (r : Fin 64) (l : Fin 128) : (iblk m c 3 t : S64x128.Idx → EReal) (ix2 r l)
    = Cert.Reference7Ideal.Read.val_main_v19 (F := Ideal) (ix2 (n0 := 64) (n1 := 32) r ⟨l.val % 32, Nat.mod_lt _ (by decide)⟩) := by
  refine Eq.trans (b := (V m c main_v24 : S64x128.Idx → EReal) (ix2 (n0 := 64) (n1 := 128) r l)) ?_ ?_
  · refine congrArg (V m c main_v24 : S64x128.Idx → EReal) (idx2_ext (n0 := 64) (n1 := 128) _ _ ?_ ?_)
    · show cc0_transform_3 (grid0.coords t) 0 * 64 + 1 * r.val = r.val
      rw [(map_val t).2.2.1]; omega
    · show cc0_transform_3 (grid0.coords t) 1 * 128 + 1 * l.val = l.val
      rw [show cc0_transform_3 (grid0.coords t) 1 = 0 from rfl]; omega
  · rw [V_cos]
    exact cos_table (n := 64) _ _ r l

/-- A point's second table. -/
theorem sin_at (t : Fin cfg0.N) (r : Fin 64) (l : Fin 128) : (iblk m c 4 t : S64x128.Idx → EReal) (ix2 r l)
    = if l.val % 64 < 32 then -((Cert.Reference7Ideal.Read.val_main_v21 (F := Ideal) (ix2 (n0 := 64) (n1 := 32) r ⟨l.val % 32, Nat.mod_lt _ (by decide)⟩) : EReal))
      else Cert.Reference7Ideal.Read.val_main_v21 (F := Ideal) (ix2 (n0 := 64) (n1 := 32) r ⟨l.val % 32, Nat.mod_lt _ (by decide)⟩) := by
  refine Eq.trans (b := (V m c main_v27 : S64x128.Idx → EReal) (ix2 (n0 := 64) (n1 := 128) r l)) ?_ ?_
  · refine congrArg (V m c main_v27 : S64x128.Idx → EReal) (idx2_ext (n0 := 64) (n1 := 128) _ _ ?_ ?_)
    · show cc0_transform_4 (grid0.coords t) 0 * 64 + 1 * r.val = r.val
      rw [(map_val t).2.2.2]; omega
    · show cc0_transform_4 (grid0.coords t) 1 * 128 + 1 * l.val = l.val
      rw [show cc0_transform_4 (grid0.coords t) 1 = 0 from rfl]; omega
  · rw [V_sin]
    exact sin_table (n := 64) _ _ r l

/-- A point writes back its block of the keys. -/
theorem out_flushed (t : Fin cfg0.N) : (dats m 0 c).flushed 7 t = ((cfg0.win 7).blk t).view.read (Elt Ideal) (keys (rowsIn m c)) := by
  refine funext fun (y : S64x128.Idx) => ?_
  have ht : t.val < 16 := t.isLt
  have h0 : (y 0).val < 64 := (y 0).isLt
  refine Eq.trans ?_ (congrArg (keys (rowsIn m c)) (out_emb t y)).symm
  show (dats m 0 c).after 7 t (((cfg0.win 7).xinj _ y)) = _
  rw [after0_7]
  have hy : ((cfg0.win 7).xinj (cfg0.grid.coords t) y : S64x128.Idx) = ix2 (n0 := 64) (n1 := 128) ⟨(y 0).val, (y 0).isLt⟩ ⟨(y 1).val, (y 1).isLt⟩ :=
    idx2_ext (n0 := 64) (n1 := 128) _ _ rfl rfl
  refine (congrArg ((outsAt0 m c t).2 : S64x128.Idx → EReal) hy).trans ?_
  unfold outsAt0
  dsimp only
  rw [left]
  unfold k0_pay9 k0_pay6 k0_pay7
  dsimp only
  refine (turned_apply (n := 64) _ _ _ _ _ _ _ _).trans ?_
  refine (turned_eq (n := 64) _ _ _ _ (fun w => Cert.Reference7Ideal.Read.val_main_v19 (F := Ideal) (ix2 (n0 := 64) (n1 := 32) ⟨(y 0).val, h0⟩ w))
    (fun w => Cert.Reference7Ideal.Read.val_main_v21 (F := Ideal) (ix2 (n0 := 64) (n1 := 32) ⟨(y 0).val, h0⟩ w)) _ _
    (rows_at m c t _) (cos_at m c t _ _) (sin_at m c t _ _)).trans ?_
  · have hm : (t.val * 64 + (y 0).val) % 64 = (y 0).val := by omega
    unfold keys
    show rotated _ (fun w => Cert.Reference7Ideal.Read.val_main_v19 (F := Ideal) _) (fun w => Cert.Reference7Ideal.Read.val_main_v21 (F := Ideal) _) _ = rotated _ _ _ _
    refine congrArg₂ (fun p q => rotated _ p q _) (funext fun w => ?_) (funext fun w => ?_)
    · exact congrArg (Cert.Reference7Ideal.Read.val_main_v19 (F := Ideal)) (idx2_ext (n0 := 64) (n1 := 32) _ _ hm.symm rfl)
    · exact congrArg (Cert.Reference7Ideal.Read.val_main_v21 (F := Ideal)) (idx2_ext (n0 := 64) (n1 := 32) _ _ hm.symm rfl)

/-- The array the call leaves is the keys. -/
theorem out_eq : outArr m c = keys (rowsIn m c) := by
  refine funext fun (i : S1024x128.Idx) => ?_
  have h0 : (i 0).val < 1024 := (i 0).isLt
  have hN : (i 0).val / 64 < cfg0.N := show (i 0).val / 64 < 16 by omega
  have he : ((cfg0.win 7).blk ⟨(i 0).val / 64, hN⟩).view.emb (ix2 (n0 := 64) (n1 := 128) ⟨(i 0).val % 64, Nat.mod_lt _ (by decide)⟩ ⟨(i 1).val, (i 1).isLt⟩) = i := by
    rw [out_emb]
    refine idx2_ext (n0 := 1024) (n1 := 128) _ _ ?_ rfl
    show (i 0).val / 64 * 64 + (i 0).val % 64 = (i 0).val
    omega
  exact (dats m 0 c).arrAt_apply_of_mem 7 (keys (rowsIn m c)) (fun t _ => out_flushed m c t) cfg0.N
    ⟨(i 0).val / 64, hN⟩ i hN (flush0_7 _) (by
      have := ((cfg0.win 7).blk ⟨(i 0).val / 64, hN⟩).view.emb_mem_set (ix2 (n0 := 64) (n1 := 128) ⟨(i 0).val % 64, Nat.mod_lt _ (by decide)⟩ ⟨(i 1).val, (i 1).isLt⟩)
      rwa [he] at this)

/-- The result is the reference's. -/
theorem keys_eq : ends m c main_v36 = Cert.Reference7Ideal.Read.val_main_v35 (F := Ideal) (rowsIn m c) := by
  rw [end_keys m c, out_eq m c]
  refine funext fun (i : S16x64x2x64.Idx) => ?_
  have h0 : (i 0).val < 16 := (i 0).isLt
  have h1 : (i 1).val < 64 := (i 1).isLt
  have h2 : (i 2).val < 2 := (i 2).isLt
  have h3 : (i 3).val < 64 := (i 3).isLt
  refine (shapeCast_apply _ shapeCasts_S1024x128_S16x64x2x64 i
    (ix2 (n0 := 1024) (n1 := 128) ⟨(i 0).val * 64 + (i 1).val, by omega⟩ ⟨(i 2).val * 64 + (i 3).val, by omega⟩) (by
      rewrite [Shape.rowMajor_val_two, Shape.rowMajor_val_four]
      show ((i 0).val * 64 + (i 1).val) * 128 + ((i 2).val * 64 + (i 3).val) = (((i 0).val * 64 + (i 1).val) * 2 + (i 2).val) * 64 + (i 3).val
      omega)).trans ?_
  refine Eq.trans ?_ (ref_apply (rowsIn m c) i ⟨(i 0).val, h0⟩ ⟨(i 1).val, h1⟩ ⟨(i 2).val, h2⟩ ⟨(i 3).val, h3⟩ rfl rfl rfl rfl).symm
  have hm : ((i 0).val * 64 + (i 1).val) % 64 = (i 1).val := by omega
  unfold keys
  refine congrArg₂ (fun p q => rotated _ p q _) (funext fun w => ?_) (funext fun w => ?_)
  · exact congrArg (Cert.Reference7Ideal.Read.val_main_v19 (F := Ideal)) (idx2_ext (n0 := 64) (n1 := 32) _ _ hm rfl)
  · exact congrArg (Cert.Reference7Ideal.Read.val_main_v21 (F := Ideal)) (idx2_ext (n0 := 64) (n1 := 32) _ _ hm rfl)

/-- Every execution ends with the result at the reference's value and the arguments unchanged. -/
theorem run_vals (ρ : Dev nD → PrngReg) :
    θ_run (defs (F := Ideal)) (onTc (τ := τ) (main (F := Ideal))) ⟨m, fun _ => 0, ρ⟩ (fun r => ∀ c : Dev nD,
      r.2.mem ((c.tc : Thread nD τ).loc main_v36) = Cert.Reference7Ideal.Read.val_main_v35 (F := Ideal) (rowsIn m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ?_) (θ_run_and (run_main m ρ) (unchanged m ρ))
  have hb := (h.1 c).2
  exact ⟨(hb main_v36 (Pipeline.mem_restRefs_of main_v36 (by decide) (by decide))).trans (keys_eq m c), h.2 c⟩

end Keys

end Cert.Proof.KeySample

end
-- ==== Proof.MixTile.lean ====
/-
  One block of the call that combines the experts' rows, at the ideal values, element by element: the activations scaled, the four
  gathered rows added under their gates, and the row normalized.
-/
module

public import proofs.«01_k».proof.Proof.Gen.Kernel5Ideal.Frame
public import Idealize.ShloMosaic.Lib.Pipeline.Value
public import Idealize.ShloMosaic.Lib.Pipeline.ValueKit.Basic
public import Idealize.ShloMosaic.Lib.Pipeline.ValueKit.Tiles
public import Idealize.ShloMosaic.Lib.ValueLayout
public import Idealize.ShloMosaic.Lib.IdealHost
public import Idealize.ShloMosaic.PureOps.Ideal.Laws

@[expose] public section

set_option maxRecDepth 16384

noncomputable section

namespace Cert.Proof.Mix

open Cert.Kernel5Ideal Cert.Kernel5Ideal.Gen
open Idealize.ShloMosaic Idealize.ShloMosaic.TcCoe
open Idealize.ShloMosaic.ValueIdx

/-! ## A row -/

/-- Element `d` of a packed row: below 512 word `d`'s low half, from 512 word `d - 512`'s high half. -/
def halfAt (W : Fin 512 → BitVec 32) (d : Fin 1024) : EReal :=
  if h : d.val < 512 then Ideal.ofBits .f32 (IntOp.shli .vector (W ⟨d.val, h⟩) 16#32)
  else Ideal.ofBits .f32 (IntOp.andi (W ⟨d.val - 512, by omega⟩) 4294901760#32)

/-- The scaled activation plus the four gathered elements under their gates. -/
def mixAt (x : EReal) (g u : Fin 4 → EReal) : EReal :=
  Ideal.ofBits .f32 0x3FD744FD#32 * x + g 0 * u 0 + g 1 * u 1 + g 2 * u 2 + g 3 * u 3

/-- The mean of a row. -/
def meanAt (h : Fin 1024 → EReal) : EReal := Ideal.div (∑ k : Fin 1024, h k) (Ideal.ofBits .f32 0x44800000#32)

/-- A row's element less the mean. -/
def devAt (h : Fin 1024 → EReal) (d : Fin 1024) : EReal := h d - meanAt h

/-- The normalized row's element, scaled and shifted. -/
def normAt (h : Fin 1024 → EReal) (g b : EReal) (d : Fin 1024) : EReal :=
  devAt h d * Ideal.rsqrt (meanAt (fun k => devAt h k * devAt h k) + Ideal.ofBits .f32 0x3727C5AC#32) * g + b

/-- Word `k` of row `r` of a block of packed rows. -/
def wordsOf (x : Vec Ideal S4x512x128 .i32) (r k : Fin 512) : BitVec 32 :=
  x (ix3 (n0 := 4) (n1 := 512) (n2 := 128) ⟨k.val / 128, by omega⟩ r ⟨k.val % 128, Nat.mod_lt _ (by decide)⟩)

/-! ## The gathered rows -/

/-- A plane of the block, loaded and flattened, at an element. -/
theorem plane_at (x : Vec Ideal S4x512x128 .i32) (p : Nat) (hp : p < 4) (inb) (r : Fin 512) (l : Fin 128) :
    (shapeCast S512x128 (View.ld x (Rect.unit (s := S4x512x128) ![p, 0, 0] S1x512x128.size inb)) shapeCasts_S1x512x128_S512x128 : IVec S512x128 32) (ix2 r l)
      = x (ix3 (n0 := 4) (n1 := 512) (n2 := 128) ⟨p, hp⟩ r l) := by
  refine (shapeCast_1ab_ab_apply (a := 512) (b := 128) _ _ r l).trans (congrArg x (funext fun a => Fin.ext ?_))
  match a with
  | ⟨0, _⟩ => show p + 1 * 0 = p; omega
  | ⟨1, _⟩ => show 0 + 1 * r.val = r.val; omega
  | ⟨2, _⟩ => show 0 + 1 * l.val = l.val; omega

/-- The four planes side by side. -/
abbrev planes (a b c e : IVec S512x128 32) : List ((s : Shape) × (s.Idx → BitVec 32)) :=
  [⟨S512x128, a⟩, ⟨S512x128, b⟩, ⟨S512x128, c⟩, ⟨S512x128, e⟩]

/-- Piece `p` of the joined planes holds the words from `128 p` on. -/
theorem joined_piece (a b c e v : IVec S512x128 32) (p : Nat) (hp : p < 4) (hv : (planes a b c e)[p]'hp = ⟨S512x128, v⟩)
    (hpre : ((((planes a b c e).take p).map (·.1)).map
      fun s => if h : s.rank = S512x512.rank then s.size ((1 : Fin S512x512.rank).cast h.symm) else 0).sum = 128 * p)
    (r k : Fin 512) (hk : k.val / 128 = p) :
    concatenate S512x512 1 (planes a b c e) concatenates_S512x128_S512x128_S512x128_S512x128_S512x512_d1 (ix2 r k)
      = v (ix2 (n0 := 512) (n1 := 128) r ⟨k.val % 128, Nat.mod_lt _ (by decide)⟩) := by
  refine concatenate_apply_piece (t := S512x512) 1 (planes a b c e) _ _ p hp S512x128 v hv rfl (128 * p) hpre _ ?_ ?_
  · intro q hq; match q with
    | ⟨0, _⟩ => rfl
    | ⟨1, _⟩ => exact absurd rfl hq
  · show 128 * p + k.val % 128 = k.val
    omega

/-- The joined planes of a block are its words. -/
theorem joined_at (x : Vec Ideal S4x512x128 .i32) (r k : Fin 512) :
    concatenate S512x512 1
      (planes (shapeCast S512x128 (View.ld x r0_2) shapeCasts_S1x512x128_S512x128) (shapeCast S512x128 (View.ld x r0_3) shapeCasts_S1x512x128_S512x128)
        (shapeCast S512x128 (View.ld x r0_4) shapeCasts_S1x512x128_S512x128) (shapeCast S512x128 (View.ld x r0_5) shapeCasts_S1x512x128_S512x128))
      concatenates_S512x128_S512x128_S512x128_S512x128_S512x512_d1 (ix2 r k) = wordsOf x r k := by
  have h4 : k.val / 128 = 0 ∨ k.val / 128 = 1 ∨ k.val / 128 = 2 ∨ k.val / 128 = 3 := by omega
  unfold wordsOf
  rcases h4 with e | e | e | e
  · refine (joined_piece _ _ _ _ _ 0 (by decide) rfl rfl r k e).trans ((plane_at x 0 (by decide) _ r _).trans ?_)
    exact congrArg x (congrArg (fun q => ix3 (n0 := 4) (n1 := 512) (n2 := 128) q r _) (Fin.ext e.symm))
  · refine (joined_piece _ _ _ _ _ 1 (by decide) rfl rfl r k e).trans ((plane_at x 1 (by decide) _ r _).trans ?_)
    exact congrArg x (congrArg (fun q => ix3 (n0 := 4) (n1 := 512) (n2 := 128) q r _) (Fin.ext e.symm))
  · refine (joined_piece _ _ _ _ _ 2 (by decide) rfl rfl r k e).trans ((plane_at x 2 (by decide) _ r _).trans ?_)
    exact congrArg x (congrArg (fun q => ix3 (n0 := 4) (n1 := 512) (n2 := 128) q r _) (Fin.ext e.symm))
  · refine (joined_piece _ _ _ _ _ 3 (by decide) rfl rfl r k e).trans ((plane_at x 3 (by decide) _ r _).trans ?_)
    exact congrArg x (congrArg (fun q => ix3 (n0 := 4) (n1 := 512) (n2 := 128) q r _) (Fin.ext e.symm))

/-- The unpacked rows: the words' low halves, then their high halves. -/
def unpacked (w : IVec S512x512 32) : FVec Ideal S512x1024 .f32 :=
  concatenate S512x1024 1 [⟨S512x512, bitcastToFloat (F := Ideal) .f32 (shli w (broadcast S512x512 16#32))⟩,
    ⟨S512x512, bitcastToFloat (F := Ideal) .f32 (andi w (broadcast S512x512 4294901760#32))⟩] concatenates_S512x512_S512x512_S512x1024_d1

/-- An element of the unpacked rows. -/
theorem unpacked_at (w : IVec S512x512 32) (r : Fin 512) (d : Fin 1024) :
    unpacked w (ix2 r d) = halfAt (fun k => w (ix2 r k)) d := by
  unfold unpacked halfAt
  by_cases hd : d.val < 512
  · rw [dif_pos hd]
    exact concatenate_pair_apply_left (t := S512x1024) (s₁ := S512x512) (s₂ := S512x512) 1 _ _ _ (ix2 r d) rfl (ix2 r ⟨d.val, hd⟩)
      (fun b => by match b with | ⟨0, _⟩ => rfl | ⟨1, _⟩ => rfl)
  · rw [dif_neg hd]
    exact concatenate_pair_apply_right (t := S512x1024) (s₁ := S512x512) (s₂ := S512x512) 1 _ _ _ (ix2 r d) rfl rfl (ix2 r ⟨d.val - 512, by omega⟩)
      (fun b hb => by match b with | ⟨0, _⟩ => rfl | ⟨1, _⟩ => exact absurd rfl hb) (by show d.val - 512 + 512 = d.val; omega)

/-- A column of the gates, repeated along the row. -/
theorem gate_at (v : Vec Ideal S512x128 .f32) (j : Nat) (hj : j < 128) (hs : S512x128.Slices ![0, j] S512x1) (r : Fin 512) (d : Fin 1024) :
    (broadcastTo S512x1024 (extractStridedSlice S512x1 ![0, j] v hs) broadcasts_S512x1_S512x1024 : FVec Ideal S512x1024 .f32) (ix2 r d)
      = v (ix2 (n0 := 512) (n1 := 128) r ⟨j, hj⟩) := by
  refine (broadcastTo_apply _ broadcasts_S512x1_S512x1024 (ix2 r d) (ix2 (n0 := 512) (n1 := 1) r 0) (fun a => by match a with | ⟨0, _⟩ => rfl | ⟨1, _⟩ => rfl)).trans ?_
  exact extractStridedSlice_apply (t := S512x1) ![0, j] v hs _ _ (fun a => match a with
    | ⟨0, _⟩ => by show r.val = 0 + r.val; omega
    | ⟨1, _⟩ => by show j = j + 0; omega)

/-! ## The sum -/

section Sum
variable (x0 x1 x2 x3 : Vec Ideal S4x512x128 .i32) (x4 : Vec Ideal S512x128 .f32) (x5 : Vec Ideal S512x1024 .f32)

/-- The sum's first two terms. -/
theorem first_at (r : Fin 512) (d : Fin 1024) :
    (k0_pay1 (F := Ideal) x4 x5 (View.ld x0 r0_2) (View.ld x0 r0_3) (View.ld x0 r0_4) (View.ld x0 r0_5) : S512x1024.Idx → EReal) (ix2 r d)
      = Ideal.ofBits .f32 0x3FD744FD#32 * x5 (ix2 r d) + x4 (ix2 (n0 := 512) (n1 := 128) r 0) * halfAt (wordsOf x0 r) d := by
  unfold k0_pay1
  refine congrArg₂ (fun a b : EReal => a + b) rfl (congrArg₂ (fun a b : EReal => a * b) (gate_at x4 0 (by decide) _ r d) ?_)
  refine (unpacked_at _ r d).trans (congrArg (fun w => halfAt w d) (funext fun k => joined_at x0 r k))

/-- The next two terms. -/
theorem second_at (s : FVec Ideal S512x1024 .f32) (r : Fin 512) (d : Fin 1024) :
    (k0_pay5 (F := Ideal) x4 s (k0_pay2 (View.ld x1 r0_2)) (k0_pay3 (View.ld x1 r0_3)) (k0_pay4 (View.ld x1 r0_4)) (View.ld x1 r0_5)
        (View.ld x2 r0_2) (View.ld x2 r0_3) (View.ld x2 r0_4) (View.ld x2 r0_5) : S512x1024.Idx → EReal) (ix2 r d)
      = s (ix2 r d) + x4 (ix2 (n0 := 512) (n1 := 128) r 1) * halfAt (wordsOf x1 r) d + x4 (ix2 (n0 := 512) (n1 := 128) r 2) * halfAt (wordsOf x2 r) d := by
  unfold k0_pay5 k0_pay2 k0_pay3 k0_pay4
  dsimp only
  refine congrArg₂ (fun a b : EReal => a + b) (congrArg₂ (fun a b : EReal => a + b) rfl ?_) ?_
  · refine congrArg₂ (fun a b : EReal => a * b) (gate_at x4 1 (by decide) _ r d) ?_
    exact (unpacked_at _ r d).trans (congrArg (fun w => halfAt w d) (funext fun k => joined_at x1 r k))
  · refine congrArg₂ (fun a b : EReal => a * b) (gate_at x4 2 (by decide) _ r d) ?_
    exact (unpacked_at _ r d).trans (congrArg (fun w => halfAt w d) (funext fun k => joined_at x2 r k))

/-- The last term. -/
def third (s : FVec Ideal S512x1024 .f32) : FVec Ideal S512x1024 .f32 :=
  addf s (mulf (broadcastTo S512x1024 (extractStridedSlice S512x1 ![0, 3] x4 slices_S512x128_o0_3_S512x1) broadcasts_S512x1_S512x1024)
    (unpacked (concatenate S512x512 1
      (planes (shapeCast S512x128 (View.ld x3 r0_2) shapeCasts_S1x512x128_S512x128) (shapeCast S512x128 (View.ld x3 r0_3) shapeCasts_S1x512x128_S512x128)
        (shapeCast S512x128 (View.ld x3 r0_4) shapeCasts_S1x512x128_S512x128) (shapeCast S512x128 (View.ld x3 r0_5) shapeCasts_S1x512x128_S512x128))
      concatenates_S512x128_S512x128_S512x128_S512x128_S512x512_d1)))

theorem third_at (s : FVec Ideal S512x1024 .f32) (r : Fin 512) (d : Fin 1024) :
    third x3 x4 s (ix2 r d) = s (ix2 r d) + x4 (ix2 (n0 := 512) (n1 := 128) r 3) * halfAt (wordsOf x3 r) d := by
  unfold third
  refine congrArg₂ (fun a b : EReal => a + b) rfl (congrArg₂ (fun a b : EReal => a * b) (gate_at x4 3 (by decide) _ r d) ?_)
  exact (unpacked_at _ r d).trans (congrArg (fun w => halfAt w d) (funext fun k => joined_at x3 r k))

end Sum

/-! ## The normalization -/

/-- The rows' means, as a column. -/
def meanCol (v : FVec Ideal S512x1024 .f32) : FVec Ideal S512x1 .f32 :=
  divf (shapeCast S512x1 (multiReduction .add [1] S512 v 0x00000000#32 reduces_S512x1024_S512 (.inl rfl) rfl) shapeCasts_S512_S512x1)
    (broadcast S512x1 (Scalar.ofBits .f32 0x44800000#32))

/-- A row's mean. -/
theorem meanCol_at (v : FVec Ideal S512x1024 .f32) (r : Fin 512) : meanCol v (ix2 (n0 := 512) (n1 := 1) r 0) = meanAt (fun k => v (ix2 r k)) := by
  unfold meanCol meanAt
  refine congrArg₂ (fun a b : EReal => Ideal.div a b) ?_ rfl
  refine (shapeCast_apply _ shapeCasts_S512_S512x1 _ (ix1 (n := 512) r) (by
    rewrite [Shape.rowMajor_val_one, Shape.rowMajor_val_two]; show r.val = r.val * 1 + 0; omega)).trans ?_
  refine (Ideal.multiReduction_add_single v _ reduces_S512x1024_S512 _ _ _).trans (Finset.sum_congr rfl fun k _ => congrArg v ?_)
  exact funext fun a => Fin.ext (by match a with | ⟨0, _⟩ => rfl | ⟨1, _⟩ => rfl)

/-- A column repeated along the rows. -/
theorem col_at (c : FVec Ideal S512x1 .f32) (r : Fin 512) (d : Fin 1024) :
    (broadcastTo S512x1024 c broadcasts_S512x1_S512x1024 : FVec Ideal S512x1024 .f32) (ix2 r d) = c (ix2 (n0 := 512) (n1 := 1) r 0) :=
  broadcastTo_apply _ broadcasts_S512x1_S512x1024 (ix2 r d) (ix2 (n0 := 512) (n1 := 1) r 0) (fun a => by match a with | ⟨0, _⟩ => rfl | ⟨1, _⟩ => rfl)

/-- A row repeated down the columns. -/
theorem row_at (c : FVec Ideal S1x1024 .f32) (r : Fin 512) (d : Fin 1024) :
    (broadcastTo S512x1024 (shapeCast S1x1024 c shapeCasts_S1x1024_S1x1024) broadcasts_S1x1024_S512x1024 : FVec Ideal S512x1024 .f32) (ix2 r d)
      = c (ix2 (n0 := 1) (n1 := 1024) 0 d) := by
  rw [shapeCast_self]
  exact broadcastTo_apply _ broadcasts_S1x1024_S512x1024 (ix2 r d) (ix2 (n0 := 1) (n1 := 1024) 0 d) (fun a => by match a with | ⟨0, _⟩ => rfl | ⟨1, _⟩ => rfl)

/-- The rows less their means. -/
def devs (v : FVec Ideal S512x1024 .f32) : FVec Ideal S512x1024 .f32 := subf v (broadcastTo S512x1024 (meanCol v) broadcasts_S512x1_S512x1024)

theorem devs_at (v : FVec Ideal S512x1024 .f32) (r : Fin 512) (d : Fin 1024) : devs v (ix2 r d) = devAt (fun k => v (ix2 r k)) d := by
  unfold devs devAt
  exact congrArg₂ (fun a b : EReal => a - b) rfl ((col_at _ r d).trans (meanCol_at v r))

/-- The rows normalized, scaled and shifted. -/
def normed (v : FVec Ideal S512x1024 .f32) (g b : FVec Ideal S1x1024 .f32) : FVec Ideal S512x1024 .f32 :=
  addf (mulf (mulf (devs v) (broadcastTo S512x1024
      (rsqrt (addf (meanCol (mulf (devs v) (devs v))) (broadcast S512x1 (Scalar.ofBits .f32 0x3727C5AC#32)))) broadcasts_S512x1_S512x1024))
    (broadcastTo S512x1024 (shapeCast S1x1024 g shapeCasts_S1x1024_S1x1024) broadcasts_S1x1024_S512x1024))
    (broadcastTo S512x1024 (shapeCast S1x1024 b shapeCasts_S1x1024_S1x1024) broadcasts_S1x1024_S512x1024)

theorem normed_at (v : FVec Ideal S512x1024 .f32) (g b : FVec Ideal S1x1024 .f32) (r : Fin 512) (d : Fin 1024) :
    normed v g b (ix2 r d) = normAt (fun k => v (ix2 r k)) (g (ix2 (n0 := 1) (n1 := 1024) 0 d)) (b (ix2 (n0 := 1) (n1 := 1024) 0 d)) d := by
  unfold normed normAt
  refine congrArg₂ (fun a b : EReal => a + b) (congrArg₂ (fun a b : EReal => a * b) (congrArg₂ (fun a b : EReal => a * b) (devs_at v r d) ?_) (row_at g r d)) (row_at b r d)
  refine (col_at _ r d).trans (congrArg Ideal.rsqrt (congrArg₂ (fun a b : EReal => a + b) ?_ rfl))
  refine (meanCol_at _ r).trans (congrArg meanAt (funext fun k => ?_))
  exact congrArg₂ (fun a b : EReal => a * b) (devs_at v r k) (devs_at v r k)

/-! ## The block -/

section Block
variable (x0 x1 x2 x3 : Vec Ideal S4x512x128 .i32) (x4 : Vec Ideal S512x128 .f32) (x5 : Vec Ideal S512x1024 .f32) (x6 x7 : Vec Ideal S1x1024 .f32)

/-- The body's last step is the last term added and the rows normalized. -/
theorem last_eq (s : FVec Ideal S512x1024 .f32) :
    k0_pay7 (F := Ideal) x4 s (k0_pay6 (View.ld x3 r0_2)) (View.ld x3 r0_3) (View.ld x3 r0_4) (View.ld x3 r0_5) x6 x7 = normed (third x3 x4 s) x6 x7 := rfl

/-- The four gathered blocks by their number. -/
def pick (k : Fin 4) : Vec Ideal S4x512x128 .i32 := match k with
  | ⟨0, _⟩ => x0
  | ⟨1, _⟩ => x1
  | ⟨2, _⟩ => x2
  | ⟨3, _⟩ => x3

/-- A block's element: its row's mix, normalized. -/
theorem block_at (r : Fin 512) (d : Fin 1024) :
    (out0_8 (F := Ideal) x0 x1 x2 x3 x4 x5 x6 x7 : S512x1024.Idx → EReal) (ix2 r d)
      = normAt (fun d => mixAt (x5 (ix2 r d)) (fun k => x4 (ix2 (n0 := 512) (n1 := 128) r ⟨k.val, by omega⟩)) (fun k => halfAt (wordsOf (pick x0 x1 x2 x3 k) r) d))
          (x6 (ix2 (n0 := 1) (n1 := 1024) 0 d)) (x7 (ix2 (n0 := 1) (n1 := 1024) 0 d)) d := by
  unfold out0_8
  rw [View.canon_cons_unit_lit _ _ _ (by decide), View.ld_unit_lit (S := S512x128) _ _ (by decide), View.ld_unit_lit (S := S512x1024) _ _ (by decide),
    View.ld_unit_lit (S := S1x1024) _ _ (by decide), View.ld_unit_lit (S := S1x1024) _ _ (by decide), last_eq]
  refine (normed_at _ x6 x7 r d).trans (congrArg (fun h => normAt h _ _ d) (funext fun e => ?_))
  refine (third_at x3 x4 _ r e).trans ?_
  rw [second_at x1 x2 x4 _ r e, first_at x0 x4 x5 r e]
  rfl

/-- The second call's block is the same function of its operands. -/
theorem block_same : out1_8 (F := Ideal) x0 x1 x2 x3 x4 x5 x6 x7 = out0_8 (F := Ideal) x0 x1 x2 x3 x4 x5 x6 x7 := rfl

end Block

end Cert.Proof.Mix

end
-- ==== Proof.MixRun.lean ====
/-
  The call that combines the experts' rows, run twice: the first leaves the first half of the rows combined and the rest as they
  were, the second combines the rest, and the two results are the reference's.
-/
module

public import proofs.«01_k».proof.Proof.MixTile

@[expose] public section

set_option maxRecDepth 16384

noncomputable section

namespace Cert.Proof.Mix

open Cert.Kernel5Ideal Cert.Kernel5Ideal.Gen
open Idealize.ShloMosaic Idealize.ShloMosaic.TcCoe Idealize.ShloMosaic.Tactic Idealize.ShloMosaic.StableHlo
open Idealize.ShloMosaic.ValueIdx
open Idealize.ShloMosaic.Pipeline (Dat)

/-- Two indices with equal coordinates are equal. -/
theorem idx2_ext {n0 n1 : Nat} (y z : (⟨2, ![n0, n1]⟩ : Shape).Idx) (h0 : (y 0).val = (z 0).val) (h1 : (y 1).val = (z 1).val) :
    y = z := funext fun a => by
  match a with
  | ⟨0, _⟩ => exact Fin.ext h0
  | ⟨1, _⟩ => exact Fin.ext h1

/-- Two indices with equal coordinates are equal. -/
theorem idx3_ext {n0 n1 n2 : Nat} (y z : (⟨3, ![n0, n1, n2]⟩ : Shape).Idx) (h0 : (y 0).val = (z 0).val) (h1 : (y 1).val = (z 1).val)
    (h2 : (y 2).val = (z 2).val) : y = z := funext fun a => by
  match a with
  | ⟨0, _⟩ => exact Fin.ext h0
  | ⟨1, _⟩ => exact Fin.ext h1
  | ⟨2, _⟩ => exact Fin.ext h2

/-! ## The combined rows -/

/-- Word `k` of gathered row `R`. -/
def wordsAt (Y : (⟨S4x67584x128, .i32⟩ : BufTy).Contents (Elt Ideal)) (R : Fin 67584) (k : Fin 512) : BitVec 32 :=
  (Y : S4x67584x128.Idx → BitVec 32) (ix3 (n0 := 4) (n1 := 67584) (n2 := 128) ⟨k.val / 128, by omega⟩ R ⟨k.val % 128, Nat.mod_lt _ (by decide)⟩)

/-- The gathered row of a row's `k`-th expert: the experts' runs of 16896 rows follow one another. -/
def slotRow (n : Nat) (k : Fin 4) : Fin 67584 := ⟨k.val * 16896 + n % 16896, by omega⟩

/-- A row's mix of its scaled activations and its experts' rows. -/
def mixRow (Y : (⟨S4x67584x128, .i32⟩ : BufTy).Contents (Elt Ideal)) (G : (⟨S33792x128, .f32⟩ : BufTy).Contents (Elt Ideal))
    (X : (⟨S33792x1024, .f32⟩ : BufTy).Contents (Elt Ideal)) (n : Fin 33792) (d : Fin 1024) : EReal :=
  mixAt ((X : S33792x1024.Idx → EReal) (ix2 (n0 := 33792) (n1 := 1024) n d))
    (fun k => (G : S33792x128.Idx → EReal) (ix2 (n0 := 33792) (n1 := 128) n ⟨k.val, by omega⟩)) (fun k => halfAt (wordsAt Y (slotRow n.val k)) d)

/-- The combined rows: every row's mix, normalized. -/
def combined (Y : (⟨S4x67584x128, .i32⟩ : BufTy).Contents (Elt Ideal)) (G : (⟨S33792x128, .f32⟩ : BufTy).Contents (Elt Ideal))
    (X : (⟨S33792x1024, .f32⟩ : BufTy).Contents (Elt Ideal)) (g b : (⟨S1x1024, .f32⟩ : BufTy).Contents (Elt Ideal)) :
    (⟨S33792x1024, .f32⟩ : BufTy).Contents (Elt Ideal) := fun (i : S33792x1024.Idx) =>
  normAt (mixRow Y G X ⟨(i 0).val, (i 0).isLt⟩) ((g : S1x1024.Idx → EReal) (ix2 (n0 := 1) (n1 := 1024) 0 ⟨(i 1).val, (i 1).isLt⟩))
    ((b : S1x1024.Idx → EReal) (ix2 (n0 := 1) (n1 := 1024) 0 ⟨(i 1).val, (i 1).isLt⟩)) ⟨(i 1).val, (i 1).isLt⟩

/-! ## The first call -/

section Call0

/-- A grid point's coordinate is its number. -/
theorem point0 (t : Fin cfg0.N) : (grid0.coords t 0).val = t.val := by
  have h : t.val < 33 := t.isLt
  show t.val / 1 % 33 = t.val
  omega

/-- A block number counted from a start. -/
theorem start0 (a : Nat) (ha : a < 1000) (t : Fin cfg0.N) : (Scalar.addi (BitVec.ofNat 32 a) (BitVec.ofNat 32 (grid0.coords t 0).val)).toNat = a + t.val := by
  have h : t.val < 33 := t.isLt
  rw [point0 t]
  show (BitVec.ofNat 32 a + BitVec.ofNat 32 t.val).toNat = a + t.val
  rw [BitVec.toNat_add, BitVec.toNat_ofNat, BitVec.toNat_ofNat]
  omega

/-- Where an element of the gathered rows' block 0 lies. -/
theorem rows0_0 (t : Fin cfg0.N) (y : S4x512x128.Idx) :
    ((cfg0.win 0).blk t).view.emb y = ix3 (n0 := 4) (n1 := 67584) (n2 := 128) ⟨(y 0).val, (y 0).isLt⟩
      ⟨0 * 512 + (t.val * 512 + (y 1).val), by have h : t.val < 33 := t.isLt; have h0 : (y 1).val < 512 := (y 1).isLt; omega⟩ ⟨(y 2).val, (y 2).isLt⟩ := by
  have hm : cc0_transform_0 (grid0.coords t) 1 = 0 + t.val := start0 0 (by decide) t
  refine idx3_ext (n0 := 4) (n1 := 67584) (n2 := 128) _ _ ?_ ?_ ?_
  · show cc0_transform_0 (grid0.coords t) 0 * 4 + 1 * (y 0).val = (y 0).val
    rw [show cc0_transform_0 (grid0.coords t) 0 = 0 from rfl]; omega
  · show cc0_transform_0 (grid0.coords t) 1 * 512 + 1 * (y 1).val = 0 * 512 + (t.val * 512 + (y 1).val)
    rw [hm]; omega
  · show cc0_transform_0 (grid0.coords t) 2 * 128 + 1 * (y 2).val = (y 2).val
    rw [show cc0_transform_0 (grid0.coords t) 2 = 0 from rfl]; omega

/-- Where an element of the gathered rows' block 1 lies. -/
theorem rows0_1 (t : Fin cfg0.N) (y : S4x512x128.Idx) :
    ((cfg0.win 1).blk t).view.emb y = ix3 (n0 := 4) (n1 := 67584) (n2 := 128) ⟨(y 0).val, (y 0).isLt⟩
      ⟨33 * 512 + (t.val * 512 + (y 1).val), by have h : t.val < 33 := t.isLt; have h0 : (y 1).val < 512 := (y 1).isLt; omega⟩ ⟨(y 2).val, (y 2).isLt⟩ := by
  have hm : cc0_transform_1 (grid0.coords t) 1 = 33 + t.val := start0 33 (by decide) t
  refine idx3_ext (n0 := 4) (n1 := 67584) (n2 := 128) _ _ ?_ ?_ ?_
  · show cc0_transform_1 (grid0.coords t) 0 * 4 + 1 * (y 0).val = (y 0).val
    rw [show cc0_transform_1 (grid0.coords t) 0 = 0 from rfl]; omega
  · show cc0_transform_1 (grid0.coords t) 1 * 512 + 1 * (y 1).val = 33 * 512 + (t.val * 512 + (y 1).val)
    rw [hm]; omega
  · show cc0_transform_1 (grid0.coords t) 2 * 128 + 1 * (y 2).val = (y 2).val
    rw [show cc0_transform_1 (grid0.coords t) 2 = 0 from rfl]; omega

/-- Where an element of the gathered rows' block 2 lies. -/
theorem rows0_2 (t : Fin cfg0.N) (y : S4x512x128.Idx) :
    ((cfg0.win 2).blk t).view.emb y = ix3 (n0 := 4) (n1 := 67584) (n2 := 128) ⟨(y 0).val, (y 0).isLt⟩
      ⟨66 * 512 + (t.val * 512 + (y 1).val), by have h : t.val < 33 := t.isLt; have h0 : (y 1).val < 512 := (y 1).isLt; omega⟩ ⟨(y 2).val, (y 2).isLt⟩ := by
  have hm : cc0_transform_2 (grid0.coords t) 1 = 66 + t.val := start0 66 (by decide) t
  refine idx3_ext (n0 := 4) (n1 := 67584) (n2 := 128) _ _ ?_ ?_ ?_
  · show cc0_transform_2 (grid0.coords t) 0 * 4 + 1 * (y 0).val = (y 0).val
    rw [show cc0_transform_2 (grid0.coords t) 0 = 0 from rfl]; omega
  · show cc0_transform_2 (grid0.coords t) 1 * 512 + 1 * (y 1).val = 66 * 512 + (t.val * 512 + (y 1).val)
    rw [hm]; omega
  · show cc0_transform_2 (grid0.coords t) 2 * 128 + 1 * (y 2).val = (y 2).val
    rw [show cc0_transform_2 (grid0.coords t) 2 = 0 from rfl]; omega

/-- Where an element of the gathered rows' block 3 lies. -/
theorem rows0_3 (t : Fin cfg0.N) (y : S4x512x128.Idx) :
    ((cfg0.win 3).blk t).view.emb y = ix3 (n0 := 4) (n1 := 67584) (n2 := 128) ⟨(y 0).val, (y 0).isLt⟩
      ⟨99 * 512 + (t.val * 512 + (y 1).val), by have h : t.val < 33 := t.isLt; have h0 : (y 1).val < 512 := (y 1).isLt; omega⟩ ⟨(y 2).val, (y 2).isLt⟩ := by
  have hm : cc0_transform_3 (grid0.coords t) 1 = 99 + t.val := start0 99 (by decide) t
  refine idx3_ext (n0 := 4) (n1 := 67584) (n2 := 128) _ _ ?_ ?_ ?_
  · show cc0_transform_3 (grid0.coords t) 0 * 4 + 1 * (y 0).val = (y 0).val
    rw [show cc0_transform_3 (grid0.coords t) 0 = 0 from rfl]; omega
  · show cc0_transform_3 (grid0.coords t) 1 * 512 + 1 * (y 1).val = 99 * 512 + (t.val * 512 + (y 1).val)
    rw [hm]; omega
  · show cc0_transform_3 (grid0.coords t) 2 * 128 + 1 * (y 2).val = (y 2).val
    rw [show cc0_transform_3 (grid0.coords t) 2 = 0 from rfl]; omega

/-- Where an element of the gates' block lies. -/
theorem rows0_4 (t : Fin cfg0.N) (y : S512x128.Idx) :
    ((cfg0.win 4).blk t).view.emb y = ix2 (n0 := 33792) (n1 := 128)
      ⟨0 * 512 + (t.val * 512 + (y 0).val), by have h : t.val < 33 := t.isLt; have h0 : (y 0).val < 512 := (y 0).isLt; omega⟩ ⟨(y 1).val, (y 1).isLt⟩ := by
  have hm : cc0_transform_4 (grid0.coords t) 0 = 0 + t.val := start0 0 (by decide) t
  refine idx2_ext (n0 := 33792) (n1 := 128) _ _ ?_ ?_
  · show cc0_transform_4 (grid0.coords t) 0 * 512 + 1 * (y 0).val = 0 * 512 + (t.val * 512 + (y 0).val)
    rw [hm]; omega
  · show cc0_transform_4 (grid0.coords t) 1 * 128 + 1 * (y 1).val = (y 1).val
    rw [show cc0_transform_4 (grid0.coords t) 1 = 0 from rfl]; omega

/-- Where an element of the activations' block lies. -/
theorem rows0_5 (t : Fin cfg0.N) (y : S512x1024.Idx) :
    ((cfg0.win 5).blk t).view.emb y = ix2 (n0 := 33792) (n1 := 1024)
      ⟨0 * 512 + (t.val * 512 + (y 0).val), by have h : t.val < 33 := t.isLt; have h0 : (y 0).val < 512 := (y 0).isLt; omega⟩ ⟨(y 1).val, (y 1).isLt⟩ := by
  have hm : cc0_transform_5 (grid0.coords t) 0 = 0 + t.val := start0 0 (by decide) t
  refine idx2_ext (n0 := 33792) (n1 := 1024) _ _ ?_ ?_
  · show cc0_transform_5 (grid0.coords t) 0 * 512 + 1 * (y 0).val = 0 * 512 + (t.val * 512 + (y 0).val)
    rw [hm]; omega
  · show cc0_transform_5 (grid0.coords t) 1 * 1024 + 1 * (y 1).val = (y 1).val
    rw [show cc0_transform_5 (grid0.coords t) 1 = 0 from rfl]; omega

/-- Where an element of the result's block lies. -/
theorem rows0_8 (t : Fin cfg0.N) (y : S512x1024.Idx) :
    ((cfg0.win 8).blk t).view.emb y = ix2 (n0 := 33792) (n1 := 1024)
      ⟨0 * 512 + (t.val * 512 + (y 0).val), by have h : t.val < 33 := t.isLt; have h0 : (y 0).val < 512 := (y 0).isLt; omega⟩ ⟨(y 1).val, (y 1).isLt⟩ := by
  have hm : cc0_transform_8 (grid0.coords t) 0 = 0 + t.val := start0 0 (by decide) t
  refine idx2_ext (n0 := 33792) (n1 := 1024) _ _ ?_ ?_
  · show cc0_transform_8 (grid0.coords t) 0 * 512 + 1 * (y 0).val = 0 * 512 + (t.val * 512 + (y 0).val)
    rw [hm]; omega
  · show cc0_transform_8 (grid0.coords t) 1 * 1024 + 1 * (y 1).val = (y 1).val
    rw [show cc0_transform_8 (grid0.coords t) 1 = 0 from rfl]; omega

/-- The scale's block is the whole array. -/
theorem rows0_6 (t : Fin cfg0.N) (y : S1x1024.Idx) : ((cfg0.win 6).blk t).view.emb y = y := by
  refine idx2_ext (n0 := 1) (n1 := 1024) _ _ ?_ ?_
  · show cc0_transform_6 (grid0.coords t) 0 * 1 + 1 * (y 0).val = (y 0).val
    rw [show cc0_transform_6 (grid0.coords t) 0 = 0 from rfl]; omega
  · show cc0_transform_6 (grid0.coords t) 1 * 1024 + 1 * (y 1).val = (y 1).val
    rw [show cc0_transform_6 (grid0.coords t) 1 = 0 from rfl]; omega

/-- The shift's block is the whole array. -/
theorem rows0_7 (t : Fin cfg0.N) (y : S1x1024.Idx) : ((cfg0.win 7).blk t).view.emb y = y := by
  refine idx2_ext (n0 := 1) (n1 := 1024) _ _ ?_ ?_
  · show cc0_transform_7 (grid0.coords t) 0 * 1 + 1 * (y 0).val = (y 0).val
    rw [show cc0_transform_7 (grid0.coords t) 0 = 0 from rfl]; omega
  · show cc0_transform_7 (grid0.coords t) 1 * 1024 + 1 * (y 1).val = (y 1).val
    rw [show cc0_transform_7 (grid0.coords t) 1 = 0 from rfl]; omega

variable (V : (c : Dev nD) → (b : Ref sig .tc) → Buf (Elt Ideal) ((c : Thread nD τ).loc b)) (c : Dev nD)

/-- The call's combined rows. -/
abbrev whole0 : (⟨S33792x1024, .f32⟩ : BufTy).Contents (Elt Ideal) := combined (V c main_arg0) (V c main_arg2) (V c main_arg3) (V c main_v0) (V c main_v1)

/-- A word of a gathered block, in its array. -/
theorem words0 (t : Fin cfg0.N) (r : Fin 512) (n : Nat) (hn : n = 0 * 512 + (t.val * 512 + r.val)) (j : Fin 4) :
    wordsOf (pick (iblk0 V c 0 t) (iblk0 V c 1 t) (iblk0 V c 2 t) (iblk0 V c 3 t) j) r = wordsAt (V c main_arg0) (slotRow n j) := by
  have h : t.val < 33 := t.isLt
  have hr := r.isLt
  funext k
  unfold wordsOf wordsAt slotRow
  match j with
  | ⟨0, _⟩ =>
    refine congrArg (V c main_arg0 : S4x67584x128.Idx → BitVec 32) ((rows0_0 t _).trans (idx3_ext (n0 := 4) (n1 := 67584) (n2 := 128) _ _ rfl ?_ rfl))
    show 0 * 512 + (t.val * 512 + r.val) = 0 * 16896 + n % 16896
    omega
  | ⟨1, _⟩ =>
    refine congrArg (V c main_arg0 : S4x67584x128.Idx → BitVec 32) ((rows0_1 t _).trans (idx3_ext (n0 := 4) (n1 := 67584) (n2 := 128) _ _ rfl ?_ rfl))
    show 33 * 512 + (t.val * 512 + r.val) = 1 * 16896 + n % 16896
    omega
  | ⟨2, _⟩ =>
    refine congrArg (V c main_arg0 : S4x67584x128.Idx → BitVec 32) ((rows0_2 t _).trans (idx3_ext (n0 := 4) (n1 := 67584) (n2 := 128) _ _ rfl ?_ rfl))
    show 66 * 512 + (t.val * 512 + r.val) = 2 * 16896 + n % 16896
    omega
  | ⟨3, _⟩ =>
    refine congrArg (V c main_arg0 : S4x67584x128.Idx → BitVec 32) ((rows0_3 t _).trans (idx3_ext (n0 := 4) (n1 := 67584) (n2 := 128) _ _ rfl ?_ rfl))
    show 99 * 512 + (t.val * 512 + r.val) = 3 * 16896 + n % 16896
    omega

/-- A point writes back its block of the combined rows. -/
theorem flushed0 (t : Fin cfg0.N) : (dat0 V c).flushed 8 t = ((cfg0.win 8).blk t).view.read (Elt Ideal) (whole0 V c) := by
  refine funext fun (y : S512x1024.Idx) => ?_
  refine Eq.trans ?_ (congrArg (whole0 V c) (rows0_8 t y)).symm
  show (dat0 V c).after 8 t (((cfg0.win 8).xinj _ y)) = _
  rw [after0_8]
  have hy : ((cfg0.win 8).xinj (cfg0.grid.coords t) y : S512x1024.Idx) = ix2 (n0 := 512) (n1 := 1024) ⟨(y 0).val, (y 0).isLt⟩ ⟨(y 1).val, (y 1).isLt⟩ :=
    idx2_ext (n0 := 512) (n1 := 1024) _ _ rfl rfl
  refine (congrArg (out0_8 (iblk0 V c 0 t) (iblk0 V c 1 t) (iblk0 V c 2 t) (iblk0 V c 3 t) (iblk0 V c 4 t) (iblk0 V c 5 t) (iblk0 V c 6 t) (iblk0 V c 7 t)
    : S512x1024.Idx → EReal) hy).trans ?_
  skip
  refine (block_at _ _ _ _ _ _ _ _ _ _).trans ?_
  unfold whole0 combined
  refine congr (congr (congr (congrArg normAt ?_) ?_) ?_) rfl
  · funext d
    unfold mixRow
    refine congr (congr (congrArg mixAt ?_) ?_) ?_
    · exact congrArg (V c main_arg3 : S33792x1024.Idx → EReal) (rows0_5 t _)
    · exact funext fun k => congrArg (V c main_arg2 : S33792x128.Idx → EReal) (rows0_4 t _)
    · exact funext fun k => congrArg (fun W => halfAt W d) (words0 V c t ⟨(y 0).val, (y 0).isLt⟩ _ rfl k)
  · exact congrArg (V c main_v0 : S1x1024.Idx → EReal) (rows0_6 t _)
  · exact congrArg (V c main_v1 : S1x1024.Idx → EReal) (rows0_7 t _)

/-- The array the call leaves: the rows of its half combined, the other rows as they were. -/
theorem left0 (i : S33792x1024.Idx) : ((dat0 V c).arrAt 8 cfg0.N : S33792x1024.Idx → EReal) i
    = if (i 0).val < 16896 then (whole0 V c : S33792x1024.Idx → EReal) i else (V c main_v2 : S33792x1024.Idx → EReal) i := by
  have h0 : (i 0).val < 33792 := (i 0).isLt
  split
  · rename_i hi
    have hN : (i 0).val / 512 - 0 < cfg0.N := show (i 0).val / 512 - 0 < 33 by omega
    have he : ((cfg0.win 8).blk ⟨(i 0).val / 512 - 0, hN⟩).view.emb (ix2 (n0 := 512) (n1 := 1024) ⟨(i 0).val % 512, Nat.mod_lt _ (by decide)⟩ ⟨(i 1).val, (i 1).isLt⟩) = i := by
      rw [rows0_8]
      refine idx2_ext (n0 := 33792) (n1 := 1024) _ _ ?_ rfl
      show 0 * 512 + (((i 0).val / 512 - 0) * 512 + (i 0).val % 512) = (i 0).val
      omega
    exact (dat0 V c).arrAt_apply_of_mem 8 (whole0 V c) (fun t _ => flushed0 V c t) cfg0.N ⟨(i 0).val / 512 - 0, hN⟩ i hN (flush0_8 _) (by
      have := ((cfg0.win 8).blk ⟨(i 0).val / 512 - 0, hN⟩).view.emb_mem_set (ix2 (n0 := 512) (n1 := 1024) ⟨(i 0).val % 512, Nat.mod_lt _ (by decide)⟩ ⟨(i 1).val, (i 1).isLt⟩)
      rwa [he] at this)
  · rename_i hi
    refine (dat0 V c).arrAt_apply_of_forall_not_mem 8 cfg0.N i (fun t _ _ hm => hi ?_)
    obtain ⟨y, -, hy⟩ := Finset.mem_map.mp hm
    have ht : t.val < 33 := t.isLt
    have hy0 : ((y : S512x1024.Idx) 0).val < 512 := ((y : S512x1024.Idx) 0).isLt
    have e : (i 0).val = 0 * 512 + (t.val * 512 + ((y : S512x1024.Idx) 0).val) :=
      (congrArg (fun q : S33792x1024.Idx => (q 0).val) (hy.symm.trans (rows0_8 t y)))
    omega

end Call0

/-! ## The second call -/

section Call1

/-- A grid point's coordinate is its number. -/
theorem point1 (t : Fin cfg1.N) : (grid1.coords t 0).val = t.val := by
  have h : t.val < 33 := t.isLt
  show t.val / 1 % 33 = t.val
  omega

/-- A block number counted from a start. -/
theorem start1 (a : Nat) (ha : a < 1000) (t : Fin cfg1.N) : (Scalar.addi (BitVec.ofNat 32 a) (BitVec.ofNat 32 (grid1.coords t 0).val)).toNat = a + t.val := by
  have h : t.val < 33 := t.isLt
  rw [point1 t]
  show (BitVec.ofNat 32 a + BitVec.ofNat 32 t.val).toNat = a + t.val
  rw [BitVec.toNat_add, BitVec.toNat_ofNat, BitVec.toNat_ofNat]
  omega

/-- Where an element of the gathered rows' block 0 lies. -/
theorem rows1_0 (t : Fin cfg1.N) (y : S4x512x128.Idx) :
    ((cfg1.win 0).blk t).view.emb y = ix3 (n0 := 4) (n1 := 67584) (n2 := 128) ⟨(y 0).val, (y 0).isLt⟩
      ⟨0 * 512 + (t.val * 512 + (y 1).val), by have h : t.val < 33 := t.isLt; have h0 : (y 1).val < 512 := (y 1).isLt; omega⟩ ⟨(y 2).val, (y 2).isLt⟩ := by
  have hm : cc1_transform_0 (grid1.coords t) 1 = 0 + t.val := start1 0 (by decide) t
  refine idx3_ext (n0 := 4) (n1 := 67584) (n2 := 128) _ _ ?_ ?_ ?_
  · show cc1_transform_0 (grid1.coords t) 0 * 4 + 1 * (y 0).val = (y 0).val
    rw [show cc1_transform_0 (grid1.coords t) 0 = 0 from rfl]; omega
  · show cc1_transform_0 (grid1.coords t) 1 * 512 + 1 * (y 1).val = 0 * 512 + (t.val * 512 + (y 1).val)
    rw [hm]; omega
  · show cc1_transform_0 (grid1.coords t) 2 * 128 + 1 * (y 2).val = (y 2).val
    rw [show cc1_transform_0 (grid1.coords t) 2 = 0 from rfl]; omega

/-- Where an element of the gathered rows' block 1 lies. -/
theorem rows1_1 (t : Fin cfg1.N) (y : S4x512x128.Idx) :
    ((cfg1.win 1).blk t).view.emb y = ix3 (n0 := 4) (n1 := 67584) (n2 := 128) ⟨(y 0).val, (y 0).isLt⟩
      ⟨33 * 512 + (t.val * 512 + (y 1).val), by have h : t.val < 33 := t.isLt; have h0 : (y 1).val < 512 := (y 1).isLt; omega⟩ ⟨(y 2).val, (y 2).isLt⟩ := by
  have hm : cc1_transform_1 (grid1.coords t) 1 = 33 + t.val := start1 33 (by decide) t
  refine idx3_ext (n0 := 4) (n1 := 67584) (n2 := 128) _ _ ?_ ?_ ?_
  · show cc1_transform_1 (grid1.coords t) 0 * 4 + 1 * (y 0).val = (y 0).val
    rw [show cc1_transform_1 (grid1.coords t) 0 = 0 from rfl]; omega
  · show cc1_transform_1 (grid1.coords t) 1 * 512 + 1 * (y 1).val = 33 * 512 + (t.val * 512 + (y 1).val)
    rw [hm]; omega
  · show cc1_transform_1 (grid1.coords t) 2 * 128 + 1 * (y 2).val = (y 2).val
    rw [show cc1_transform_1 (grid1.coords t) 2 = 0 from rfl]; omega

/-- Where an element of the gathered rows' block 2 lies. -/
theorem rows1_2 (t : Fin cfg1.N) (y : S4x512x128.Idx) :
    ((cfg1.win 2).blk t).view.emb y = ix3 (n0 := 4) (n1 := 67584) (n2 := 128) ⟨(y 0).val, (y 0).isLt⟩
      ⟨66 * 512 + (t.val * 512 + (y 1).val), by have h : t.val < 33 := t.isLt; have h0 : (y 1).val < 512 := (y 1).isLt; omega⟩ ⟨(y 2).val, (y 2).isLt⟩ := by
  have hm : cc1_transform_2 (grid1.coords t) 1 = 66 + t.val := start1 66 (by decide) t
  refine idx3_ext (n0 := 4) (n1 := 67584) (n2 := 128) _ _ ?_ ?_ ?_
  · show cc1_transform_2 (grid1.coords t) 0 * 4 + 1 * (y 0).val = (y 0).val
    rw [show cc1_transform_2 (grid1.coords t) 0 = 0 from rfl]; omega
  · show cc1_transform_2 (grid1.coords t) 1 * 512 + 1 * (y 1).val = 66 * 512 + (t.val * 512 + (y 1).val)
    rw [hm]; omega
  · show cc1_transform_2 (grid1.coords t) 2 * 128 + 1 * (y 2).val = (y 2).val
    rw [show cc1_transform_2 (grid1.coords t) 2 = 0 from rfl]; omega

/-- Where an element of the gathered rows' block 3 lies. -/
theorem rows1_3 (t : Fin cfg1.N) (y : S4x512x128.Idx) :
    ((cfg1.win 3).blk t).view.emb y = ix3 (n0 := 4) (n1 := 67584) (n2 := 128) ⟨(y 0).val, (y 0).isLt⟩
      ⟨99 * 512 + (t.val * 512 + (y 1).val), by have h : t.val < 33 := t.isLt; have h0 : (y 1).val < 512 := (y 1).isLt; omega⟩ ⟨(y 2).val, (y 2).isLt⟩ := by
  have hm : cc1_transform_3 (grid1.coords t) 1 = 99 + t.val := start1 99 (by decide) t
  refine idx3_ext (n0 := 4) (n1 := 67584) (n2 := 128) _ _ ?_ ?_ ?_
  · show cc1_transform_3 (grid1.coords t) 0 * 4 + 1 * (y 0).val = (y 0).val
    rw [show cc1_transform_3 (grid1.coords t) 0 = 0 from rfl]; omega
  · show cc1_transform_3 (grid1.coords t) 1 * 512 + 1 * (y 1).val = 99 * 512 + (t.val * 512 + (y 1).val)
    rw [hm]; omega
  · show cc1_transform_3 (grid1.coords t) 2 * 128 + 1 * (y 2).val = (y 2).val
    rw [show cc1_transform_3 (grid1.coords t) 2 = 0 from rfl]; omega

/-- Where an element of the gates' block lies. -/
theorem rows1_4 (t : Fin cfg1.N) (y : S512x128.Idx) :
    ((cfg1.win 4).blk t).view.emb y = ix2 (n0 := 33792) (n1 := 128)
      ⟨33 * 512 + (t.val * 512 + (y 0).val), by have h : t.val < 33 := t.isLt; have h0 : (y 0).val < 512 := (y 0).isLt; omega⟩ ⟨(y 1).val, (y 1).isLt⟩ := by
  have hm : cc1_transform_4 (grid1.coords t) 0 = 33 + t.val := start1 33 (by decide) t
  refine idx2_ext (n0 := 33792) (n1 := 128) _ _ ?_ ?_
  · show cc1_transform_4 (grid1.coords t) 0 * 512 + 1 * (y 0).val = 33 * 512 + (t.val * 512 + (y 0).val)
    rw [hm]; omega
  · show cc1_transform_4 (grid1.coords t) 1 * 128 + 1 * (y 1).val = (y 1).val
    rw [show cc1_transform_4 (grid1.coords t) 1 = 0 from rfl]; omega

/-- Where an element of the activations' block lies. -/
theorem rows1_5 (t : Fin cfg1.N) (y : S512x1024.Idx) :
    ((cfg1.win 5).blk t).view.emb y = ix2 (n0 := 33792) (n1 := 1024)
      ⟨33 * 512 + (t.val * 512 + (y 0).val), by have h : t.val < 33 := t.isLt; have h0 : (y 0).val < 512 := (y 0).isLt; omega⟩ ⟨(y 1).val, (y 1).isLt⟩ := by
  have hm : cc1_transform_5 (grid1.coords t) 0 = 33 + t.val := start1 33 (by decide) t
  refine idx2_ext (n0 := 33792) (n1 := 1024) _ _ ?_ ?_
  · show cc1_transform_5 (grid1.coords t) 0 * 512 + 1 * (y 0).val = 33 * 512 + (t.val * 512 + (y 0).val)
    rw [hm]; omega
  · show cc1_transform_5 (grid1.coords t) 1 * 1024 + 1 * (y 1).val = (y 1).val
    rw [show cc1_transform_5 (grid1.coords t) 1 = 0 from rfl]; omega

/-- Where an element of the result's block lies. -/
theorem rows1_8 (t : Fin cfg1.N) (y : S512x1024.Idx) :
    ((cfg1.win 8).blk t).view.emb y = ix2 (n0 := 33792) (n1 := 1024)
      ⟨33 * 512 + (t.val * 512 + (y 0).val), by have h : t.val < 33 := t.isLt; have h0 : (y 0).val < 512 := (y 0).isLt; omega⟩ ⟨(y 1).val, (y 1).isLt⟩ := by
  have hm : cc1_transform_8 (grid1.coords t) 0 = 33 + t.val := start1 33 (by decide) t
  refine idx2_ext (n0 := 33792) (n1 := 1024) _ _ ?_ ?_
  · show cc1_transform_8 (grid1.coords t) 0 * 512 + 1 * (y 0).val = 33 * 512 + (t.val * 512 + (y 0).val)
    rw [hm]; omega
  · show cc1_transform_8 (grid1.coords t) 1 * 1024 + 1 * (y 1).val = (y 1).val
    rw [show cc1_transform_8 (grid1.coords t) 1 = 0 from rfl]; omega

/-- The scale's block is the whole array. -/
theorem rows1_6 (t : Fin cfg1.N) (y : S1x1024.Idx) : ((cfg1.win 6).blk t).view.emb y = y := by
  refine idx2_ext (n0 := 1) (n1 := 1024) _ _ ?_ ?_
  · show cc1_transform_6 (grid1.coords t) 0 * 1 + 1 * (y 0).val = (y 0).val
    rw [show cc1_transform_6 (grid1.coords t) 0 = 0 from rfl]; omega
  · show cc1_transform_6 (grid1.coords t) 1 * 1024 + 1 * (y 1).val = (y 1).val
    rw [show cc1_transform_6 (grid1.coords t) 1 = 0 from rfl]; omega

/-- The shift's block is the whole array. -/
theorem rows1_7 (t : Fin cfg1.N) (y : S1x1024.Idx) : ((cfg1.win 7).blk t).view.emb y = y := by
  refine idx2_ext (n0 := 1) (n1 := 1024) _ _ ?_ ?_
  · show cc1_transform_7 (grid1.coords t) 0 * 1 + 1 * (y 0).val = (y 0).val
    rw [show cc1_transform_7 (grid1.coords t) 0 = 0 from rfl]; omega
  · show cc1_transform_7 (grid1.coords t) 1 * 1024 + 1 * (y 1).val = (y 1).val
    rw [show cc1_transform_7 (grid1.coords t) 1 = 0 from rfl]; omega

variable (V : (c : Dev nD) → (b : Ref sig .tc) → Buf (Elt Ideal) ((c : Thread nD τ).loc b)) (c : Dev nD)

/-- The call's combined rows. -/
abbrev whole1 : (⟨S33792x1024, .f32⟩ : BufTy).Contents (Elt Ideal) := combined (V c main_arg1) (V c main_arg2) (V c main_v2) (V c main_v3) (V c main_v4)

/-- A word of a gathered block, in its array. -/
theorem words1 (t : Fin cfg1.N) (r : Fin 512) (n : Nat) (hn : n = 33 * 512 + (t.val * 512 + r.val)) (j : Fin 4) :
    wordsOf (pick (iblk1 V c 0 t) (iblk1 V c 1 t) (iblk1 V c 2 t) (iblk1 V c 3 t) j) r = wordsAt (V c main_arg1) (slotRow n j) := by
  have h : t.val < 33 := t.isLt
  have hr := r.isLt
  funext k
  unfold wordsOf wordsAt slotRow
  match j with
  | ⟨0, _⟩ =>
    refine congrArg (V c main_arg1 : S4x67584x128.Idx → BitVec 32) ((rows1_0 t _).trans (idx3_ext (n0 := 4) (n1 := 67584) (n2 := 128) _ _ rfl ?_ rfl))
    show 0 * 512 + (t.val * 512 + r.val) = 0 * 16896 + n % 16896
    omega
  | ⟨1, _⟩ =>
    refine congrArg (V c main_arg1 : S4x67584x128.Idx → BitVec 32) ((rows1_1 t _).trans (idx3_ext (n0 := 4) (n1 := 67584) (n2 := 128) _ _ rfl ?_ rfl))
    show 33 * 512 + (t.val * 512 + r.val) = 1 * 16896 + n % 16896
    omega
  | ⟨2, _⟩ =>
    refine congrArg (V c main_arg1 : S4x67584x128.Idx → BitVec 32) ((rows1_2 t _).trans (idx3_ext (n0 := 4) (n1 := 67584) (n2 := 128) _ _ rfl ?_ rfl))
    show 66 * 512 + (t.val * 512 + r.val) = 2 * 16896 + n % 16896
    omega
  | ⟨3, _⟩ =>
    refine congrArg (V c main_arg1 : S4x67584x128.Idx → BitVec 32) ((rows1_3 t _).trans (idx3_ext (n0 := 4) (n1 := 67584) (n2 := 128) _ _ rfl ?_ rfl))
    show 99 * 512 + (t.val * 512 + r.val) = 3 * 16896 + n % 16896
    omega

/-- A point writes back its block of the combined rows. -/
theorem flushed1 (t : Fin cfg1.N) : (dat1 V c).flushed 8 t = ((cfg1.win 8).blk t).view.read (Elt Ideal) (whole1 V c) := by
  refine funext fun (y : S512x1024.Idx) => ?_
  refine Eq.trans ?_ (congrArg (whole1 V c) (rows1_8 t y)).symm
  show (dat1 V c).after 8 t (((cfg1.win 8).xinj _ y)) = _
  rw [after1_8]
  have hy : ((cfg1.win 8).xinj (cfg1.grid.coords t) y : S512x1024.Idx) = ix2 (n0 := 512) (n1 := 1024) ⟨(y 0).val, (y 0).isLt⟩ ⟨(y 1).val, (y 1).isLt⟩ :=
    idx2_ext (n0 := 512) (n1 := 1024) _ _ rfl rfl
  refine (congrArg (out1_8 (iblk1 V c 0 t) (iblk1 V c 1 t) (iblk1 V c 2 t) (iblk1 V c 3 t) (iblk1 V c 4 t) (iblk1 V c 5 t) (iblk1 V c 6 t) (iblk1 V c 7 t)
    : S512x1024.Idx → EReal) hy).trans ?_
  rw [block_same]
  refine (block_at _ _ _ _ _ _ _ _ _ _).trans ?_
  unfold whole1 combined
  refine congr (congr (congr (congrArg normAt ?_) ?_) ?_) rfl
  · funext d
    unfold mixRow
    refine congr (congr (congrArg mixAt ?_) ?_) ?_
    · exact congrArg (V c main_v2 : S33792x1024.Idx → EReal) (rows1_5 t _)
    · exact funext fun k => congrArg (V c main_arg2 : S33792x128.Idx → EReal) (rows1_4 t _)
    · exact funext fun k => congrArg (fun W => halfAt W d) (words1 V c t ⟨(y 0).val, (y 0).isLt⟩ _ rfl k)
  · exact congrArg (V c main_v3 : S1x1024.Idx → EReal) (rows1_6 t _)
  · exact congrArg (V c main_v4 : S1x1024.Idx → EReal) (rows1_7 t _)

/-- The array the call leaves: the rows of its half combined, the other rows as they were. -/
theorem left1 (i : S33792x1024.Idx) : ((dat1 V c).arrAt 8 cfg1.N : S33792x1024.Idx → EReal) i
    = if 16896 ≤ (i 0).val then (whole1 V c : S33792x1024.Idx → EReal) i else (V c main_v5 : S33792x1024.Idx → EReal) i := by
  have h0 : (i 0).val < 33792 := (i 0).isLt
  split
  · rename_i hi
    have hN : (i 0).val / 512 - 33 < cfg1.N := show (i 0).val / 512 - 33 < 33 by omega
    have he : ((cfg1.win 8).blk ⟨(i 0).val / 512 - 33, hN⟩).view.emb (ix2 (n0 := 512) (n1 := 1024) ⟨(i 0).val % 512, Nat.mod_lt _ (by decide)⟩ ⟨(i 1).val, (i 1).isLt⟩) = i := by
      rw [rows1_8]
      refine idx2_ext (n0 := 33792) (n1 := 1024) _ _ ?_ rfl
      show 33 * 512 + (((i 0).val / 512 - 33) * 512 + (i 0).val % 512) = (i 0).val
      omega
    exact (dat1 V c).arrAt_apply_of_mem 8 (whole1 V c) (fun t _ => flushed1 V c t) cfg1.N ⟨(i 0).val / 512 - 33, hN⟩ i hN (flush1_8 _) (by
      have := ((cfg1.win 8).blk ⟨(i 0).val / 512 - 33, hN⟩).view.emb_mem_set (ix2 (n0 := 512) (n1 := 1024) ⟨(i 0).val % 512, Nat.mod_lt _ (by decide)⟩ ⟨(i 1).val, (i 1).isLt⟩)
      rwa [he] at this)
  · rename_i hi
    refine (dat1 V c).arrAt_apply_of_forall_not_mem 8 cfg1.N i (fun t _ _ hm => hi ?_)
    obtain ⟨y, -, hy⟩ := Finset.mem_map.mp hm
    have ht : t.val < 33 := t.isLt
    have hy0 : ((y : S512x1024.Idx) 0).val < 512 := ((y : S512x1024.Idx) 0).isLt
    have e : (i 0).val = 33 * 512 + (t.val * 512 + ((y : S512x1024.Idx) 0).val) :=
      (congrArg (fun q : S33792x1024.Idx => (q 0).val) (hy.symm.trans (rows1_8 t y)))
    omega

end Call1

/-! ## The run -/

section Run
variable (m : (ℓ : Loc nD τ sig) → Buf (Elt Ideal) ℓ) (ρ : Dev nD → PrngReg) (c : Dev nD)

/-- The gathered rows, the gates, the activations, the scale and the shift, as launched. -/
abbrev rowsA : (⟨S4x67584x128, .i32⟩ : BufTy).Contents (Elt Ideal) := m ((c : Thread nD τ).loc main_arg0)
abbrev rowsB : (⟨S4x67584x128, .i32⟩ : BufTy).Contents (Elt Ideal) := m ((c : Thread nD τ).loc main_arg1)
abbrev gates : (⟨S33792x128, .f32⟩ : BufTy).Contents (Elt Ideal) := m ((c : Thread nD τ).loc main_arg2)
abbrev acts : (⟨S33792x1024, .f32⟩ : BufTy).Contents (Elt Ideal) := m ((c : Thread nD τ).loc main_arg3)
abbrev scale : (⟨S1024, .f32⟩ : BufTy).Contents (Elt Ideal) := m ((c : Thread nD τ).loc main_arg4)
abbrev shift : (⟨S1024, .f32⟩ : BufTy).Contents (Elt Ideal) := m ((c : Thread nD τ).loc main_arg5)

/-- A vector as a row. -/
abbrev asRow (x : (⟨S1024, .f32⟩ : BufTy).Contents (Elt Ideal)) : (⟨S1x1024, .f32⟩ : BufTy).Contents (Elt Ideal) := shapeCast S1x1024 x shapeCasts_S1024_S1x1024

theorem asRow_at (x : (⟨S1024, .f32⟩ : BufTy).Contents (Elt Ideal)) (d : Fin 1024) :
    (asRow x : S1x1024.Idx → EReal) (ix2 (n0 := 1) (n1 := 1024) 0 d) = (x : S1024.Idx → EReal) (ix1 (n := 1024) d) :=
  shapeCast_apply x shapeCasts_S1024_S1x1024 _ _ (by
    rewrite [Shape.rowMajor_val_one, Shape.rowMajor_val_two]; show d.val = 0 * 1024 + d.val; omega)

/-- What the first call takes. -/
theorem in0_g : V1 m ρ c main_v0 = asRow (scale m c) := by
  unfold V1 W1 hostOps0
  after_results <;> rfl
theorem in0_b : V1 m ρ c main_v1 = asRow (shift m c) := by
  unfold V1 W1 hostOps0
  after_results <;> rfl
theorem in0_x : V1 m ρ c main_v2 = acts m c := by
  unfold V1 W1 hostOps0
  after_results <;> rfl

/-- What the second call takes. -/
theorem in1_g : V3 m ρ c main_v3 = asRow (scale m c) := by
  refine Eq.trans (b := asRow (V2 m ρ c main_arg4)) ?_ (congrArg asRow (W2_args m ρ c main_arg4 (by decide)))
  unfold V3 W3 hostOps1
  after_results <;> rfl
theorem in1_b : V3 m ρ c main_v4 = asRow (shift m c) := by
  refine Eq.trans (b := asRow (V2 m ρ c main_arg5)) ?_ (congrArg asRow (W2_args m ρ c main_arg5 (by decide)))
  unfold V3 W3 hostOps1
  after_results <;> rfl
theorem in1_o : V3 m ρ c main_v5 = V2 m ρ c main_v2 := by
  unfold V3 W3 hostOps1
  after_results <;> rfl
theorem in1_x : V3 m ρ c main_v2 = V2 m ρ c main_v2 := W3_of m ρ c main_v2 (by decide)

/-- The activations after the first call. -/
theorem mid (i : S33792x1024.Idx) : (V2 m ρ c main_v2 : S33792x1024.Idx → EReal) i
    = if (i 0).val < 16896 then (combined (rowsA m c) (gates m c) (acts m c) (asRow (scale m c)) (asRow (shift m c)) : S33792x1024.Idx → EReal) i
      else (acts m c : S33792x1024.Idx → EReal) i := by
  refine (congrFun (W2_arr m ρ c 8) i).trans ((left0 (V1 m ρ) c i).trans ?_)
  unfold whole0
  rw [in0_g m ρ c, in0_b m ρ c, in0_x m ρ c]
  rw [show V1 m ρ c main_arg0 = rowsA m c from W1_args m ρ c main_arg0 (by decide), show V1 m ρ c main_arg2 = gates m c from W1_args m ρ c main_arg2 (by decide),
    show V1 m ρ c main_arg3 = acts m c from W1_args m ρ c main_arg3 (by decide)]

/-- The combined rows depend on the activations only through the same row. -/
theorem combined_congr (Y : (⟨S4x67584x128, .i32⟩ : BufTy).Contents (Elt Ideal)) (G : (⟨S33792x128, .f32⟩ : BufTy).Contents (Elt Ideal))
    (X X' : (⟨S33792x1024, .f32⟩ : BufTy).Contents (Elt Ideal)) (g b : (⟨S1x1024, .f32⟩ : BufTy).Contents (Elt Ideal)) (i : S33792x1024.Idx)
    (h : ∀ d : Fin 1024, (X : S33792x1024.Idx → EReal) (ix2 (n0 := 33792) (n1 := 1024) ⟨(i 0).val, (i 0).isLt⟩ d)
      = (X' : S33792x1024.Idx → EReal) (ix2 (n0 := 33792) (n1 := 1024) ⟨(i 0).val, (i 0).isLt⟩ d)) :
    (combined Y G X g b : S33792x1024.Idx → EReal) i = (combined Y G X' g b : S33792x1024.Idx → EReal) i := by
  unfold combined
  refine congrArg (fun f => normAt f _ _ _) (funext fun d => ?_)
  unfold mixRow
  rw [h d]

/-- The rows after both calls. -/
abbrev ended : (⟨S33792x1024, .f32⟩ : BufTy).Contents (Elt Ideal) := fun (i : S33792x1024.Idx) =>
  if (i 0).val < 16896 then (combined (rowsA m c) (gates m c) (acts m c) (asRow (scale m c)) (asRow (shift m c)) : S33792x1024.Idx → EReal) i
  else (combined (rowsB m c) (gates m c) (acts m c) (asRow (scale m c)) (asRow (shift m c)) : S33792x1024.Idx → EReal) i

theorem last : W4 m ρ c (Proc.devRef .tc main_v5) = ended m c := by
  refine (W4_arr m ρ c 8).trans (funext fun (i : S33792x1024.Idx) => (left1 (V3 m ρ) c i).trans ?_)
  unfold ended
  split
  · rename_i hi
    rw [if_neg (by omega)]
    unfold whole1
    rw [in1_g m ρ c, in1_b m ρ c, in1_x m ρ c, show V3 m ρ c main_arg1 = rowsB m c from W3_args m ρ c main_arg1 (by decide),
      show V3 m ρ c main_arg2 = gates m c from W3_args m ρ c main_arg2 (by decide)]
    refine combined_congr _ _ _ _ _ _ i fun d => ?_
    refine (mid m ρ c _).trans (if_neg ?_)
    show ¬ (i 0).val < 16896
    omega
  · rename_i hi
    rw [if_pos (by omega), in1_o m ρ c]
    exact (mid m ρ c i).trans (if_pos (by omega))

/-- The first result: the prompts' rows. -/
theorem end_prompt : W5 m ρ c (Proc.devRef .tc main_v7)
    = shapeCast S4x8192x1024 (extractStridedSlice S32768x1024 ![0, 0] (ended m c) slices_S33792x1024_S32768x1024_0_0) shapeCasts_S32768x1024_S4x8192x1024 := by
  rw [← last m ρ c]
  unfold W5 hostOps2
  after_results <;> rfl
/-- The second result: the samples' rows. -/
theorem end_sample : W5 m ρ c (Proc.devRef .tc main_v9)
    = shapeCast S16x64x1024 (extractStridedSlice S1024x1024 ![32768, 0] (ended m c) slices_S33792x1024_S1024x1024_32768_0) shapeCasts_S1024x1024_S16x64x1024 := by
  rw [← last m ρ c]
  unfold W5 hostOps2
  after_results <;> rfl

end Run

end Cert.Proof.Mix

end
-- ==== Proof.MixSame.lean ====
/-
  The combined rows are the reference's: the reference's unpacked rows, its sum over the four experts, and its normalization,
  element by element.
-/
module

public import proofs.«01_k».proof.Proof.MixRun
public import proofs.«01_k».proof.Proof.Gen.Reference5Ideal.Read

@[expose] public section

set_option maxRecDepth 16384

noncomputable section

namespace Cert.Proof.Mix

open Cert.Reference5Ideal Cert.Reference5Ideal.Read
open Idealize.ShloMosaic Idealize.ShloMosaic.TcCoe
open Idealize.ShloMosaic.ValueIdx

/-! ## The reference's rows -/

section Ref
variable (x0 x1 : (⟨S4x67584x128, .i32⟩ : BufTy).Contents (Elt Ideal)) (x2 : (⟨S33792x128, .f32⟩ : BufTy).Contents (Elt Ideal))
variable (x3 : (⟨S33792x1024, .f32⟩ : BufTy).Contents (Elt Ideal)) (x4 x5 : (⟨S1024, .f32⟩ : BufTy).Contents (Elt Ideal))

/-- The gathered rows of a row's half. -/
def side (n : Nat) : (⟨S4x67584x128, .i32⟩ : BufTy).Contents (Elt Ideal) := if n < 16896 then x0 else x1

/-- The joined words. -/
theorem ref_word (p k : Fin 4) (n : Fin 33792) (l : Fin 128) (q : Fin 512) (hq : q.val = 128 * p.val + l.val) :
    (val_main_v2 (F := Ideal) x0 x1 : S4x4x33792x128.Idx → BitVec 32) (ix4 (n0 := 4) (n1 := 4) (n2 := 33792) (n3 := 128) p k n l)
      = wordsAt (side x0 x1 n.val) (slotRow n.val k) q := by
  have hp := p.isLt
  have hk := k.isLt
  have hn := n.isLt
  have hl := l.isLt
  unfold val_main_v2 wordsAt slotRow side
  by_cases h : n.val < 16896
  · rw [if_pos h]
    refine (concatenate_pair_apply_left (t := S4x4x33792x128) (s₁ := S4x4x16896x128) (s₂ := S4x4x16896x128) 2 _ _ _
      (ix4 (n0 := 4) (n1 := 4) (n2 := 33792) (n3 := 128) p k n l) rfl (ix4 (n0 := 4) (n1 := 4) (n2 := 16896) (n3 := 128) p k ⟨n.val, h⟩ l)
      (fun b => by match b with | ⟨0, _⟩ => rfl | ⟨1, _⟩ => rfl | ⟨2, _⟩ => rfl | ⟨3, _⟩ => rfl)).trans ?_
    rw [val_main_v0_apply]
    refine congrArg (x0 : S4x67584x128.Idx → BitVec 32) (idx3_ext (n0 := 4) (n1 := 67584) (n2 := 128) _ _ ?_ ?_ ?_)
    · show (((p.val * 4 + k.val) * 16896 + n.val) * 128 + l.val) / 8650752 = q.val / 128
      omega
    · show (((p.val * 4 + k.val) * 16896 + n.val) * 128 + l.val) / 128 % 67584 = k.val * 16896 + n.val % 16896
      omega
    · show (((p.val * 4 + k.val) * 16896 + n.val) * 128 + l.val) % 128 = q.val % 128
      omega
  · rw [if_neg h]
    refine (concatenate_pair_apply_right (t := S4x4x33792x128) (s₁ := S4x4x16896x128) (s₂ := S4x4x16896x128) 2 _ _ _
      (ix4 (n0 := 4) (n1 := 4) (n2 := 33792) (n3 := 128) p k n l) rfl rfl (ix4 (n0 := 4) (n1 := 4) (n2 := 16896) (n3 := 128) p k ⟨n.val - 16896, by omega⟩ l)
      (fun b hb => by match b with | ⟨0, _⟩ => rfl | ⟨1, _⟩ => rfl | ⟨2, _⟩ => exact absurd rfl hb | ⟨3, _⟩ => rfl)
      (by show n.val - 16896 + 16896 = n.val; omega)).trans ?_
    rw [val_main_v1_apply]
    refine congrArg (x1 : S4x67584x128.Idx → BitVec 32) (idx3_ext (n0 := 4) (n1 := 67584) (n2 := 128) _ _ ?_ ?_ ?_)
    · show (((p.val * 4 + k.val) * 16896 + (n.val - 16896)) * 128 + l.val) / 8650752 = q.val / 128
      omega
    · show (((p.val * 4 + k.val) * 16896 + (n.val - 16896)) * 128 + l.val) / 128 % 67584 = k.val * 16896 + n.val % 16896
      omega
    · show (((p.val * 4 + k.val) * 16896 + (n.val - 16896)) * 128 + l.val) % 128 = q.val % 128
      omega

/-- The unpacked rows, plane by plane. -/
theorem ref_plane (p : Fin 8) (k : Fin 4) (n : Fin 33792) (l : Fin 128) (d : Fin 1024) (hd : d.val = 128 * p.val + l.val) :
    (val_main_v9 (F := Ideal) x0 x1 : S8x4x33792x128.Idx → EReal) (ix4 (n0 := 8) (n1 := 4) (n2 := 33792) (n3 := 128) p k n l)
      = halfAt (wordsAt (side x0 x1 n.val) (slotRow n.val k)) d := by
  have hl := l.isLt
  unfold val_main_v9 halfAt
  by_cases hp : p.val < 4
  · rw [dif_pos (show d.val < 512 by omega)]
    refine (concatenate_pair_apply_left (t := S8x4x33792x128) (s₁ := S4x4x33792x128) (s₂ := S4x4x33792x128) 0 _ _ _
      (ix4 (n0 := 8) (n1 := 4) (n2 := 33792) (n3 := 128) p k n l) rfl (ix4 (n0 := 4) (n1 := 4) (n2 := 33792) (n3 := 128) ⟨p.val, hp⟩ k n l)
      (fun b => by match b with | ⟨0, _⟩ => rfl | ⟨1, _⟩ => rfl | ⟨2, _⟩ => rfl | ⟨3, _⟩ => rfl)).trans ?_
    rw [val_main_v5_apply, val_main_v4_apply, val_main_v3_apply, val_main_c_apply,
      ref_word x0 x1 ⟨p.val, hp⟩ k n l ⟨d.val, by omega⟩ hd, shli_host]
    rfl
  · rw [dif_neg (show ¬ d.val < 512 by omega)]
    refine (concatenate_pair_apply_right (t := S8x4x33792x128) (s₁ := S4x4x33792x128) (s₂ := S4x4x33792x128) 0 _ _ _
      (ix4 (n0 := 8) (n1 := 4) (n2 := 33792) (n3 := 128) p k n l) rfl rfl (ix4 (n0 := 4) (n1 := 4) (n2 := 33792) (n3 := 128) ⟨p.val - 4, by omega⟩ k n l)
      (fun b hb => by match b with | ⟨0, _⟩ => exact absurd rfl hb | ⟨1, _⟩ => rfl | ⟨2, _⟩ => rfl | ⟨3, _⟩ => rfl)
      (by show p.val - 4 + 4 = p.val; omega)).trans ?_
    rw [val_main_v8_apply, val_main_v7_apply, val_main_v6_apply, val_main_c_0_apply,
      ref_word x0 x1 ⟨p.val - 4, by omega⟩ k n l ⟨d.val - 512, by omega⟩ (by show d.val - 512 = 128 * (p.val - 4) + l.val; omega)]
    rfl

/-- The unpacked rows. -/
theorem ref_unpacked (n : Fin 33792) (k : Fin 4) (d : Fin 1024) :
    (val_main_v11 (F := Ideal) x0 x1 : S33792x4x1024.Idx → EReal) (ix3 (n0 := 33792) (n1 := 4) (n2 := 1024) n k d)
      = halfAt (wordsAt (side x0 x1 n.val) (slotRow n.val k)) d := by
  have hn := n.isLt
  have hk := k.isLt
  have hd := d.isLt
  rw [val_main_v11_apply, val_main_v10_apply]
  refine Eq.trans (congrArg (val_main_v9 (F := Ideal) x0 x1 : S8x4x33792x128.Idx → EReal) ?_)
    (ref_plane x0 x1 ⟨d.val / 128, by omega⟩ k n ⟨d.val % 128, Nat.mod_lt _ (by decide)⟩ d (by show d.val = 128 * (d.val / 128) + d.val % 128; omega))
  refine funext fun a => Fin.ext ?_
  match a with
  | ⟨0, _⟩ => show ((n.val * 4 + k.val) * 1024 + d.val) / 128 % 8 = d.val / 128; omega
  | ⟨1, _⟩ => show ((n.val * 4 + k.val) * 1024 + d.val) / 1024 % 4 = k.val; omega
  | ⟨2, _⟩ => show ((n.val * 4 + k.val) * 1024 + d.val) / 4096 = n.val; omega
  | ⟨3, _⟩ => show ((n.val * 4 + k.val) * 1024 + d.val) % 128 = d.val % 128; omega

/-- The reference's mix. -/
theorem ref_mix (n : Fin 33792) (d : Fin 1024) :
    (val_main_v16 (F := Ideal) x0 x1 x2 x3 : S33792x1024.Idx → EReal) (ix2 (n0 := 33792) (n1 := 1024) n d) = mixRow (side x0 x1 n.val) x2 x3 n d := by
  have term : ∀ k : Fin 4, (val_main_v14 (F := Ideal) x2 : S33792x4.Idx → EReal) (lidx_main_v15 (ix2 (n0 := 33792) (n1 := 1024) n d) k)
      * (val_main_v11 (F := Ideal) x0 x1 : S33792x4x1024.Idx → EReal) (ridx_main_v15 (ix2 (n0 := 33792) (n1 := 1024) n d) k)
      = (x2 : S33792x128.Idx → EReal) (ix2 (n0 := 33792) (n1 := 128) n ⟨k.val, by omega⟩) * halfAt (wordsAt (side x0 x1 n.val) (slotRow n.val k)) d := by
    intro k
    refine congrArg₂ (fun a b : EReal => a * b) ?_ ?_
    · rw [val_main_v14_apply]
      exact congrArg (x2 : S33792x128.Idx → EReal) (idx2_ext (n0 := 33792) (n1 := 128) _ _ rfl rfl)
    · refine Eq.trans (congrArg (val_main_v11 (F := Ideal) x0 x1 : S33792x4x1024.Idx → EReal) ?_) (ref_unpacked x0 x1 n k d)
      exact idx3_ext (n0 := 33792) (n1 := 4) (n2 := 1024) _ _ rfl rfl rfl
  rw [val_main_v16_apply, val_main_v15_apply, Finset.sum_congr rfl fun k _ => term k, Fin.sum_univ_four, val_main_v13_apply, val_main_v12_apply, val_main_cst_apply]
  unfold mixRow mixAt
  show (_ * _ : EReal) + (_ * _ + _ * _ + _ * _ + _ * _) = _
  rw [← add_assoc, ← add_assoc, ← add_assoc]
  rfl

/-- The reference's means. -/
theorem ref_mean (n : Fin 33792) :
    (val_main_v20 (F := Ideal) x0 x1 x2 x3 : S33792x1.Idx → EReal) (ix2 (n0 := 33792) (n1 := 1) n 0) = meanAt (mixRow (side x0 x1 n.val) x2 x3 n) := by
  rw [val_main_v20_apply, val_main_v18_apply, val_main_v17_apply, val_main_v19_apply, val_main_cst_2_apply, val_main_cst_1_apply]
  unfold meanAt
  refine congrArg₂ (fun a b : EReal => Ideal.div a b) ?_ rfl
  refine (congrArg₂ (fun a b : EReal => a + b) Ideal.ofBits_zero_f32 rfl).trans ((zero_add _).trans (Finset.sum_congr rfl fun k _ => ?_))
  refine Eq.trans (congrArg (val_main_v16 (F := Ideal) x0 x1 x2 x3 : S33792x1024.Idx → EReal) ?_) (ref_mix x0 x1 x2 x3 n k)
  exact idx2_ext (n0 := 33792) (n1 := 1024) _ _ rfl rfl

/-- The reference's rows less their means. -/
theorem ref_dev (n : Fin 33792) (d : Fin 1024) :
    (val_main_v22 (F := Ideal) x0 x1 x2 x3 : S33792x1024.Idx → EReal) (ix2 (n0 := 33792) (n1 := 1024) n d) = devAt (mixRow (side x0 x1 n.val) x2 x3 n) d := by
  rw [val_main_v22_apply, val_main_v21_apply, ref_mix]
  unfold devAt
  refine congrArg₂ (fun a b : EReal => a - b) rfl ?_
  refine Eq.trans (congrArg (val_main_v20 (F := Ideal) x0 x1 x2 x3 : S33792x1.Idx → EReal) ?_) (ref_mean x0 x1 x2 x3 n)
  exact idx2_ext (n0 := 33792) (n1 := 1) _ _ rfl rfl

/-- The reference's rows less their means, where it takes them a second time. -/
theorem ref_dev_again (n : Fin 33792) (d : Fin 1024) :
    (val_main_v29 (F := Ideal) x0 x1 x2 x3 : S33792x1024.Idx → EReal) (ix2 (n0 := 33792) (n1 := 1024) n d) = devAt (mixRow (side x0 x1 n.val) x2 x3 n) d := by
  rw [val_main_v29_apply, val_main_v28_apply, ref_mix]
  unfold devAt
  refine congrArg₂ (fun a b : EReal => a - b) rfl ?_
  refine Eq.trans (congrArg (val_main_v20 (F := Ideal) x0 x1 x2 x3 : S33792x1.Idx → EReal) ?_) (ref_mean x0 x1 x2 x3 n)
  exact idx2_ext (n0 := 33792) (n1 := 1) _ _ rfl rfl

/-- The reference's mean squared deviations. -/
theorem ref_var (n : Fin 33792) :
    (val_main_v27 (F := Ideal) x0 x1 x2 x3 : S33792x1.Idx → EReal) (ix2 (n0 := 33792) (n1 := 1) n 0)
      = meanAt (fun k => devAt (mixRow (side x0 x1 n.val) x2 x3 n) k * devAt (mixRow (side x0 x1 n.val) x2 x3 n) k) := by
  rw [val_main_v27_apply, val_main_v25_apply, val_main_v24_apply, val_main_v26_apply, val_main_cst_4_apply, val_main_cst_3_apply]
  unfold meanAt
  refine congrArg₂ (fun a b : EReal => Ideal.div a b) ?_ rfl
  refine (congrArg₂ (fun a b : EReal => a + b) Ideal.ofBits_zero_f32 rfl).trans ((zero_add _).trans (Finset.sum_congr rfl fun k _ => ?_))
  rw [val_main_v23_apply]
  have e : (val_main_v22 (F := Ideal) x0 x1 x2 x3 : S33792x1024.Idx → EReal) (idx_main_v24 (idx_main_v25 (ix2 (n0 := 33792) (n1 := 1) n 0)) k)
      = devAt (mixRow (side x0 x1 n.val) x2 x3 n) k :=
    Eq.trans (congrArg (val_main_v22 (F := Ideal) x0 x1 x2 x3 : S33792x1024.Idx → EReal)
      (idx2_ext (n0 := 33792) (n1 := 1024) _ (ix2 (n0 := 33792) (n1 := 1024) n k) rfl rfl)) (ref_dev x0 x1 x2 x3 n k)
  exact congrArg₂ (fun a b : EReal => a * b) e e

/-- The reference's normalized rows are the combined rows. -/
theorem ref_rows (n : Fin 33792) (d : Fin 1024) :
    (val_main_v40 (F := Ideal) x0 x1 x2 x3 x4 x5 : S33792x1024.Idx → EReal) (ix2 (n0 := 33792) (n1 := 1024) n d)
      = (combined (side x0 x1 n.val) x2 x3 (asRow x4) (asRow x5) : S33792x1024.Idx → EReal) (ix2 (n0 := 33792) (n1 := 1024) n d) := by
  rw [val_main_v40_apply, val_main_v37_apply, val_main_v34_apply, val_main_v33_apply, val_main_v32_apply, val_main_v31_apply, val_main_v30_apply,
    val_main_cst_5_apply, val_main_v36_apply, val_main_v35_apply, val_main_v39_apply, val_main_v38_apply, ref_dev_again]
  unfold combined normAt
  refine congrArg₂ (fun a b : EReal => a + b) (congrArg₂ (fun a b : EReal => a * b) (congrArg₂ (fun a b : EReal => a * b) rfl ?_) ?_) ?_
  · refine congrArg Ideal.rsqrt (congrArg₂ (fun a b : EReal => a + b) ?_ rfl)
    refine Eq.trans (congrArg (val_main_v27 (F := Ideal) x0 x1 x2 x3 : S33792x1.Idx → EReal) ?_) (ref_var x0 x1 x2 x3 n)
    exact idx2_ext (n0 := 33792) (n1 := 1) _ _ rfl rfl
  · refine Eq.trans (congrArg (x4 : S1024.Idx → EReal) ?_) (asRow_at x4 d).symm
    exact funext fun a => Fin.ext (by match a with | ⟨0, _⟩ => rfl)
  · refine Eq.trans (congrArg (x5 : S1024.Idx → EReal) ?_) (asRow_at x5 d).symm
    exact funext fun a => Fin.ext (by match a with | ⟨0, _⟩ => rfl)

end Ref

end Cert.Proof.Mix

end
-- ==== Proof.MixEnd.lean ====
/-
  The combining call's run: it ends, and its two results are the reference's.
-/
module

public import proofs.«01_k».proof.Proof.MixSame
public import proofs.«01_k».proof.Proof.Gen.Kernel5Ideal.Frame

@[expose] public section

set_option maxRecDepth 16384

noncomputable section

namespace Cert.Proof.Mix

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The rows after both calls are the reference's normalized rows. -/
theorem ended_ref (c : Dev nD) : ended m c
    = Cert.Reference5Ideal.Read.val_main_v40 (F := Ideal) (rowsA m c) (rowsB m c) (gates m c) (acts m c) (scale m c) (shift m c) := by
  funext (i : S33792x1024.Idx)
  have e : i = ix2 (n0 := 33792) (n1 := 1024) ⟨(i 0).val, (i 0).isLt⟩ ⟨(i 1).val, (i 1).isLt⟩ := idx2_ext (n0 := 33792) (n1 := 1024) _ _ rfl rfl
  rw [e]
  refine Eq.trans ?_ (ref_rows (rowsA m c) (rowsB m c) (gates m c) (acts m c) (scale m c) (shift m c) ⟨(i 0).val, (i 0).isLt⟩ ⟨(i 1).val, (i 1).isLt⟩).symm
  unfold ended side
  by_cases h : (i 0).val < 16896
  · rw [if_pos h]
    exact congrArg (fun Y => (combined Y (gates m c) (acts m c) (asRow (scale m c)) (asRow (shift m c)) : S33792x1024.Idx → EReal) _) (if_pos h).symm
  · rw [if_neg h]
    exact congrArg (fun Y => (combined Y (gates m c) (acts m c) (asRow (scale m c)) (asRow (shift m c)) : S33792x1024.Idx → EReal) _) (if_neg h).symm

/-- The first result is the reference's. -/
theorem prompt_ref (c : Dev nD) : W5 m ρ c (Proc.devRef .tc main_v7)
    = Cert.Reference5Ideal.Read.val_main_v42 (F := Ideal) (rowsA m c) (rowsB m c) (gates m c) (acts m c) (scale m c) (shift m c) := by
  rw [end_prompt, ended_ref]
  rfl

/-- The second result is the reference's. -/
theorem sample_ref (c : Dev nD) : W5 m ρ c (Proc.devRef .tc main_v9)
    = Cert.Reference5Ideal.Read.val_main_v44 (F := Ideal) (rowsA m c) (rowsB m c) (gates m c) (acts m c) (scale m c) (shift m c) := by
  rw [end_sample, ended_ref]
  rfl

set_option backward.isDefEq.respectTransparency.types false in
/-- The run ends with the reference's two results and the arguments as they were. -/
theorem run_vals : θ_run defs (onTc (τ := τ) (main (F := Ideal))) ⟨m, fun _ => 0, ρ⟩ (fun r => ∀ c : Dev nD,
      r.2.mem ((c.tc : Thread nD τ).loc main_v7)
        = Cert.Reference5Ideal.Read.val_main_v42 (F := Ideal) (rowsA m c) (rowsB m c) (gates m c) (acts m c) (scale m c) (shift m c)
      ∧ r.2.mem ((c.tc : Thread nD τ).loc main_v9)
        = Cert.Reference5Ideal.Read.val_main_v44 (F := Ideal) (rowsA m c) (rowsB m c) (gates m c) (acts m c) (scale m c) (shift m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ => fun c =>
      ⟨(h c _ (mem_uc main_v7 (by decide))).trans (prompt_ref m ρ c),
       (h c _ (mem_uc main_v9 (by decide))).trans (sample_ref m ρ c),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c)⟩)

end Cert.Proof.Mix

end
-- ==== Proof.MemProj.lean ====
/-
  The memory's keys and values: the array the call leaves is the product of the memory's rows by the two weights side by side, and
  its halves are the reference's keys and values.
-/
module

public import proofs.«01_k».proof.Proof.Gen.Kernel3Ideal.Frame
public import proofs.«01_k».proof.Proof.Gen.Reference3Ideal.Read
public import Idealize.ShloMosaic.Lib.Pipeline.Value
public import Idealize.ShloMosaic.Lib.Pipeline.ValueKit.Basic
public import Idealize.ShloMosaic.Lib.MatmulPlain
public import Idealize.ShloMosaic.PureOps.Ideal.Laws

@[expose] public section

set_option maxRecDepth 16384

noncomputable section

namespace Cert.Proof.MemProj

open Cert.Kernel3Ideal Cert.Kernel3Ideal.Gen
open Idealize.ShloMosaic Idealize.ShloMosaic.TcCoe Idealize.ShloMosaic.Tactic Idealize.ShloMosaic.StableHlo
open Idealize.ShloMosaic.ValueIdx
open Idealize.ShloMosaic.Pipeline (Dat)

/-- Two indices with equal coordinates are equal. -/
theorem idx2_ext {n0 n1 : Nat} (y z : (⟨2, ![n0, n1]⟩ : Shape).Idx) (h0 : (y 0).val = (z 0).val) (h1 : (y 1).val = (z 1).val) :
    y = z := funext fun a => by
  match a with
  | ⟨0, _⟩ => exact Fin.ext h0
  | ⟨1, _⟩ => exact Fin.ext h1
/-- Two indices with equal coordinates are equal. -/
theorem idx3_ext {n0 n1 n2 : Nat} (y z : (⟨3, ![n0, n1, n2]⟩ : Shape).Idx) (h0 : (y 0).val = (z 0).val) (h1 : (y 1).val = (z 1).val)
    (h2 : (y 2).val = (z 2).val) : y = z := funext fun a => by
  match a with
  | ⟨0, _⟩ => exact Fin.ext h0
  | ⟨1, _⟩ => exact Fin.ext h1
  | ⟨2, _⟩ => exact Fin.ext h2

/-! ## The program's arrays -/

section Run
variable {F : FTy → Type} [FloatOps F]
variable (m : (ℓ : Loc nD τ sig) → Buf (Elt F) ℓ) (c : Dev nD)

/-- The memory, as launched. -/
abbrev memIn : (⟨S4x256x1024, .f32⟩ : BufTy).Contents (Elt F) := m ((c : Thread nD τ).loc main_arg0)
/-- The keys' weights, as launched. -/
abbrev keysIn : (⟨S1024x256, .f32⟩ : BufTy).Contents (Elt F) := m ((c : Thread nD τ).loc main_arg1)
/-- The values' weights, as launched. -/
abbrev valsIn : (⟨S1024x256, .f32⟩ : BufTy).Contents (Elt F) := m ((c : Thread nD τ).loc main_arg2)

/-- The memory as rows. -/
def flat (x : (⟨S4x256x1024, .f32⟩ : BufTy).Contents (Elt F)) : (⟨S1024x1024, .f32⟩ : BufTy).Contents (Elt F) :=
  shapeCast S1024x1024 x shapeCasts_S4x256x1024_S1024x1024
/-- The two weights side by side, rounded. -/
def both (k v : (⟨S1024x256, .f32⟩ : BufTy).Contents (Elt F)) : (⟨S1024x512, .bf16⟩ : BufTy).Contents (Elt F) :=
  truncf .bf16 (concatenate S1024x512 1 [⟨S1024x256, k⟩, ⟨S1024x256, v⟩] concatenates_S1024x256_S1024x256_S1024x512_d1
    : (⟨S1024x512, .f32⟩ : BufTy).Contents (Elt F)) bitsLt_bf16_f32

/-- The call's first operand is the memory as rows. -/
theorem V_flat : V m c main_v0 = flat (memIn m c) := by
  unfold V V0 flat
  simp only [List.flatten_cons, List.flatten_nil, List.append_nil]
  after_results <;> rfl
/-- The call's second operand is the two weights side by side. -/
theorem V_both : V m c main_v2 = both (keysIn m c) (valsIn m c) := by
  unfold V V0 both
  simp only [List.flatten_cons, List.flatten_nil, List.append_nil]
  after_results <;> rfl

/-- The array the call leaves. -/
abbrev outArr : (⟨S1024x512, .f32⟩ : BufTy).Contents (Elt F) := (dats m 0 c).arrAt 2 cfg0.N
/-- The valuation the lines after the call start from. -/
abbrev Vout : Valuation τ sig (Elt F) := Pipeline.withArrays (cfgs 0).spec c (V0 m c) fun w => (dats m 0 c).arrAt w (cfgs 0).N
/-- After the call its result buffer holds the array the call leaves. -/
theorem Vout_out : Vout m c (Proc.devRef .tc main_v3) = outArr m c :=
  Pipeline.withArrays_arr spec0 launch0.win.arr_inj c (V0 m c) (fun w => (dats m 0 c).arrAt w (cfgs 0).N) 2
/-- A buffer's contents once the lines after the call have run. -/
abbrev ends (b : Ref sig .tc) : Buf (Elt F) ((c : Thread nD τ).loc b) := Pipeline.afterTail₀ cfgs (dats m) 0 (V0 m) [hostOps1] c b

/-- The first result is the left half of the call's array, split into heads. -/
theorem end_keys : ends m c main_v8 = shapeCast S4x256x4x64 (shapeCast S4x256x256
      (extractStridedSlice S1024x256 ![0, 0] (outArr m c) slices_S1024x512_S1024x256_0_0) shapeCasts_S1024x256_S4x256x256) shapeCasts_S4x256x256_S4x256x4x64 := by
  rw [← Vout_out m c]; unfold ends Pipeline.afterTail₀
  simp only [List.flatten_cons, List.flatten_nil, List.append_nil]
  after_results <;> rfl
/-- The second result is the right half of the call's array, split into heads. -/
theorem end_vals : ends m c main_v9 = shapeCast S4x256x4x64 (shapeCast S4x256x256
      (extractStridedSlice S1024x256 ![0, 256] (outArr m c) slices_S1024x512_S1024x256_0_256) shapeCasts_S1024x256_S4x256x256) shapeCasts_S4x256x256_S4x256x4x64 := by
  rw [← Vout_out m c]; unfold ends Pipeline.afterTail₀
  simp only [List.flatten_cons, List.flatten_nil, List.append_nil]
  after_results <;> rfl

end Run

/-! ## The product -/

section Product
variable (m : (ℓ : Loc nD τ sig) → Buf (Elt Ideal) ℓ) (c : Dev nD)

/-- Every element of the product of the rows by the weights. -/
def product (x : (⟨S1024x1024, .f32⟩ : BufTy).Contents (Elt Ideal)) (w : (⟨S1024x512, .bf16⟩ : BufTy).Contents (Elt Ideal)) :
    (⟨S1024x512, .f32⟩ : BufTy).Contents (Elt Ideal) := fun (i : S1024x512.Idx) =>
  (∑ k : Fin 1024, (x : S1024x1024.Idx → EReal) (ix2 (n0 := 1024) (n1 := 1024) ⟨(i 0).val, (i 0).isLt⟩ k)
    * (w : S1024x512.Idx → EReal) (ix2 (n0 := 1024) (n1 := 512) k ⟨(i 1).val, (i 1).isLt⟩) : EReal)

/-- The body's product contracts the rows' columns with the weights' rows. -/
theorem dot_plain : dot_S512x1024_S1024x512_S512x512_1_0_0_1_n_n = DotDims.plain 512 1024 512 := rfl

/-- The body's block is the product of its operands. -/
theorem block_apply (x : Vec Ideal S512x1024 .f32) (w : Vec Ideal S1024x512 .bf16) (r : Fin 512) (q : Fin 512) :
    (out0_2 (F := Ideal) x w : S512x512.Idx → EReal) (ix2 r q)
      = ∑ k : Fin 1024, (x : S512x1024.Idx → EReal) (ix2 r k) * (w : S1024x512.Idx → EReal) (ix2 k q) := by
  unfold out0_2
  rw [View.canon_cons_unit_lit _ _ _ (by decide), View.ld_unit_lit _ _ (by decide), View.ld_unit_lit _ _ (by decide)]
  unfold k0_pay1
  rw [dot_plain]
  refine (Ideal.matmul_plain_apply none _ _ _ r q).trans ?_
  show Ideal.ofBits .f32 0x00000000#32 + _ = _
  rw [Ideal.ofBits_zero_f32, zero_add]
  refine Finset.sum_congr rfl fun k _ => ?_
  rw [shapeCast_self, shapeCast_self]
  rfl

/-- A grid point's coordinate is its number. -/
theorem point_val (t : Fin cfg0.N) : (grid0.coords t 0).val = t.val := by
  have h : t.val < 2 := t.isLt
  show t.val / 1 % 2 = t.val
  omega

/-- The result's and the rows' windows move by one block a point. -/
theorem map_val (t : Fin cfg0.N) : cc0_transform_2 (grid0.coords t) 0 = t.val ∧ cc0_transform_0 (grid0.coords t) 0 = t.val := by
  have h : t.val < 2 := t.isLt
  have hp : ((grid0.coords t) 0).val = t.val := point_val t
  constructor
  · show ((BitVec.ofNat 32 ((grid0.coords t) 0).val).toNat) = t.val
    rw [hp, BitVec.toNat_ofNat]; omega
  · show ((BitVec.ofNat 32 ((grid0.coords t) 0).val).toNat) = t.val
    rw [hp, BitVec.toNat_ofNat]; omega

/-- Where an element of the result's block lies in the result. -/
theorem out_emb (t : Fin cfg0.N) (y : S512x512.Idx) :
    ((cfg0.win 2).blk t).view.emb y = ix2 (n0 := 1024) (n1 := 512)
      ⟨t.val * 512 + (y 0).val, by have h : t.val < 2 := t.isLt; have h0 : (y 0).val < 512 := (y 0).isLt; omega⟩ ⟨(y 1).val, (y 1).isLt⟩ := by
  refine idx2_ext (n0 := 1024) (n1 := 512) _ _ ?_ ?_
  · show cc0_transform_2 (grid0.coords t) 0 * 512 + 1 * (y 0).val = t.val * 512 + (y 0).val
    rw [(map_val t).1]; omega
  · show cc0_transform_2 (grid0.coords t) 1 * 512 + 1 * (y 1).val = (y 1).val
    rw [show cc0_transform_2 (grid0.coords t) 1 = 0 from rfl]; omega

/-- Where an element of the rows' block lies in the rows. -/
theorem rows_emb (t : Fin cfg0.N) (y : S512x1024.Idx) :
    ((cfg0.win 0).blk t).view.emb y = ix2 (n0 := 1024) (n1 := 1024)
      ⟨t.val * 512 + (y 0).val, by have h : t.val < 2 := t.isLt; have h0 : (y 0).val < 512 := (y 0).isLt; omega⟩ ⟨(y 1).val, (y 1).isLt⟩ := by
  refine idx2_ext (n0 := 1024) (n1 := 1024) _ _ ?_ ?_
  · show cc0_transform_0 (grid0.coords t) 0 * 512 + 1 * (y 0).val = t.val * 512 + (y 0).val
    rw [(map_val t).2]; omega
  · show cc0_transform_0 (grid0.coords t) 1 * 1024 + 1 * (y 1).val = (y 1).val
    rw [show cc0_transform_0 (grid0.coords t) 1 = 0 from rfl]; omega

/-- The weights' block is the whole array. -/
theorem weights_emb (t : Fin cfg0.N) (y : S1024x512.Idx) : ((cfg0.win 1).blk t).view.emb y = y := by
  refine idx2_ext (n0 := 1024) (n1 := 512) _ _ ?_ ?_
  · show cc0_transform_1 (grid0.coords t) 0 * 1024 + 1 * (y 0).val = (y 0).val
    rw [show cc0_transform_1 (grid0.coords t) 0 = 0 from rfl]; omega
  · show cc0_transform_1 (grid0.coords t) 1 * 512 + 1 * (y 1).val = (y 1).val
    rw [show cc0_transform_1 (grid0.coords t) 1 = 0 from rfl]; omega

/-- A point writes back its block of the product. -/
theorem out_flushed (t : Fin cfg0.N) : (dats m 0 c).flushed 2 t
    = ((cfg0.win 2).blk t).view.read (Elt Ideal) (product (V m c main_v0) (V m c main_v2)) := by
  refine funext fun (y : S512x512.Idx) => ?_
  refine Eq.trans ?_ (congrArg (product (V m c main_v0) (V m c main_v2)) (out_emb t y)).symm
  show (dats m 0 c).after 2 t (((cfg0.win 2).xinj _ y)) = _
  rw [after0_2]
  have hy : ((cfg0.win 2).xinj (cfg0.grid.coords t) y : S512x512.Idx) = ix2 (n0 := 512) (n1 := 512) ⟨(y 0).val, (y 0).isLt⟩ ⟨(y 1).val, (y 1).isLt⟩ :=
    idx2_ext (n0 := 512) (n1 := 512) _ _ rfl rfl
  refine (congrArg (out0_2 (iblk m c 0 t) (iblk m c 1 t) : S512x512.Idx → EReal) hy).trans ((block_apply _ _ _ _).trans ?_)
  unfold product
  refine Finset.sum_congr rfl fun k _ => congrArg₂ (fun a b : EReal => a * b) ?_ ?_
  · exact congrArg (V m c main_v0 : S1024x1024.Idx → EReal) (rows_emb t _)
  · exact congrArg (V m c main_v2 : S1024x512.Idx → EReal) (weights_emb t _)

/-- The array the call leaves is the product. -/
theorem out_eq : outArr m c = product (flat (memIn m c)) (both (keysIn m c) (valsIn m c)) := by
  rw [← V_both m c, ← V_flat m c]
  refine funext fun (i : S1024x512.Idx) => ?_
  have h0 : (i 0).val < 1024 := (i 0).isLt
  have hN : (i 0).val / 512 < cfg0.N := show (i 0).val / 512 < 2 by omega
  have he : ((cfg0.win 2).blk ⟨(i 0).val / 512, hN⟩).view.emb (ix2 (n0 := 512) (n1 := 512) ⟨(i 0).val % 512, Nat.mod_lt _ (by decide)⟩ ⟨(i 1).val, (i 1).isLt⟩) = i := by
    rw [out_emb]
    refine idx2_ext (n0 := 1024) (n1 := 512) _ _ ?_ rfl
    show (i 0).val / 512 * 512 + (i 0).val % 512 = (i 0).val
    omega
  have h := (dats m 0 c).arrAt_apply_of_mem 2 (product (V m c main_v0) (V m c main_v2)) (fun t _ => out_flushed m c t) cfg0.N
    ⟨(i 0).val / 512, hN⟩ i hN (flush0_2 _) (by
      have := ((cfg0.win 2).blk ⟨(i 0).val / 512, hN⟩).view.emb_mem_set (ix2 (n0 := 512) (n1 := 512) ⟨(i 0).val % 512, Nat.mod_lt _ (by decide)⟩ ⟨(i 1).val, (i 1).isLt⟩)
      rwa [he] at this)
  exact h

end Product

/-! ## The results -/

section Results

/-- A row of the flattened memory is a position of a prompt's memory. -/
theorem flat_apply (x : (⟨S4x256x1024, .f32⟩ : BufTy).Contents (Elt Ideal)) (b : Fin 4) (s : Fin 256) (k : Fin 1024) :
    (flat (F := Ideal) x : S1024x1024.Idx → EReal) (ix2 (n0 := 1024) (n1 := 1024) ⟨b.val * 256 + s.val, by omega⟩ k)
      = (x : S4x256x1024.Idx → EReal) (ix3 (n0 := 4) (n1 := 256) (n2 := 1024) b s k) := by
  unfold flat
  refine shapeCast_apply x shapeCasts_S4x256x1024_S1024x1024 _ _ ?_
  rewrite [Shape.rowMajor_val_two, Shape.rowMajor_val_three]
  rfl

/-- The left columns of the two weights are the keys'. -/
theorem both_left (kw vw : (⟨S1024x256, .f32⟩ : BufTy).Contents (Elt Ideal)) (k : Fin 1024) (q : Fin 256) :
    (both (F := Ideal) kw vw : S1024x512.Idx → EReal) (ix2 (n0 := 1024) (n1 := 512) k ⟨0 + q.val, by omega⟩)
      = (kw : S1024x256.Idx → EReal) (ix2 (n0 := 1024) (n1 := 256) k q) := by
  unfold both
  refine concatenate_pair_apply_left (t := S1024x512) 1 kw vw concatenates_S1024x256_S1024x256_S1024x512_d1 _ rfl (ix2 (n0 := 1024) (n1 := 256) k q) ?_
  intro b; match b with
  | ⟨0, _⟩ => rfl
  | ⟨1, _⟩ => show q.val = 0 + q.val; omega

/-- The right columns of the two weights are the values'. -/
theorem both_right (kw vw : (⟨S1024x256, .f32⟩ : BufTy).Contents (Elt Ideal)) (k : Fin 1024) (q : Fin 256) :
    (both (F := Ideal) kw vw : S1024x512.Idx → EReal) (ix2 (n0 := 1024) (n1 := 512) k ⟨256 + q.val, by omega⟩)
      = (vw : S1024x256.Idx → EReal) (ix2 (n0 := 1024) (n1 := 256) k q) := by
  unfold both
  refine concatenate_pair_apply_right (t := S1024x512) 1 kw vw concatenates_S1024x256_S1024x256_S1024x512_d1 _ rfl rfl (ix2 (n0 := 1024) (n1 := 256) k q) ?_ ?_
  · intro b hb; match b with
    | ⟨0, _⟩ => rfl
    | ⟨1, _⟩ => exact absurd rfl hb
  · show q.val + 256 = 256 + q.val; omega

variable (m : (ℓ : Loc nD τ sig) → Buf (Elt Ideal) ℓ) (c : Dev nD)

/-- The first result is the reference's keys. -/
theorem keys_eq : ends m c main_v8 = Cert.Reference3Ideal.Read.val_main_v1 (F := Ideal) (memIn m c) (keysIn m c) := by
  rw [end_keys m c, out_eq m c]
  refine funext fun (i : S4x256x4x64.Idx) => ?_
  have h0 : (i 0).val < 4 := (i 0).isLt
  have h1 : (i 1).val < 256 := (i 1).isLt
  have h2 : (i 2).val < 4 := (i 2).isLt
  have h3 : (i 3).val < 64 := (i 3).isLt
  refine (shapeCast_apply _ shapeCasts_S4x256x256_S4x256x4x64 i
    (ix3 (n0 := 4) (n1 := 256) (n2 := 256) ⟨(i 0).val, h0⟩ ⟨(i 1).val, h1⟩ ⟨(i 2).val * 64 + (i 3).val, by omega⟩) (by
      rewrite [Shape.rowMajor_val_three, Shape.rowMajor_val_four]
      show ((i 0).val * 256 + (i 1).val) * 256 + ((i 2).val * 64 + (i 3).val) = (((i 0).val * 256 + (i 1).val) * 4 + (i 2).val) * 64 + (i 3).val
      omega)).trans ?_
  refine (shapeCast_apply _ shapeCasts_S1024x256_S4x256x256 _
    (ix2 (n0 := 1024) (n1 := 256) ⟨(i 0).val * 256 + (i 1).val, by omega⟩ ⟨(i 2).val * 64 + (i 3).val, by omega⟩) (by
      rewrite [Shape.rowMajor_val_two, Shape.rowMajor_val_three]
      rfl)).trans ?_
  refine (extractStridedSlice_apply (t := S1024x256) ![0, 0] _ slices_S1024x512_S1024x256_0_0 _
    (ix2 (n0 := 1024) (n1 := 512) ⟨(i 0).val * 256 + (i 1).val, by omega⟩ ⟨0 + ((i 2).val * 64 + (i 3).val), by omega⟩) (fun a => match a with
      | ⟨0, _⟩ => by show (i 0).val * 256 + (i 1).val = 0 + ((i 0).val * 256 + (i 1).val); omega
      | ⟨1, _⟩ => rfl)).trans ?_
  rw [Cert.Reference3Ideal.Read.val_main_v1_apply]
  refine Eq.trans ?_ (Cert.Reference3Ideal.Read.val_main_v0_apply (memIn m c) (keysIn m c) _).symm
  unfold product
  refine Finset.sum_congr rfl fun k _ => congrArg₂ (fun a b : EReal => a * b) ?_ ?_
  · refine (flat_apply (memIn m c) ⟨(i 0).val, h0⟩ ⟨(i 1).val, h1⟩ k).trans (congrArg (memIn m c : S4x256x1024.Idx → EReal) (idx3_ext (n0 := 4) (n1 := 256) (n2 := 1024) _ _ ?_ ?_ rfl))
    · show (i 0).val = ((((i 0).val * 256 + (i 1).val) * 4 + (i 2).val) * 64 + (i 3).val) / 65536
      omega
    · show (i 1).val = ((((i 0).val * 256 + (i 1).val) * 4 + (i 2).val) * 64 + (i 3).val) / 256 % 256
      omega
  · refine (both_left (keysIn m c) (valsIn m c) k ⟨(i 2).val * 64 + (i 3).val, by omega⟩).trans (congrArg (keysIn m c : S1024x256.Idx → EReal) (idx2_ext (n0 := 1024) (n1 := 256) _ _ rfl ?_))
    show (i 2).val * 64 + (i 3).val = ((((i 0).val * 256 + (i 1).val) * 4 + (i 2).val) * 64 + (i 3).val) % 256
    omega

/-- The second result is the reference's values. -/
theorem vals_eq : ends m c main_v9 = Cert.Reference3Ideal.Read.val_main_v3 (F := Ideal) (memIn m c) (valsIn m c) := by
  rw [end_vals m c, out_eq m c]
  refine funext fun (i : S4x256x4x64.Idx) => ?_
  have h0 : (i 0).val < 4 := (i 0).isLt
  have h1 : (i 1).val < 256 := (i 1).isLt
  have h2 : (i 2).val < 4 := (i 2).isLt
  have h3 : (i 3).val < 64 := (i 3).isLt
  refine (shapeCast_apply _ shapeCasts_S4x256x256_S4x256x4x64 i
    (ix3 (n0 := 4) (n1 := 256) (n2 := 256) ⟨(i 0).val, h0⟩ ⟨(i 1).val, h1⟩ ⟨(i 2).val * 64 + (i 3).val, by omega⟩) (by
      rewrite [Shape.rowMajor_val_three, Shape.rowMajor_val_four]
      show ((i 0).val * 256 + (i 1).val) * 256 + ((i 2).val * 64 + (i 3).val) = (((i 0).val * 256 + (i 1).val) * 4 + (i 2).val) * 64 + (i 3).val
      omega)).trans ?_
  refine (shapeCast_apply _ shapeCasts_S1024x256_S4x256x256 _
    (ix2 (n0 := 1024) (n1 := 256) ⟨(i 0).val * 256 + (i 1).val, by omega⟩ ⟨(i 2).val * 64 + (i 3).val, by omega⟩) (by
      rewrite [Shape.rowMajor_val_two, Shape.rowMajor_val_three]
      rfl)).trans ?_
  refine (extractStridedSlice_apply (t := S1024x256) ![0, 256] _ slices_S1024x512_S1024x256_0_256 _
    (ix2 (n0 := 1024) (n1 := 512) ⟨(i 0).val * 256 + (i 1).val, by omega⟩ ⟨256 + ((i 2).val * 64 + (i 3).val), by omega⟩) (fun a => match a with
      | ⟨0, _⟩ => by show (i 0).val * 256 + (i 1).val = 0 + ((i 0).val * 256 + (i 1).val); omega
      | ⟨1, _⟩ => rfl)).trans ?_
  rw [Cert.Reference3Ideal.Read.val_main_v3_apply]
  refine Eq.trans ?_ (Cert.Reference3Ideal.Read.val_main_v2_apply (memIn m c) (valsIn m c) _).symm
  unfold product
  refine Finset.sum_congr rfl fun k _ => congrArg₂ (fun a b : EReal => a * b) ?_ ?_
  · refine (flat_apply (memIn m c) ⟨(i 0).val, h0⟩ ⟨(i 1).val, h1⟩ k).trans (congrArg (memIn m c : S4x256x1024.Idx → EReal) (idx3_ext (n0 := 4) (n1 := 256) (n2 := 1024) _ _ ?_ ?_ rfl))
    · show (i 0).val = ((((i 0).val * 256 + (i 1).val) * 4 + (i 2).val) * 64 + (i 3).val) / 65536
      omega
    · show (i 1).val = ((((i 0).val * 256 + (i 1).val) * 4 + (i 2).val) * 64 + (i 3).val) / 256 % 256
      omega
  · refine (both_right (keysIn m c) (valsIn m c) k ⟨(i 2).val * 64 + (i 3).val, by omega⟩).trans (congrArg (valsIn m c : S1024x256.Idx → EReal) (idx2_ext (n0 := 1024) (n1 := 256) _ _ rfl ?_))
    show (i 2).val * 64 + (i 3).val = ((((i 0).val * 256 + (i 1).val) * 4 + (i 2).val) * 64 + (i 3).val) % 256
    omega

/-- Every execution ends with the keys and the values at the reference's and the arguments unchanged. -/
theorem run_vals (ρ : Dev nD → PrngReg) :
    θ_run (defs (F := Ideal)) (onTc (τ := τ) (main (F := Ideal))) ⟨m, fun _ => 0, ρ⟩ (fun r => ∀ c : Dev nD,
      r.2.mem ((c.tc : Thread nD τ).loc main_v8) = Cert.Reference3Ideal.Read.val_main_v1 (F := Ideal) (memIn m c) (keysIn m c)
      ∧ r.2.mem ((c.tc : Thread nD τ).loc main_v9) = Cert.Reference3Ideal.Read.val_main_v3 (F := Ideal) (memIn m c) (valsIn m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ?_) (θ_run_and (run_main m ρ) (unchanged m ρ))
  have hb := (h.1 c).2
  exact ⟨(hb main_v8 (Pipeline.mem_restRefs_of main_v8 (by decide) (by decide))).trans (keys_eq m c),
    (hb main_v9 (Pipeline.mem_restRefs_of main_v9 (by decide) (by decide))).trans (vals_eq m c), h.2 c⟩

end Results

end Cert.Proof.MemProj

end
-- ==== Proof.TailSame8.lean ====
/-
  The prompts' delta-rule program and its idealization are one: no operation of it was rewritten.
-/
module

public import proofs.«01_k».proof.Proof.Gen.Kernel8.Launch
public import proofs.«01_k».proof.Proof.Gen.Kernel8Ideal.Launch
public import Idealize.ShloMosaic.Adequacy

@[expose] public section

set_option maxRecDepth 65536

noncomputable section

namespace Cert.Proof.Tail8

open Idealize.ShloMosaic Idealize.SL.Sem

variable {F : FTy → Type} [FloatOps F]

theorem table_same : Cert.Kernel8Ideal.defs₀ (F := F) = Cert.Kernel8.defs₀ (F := F) := by
  unfold Cert.Kernel8.defs₀ Cert.Kernel8Ideal.defs₀
  refine congrArg Defs.onTc (funext fun l => funext fun x => ?_)
  match l, x with
  | 0, (t, s) => show _ = _; chain_rfl

theorem cons_same {α : Type _} {a b : α} {k l : List α} (h : a = b) (hl : k = l) : a :: k = b :: l := by rw [h, hl]

theorem host_same : Cert.Kernel8Ideal.Gen.hostOps0 (F := F) = Cert.Kernel8.Gen.hostOps0 (F := F) := by
  unfold Cert.Kernel8.Gen.hostOps0 Cert.Kernel8Ideal.Gen.hostOps0
  repeat' refine cons_same ?_ ?_
  all_goals rfl

section Chain
open Cert.Kernel8Ideal

/-- What the executions of a program end in that does the host operations `ops` and then its call, with the bodies `D`. -/
def Runs (ops : List (HloOp τ sig (Elt F))) (D : Defs nD τ sig (Elt F) Λ₀) (s : MemSt nD τ sig (Elt F)) (Q : PUnit × MemSt nD τ sig (Elt F) → Prop) : Prop :=
  θ_run (Pipeline.defs pcfgs D) (onTc (τ := τ) fun _ => (Pipeline.chain [StableHlo.seq ops, Prog.lift (.customCall (Pipeline.entry 0) ())] :
    Prog (TpuEff nD τ sig (Elt F) (Pipeline.Sig Λ₀ (Fin 1) fun p => (pcfgs (F := F) p).Adm) .tc) PUnit)) s Q

theorem runs_ideal {s Q} (h : θ_run (defs (F := F)) (onTc (τ := τ) (main (F := F))) s Q) : Runs Gen.hostOps0 defs₀ s Q := by
  rw [show main (F := F) = _ from funext Gen.main_chain] at h
  exact h

end Chain

theorem of_runs {s : MemSt Cert.Kernel8.nD Cert.Kernel8.τ Cert.Kernel8.sig (Elt F)} {Q}
    (h : Runs Cert.Kernel8.Gen.hostOps0 Cert.Kernel8.defs₀ s Q) :
    θ_run (Cert.Kernel8.defs (F := F)) (onTc (τ := Cert.Kernel8.τ) (Cert.Kernel8.main (F := F))) s Q := by
  rw [show Cert.Kernel8.main (F := F) = _ from funext Cert.Kernel8.Gen.main_chain]
  exact h

/-- An execution of the idealized program is one of the program. -/
theorem kernel_of_ideal {s : MemSt Cert.Kernel8.nD Cert.Kernel8.τ Cert.Kernel8.sig (Elt F)} {Q}
    (h : θ_run (Cert.Kernel8Ideal.defs (F := F)) (onTc (τ := Cert.Kernel8Ideal.τ) (Cert.Kernel8Ideal.main (F := F))) s Q) :
    θ_run (Cert.Kernel8.defs (F := F)) (onTc (τ := Cert.Kernel8.τ) (Cert.Kernel8.main (F := F))) s Q := by
  refine of_runs ?_
  rw [← host_same, ← table_same]
  exact runs_ideal h

end Cert.Proof.Tail8

end
-- ==== Proof.TailSame9.lean ====
/-
  The samples' delta-rule program and its idealization are one: no operation of it was rewritten.
-/
module

public import proofs.«01_k».proof.Proof.Gen.Kernel9.Launch
public import proofs.«01_k».proof.Proof.Gen.Kernel9Ideal.Launch
public import Idealize.ShloMosaic.Adequacy

@[expose] public section

set_option maxRecDepth 65536

noncomputable section

namespace Cert.Proof.Tail9

open Idealize.ShloMosaic Idealize.SL.Sem

variable {F : FTy → Type} [FloatOps F]

theorem table_same : Cert.Kernel9Ideal.defs₀ (F := F) = Cert.Kernel9.defs₀ (F := F) := by
  unfold Cert.Kernel9.defs₀ Cert.Kernel9Ideal.defs₀
  refine congrArg Defs.onTc (funext fun l => funext fun x => ?_)
  match l, x with
  | 0, (t, s) => rfl

theorem cons_same {α : Type _} {a b : α} {k l : List α} (h : a = b) (hl : k = l) : a :: k = b :: l := by rw [h, hl]

theorem host_same : Cert.Kernel9Ideal.Gen.hostOps0 (F := F) = Cert.Kernel9.Gen.hostOps0 (F := F) := by
  unfold Cert.Kernel9.Gen.hostOps0 Cert.Kernel9Ideal.Gen.hostOps0
  repeat' refine cons_same ?_ ?_
  all_goals rfl

section Chain
open Cert.Kernel9Ideal

/-- What the executions of a program end in that does the host operations `ops` and then its call, with the bodies `D`. -/
def Runs (ops : List (HloOp τ sig (Elt F))) (D : Defs nD τ sig (Elt F) Λ₀) (s : MemSt nD τ sig (Elt F)) (Q : PUnit × MemSt nD τ sig (Elt F) → Prop) : Prop :=
  θ_run (Pipeline.defs pcfgs D) (onTc (τ := τ) fun _ => (Pipeline.chain [StableHlo.seq ops, Prog.lift (.customCall (Pipeline.entry 0) ())] :
    Prog (TpuEff nD τ sig (Elt F) (Pipeline.Sig Λ₀ (Fin 1) fun p => (pcfgs (F := F) p).Adm) .tc) PUnit)) s Q

theorem runs_ideal {s Q} (h : θ_run (defs (F := F)) (onTc (τ := τ) (main (F := F))) s Q) : Runs Gen.hostOps0 defs₀ s Q := by
  rw [show main (F := F) = _ from funext Gen.main_chain] at h
  exact h

end Chain

theorem of_runs {s : MemSt Cert.Kernel9.nD Cert.Kernel9.τ Cert.Kernel9.sig (Elt F)} {Q}
    (h : Runs Cert.Kernel9.Gen.hostOps0 Cert.Kernel9.defs₀ s Q) :
    θ_run (Cert.Kernel9.defs (F := F)) (onTc (τ := Cert.Kernel9.τ) (Cert.Kernel9.main (F := F))) s Q := by
  rw [show Cert.Kernel9.main (F := F) = _ from funext Cert.Kernel9.Gen.main_chain]
  exact h

/-- An execution of the idealized program is one of the program. -/
theorem kernel_of_ideal {s : MemSt Cert.Kernel9.nD Cert.Kernel9.τ Cert.Kernel9.sig (Elt F)} {Q}
    (h : θ_run (Cert.Kernel9Ideal.defs (F := F)) (onTc (τ := Cert.Kernel9Ideal.τ) (Cert.Kernel9Ideal.main (F := F))) s Q) :
    θ_run (Cert.Kernel9.defs (F := F)) (onTc (τ := Cert.Kernel9.τ) (Cert.Kernel9.main (F := F))) s Q := by
  refine of_runs ?_
  rw [← host_same, ← table_same]
  exact runs_ideal h

end Cert.Proof.Tail9

end
-- ==== Proof.TailRun8.lean ====
/-
  The delta-rule body of the prompts run at one grid point: the inputs' blocks stay, the two tails are the last rows of the block,
  and everything else ends at some contents.
-/
module

public import proofs.«01_k».proof.Kernel8Ideal
public import proofs.«01_k».proof.Proof.Gen.Kernel8Ideal
public import proofs.«01_k».proof.Proof.Gen.Kernel8Ideal.Skeleton
public import proofs.«01_k».proof.Proof.Gen.Kernel8Ideal.Launch
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp
public import Idealize.ShloMosaic.Lib.VecWindow
public import Idealize.ShloMosaic.Lib.ValueLayout
public import Idealize.ShloMosaic.Lib.ValueIdx

@[expose] public section

set_option maxRecDepth 65536

noncomputable section

namespace Cert.Proof.Tail8

open Cert.Kernel8Ideal Cert.Kernel8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ (UR sig nD τ) ℕ

/-- The last three rows of a block's first columns: what the next point's convolution needs of it. -/
def convTail (x : Vec F S256x3072 .f32) : Vec F S1x3x1152 .f32 :=
  fun j => x (ix2 (n0 := 256) (n1 := 3072) ⟨253 + (j (1 : Fin 3)).val, by have := (j (1 : Fin 3)).isLt; change _ < 3 at this; omega⟩
    ⟨(j (2 : Fin 3)).val, by have := (j (2 : Fin 3)).isLt; change _ < 1152 at this; omega⟩)

/-- The last two rows of the product of two groups of columns: what the next point's short convolution needs of it. -/
def shortTail (x : Vec F S256x3072 .f32) : Vec F S1x2x256 .f32 :=
  fun j => FloatOps.mulf (φ := .f32)
    (x (ix2 (n0 := 256) (n1 := 3072) ⟨254 + (j (1 : Fin 3)).val, by have := (j (1 : Fin 3)).isLt; change _ < 2 at this; omega⟩
      ⟨1792 + (j (2 : Fin 3)).val, by have := (j (2 : Fin 3)).isLt; change _ < 256 at this; omega⟩))
    (x (ix2 (n0 := 256) (n1 := 3072) ⟨254 + (j (1 : Fin 3)).val, by have := (j (1 : Fin 3)).isLt; change _ < 2 at this; omega⟩
      ⟨2048 + (j (2 : Fin 3)).val, by have := (j (2 : Fin 3)).isLt; change _ < 256 at this; omega⟩))

/-- The last rows read back from the scratch buffer, whose newest store was the block's first columns, are the tail. -/
theorem conv_read (a2 : Memref sig .tc .vmem S256x3072 .f32) (a14 : Memref sig .tc .vmem S264x1152 .f32) (x : Vec F S256x3072 .f32)
    (p : List (View.Piece (Elt F) S264x1152 .f32)) :
    k0_pay550 (a14.view.readCov (Val := Elt F) (⟨Rect.unit ![8, 0] S256x1152.size inb_S264x1152_S256x1152_8_0,
        k0_pay50 (View.readAt (Elt F) a2.view (Rect.unit (s := S256x3072) ![0, 0] S256x1152.size inb_S256x3072_S256x1152_0_0).toLoadRect (a2.view.rep x))⟩ :: p)
      (Rect.unit (s := S264x1152) ![261, 0] S3x1152.size inb_S264x1152_S3x1152_261_0).toLoadRect) = convTail x := by
  funext j
  obtain ⟨u, a, b, rfl⟩ : ∃ u a b, j = ix3 (n0 := 1) (n1 := 3) (n2 := 1152) u a b := ⟨_, _, _, eq_ix3 j⟩
  unfold k0_pay550
  rw [show k0_pay50 (View.readAt (Elt F) a2.view (Rect.unit (s := S256x3072) ![0, 0] S256x1152.size inb_S256x3072_S256x1152_0_0).toLoadRect (a2.view.rep x))
      = View.readAt (Elt F) a2.view (Rect.unit (s := S256x3072) ![0, 0] S256x1152.size inb_S256x3072_S256x1152_0_0).toLoadRect (a2.view.rep x) from
    (shapeCast_self _ _).trans (shapeCast_self _ _)]
  refine (shapeCast_ab_1ab_apply _ _ u a b).trans ?_
  refine (View.read_writes_cons_unit_of_mem a14.view a14.view.junk inb_S264x1152_S256x1152_8_0 _ p _ (ix2 (n0 := 256) (n1 := 1152) ⟨253 + a.val, by omega⟩ b) rfl ?_).trans ?_
  · intro d
    fin_cases d
    · show 261 + 1 * a.val = 8 + (253 + a.val); omega
    · show 0 + 1 * b.val = 0 + b.val; omega
  · rw [View.readAt_rep_unit a2.view x inb_S256x3072_S256x1152_0_0 rfl inb_S256x3072_S256x1152_0_0]
    refine congrArg x (funext fun d => Fin.ext ?_)
    fin_cases d
    · show 0 + 1 * (253 + a.val) = 253 + a.val; omega
    · show 0 + 1 * b.val = b.val; omega

/-- The last rows read back from the scratch buffer, whose newest store was the product of two groups of columns, are the tail. -/
theorem short_read (a2 : Memref sig .tc .vmem S256x3072 .f32) (a15 : Memref sig .tc .vmem S264x256 .f32) (x : Vec F S256x3072 .f32)
    (p : List (View.Piece (Elt F) S264x256 .f32)) :
    k0_pay552 (a15.view.readCov (Val := Elt F) (⟨Rect.unit ![8, 0] S256x256.size inb_S264x256_S256x256_8_0,
        k0_pay51 ((View.readAt (Elt F) a2.view (Rect.unit (s := S256x3072) ![0, 1792] S256x256.size inb_S256x3072_S256x256_0_1792).toLoadRect (a2.view.rep x)))
          (View.readAt (Elt F) a2.view (Rect.unit (s := S256x3072) ![0, 2048] S256x256.size inb_S256x3072_S256x256_0_2048).toLoadRect (a2.view.rep x))⟩ :: p)
      (Rect.unit (s := S264x256) ![262, 0] S2x256.size inb_S264x256_S2x256_262_0).toLoadRect) = shortTail x := by
  funext j
  obtain ⟨u, a, b, rfl⟩ : ∃ u a b, j = ix3 (n0 := 1) (n1 := 2) (n2 := 256) u a b := ⟨_, _, _, eq_ix3 j⟩
  have e (v w : Vec F S256x256 .f32) : k0_pay51 v w = mulf (φ := .f32) v w :=
    (shapeCast_self _ _).trans (congrArg₂ (fun p q : FVec F S256x256 .f32 => mulf p q) (shapeCast_self _ _) (shapeCast_self _ _))
  rw [e]
  unfold k0_pay552
  refine (shapeCast_ab_1ab_apply _ _ u a b).trans ?_
  refine (View.read_writes_cons_unit_of_mem a15.view a15.view.junk inb_S264x256_S256x256_8_0 _ p _ (ix2 (n0 := 256) (n1 := 256) ⟨254 + a.val, by omega⟩ b) rfl ?_).trans ?_
  · intro d
    fin_cases d
    · show 262 + 1 * a.val = 8 + (254 + a.val); omega
    · show 0 + 1 * b.val = 0 + b.val; omega
  · rw [View.readAt_rep_unit a2.view x inb_S256x3072_S256x256_0_1792 rfl inb_S256x3072_S256x256_0_1792,
      View.readAt_rep_unit a2.view x inb_S256x3072_S256x256_0_2048 rfl inb_S256x3072_S256x256_0_2048]
    refine congrArg₂ (FloatOps.mulf (φ := .f32)) (congrArg x (funext fun d => Fin.ext ?_)) (congrArg x (funext fun d => Fin.ext ?_))
    · fin_cases d
      · show 0 + 1 * (254 + a.val) = 254 + a.val; omega
      · show 1792 + 1 * b.val = 1792 + b.val; omega
    · fin_cases d
      · show 0 + 1 * (254 + a.val) = 254 + a.val; omega
      · show 2048 + 1 * b.val = 2048 + b.val; omega

/-- A buffer's contents stated by what its memref reads. -/
theorem read_rep_of (c : Dev nD) {sp : Space} {S : Shape} {e : EltTy} (M : Memref sig .tc sp S e) (f : Buf (Elt F) (M.view.loc (c : Thread nD τ)))
    (X : S.Idx → Elt F e) (h : M.view.read (Elt F) f = X) :
    (M.view.loc (c : Thread nD τ) ↦[M.view.set]{fullShare} f : sProp 𝕄) ⊢ (M.view.loc (c : Thread nD τ) ↦[M.view.set]{fullShare} M.view.rep X) := by
  rw [← owns_eq_rep (c : Thread nD τ) M fullShare X]
  unfold owns
  iintro H
  iexists f
  isplitr
  · ipureintro; exact h
  iexact H

/-- A buffer held at some contents, stated by what its memref reads of them. -/
theorem some_rep (c : Dev nD) {sp : Space} {S : Shape} {e : EltTy} (M : Memref sig .tc sp S e) (f : Buf (Elt F) (M.view.loc (c : Thread nD τ))) :
    (M.view.loc (c : Thread nD τ) ↦[M.view.set]{fullShare} f : sProp 𝕄)
      ⊢ iprop(∃ y, M.view.loc (c : Thread nD τ) ↦[M.view.set]{fullShare} M.view.rep y) := by
  iintro H
  iexists M.view.read (Elt F) f
  iapply (read_rep_of c M f _ rfl)
  iexact H

set_option sl_exec.whnfOffsets true in
set_option maxHeartbeats 4000000 in
/-- The body at the first point. -/
theorem run_first (c : Dev nD) (i : grid0.Coords) (arg2 : Memref sig .tc .vmem S256x3072 .f32) (harg2 : arg2.IsWhole) (arg3 : Memref sig .tc .vmem S1x3x1152 .f32) (harg3 : arg3.IsWhole) (arg4 : Memref sig .tc .vmem S1x6x64x64 .f32) (harg4 : arg4.IsWhole) (arg5 : Memref sig .tc .vmem S1x2x256 .f32) (harg5 : arg5.IsWhole) (arg6 : Memref sig .tc .vmem S4x1152 .f32) (harg6 : arg6.IsWhole) (arg7 : Memref sig .tc .vmem S3x256 .f32) (harg7 : arg7.IsWhole) (arg8 : Memref sig .tc .vmem S8x128 .f32) (harg8 : arg8.IsWhole) (arg9 : Memref sig .tc .vmem S1x384 .f32) (harg9 : arg9.IsWhole) (arg10 : Memref sig .tc .vmem S256x1024 .f32) (harg10 : arg10.IsWhole) (arg11 : Memref sig .tc .vmem S1x3x1152 .f32) (harg11 : arg11.IsWhole) (arg12 : Memref sig .tc .vmem S1x6x64x64 .f32) (harg12 : arg12.IsWhole) (arg13 : Memref sig .tc .vmem S1x2x256 .f32) (harg13 : arg13.IsWhole) (arg14 : Memref sig .tc .vmem S264x1152 .f32) (harg14 : arg14.IsWhole) (arg15 : Memref sig .tc .vmem S264x256 .f32) (harg15 : arg15.IsWhole) (arg16 : Memref sig .tc .vmem S3x128x128 .f32) (harg16 : arg16.IsWhole) (arg17 : Memref sig .tc .vmem S256x384 .f32) (harg17 : arg17.IsWhole) (arg18 : Memref sig .tc .vmem S2x7x256x384 .bf16) (harg18 : arg18.IsWhole) (arg19 : Memref sig .tc .vmem S2x2x256x384 .f32) (harg19 : arg19.IsWhole) (arg20 : Memref sig .tc .vmem S2x256x640 .f32) (harg20 : arg20.IsWhole) (x0 : Vec F S256x3072 .f32) (x1 : Vec F S1x3x1152 .f32) (x2 : Vec F S1x6x64x64 .f32) (x3 : Vec F S1x2x256 .f32) (x4 : Vec F S4x1152 .f32) (x5 : Vec F S3x256 .f32) (x6 : Vec F S8x128 .f32) (x7 : Vec F S1x384 .f32) (x8 : Vec F S256x1024 .f32) (x9 : Vec F S1x3x1152 .f32) (x10 : Vec F S1x6x64x64 .f32) (x11 : Vec F S1x2x256 .f32) (x12 : Vec F S264x1152 .f32) (x13 : Vec F S264x256 .f32) (x14 : Vec F S3x128x128 .f32) (x15 : Vec F S256x384 .f32) (x16 : Vec F S2x7x256x384 .bf16) (x17 : Vec F S2x2x256x384 .f32) (x18 : Vec F S2x256x640 .f32)
    (hf : Scalar.cmpi .ne (Scalar.extui (Scalar.cmpi .eq (BitVec.ofNat 32 (i 1).val) 0#32) : BitVec 32) 0#32 = 1#1) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ y, owns (c : Thread nD τ) arg10 fullShare y) ∗ owns (c : Thread nD τ) arg11 fullShare (convTail x0) ∗ (∃ y, owns (c : Thread nD τ) arg12 fullShare y) ∗ owns (c : Thread nD τ) arg13 fullShare (shortTail x0) ∗ (∃ y, owns (c : Thread nD τ) arg14 fullShare y) ∗ (∃ y, owns (c : Thread nD τ) arg15 fullShare y) ∗ (∃ y, owns (c : Thread nD τ) arg16 fullShare y) ∗ (∃ y, owns (c : Thread nD τ) arg17 fullShare y) ∗ (∃ y, owns (c : Thread nD τ) arg18 fullShare y) ∗ (∃ y, owns (c : Thread nD τ) arg19 fullShare y) ∗ (∃ y, owns (c : Thread nD τ) arg20 fullShare y)) -∗ K ⟨⟩))
      ⊢ wp frame (wpE (defs₀ (F := F)) Variants.none c none) E
          (cc0_gdn_sconv i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0_gdn_sconv_eq_skeleton]
  unfold cc0_gdn_sconv_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton]
  simp only [owns_eq_rep]
  iintro ⟨H0, H1, H2, H3, H4, H5, H6, H7, H8, H9, H10, H11, H12, H13, H14, H15, H16, H17, H18, Hk⟩
  sl_exec (disch := (with_unfolding_all exact hf))
  sl_step
  iapply Hk
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iapply (some_rep c arg10 _)
    iexact H8
  isplitl [H9]
  · iapply read_rep_of c arg11 ?f9 ?X9 ?h9
    rotate_left
    · iexact H9
    · exact (View.read_writes_full arg11.view _ _ _ _).trans (conv_read arg2 arg14 x0 _)
  isplitl [H10]
  · iapply (some_rep c arg12 _)
    iexact H10
  isplitl [H11]
  · iapply read_rep_of c arg13 ?f11 ?X11 ?h11
    rotate_left
    · iexact H11
    · exact (View.read_writes_full arg13.view _ _ _ _).trans (short_read arg2 arg15 x0 _)
  isplitl [H12]
  · iapply (some_rep c arg14 _)
    iexact H12
  isplitl [H13]
  · iapply (some_rep c arg15 _)
    iexact H13
  isplitl [H14]
  · iapply (some_rep c arg16 _)
    iexact H14
  isplitl [H15]
  · iapply (some_rep c arg17 _)
    iexact H15
  isplitl [H16]
  · iapply (some_rep c arg18 _)
    iexact H16
  isplitl [H17]
  · iapply (some_rep c arg19 _)
    iexact H17
  iapply (some_rep c arg20 _)
  iexact H18

set_option maxHeartbeats 4000000 in
/-- The body at a later point. -/
theorem run_later (c : Dev nD) (i : grid0.Coords) (arg2 : Memref sig .tc .vmem S256x3072 .f32) (harg2 : arg2.IsWhole) (arg3 : Memref sig .tc .vmem S1x3x1152 .f32) (harg3 : arg3.IsWhole) (arg4 : Memref sig .tc .vmem S1x6x64x64 .f32) (harg4 : arg4.IsWhole) (arg5 : Memref sig .tc .vmem S1x2x256 .f32) (harg5 : arg5.IsWhole) (arg6 : Memref sig .tc .vmem S4x1152 .f32) (harg6 : arg6.IsWhole) (arg7 : Memref sig .tc .vmem S3x256 .f32) (harg7 : arg7.IsWhole) (arg8 : Memref sig .tc .vmem S8x128 .f32) (harg8 : arg8.IsWhole) (arg9 : Memref sig .tc .vmem S1x384 .f32) (harg9 : arg9.IsWhole) (arg10 : Memref sig .tc .vmem S256x1024 .f32) (harg10 : arg10.IsWhole) (arg11 : Memref sig .tc .vmem S1x3x1152 .f32) (harg11 : arg11.IsWhole) (arg12 : Memref sig .tc .vmem S1x6x64x64 .f32) (harg12 : arg12.IsWhole) (arg13 : Memref sig .tc .vmem S1x2x256 .f32) (harg13 : arg13.IsWhole) (arg14 : Memref sig .tc .vmem S264x1152 .f32) (harg14 : arg14.IsWhole) (arg15 : Memref sig .tc .vmem S264x256 .f32) (harg15 : arg15.IsWhole) (arg16 : Memref sig .tc .vmem S3x128x128 .f32) (harg16 : arg16.IsWhole) (arg17 : Memref sig .tc .vmem S256x384 .f32) (harg17 : arg17.IsWhole) (arg18 : Memref sig .tc .vmem S2x7x256x384 .bf16) (harg18 : arg18.IsWhole) (arg19 : Memref sig .tc .vmem S2x2x256x384 .f32) (harg19 : arg19.IsWhole) (arg20 : Memref sig .tc .vmem S2x256x640 .f32) (harg20 : arg20.IsWhole) (x0 : Vec F S256x3072 .f32) (x1 : Vec F S1x3x1152 .f32) (x2 : Vec F S1x6x64x64 .f32) (x3 : Vec F S1x2x256 .f32) (x4 : Vec F S4x1152 .f32) (x5 : Vec F S3x256 .f32) (x6 : Vec F S8x128 .f32) (x7 : Vec F S1x384 .f32) (x8 : Vec F S256x1024 .f32) (x9 : Vec F S1x3x1152 .f32) (x10 : Vec F S1x6x64x64 .f32) (x11 : Vec F S1x2x256 .f32) (x12 : Vec F S264x1152 .f32) (x13 : Vec F S264x256 .f32) (x14 : Vec F S3x128x128 .f32) (x15 : Vec F S256x384 .f32) (x16 : Vec F S2x7x256x384 .bf16) (x17 : Vec F S2x2x256x384 .f32) (x18 : Vec F S2x256x640 .f32)
    (hf : ¬ Scalar.cmpi .ne (Scalar.extui (Scalar.cmpi .eq (BitVec.ofNat 32 (i 1).val) 0#32) : BitVec 32) 0#32 = 1#1) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ y, owns (c : Thread nD τ) arg10 fullShare y) ∗ owns (c : Thread nD τ) arg11 fullShare (convTail x0) ∗ (∃ y, owns (c : Thread nD τ) arg12 fullShare y) ∗ owns (c : Thread nD τ) arg13 fullShare (shortTail x0) ∗ (∃ y, owns (c : Thread nD τ) arg14 fullShare y) ∗ (∃ y, owns (c : Thread nD τ) arg15 fullShare y) ∗ (∃ y, owns (c : Thread nD τ) arg16 fullShare y) ∗ (∃ y, owns (c : Thread nD τ) arg17 fullShare y) ∗ (∃ y, owns (c : Thread nD τ) arg18 fullShare y) ∗ (∃ y, owns (c : Thread nD τ) arg19 fullShare y) ∗ (∃ y, owns (c : Thread nD τ) arg20 fullShare y)) -∗ K ⟨⟩))
      ⊢ wp frame (wpE (defs₀ (F := F)) Variants.none c none) E
          (cc0_gdn_sconv i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0_gdn_sconv_eq_skeleton]
  unfold cc0_gdn_sconv_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton]
  simp only [owns_eq_rep]
  iintro ⟨H0, H1, H2, H3, H4, H5, H6, H7, H8, H9, H10, H11, H12, H13, H14, H15, H16, H17, H18, Hk⟩
  sl_exec (disch := (with_unfolding_all exact hf))
  sl_step
  iapply Hk
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iapply (some_rep c arg10 _)
    iexact H8
  isplitl [H9]
  · iapply read_rep_of c arg11 ?f9 ?X9 ?h9
    rotate_left
    · iexact H9
    · exact (View.read_writes_full arg11.view _ _ _ _).trans (conv_read arg2 arg14 x0 _)
  isplitl [H10]
  · iapply (some_rep c arg12 _)
    iexact H10
  isplitl [H11]
  · iapply read_rep_of c arg13 ?f11 ?X11 ?h11
    rotate_left
    · iexact H11
    · exact (View.read_writes_full arg13.view _ _ _ _).trans (short_read arg2 arg15 x0 _)
  isplitl [H12]
  · iapply (some_rep c arg14 _)
    iexact H12
  isplitl [H13]
  · iapply (some_rep c arg15 _)
    iexact H13
  isplitl [H14]
  · iapply (some_rep c arg16 _)
    iexact H14
  isplitl [H15]
  · iapply (some_rep c arg17 _)
    iexact H15
  isplitl [H16]
  · iapply (some_rep c arg18 _)
    iexact H16
  isplitl [H17]
  · iapply (some_rep c arg19 _)
    iexact H17
  iapply (some_rep c arg20 _)
  iexact H18

end Cert.Proof.Tail8

end
-- ==== Proof.TailFrame8.lean ====
/-
  The delta-rule call of the prompts at every grid point, and its run: the inputs' blocks stay, the two tails follow the block of
  the point, and the other buffers end at some contents.
-/
module

public import proofs.«01_k».proof.Proof.TailRun8
public import proofs.«01_k».proof.Proof.Gen.Kernel8Ideal.Frame
public import Idealize.ShloMosaic.Lib.Pipeline.Cells

@[expose] public section

set_option maxRecDepth 16384

noncomputable section

namespace Cert.Proof.Tail8

open Cert.Kernel8Ideal Cert.Kernel8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The outputs nothing is said of: the outputs' rows and the states. -/
def unsaid (w : Fin cfg0.W) : Bool := w == 8 || w == 10

/-- The proof data: the inputs' blocks, and the two tails of the point's block. -/
def data (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => Classical.arbitrary _
    | ⟨9, _⟩ => convTail (iblk m c 0 t)
    | ⟨10, _⟩ => Classical.arbitrary _
    | ⟨11, _⟩ => shortTail (iblk m c 0 t)
  Φ _ := Pipeline.ΦA spec0 c
  q _ := fullShare
  owed _ := 0

theorem data_A (c : Dev nD) (w : Fin cfg0.W) : (data m 0 c).A w = V m c (Pipeline.arrRef spec0 w) := by
  dsimp only [data]

theorem after_0 (c : Dev nD) (t : Fin cfg0.N) : (data m 0 c).after 0 t = iblk m c 0 t := by dsimp only [data]; try rfl
theorem after_1 (c : Dev nD) (t : Fin cfg0.N) : (data m 0 c).after 1 t = iblk m c 1 t := by dsimp only [data]; try rfl
theorem after_2 (c : Dev nD) (t : Fin cfg0.N) : (data m 0 c).after 2 t = iblk m c 2 t := by dsimp only [data]; try rfl
theorem after_3 (c : Dev nD) (t : Fin cfg0.N) : (data m 0 c).after 3 t = iblk m c 3 t := by dsimp only [data]; try rfl
theorem after_4 (c : Dev nD) (t : Fin cfg0.N) : (data m 0 c).after 4 t = iblk m c 4 t := by dsimp only [data]; try rfl
theorem after_5 (c : Dev nD) (t : Fin cfg0.N) : (data m 0 c).after 5 t = iblk m c 5 t := by dsimp only [data]; try rfl
theorem after_6 (c : Dev nD) (t : Fin cfg0.N) : (data m 0 c).after 6 t = iblk m c 6 t := by dsimp only [data]; try rfl
theorem after_7 (c : Dev nD) (t : Fin cfg0.N) : (data m 0 c).after 7 t = iblk m c 7 t := by dsimp only [data]; try rfl
theorem after_conv (c : Dev nD) (t : Fin cfg0.N) : (data m 0 c).after 9 t = convTail (iblk m c 0 t) := by dsimp only [data]; try rfl
theorem after_short (c : Dev nD) (t : Fin cfg0.N) : (data m 0 c).after 11 t = shortTail (iblk m c 0 t) := by dsimp only [data]; try rfl

section Found
variable (c : Dev nD) (t : Fin cfg0.N)
theorem found_0 (d) : (data m 0 c).before 0 t d = iblk m c 0 t := before0_0_of m (data m 0 c) (data_A m c 0) (after_0 m c) t d
theorem found_1 (d) : (data m 0 c).before 1 t d = iblk m c 1 t := before0_1_of m (data m 0 c) (data_A m c 1) (after_1 m c) t d
theorem found_2 (d) : (data m 0 c).before 2 t d = iblk m c 2 t := before0_2_of m (data m 0 c) (data_A m c 2) (after_2 m c) t d
theorem found_3 (d) : (data m 0 c).before 3 t d = iblk m c 3 t := before0_3_of m (data m 0 c) (data_A m c 3) (after_3 m c) t d
theorem found_4 (d) : (data m 0 c).before 4 t d = iblk m c 4 t := before0_4_of m (data m 0 c) (data_A m c 4) (after_4 m c) t d
theorem found_5 (d) : (data m 0 c).before 5 t d = iblk m c 5 t := before0_5_of m (data m 0 c) (data_A m c 5) (after_5 m c) t d
theorem found_6 (d) : (data m 0 c).before 6 t d = iblk m c 6 t := before0_6_of m (data m 0 c) (data_A m c 6) (after_6 m c) t d
theorem found_7 (d) : (data m 0 c).before 7 t d = iblk m c 7 t := before0_7_of m (data m 0 c) (data_A m c 7) (after_7 m c) t d
end Found

/-- The scoped rest of the region: the seven scratch buffers at some contents, and the generator's register. -/
theorem rest_held (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d)) ∗ (∃ r, prngReg c r)) := by
  unfold Pipeline.ΦA
  rw [scopedRest0_eq]
  simp only [owns_whole]

theorem defs_row (t : Fin cfg0.N) :
    defs₀ (F := F) .tc cfg0.body (cfg0.bodyArgs t (cfg0.slots t)) = bodyAt0 t := by
  unfold defs₀; rw [Defs.onTc_tc]

section Body
variable (c : Dev nD) (t : Fin cfg0.N)

/-- What the body is called with at point `t`, window by window, -/
def called : sProp 𝕄 :=
  iprop((data m 0 c).Φ t.castSucc
    ∗ (data m 0 c).owesAt () t.castSucc
    ∗ (∃ d, owns (c : Thread nD τ) (st0_0 t) fullShare ((data m 0 c).before 0 t d))
    ∗ (∃ d, owns (c : Thread nD τ) (st0_1 t) fullShare ((data m 0 c).before 1 t d))
    ∗ (∃ d, owns (c : Thread nD τ) (st0_2 t) fullShare ((data m 0 c).before 2 t d))
    ∗ (∃ d, owns (c : Thread nD τ) (st0_3 t) fullShare ((data m 0 c).before 3 t d))
    ∗ (∃ d, owns (c : Thread nD τ) (st0_4 t) fullShare ((data m 0 c).before 4 t d))
    ∗ (∃ d, owns (c : Thread nD τ) (st0_5 t) fullShare ((data m 0 c).before 5 t d))
    ∗ (∃ d, owns (c : Thread nD τ) (st0_6 t) fullShare ((data m 0 c).before 6 t d))
    ∗ (∃ d, owns (c : Thread nD τ) (st0_7 t) fullShare ((data m 0 c).before 7 t d))
    ∗ (∃ X, owns (c : Thread nD τ) (st0_8 t) fullShare X)
    ∗ (∃ d, owns (c : Thread nD τ) (st0_9 t) fullShare ((data m 0 c).before 9 t d))
    ∗ (∃ X, owns (c : Thread nD τ) (st0_10 t) fullShare X)
    ∗ (∃ d, owns (c : Thread nD τ) (st0_11 t) fullShare ((data m 0 c).before 11 t d)))

/-- and what it returns. -/
def returned : sProp 𝕄 :=
  iprop((data m 0 c).Φ t.succ
    ∗ (data m 0 c).owesAt () t.succ
    ∗ owns (c : Thread nD τ) (st0_0 t) fullShare ((data m 0 c).after 0 t)
    ∗ owns (c : Thread nD τ) (st0_1 t) fullShare ((data m 0 c).after 1 t)
    ∗ owns (c : Thread nD τ) (st0_2 t) fullShare ((data m 0 c).after 2 t)
    ∗ owns (c : Thread nD τ) (st0_3 t) fullShare ((data m 0 c).after 3 t)
    ∗ owns (c : Thread nD τ) (st0_4 t) fullShare ((data m 0 c).after 4 t)
    ∗ owns (c : Thread nD τ) (st0_5 t) fullShare ((data m 0 c).after 5 t)
    ∗ owns (c : Thread nD τ) (st0_6 t) fullShare ((data m 0 c).after 6 t)
    ∗ owns (c : Thread nD τ) (st0_7 t) fullShare ((data m 0 c).after 7 t)
    ∗ (∃ X, owns (c : Thread nD τ) (st0_8 t) fullShare X)
    ∗ owns (c : Thread nD τ) (st0_9 t) fullShare ((data m 0 c).after 9 t)
    ∗ (∃ X, owns (c : Thread nD τ) (st0_10 t) fullShare X)
    ∗ owns (c : Thread nD τ) (st0_11 t) fullShare ((data m 0 c).after 11 t))

set_option maxHeartbeats 1000000 in
theorem body_called : called m c t ⊢ wp frame (wpE (defs₀ (F := F)) Variants.none c none) Set.univ (bodyAt0 t) (fun _ => returned m c t) := by
  unfold called returned
  simp only [found_0, found_1, found_2, found_3, found_4, found_5, found_6, found_7]
  rw [show (data m 0 c).owesAt () t.succ = (data m 0 c).owesAt () t.castSucc from rfl, after_0, after_1, after_2, after_3, after_4, after_5, after_6, after_7,
    after_conv, after_short]
  rw [show (data m 0 c).Φ t.castSucc = Pipeline.ΦA spec0 c from rfl, show (data m 0 c).Φ t.succ = Pipeline.ΦA spec0 c from rfl, rest_held]
  iintro ⟨⟨⟨⟨%s0, S0⟩, ⟨%s1, S1⟩, ⟨%s2, S2⟩, ⟨%s3, S3⟩, ⟨%s4, S4⟩, ⟨%s5, S5⟩, ⟨%s6, S6⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  by_cases hf : Scalar.cmpi .ne (Scalar.extui (Scalar.cmpi .eq (BitVec.ofNat 32 (grid0.coords t 1).val) 0#32) : BitVec 32) 0#32 = 1#1
  · skip
    iapply (run_first c (grid0.coords t) _ _ _ _ _ _ _ _ _ _ _ _ _ _ _ _ _ _ _ _ _ _ _ _ _ _ _ _ _ _ _ _ _ _ _ _ _ _ _ _ _ _ _ _ _ _ _ _ _ _ _ _ _ _ _ _ _ hf _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [S0]; · iexact S0
    isplitl [S1]; · iexact S1
    isplitl [S2]; · iexact S2
    isplitl [S3]; · iexact S3
    isplitl [S4]; · iexact S4
    isplitl [S5]; · iexact S5
    isplitl [S6]; · iexact S6
    iintro ⟨H0, H1, H2, H3, H4, H5, H6, H7, H8, H9, H10, H11, S0, S1, S2, S3, S4, S5, S6⟩
    isplitl [S0 S1 S2 S3 S4 S5 S6 Hg]
    · isplitl [S0 S1 S2 S3 S4 S5 S6]
      · isplitl [S0]; · iexact S0
        isplitl [S1]; · iexact S1
        isplitl [S2]; · iexact S2
        isplitl [S3]; · iexact S3
        isplitl [S4]; · iexact S4
        isplitl [S5]; · iexact S5
        iexact S6
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · skip
    iapply (run_later c (grid0.coords t) _ _ _ _ _ _ _ _ _ _ _ _ _ _ _ _ _ _ _ _ _ _ _ _ _ _ _ _ _ _ _ _ _ _ _ _ _ _ _ _ _ _ _ _ _ _ _ _ _ _ _ _ _ _ _ _ _ hf _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [S0]; · iexact S0
    isplitl [S1]; · iexact S1
    isplitl [S2]; · iexact S2
    isplitl [S3]; · iexact S3
    isplitl [S4]; · iexact S4
    isplitl [S5]; · iexact S5
    isplitl [S6]; · iexact S6
    iintro ⟨H0, H1, H2, H3, H4, H5, H6, H7, H8, H9, H10, H11, S0, S1, S2, S3, S4, S5, S6⟩
    isplitl [S0 S1 S2 S3 S4 S5 S6 Hg]
    · isplitl [S0 S1 S2 S3 S4 S5 S6]
      · isplitl [S0]; · iexact S0
        isplitl [S1]; · iexact S1
        isplitl [S2]; · iexact S2
        isplitl [S3]; · iexact S3
        isplitl [S4]; · iexact S4
        isplitl [S5]; · iexact S5
        iexact S6
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

end Body

/-- The body's obligation at every point. -/
theorem obligation (c : Dev nD) : BodyObligation (data (F := F) m 0 c) (defs₀ (F := F)) Variants.none () Set.univ unsaid := fun t => by
  rw [bigSep_W0, bigSep_W0, defs_row]
  exact triple_restated (body_called m c t) rfl .rfl fun _ => .rfl

set_option backward.isDefEq.respectTransparency.types false in
/-- The launch: every execution ends, with the arrays as the data say and every semaphore counter at zero. -/
theorem run_all : θ_run defs (onTc (τ := τ) (main (F := F))) (s₀ m ρ)
    (fun r => Pipeline.RDat.FramePost cfg0 (fun c => (data m 0 c).toRForget unsaid) (V m) r ∧ r.2.sem = fun _ => 0) :=
  Pipeline.θ_run_frame_forget (Q' := _) cfgs (data m) (0 : Fin 1) launch0 defs₀ Variants.none unsaid m ρ main
    (hbody := fun c => (obligation m c).loose) (hshare := fun c => (data m 0 c).share_full fun _ => rfl)
    (howed := fun _ _ => rfl) (V := V m) (hmain := hmain m Variants.none) (hA := data_A m) (hΦ := fun _ _ => rfl) (hQ' := fun _ h => h)

/-- What an execution leaves: the arguments as they were, the tails as the data say. -/
theorem run_tails : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.mem ((c.tc : Thread nD τ).loc main_v23_1) = (data m 0 c).arrAt 9 cfg0.N
      ∧ r.2.mem ((c.tc : Thread nD τ).loc main_v23_3) = (data m 0 c).arrAt 11 cfg0.N)
      ∧ r.2.sem = fun _ => 0) := by
  refine (θ_run defs _ _).mono (fun r h => ⟨fun c => ⟨⟨?_, ?_, ?_, ?_, ?_, ?_⟩, ?_, ?_⟩, h.2⟩) (run_all m ρ)
  · exact ((h.1 c).2 main_arg0 (Pipeline.mem_restRefs_of main_arg0 (by decide) (by decide))).trans (V_main_arg0 m c)
  · exact (Pipeline.RDat.FramePost.arr_in h.1 c 4 rfl).trans (V_main_arg1 m c)
  · exact ((h.1 c).2 main_arg2 (Pipeline.mem_restRefs_of main_arg2 (by decide) (by decide))).trans (V_main_arg2 m c)
  · exact ((h.1 c).2 main_arg3 (Pipeline.mem_restRefs_of main_arg3 (by decide) (by decide))).trans (V_main_arg3 m c)
  · exact ((h.1 c).2 main_arg4 (Pipeline.mem_restRefs_of main_arg4 (by decide) (by decide))).trans (V_main_arg4 m c)
  · exact (Pipeline.RDat.FramePost.arr_in h.1 c 5 rfl).trans (V_main_arg5 m c)
  · exact ((data m 0 c).toRForget_arrAt_iff (by decide : unsaid 9 = false) _ _).mp ((h.1 c).1 9)
  · exact ((data m 0 c).toRForget_arrAt_iff (by decide : unsaid 11 = false) _ _).mp ((h.1 c).1 11)

end Cert.Proof.Tail8

end
-- ==== Proof.TailVal8.lean ====
/-
  The two tails of the prompts: the arrays the delta-rule call leaves are the reference's, the last rows of each stream.
-/
module

public import proofs.«01_k».proof.Proof.TailFrame8
public import proofs.«01_k».proof.Proof.Gen.Reference8Ideal.Read
public import proofs.«01_k».proof.Proof.Turn
public import Idealize.ShloMosaic.Lib.WholeRead

@[expose] public section

set_option maxRecDepth 16384

noncomputable section

namespace Cert.Proof.Tail8

open Cert.Kernel8Ideal Cert.Kernel8Ideal.Gen
open Idealize.ShloMosaic Idealize.ShloMosaic.TcCoe Idealize.ShloMosaic.Tactic Idealize.ShloMosaic.StableHlo
open Idealize.SL.Sem
open Idealize.ShloMosaic.ValueIdx
open Idealize.ShloMosaic.Pipeline (Dat)
open Cert.Proof.InProj (idx2_ext)

variable {F : FTy → Type} [FloatOps F]

/-- Two indices of a rank-3 array with the same coordinates are one. -/
theorem idx3_ext {n0 n1 n2 : Nat} (y z : (⟨3, ![n0, n1, n2]⟩ : Shape).Idx) (h0 : (y 0).val = (z 0).val) (h1 : (y 1).val = (z 1).val)
    (h2 : (y 2).val = (z 2).val) : y = z := funext fun a => by
  match a with
  | ⟨0, _⟩ => exact Fin.ext h0
  | ⟨1, _⟩ => exact Fin.ext h1
  | ⟨2, _⟩ => exact Fin.ext h2

/-! ## The two tails of the projected rows -/

/-- The last three rows of each stream, in the convolution's columns. -/
def convs (x : (⟨S33792x2956, .f32⟩ : BufTy).Contents (Elt F)) : (⟨S4x3x1152, .f32⟩ : BufTy).Contents (Elt F) := fun (i : S4x3x1152.Idx) =>
  x (ix2 (n0 := 33792) (n1 := 2956) ⟨0 + ((i 0).val * 8192 + (8189 + (i 1).val)), by have h0 : (i 0).val < 4 := (i 0).isLt; have h1 : (i 1).val < 3 := (i 1).isLt; omega⟩
    ⟨(i 2).val, by have h2 : (i 2).val < 1152 := (i 2).isLt; omega⟩)

/-- The last two rows of each stream, the product of the short convolution's two groups of columns. -/
def shorts (x : (⟨S33792x2956, .f32⟩ : BufTy).Contents (Elt F)) : (⟨S4x2x256, .f32⟩ : BufTy).Contents (Elt F) := fun (i : S4x2x256.Idx) =>
  FloatOps.mulf (φ := .f32)
    (x (ix2 (n0 := 33792) (n1 := 2956) ⟨0 + ((i 0).val * 8192 + (8190 + (i 1).val)), by have h0 : (i 0).val < 4 := (i 0).isLt; have h1 : (i 1).val < 2 := (i 1).isLt; omega⟩
      ⟨2444 + (i 2).val, by have h2 : (i 2).val < 256 := (i 2).isLt; omega⟩))
    (x (ix2 (n0 := 33792) (n1 := 2956) ⟨0 + ((i 0).val * 8192 + (8190 + (i 1).val)), by have h0 : (i 0).val < 4 := (i 0).isLt; have h1 : (i 1).val < 2 := (i 1).isLt; omega⟩
      ⟨2700 + (i 2).val, by have h2 : (i 2).val < 256 := (i 2).isLt; omega⟩))

section Reference
open Cert.Reference8Ideal.Read

/-- The reference's streams at an index. -/
theorem streams_apply (x : (⟨S33792x2956, .f32⟩ : BufTy).Contents (Elt F)) (b : Fin 4) (r : Fin 8192) (q : Fin 2956)
    (i : Cert.Reference8Ideal.S4x8192x2956.Idx) (h0 : (i 0).val = b.val) (h1 : (i 1).val = r.val) (h2 : (i 2).val = q.val) :
    val_main_v1 (F := F) x i = x (ix2 (n0 := 33792) (n1 := 2956) ⟨0 + (b.val * 8192 + r.val), by omega⟩ q) := by
  have hb : b.val < 4 := b.isLt
  have hr : r.val < 8192 := r.isLt
  have hq : q.val < 2956 := q.isLt
  rw [val_main_v1_apply, val_main_v0_apply]
  refine congrArg x (idx2_ext (n0 := 33792) (n1 := 2956) _ _ ?_ ?_)
  · show (((i 0).val * 8192 + (i 1).val) * 2956 + (i 2).val) / 2956 = 0 + (b.val * 8192 + r.val)
    rw [h0, h1, h2]; omega
  · show (((i 0).val * 8192 + (i 1).val) * 2956 + (i 2).val) % 2956 = q.val
    rw [h0, h1, h2]; omega

/-- The reference's first result is the convolution's tail. -/
theorem ref_conv (x : (⟨S33792x2956, .f32⟩ : BufTy).Contents (Elt F))  : val_main_v8 (F := F) x  = convs x := by
  refine funext fun (i : S4x3x1152.Idx) => ?_
  have h0 : (i 0).val < 4 := (i 0).isLt
  have h1 : (i 1).val < 3 := (i 1).isLt
  have h2 : (i 2).val < 1152 := (i 2).isLt
  rw [val_main_v8_apply]
  unfold val_main_v7
  refine (concatenate_pair_apply_right (t := Cert.Reference8Ideal.S4x8195x1152) 1 _ _ Cert.Reference8Ideal.Gen.facts.concatenates_S4x3x1152_S4x8192x1152_S4x8195x1152_d1 _ rfl rfl
    (ix3 (n0 := 4) (n1 := 8192) (n2 := 1152) ⟨(i 0).val, h0⟩ ⟨8189 + (i 1).val, by omega⟩ ⟨(i 2).val, h2⟩) ?_ ?_).trans ?_
  · intro a ha; match a with
    | ⟨0, _⟩ => rfl
    | ⟨1, _⟩ => exact absurd rfl ha
    | ⟨2, _⟩ => rfl
  · show 8189 + (i 1).val + 3 = 8192 + (i 1).val; omega
  · rw [val_main_v6_apply]
    exact streams_apply x ⟨(i 0).val, h0⟩ ⟨8189 + (i 1).val, by omega⟩ ⟨(i 2).val, by omega⟩ _ rfl rfl rfl

/-- The reference's second result is the short convolution's tail. -/
theorem ref_short (x : (⟨S33792x2956, .f32⟩ : BufTy).Contents (Elt F))  : val_main_v11 (F := F) x  = shorts x := by
  refine funext fun (i : S4x2x256.Idx) => ?_
  have h0 : (i 0).val < 4 := (i 0).isLt
  have h1 : (i 1).val < 2 := (i 1).isLt
  have h2 : (i 2).val < 256 := (i 2).isLt
  rw [val_main_v11_apply]
  unfold val_main_v10
  refine (concatenate_pair_apply_right (t := Cert.Reference8Ideal.S4x8194x256) 1 _ _ Cert.Reference8Ideal.Gen.facts.concatenates_S4x2x256_S4x8192x256_S4x8194x256_d1 _ rfl rfl
    (ix3 (n0 := 4) (n1 := 8192) (n2 := 256) ⟨(i 0).val, h0⟩ ⟨8190 + (i 1).val, by omega⟩ ⟨(i 2).val, h2⟩) ?_ ?_).trans ?_
  · intro a ha; match a with
    | ⟨0, _⟩ => rfl
    | ⟨1, _⟩ => exact absurd rfl ha
    | ⟨2, _⟩ => rfl
  · show 8190 + (i 1).val + 2 = 8192 + (i 1).val; omega
  · rw [val_main_v9_apply, val_main_v4_apply, val_main_v5_apply]
    exact congrArg₂ (FloatOps.mulf (φ := .f32))
      (streams_apply x ⟨(i 0).val, h0⟩ ⟨8190 + (i 1).val, by omega⟩ ⟨2444 + (i 2).val, by omega⟩ _ rfl rfl rfl)
      (streams_apply x ⟨(i 0).val, h0⟩ ⟨8190 + (i 1).val, by omega⟩ ⟨2700 + (i 2).val, by omega⟩ _ rfl rfl rfl)

end Reference

/-! ## The program's arrays -/

section Run
variable (m : (ℓ : Loc nD τ sig) → Buf (Elt F) ℓ) (c : Dev nD)

/-- The projected rows, as launched. -/
abbrev rowsIn : (⟨S33792x2956, .f32⟩ : BufTy).Contents (Elt F) := m ((c : Thread nD τ).loc main_arg0)

/-- The pieces the call's rows are made of. -/
abbrev pieces (x : (⟨S33792x2956, .f32⟩ : BufTy).Contents (Elt F)) : List ((s : Shape) × (s.Idx → Elt F .f32)) :=
    [⟨S33792x1536, (extractStridedSlice S33792x1536 ![0, 0] x slices_S33792x2956_S33792x1536_0_0 : (⟨S33792x1536, .f32⟩ : BufTy).Contents (Elt F))⟩,
     ⟨S33792x768, (extractStridedSlice S33792x768 ![0, 2188] x slices_S33792x2956_S33792x768_0_2188 : (⟨S33792x768, .f32⟩ : BufTy).Contents (Elt F))⟩,
     ⟨S33792x640, (extractStridedSlice S33792x640 ![0, 1548] x slices_S33792x2956_S33792x640_0_1548 : (⟨S33792x640, .f32⟩ : BufTy).Contents (Elt F))⟩,
     ⟨S33792x128, (concatenate S33792x128 1
        [⟨S33792x12, (extractStridedSlice S33792x12 ![0, 1536] x slices_S33792x2956_S33792x12_0_1536 : (⟨S33792x12, .f32⟩ : BufTy).Contents (Elt F))⟩,
         ⟨S33792x116, (broadcastInDim S33792x116 ![] bcast_S_S33792x116 (constant S_ .f32 0x00000000#32) : (⟨S33792x116, .f32⟩ : BufTy).Contents (Elt F))⟩]
        concatenates_S33792x12_S33792x116_S33792x128_d1 : (⟨S33792x128, .f32⟩ : BufTy).Contents (Elt F))⟩]

/-- The call's rows are the projected rows, their columns regrouped. -/
theorem V_rows : V m c main_v6 = concatenate S33792x3072 1 (pieces (rowsIn m c))
    concatenates_S33792x1536_S33792x768_S33792x640_S33792x128_S33792x3072_d1 := by
  unfold V
  after_results <;> rfl

/-- The first columns are the projected rows' own. -/
theorem cols_first (r : Fin 33792) (q : Fin 1536) : (V m c main_v6 : S33792x3072.Idx → Elt F .f32) (ix2 (n0 := 33792) (n1 := 3072) r ⟨q.val, by omega⟩)
    = rowsIn m c (ix2 (n0 := 33792) (n1 := 2956) r ⟨q.val, by omega⟩) := by
  rw [V_rows]
  refine (concatenate_apply_piece (t := S33792x3072) 1 (pieces (rowsIn m c)) _ _ 0 (show 0 < 4 by decide) S33792x1536 _ rfl rfl 0 rfl (ix2 (n0 := 33792) (n1 := 1536) r q) ?_ (Nat.zero_add _)).trans ?_
  · intro b hb; match b with
    | ⟨0, _⟩ => rfl
    | ⟨1, _⟩ => exact absurd rfl hb
  · refine congrArg (rowsIn m c) (idx2_ext (n0 := 33792) (n1 := 2956) _ _ ?_ ?_)
    · show 0 + r.val = r.val; omega
    · show 0 + q.val = q.val; omega

/-- The next columns are the projected rows' last. -/
theorem cols_last (r : Fin 33792) (q : Fin 768) : (V m c main_v6 : S33792x3072.Idx → Elt F .f32) (ix2 (n0 := 33792) (n1 := 3072) r ⟨1536 + q.val, by omega⟩)
    = rowsIn m c (ix2 (n0 := 33792) (n1 := 2956) r ⟨2188 + q.val, by omega⟩) := by
  rw [V_rows]
  refine (concatenate_apply_piece (t := S33792x3072) 1 (pieces (rowsIn m c)) _ _ 1 (show 1 < 4 by decide) S33792x768 _ rfl rfl 1536 rfl (ix2 (n0 := 33792) (n1 := 768) r q) ?_ rfl).trans ?_
  · intro b hb; match b with
    | ⟨0, _⟩ => rfl
    | ⟨1, _⟩ => exact absurd rfl hb
  · refine congrArg (rowsIn m c) (idx2_ext (n0 := 33792) (n1 := 2956) _ _ ?_ ?_)
    · show 0 + r.val = r.val; omega
    · show 2188 + q.val = 2188 + q.val; rfl

/-- The same, at a column given by its number. -/
theorem cols_at (r : Fin 33792) (q : Fin 768) (n : Fin 3072) (hn : n.val = 1536 + q.val) :
    (V m c main_v6 : S33792x3072.Idx → Elt F .f32) (ix2 (n0 := 33792) (n1 := 3072) r n)
    = rowsIn m c (ix2 (n0 := 33792) (n1 := 2956) r ⟨2188 + q.val, by omega⟩) := by
  exact (congrArg (fun k : Fin 3072 => (V m c main_v6 : S33792x3072.Idx → Elt F .f32) (ix2 (n0 := 33792) (n1 := 3072) r k))
    (Fin.ext hn : n = ⟨1536 + q.val, by omega⟩)).trans (cols_last m c r q)

/-- The stream of a point's tails, and where the point's rows end when they are written back. -/
theorem map_val (t : Fin cfg0.N) : cc0_transform_9 (grid0.coords t) 0 < 4 ∧ cc0_transform_11 (grid0.coords t) 0 = cc0_transform_9 (grid0.coords t) 0
    ∧ ((cfg0.win 9).flush t = true → cc0_transform_0 (grid0.coords t) 0 * 256 + 256 = 0 + (cc0_transform_9 (grid0.coords t) 0 + 1) * 8192)
    ∧ ((cfg0.win 11).flush t = true → cc0_transform_0 (grid0.coords t) 0 * 256 + 256 = 0 + (cc0_transform_9 (grid0.coords t) 0 + 1) * 8192) := by
  revert t
  decide +kernel

/-- The rows' window takes every column. -/
theorem col_zero (t : Fin cfg0.N) : cc0_transform_0 (grid0.coords t) 1 = 0 := by
  revert t
  decide +kernel

/-- The point at which a stream's tails are written back. -/
abbrev lastPt (b : Fin 4) : Fin cfg0.N := ⟨b.val * 33 + 32, by show _ < 132; omega⟩

theorem last_val (b : Fin 4) : cc0_transform_9 (grid0.coords (lastPt b)) 0 = b.val ∧ (cfg0.win 9).flush (lastPt b) = true ∧ (cfg0.win 11).flush (lastPt b) = true := by
  revert b
  decide +kernel

/-- A point's rows are the projected rows', their columns regrouped. -/
theorem rows_at (t : Fin cfg0.N) (r : Fin 256) (q : Fin 3072) (n : Nat) (hn : cc0_transform_0 (grid0.coords t) 0 * 256 + r.val = n) (hlt : n < 33792) :
    (iblk m c 0 t : S256x3072.Idx → Elt F .f32) (ix2 (n0 := 256) (n1 := 3072) r q)
      = (V m c main_v6 : S33792x3072.Idx → Elt F .f32) (ix2 (n0 := 33792) (n1 := 3072) ⟨n, hlt⟩ q) := by
  refine congrArg (V m c main_v6 : S33792x3072.Idx → Elt F .f32) (idx2_ext (n0 := 33792) (n1 := 3072) _ _ ?_ ?_)
  · show cc0_transform_0 (grid0.coords t) 0 * 256 + 1 * r.val = n
    omega
  · show cc0_transform_0 (grid0.coords t) 1 * 3072 + 1 * q.val = q.val
    rw [col_zero t, Nat.zero_mul, Nat.zero_add, Nat.one_mul]

/-- Where an element of a tail's block lies in the array of tails. -/
theorem conv_emb (t : Fin cfg0.N) (y : S1x3x1152.Idx) : ((cfg0.win 9).blk t).view.emb y
    = ix3 (n0 := 4) (n1 := 3) (n2 := 1152) ⟨cc0_transform_9 (grid0.coords t) 0, (map_val t).1⟩ ⟨(y 1).val, (y 1).isLt⟩ ⟨(y 2).val, (y 2).isLt⟩ := by
  have h0 : (y 0).val < 1 := (y 0).isLt
  refine idx3_ext (n0 := 4) (n1 := 3) (n2 := 1152) _ _ ?_ ?_ ?_
  · show cc0_transform_9 (grid0.coords t) 0 * 1 + 1 * (y 0).val = cc0_transform_9 (grid0.coords t) 0
    omega
  · show cc0_transform_9 (grid0.coords t) 1 * 3 + 1 * (y 1).val = (y 1).val
    rw [show cc0_transform_9 (grid0.coords t) 1 = 0 from rfl]; omega
  · show cc0_transform_9 (grid0.coords t) 2 * 1152 + 1 * (y 2).val = (y 2).val
    rw [show cc0_transform_9 (grid0.coords t) 2 = 0 from rfl]; omega

theorem short_emb (t : Fin cfg0.N) (y : S1x2x256.Idx) : ((cfg0.win 11).blk t).view.emb y
    = ix3 (n0 := 4) (n1 := 2) (n2 := 256) ⟨cc0_transform_9 (grid0.coords t) 0, (map_val t).1⟩ ⟨(y 1).val, (y 1).isLt⟩ ⟨(y 2).val, (y 2).isLt⟩ := by
  have h0 : (y 0).val < 1 := (y 0).isLt
  refine idx3_ext (n0 := 4) (n1 := 2) (n2 := 256) _ _ ?_ ?_ ?_
  · show cc0_transform_11 (grid0.coords t) 0 * 1 + 1 * (y 0).val = cc0_transform_9 (grid0.coords t) 0
    rw [(map_val t).2.1]; omega
  · show cc0_transform_11 (grid0.coords t) 1 * 2 + 1 * (y 1).val = (y 1).val
    rw [show cc0_transform_11 (grid0.coords t) 1 = 0 from rfl]; omega
  · show cc0_transform_11 (grid0.coords t) 2 * 256 + 1 * (y 2).val = (y 2).val
    rw [show cc0_transform_11 (grid0.coords t) 2 = 0 from rfl]; omega

/-- A point that writes back its convolution tail writes the stream's. -/
theorem conv_flushed (t : Fin cfg0.N) (hf : (cfg0.win 9).flush t = true) :
    (data m 0 c).flushed 9 t = ((cfg0.win 9).blk t).view.read (Elt F) (convs (rowsIn m c)) := by
  refine funext fun (y : S1x3x1152.Idx) => ?_
  have hm := (map_val t).2.2.1 hf
  have hb := (map_val t).1
  have h1 : (y 1).val < 3 := (y 1).isLt
  have h2 : (y 2).val < 1152 := (y 2).isLt
  refine Eq.trans ?_ (congrArg (convs (rowsIn m c)) (conv_emb t y)).symm
  show (data m 0 c).after 9 t ((cfg0.win 9).xinj _ y) = _
  rw [after_conv]
  show (iblk m c 0 t : S256x3072.Idx → Elt F .f32) (ix2 (n0 := 256) (n1 := 3072) ⟨253 + (y 1).val, _⟩ ⟨(y 2).val, _⟩) = _
  refine (rows_at m c t _ _ (0 + (cc0_transform_9 (grid0.coords t) 0 * 8192 + (8189 + (y 1).val))) ?_ (by omega)).trans ?_
  · show cc0_transform_0 (grid0.coords t) 0 * 256 + (253 + (y 1).val) = _
    omega
  · exact cols_first m c _ ⟨(y 2).val, by omega⟩

/-- A point that writes back its short tail writes the stream's. -/
theorem short_flushed (t : Fin cfg0.N) (hf : (cfg0.win 11).flush t = true) :
    (data m 0 c).flushed 11 t = ((cfg0.win 11).blk t).view.read (Elt F) (shorts (rowsIn m c)) := by
  refine funext fun (y : S1x2x256.Idx) => ?_
  have hm := (map_val t).2.2.2 hf
  have hb := (map_val t).1
  have h1 : (y 1).val < 2 := (y 1).isLt
  have h2 : (y 2).val < 256 := (y 2).isLt
  refine Eq.trans ?_ (congrArg (shorts (rowsIn m c)) (short_emb t y)).symm
  show (data m 0 c).after 11 t ((cfg0.win 11).xinj _ y) = _
  rw [after_short]
  show FloatOps.mulf (φ := .f32) ((iblk m c 0 t : S256x3072.Idx → Elt F .f32) (ix2 (n0 := 256) (n1 := 3072) ⟨254 + (y 1).val, _⟩ ⟨1792 + (y 2).val, _⟩))
    ((iblk m c 0 t : S256x3072.Idx → Elt F .f32) (ix2 (n0 := 256) (n1 := 3072) ⟨254 + (y 1).val, _⟩ ⟨2048 + (y 2).val, _⟩)) = _
  have hr : cc0_transform_0 (grid0.coords t) 0 * 256 + (254 + (y 1).val) = 0 + (cc0_transform_9 (grid0.coords t) 0 * 8192 + (8190 + (y 1).val)) := by omega
  refine congrArg₂ (FloatOps.mulf (φ := .f32)) ?_ ?_
  · refine (rows_at m c t _ _ (0 + (cc0_transform_9 (grid0.coords t) 0 * 8192 + (8190 + (y 1).val))) hr (by omega)).trans ?_
    refine (cols_at m c _ ⟨256 + (y 2).val, by omega⟩ _ (show 1792 + (y 2).val = 1536 + (256 + (y 2).val) by omega)).trans ?_
    exact congrArg (rowsIn m c) (idx2_ext (n0 := 33792) (n1 := 2956) (ix2 (n0 := 33792) (n1 := 2956) _ _) (ix2 (n0 := 33792) (n1 := 2956) _ _) rfl (show 2188 + (256 + (y 2).val) = 2444 + (y 2).val by omega))
  · refine (rows_at m c t _ _ (0 + (cc0_transform_9 (grid0.coords t) 0 * 8192 + (8190 + (y 1).val))) hr (by omega)).trans ?_
    refine (cols_at m c _ ⟨512 + (y 2).val, by omega⟩ _ (show 2048 + (y 2).val = 1536 + (512 + (y 2).val) by omega)).trans ?_
    exact congrArg (rowsIn m c) (idx2_ext (n0 := 33792) (n1 := 2956) (ix2 (n0 := 33792) (n1 := 2956) _ _) (ix2 (n0 := 33792) (n1 := 2956) _ _) rfl (show 2188 + (512 + (y 2).val) = 2700 + (y 2).val by omega))

/-- The convolution tails the call leaves. -/
theorem conv_eq : (data m 0 c).arrAt 9 cfg0.N = convs (rowsIn m c) := by
  refine funext fun (i : S4x3x1152.Idx) => ?_
  have h0 : (i 0).val < 4 := (i 0).isLt
  have hl := last_val ⟨(i 0).val, h0⟩
  have he : ((cfg0.win 9).blk (lastPt ⟨(i 0).val, h0⟩)).view.emb (ix3 (n0 := 1) (n1 := 3) (n2 := 1152) 0 ⟨(i 1).val, (i 1).isLt⟩ ⟨(i 2).val, (i 2).isLt⟩) = i := by
    rw [conv_emb]
    exact idx3_ext (n0 := 4) (n1 := 3) (n2 := 1152) _ _ hl.1 rfl rfl
  exact (data m 0 c).arrAt_apply_of_mem 9 (convs (rowsIn m c)) (fun t hf => conv_flushed m c t hf) cfg0.N
    (lastPt ⟨(i 0).val, h0⟩) i (lastPt ⟨(i 0).val, h0⟩).isLt hl.2.1 (by
      have := ((cfg0.win 9).blk (lastPt ⟨(i 0).val, h0⟩)).view.emb_mem_set (ix3 (n0 := 1) (n1 := 3) (n2 := 1152) 0 ⟨(i 1).val, (i 1).isLt⟩ ⟨(i 2).val, (i 2).isLt⟩)
      rwa [he] at this)

/-- The short tails the call leaves. -/
theorem short_eq : (data m 0 c).arrAt 11 cfg0.N = shorts (rowsIn m c) := by
  refine funext fun (i : S4x2x256.Idx) => ?_
  have h0 : (i 0).val < 4 := (i 0).isLt
  have hl := last_val ⟨(i 0).val, h0⟩
  have he : ((cfg0.win 11).blk (lastPt ⟨(i 0).val, h0⟩)).view.emb (ix3 (n0 := 1) (n1 := 2) (n2 := 256) 0 ⟨(i 1).val, (i 1).isLt⟩ ⟨(i 2).val, (i 2).isLt⟩) = i := by
    rw [short_emb]
    exact idx3_ext (n0 := 4) (n1 := 2) (n2 := 256) _ _ hl.1 rfl rfl
  exact (data m 0 c).arrAt_apply_of_mem 11 (shorts (rowsIn m c)) (fun t hf => short_flushed m c t hf) cfg0.N
    (lastPt ⟨(i 0).val, h0⟩) i (lastPt ⟨(i 0).val, h0⟩).isLt hl.2.2 (by
      have := ((cfg0.win 11).blk (lastPt ⟨(i 0).val, h0⟩)).view.emb_mem_set (ix3 (n0 := 1) (n1 := 2) (n2 := 256) 0 ⟨(i 1).val, (i 1).isLt⟩ ⟨(i 2).val, (i 2).isLt⟩)
      rwa [he] at this)

/-- Every execution ends with the tails at the reference's values and the arguments unchanged. -/
theorem run_vals (ρ : Dev nD → PrngReg) :
    θ_run (defs (F := F)) (onTc (τ := τ) (main (F := F))) ⟨m, fun _ => 0, ρ⟩ (fun r => ∀ c : Dev nD,
      r.2.mem ((c.tc : Thread nD τ).loc main_v23_1) = Cert.Reference8Ideal.Read.val_main_v8 (F := F) (rowsIn m c)
      ∧ r.2.mem ((c.tc : Thread nD τ).loc main_v23_3) = Cert.Reference8Ideal.Read.val_main_v11 (F := F) (rowsIn m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run defs _ _).mono (fun r h c => ?_) (run_tails m ρ)
  obtain ⟨ha, hc, hs⟩ := h.1 c
  exact ⟨hc.trans ((conv_eq m c).trans (ref_conv _).symm), hs.trans ((short_eq m c).trans (ref_short _).symm), ha⟩

end Run

end Cert.Proof.Tail8

end
-- ==== Proof.TailRun9.lean ====
/-
  The delta-rule body of the samples run at one grid point: the inputs' blocks stay, the two tails are the last rows of the block,
  and everything else ends at some contents.
-/
module

public import proofs.«01_k».proof.Kernel9Ideal
public import proofs.«01_k».proof.Proof.Gen.Kernel9Ideal
public import proofs.«01_k».proof.Proof.Gen.Kernel9Ideal.Skeleton
public import proofs.«01_k».proof.Proof.Gen.Kernel9Ideal.Launch
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp
public import Idealize.ShloMosaic.Lib.VecWindow
public import Idealize.ShloMosaic.Lib.ValueLayout
public import Idealize.ShloMosaic.Lib.ValueIdx

@[expose] public section

set_option maxRecDepth 65536

noncomputable section

namespace Cert.Proof.Tail9

open Cert.Kernel9Ideal Cert.Kernel9Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ (UR sig nD τ) ℕ

/-- The last three rows of a block's first columns: what the next point's convolution needs of it. -/
def convTail (x : Vec F S64x3072 .f32) : Vec F S1x3x1152 .f32 :=
  fun j => x (ix2 (n0 := 64) (n1 := 3072) ⟨61 + (j (1 : Fin 3)).val, by have := (j (1 : Fin 3)).isLt; change _ < 3 at this; omega⟩
    ⟨(j (2 : Fin 3)).val, by have := (j (2 : Fin 3)).isLt; change _ < 1152 at this; omega⟩)

/-- The last two rows of the product of two groups of columns: what the next point's short convolution needs of it. -/
def shortTail (x : Vec F S64x3072 .f32) : Vec F S1x2x256 .f32 :=
  fun j => FloatOps.mulf (φ := .f32)
    (x (ix2 (n0 := 64) (n1 := 3072) ⟨62 + (j (1 : Fin 3)).val, by have := (j (1 : Fin 3)).isLt; change _ < 2 at this; omega⟩
      ⟨1792 + (j (2 : Fin 3)).val, by have := (j (2 : Fin 3)).isLt; change _ < 256 at this; omega⟩))
    (x (ix2 (n0 := 64) (n1 := 3072) ⟨62 + (j (1 : Fin 3)).val, by have := (j (1 : Fin 3)).isLt; change _ < 2 at this; omega⟩
      ⟨2048 + (j (2 : Fin 3)).val, by have := (j (2 : Fin 3)).isLt; change _ < 256 at this; omega⟩))

/-- The last rows read back from the scratch buffer, whose newest store was the block's first columns, are the tail. -/
theorem conv_read (a2 : Memref sig .tc .vmem S64x3072 .f32) (a14 : Memref sig .tc .vmem S72x1152 .f32) (x : Vec F S64x3072 .f32)
    (p : View.Piece (Elt F) S72x1152 .f32) :
    k0_pay167 (a14.view.readCov (Val := Elt F) [⟨Rect.unit ![8, 0] S64x1152.size inb_S72x1152_S64x1152_8_0,
        k0_pay44 (View.readAt (Elt F) a2.view (Rect.unit (s := S64x3072) ![0, 0] S64x1152.size inb_S64x3072_S64x1152_0_0).toLoadRect (a2.view.rep x))⟩, p]
      (Rect.unit (s := S72x1152) ![69, 0] S3x1152.size inb_S72x1152_S3x1152_69_0).toLoadRect) = convTail x := by
  funext j
  obtain ⟨u, a, b, rfl⟩ : ∃ u a b, j = ix3 (n0 := 1) (n1 := 3) (n2 := 1152) u a b := ⟨_, _, _, eq_ix3 j⟩
  unfold k0_pay167
  rw [show k0_pay44 (View.readAt (Elt F) a2.view (Rect.unit (s := S64x3072) ![0, 0] S64x1152.size inb_S64x3072_S64x1152_0_0).toLoadRect (a2.view.rep x))
      = View.readAt (Elt F) a2.view (Rect.unit (s := S64x3072) ![0, 0] S64x1152.size inb_S64x3072_S64x1152_0_0).toLoadRect (a2.view.rep x) from
    (shapeCast_self _ _).trans (shapeCast_self _ _)]
  refine (shapeCast_ab_1ab_apply _ _ u a b).trans ?_
  refine (View.read_writes_cons_unit_of_mem a14.view a14.view.junk inb_S72x1152_S64x1152_8_0 _ [p] _ (ix2 (n0 := 64) (n1 := 1152) ⟨61 + a.val, by omega⟩ b) rfl ?_).trans ?_
  · intro d
    fin_cases d
    · show 69 + 1 * a.val = 8 + (61 + a.val); omega
    · show 0 + 1 * b.val = 0 + b.val; omega
  · rw [View.readAt_rep_unit a2.view x inb_S64x3072_S64x1152_0_0 rfl inb_S64x3072_S64x1152_0_0]
    refine congrArg x (funext fun d => Fin.ext ?_)
    fin_cases d
    · show 0 + 1 * (61 + a.val) = 61 + a.val; omega
    · show 0 + 1 * b.val = b.val; omega

/-- The last rows read back from the scratch buffer, whose newest store was the product of two groups of columns, are the tail. -/
theorem short_read (a2 : Memref sig .tc .vmem S64x3072 .f32) (a15 : Memref sig .tc .vmem S72x256 .f32) (x : Vec F S64x3072 .f32)
    (p : View.Piece (Elt F) S72x256 .f32) :
    k0_pay169 (a15.view.readCov (Val := Elt F) [⟨Rect.unit ![8, 0] S64x256.size inb_S72x256_S64x256_8_0,
        k0_pay46 (k0_pay45 (View.readAt (Elt F) a2.view (Rect.unit (s := S64x3072) ![0, 1792] S64x256.size inb_S64x3072_S64x256_0_1792).toLoadRect (a2.view.rep x)))
          (View.readAt (Elt F) a2.view (Rect.unit (s := S64x3072) ![0, 2048] S64x256.size inb_S64x3072_S64x256_0_2048).toLoadRect (a2.view.rep x))⟩, p]
      (Rect.unit (s := S72x256) ![70, 0] S2x256.size inb_S72x256_S2x256_70_0).toLoadRect) = shortTail x := by
  funext j
  obtain ⟨u, a, b, rfl⟩ : ∃ u a b, j = ix3 (n0 := 1) (n1 := 2) (n2 := 256) u a b := ⟨_, _, _, eq_ix3 j⟩
  have e (v w : Vec F S64x256 .f32) : k0_pay46 (k0_pay45 v) w = mulf (φ := .f32) v w :=
    (shapeCast_self _ _).trans (congrArg₂ (fun p q : FVec F S64x256 .f32 => mulf p q) (shapeCast_self _ _) (shapeCast_self _ _))
  rw [e]
  unfold k0_pay169
  refine (shapeCast_ab_1ab_apply _ _ u a b).trans ?_
  refine (View.read_writes_cons_unit_of_mem a15.view a15.view.junk inb_S72x256_S64x256_8_0 _ [p] _ (ix2 (n0 := 64) (n1 := 256) ⟨62 + a.val, by omega⟩ b) rfl ?_).trans ?_
  · intro d
    fin_cases d
    · show 70 + 1 * a.val = 8 + (62 + a.val); omega
    · show 0 + 1 * b.val = 0 + b.val; omega
  · rw [View.readAt_rep_unit a2.view x inb_S64x3072_S64x256_0_1792 rfl inb_S64x3072_S64x256_0_1792,
      View.readAt_rep_unit a2.view x inb_S64x3072_S64x256_0_2048 rfl inb_S64x3072_S64x256_0_2048]
    refine congrArg₂ (FloatOps.mulf (φ := .f32)) (congrArg x (funext fun d => Fin.ext ?_)) (congrArg x (funext fun d => Fin.ext ?_))
    · fin_cases d
      · show 0 + 1 * (62 + a.val) = 62 + a.val; omega
      · show 1792 + 1 * b.val = 1792 + b.val; omega
    · fin_cases d
      · show 0 + 1 * (62 + a.val) = 62 + a.val; omega
      · show 2048 + 1 * b.val = 2048 + b.val; omega

/-- A buffer's contents stated by what its memref reads. -/
theorem read_rep_of (c : Dev nD) {sp : Space} {S : Shape} {e : EltTy} (M : Memref sig .tc sp S e) (f : Buf (Elt F) (M.view.loc (c : Thread nD τ)))
    (X : S.Idx → Elt F e) (h : M.view.read (Elt F) f = X) :
    (M.view.loc (c : Thread nD τ) ↦[M.view.set]{fullShare} f : sProp 𝕄) ⊢ (M.view.loc (c : Thread nD τ) ↦[M.view.set]{fullShare} M.view.rep X) := by
  rw [← owns_eq_rep (c : Thread nD τ) M fullShare X]
  unfold owns
  iintro H
  iexists f
  isplitr
  · ipureintro; exact h
  iexact H

/-- A buffer held at some contents, stated by what its memref reads of them. -/
theorem some_rep (c : Dev nD) {sp : Space} {S : Shape} {e : EltTy} (M : Memref sig .tc sp S e) (f : Buf (Elt F) (M.view.loc (c : Thread nD τ))) :
    (M.view.loc (c : Thread nD τ) ↦[M.view.set]{fullShare} f : sProp 𝕄)
      ⊢ iprop(∃ y, M.view.loc (c : Thread nD τ) ↦[M.view.set]{fullShare} M.view.rep y) := by
  iintro H
  iexists M.view.read (Elt F) f
  iapply (read_rep_of c M f _ rfl)
  iexact H

set_option sl_exec.whnfOffsets true in
set_option maxHeartbeats 4000000 in
/-- The body at the first point. -/
theorem run_first (c : Dev nD) (i : grid0.Coords) (arg2 : Memref sig .tc .vmem S64x3072 .f32) (harg2 : arg2.IsWhole) (arg3 : Memref sig .tc .vmem S1x3x1152 .f32) (harg3 : arg3.IsWhole) (arg4 : Memref sig .tc .vmem S1x6x64x64 .f32) (harg4 : arg4.IsWhole) (arg5 : Memref sig .tc .vmem S1x2x256 .f32) (harg5 : arg5.IsWhole) (arg6 : Memref sig .tc .vmem S4x1152 .f32) (harg6 : arg6.IsWhole) (arg7 : Memref sig .tc .vmem S3x256 .f32) (harg7 : arg7.IsWhole) (arg8 : Memref sig .tc .vmem S8x128 .f32) (harg8 : arg8.IsWhole) (arg9 : Memref sig .tc .vmem S1x384 .f32) (harg9 : arg9.IsWhole) (arg10 : Memref sig .tc .vmem S64x1024 .f32) (harg10 : arg10.IsWhole) (arg11 : Memref sig .tc .vmem S1x3x1152 .f32) (harg11 : arg11.IsWhole) (arg12 : Memref sig .tc .vmem S1x6x64x64 .f32) (harg12 : arg12.IsWhole) (arg13 : Memref sig .tc .vmem S1x2x256 .f32) (harg13 : arg13.IsWhole) (arg14 : Memref sig .tc .vmem S72x1152 .f32) (harg14 : arg14.IsWhole) (arg15 : Memref sig .tc .vmem S72x256 .f32) (harg15 : arg15.IsWhole) (arg16 : Memref sig .tc .vmem S3x128x128 .f32) (harg16 : arg16.IsWhole) (arg17 : Memref sig .tc .vmem S64x384 .f32) (harg17 : arg17.IsWhole) (arg18 : Memref sig .tc .vmem S2x7x64x384 .bf16) (harg18 : arg18.IsWhole) (arg19 : Memref sig .tc .vmem S2x2x64x384 .f32) (harg19 : arg19.IsWhole) (arg20 : Memref sig .tc .vmem S2x64x640 .f32) (harg20 : arg20.IsWhole) (x0 : Vec F S64x3072 .f32) (x1 : Vec F S1x3x1152 .f32) (x2 : Vec F S1x6x64x64 .f32) (x3 : Vec F S1x2x256 .f32) (x4 : Vec F S4x1152 .f32) (x5 : Vec F S3x256 .f32) (x6 : Vec F S8x128 .f32) (x7 : Vec F S1x384 .f32) (x8 : Vec F S64x1024 .f32) (x9 : Vec F S1x3x1152 .f32) (x10 : Vec F S1x6x64x64 .f32) (x11 : Vec F S1x2x256 .f32) (x12 : Vec F S72x1152 .f32) (x13 : Vec F S72x256 .f32) (x14 : Vec F S3x128x128 .f32) (x15 : Vec F S64x384 .f32) (x16 : Vec F S2x7x64x384 .bf16) (x17 : Vec F S2x2x64x384 .f32) (x18 : Vec F S2x64x640 .f32)
    (hf : Scalar.cmpi .ne (Scalar.extui (Scalar.cmpi .eq (BitVec.ofNat 32 (i 1).val) 0#32) : BitVec 32) 0#32 = 1#1) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ y, owns (c : Thread nD τ) arg10 fullShare y) ∗ owns (c : Thread nD τ) arg11 fullShare (convTail x0) ∗ (∃ y, owns (c : Thread nD τ) arg12 fullShare y) ∗ owns (c : Thread nD τ) arg13 fullShare (shortTail x0) ∗ (∃ y, owns (c : Thread nD τ) arg14 fullShare y) ∗ (∃ y, owns (c : Thread nD τ) arg15 fullShare y) ∗ (∃ y, owns (c : Thread nD τ) arg16 fullShare y) ∗ (∃ y, owns (c : Thread nD τ) arg17 fullShare y) ∗ (∃ y, owns (c : Thread nD τ) arg18 fullShare y) ∗ (∃ y, owns (c : Thread nD τ) arg19 fullShare y) ∗ (∃ y, owns (c : Thread nD τ) arg20 fullShare y)) -∗ K ⟨⟩))
      ⊢ wp frame (wpE (defs₀ (F := F)) Variants.none c none) E
          (cc0_gdn_sconv i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0_gdn_sconv_eq_skeleton]
  unfold cc0_gdn_sconv_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton]
  simp only [owns_eq_rep]
  iintro ⟨H0, H1, H2, H3, H4, H5, H6, H7, H8, H9, H10, H11, H12, H13, H14, H15, H16, H17, H18, Hk⟩
  sl_exec (disch := (with_unfolding_all exact hf))
  sl_step
  iapply Hk
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iapply (some_rep c arg10 _)
    iexact H8
  isplitl [H9]
  · iapply read_rep_of c arg11 ?f9 ?X9 ?h9
    rotate_left
    · iexact H9
    · exact (View.read_writes_full arg11.view _ _ _ _).trans (conv_read arg2 arg14 x0 _)
  isplitl [H10]
  · iapply (some_rep c arg12 _)
    iexact H10
  isplitl [H11]
  · iapply read_rep_of c arg13 ?f11 ?X11 ?h11
    rotate_left
    · iexact H11
    · exact (View.read_writes_full arg13.view _ _ _ _).trans (short_read arg2 arg15 x0 _)
  isplitl [H12]
  · iapply (some_rep c arg14 _)
    iexact H12
  isplitl [H13]
  · iapply (some_rep c arg15 _)
    iexact H13
  isplitl [H14]
  · iapply (some_rep c arg16 _)
    iexact H14
  isplitl [H15]
  · iapply (some_rep c arg17 _)
    iexact H15
  isplitl [H16]
  · iapply (some_rep c arg18 _)
    iexact H16
  isplitl [H17]
  · iapply (some_rep c arg19 _)
    iexact H17
  iapply (some_rep c arg20 _)
  iexact H18

set_option maxHeartbeats 4000000 in
/-- The body at a later point. -/
theorem run_later (c : Dev nD) (i : grid0.Coords) (arg2 : Memref sig .tc .vmem S64x3072 .f32) (harg2 : arg2.IsWhole) (arg3 : Memref sig .tc .vmem S1x3x1152 .f32) (harg3 : arg3.IsWhole) (arg4 : Memref sig .tc .vmem S1x6x64x64 .f32) (harg4 : arg4.IsWhole) (arg5 : Memref sig .tc .vmem S1x2x256 .f32) (harg5 : arg5.IsWhole) (arg6 : Memref sig .tc .vmem S4x1152 .f32) (harg6 : arg6.IsWhole) (arg7 : Memref sig .tc .vmem S3x256 .f32) (harg7 : arg7.IsWhole) (arg8 : Memref sig .tc .vmem S8x128 .f32) (harg8 : arg8.IsWhole) (arg9 : Memref sig .tc .vmem S1x384 .f32) (harg9 : arg9.IsWhole) (arg10 : Memref sig .tc .vmem S64x1024 .f32) (harg10 : arg10.IsWhole) (arg11 : Memref sig .tc .vmem S1x3x1152 .f32) (harg11 : arg11.IsWhole) (arg12 : Memref sig .tc .vmem S1x6x64x64 .f32) (harg12 : arg12.IsWhole) (arg13 : Memref sig .tc .vmem S1x2x256 .f32) (harg13 : arg13.IsWhole) (arg14 : Memref sig .tc .vmem S72x1152 .f32) (harg14 : arg14.IsWhole) (arg15 : Memref sig .tc .vmem S72x256 .f32) (harg15 : arg15.IsWhole) (arg16 : Memref sig .tc .vmem S3x128x128 .f32) (harg16 : arg16.IsWhole) (arg17 : Memref sig .tc .vmem S64x384 .f32) (harg17 : arg17.IsWhole) (arg18 : Memref sig .tc .vmem S2x7x64x384 .bf16) (harg18 : arg18.IsWhole) (arg19 : Memref sig .tc .vmem S2x2x64x384 .f32) (harg19 : arg19.IsWhole) (arg20 : Memref sig .tc .vmem S2x64x640 .f32) (harg20 : arg20.IsWhole) (x0 : Vec F S64x3072 .f32) (x1 : Vec F S1x3x1152 .f32) (x2 : Vec F S1x6x64x64 .f32) (x3 : Vec F S1x2x256 .f32) (x4 : Vec F S4x1152 .f32) (x5 : Vec F S3x256 .f32) (x6 : Vec F S8x128 .f32) (x7 : Vec F S1x384 .f32) (x8 : Vec F S64x1024 .f32) (x9 : Vec F S1x3x1152 .f32) (x10 : Vec F S1x6x64x64 .f32) (x11 : Vec F S1x2x256 .f32) (x12 : Vec F S72x1152 .f32) (x13 : Vec F S72x256 .f32) (x14 : Vec F S3x128x128 .f32) (x15 : Vec F S64x384 .f32) (x16 : Vec F S2x7x64x384 .bf16) (x17 : Vec F S2x2x64x384 .f32) (x18 : Vec F S2x64x640 .f32)
    (hf : ¬ Scalar.cmpi .ne (Scalar.extui (Scalar.cmpi .eq (BitVec.ofNat 32 (i 1).val) 0#32) : BitVec 32) 0#32 = 1#1) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ y, owns (c : Thread nD τ) arg10 fullShare y) ∗ owns (c : Thread nD τ) arg11 fullShare (convTail x0) ∗ (∃ y, owns (c : Thread nD τ) arg12 fullShare y) ∗ owns (c : Thread nD τ) arg13 fullShare (shortTail x0) ∗ (∃ y, owns (c : Thread nD τ) arg14 fullShare y) ∗ (∃ y, owns (c : Thread nD τ) arg15 fullShare y) ∗ (∃ y, owns (c : Thread nD τ) arg16 fullShare y) ∗ (∃ y, owns (c : Thread nD τ) arg17 fullShare y) ∗ (∃ y, owns (c : Thread nD τ) arg18 fullShare y) ∗ (∃ y, owns (c : Thread nD τ) arg19 fullShare y) ∗ (∃ y, owns (c : Thread nD τ) arg20 fullShare y)) -∗ K ⟨⟩))
      ⊢ wp frame (wpE (defs₀ (F := F)) Variants.none c none) E
          (cc0_gdn_sconv i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0_gdn_sconv_eq_skeleton]
  unfold cc0_gdn_sconv_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton]
  simp only [owns_eq_rep]
  iintro ⟨H0, H1, H2, H3, H4, H5, H6, H7, H8, H9, H10, H11, H12, H13, H14, H15, H16, H17, H18, Hk⟩
  sl_exec (disch := (with_unfolding_all exact hf))
  sl_step
  iapply Hk
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iapply (some_rep c arg10 _)
    iexact H8
  isplitl [H9]
  · iapply read_rep_of c arg11 ?f9 ?X9 ?h9
    rotate_left
    · iexact H9
    · exact (View.read_writes_full arg11.view _ _ _ _).trans (conv_read arg2 arg14 x0 _)
  isplitl [H10]
  · iapply (some_rep c arg12 _)
    iexact H10
  isplitl [H11]
  · iapply read_rep_of c arg13 ?f11 ?X11 ?h11
    rotate_left
    · iexact H11
    · exact (View.read_writes_full arg13.view _ _ _ _).trans (short_read arg2 arg15 x0 _)
  isplitl [H12]
  · iapply (some_rep c arg14 _)
    iexact H12
  isplitl [H13]
  · iapply (some_rep c arg15 _)
    iexact H13
  isplitl [H14]
  · iapply (some_rep c arg16 _)
    iexact H14
  isplitl [H15]
  · iapply (some_rep c arg17 _)
    iexact H15
  isplitl [H16]
  · iapply (some_rep c arg18 _)
    iexact H16
  isplitl [H17]
  · iapply (some_rep c arg19 _)
    iexact H17
  iapply (some_rep c arg20 _)
  iexact H18

end Cert.Proof.Tail9

end
-- ==== Proof.TailFrame9.lean ====
/-
  The delta-rule call of the samples at every grid point, and its run: the inputs' blocks stay, the two tails follow the block of
  the point, and the other buffers end at some contents.
-/
module

public import proofs.«01_k».proof.Proof.TailRun9
public import proofs.«01_k».proof.Proof.Gen.Kernel9Ideal.Frame
public import Idealize.ShloMosaic.Lib.Pipeline.Cells

@[expose] public section

set_option maxRecDepth 16384

noncomputable section

namespace Cert.Proof.Tail9

open Cert.Kernel9Ideal Cert.Kernel9Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The outputs nothing is said of: the outputs' rows and the states. -/
def unsaid (w : Fin cfg0.W) : Bool := w == 8 || w == 10

/-- The proof data: the inputs' blocks, and the two tails of the point's block. -/
def data (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => Classical.arbitrary _
    | ⟨9, _⟩ => convTail (iblk m c 0 t)
    | ⟨10, _⟩ => Classical.arbitrary _
    | ⟨11, _⟩ => shortTail (iblk m c 0 t)
  Φ _ := Pipeline.ΦA spec0 c
  q _ := fullShare
  owed _ := 0

theorem data_A (c : Dev nD) (w : Fin cfg0.W) : (data m 0 c).A w = V m c (Pipeline.arrRef spec0 w) := by
  dsimp only [data]

theorem after_0 (c : Dev nD) (t : Fin cfg0.N) : (data m 0 c).after 0 t = iblk m c 0 t := by dsimp only [data]; try rfl
theorem after_1 (c : Dev nD) (t : Fin cfg0.N) : (data m 0 c).after 1 t = iblk m c 1 t := by dsimp only [data]; try rfl
theorem after_2 (c : Dev nD) (t : Fin cfg0.N) : (data m 0 c).after 2 t = iblk m c 2 t := by dsimp only [data]; try rfl
theorem after_3 (c : Dev nD) (t : Fin cfg0.N) : (data m 0 c).after 3 t = iblk m c 3 t := by dsimp only [data]; try rfl
theorem after_4 (c : Dev nD) (t : Fin cfg0.N) : (data m 0 c).after 4 t = iblk m c 4 t := by dsimp only [data]; try rfl
theorem after_5 (c : Dev nD) (t : Fin cfg0.N) : (data m 0 c).after 5 t = iblk m c 5 t := by dsimp only [data]; try rfl
theorem after_6 (c : Dev nD) (t : Fin cfg0.N) : (data m 0 c).after 6 t = iblk m c 6 t := by dsimp only [data]; try rfl
theorem after_7 (c : Dev nD) (t : Fin cfg0.N) : (data m 0 c).after 7 t = iblk m c 7 t := by dsimp only [data]; try rfl
theorem after_conv (c : Dev nD) (t : Fin cfg0.N) : (data m 0 c).after 9 t = convTail (iblk m c 0 t) := by dsimp only [data]; try rfl
theorem after_short (c : Dev nD) (t : Fin cfg0.N) : (data m 0 c).after 11 t = shortTail (iblk m c 0 t) := by dsimp only [data]; try rfl

section Found
variable (c : Dev nD) (t : Fin cfg0.N)
theorem found_0 (d) : (data m 0 c).before 0 t d = iblk m c 0 t := before0_0_of m (data m 0 c) (data_A m c 0) (after_0 m c) t d
theorem found_1 (d) : (data m 0 c).before 1 t d = iblk m c 1 t := before0_1_of m (data m 0 c) (data_A m c 1) (after_1 m c) t d
theorem found_2 (d) : (data m 0 c).before 2 t d = iblk m c 2 t := before0_2_of m (data m 0 c) (data_A m c 2) (after_2 m c) t d
theorem found_3 (d) : (data m 0 c).before 3 t d = iblk m c 3 t := before0_3_of m (data m 0 c) (data_A m c 3) (after_3 m c) t d
theorem found_4 (d) : (data m 0 c).before 4 t d = iblk m c 4 t := before0_4_of m (data m 0 c) (data_A m c 4) (after_4 m c) t d
theorem found_5 (d) : (data m 0 c).before 5 t d = iblk m c 5 t := before0_5_of m (data m 0 c) (data_A m c 5) (after_5 m c) t d
theorem found_6 (d) : (data m 0 c).before 6 t d = iblk m c 6 t := before0_6_of m (data m 0 c) (data_A m c 6) (after_6 m c) t d
theorem found_7 (d) : (data m 0 c).before 7 t d = iblk m c 7 t := before0_7_of m (data m 0 c) (data_A m c 7) (after_7 m c) t d
end Found

/-- The scoped rest of the region: the seven scratch buffers at some contents, and the generator's register. -/
theorem rest_held (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d)) ∗ (∃ r, prngReg c r)) := by
  unfold Pipeline.ΦA
  rw [scopedRest0_eq]
  simp only [owns_whole]

theorem defs_row (t : Fin cfg0.N) :
    defs₀ (F := F) .tc cfg0.body (cfg0.bodyArgs t (cfg0.slots t)) = bodyAt0 t := by
  unfold defs₀; rw [Defs.onTc_tc]

section Body
variable (c : Dev nD) (t : Fin cfg0.N)

/-- What the body is called with at point `t`, window by window, -/
def called : sProp 𝕄 :=
  iprop((data m 0 c).Φ t.castSucc
    ∗ (data m 0 c).owesAt () t.castSucc
    ∗ (∃ d, owns (c : Thread nD τ) (st0_0 t) fullShare ((data m 0 c).before 0 t d))
    ∗ (∃ d, owns (c : Thread nD τ) (st0_1 t) fullShare ((data m 0 c).before 1 t d))
    ∗ (∃ d, owns (c : Thread nD τ) (st0_2 t) fullShare ((data m 0 c).before 2 t d))
    ∗ (∃ d, owns (c : Thread nD τ) (st0_3 t) fullShare ((data m 0 c).before 3 t d))
    ∗ (∃ d, owns (c : Thread nD τ) (st0_4 t) fullShare ((data m 0 c).before 4 t d))
    ∗ (∃ d, owns (c : Thread nD τ) (st0_5 t) fullShare ((data m 0 c).before 5 t d))
    ∗ (∃ d, owns (c : Thread nD τ) (st0_6 t) fullShare ((data m 0 c).before 6 t d))
    ∗ (∃ d, owns (c : Thread nD τ) (st0_7 t) fullShare ((data m 0 c).before 7 t d))
    ∗ (∃ X, owns (c : Thread nD τ) (st0_8 t) fullShare X)
    ∗ (∃ d, owns (c : Thread nD τ) (st0_9 t) fullShare ((data m 0 c).before 9 t d))
    ∗ (∃ X, owns (c : Thread nD τ) (st0_10 t) fullShare X)
    ∗ (∃ d, owns (c : Thread nD τ) (st0_11 t) fullShare ((data m 0 c).before 11 t d)))

/-- and what it returns. -/
def returned : sProp 𝕄 :=
  iprop((data m 0 c).Φ t.succ
    ∗ (data m 0 c).owesAt () t.succ
    ∗ owns (c : Thread nD τ) (st0_0 t) fullShare ((data m 0 c).after 0 t)
    ∗ owns (c : Thread nD τ) (st0_1 t) fullShare ((data m 0 c).after 1 t)
    ∗ owns (c : Thread nD τ) (st0_2 t) fullShare ((data m 0 c).after 2 t)
    ∗ owns (c : Thread nD τ) (st0_3 t) fullShare ((data m 0 c).after 3 t)
    ∗ owns (c : Thread nD τ) (st0_4 t) fullShare ((data m 0 c).after 4 t)
    ∗ owns (c : Thread nD τ) (st0_5 t) fullShare ((data m 0 c).after 5 t)
    ∗ owns (c : Thread nD τ) (st0_6 t) fullShare ((data m 0 c).after 6 t)
    ∗ owns (c : Thread nD τ) (st0_7 t) fullShare ((data m 0 c).after 7 t)
    ∗ (∃ X, owns (c : Thread nD τ) (st0_8 t) fullShare X)
    ∗ owns (c : Thread nD τ) (st0_9 t) fullShare ((data m 0 c).after 9 t)
    ∗ (∃ X, owns (c : Thread nD τ) (st0_10 t) fullShare X)
    ∗ owns (c : Thread nD τ) (st0_11 t) fullShare ((data m 0 c).after 11 t))

set_option maxHeartbeats 1000000 in
theorem body_called : called m c t ⊢ wp frame (wpE (defs₀ (F := F)) Variants.none c none) Set.univ (bodyAt0 t) (fun _ => returned m c t) := by
  unfold called returned
  simp only [found_0, found_1, found_2, found_3, found_4, found_5, found_6, found_7]
  rw [show (data m 0 c).owesAt () t.succ = (data m 0 c).owesAt () t.castSucc from rfl, after_0, after_1, after_2, after_3, after_4, after_5, after_6, after_7,
    after_conv, after_short]
  rw [show (data m 0 c).Φ t.castSucc = Pipeline.ΦA spec0 c from rfl, show (data m 0 c).Φ t.succ = Pipeline.ΦA spec0 c from rfl, rest_held]
  iintro ⟨⟨⟨⟨%s0, S0⟩, ⟨%s1, S1⟩, ⟨%s2, S2⟩, ⟨%s3, S3⟩, ⟨%s4, S4⟩, ⟨%s5, S5⟩, ⟨%s6, S6⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  by_cases hf : Scalar.cmpi .ne (Scalar.extui (Scalar.cmpi .eq (BitVec.ofNat 32 (grid0.coords t 1).val) 0#32) : BitVec 32) 0#32 = 1#1
  · skip
    iapply (run_first c (grid0.coords t) _ _ _ _ _ _ _ _ _ _ _ _ _ _ _ _ _ _ _ _ _ _ _ _ _ _ _ _ _ _ _ _ _ _ _ _ _ _ _ _ _ _ _ _ _ _ _ _ _ _ _ _ _ _ _ _ _ hf _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [S0]; · iexact S0
    isplitl [S1]; · iexact S1
    isplitl [S2]; · iexact S2
    isplitl [S3]; · iexact S3
    isplitl [S4]; · iexact S4
    isplitl [S5]; · iexact S5
    isplitl [S6]; · iexact S6
    iintro ⟨H0, H1, H2, H3, H4, H5, H6, H7, H8, H9, H10, H11, S0, S1, S2, S3, S4, S5, S6⟩
    isplitl [S0 S1 S2 S3 S4 S5 S6 Hg]
    · isplitl [S0 S1 S2 S3 S4 S5 S6]
      · isplitl [S0]; · iexact S0
        isplitl [S1]; · iexact S1
        isplitl [S2]; · iexact S2
        isplitl [S3]; · iexact S3
        isplitl [S4]; · iexact S4
        isplitl [S5]; · iexact S5
        iexact S6
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · skip
    iapply (run_later c (grid0.coords t) _ _ _ _ _ _ _ _ _ _ _ _ _ _ _ _ _ _ _ _ _ _ _ _ _ _ _ _ _ _ _ _ _ _ _ _ _ _ _ _ _ _ _ _ _ _ _ _ _ _ _ _ _ _ _ _ _ hf _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [S0]; · iexact S0
    isplitl [S1]; · iexact S1
    isplitl [S2]; · iexact S2
    isplitl [S3]; · iexact S3
    isplitl [S4]; · iexact S4
    isplitl [S5]; · iexact S5
    isplitl [S6]; · iexact S6
    iintro ⟨H0, H1, H2, H3, H4, H5, H6, H7, H8, H9, H10, H11, S0, S1, S2, S3, S4, S5, S6⟩
    isplitl [S0 S1 S2 S3 S4 S5 S6 Hg]
    · isplitl [S0 S1 S2 S3 S4 S5 S6]
      · isplitl [S0]; · iexact S0
        isplitl [S1]; · iexact S1
        isplitl [S2]; · iexact S2
        isplitl [S3]; · iexact S3
        isplitl [S4]; · iexact S4
        isplitl [S5]; · iexact S5
        iexact S6
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

end Body

/-- The body's obligation at every point. -/
theorem obligation (c : Dev nD) : BodyObligation (data (F := F) m 0 c) (defs₀ (F := F)) Variants.none () Set.univ unsaid := fun t => by
  rw [bigSep_W0, bigSep_W0, defs_row]
  exact triple_restated (body_called m c t) rfl .rfl fun _ => .rfl

set_option backward.isDefEq.respectTransparency.types false in
/-- The launch: every execution ends, with the arrays as the data say and every semaphore counter at zero. -/
theorem run_all : θ_run defs (onTc (τ := τ) (main (F := F))) (s₀ m ρ)
    (fun r => Pipeline.RDat.FramePost cfg0 (fun c => (data m 0 c).toRForget unsaid) (V m) r ∧ r.2.sem = fun _ => 0) :=
  Pipeline.θ_run_frame_forget (Q' := _) cfgs (data m) (0 : Fin 1) launch0 defs₀ Variants.none unsaid m ρ main
    (hbody := fun c => (obligation m c).loose) (hshare := fun c => (data m 0 c).share_full fun _ => rfl)
    (howed := fun _ _ => rfl) (V := V m) (hmain := hmain m Variants.none) (hA := data_A m) (hΦ := fun _ _ => rfl) (hQ' := fun _ h => h)

/-- What an execution leaves: the arguments as they were, the tails as the data say. -/
theorem run_tails : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.mem ((c.tc : Thread nD τ).loc main_v20_1) = (data m 0 c).arrAt 9 cfg0.N
      ∧ r.2.mem ((c.tc : Thread nD τ).loc main_v20_3) = (data m 0 c).arrAt 11 cfg0.N)
      ∧ r.2.sem = fun _ => 0) := by
  refine (θ_run defs _ _).mono (fun r h => ⟨fun c => ⟨⟨?_, ?_, ?_, ?_, ?_, ?_, ?_, ?_, ?_⟩, ?_, ?_⟩, h.2⟩) (run_all m ρ)
  · exact ((h.1 c).2 main_arg0 (Pipeline.mem_restRefs_of main_arg0 (by decide) (by decide))).trans (V_main_arg0 m c)
  · exact (Pipeline.RDat.FramePost.arr_in h.1 c 2 rfl).trans (V_main_arg1 m c)
  · exact (Pipeline.RDat.FramePost.arr_in h.1 c 1 rfl).trans (V_main_arg2 m c)
  · exact (Pipeline.RDat.FramePost.arr_in h.1 c 3 rfl).trans (V_main_arg3 m c)
  · exact (Pipeline.RDat.FramePost.arr_in h.1 c 4 rfl).trans (V_main_arg4 m c)
  · exact ((h.1 c).2 main_arg5 (Pipeline.mem_restRefs_of main_arg5 (by decide) (by decide))).trans (V_main_arg5 m c)
  · exact ((h.1 c).2 main_arg6 (Pipeline.mem_restRefs_of main_arg6 (by decide) (by decide))).trans (V_main_arg6 m c)
  · exact ((h.1 c).2 main_arg7 (Pipeline.mem_restRefs_of main_arg7 (by decide) (by decide))).trans (V_main_arg7 m c)
  · exact (Pipeline.RDat.FramePost.arr_in h.1 c 5 rfl).trans (V_main_arg8 m c)
  · exact ((data m 0 c).toRForget_arrAt_iff (by decide : unsaid 9 = false) _ _).mp ((h.1 c).1 9)
  · exact ((data m 0 c).toRForget_arrAt_iff (by decide : unsaid 11 = false) _ _).mp ((h.1 c).1 11)

end Cert.Proof.Tail9

end
-- ==== Proof.TailVal9.lean ====
/-
  The two tails of the samples: the arrays the delta-rule call leaves are the reference's, the last rows of each stream.
-/
module

public import proofs.«01_k».proof.Proof.TailFrame9
public import proofs.«01_k».proof.Proof.Gen.Reference9Ideal.Read
public import proofs.«01_k».proof.Proof.Turn
public import Idealize.ShloMosaic.Lib.WholeRead

@[expose] public section

set_option maxRecDepth 16384

noncomputable section

namespace Cert.Proof.Tail9

open Cert.Kernel9Ideal Cert.Kernel9Ideal.Gen
open Idealize.ShloMosaic Idealize.ShloMosaic.TcCoe Idealize.ShloMosaic.Tactic Idealize.ShloMosaic.StableHlo
open Idealize.SL.Sem
open Idealize.ShloMosaic.ValueIdx
open Idealize.ShloMosaic.Pipeline (Dat)
open Cert.Proof.InProj (idx2_ext)

variable {F : FTy → Type} [FloatOps F]

/-- Two indices of a rank-3 array with the same coordinates are one. -/
theorem idx3_ext {n0 n1 n2 : Nat} (y z : (⟨3, ![n0, n1, n2]⟩ : Shape).Idx) (h0 : (y 0).val = (z 0).val) (h1 : (y 1).val = (z 1).val)
    (h2 : (y 2).val = (z 2).val) : y = z := funext fun a => by
  match a with
  | ⟨0, _⟩ => exact Fin.ext h0
  | ⟨1, _⟩ => exact Fin.ext h1
  | ⟨2, _⟩ => exact Fin.ext h2

/-! ## The two tails of the projected rows -/

/-- The last three rows of each stream, in the convolution's columns. -/
def convs (x : (⟨S33792x2956, .f32⟩ : BufTy).Contents (Elt F)) : (⟨S16x3x1152, .f32⟩ : BufTy).Contents (Elt F) := fun (i : S16x3x1152.Idx) =>
  x (ix2 (n0 := 33792) (n1 := 2956) ⟨32768 + ((i 0).val * 64 + (61 + (i 1).val)), by have h0 : (i 0).val < 16 := (i 0).isLt; have h1 : (i 1).val < 3 := (i 1).isLt; omega⟩
    ⟨(i 2).val, by have h2 : (i 2).val < 1152 := (i 2).isLt; omega⟩)

/-- The last two rows of each stream, the product of the short convolution's two groups of columns. -/
def shorts (x : (⟨S33792x2956, .f32⟩ : BufTy).Contents (Elt F)) : (⟨S16x2x256, .f32⟩ : BufTy).Contents (Elt F) := fun (i : S16x2x256.Idx) =>
  FloatOps.mulf (φ := .f32)
    (x (ix2 (n0 := 33792) (n1 := 2956) ⟨32768 + ((i 0).val * 64 + (62 + (i 1).val)), by have h0 : (i 0).val < 16 := (i 0).isLt; have h1 : (i 1).val < 2 := (i 1).isLt; omega⟩
      ⟨2444 + (i 2).val, by have h2 : (i 2).val < 256 := (i 2).isLt; omega⟩))
    (x (ix2 (n0 := 33792) (n1 := 2956) ⟨32768 + ((i 0).val * 64 + (62 + (i 1).val)), by have h0 : (i 0).val < 16 := (i 0).isLt; have h1 : (i 1).val < 2 := (i 1).isLt; omega⟩
      ⟨2700 + (i 2).val, by have h2 : (i 2).val < 256 := (i 2).isLt; omega⟩))

section Reference
open Cert.Reference9Ideal.Read

/-- The reference's streams at an index. -/
theorem streams_apply (x : (⟨S33792x2956, .f32⟩ : BufTy).Contents (Elt F)) (b : Fin 16) (r : Fin 64) (q : Fin 2956)
    (i : Cert.Reference9Ideal.S16x64x2956.Idx) (h0 : (i 0).val = b.val) (h1 : (i 1).val = r.val) (h2 : (i 2).val = q.val) :
    val_main_v1 (F := F) x i = x (ix2 (n0 := 33792) (n1 := 2956) ⟨32768 + (b.val * 64 + r.val), by omega⟩ q) := by
  have hb : b.val < 16 := b.isLt
  have hr : r.val < 64 := r.isLt
  have hq : q.val < 2956 := q.isLt
  rw [val_main_v1_apply, val_main_v0_apply]
  refine congrArg x (idx2_ext (n0 := 33792) (n1 := 2956) _ _ ?_ ?_)
  · show 32768 + (((i 0).val * 64 + (i 1).val) * 2956 + (i 2).val) / 2956 = 32768 + (b.val * 64 + r.val)
    rw [h0, h1, h2]; omega
  · show (((i 0).val * 64 + (i 1).val) * 2956 + (i 2).val) % 2956 = q.val
    rw [h0, h1, h2]; omega

/-- The reference's first result is the convolution's tail. -/
theorem ref_conv (x : (⟨S33792x2956, .f32⟩ : BufTy).Contents (Elt F)) (y2 : (⟨S16x3x1152, .f32⟩ : BufTy).Contents (Elt F)) : val_main_v6 (F := F) x y2 = convs x := by
  refine funext fun (i : S16x3x1152.Idx) => ?_
  have h0 : (i 0).val < 16 := (i 0).isLt
  have h1 : (i 1).val < 3 := (i 1).isLt
  have h2 : (i 2).val < 1152 := (i 2).isLt
  rw [val_main_v6_apply]
  unfold val_main_v5
  refine (concatenate_pair_apply_right (t := Cert.Reference9Ideal.S16x67x1152) 1 _ _ Cert.Reference9Ideal.Gen.facts.concatenates_S16x3x1152_S16x64x1152_S16x67x1152_d1 _ rfl rfl
    (ix3 (n0 := 16) (n1 := 64) (n2 := 1152) ⟨(i 0).val, h0⟩ ⟨61 + (i 1).val, by omega⟩ ⟨(i 2).val, h2⟩) ?_ ?_).trans ?_
  · intro a ha; match a with
    | ⟨0, _⟩ => rfl
    | ⟨1, _⟩ => exact absurd rfl ha
    | ⟨2, _⟩ => rfl
  · show 61 + (i 1).val + 3 = 64 + (i 1).val; omega
  · rw [val_main_v4_apply]
    exact streams_apply x ⟨(i 0).val, h0⟩ ⟨61 + (i 1).val, by omega⟩ ⟨(i 2).val, by omega⟩ _ rfl rfl rfl

/-- The reference's second result is the short convolution's tail. -/
theorem ref_short (x : (⟨S33792x2956, .f32⟩ : BufTy).Contents (Elt F)) (y3 : (⟨S16x2x256, .f32⟩ : BufTy).Contents (Elt F)) : val_main_v9 (F := F) x y3 = shorts x := by
  refine funext fun (i : S16x2x256.Idx) => ?_
  have h0 : (i 0).val < 16 := (i 0).isLt
  have h1 : (i 1).val < 2 := (i 1).isLt
  have h2 : (i 2).val < 256 := (i 2).isLt
  rw [val_main_v9_apply]
  unfold val_main_v8
  refine (concatenate_pair_apply_right (t := Cert.Reference9Ideal.S16x66x256) 1 _ _ Cert.Reference9Ideal.Gen.facts.concatenates_S16x2x256_S16x64x256_S16x66x256_d1 _ rfl rfl
    (ix3 (n0 := 16) (n1 := 64) (n2 := 256) ⟨(i 0).val, h0⟩ ⟨62 + (i 1).val, by omega⟩ ⟨(i 2).val, h2⟩) ?_ ?_).trans ?_
  · intro a ha; match a with
    | ⟨0, _⟩ => rfl
    | ⟨1, _⟩ => exact absurd rfl ha
    | ⟨2, _⟩ => rfl
  · show 62 + (i 1).val + 2 = 64 + (i 1).val; omega
  · rw [val_main_v7_apply, val_main_v2_apply, val_main_v3_apply]
    exact congrArg₂ (FloatOps.mulf (φ := .f32))
      (streams_apply x ⟨(i 0).val, h0⟩ ⟨62 + (i 1).val, by omega⟩ ⟨2444 + (i 2).val, by omega⟩ _ rfl rfl rfl)
      (streams_apply x ⟨(i 0).val, h0⟩ ⟨62 + (i 1).val, by omega⟩ ⟨2700 + (i 2).val, by omega⟩ _ rfl rfl rfl)

end Reference

/-! ## The program's arrays -/

section Run
variable (m : (ℓ : Loc nD τ sig) → Buf (Elt F) ℓ) (c : Dev nD)

/-- The projected rows, as launched. -/
abbrev rowsIn : (⟨S33792x2956, .f32⟩ : BufTy).Contents (Elt F) := m ((c : Thread nD τ).loc main_arg0)

/-- The pieces the call's rows are made of. -/
abbrev pieces (x : (⟨S33792x2956, .f32⟩ : BufTy).Contents (Elt F)) : List ((s : Shape) × (s.Idx → Elt F .f32)) :=
    [⟨S33792x1536, (extractStridedSlice S33792x1536 ![0, 0] x slices_S33792x2956_S33792x1536_0_0 : (⟨S33792x1536, .f32⟩ : BufTy).Contents (Elt F))⟩,
     ⟨S33792x768, (extractStridedSlice S33792x768 ![0, 2188] x slices_S33792x2956_S33792x768_0_2188 : (⟨S33792x768, .f32⟩ : BufTy).Contents (Elt F))⟩,
     ⟨S33792x640, (extractStridedSlice S33792x640 ![0, 1548] x slices_S33792x2956_S33792x640_0_1548 : (⟨S33792x640, .f32⟩ : BufTy).Contents (Elt F))⟩,
     ⟨S33792x128, (concatenate S33792x128 1
        [⟨S33792x12, (extractStridedSlice S33792x12 ![0, 1536] x slices_S33792x2956_S33792x12_0_1536 : (⟨S33792x12, .f32⟩ : BufTy).Contents (Elt F))⟩,
         ⟨S33792x116, (broadcastInDim S33792x116 ![] bcast_S_S33792x116 (constant S_ .f32 0x00000000#32) : (⟨S33792x116, .f32⟩ : BufTy).Contents (Elt F))⟩]
        concatenates_S33792x12_S33792x116_S33792x128_d1 : (⟨S33792x128, .f32⟩ : BufTy).Contents (Elt F))⟩]

/-- The call's rows are the projected rows, their columns regrouped. -/
theorem V_rows : V m c main_v6 = concatenate S33792x3072 1 (pieces (rowsIn m c))
    concatenates_S33792x1536_S33792x768_S33792x640_S33792x128_S33792x3072_d1 := by
  unfold V
  after_results <;> rfl

/-- The first columns are the projected rows' own. -/
theorem cols_first (r : Fin 33792) (q : Fin 1536) : (V m c main_v6 : S33792x3072.Idx → Elt F .f32) (ix2 (n0 := 33792) (n1 := 3072) r ⟨q.val, by omega⟩)
    = rowsIn m c (ix2 (n0 := 33792) (n1 := 2956) r ⟨q.val, by omega⟩) := by
  rw [V_rows]
  refine (concatenate_apply_piece (t := S33792x3072) 1 (pieces (rowsIn m c)) _ _ 0 (show 0 < 4 by decide) S33792x1536 _ rfl rfl 0 rfl (ix2 (n0 := 33792) (n1 := 1536) r q) ?_ (Nat.zero_add _)).trans ?_
  · intro b hb; match b with
    | ⟨0, _⟩ => rfl
    | ⟨1, _⟩ => exact absurd rfl hb
  · refine congrArg (rowsIn m c) (idx2_ext (n0 := 33792) (n1 := 2956) _ _ ?_ ?_)
    · show 0 + r.val = r.val; omega
    · show 0 + q.val = q.val; omega

/-- The next columns are the projected rows' last. -/
theorem cols_last (r : Fin 33792) (q : Fin 768) : (V m c main_v6 : S33792x3072.Idx → Elt F .f32) (ix2 (n0 := 33792) (n1 := 3072) r ⟨1536 + q.val, by omega⟩)
    = rowsIn m c (ix2 (n0 := 33792) (n1 := 2956) r ⟨2188 + q.val, by omega⟩) := by
  rw [V_rows]
  refine (concatenate_apply_piece (t := S33792x3072) 1 (pieces (rowsIn m c)) _ _ 1 (show 1 < 4 by decide) S33792x768 _ rfl rfl 1536 rfl (ix2 (n0 := 33792) (n1 := 768) r q) ?_ rfl).trans ?_
  · intro b hb; match b with
    | ⟨0, _⟩ => rfl
    | ⟨1, _⟩ => exact absurd rfl hb
  · refine congrArg (rowsIn m c) (idx2_ext (n0 := 33792) (n1 := 2956) _ _ ?_ ?_)
    · show 0 + r.val = r.val; omega
    · show 2188 + q.val = 2188 + q.val; rfl

/-- The same, at a column given by its number. -/
theorem cols_at (r : Fin 33792) (q : Fin 768) (n : Fin 3072) (hn : n.val = 1536 + q.val) :
    (V m c main_v6 : S33792x3072.Idx → Elt F .f32) (ix2 (n0 := 33792) (n1 := 3072) r n)
    = rowsIn m c (ix2 (n0 := 33792) (n1 := 2956) r ⟨2188 + q.val, by omega⟩) := by
  exact (congrArg (fun k : Fin 3072 => (V m c main_v6 : S33792x3072.Idx → Elt F .f32) (ix2 (n0 := 33792) (n1 := 3072) r k))
    (Fin.ext hn : n = ⟨1536 + q.val, by omega⟩)).trans (cols_last m c r q)

/-- The stream of a point's tails, and where the point's rows end when they are written back. -/
theorem map_val (t : Fin cfg0.N) : cc0_transform_9 (grid0.coords t) 0 < 16 ∧ cc0_transform_11 (grid0.coords t) 0 = cc0_transform_9 (grid0.coords t) 0
    ∧ ((cfg0.win 9).flush t = true → cc0_transform_0 (grid0.coords t) 0 * 64 + 64 = 32768 + (cc0_transform_9 (grid0.coords t) 0 + 1) * 64)
    ∧ ((cfg0.win 11).flush t = true → cc0_transform_0 (grid0.coords t) 0 * 64 + 64 = 32768 + (cc0_transform_9 (grid0.coords t) 0 + 1) * 64) := by
  revert t
  decide +kernel

/-- The rows' window takes every column. -/
theorem col_zero (t : Fin cfg0.N) : cc0_transform_0 (grid0.coords t) 1 = 0 := by
  revert t
  decide +kernel

/-- The point at which a stream's tails are written back. -/
abbrev lastPt (b : Fin 16) : Fin cfg0.N := ⟨if b.val = 15 then 16 else b.val, by show _ < 17; split <;> omega⟩

theorem last_val (b : Fin 16) : cc0_transform_9 (grid0.coords (lastPt b)) 0 = b.val ∧ (cfg0.win 9).flush (lastPt b) = true ∧ (cfg0.win 11).flush (lastPt b) = true := by
  revert b
  decide +kernel

/-- A point's rows are the projected rows', their columns regrouped. -/
theorem rows_at (t : Fin cfg0.N) (r : Fin 64) (q : Fin 3072) (n : Nat) (hn : cc0_transform_0 (grid0.coords t) 0 * 64 + r.val = n) (hlt : n < 33792) :
    (iblk m c 0 t : S64x3072.Idx → Elt F .f32) (ix2 (n0 := 64) (n1 := 3072) r q)
      = (V m c main_v6 : S33792x3072.Idx → Elt F .f32) (ix2 (n0 := 33792) (n1 := 3072) ⟨n, hlt⟩ q) := by
  refine congrArg (V m c main_v6 : S33792x3072.Idx → Elt F .f32) (idx2_ext (n0 := 33792) (n1 := 3072) _ _ ?_ ?_)
  · show cc0_transform_0 (grid0.coords t) 0 * 64 + 1 * r.val = n
    omega
  · show cc0_transform_0 (grid0.coords t) 1 * 3072 + 1 * q.val = q.val
    rw [col_zero t, Nat.zero_mul, Nat.zero_add, Nat.one_mul]

/-- Where an element of a tail's block lies in the array of tails. -/
theorem conv_emb (t : Fin cfg0.N) (y : S1x3x1152.Idx) : ((cfg0.win 9).blk t).view.emb y
    = ix3 (n0 := 16) (n1 := 3) (n2 := 1152) ⟨cc0_transform_9 (grid0.coords t) 0, (map_val t).1⟩ ⟨(y 1).val, (y 1).isLt⟩ ⟨(y 2).val, (y 2).isLt⟩ := by
  have h0 : (y 0).val < 1 := (y 0).isLt
  refine idx3_ext (n0 := 16) (n1 := 3) (n2 := 1152) _ _ ?_ ?_ ?_
  · show cc0_transform_9 (grid0.coords t) 0 * 1 + 1 * (y 0).val = cc0_transform_9 (grid0.coords t) 0
    omega
  · show cc0_transform_9 (grid0.coords t) 1 * 3 + 1 * (y 1).val = (y 1).val
    rw [show cc0_transform_9 (grid0.coords t) 1 = 0 from rfl]; omega
  · show cc0_transform_9 (grid0.coords t) 2 * 1152 + 1 * (y 2).val = (y 2).val
    rw [show cc0_transform_9 (grid0.coords t) 2 = 0 from rfl]; omega

theorem short_emb (t : Fin cfg0.N) (y : S1x2x256.Idx) : ((cfg0.win 11).blk t).view.emb y
    = ix3 (n0 := 16) (n1 := 2) (n2 := 256) ⟨cc0_transform_9 (grid0.coords t) 0, (map_val t).1⟩ ⟨(y 1).val, (y 1).isLt⟩ ⟨(y 2).val, (y 2).isLt⟩ := by
  have h0 : (y 0).val < 1 := (y 0).isLt
  refine idx3_ext (n0 := 16) (n1 := 2) (n2 := 256) _ _ ?_ ?_ ?_
  · show cc0_transform_11 (grid0.coords t) 0 * 1 + 1 * (y 0).val = cc0_transform_9 (grid0.coords t) 0
    rw [(map_val t).2.1]; omega
  · show cc0_transform_11 (grid0.coords t) 1 * 2 + 1 * (y 1).val = (y 1).val
    rw [show cc0_transform_11 (grid0.coords t) 1 = 0 from rfl]; omega
  · show cc0_transform_11 (grid0.coords t) 2 * 256 + 1 * (y 2).val = (y 2).val
    rw [show cc0_transform_11 (grid0.coords t) 2 = 0 from rfl]; omega

/-- A point that writes back its convolution tail writes the stream's. -/
theorem conv_flushed (t : Fin cfg0.N) (hf : (cfg0.win 9).flush t = true) :
    (data m 0 c).flushed 9 t = ((cfg0.win 9).blk t).view.read (Elt F) (convs (rowsIn m c)) := by
  refine funext fun (y : S1x3x1152.Idx) => ?_
  have hm := (map_val t).2.2.1 hf
  have hb := (map_val t).1
  have h1 : (y 1).val < 3 := (y 1).isLt
  have h2 : (y 2).val < 1152 := (y 2).isLt
  refine Eq.trans ?_ (congrArg (convs (rowsIn m c)) (conv_emb t y)).symm
  show (data m 0 c).after 9 t ((cfg0.win 9).xinj _ y) = _
  rw [after_conv]
  show (iblk m c 0 t : S64x3072.Idx → Elt F .f32) (ix2 (n0 := 64) (n1 := 3072) ⟨61 + (y 1).val, _⟩ ⟨(y 2).val, _⟩) = _
  refine (rows_at m c t _ _ (32768 + (cc0_transform_9 (grid0.coords t) 0 * 64 + (61 + (y 1).val))) ?_ (by omega)).trans ?_
  · show cc0_transform_0 (grid0.coords t) 0 * 64 + (61 + (y 1).val) = _
    omega
  · exact cols_first m c _ ⟨(y 2).val, by omega⟩

/-- A point that writes back its short tail writes the stream's. -/
theorem short_flushed (t : Fin cfg0.N) (hf : (cfg0.win 11).flush t = true) :
    (data m 0 c).flushed 11 t = ((cfg0.win 11).blk t).view.read (Elt F) (shorts (rowsIn m c)) := by
  refine funext fun (y : S1x2x256.Idx) => ?_
  have hm := (map_val t).2.2.2 hf
  have hb := (map_val t).1
  have h1 : (y 1).val < 2 := (y 1).isLt
  have h2 : (y 2).val < 256 := (y 2).isLt
  refine Eq.trans ?_ (congrArg (shorts (rowsIn m c)) (short_emb t y)).symm
  show (data m 0 c).after 11 t ((cfg0.win 11).xinj _ y) = _
  rw [after_short]
  show FloatOps.mulf (φ := .f32) ((iblk m c 0 t : S64x3072.Idx → Elt F .f32) (ix2 (n0 := 64) (n1 := 3072) ⟨62 + (y 1).val, _⟩ ⟨1792 + (y 2).val, _⟩))
    ((iblk m c 0 t : S64x3072.Idx → Elt F .f32) (ix2 (n0 := 64) (n1 := 3072) ⟨62 + (y 1).val, _⟩ ⟨2048 + (y 2).val, _⟩)) = _
  have hr : cc0_transform_0 (grid0.coords t) 0 * 64 + (62 + (y 1).val) = 32768 + (cc0_transform_9 (grid0.coords t) 0 * 64 + (62 + (y 1).val)) := by omega
  refine congrArg₂ (FloatOps.mulf (φ := .f32)) ?_ ?_
  · refine (rows_at m c t _ _ (32768 + (cc0_transform_9 (grid0.coords t) 0 * 64 + (62 + (y 1).val))) hr (by omega)).trans ?_
    refine (cols_at m c _ ⟨256 + (y 2).val, by omega⟩ _ (show 1792 + (y 2).val = 1536 + (256 + (y 2).val) by omega)).trans ?_
    exact congrArg (rowsIn m c) (idx2_ext (n0 := 33792) (n1 := 2956) (ix2 (n0 := 33792) (n1 := 2956) _ _) (ix2 (n0 := 33792) (n1 := 2956) _ _) rfl (show 2188 + (256 + (y 2).val) = 2444 + (y 2).val by omega))
  · refine (rows_at m c t _ _ (32768 + (cc0_transform_9 (grid0.coords t) 0 * 64 + (62 + (y 1).val))) hr (by omega)).trans ?_
    refine (cols_at m c _ ⟨512 + (y 2).val, by omega⟩ _ (show 2048 + (y 2).val = 1536 + (512 + (y 2).val) by omega)).trans ?_
    exact congrArg (rowsIn m c) (idx2_ext (n0 := 33792) (n1 := 2956) (ix2 (n0 := 33792) (n1 := 2956) _ _) (ix2 (n0 := 33792) (n1 := 2956) _ _) rfl (show 2188 + (512 + (y 2).val) = 2700 + (y 2).val by omega))

/-- The convolution tails the call leaves. -/
theorem conv_eq : (data m 0 c).arrAt 9 cfg0.N = convs (rowsIn m c) := by
  refine funext fun (i : S16x3x1152.Idx) => ?_
  have h0 : (i 0).val < 16 := (i 0).isLt
  have hl := last_val ⟨(i 0).val, h0⟩
  have he : ((cfg0.win 9).blk (lastPt ⟨(i 0).val, h0⟩)).view.emb (ix3 (n0 := 1) (n1 := 3) (n2 := 1152) 0 ⟨(i 1).val, (i 1).isLt⟩ ⟨(i 2).val, (i 2).isLt⟩) = i := by
    rw [conv_emb]
    exact idx3_ext (n0 := 16) (n1 := 3) (n2 := 1152) _ _ hl.1 rfl rfl
  exact (data m 0 c).arrAt_apply_of_mem 9 (convs (rowsIn m c)) (fun t hf => conv_flushed m c t hf) cfg0.N
    (lastPt ⟨(i 0).val, h0⟩) i (lastPt ⟨(i 0).val, h0⟩).isLt hl.2.1 (by
      have := ((cfg0.win 9).blk (lastPt ⟨(i 0).val, h0⟩)).view.emb_mem_set (ix3 (n0 := 1) (n1 := 3) (n2 := 1152) 0 ⟨(i 1).val, (i 1).isLt⟩ ⟨(i 2).val, (i 2).isLt⟩)
      rwa [he] at this)

/-- The short tails the call leaves. -/
theorem short_eq : (data m 0 c).arrAt 11 cfg0.N = shorts (rowsIn m c) := by
  refine funext fun (i : S16x2x256.Idx) => ?_
  have h0 : (i 0).val < 16 := (i 0).isLt
  have hl := last_val ⟨(i 0).val, h0⟩
  have he : ((cfg0.win 11).blk (lastPt ⟨(i 0).val, h0⟩)).view.emb (ix3 (n0 := 1) (n1 := 2) (n2 := 256) 0 ⟨(i 1).val, (i 1).isLt⟩ ⟨(i 2).val, (i 2).isLt⟩) = i := by
    rw [short_emb]
    exact idx3_ext (n0 := 16) (n1 := 2) (n2 := 256) _ _ hl.1 rfl rfl
  exact (data m 0 c).arrAt_apply_of_mem 11 (shorts (rowsIn m c)) (fun t hf => short_flushed m c t hf) cfg0.N
    (lastPt ⟨(i 0).val, h0⟩) i (lastPt ⟨(i 0).val, h0⟩).isLt hl.2.2 (by
      have := ((cfg0.win 11).blk (lastPt ⟨(i 0).val, h0⟩)).view.emb_mem_set (ix3 (n0 := 1) (n1 := 2) (n2 := 256) 0 ⟨(i 1).val, (i 1).isLt⟩ ⟨(i 2).val, (i 2).isLt⟩)
      rwa [he] at this)

/-- Every execution ends with the tails at the reference's values and the arguments unchanged. -/
theorem run_vals (ρ : Dev nD → PrngReg) :
    θ_run (defs (F := F)) (onTc (τ := τ) (main (F := F))) ⟨m, fun _ => 0, ρ⟩ (fun r => ∀ c : Dev nD,
      r.2.mem ((c.tc : Thread nD τ).loc main_v20_1) = Cert.Reference9Ideal.Read.val_main_v6 (F := F) (rowsIn m c) (m ((c : Thread nD τ).loc main_arg2))
      ∧ r.2.mem ((c.tc : Thread nD τ).loc main_v20_3) = Cert.Reference9Ideal.Read.val_main_v9 (F := F) (rowsIn m c) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  refine (θ_run defs _ _).mono (fun r h c => ?_) (run_tails m ρ)
  obtain ⟨ha, hc, hs⟩ := h.1 c
  exact ⟨hc.trans ((conv_eq m c).trans (ref_conv _ _).symm), hs.trans ((short_eq m c).trans (ref_short _ _).symm), ha⟩

end Run

end Cert.Proof.Tail9

end
-- ==== Proof.Words.lean ====
/-
  The words the row gather carries, at each trip of its loop.

  A tile's loop runs 66 trips and carries five words: the number of index blocks fetched, the three slot counters
  (index slot waited for, output slot filled, output slot waited for) and the block counter. At trip `k` they are
  `k + 1` (66 at the last), `k`, `k`, `k - 1` and `k`. Here the printed offsets and conditions are evaluated at
  these words.
-/
module

public import proofs.«01_k».proof.Defs
public import proofs.«01_k».proof.Proof.Gen.KernelIdeal
public import proofs.«01_k».proof.Proof.Gen.KernelIdeal.Skeleton

@[expose] public section

set_option Elab.async false

noncomputable section

namespace Cert.Proof.Gath

open Cert.KernelIdeal Cert.KernelIdeal.Gen
open Idealize.ShloMosaic

/-- The word of a natural number. -/
abbrev wd (n : Nat) : BitVec 32 := BitVec.ofNat 32 n

/-- The first block of the tile at grid point `i`: tile `i 1` of core `i 0` takes 66 blocks. -/
abbrev base (i : grid0.Coords) : Nat := 66 * ((i 1).val + 16 * (i 0).val)

/-- The slot of trip `k`. -/
abbrev sl (k : Nat) : Fin 2 := ⟨k % 2, Nat.mod_lt _ (by decide)⟩

theorem trips_eq : k0_t1_loop.trips = 66 := by decide

/-- The carried words before trip `k`. -/
abbrev a6 (k : Nat) : BitVec 32 := wd (min (k + 1) 66)
abbrev a9 (k : Nat) : BitVec 32 := wd (k - 1)
abbrev a10 (k : Nat) : BitVec 32 := wd (k % 66)

theorem base_le (i : grid0.Coords) : base i ≤ 2046 := by
  have h0 : (i 0).val < 2 := (i 0).isLt
  have h1 : (i 1).val < 16 := (i 1).isLt
  unfold base; omega

section Slots
variable (k : Fin 67)
theorem off4_eq : ∀ k : Fin 66, k.val < 65 → k0_off4 (a6 k.val) = ![(sl (k.val + 1)).val, 0, 0] := by decide +kernel
theorem off6_eq : ∀ k : Fin 66, k.val < 65 → k0_off6 (a6 k.val) = ![(sl (k.val + 1)).val] := by decide +kernel
theorem off7_eq : ∀ k : Fin 66, k0_off7 (wd k.val) = ![(sl k.val).val, 0, 0] := by decide +kernel
theorem off9_eq : ∀ k : Fin 66, k0_off9 (wd k.val) = ![(sl k.val).val] := by decide +kernel
theorem off10_eq : ∀ k : Fin 66, k0_off10 (wd k.val) = ![(sl k.val).val, 0, 0] := by decide +kernel
theorem off11_eq : ∀ k : Fin 66, k0_off11 (wd k.val) = ![(sl k.val).val, 0, 0] := by decide +kernel
theorem off12_eq : ∀ k : Fin 66, k0_off12 (wd k.val) = ![(sl k.val).val, 0, 0] := by decide +kernel
theorem off14_eq : ∀ k : Fin 66, k0_off14 (wd k.val) = ![(sl k.val).val] := by decide +kernel
theorem off15_eq : ∀ k : Fin 66, k0_off15 (a9 k.val) = ![(sl (k.val - 1)).val, 0, 0] := by decide +kernel
theorem off17_eq : ∀ k : Fin 66, k0_off17 (a9 k.val) = ![(sl (k.val - 1)).val] := by decide +kernel
theorem off18_eq : k0_off18 (wd 65) = ![1, 0, 0] := by decide +kernel
theorem off20_eq : k0_off20 (wd 65) = ![1] := by decide +kernel
theorem off21_eq : k0_off21 (wd 65) = ![1, 0, 0] := by decide +kernel
end Slots

section Blocks
theorem off2_eq : ∀ i : grid0.Coords, k0_off2 i = ![0, 128 * (base i + 0)] := by decide +kernel
theorem off5_eq : ∀ (i : grid0.Coords) (k : Fin 66), k.val < 65 → k0_off5 i (a10 k.val) = ![0, 128 * (base i + (k.val + 1))] := by decide +kernel
theorem off8_eq : ∀ (i : grid0.Coords) (k : Fin 66), k0_off8 i (a10 k.val) = ![0, 128 * (base i + k.val)] := by decide +kernel
theorem off13_eq : ∀ (i : grid0.Coords) (k : Fin 66), k0_off13 i (a10 k.val) = ![128 * (base i + k.val), 0] := by decide +kernel
theorem off16_eq : ∀ (i : grid0.Coords) (k : Fin 66), 0 < k.val → k0_off16 i (a10 k.val) = ![128 * (base i + (k.val - 1)), 0] := by decide +kernel
theorem off19_eq : ∀ i : grid0.Coords, k0_off19 i (a10 66) = ![128 * (base i + 65), 0] := by decide +kernel
end Blocks

section Conds
/-- The index block of the next trip is fetched at every trip but the last. -/
theorem cond1_iff : ∀ (i : grid0.Coords) (k : Fin k0_t1_loop.trips), k0_cond1 i k (a10 k.val) = 1#1 ↔ k.val < 65 := by decide +kernel
/-- The index block is waited for at every trip. -/
theorem cond2_true : ∀ (i : grid0.Coords) (k : Fin k0_t1_loop.trips), k0_cond2 i k (a10 k.val) = 1#1 := by decide +kernel
/-- The gathered block is sent out at every trip. -/
theorem cond5_true : ∀ (i : grid0.Coords) (k : Fin k0_t1_loop.trips), k0_cond5 i k (a10 k.val) = 1#1 := by decide +kernel
/-- The previous block's sending is waited for at every trip but the first. -/
theorem cond7_iff : ∀ (i : grid0.Coords) (k : Fin k0_t1_loop.trips), k0_cond7 i k (a10 k.val) = 1#1 ↔ 0 < k.val := by decide +kernel
end Conds

end Cert.Proof.Gath

end
-- ==== Proof.Checks.lean ====
/-
  The side conditions the row gather states of its carried words, and the words each trip hands to the next.
-/
module

public import proofs.«01_k».proof.Proof.Words

@[expose] public section

set_option Elab.async false

noncomputable section

namespace Cert.Proof.Gath

open Cert.KernelIdeal Cert.KernelIdeal.Gen
open Idealize.ShloMosaic

/-- Every trip's side conditions hold at the words it carries. -/
theorem chk1_ok : ∀ (i : grid0.Coords) (k : Fin k0_t1_loop.trips), k0_chk1 i k (a6 k.val) (wd k.val) (wd k.val) (a9 k.val) (a10 k.val) := by decide +kernel
theorem chk2_ok : ∀ k : Fin 66, k0_chk2 (wd k.val) := by decide +kernel
theorem chk3_ok : ∀ k : Fin 66, k0_chk3 (wd k.val) := by decide +kernel
/-- So do the two stated after the loop. -/
theorem chk4_ok : k0_chk4 (a9 66) := by decide +kernel
theorem chk5_ok : ∀ i : grid0.Coords, k0_chk5 i (a10 66) := by decide +kernel

/-- The first block, as the kernel computes it. -/
abbrev v4w (i : grid0.Coords) : BitVec 32 :=
  Scalar.muli (Scalar.addi (Scalar.addi 0#32 (Scalar.muli (BitVec.ofNat 32 (i 1).val) 1#32)) (Scalar.muli (BitVec.ofNat 32 (i 0).val) 16#32)) 66#32
/-- This trip's, the previous trip's and the next trip's block, as the kernel computes them. -/
abbrev cur (i : grid0.Coords) (a : BitVec 32) : BitVec 32 := Scalar.addi a (v4w i)
abbrev prv (i : grid0.Coords) (a : BitVec 32) : BitVec 32 :=
  Scalar.addi (Scalar.select (Scalar.cmpi .eq (Scalar.select 1#1 (Scalar.subi a 1#32) a) 4294967295#32) 65#32 (Scalar.select 1#1 (Scalar.subi a 1#32) a)) (v4w i)
abbrev nxt (i : grid0.Coords) (a : BitVec 32) : BitVec 32 :=
  Scalar.addi (Scalar.select (Scalar.cmpi .eq (Scalar.select 1#1 (Scalar.addi a 1#32) a) 66#32) 0#32 (Scalar.select 1#1 (Scalar.addi a 1#32) a)) (v4w i)
abbrev ivw (k : Nat) : BitVec 32 := Scf.iv 0#32 1#32 k

/-- The five words handed to the next trip. -/
theorem next6 : ∀ (i : grid0.Coords) (k : Fin k0_t1_loop.trips),
    Scalar.select (Scalar.andi (Scalar.andi (Scalar.cmpi .ne (cur i (a10 k.val)) (nxt i (a10 k.val))) (Scalar.xori (Scalar.cmpi .sge (ivw k.val) 65#32) 1#1)) 1#1)
      (Scalar.addi (a6 k.val) 1#32) (a6 k.val) = a6 (k.val + 1) := by decide +kernel
theorem next7 : ∀ (i : grid0.Coords) (k : Fin k0_t1_loop.trips),
    Scalar.select (Scalar.ori (Scalar.cmpi .ne (cur i (a10 k.val)) (nxt i (a10 k.val))) (Scalar.cmpi .eq (ivw k.val) 65#32))
      (Scalar.addi (wd k.val) 1#32) (wd k.val) = wd (k.val + 1) := by decide +kernel
theorem next8 : ∀ (i : grid0.Coords) (k : Fin k0_t1_loop.trips),
    Scalar.select (Scalar.andi (Scalar.ori (Scalar.cmpi .ne (cur i (a10 k.val)) (nxt i (a10 k.val))) (Scalar.cmpi .eq (ivw k.val) 65#32)) 1#1)
      (Scalar.addi (wd k.val) 1#32) (wd k.val) = wd (k.val + 1) := by decide +kernel
theorem next9 : ∀ (i : grid0.Coords) (k : Fin k0_t1_loop.trips),
    Scalar.select (Scalar.andi (Scalar.andi (Scalar.cmpi .ne (cur i (a10 k.val)) (prv i (a10 k.val))) (Scalar.xori (Scalar.cmpi .eq (ivw k.val) 0#32) 1#1)) 1#1)
      (Scalar.addi (a9 k.val) 1#32) (a9 k.val) = a9 (k.val + 1) := by decide +kernel
theorem next10 : ∀ (k : Fin k0_t1_loop.trips),
    Scalar.select (Scalar.cmpi .eq (Scalar.select 1#1 (Scalar.addi (a10 k.val) 1#32) (a10 k.val)) 66#32) 0#32
      (Scalar.select 1#1 (Scalar.addi (a10 k.val) 1#32) (a10 k.val)) = a10 (k.val + 1) := by decide +kernel

end Cert.Proof.Gath

end
-- ==== Proof.Slots.lean ====
/-
  The row gather's setting: the launch configuration, the canonical names of the memrefs and semaphores a tile
  addresses, and the element sets they name — blocks of the index list and of the output as intervals of columns and
  rows, the two slots of each double buffer.
-/
module

public import proofs.«01_k».proof.Proof.Checks
public import Idealize.ShloMosaic.Adequacy
public import Idealize.ShloMosaic.Init
public import Idealize.ShloMosaic.Lib.SparseCore
public import Idealize.ShloMosaic.Lib.SparseCore.Stream
public import Idealize.ShloMosaic.Lib.SparseCore.Quiescent
public import Idealize.ShloMosaic.Lib.Ring
public import Idealize.ShloMosaic.Lib.Tactic

@[expose] public section

noncomputable section

namespace Cert.Proof.Gath

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The configuration -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none
abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-- The tile at grid point `L` of device `d`. -/
abbrev cV (L : grid0.Coords) : Fin τ.nSC := (L 0).castLE hcore0
abbrev jV (L : grid0.Coords) : Fin τ.nSub := (L 1).castLE hsub0
abbrev TH (d : Dev nD) (L : grid0.Coords) : Thread nD τ := V d (cV L) (jV L)

/-! ## The arrays -/

abbrev xLoc (d : Dev nD) : Loc nD τ sig := (SparseCore.T d).loc main_v9
abbrev iLoc (d : Dev nD) : Loc nD τ sig := (SparseCore.T d).loc main_v8
abbrev oLoc (d : Dev nD) : Loc nD τ sig := (SparseCore.T d).loc main_v10

abbrev xV : Memref sig .scVector .hbm S606208x128 .i32 := Memref.whole main_v9_scv
abbrev iV : Memref sig .scVector .hbm S1x270336 .i32 := Memref.whole main_v8_scv
abbrev oV : Memref sig .scVector .hbm S270336x128 .i32 := Memref.whole main_v10_scv
abbrev iB : Memref sig .scVector .vmem S2x1x128 .i32 := Memref.whole cc0_scoped0
abbrev oB : Memref sig .scVector .vmem S2x128x128 .i32 := Memref.whole cc0_scoped2

/-! ## The canonical names -/

/-- Block `k` (of 66) of the tile at `L`, counted over all tiles. -/
abbrev blk (L : grid0.Coords) (k : Nat) : Nat := base L + k % 66
theorem blk_lt (L : grid0.Coords) (k : Nat) : blk L k < 2112 := by
  have := base_le L; have := Nat.mod_lt k (show 0 < 66 by decide); unfold blk; omega

theorem iBlk_inb (L : grid0.Coords) (k : Nat) : ∀ a, (![0, 128 * blk L k] : Fin 2 → Nat) a + S1x128.size a ≤ S1x270336.size a := by
  have := blk_lt L k
  intro a; match a with
  | 0 => show 0 + 1 ≤ 1; omega
  | 1 => show 128 * blk L k + 128 ≤ 270336; omega
theorem oBlk_inb (L : grid0.Coords) (k : Nat) : ∀ a, (![128 * blk L k, 0] : Fin 2 → Nat) a + S128x128.size a ≤ S270336x128.size a := by
  have := blk_lt L k
  intro a; match a with
  | 0 => show 128 * blk L k + 128 ≤ 270336; omega
  | 1 => show 0 + 128 ≤ 128; omega
theorem iS_inb (j : Fin 2) : ∀ a, (![j.val, 0, 0] : Fin 3 → Nat) a + S1x1x128.size a ≤ S2x1x128.size a := by
  revert j; decide
theorem oS_inb (j : Fin 2) : ∀ a, (![j.val, 0, 0] : Fin 3 → Nat) a + S1x128x128.size a ≤ S2x128x128.size a := by
  revert j; decide
theorem sem_inb (j : Fin 2) : ∀ a, (![j.val] : Fin 1 → Nat) a + S1.size a ≤ S2.size a := by
  revert j; decide

abbrev iRect (j : Fin 2) : Rect S2x1x128 := Rect.unit (s := S2x1x128) ![j.val, 0, 0] S1x1x128.size (iS_inb j)
abbrev oRect (j : Fin 2) : Rect S2x128x128 := Rect.unit (s := S2x128x128) ![j.val, 0, 0] S1x128x128.size (oS_inb j)
abbrev iBRect (L : grid0.Coords) (k : Nat) : Rect S1x270336 := Rect.unit (s := S1x270336) ![0, 128 * blk L k] S1x128.size (iBlk_inb L k)
abbrev oBRect (L : grid0.Coords) (k : Nat) : Rect S270336x128 := Rect.unit (s := S270336x128) ![128 * blk L k, 0] S128x128.size (oBlk_inb L k)

/-- Block `k` of the index list and of the output. -/
abbrev iBlk (L : grid0.Coords) (k : Nat) : Memref sig .scVector .hbm S1x128 .i32 := (iV).slice (iBRect L k) (fun _ => rfl)
abbrev oBlk (L : grid0.Coords) (k : Nat) : Memref sig .scVector .hbm S128x128 .i32 := (oV).slice (oBRect L k) (fun _ => rfl)
/-- Slot `j` of the index buffer and of the row buffer. -/
abbrev iS (j : Fin 2) : Memref sig .scVector .vmem S1x128 .i32 := ((iB).slice (iRect j) (fun _ => rfl)).squeeze S1x128 squeezes_S1x1x128_S1x128
abbrev oS (j : Fin 2) : Memref sig .scVector .vmem S128x128 .i32 := ((oB).slice (oRect j) (fun _ => rfl)).squeeze S128x128 squeezes_S1x128x128_S128x128
/-- Slot `j`'s indices as the list a gather reads, and all the rows as the source it reads. -/
abbrev gL (j : Fin 2) : Memref sig .scVector .vmem S128 .i32 :=
  ((iS j).slice (Rect.unit (s := S1x128) ![0, 0] S1x128.size inb_S1x128_S1x128_0_0) (fun _ => rfl)).squeeze S128 squeezes_S1x128_S128
abbrev xAll : Memref sig .scVector .hbm S606208x128 .i32 :=
  (xV).slice (Rect.unit (s := S606208x128) ![0, 0] S606208x128.size inb_S606208x128_S606208x128_0_0) (fun _ => rfl)
/-- The semaphores of the slots and of the gather. -/
abbrev iM (j : Fin 2) : DmaSem sig := ((cc0_scoped1.slice (Rect.unit (s := S2) ![j.val] S1.size (sem_inb j))).squeeze S_ squeezes_S1_S_).sem
abbrev oM (j : Fin 2) : DmaSem sig := ((cc0_scoped3.slice (Rect.unit (s := S2) ![j.val] S1.size (sem_inb j))).squeeze S_ squeezes_S1_S_).sem
abbrev gM : DmaSem sig := cc0_scoped4.sem

/-! ## Their element sets -/

/-- The columns `lo ≤ c < hi` of the index list. -/
def iSeg (lo hi : Nat) : Finset S1x270336.Idx := Finset.univ.filter fun i => lo ≤ (i 1).val ∧ (i 1).val < hi
/-- The rows `lo ≤ r < hi` of the output. -/
def oSeg (lo hi : Nat) : Finset S270336x128.Idx := Finset.univ.filter fun i => lo ≤ (i 0).val ∧ (i 0).val < hi

theorem mem_iSeg {lo hi : Nat} {i : S1x270336.Idx} : i ∈ iSeg lo hi ↔ lo ≤ (i 1).val ∧ (i 1).val < hi := by simp [iSeg]
theorem mem_oSeg {lo hi : Nat} {i : S270336x128.Idx} : i ∈ oSeg lo hi ↔ lo ≤ (i 0).val ∧ (i 0).val < hi := by simp [oSeg]

theorem iSeg_union {a b c : Nat} (h₁ : a ≤ b) (h₂ : b ≤ c) : iSeg a c = iSeg a b ∪ iSeg b c := by
  ext i; simp only [Finset.mem_union, mem_iSeg]; omega
theorem oSeg_union {a b c : Nat} (h₁ : a ≤ b) (h₂ : b ≤ c) : oSeg a c = oSeg a b ∪ oSeg b c := by
  ext i; simp only [Finset.mem_union, mem_oSeg]; omega
theorem iSeg_disjoint (a b c d : Nat) (h : b ≤ c) : Disjoint (iSeg a b) (iSeg c d) := by
  rw [Finset.disjoint_left]; intro i; simp only [mem_iSeg]; omega
theorem oSeg_disjoint (a b c d : Nat) (h : b ≤ c) : Disjoint (oSeg a b) (oSeg c d) := by
  rw [Finset.disjoint_left]; intro i; simp only [mem_oSeg]; omega
theorem iSeg_self (a : Nat) : iSeg a a = ∅ := by
  ext i; simp only [mem_iSeg, Finset.notMem_empty, iff_false]; omega
theorem oSeg_self (a : Nat) : oSeg a a = ∅ := by
  ext i; simp only [mem_oSeg, Finset.notMem_empty, iff_false]; omega

theorem set_iBlk (L : grid0.Coords) (k : Nat) : (iBlk L k).view.set = iSeg (128 * blk L k) (128 * blk L k + 128) := by
  show ((View.whole (main_v8_scv : Ref sig .scVector)).slice (iBRect L k)).set = _
  rw [View.set_slice_whole]
  ext i
  rw [Rect.mem_set_unit, mem_iSeg]
  constructor
  · intro h; exact h 1
  · intro h a; match a with
    | 0 => have : (i 0).val < 1 := (i 0).isLt; exact ⟨Nat.zero_le _, by show (i 0).val < 0 + 1; omega⟩
    | 1 => exact h
theorem set_oBlk (L : grid0.Coords) (k : Nat) : (oBlk L k).view.set = oSeg (128 * blk L k) (128 * blk L k + 128) := by
  show ((View.whole (main_v10_scv : Ref sig .scVector)).slice (oBRect L k)).set = _
  rw [View.set_slice_whole]
  ext i
  rw [Rect.mem_set_unit, mem_oSeg]
  constructor
  · intro h; exact h 0
  · intro h a; match a with
    | 0 => exact h
    | 1 => have : (i 1).val < 128 := (i 1).isLt; exact ⟨Nat.zero_le _, by show (i 1).val < 0 + 128; omega⟩

theorem set_iS (j : Fin 2) : (iS j).view.set = (iRect j).set := by
  show (((View.whole (cc0_scoped0 : Ref sig .scVector)).slice (iRect j)).reshape S1x128 squeezes_S1x1x128_S1x128.numel_eq).set = _
  rw [View.set_reshape, View.set_slice_whole]
theorem set_oS (j : Fin 2) : (oS j).view.set = (oRect j).set := by
  show (((View.whole (cc0_scoped2 : Ref sig .scVector)).slice (oRect j)).reshape S128x128 squeezes_S1x128x128_S128x128.numel_eq).set = _
  rw [View.set_reshape, View.set_slice_whole]

theorem emb_full2 {n m : Nat} (inb) (x : (⟨2, ![n, m]⟩ : Shape).Idx) :
    (Rect.unit (s := ⟨2, ![n, m]⟩) ![0, 0] (⟨2, ![n, m]⟩ : Shape).size inb).emb x = x := by
  funext a; apply Fin.ext
  match a with
  | 0 => show 0 + 1 * (x 0).val = (x 0).val; omega
  | 1 => show 0 + 1 * (x 1).val = (x 1).val; omega

/-- The list of a slot is the slot's own elements. -/
theorem set_gL (j : Fin 2) : (gL j).view.set = (iS j).view.set := by
  show (((iS j).view.slice (Rect.unit (s := S1x128) ![0, 0] S1x128.size inb_S1x128_S1x128_0_0)).reshape S128 squeezes_S1x128_S128.numel_eq).set = _
  rw [View.set_reshape, View.set_slice]
  unfold View.set
  rw [← Rect.map_emb_univ]
  congr 1
  ext x
  simp only [Finset.mem_map, Finset.mem_univ, true_and, iff_true]
  exact ⟨x, emb_full2 (n := 1) (m := 128) _ x⟩

theorem set_xAll : (xAll).view.set = Finset.univ := by
  show ((View.whole (main_v9_scv : Ref sig .scVector)).slice (Rect.unit (s := S606208x128) ![0, 0] S606208x128.size inb_S606208x128_S606208x128_0_0)).set = _
  rw [View.set_slice_whole]
  ext i
  rw [Rect.mem_set_unit]
  simp only [Finset.mem_univ, iff_true]
  intro a; match a with
  | 0 => exact ⟨Nat.zero_le _, by show (i 0).val < 0 + 606208; have : (i 0).val < 606208 := (i 0).isLt; omega⟩
  | 1 => exact ⟨Nat.zero_le _, by show (i 1).val < 0 + 128; have : (i 1).val < 128 := (i 1).isLt; omega⟩

/-! ## What they read -/

/-- The index list's entry `c`, and the output's row `r`, lane `l`. -/
def iAt (c : Nat) (h : c < 270336) : S1x270336.Idx := fun | 0 => ⟨0, Nat.one_pos⟩ | 1 => ⟨c, h⟩ | ⟨_ + 2, h⟩ => absurd h (Nat.not_lt.2 (Nat.le_add_left _ _))

/-- Row-major position `x` of a block of one row is its column `x`. -/
theorem sq128 (x : S128.Idx) : ((Shape.reshapeEquiv squeezes_S1x128_S128.numel_eq x) 1).val = (x 0).val := by
  revert x; decide +kernel

/-- Slot `j`, holding block `k` of the index list `I`, reads at `x` the list's entry `128·blk + x`. -/
theorem gL_read [∀ e, Nonempty (Elt F e)] (j : Fin 2) (L : grid0.Coords) (k : Nat) (I : S1x270336.Idx → Elt F .i32) (f : (iS j).view.ty.Contents (Elt F)) (x : S128.Idx) :
    (gL j).view.read (Elt F) ((iS j).view.write (Elt F) f ((iBlk L k).view.read (Elt F) I) Finset.univ) x
      = I (iAt (128 * blk L k + (x 0).val) (by have := blk_lt L k; have : (x 0).val < 128 := (x 0).isLt; omega)) := by
  have h1 : ∀ g, (gL j).view.read (Elt F) g x = (iS j).view.read (Elt F) g
      ((Rect.unit (s := S1x128) ![0, 0] S1x128.size inb_S1x128_S1x128_0_0).emb (Shape.reshapeEquiv squeezes_S1x128_S128.numel_eq x)) := fun g => rfl
  rw [h1, View.read_write_univ]
  show I ((iBRect L k).emb _) = I _
  congr 1
  funext a; apply Fin.ext
  match a with
  | 0 =>
    have : ∀ y : S1x270336.Idx, (y 0).val = 0 := fun y => by have : (y 0).val < 1 := (y 0).isLt; omega
    rw [this, this]
  | 1 =>
    rw [emb_full2 (n := 1) (m := 128)]
    show 128 * blk L k + 1 * ((Shape.reshapeEquiv squeezes_S1x128_S128.numel_eq x) 1).val = 128 * blk L k + (x 0).val
    rw [sq128]; omega

end Cert.Proof.Gath

end
-- ==== Proof.Steps.lean ====
/-
  The five kinds of transfer of a tile of the row gather, each as one rule over the canonical names: fetch a block of
  the index list into a slot, wait for it, gather the rows it names, send them out, wait for that.
-/
module

public import proofs.«01_k».proof.Proof.Slots

@[expose] public section

noncomputable section

namespace Cert.Proof.Gath

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The gathered array -/

/-- Row `r` (kept below the number of rows), lane `l` of the rows. -/
def xAt (r l : Nat) (hl : l < 128) : S606208x128.Idx :=
  fun | 0 => ⟨r % 606208, Nat.mod_lt _ (by decide)⟩ | 1 => ⟨l, hl⟩ | ⟨_ + 2, h⟩ => absurd h (Nat.not_lt.2 (Nat.le_add_left _ _))

/-- Every row of the output is the row of `X` its entry of the index list `I` names. -/
def G (X : S606208x128.Idx → Elt F .i32) (I : S1x270336.Idx → Elt F .i32) : S270336x128.Idx → Elt F .i32 :=
  fun i => X (xAt (I (iAt (i 0).val (i 0).isLt)).toNat (i 1).val (i 1).isLt)

variable (d : Dev nD) (L : grid0.Coords)
variable (X : Buf (Elt F) (xLoc d)) (I : Buf (Elt F) (iLoc d)) (O₀ : Buf (Elt F) (oLoc d))

/-- The gathered array as the output's contents. -/
abbrev GO : Buf (Elt F) (oLoc d) := G (F := F) X I

/-! ## What is held -/

/-- Columns `lo … hi` of the index list; rows `lo … hi` of the output at `f`; a share of the rows. -/
abbrev iPts (lo hi : Nat) : sProp 𝕄 := iLoc d ↦[iSeg lo hi]{fullShare} I
abbrev oPts (lo hi : Nat) (f : Buf (Elt F) (oLoc d)) : sProp 𝕄 := oLoc d ↦[oSeg lo hi]{fullShare} f
abbrev xPts (q : PosShare TreeShare) : sProp 𝕄 := xLoc d ↦{q} X

abbrev iSPts (j : Fin 2) (f : Buf (Elt F) ((iS j).view.loc (TH d L))) : sProp 𝕄 := (iS j).view.loc (TH d L) ↦[(iS j).view.set]{fullShare} f
abbrev oSPts (j : Fin 2) (f : Buf (Elt F) ((oS j).view.loc (TH d L))) : sProp 𝕄 := (oS j).view.loc (TH d L) ↦[(oS j).view.set]{fullShare} f

/-- A free slot; an index slot holding block `k`; a row slot holding the rows of block `k`. -/
def IFree (j : Fin 2) : sProp 𝕄 := iprop(∃ f, iSPts d L j f)
def OFree (j : Fin 2) : sProp 𝕄 := iprop(∃ f, oSPts d L j f)
theorem col_lt (L : grid0.Coords) (k : Nat) (x : S128.Idx) : 128 * blk L k + (x 0).val < 270336 := by
  have := blk_lt L k; have : (x 0).val < 128 := (x 0).isLt; omega
def IFull (k : Nat) (j : Fin 2) : sProp 𝕄 :=
  iprop(∃ f : Buf (Elt F) ((iS j).view.loc (TH d L)), ⌜∀ x, (gL j).view.read (Elt F) f x = I (iAt (128 * blk L k + (x 0).val) (col_lt L k x))⌝ ∗ iSPts d L j f)
def OFull (k : Nat) (j : Fin 2) : sProp 𝕄 :=
  iprop(∃ f : Buf (Elt F) ((oS j).view.loc (TH d L)), ⌜∀ x, (oS j).view.read (Elt F) f x = GO d X I ((oBlk L k).view.emb x)⌝ ∗ oSPts d L j f)

abbrev iCell (j : Fin 2) : GSem nD τ sig := (TH d L, .dma (iM j))
abbrev oCell (j : Fin 2) : GSem nD τ sig := (TH d L, .dma (oM j))
abbrev gCell : GSem nD τ sig := (TH d L, .dma gM)

/-- Block `k` of the index list on its way into its slot; of the output, out of its slot. -/
def FlI (k : Nat) (j : Fin 2) : sProp 𝕄 :=
  Transfers.Flight countersEmb (TH d L) (.dma (iM j)) (default : HIx 1) (iS j).view.dmaCredit
    iprop(IFull d L I k j ∗ iPts d I (128 * blk L k) (128 * blk L k + 128))
def FlO (k : Nat) (j : Fin 2) : sProp 𝕄 :=
  Transfers.Flight countersEmb (TH d L) (.dma (oM j)) (default : HIx 1) (oBlk L k).view.dmaCredit
    iprop(OFree d L j ∗ oPts d (128 * blk L k) (128 * blk L k + 128) (GO d X I))

variable [FloatOps F] [∀ e, Nonempty (Elt F e)]

local notation "WP" => wp frame (wpE (defs₀ (F := F)) 𝒱₀ (TH d L) none) Set.univ

omit [FloatOps F] in
theorem iBlk_pts (k : Nat) :
    ((iBlk L k).view.loc (TH d L) ↦[(iBlk L k).view.set]{fullShare} I : sProp 𝕄) = iPts d I (128 * blk L k) (128 * blk L k + 128) := by
  rw [set_iBlk]
omit [FloatOps F] in
theorem oBlk_pts (k : Nat) (f : Buf (Elt F) (oLoc d)) :
    ((oBlk L k).view.loc (TH d L) ↦[(oBlk L k).view.set]{fullShare} f : sProp 𝕄) = oPts d (128 * blk L k) (128 * blk L k + 128) f := by
  rw [set_oBlk]

/-- Fetching block `k` of the index list into slot `j`. -/
theorem wp_fetch (k : Nat) (j : Fin 2) {src : Memref sig .scVector .hbm S1x128 .i32} {dst : Memref sig .scVector .vmem S1x128 .i32} {sem : DmaSem sig}
    (hs : src = iBlk L k) (hd : dst = iS j) (hm : sem = iM j) {h1 h2 h3} {Q : PUnit → sProp 𝕄} :
    iprop(IFree d L j ∗ semVal (iCell d L j) 0 ∗ iPts d I (128 * blk L k) (128 * blk L k + 128) ∗ (FlI d L I k j -∗ Q ⟨⟩))
      ⊢ WP (Prog.lift (.enqueueDma src (.here dst) (.dma sem) h1 h2 h3)) Q := by
  subst hs hd hm
  unfold IFree
  iintro ⟨⟨%f, Hf⟩, Hv, Hi, HQ⟩
  ihave Hi' := (Entails.of_eq (iBlk_pts d L I k).symm) $$ Hi
  iapply (Transfers.wp_dmaLocal countersEmb 𝒱₀ (TH d L) none (default : HIx 1) (iS j).view.dmaCredit rfl
    (View.dmaCredit_pos _ (show 0 < S1x128.numel by decide)) (subset_refl _)) $$ [Hf Hi' Hv]
  · isplitl [Hi']; · iexact Hi'
    isplitl [Hf]; · iexact Hf
    iexact Hv
  iintro Hfl
  rw [wp_ret]; imodintro
  iapply HQ
  unfold FlI
  iapply (Transfers.Flight_mono countersEmb (TH d L) ?_) $$ Hfl
  iintro ⟨H1, H2⟩
  isplitl [H1]
  · unfold IFull
    iexists _; isplitr
    swap; · iexact H1
    ipureintro; intro x
    exact gL_read j L k I f x
  · iapply (Entails.of_eq (iBlk_pts d L I k)); iexact H2

/-- The wait for it. -/
theorem wp_fetched (k : Nat) (j : Fin 2) {src : Memref sig .scVector .hbm S1x128 .i32} {dst : Memref sig .scVector .vmem S1x128 .i32} {sem : DmaSem sig}
    (hd : dst = iS j) (hm : sem = iM j) {h1 h2} {Q : PUnit → sProp 𝕄} {O : CellTallies nD τ sig (HIx 1)} {W : Waits sig (HIx 1)} :
    iprop(FlI d L I k j ∗ owes (TH d L) O W ∗ Transfers.MayWaits (TH d L) (default : HIx 1) O
        ∗ ((IFull d L I k j ∗ iPts d I (128 * blk L k) (128 * blk L k + 128) ∗ semVal (iCell d L j) 0 ∗ owes (TH d L) O (insert (SemLoc.dma (iM j), default) W)) -∗ Q ⟨⟩))
      ⊢ WP (Prog.lift (.waitDma2 sem src dst h1 h2)) Q := by
  subst hd hm
  iintro ⟨Hfl, HO, Hmw, HQ⟩
  unfold FlI
  iapply (Transfers.wp_waitLocalO countersEmb 𝒱₀ (TH d L) none (default : HIx 1) (rfl : (iS j).view.dmaCredit = _)) $$ [Hfl HO Hmw]
  · isplitl [Hfl]; · iexact Hfl
    isplitl [HO]; · iexact HO
    iapply (Transfers.MayWaits.elim (SemLoc.dma (iM j))) $$ Hmw
  iintro ⟨⟨H1, H2⟩, Hv, HO⟩
  rw [wp_ret]; imodintro
  iapply HQ
  isplitl [H1]; · iexact H1
  isplitl [H2]; · iexact H2
  isplitl [Hv]; · iexact Hv
  iexact HO

/-- Sending the rows of block `k` out of slot `j`. -/
theorem wp_send (k : Nat) (j : Fin 2) {src : Memref sig .scVector .vmem S128x128 .i32} {dst : Memref sig .scVector .hbm S128x128 .i32} {sem : DmaSem sig}
    (hs : src = oS j) (hd : dst = oBlk L k) (hm : sem = oM j) {h1 h2 h3} {Q : PUnit → sProp 𝕄} :
    iprop(OFull d L X I k j ∗ semVal (oCell d L j) 0 ∗ oPts d (128 * blk L k) (128 * blk L k + 128) O₀ ∗ (FlO d L X I k j -∗ Q ⟨⟩))
      ⊢ WP (Prog.lift (.enqueueDma src (.here dst) (.dma sem) h1 h2 h3)) Q := by
  subst hs hd hm
  unfold OFull
  iintro ⟨⟨%f, %hf, Hf⟩, Hv, Ho, HQ⟩
  ihave Ho' := (Entails.of_eq (oBlk_pts d L k O₀).symm) $$ Ho
  iapply (Transfers.wp_dmaLocal countersEmb 𝒱₀ (TH d L) none (default : HIx 1) (oBlk L k).view.dmaCredit rfl
    (View.dmaCredit_pos _ (show 0 < S128x128.numel by decide)) (subset_refl _)) $$ [Hf Ho' Hv]
  · isplitl [Hf]; · iexact Hf
    isplitl [Ho']; · iexact Ho'
    iexact Hv
  iintro Hfl
  rw [wp_ret]; imodintro
  iapply HQ
  unfold FlO
  iapply (Transfers.Flight_mono countersEmb (TH d L) ?_) $$ Hfl
  iintro ⟨H1, H2⟩
  isplitl [H2]
  · unfold OFree
    iexists _; iexact H2
  · iapply (Entails.of_eq (oBlk_pts d L k (GO d X I)))
    iapply (Entails.of_eq (pointsTo_congr (g := GO d X I) ?_)) $$ H1
    intro i hi
    obtain ⟨x, -, rfl⟩ := Finset.mem_map.mp hi
    rw [View.write_emb_of_mem _ _ (Finset.mem_univ x)]
    exact hf x

/-- The wait for it. -/
theorem wp_sent (k : Nat) (j : Fin 2) {src : Memref sig .scVector .vmem S128x128 .i32} {dst : Memref sig .scVector .hbm S128x128 .i32} {sem : DmaSem sig}
    (hd : dst = oBlk L k) (hm : sem = oM j) {h1 h2} {Q : PUnit → sProp 𝕄} {O : CellTallies nD τ sig (HIx 1)} {W : Waits sig (HIx 1)} :
    iprop(FlO d L X I k j ∗ owes (TH d L) O W ∗ Transfers.MayWaits (TH d L) (default : HIx 1) O
        ∗ ((OFree d L j ∗ oPts d (128 * blk L k) (128 * blk L k + 128) (GO d X I) ∗ semVal (oCell d L j) 0 ∗ owes (TH d L) O (insert (SemLoc.dma (oM j), default) W)) -∗ Q ⟨⟩))
      ⊢ WP (Prog.lift (.waitDma2 sem src dst h1 h2)) Q := by
  subst hd hm
  iintro ⟨Hfl, HO, Hmw, HQ⟩
  unfold FlO
  iapply (Transfers.wp_waitLocalO countersEmb 𝒱₀ (TH d L) none (default : HIx 1) (rfl : (oBlk L k).view.dmaCredit = _)) $$ [Hfl HO Hmw]
  · isplitl [Hfl]; · iexact Hfl
    isplitl [HO]; · iexact HO
    iapply (Transfers.MayWaits.elim (SemLoc.dma (oM j))) $$ Hmw
  iintro ⟨⟨H1, H2⟩, Hv, HO⟩
  rw [wp_ret]; imodintro
  iapply HQ
  isplitl [H1]; · iexact H1
  isplitl [H2]; · iexact H2
  isplitl [Hv]; · iexact Hv
  iexact HO

/-! ## The gather -/

/-- The rows the list names, landed in slot `j`. -/
def FlG (k : Nat) (j : Fin 2) (q : PosShare TreeShare) : sProp 𝕄 :=
  Transfers.Flight countersEmb (TH d L) (.dma gM) (default : HIx 1) (oS j).view.dmaCredit
    iprop(OFull d L X I k j ∗ xPts d X q ∗ IFree d L j)

omit [FloatOps F] in
theorem xAll_pts (q : PosShare TreeShare) :
    ((xAll).view.loc (TH d L) ↦[(xAll).view.set]{q} X : sProp 𝕄) = xPts d X q := by
  rw [set_xAll]

theorem row_credit (j : Fin 2) (h : S606208x128.Gathers 0 S128x128) :
    ∑ r, ((oS j).slice (S128x128.rowRect h.axis' r) (S128x128.stride_rowRect h.axis' r)).view.dmaCredit = (oS j).view.dmaCredit :=
  SparseCore.sum_rowCredit_eq_dmaCredit (oS j) h.axis' (fun _ => rfl)

omit [FloatOps F] in
/-- What the gather writes is the output's block: row `r` of it is the row of `X` the list's entry `r` names. -/
theorem payload_eq (k : Nat) (j : Fin 2) (hI : ∀ c, (I c).toNat < 606208) (fo : Buf (Elt F) ((iS j).view.loc (TH d L)))
    (hfo : ∀ x, (gL j).view.read (Elt F) fo x = I (iAt (128 * blk L k + (x 0).val) (col_lt L k x)))
    (hn : S128.numel = S128x128.size gathers_S606208x128_S128x128.axis')
    (hin : ∀ x, ((gL j).view.read (Elt F) fo x).toNat < S606208x128.size gathers_S606208x128_S128x128.axis) (x : S128x128.Idx) :
    SparseCore.gatherPayload (F := F) (e := .i32) gathers_S606208x128_S128x128 ((xAll).view.read (Elt F) X) (SparseCore.rows ((gL j).view.read (Elt F) fo) hn hin) x
      = GO d X I ((oBlk L k).view.emb x) := by
  have hx0 : (x 0).val < 128 := (x 0).isLt
  unfold SparseCore.gatherPayload
  show X ((Rect.unit (s := S606208x128) ![0, 0] S606208x128.size inb_S606208x128_S606208x128_0_0).emb _) = X (xAt _ _ _)
  rw [emb_full2 (n := 606208) (m := 128)]
  congr 1
  funext a; apply Fin.ext
  match a with
  | 0 =>
    have h := Shape.Gathers.idx_axis gathers_S606208x128_S128x128 (SparseCore.rows ((gL j).view.read (Elt F) fo) hn hin) x
    refine (congrArg Fin.val h).trans ?_
    show ((gL j).view.read (Elt F) fo _).toNat = (I _).toNat % 606208
    rw [Nat.mod_eq_of_lt (hI _), hfo]
    congr 2
    have hy : ∀ (r : Fin S128.numel), ((S128.rowMajor.symm r) 0).val = r.val := by decide +kernel
    funext a; apply Fin.ext
    match a with
    | 0 => rfl
    | 1 =>
      show 128 * blk L k + _ = 128 * blk L k + 1 * (x 0).val
      rw [hy]
      show _ + (x 0).val = _
      omega
  | 1 =>
    have h := Shape.Gathers.idx_of_ne gathers_S606208x128_S128x128 (SparseCore.rows ((gL j).view.read (Elt F) fo) hn hin) x 1 (by decide)
    refine Eq.trans (b := (x 1).val) h ?_
    show (x 1).val = 0 + 1 * (x 1).val
    omega

/-- The gather of block `k`'s rows. -/
theorem wp_gather (k : Nat) (j : Fin 2) (q : PosShare TreeShare) (hI : ∀ c, (I c).toNat < 606208)
    {src : Memref sig .scVector .hbm S606208x128 .i32} {dst : Memref sig .scVector .vmem S128x128 .i32} {lst : Memref sig .scVector .vmem S128 .i32} {sem : DmaSem sig}
    (hs : src = xAll) (hd : dst = oS j) (hl : lst = gL j) (hm : sem = gM) {hp} {hn} {h1 h2 h3 h4} {Q : PUnit → sProp 𝕄} :
    iprop(xPts d X q ∗ OFree d L j ∗ IFull d L I k j ∗ semVal (gCell d L) 0 ∗ (FlG d L X I k j q -∗ Q ⟨⟩))
      ⊢ WP (SparseCore.enqueueIndirectGather (p := (TH d L).2) hp src dst gathers_S606208x128_S128x128 lst hn sem h1 h2 h3 h4) Q := by
  subst hs hd hl hm
  unfold OFree IFull
  iintro ⟨Hx, ⟨%fd, Hd⟩, ⟨%fo, %hfo, Hi⟩, Hv, HQ⟩
  have hin : ∀ x, ((gL j).view.read (Elt F) fo x).toNat < S606208x128.size gathers_S606208x128_S128x128.axis := fun x => by
    rw [hfo]; exact hI _
  ihave Hx' := (Entails.of_eq (xAll_pts d L X q).symm) $$ Hx
  ihave Hi' := (Entails.of_eq (show (iSPts d L j fo : sProp 𝕄) = (gL j).view.loc (TH d L) ↦[(gL j).view.set]{fullShare} fo by rw [set_gL])) $$ Hi
  rw [← bind_pure (SparseCore.enqueueIndirectGather _ _ _ _ _ _ _ _ _ _ _)]
  iapply (SparseCore.wp_indirectGatherLocal countersEmb 𝒱₀ (TH d L) none (hg := gathers_S606208x128_S128x128) (default : HIx 1)
      (oS j).view.dmaCredit (row_credit j _) (by decide) hin) $$ [Hx' Hd Hi' Hv]
  · isplitl [Hx']; · iexact Hx'
    isplitl [Hd]; · iexact Hd
    isplitl [Hi']; · iexact Hi'
    iexact Hv
  iintro Hfl
  rw [wp_pure]; imodintro
  iapply HQ
  unfold FlG
  iapply (Transfers.Flight_mono countersEmb (TH d L) ?_) $$ Hfl
  iintro ⟨H1, H2, H3⟩
  isplitl [H1]
  · unfold OFull
    iexists _; isplitr
    swap; · iexact H1
    ipureintro; intro x
    rw [View.read_write_univ]
    exact payload_eq d L X I k j hI fo hfo _ hin x
  isplitl [H2]
  · iapply (Entails.of_eq (xAll_pts d L X q)); iexact H2
  · unfold IFree
    iexists fo
    iapply (Entails.of_eq (show ((gL j).view.loc (TH d L) ↦[(gL j).view.set]{fullShare} fo : sProp 𝕄) = iSPts d L j fo by rw [set_gL])); iexact H3

/-- The wait for it. -/
theorem wp_gathered (k : Nat) (j : Fin 2) (q : PosShare TreeShare) {src : Memref sig .scVector .hbm S606208x128 .i32} {dst : Memref sig .scVector .vmem S128x128 .i32} {sem : DmaSem sig}
    (hd : dst = oS j) (hm : sem = gM) {h1 h2} {Q : PUnit → sProp 𝕄} {O : CellTallies nD τ sig (HIx 1)} {W : Waits sig (HIx 1)} :
    iprop(FlG d L X I k j q ∗ owes (TH d L) O W ∗ Transfers.MayWaits (TH d L) (default : HIx 1) O
        ∗ ((OFull d L X I k j ∗ xPts d X q ∗ IFree d L j ∗ semVal (gCell d L) 0 ∗ owes (TH d L) O (insert (SemLoc.dma gM, default) W)) -∗ Q ⟨⟩))
      ⊢ WP (SparseCore.waitIndirectGather (p := (TH d L).2) sem src dst h1 h2) Q := by
  subst hd hm
  iintro ⟨Hfl, HO, Hmw, HQ⟩
  unfold FlG
  iapply (Transfers.wp_waitLocalO countersEmb 𝒱₀ (TH d L) none (default : HIx 1) (rfl : (oS j).view.dmaCredit = _)) $$ [Hfl HO Hmw]
  · isplitl [Hfl]; · iexact Hfl
    isplitl [HO]; · iexact HO
    iapply (Transfers.MayWaits.elim (SemLoc.dma gM)) $$ Hmw
  iintro ⟨⟨H1, H2, H3⟩, Hv, HO⟩
  rw [wp_ret]; imodintro
  iapply HQ
  isplitl [H1]; · iexact H1
  isplitl [H2]; · iexact H2
  isplitl [H3]; · iexact H3
  isplitl [Hv]; · iexact Hv
  iexact HO

end Cert.Proof.Gath

end
-- ==== Proof.Trip.lean ====
/-
  One trip of a tile of the row gather: the loop's invariant, and the trip's region from it to it.
-/
module

public import proofs.«01_k».proof.Proof.Steps

@[expose] public section

set_option Elab.async false

noncomputable section

namespace Cert.Proof.Gath

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (d : Dev nD) (L : grid0.Coords)
variable (X : Buf (Elt F) (xLoc d)) (I : Buf (Elt F) (iLoc d)) (O₀ : Buf (Elt F) (oLoc d))

/-! ## The invariant -/

/-- The tile's column (and row) at its block `n`. -/
abbrev cb (L : grid0.Coords) (n : Nat) : Nat := 128 * (base L + n)

theorem blk_eq (L : grid0.Coords) {k : Nat} (hk : k < 66) : 128 * blk L k = cb L k := by
  unfold blk cb; rw [Nat.mod_eq_of_lt hk]
theorem cb_succ (L : grid0.Coords) (n : Nat) : cb L n + 128 = cb L (n + 1) := by unfold cb; omega
theorem cb_mono (L : grid0.Coords) {a b : Nat} (h : a ≤ b) : cb L a ≤ cb L b := by unfold cb; omega
theorem sl_two (k : Nat) : sl (k + 2) = sl k := Fin.ext (by simp [sl])

/-- A free index slot with its semaphore at zero; a free row slot. -/
abbrev IFr (j : Fin 2) : sProp 𝕄 := iprop(IFree d L j ∗ semVal (iCell d L j) 0)
abbrev OFr (j : Fin 2) : sProp 𝕄 := iprop(OFree d L j ∗ semVal (oCell d L j) 0)

/-- Slot `j` fetching block `k`, if there is a block `k`; else free. -/
def INext (k : Nat) (j : Fin 2) : sProp 𝕄 := if k < 66 then FlI d L I k j else IFr d L j
/-- Slot `j` sending block `k - 1`, if there is one; else free. -/
def OPrev (k : Nat) (j : Fin 2) : sProp 𝕄 := if 0 < k then FlO d L X I (k - 1) j else OFr d L j

/-- The index side before trip `k`, and after trip `k`'s fetch. -/
def ISt (k : Nat) : sProp 𝕄 :=
  iprop(INext d L I k (sl k) ∗ IFr d L (sl (k + 1)) ∗ iPts d I (cb L 0) (cb L k) ∗ iPts d I (cb L (min (k + 1) 66)) (cb L 66))
def IMid (k : Nat) : sProp 𝕄 :=
  iprop(FlI d L I k (sl k) ∗ INext d L I (k + 1) (sl (k + 1)) ∗ iPts d I (cb L 0) (cb L k) ∗ iPts d I (cb L (min (k + 2) 66)) (cb L 66))
/-- The output side before trip `k`. -/
def OSt (k : Nat) : sProp 𝕄 :=
  iprop(OPrev d L X I k (sl (k + 1)) ∗ OFr d L (sl k) ∗ oPts d (cb L 0) (cb L (k - 1)) (GO d X I) ∗ oPts d (cb L k) (cb L 66) O₀)
/-- What the tile owes, with waits of its own recorded. -/
def OW (O : CellTallies nD τ sig (HIx 1)) (W : Waits sig (HIx 1)) : sProp 𝕄 :=
  iprop(∃ W', ⌜∀ p ∈ W', p ∈ W ∨ p.2 = none⌝ ∗ owes (TH d L) O W')

theorem OW_intro {O : CellTallies nD τ sig (HIx 1)} {W W' : Waits sig (HIx 1)} {sm : SemLoc sig} (h : ∀ p ∈ W', p ∈ W ∨ p.2 = none) :
    (owes (TH d L) O (insert (sm, default) W') : sProp 𝕄) ⊢ OW d L O W := by
  unfold OW
  iintro H
  iexists _; isplitr
  swap; · iexact H
  ipureintro; intro p hp
  rcases Finset.mem_insert.mp hp with hp | hp
  · exact .inr (hp ▸ rfl)
  · exact h p hp

variable [FloatOps F] [∀ e, Nonempty (Elt F e)]

local notation "WP" => wp frame (wpE (defs₀ (F := F)) 𝒱₀ (TH d L) none) Set.univ

theorem iPts_join {a b c : Nat} (h₁ : a ≤ b) (h₂ : b ≤ c) : (iPts d I a c : sProp 𝕄) ⊣⊢ iprop(iPts d I a b ∗ iPts d I b c) := by
  unfold iPts
  rw [iSeg_union h₁ h₂]
  exact pointsTo_union (iSeg_disjoint _ _ _ _ (le_refl _))
theorem oPts_join (f : Buf (Elt F) (oLoc d)) {a b c : Nat} (h₁ : a ≤ b) (h₂ : b ≤ c) : (oPts d a c f : sProp 𝕄) ⊣⊢ iprop(oPts d a b f ∗ oPts d b c f) := by
  unfold oPts
  rw [oSeg_union h₁ h₂]
  exact pointsTo_union (oSeg_disjoint _ _ _ _ (le_refl _))

/-! ## The printed memrefs are the canonical ones -/

omit [FloatOps F] [∀ e, Nonempty (Elt F e)] in
theorem iBlk_of {off : Fin 2 → Nat} {k : Nat} (hk : k < 66) (h : off = ![0, cb L k]) (p hs) :
    (iV).slice (Rect.unit (s := S1x270336) off S1x128.size p) hs = iBlk L k :=
  Memref.slice_unit_congr _ (h.trans (by rw [← blk_eq L hk])) _ _ _ _
omit [FloatOps F] [∀ e, Nonempty (Elt F e)] in
theorem oBlk_of {off : Fin 2 → Nat} {k : Nat} (hk : k < 66) (h : off = ![cb L k, 0]) (p hs) :
    (oV).slice (Rect.unit (s := S270336x128) off S128x128.size p) hs = oBlk L k :=
  Memref.slice_unit_congr _ (h.trans (by rw [← blk_eq L hk])) _ _ _ _
omit [FloatOps F] [∀ e, Nonempty (Elt F e)] in
theorem iS_of {off : Fin 3 → Nat} {j : Fin 2} (h : off = ![j.val, 0, 0]) (p hs) :
    ((iB).slice (Rect.unit (s := S2x1x128) off S1x1x128.size p) hs).squeeze S1x128 squeezes_S1x1x128_S1x128 = iS j := by
  subst h; rfl
omit [FloatOps F] [∀ e, Nonempty (Elt F e)] in
theorem oS_of {off : Fin 3 → Nat} {j : Fin 2} (h : off = ![j.val, 0, 0]) (p hs) :
    ((oB).slice (Rect.unit (s := S2x128x128) off S1x128x128.size p) hs).squeeze S128x128 squeezes_S1x128x128_S128x128 = oS j := by
  subst h; rfl
omit [FloatOps F] [∀ e, Nonempty (Elt F e)] in
theorem gL_of {off : Fin 3 → Nat} {j : Fin 2} (h : off = ![j.val, 0, 0]) (p hs) :
    ((((iB).slice (Rect.unit (s := S2x1x128) off S1x1x128.size p) hs).squeeze S1x128 squeezes_S1x1x128_S1x128).slice
      (Rect.unit (s := S1x128) ![0, 0] S1x128.size inb_S1x128_S1x128_0_0) (fun _ => rfl)).squeeze S128 squeezes_S1x128_S128 = gL j := by
  subst h; rfl
omit [FloatOps F] [∀ e, Nonempty (Elt F e)] in
theorem iM_of {off : Fin 1 → Nat} {j : Fin 2} (h : off = ![j.val]) (p) :
    ((cc0_scoped1.slice (Rect.unit (s := S2) off S1.size p)).squeeze S_ squeezes_S1_S_).sem = iM j := by
  subst h; rfl
omit [FloatOps F] [∀ e, Nonempty (Elt F e)] in
theorem oM_of {off : Fin 1 → Nat} {j : Fin 2} (h : off = ![j.val]) (p) :
    ((cc0_scoped3.slice (Rect.unit (s := S2) off S1.size p)).squeeze S_ squeezes_S1_S_).sem = oM j := by
  subst h; rfl

/-! ## The trip -/

/-- The first part: the side conditions, and the fetch of the next block if there is one. -/
theorem part1_wp (k : Fin k0_t1_loop.trips) {Φ : _ → sProp 𝕄} :
    iprop(ISt d L I k.val ∗ (IMid d L I k.val -∗ Φ ⟨chk3_ok k, chk2_ok k, chk1_ok L k, ivw k.val, Scalar.cmpi .eq (ivw k.val) 0#32, Scalar.cmpi .eq (ivw k.val) 65#32,
        cur L (a10 k.val), prv L (a10 k.val), nxt L (a10 k.val), a6 (k.val + 1), Scalar.cmpi .ne (cur L (a10 k.val)) (prv L (a10 k.val))⟩))
      ⊢ WP (k0_part1 L xV (Memref.isWhole_whole _) iV (Memref.isWhole_whole _) oV (Memref.isWhole_whole _) iB (Memref.isWhole_whole _) cc0_scoped1
          oB (Memref.isWhole_whole _) cc0_scoped3 cc0_scoped4 (v4w L) 0#32 1#32 k (a6 k.val) (wd k.val) (wd k.val) (a9 k.val) (a10 k.val)) Φ := by
  have hk : k.val < 66 := k.isLt
  rw [k0_part1_eq_skeleton]; unfold k0_part1_skel
  simp only [wp_bind]
  iintro ⟨HI, HQ⟩
  iapply (wp_assume 𝒱₀ (TH d L) none Set.univ (chk3_ok k))
  rw [wp_ret]; imodintro
  iapply (wp_assume 𝒱₀ (TH d L) none Set.univ (chk2_ok k))
  rw [wp_ret]; imodintro
  iapply (wp_assume 𝒱₀ (TH d L) none Set.univ (chk1_ok L k))
  rw [wp_ret]; imodintro
  have h6 := next6 L k
  unfold ISt
  icases HI with ⟨HN, ⟨Hf, Hv⟩, Hdone, Htodo⟩
  ihave HN' := (Entails.of_eq (show (INext d L I k.val (sl k.val) : sProp 𝕄) = FlI d L I k.val (sl k.val) from if_pos hk)) $$ HN
  by_cases h : k.val < 65
  · have hc := (cond1_iff L k).mpr h
    rw [dif_pos hc]
    simp only [wp_bind]
    ihave Ht := (iPts_join d I (cb_mono L (show min (k.val + 1) 66 ≤ k.val + 2 by omega)) (cb_mono L (show k.val + 2 ≤ 66 by omega))).1 $$ Htodo
    icases Ht with ⟨Hb, Htodo⟩
    have e1 : (iPts d I (cb L (min (k.val + 1) 66)) (cb L (k.val + 2)) : sProp 𝕄) = iPts d I (128 * blk L (k.val + 1)) (128 * blk L (k.val + 1) + 128) := by
      rw [blk_eq L (show k.val + 1 < 66 by omega), cb_succ, show min (k.val + 1) 66 = k.val + 1 by omega]
    ihave Hb' := (Entails.of_eq e1) $$ Hb
    iapply (wp_fetch d L I (k.val + 1) (sl (k.val + 1)) (iBlk_of L (show k.val + 1 < 66 by omega) (off5_eq L k h) _ _)
      (iS_of (off4_eq k h) _ _) (iM_of (off6_eq k h) _))
    isplitl [Hf]; · iexact Hf
    isplitl [Hv]; · iexact Hv
    isplitl [Hb']; · iexact Hb'
    iintro Hfl
    rw [wp_pure]; imodintro
    ihave HQ' := HQ $$ [HN' Hfl Hdone Htodo]
    · unfold IMid
      isplitl [HN']; · iexact HN'
      isplitl [Hfl]; · iapply (Entails.of_eq (show (FlI d L I (k.val + 1) (sl (k.val + 1)) : sProp 𝕄) = INext d L I (k.val + 1) (sl (k.val + 1)) from (if_pos (by omega)).symm)); iexact Hfl
      isplitl [Hdone]; · iexact Hdone
      rw [show min (k.val + 2) 66 = k.val + 2 by omega]; iexact Htodo
    rw [← h6]; iexact HQ'
  · have hc : ¬ k0_cond1 L k (a10 k.val) = 1#1 := fun e => h ((cond1_iff L k).mp e)
    rw [dif_neg hc]
    rw [wp_pure]; imodintro
    ihave HQ' := HQ $$ [HN' Hf Hv Hdone Htodo]
    · unfold IMid
      isplitl [HN']; · iexact HN'
      isplitl [Hf Hv]
      · iapply (Entails.of_eq (show (IFr d L (sl (k.val + 1)) : sProp 𝕄) = INext d L I (k.val + 1) (sl (k.val + 1)) from (if_neg (by omega)).symm))
        isplitl [Hf] <;> iassumption
      isplitl [Hdone]; · iexact Hdone
      rw [show min (k.val + 2) 66 = min (k.val + 1) 66 by omega]; iexact Htodo
    rw [← h6]; iexact HQ'

/-- The second part: the wait for this trip's block, the gather of the rows it names and the wait for that. -/
theorem part2_wp (k : Fin k0_t1_loop.trips) (q : PosShare TreeShare) (hI : ∀ c, (I c).toNat < 606208)
    {O : CellTallies nD τ sig (HIx 1)} {W : Waits sig (HIx 1)} {w0 : BitVec 32} {b0 b1 b2 : BitVec 1} {u1 u2 u3 : BitVec 32} {Φ : _ → sProp 𝕄} :
    iprop(Transfers.MayWaits (TH d L) (default : HIx 1) O ∗ IMid d L I k.val ∗ OFree d L (sl k.val) ∗ xPts d X q ∗ semVal (gCell d L) 0 ∗ OW d L O W
        ∗ ((ISt d L I (k.val + 1) ∗ OFull d L X I k.val (sl k.val) ∗ xPts d X q ∗ semVal (gCell d L) 0 ∗ OW d L O W) -∗ Φ ⟨⟩))
      ⊢ WP (k0_part2 L xV (Memref.isWhole_whole _) iV (Memref.isWhole_whole _) oV (Memref.isWhole_whole _) iB (Memref.isWhole_whole _) cc0_scoped1
          oB (Memref.isWhole_whole _) cc0_scoped3 cc0_scoped4 k (a6 k.val) (wd k.val) (wd k.val) (a9 k.val) (a10 k.val) (chk3_ok k) (chk2_ok k) (chk1_ok L k)
          w0 b0 b1 u1 u2 u3 b2) Φ := by
  have hk : k.val < 66 := k.isLt
  rw [k0_part2_eq_skeleton]; unfold k0_part2_skel
  simp only [wp_bind, ite_self]
  iintro ⟨#Hmw, HI, Ho, Hx, Hg, HO, HQ⟩
  unfold OW
  icases HO with ⟨%W₁, %hW₁, HO⟩
  rw [dif_pos (cond2_true L k)]
  simp only [wp_bind]
  unfold IMid
  icases HI with ⟨HN, HN2, Hdone, Htodo⟩
  iapply (wp_fetched d L I k.val (sl k.val) (iS_of (off7_eq k) _ _) (iM_of (off9_eq k) _))
  isplitl [HN]; · iexact HN
  isplitl [HO]; · iexact HO
  isplitr; · iexact Hmw
  iintro ⟨Hfull, Hblk, Hv, HO⟩
  ihave HO := (OW_intro d L hW₁) $$ HO
  unfold OW
  icases HO with ⟨%W₂, %hW₂, HO⟩
  iapply (wp_gather d L X I k.val (sl k.val) q hI rfl (oS_of (off10_eq k) _ _) (gL_of (off11_eq k) _ _) rfl)
  isplitl [Hx]; · iexact Hx
  isplitl [Ho]; · iexact Ho
  isplitl [Hfull]; · iexact Hfull
  isplitl [Hg]; · iexact Hg
  iintro Hfl
  iapply (wp_gathered d L X I k.val (sl k.val) q (oS_of (off10_eq k) _ _) rfl)
  isplitl [Hfl]; · iexact Hfl
  isplitl [HO]; · iexact HO
  isplitr; · iexact Hmw
  iintro ⟨Hfull, Hx, Hfree, Hg, HO⟩
  ihave HO := (OW_intro d L hW₂) $$ HO
  unfold OW
  rw [wp_pure]; imodintro
  iapply HQ
  have e1 : (iPts d I (128 * blk L k.val) (128 * blk L k.val + 128) : sProp 𝕄) = iPts d I (cb L k.val) (cb L (k.val + 1)) := by
    rw [blk_eq L hk, cb_succ]
  ihave Hblk := (Entails.of_eq e1) $$ Hblk
  ihave Hdone := (iPts_join d I (cb_mono L (Nat.zero_le k.val)) (cb_mono L (Nat.le_succ k.val))).2 $$ [Hdone Hblk]
  · isplitl [Hdone] <;> iassumption
  isplitl [HN2 Hfree Hv Hdone Htodo]
  · unfold ISt
    isplitl [HN2]; · iexact HN2
    isplitl [Hfree Hv]
    · rw [show k.val + 1 + 1 = k.val + 2 from rfl, sl_two]
      isplitl [Hfree] <;> iassumption
    isplitl [Hdone]; · iexact Hdone
    iexact Htodo
  isplitl [Hfull]; · iexact Hfull
  isplitl [Hx]; · iexact Hx
  isplitl [Hg]; · iexact Hg
  iexact HO

omit [FloatOps F] [∀ e, Nonempty (Elt F e)] in
theorem iPts_self (a : Nat) : (iprop(emp) : sProp 𝕄) ⊢ iPts d I a a := by
  unfold iPts; rw [iSeg_self]; exact (Entails.of_eq (pointsTo_empty ..).symm)
omit [FloatOps F] [∀ e, Nonempty (Elt F e)] in
theorem oPts_self (f : Buf (Elt F) (oLoc d)) (a : Nat) : (iprop(emp) : sProp 𝕄) ⊢ oPts d a a f := by
  unfold oPts; rw [oSeg_self]; exact (Entails.of_eq (pointsTo_empty ..).symm)

/-- What the loop holds before trip `k`, at the words it carries. -/
def Inv (q : PosShare TreeShare) (O : CellTallies nD τ sig (HIx 1)) (W : Waits sig (HIx 1)) (k : Nat) (acc : BitVec 32 × BitVec 32 × BitVec 32 × BitVec 32 × BitVec 32) : sProp 𝕄 :=
  iprop(⌜acc = (a6 k, wd k, wd k, a9 k, a10 k)⌝ ∗ Transfers.MayWaits (TH d L) (default : HIx 1) O ∗ ISt d L I k ∗ OSt d L X I O₀ k
    ∗ xPts d X q ∗ semVal (gCell d L) 0 ∗ OW d L O W)

/-- A trip takes the invariant to the next. -/
theorem trip_wp (k : Fin k0_t1_loop.trips) (q : PosShare TreeShare) (hI : ∀ c, (I c).toNat < 606208)
    (O : CellTallies nD τ sig (HIx 1)) (W : Waits sig (HIx 1)) (acc : BitVec 32 × BitVec 32 × BitVec 32 × BitVec 32 × BitVec 32) :
    Inv d L X I O₀ q O W k.val acc
      ⊢ WP (k0_t1_body L xV (Memref.isWhole_whole _) iV (Memref.isWhole_whole _) oV (Memref.isWhole_whole _) iB (Memref.isWhole_whole _) cc0_scoped1
          oB (Memref.isWhole_whole _) cc0_scoped3 cc0_scoped4 (v4w L) k acc) (Inv d L X I O₀ q O W (k.val + 1)) := by
  have hk : k.val < 66 := k.isLt
  unfold Inv
  iintro ⟨%hacc, #Hmw, HI, HOut, Hx, Hg, HO⟩
  subst hacc
  unfold k0_t1_body
  simp only [wp_bind, ite_self]
  iapply (part1_wp d L I k)
  isplitl [HI]; · iexact HI
  iintro HI
  unfold OSt
  icases HOut with ⟨HP, ⟨Hof, Hov⟩, Hdone, Htodo⟩
  dsimp only
  iapply (part2_wp d L X I k q hI (O := O) (W := W) (w0 := ivw k.val) (b0 := Scalar.cmpi CmpIPredicate.eq (ivw k.val) 0#32)
    (b1 := Scalar.cmpi CmpIPredicate.eq (ivw k.val) 65#32) (u1 := cur L (a10 k.val)) (u2 := prv L (a10 k.val)) (u3 := nxt L (a10 k.val))
    (b2 := Scalar.cmpi CmpIPredicate.ne (cur L (a10 k.val)) (prv L (a10 k.val))))
  isplitr; · iexact Hmw
  isplitl [HI]; · iexact HI
  isplitl [Hof]; · iexact Hof
  isplitl [Hx]; · iexact Hx
  isplitl [Hg]; · iexact Hg
  isplitl [HO]; · iexact HO
  iintro ⟨HI, Hfull, Hx, Hg, HO⟩
  rw [dif_pos (cond5_true L k)]
  simp only [wp_bind]
  ihave Ht := (oPts_join d O₀ (cb_mono L (Nat.le_succ k.val)) (cb_mono L (show k.val + 1 ≤ 66 by omega))).1 $$ Htodo
  icases Ht with ⟨Hb, Htodo⟩
  have e1 : ∀ (f : Buf (Elt F) (oLoc d)) {n : Nat} (hn : n < 66), (oPts d (cb L n) (cb L (n + 1)) f : sProp 𝕄) = oPts d (128 * blk L n) (128 * blk L n + 128) f := by
    intro f n hn
    rw [blk_eq L hn, cb_succ]
  ihave Hb := (Entails.of_eq (e1 O₀ hk)) $$ Hb
  iapply (wp_send d L X I O₀ k.val (sl k.val) (oS_of (off12_eq k) _ _) (oBlk_of L hk (off13_eq L k) _ _) (oM_of (off14_eq k) _))
  isplitl [Hfull]; · iexact Hfull
  isplitl [Hov]; · iexact Hov
  isplitl [Hb]; · iexact Hb
  iintro Hfl
  have h6 := next6 L k
  have h7 := next7 L k
  have h8 := next8 L k
  have h9 := next9 L k
  have h10 := next10 k
  by_cases h : 0 < k.val
  · rw [dif_pos ((cond7_iff L k).mpr h)]
    simp only [wp_bind]
    ihave HP := (Entails.of_eq (show (OPrev d L X I k.val (sl (k.val + 1)) : sProp 𝕄) = FlO d L X I (k.val - 1) (sl (k.val + 1)) from if_pos h)) $$ HP
    unfold OW
    icases HO with ⟨%W₁, %hW₁, HO⟩
    have esl : sl (k.val - 1) = sl (k.val + 1) := by rw [show k.val + 1 = k.val - 1 + 2 by omega, sl_two]
    iapply (wp_sent d L X I (k.val - 1) (sl (k.val + 1)) (oBlk_of L (show k.val - 1 < 66 by omega) (off16_eq L k h) _ _)
      (oM_of ((off17_eq k).trans (by rw [esl])) _))
    isplitl [HP]; · iexact HP
    isplitl [HO]; · iexact HO
    isplitr; · iexact Hmw
    iintro ⟨Hfree, Hb, Hv, HO⟩
    ihave HO := (OW_intro d L hW₁) $$ HO
    ihave Hb := (Entails.of_eq (e1 (GO d X I) (show k.val - 1 < 66 by omega)).symm) $$ Hb
    ihave Hdone := (oPts_join d (GO d X I) (cb_mono L (Nat.zero_le (k.val - 1))) (cb_mono L (Nat.le_succ (k.val - 1)))).2 $$ [Hdone Hb]
    · isplitl [Hdone] <;> iassumption
    rw [wp_pure]; imodintro
    isplitr
    · ipureintro
      exact Prod.ext rfl (Prod.ext h7 (Prod.ext h8 (Prod.ext h9 h10)))
    isplitr; · iexact Hmw
    isplitl [HI]; · iexact HI
    isplitl [Hfl Hfree Hv Hdone Htodo]
    · isplitl [Hfl]
      · rw [show k.val + 1 + 1 = k.val + 2 from rfl, sl_two]
        iapply (Entails.of_eq (show (FlO d L X I k.val (sl k.val) : sProp 𝕄) = OPrev d L X I (k.val + 1) (sl k.val) from (if_pos (Nat.succ_pos _)).symm)); iexact Hfl
      isplitl [Hfree Hv]; · isplitl [Hfree] <;> iassumption
      isplitl [Hdone]; · rw [show k.val + 1 - 1 = k.val - 1 + 1 by omega]; iexact Hdone
      iexact Htodo
    isplitl [Hx]; · iexact Hx
    isplitl [Hg]; · iexact Hg
    unfold OW; iexact HO
  · have h0 : k.val = 0 := by omega
    rw [dif_neg (fun e => h ((cond7_iff L k).mp e))]
    ihave HP := (Entails.of_eq (show (OPrev d L X I k.val (sl (k.val + 1)) : sProp 𝕄) = OFr d L (sl (k.val + 1)) from if_neg h)) $$ HP
    rw [wp_pure]; imodintro
    isplitr
    · ipureintro
      exact Prod.ext rfl (Prod.ext h7 (Prod.ext h8 (Prod.ext h9 h10)))
    isplitr; · iexact Hmw
    isplitl [HI]; · iexact HI
    isplitl [Hfl HP Hdone Htodo]
    · isplitl [Hfl]
      · rw [show k.val + 1 + 1 = k.val + 2 from rfl, sl_two]
        iapply (Entails.of_eq (show (FlO d L X I k.val (sl k.val) : sProp 𝕄) = OPrev d L X I (k.val + 1) (sl k.val) from (if_pos (Nat.succ_pos _)).symm)); iexact Hfl
      isplitl [HP]; · iexact HP
      isplitl [Hdone]; · rw [show k.val + 1 - 1 = k.val - 1 by omega]; iexact Hdone
      iexact Htodo
    isplitl [Hx]; · iexact Hx
    isplitl [Hg]; · iexact Hg
    iexact HO

/-- The whole of what a tile runs: the first block's fetch, the loop, the wait for the last block's sending. -/
theorem core_wp (q : PosShare TreeShare) (hI : ∀ c, (I c).toNat < 606208) (O : CellTallies nD τ sig (HIx 1)) (W : Waits sig (HIx 1)) :
    iprop(Transfers.MayWaits (TH d L) (default : HIx 1) O ∗ IFr d L 0 ∗ IFr d L 1 ∗ OFr d L 0 ∗ OFr d L 1 ∗ semVal (gCell d L) 0
        ∗ iPts d I (cb L 0) (cb L 66) ∗ oPts d (cb L 0) (cb L 66) O₀ ∗ xPts d X q ∗ owes (TH d L) O W)
      ⊢ WP (cc0_moe_gather_sc L xV (Memref.isWhole_whole _) iV (Memref.isWhole_whole _) oV (Memref.isWhole_whole _) iB (Memref.isWhole_whole _) cc0_scoped1
          oB (Memref.isWhole_whole _) cc0_scoped3 cc0_scoped4)
        fun _ => iprop(IFr d L 0 ∗ IFr d L 1 ∗ OFr d L 0 ∗ OFr d L 1 ∗ semVal (gCell d L) 0
          ∗ iPts d I (cb L 0) (cb L 66) ∗ oPts d (cb L 0) (cb L 66) (GO d X I) ∗ xPts d X q ∗ OW d L O W) := by
  rw [cc0_moe_gather_sc_eq_skeleton]; unfold cc0_moe_gather_sc_skel
  rw [k0_part3_eq_skeleton]; unfold k0_part3_skel
  rw [k0_part4_eq_skeleton]; unfold k0_part4_skel
  simp only [wp_bind]
  iintro ⟨#Hmw, ⟨Hi0, Hv0⟩, Hi1, Ho0, Ho1, Hg, Hi, Ho, Hx, HO⟩
  ihave Ht := (iPts_join d I (cb_mono L (show 0 ≤ 1 by omega)) (cb_mono L (show 1 ≤ 66 by omega))).1 $$ Hi
  icases Ht with ⟨Hb, Htodo⟩
  have e1 : (iPts d I (cb L 0) (cb L 1) : sProp 𝕄) = iPts d I (128 * blk L 0) (128 * blk L 0 + 128) := by
    rw [blk_eq L (show 0 < 66 by omega), cb_succ]
  ihave Hb := (Entails.of_eq e1) $$ Hb
  iapply (wp_fetch d L I 0 0 (iBlk_of L (show 0 < 66 by omega) (off2_eq L) _ _) (iS_of k0_off1_eq _ _) (iM_of k0_off3_eq _))
  isplitl [Hi0]; · iexact Hi0
  isplitl [Hv0]; · iexact Hv0
  isplitl [Hb]; · iexact Hb
  iintro Hfl
  rw [wp_pure]; imodintro
  iapply (Scf.wp_for frame (wpE (defs₀ (F := F)) 𝒱₀ (TH d L) none) Set.univ k0_t1_loop.lb k0_t1_loop.ub k0_t1_loop.st k0_t1_ok _ _
    (Inv d L X I O₀ q O W) (fun k acc => trip_wp d L X I O₀ k q hI O W acc))
  isplitl [Hi1 Ho0 Ho1 Hg Ho Hx HO Htodo Hfl]
  · unfold Inv
    isplitr; · ipureintro; rfl
    isplitr; · iexact Hmw
    isplitl [Hi1 Htodo Hfl]
    · unfold ISt
      isplitl [Hfl]
      · iapply (Entails.of_eq (show (FlI d L I 0 0 : sProp 𝕄) = INext d L I 0 (sl 0) from (if_pos (by decide)).symm)); iexact Hfl
      isplitl [Hi1]; · iexact Hi1
      isplitr
      · iapply (iPts_self d I (cb L 0)); iempintro
      iexact Htodo
    isplitl [Ho0 Ho1 Ho]
    · unfold OSt
      isplitl [Ho1]
      · iapply (Entails.of_eq (show (OFr d L 1 : sProp 𝕄) = OPrev d L X I 0 (sl 1) from (if_neg (by decide)).symm)); iexact Ho1
      isplitl [Ho0]; · iexact Ho0
      isplitr
      · iapply (oPts_self d (GO d X I) (cb L 0)); iempintro
      iexact Ho
    isplitl [Hx]; · iexact Hx
    isplitl [Hg]; · iexact Hg
    unfold OW
    iexists W; isplitr
    · ipureintro; exact fun p hp => Or.inl hp
    iexact HO
  iintro %acc HInv
  ihave HInv := (Entails.of_eq (show (Inv d L X I O₀ q O W (Scf.trips k0_t1_loop.lb k0_t1_loop.ub k0_t1_loop.st) acc : sProp 𝕄) = Inv d L X I O₀ q O W 66 acc from congrArg (fun n => Inv d L X I O₀ q O W n acc) trips_eq)) $$ HInv
  unfold Inv
  icases HInv with ⟨%hacc, -, HI, HOut, Hx, Hg, HO⟩
  subst hacc
  iapply (wp_assume 𝒱₀ (TH d L) none Set.univ (chk5_ok L))
  rw [wp_ret]; imodintro
  dsimp only
  iapply (wp_assume 𝒱₀ (TH d L) none Set.univ chk4_ok)
  rw [wp_ret]; imodintro
  rw [wp_pure]; imodintro
  dsimp only
  unfold ISt OSt
  icases HI with ⟨HN, Hi1, Hid, -⟩
  icases HOut with ⟨HP, Ho0, Hdone, -⟩
  ihave HN := (Entails.of_eq (show (INext d L I 66 (sl 66) : sProp 𝕄) = IFr d L (sl 66) from if_neg (by decide))) $$ HN
  ihave HP := (Entails.of_eq (show (OPrev d L X I 66 (sl 67) : sProp 𝕄) = FlO d L X I 65 (sl 67) from if_pos (by decide))) $$ HP
  unfold OW
  icases HO with ⟨%W₁, %hW₁, HO⟩
  iapply (wp_sent d L X I 65 (sl 67) (oBlk_of L (show 65 < 66 by omega) (off19_eq L) _ _) (oM_of off20_eq _))
  isplitl [HP]; · iexact HP
  isplitl [HO]; · iexact HO
  isplitr; · iexact Hmw
  iintro ⟨Hfree, Hb, Hv, HO⟩
  ihave HO := (OW_intro d L hW₁) $$ HO
  have e2 : (oPts d (128 * blk L 65) (128 * blk L 65 + 128) (GO d X I) : sProp 𝕄) = oPts d (cb L 65) (cb L 66) (GO d X I) := by
    rw [blk_eq L (show 65 < 66 by omega)]; rfl
  ihave Hb := (Entails.of_eq e2) $$ Hb
  ihave Hdone := (oPts_join d (GO d X I) (cb_mono L (show 0 ≤ 65 by omega)) (cb_mono L (show 65 ≤ 66 by omega))).2 $$ [Hdone Hb]
  · isplitl [Hdone] <;> iassumption
  rw [wp_pure]; imodintro
  isplitl [HN]; · iexact HN
  isplitl [Hi1]; · iexact Hi1
  isplitl [Ho0]; · iexact Ho0
  isplitl [Hfree Hv]
  · isplitl [Hfree]; · iexact Hfree
    iexact Hv
  isplitl [Hg]; · iexact Hg
  isplitl [Hid]; · iexact Hid
  isplitl [Hdone]; · iexact Hdone
  isplitl [Hx]; · iexact Hx
  unfold OW
  iexact HO

end Cert.Proof.Gath

end
-- ==== Proof.Tile.lean ====
/-
  One tile's obligation: from its stretch of the index list and of the output, its share of the rows and its own buffers
  and semaphores, the tile runs and brings them back, the stretch of the output gathered.
-/
module

public import proofs.«01_k».proof.Proof.Trip

@[expose] public section

set_option Elab.async false

noncomputable section

namespace Cert.Proof.Gath

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

variable (d : Dev nD) (L : grid0.Coords)

/-! ## The buffers' two slots -/

theorem iSlot_disjoint : ∀ j j' : Fin 2, j ≠ j' → Disjoint (iRect j).set (iRect j').set :=
  Ring.lead_disjoint (s := S2x1x128) (0 : Fin 3) 1 (fun j : Fin 2 => ![j.val, 0, 0]) S1x1x128.size iS_inb (fun j => (Nat.one_mul _).symm) rfl
theorem oSlot_disjoint : ∀ j j' : Fin 2, j ≠ j' → Disjoint (oRect j).set (oRect j').set :=
  Ring.lead_disjoint (s := S2x128x128) (0 : Fin 3) 1 (fun j : Fin 2 => ![j.val, 0, 0]) S1x128x128.size oS_inb (fun j => (Nat.one_mul _).symm) rfl

theorem mem_iRect (j : Fin 2) (x : S2x1x128.Idx) (h : (x 0).val = j.val) : x ∈ (iRect j).set := by
  rw [Rect.mem_set_unit]
  intro a
  match a with
  | 0 => exact ⟨h.ge, by show (x 0).val < j.val + 1; omega⟩
  | 1 => exact ⟨Nat.zero_le _, by show (x 1).val < 0 + 1; have : (x 1).val < 1 := (x 1).isLt; omega⟩
  | 2 => exact ⟨Nat.zero_le _, by show (x 2).val < 0 + 128; have : (x 2).val < 128 := (x 2).isLt; omega⟩
theorem mem_oRect (j : Fin 2) (x : S2x128x128.Idx) (h : (x 0).val = j.val) : x ∈ (oRect j).set := by
  rw [Rect.mem_set_unit]
  intro a
  match a with
  | 0 => exact ⟨h.ge, by show (x 0).val < j.val + 1; omega⟩
  | 1 => exact ⟨Nat.zero_le _, by show (x 1).val < 0 + 128; have : (x 1).val < 128 := (x 1).isLt; omega⟩
  | 2 => exact ⟨Nat.zero_le _, by show (x 2).val < 0 + 128; have : (x 2).val < 128 := (x 2).isLt; omega⟩

theorem iSlot_cover : (Finset.univ : Finset (Fin 2)).biUnion (fun j => (iRect j).set) = Finset.univ := by
  ext x
  simp only [Finset.mem_biUnion, Finset.mem_univ, true_and, iff_true]
  exact ⟨⟨(x 0).val, (x 0).isLt⟩, mem_iRect _ x rfl⟩
theorem oSlot_cover : (Finset.univ : Finset (Fin 2)).biUnion (fun j => (oRect j).set) = Finset.univ := by
  ext x
  simp only [Finset.mem_biUnion, Finset.mem_univ, true_and, iff_true]
  exact ⟨⟨(x 0).val, (x 0).isLt⟩, mem_oRect _ x rfl⟩

abbrev iBLoc : Loc nD τ sig := (TH d L).loc (cc0_scoped0 : Ref sig .scVector)
abbrev oBLoc : Loc nD τ sig := (TH d L).loc (cc0_scoped2 : Ref sig .scVector)

/-- The index buffer is its two slots, and they are it; the row buffer likewise. -/
theorem iB_split : (iprop(∃ f, iBLoc d L ↦{fullShare} f) : sProp 𝕄) ⊢ iprop(IFree d L 0 ∗ IFree d L 1) :=
  Ring.slots2_split (ℓ := iBLoc d L) (fun j => (iRect j).set) iSlot_disjoint iSlot_cover (iSPts d L 0) (iSPts d L 1)
    (fun f => by show (iBLoc d L ↦[(iS 0).view.set]{fullShare} f : sProp 𝕄) = _; rw [set_iS])
    (fun f => by show (iBLoc d L ↦[(iS 1).view.set]{fullShare} f : sProp 𝕄) = _; rw [set_iS])
theorem iB_join : iprop(IFree d L 0 ∗ IFree d L 1) ⊢ (iprop(∃ f, iBLoc d L ↦{fullShare} f) : sProp 𝕄) :=
  Ring.slots2_join (ℓ := iBLoc d L) (fun j => (iRect j).set) iSlot_disjoint iSlot_cover (iSPts d L 0) (iSPts d L 1)
    (fun f => by show (iBLoc d L ↦[(iS 0).view.set]{fullShare} f : sProp 𝕄) = _; rw [set_iS])
    (fun f => by show (iBLoc d L ↦[(iS 1).view.set]{fullShare} f : sProp 𝕄) = _; rw [set_iS])
theorem oB_split : (iprop(∃ f, oBLoc d L ↦{fullShare} f) : sProp 𝕄) ⊢ iprop(OFree d L 0 ∗ OFree d L 1) :=
  Ring.slots2_split (ℓ := oBLoc d L) (fun j => (oRect j).set) oSlot_disjoint oSlot_cover (oSPts d L 0) (oSPts d L 1)
    (fun f => by show (oBLoc d L ↦[(oS 0).view.set]{fullShare} f : sProp 𝕄) = _; rw [set_oS])
    (fun f => by show (oBLoc d L ↦[(oS 1).view.set]{fullShare} f : sProp 𝕄) = _; rw [set_oS])
theorem oB_join : iprop(OFree d L 0 ∗ OFree d L 1) ⊢ (iprop(∃ f, oBLoc d L ↦{fullShare} f) : sProp 𝕄) :=
  Ring.slots2_join (ℓ := oBLoc d L) (fun j => (oRect j).set) oSlot_disjoint oSlot_cover (oSPts d L 0) (oSPts d L 1)
    (fun f => by show (oBLoc d L ↦[(oS 0).view.set]{fullShare} f : sProp 𝕄) = _; rw [set_oS])
    (fun f => by show (oBLoc d L ↦[(oS 1).view.set]{fullShare} f : sProp 𝕄) = _; rw [set_oS])

/-! ## The tile's own semaphores and buffers -/

theorem iM_scoped (j : Fin 2) : (SemLoc.dma (iM j) : SemLoc sig).isScoped .scVector = true := by revert j; decide
theorem oM_scoped (j : Fin 2) : (SemLoc.dma (oM j) : SemLoc sig).isScoped .scVector = true := by revert j; decide
theorem gM_scoped : (SemLoc.dma gM : SemLoc sig).isScoped .scVector = true := by decide

/-- The five cells the tile uses. -/
def cells5 : Finset (GSem nD τ sig) := {iCell d L 0, iCell d L 1, oCell d L 0, oCell d L 1, gCell d L}

theorem cell_ne {a b : SemLoc sig} (h : a ≠ b) : ((TH d L, a) : GSem nD τ sig) ≠ (TH d L, b) := fun e => h (congrArg Prod.snd e)

theorem cells5_sub : cells5 d L ⊆ ownCells (TH d L) := by
  intro g hg
  simp only [cells5, Finset.mem_insert, Finset.mem_singleton] at hg
  rcases hg with rfl | rfl | rfl | rfl | rfl
  · exact mem_ownCells.mpr ⟨rfl, iM_scoped 0⟩
  · exact mem_ownCells.mpr ⟨rfl, iM_scoped 1⟩
  · exact mem_ownCells.mpr ⟨rfl, oM_scoped 0⟩
  · exact mem_ownCells.mpr ⟨rfl, oM_scoped 1⟩
  · exact mem_ownCells.mpr ⟨rfl, gM_scoped⟩

/-- The tile's own cells at zero: those five, and the rest. -/
theorem ownSems0_tile :
    (ownSems0 (TH d L) : sProp 𝕄)
      = iprop((semVal (iCell d L 0) 0 ∗ semVal (iCell d L 1) 0 ∗ semVal (oCell d L 0) 0 ∗ semVal (oCell d L 1) 0 ∗ semVal (gCell d L) 0)
          ∗ bigSep (ownCells (TH d L) \ cells5 d L) fun g => semVal g 0) := by
  unfold SparseCore.Cfg.ownSems0
  rw [show ownCells (TH d L) = cells5 d L ∪ (ownCells (TH d L) \ cells5 d L) from (Finset.union_sdiff_of_subset (cells5_sub d L)).symm,
    bigSep_union Finset.disjoint_sdiff]
  congr 1
  · unfold cells5
    rw [SparseCore.bigSep_insert', SparseCore.bigSep_insert', SparseCore.bigSep_insert', SparseCore.bigSep_insert', bigSep_singleton]
    · simp only [Finset.mem_singleton]; exact cell_ne d L (by decide)
    · simp only [Finset.mem_insert, Finset.mem_singleton, not_or]; exact ⟨cell_ne d L (by decide), cell_ne d L (by decide)⟩
    · simp only [Finset.mem_insert, Finset.mem_singleton, not_or]; exact ⟨cell_ne d L (by decide), cell_ne d L (by decide), cell_ne d L (by decide)⟩
    · simp only [Finset.mem_insert, Finset.mem_singleton, not_or]
      exact ⟨cell_ne d L (by decide), cell_ne d L (by decide), cell_ne d L (by decide), cell_ne d L (by decide)⟩
  · rw [Finset.union_sdiff_of_subset (cells5_sub d L)]

/-- The tile's own buffers: the two it uses, at some contents, and the rest. -/
theorem ownBufs_tile :
    (ownBufs (TH d L) : sProp 𝕄)
      = iprop((∃ f, iBLoc d L ↦{fullShare} f) ∗ (∃ f, oBLoc d L ↦{fullShare} f)
          ∗ bigSep (((ownRefs (τ := τ) (.scVector (cV L) (jV L))).erase ((Proc.scVector (cV L) (jV L)).devRef cc0_scoped0)).erase
              ((Proc.scVector (cV L) (jV L)).devRef cc0_scoped2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scoped0) rfl)).trans ?_
  rw [SparseCore.bigSep_erase' (Finset.mem_erase.mpr ⟨fun e => absurd (Proc.devRef_injective _ e) (show (cc0_scoped2 : Ref sig .scVector) ≠ cc0_scoped0 by decide),
    SparseCore.Cfg.mem_ownRefs_of_owner (p := Proc.scVector (cV L) (jV L)) (b := (Proc.scVector (cV L) (jV L)).devRef cc0_scoped2) rfl⟩)]

/-! ## The tile -/

variable [FloatOps F] [∀ e, Nonempty (Elt F e)]
variable (X : Buf (Elt F) (xLoc d)) (I : Buf (Elt F) (iLoc d)) (O₀ : Buf (Elt F) (oLoc d))

/-- A tile, from what it is handed and its own buffers and cells. -/
theorem tile_wp (q : PosShare TreeShare) (hI : ∀ c, (I c).toNat < 606208) (O : CellTallies nD τ sig (HIx 1)) (W : Waits sig (HIx 1)) (hO : ∀ g, O g none = 0) :
    iprop(levAts (K (F := F)).L (K (F := F)).lev ∗ emp
        ∗ (iPts d I (cb L 0) (cb L 66) ∗ oPts d (cb L 0) (cb L 66) O₀ ∗ xPts d X q)
        ∗ scopedBufs (TH d L) ∗ scopedSems0 (TH d L) ∗ owes (TH d L) O W)
      ⊢ wp frame (wpE (defs₀ (F := F)) 𝒱₀ (TH d L) none) Set.univ
          (cc0_moe_gather_sc L xV (Memref.isWhole_whole _) iV (Memref.isWhole_whole _) oV (Memref.isWhole_whole _) iB (Memref.isWhole_whole _) cc0_scoped1
            oB (Memref.isWhole_whole _) cc0_scoped3 cc0_scoped4)
          fun _ => iprop((iPts d I (cb L 0) (cb L 66) ∗ oPts d (cb L 0) (cb L 66) (GO d X I) ∗ xPts d X q)
            ∗ scopedBufs (TH d L) ∗ scopedSems0 (TH d L)
            ∗ ∃ W', ⌜∀ p ∈ W', p ∈ W ∨ p.2 = none ∨ p.2 = some 0⌝ ∗ owes (TH d L) O W') := by
  rw [(K (F := F)).scopedBufs_V facts d (cV L) (jV L), SparseCore.Cfg.scopedSems0_V (Val := Elt F) d (cV L) (jV L), ownSems0_tile, ownBufs_tile]
  iintro ⟨#Hlv, -, ⟨Hi, Ho, Hx⟩, ⟨HiB, HoB, Hbufs⟩, ⟨⟨Hs0, Hs1, Ht0, Ht1, Hg⟩, Hsems⟩, HO⟩
  ihave Hmw := (show levAts (K (F := F)).L (K (F := F)).lev ⊢ Transfers.MayWaits (TH d L) (default : HIx 1) O from
    (K (F := F)).mayWaits_none (thr := TH d L) hO) $$ Hlv
  ihave HiB := (iB_split d L) $$ HiB
  ihave HoB := (oB_split d L) $$ HoB
  icases HiB with ⟨Hi0, Hi1⟩
  icases HoB with ⟨Ho0, Ho1⟩
  ihave H := (core_wp d L X I O₀ q hI O W) $$ [Hmw Hi0 Hi1 Ho0 Ho1 Hs0 Hs1 Ht0 Ht1 Hg Hi Ho Hx HO]
  · isplitl [Hmw]; · iexact Hmw
    isplitl [Hi0 Hs0]; · isplitl [Hi0] <;> iassumption
    isplitl [Hi1 Hs1]; · isplitl [Hi1] <;> iassumption
    isplitl [Ho0 Ht0]; · isplitl [Ho0] <;> iassumption
    isplitl [Ho1 Ht1]; · isplitl [Ho1] <;> iassumption
    isplitl [Hg]; · iexact Hg
    isplitl [Hi]; · iexact Hi
    isplitl [Ho]; · iexact Ho
    isplitl [Hx]; · iexact Hx
    iexact HO
  iapply (wp_wand frame _ _) $$ H
  iintro %_ ⟨⟨Hi0, Hs0⟩, ⟨Hi1, Hs1⟩, ⟨Ho0, Ht0⟩, ⟨Ho1, Ht1⟩, Hg, Hi, Ho, Hx, HO⟩
  isplitl [Hi Ho Hx]
  · isplitl [Hi]; · iexact Hi
    isplitl [Ho]; · iexact Ho
    iexact Hx
  isplitl [Hi0 Hi1 Ho0 Ho1 Hbufs]
  · isplitl [Hi0 Hi1]
    · iapply (iB_join d L); isplitl [Hi0] <;> iassumption
    isplitl [Ho0 Ho1]
    · iapply (oB_join d L); isplitl [Ho0] <;> iassumption
    iexact Hbufs
  isplitl [Hs0 Hs1 Ht0 Ht1 Hg Hsems]
  · isplitl [Hs0 Hs1 Ht0 Ht1 Hg]
    · isplitl [Hs0]; · iexact Hs0
      isplitl [Hs1]; · iexact Hs1
      isplitl [Ht0]; · iexact Ht0
      isplitl [Ht1]; · iexact Ht1
      iexact Hg
    iexact Hsems
  unfold OW
  icases HO with ⟨%W', %hW', HO⟩
  iexists W'; isplitr
  · ipureintro; exact fun p hp => (hW' p hp).imp_right Or.inl
  iexact HO

end Cert.Proof.Gath

end
-- ==== Proof.Launch.lean ====
/-
  The row gather's whole program, at any float values: the host's index arithmetic, the call on the SparseCores, the
  reshape of its result. The run ends with the arguments kept and the result a function of them.
-/
module

public import proofs.«01_k».proof.Proof.Tile
public import Idealize.ShloMosaic.Lib.StableHlo.Run

@[expose] public section

set_option Elab.async false

noncomputable section

namespace Cert.Proof.Gath

open Cert.KernelIdeal Cert.KernelIdeal.Gen
open Idealize.ShloMosaic Idealize.ShloMosaic.StableHlo
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## Shares of the call's operands -/

/-- Where task `i` of core `c` starts, and where core `c` does. -/
abbrev tlo (c i : Nat) : Nat := 128 * (66 * (i + 16 * c) + 0)
abbrev thi (c i : Nat) : Nat := 128 * (66 * (i + 16 * c) + 66)
abbrev clo (c : Nat) : Nat := 135168 * c

theorem iSeg_tasks (c : Nat) : (Finset.univ : Finset (Fin 16)).biUnion (fun i => iSeg (tlo c i.val) (thi c i.val)) = iSeg (clo c) (clo (c + 1)) := by
  ext x
  simp only [Finset.mem_biUnion, Finset.mem_univ, true_and, mem_iSeg, tlo, thi, clo]
  constructor
  · rintro ⟨i, h⟩; have := i.isLt; omega
  · intro h; exact ⟨⟨((x 1).val - 135168 * c) / 8448, by omega⟩, by show 128 * (66 * (((x 1).val - 135168 * c) / 8448 + 16 * c) + 0) ≤ (x 1).val ∧ (x 1).val < 128 * (66 * (((x 1).val - 135168 * c) / 8448 + 16 * c) + 66); omega⟩
theorem oSeg_tasks (c : Nat) : (Finset.univ : Finset (Fin 16)).biUnion (fun i => oSeg (tlo c i.val) (thi c i.val)) = oSeg (clo c) (clo (c + 1)) := by
  ext x
  simp only [Finset.mem_biUnion, Finset.mem_univ, true_and, mem_oSeg, tlo, thi, clo]
  constructor
  · rintro ⟨i, h⟩; have := i.isLt; omega
  · intro h; exact ⟨⟨((x 0).val - 135168 * c) / 8448, by omega⟩, by show 128 * (66 * (((x 0).val - 135168 * c) / 8448 + 16 * c) + 0) ≤ (x 0).val ∧ (x 0).val < 128 * (66 * (((x 0).val - 135168 * c) / 8448 + 16 * c) + 66); omega⟩
theorem iSeg_cores : (Finset.univ : Finset (Fin 2)).biUnion (fun c => iSeg (clo c.val) (clo (c.val + 1))) = Finset.univ := by
  ext x
  simp only [Finset.mem_biUnion, Finset.mem_univ, true_and, mem_iSeg, iff_true]
  have : (x 1).val < 270336 := (x 1).isLt
  exact ⟨⟨(x 1).val / 135168, by omega⟩, by show 135168 * ((x 1).val / 135168) ≤ (x 1).val ∧ (x 1).val < 135168 * ((x 1).val / 135168 + 1); omega⟩
theorem oSeg_cores : (Finset.univ : Finset (Fin 2)).biUnion (fun c => oSeg (clo c.val) (clo (c.val + 1))) = Finset.univ := by
  ext x
  simp only [Finset.mem_biUnion, Finset.mem_univ, true_and, mem_oSeg, iff_true]
  have : (x 0).val < 270336 := (x 0).isLt
  exact ⟨⟨(x 0).val / 135168, by omega⟩, by show 135168 * ((x 0).val / 135168) ≤ (x 0).val ∧ (x 0).val < 135168 * ((x 0).val / 135168 + 1); omega⟩

/-- Core `c`'s share of the rows, and task `i`'s of it. -/
abbrev qc (c : Fin 2) : PosShare TreeShare := pieceOf fullShare 2 (by decide) c
abbrev qt (c : Fin 2) (i : Fin 16) : PosShare TreeShare := pieceOf (qc c) 16 (by decide) i

section Splits
variable (d : Dev nD) (X : Buf (Elt F) (xLoc d)) (I : Buf (Elt F) (iLoc d))

theorem i_tasks (c : Nat) : (iPts d I (clo c) (clo (c + 1)) : sProp 𝕄) = bigSep Finset.univ fun i : Fin 16 => iPts d I (tlo c i.val) (thi c i.val) := by
  unfold iPts
  rw [← iSeg_tasks]
  refine pointsTo_biUnion (ℓ := iLoc d) Finset.univ (fun i : Fin 16 => iSeg (tlo c i.val) (thi c i.val)) fun i _ j _ h => ?_
  have : i.val ≠ j.val := fun e => h (Fin.ext e)
  rcases Nat.lt_or_gt_of_ne this with h | h
  · exact iSeg_disjoint _ _ _ _ (by simp only [tlo, thi, clo]; omega)
  · exact (iSeg_disjoint _ _ _ _ (by simp only [tlo, thi, clo]; omega)).symm
theorem o_tasks (c : Nat) (f : Buf (Elt F) (oLoc d)) :
    (oPts d (clo c) (clo (c + 1)) f : sProp 𝕄) = bigSep Finset.univ fun i : Fin 16 => oPts d (tlo c i.val) (thi c i.val) f := by
  unfold oPts
  rw [← oSeg_tasks]
  refine pointsTo_biUnion (ℓ := oLoc d) Finset.univ (fun i : Fin 16 => oSeg (tlo c i.val) (thi c i.val)) fun i _ j _ h => ?_
  have : i.val ≠ j.val := fun e => h (Fin.ext e)
  rcases Nat.lt_or_gt_of_ne this with h | h
  · exact oSeg_disjoint _ _ _ _ (by simp only [tlo, thi, clo]; omega)
  · exact (oSeg_disjoint _ _ _ _ (by simp only [tlo, thi, clo]; omega)).symm
theorem i_cores : (iLoc d ↦{fullShare} I : sProp 𝕄) = bigSep Finset.univ fun c : Fin 2 => iPts d I (clo c.val) (clo (c.val + 1)) := by
  unfold iPts
  rw [← pointsTo_biUnion (ℓ := iLoc d) Finset.univ (fun c : Fin 2 => iSeg (clo c.val) (clo (c.val + 1))) fun i _ j _ h => ?_, iSeg_cores]
  have : i.val ≠ j.val := fun e => h (Fin.ext e)
  rcases Nat.lt_or_gt_of_ne this with h | h
  · exact iSeg_disjoint _ _ _ _ (by simp only [tlo, thi, clo]; omega)
  · exact (iSeg_disjoint _ _ _ _ (by simp only [tlo, thi, clo]; omega)).symm
theorem o_cores (f : Buf (Elt F) (oLoc d)) : (oLoc d ↦{fullShare} f : sProp 𝕄) = bigSep Finset.univ fun c : Fin 2 => oPts d (clo c.val) (clo (c.val + 1)) f := by
  unfold oPts
  rw [← pointsTo_biUnion (ℓ := oLoc d) Finset.univ (fun c : Fin 2 => oSeg (clo c.val) (clo (c.val + 1))) fun i _ j _ h => ?_, oSeg_cores]
  have : i.val ≠ j.val := fun e => h (Fin.ext e)
  rcases Nat.lt_or_gt_of_ne this with h | h
  · exact oSeg_disjoint _ _ _ _ (by simp only [tlo, thi, clo]; omega)
  · exact (oSeg_disjoint _ _ _ _ (by simp only [tlo, thi, clo]; omega)).symm
theorem x_tasks (c : Fin 2) : (xPts d X (qc c) : sProp 𝕄) = bigSep Finset.univ fun i : Fin 16 => xPts d X (qt c i) :=
  pointsTo_piecesOf Finset.univ X (by decide) (qc c)
theorem x_cores : (xPts d X fullShare : sProp 𝕄) = bigSep Finset.univ fun c : Fin 2 => xPts d X (qc c) :=
  pointsTo_piecesOf Finset.univ X (by decide) fullShare
end Splits

/-! ## The host's operations -/

variable [FloatOps F] (m : (ℓ : Loc nD τ sig) → Buf (Elt F) ℓ) (ρ : Dev nD → PrngReg)

/-- The operations before the call, and the one after it. -/
def pre : List (HloOp τ sig (Elt F)) :=
  [StableHlo.nullary main_v0 (iotaInDim S4 32 0),
   StableHlo.nullary main_c (constantI S_ 32 151552#32),
   StableHlo.unary main_c main_v1 (broadcastInDim S4 ![] bcast_S_S4 : (⟨S_, .i32⟩ : BufTy).Contents (Elt F) → (⟨S4, .i32⟩ : BufTy).Contents (Elt F)),
   StableHlo.binary main_v0 main_v1 main_v2 (muli : (⟨S4, .i32⟩ : BufTy).Contents (Elt F) → (⟨S4, .i32⟩ : BufTy).Contents (Elt F) → (⟨S4, .i32⟩ : BufTy).Contents (Elt F)),
   StableHlo.unary main_v2 main_v3 (broadcastInDim S4x1 ![0] bcast_S4_S4x1_0 : (⟨S4, .i32⟩ : BufTy).Contents (Elt F) → (⟨S4x1, .i32⟩ : BufTy).Contents (Elt F)),
   StableHlo.unary main_arg1 main_v4 (broadcastInDim S1x67584 ![1] bcast_S67584_S1x67584_1 : (⟨S67584, .i32⟩ : BufTy).Contents (Elt F) → (⟨S1x67584, .i32⟩ : BufTy).Contents (Elt F)),
   StableHlo.unary main_v4 main_v5 (broadcastInDim S4x67584 ![0, 1] bcast_S1x67584_S4x67584_0_1 : (⟨S1x67584, .i32⟩ : BufTy).Contents (Elt F) → (⟨S4x67584, .i32⟩ : BufTy).Contents (Elt F)),
   StableHlo.unary main_v3 main_v6 (broadcastInDim S4x67584 ![0, 1] bcast_S4x1_S4x67584_0_1 : (⟨S4x1, .i32⟩ : BufTy).Contents (Elt F) → (⟨S4x67584, .i32⟩ : BufTy).Contents (Elt F)),
   StableHlo.binary main_v5 main_v6 main_v7 (addi : (⟨S4x67584, .i32⟩ : BufTy).Contents (Elt F) → (⟨S4x67584, .i32⟩ : BufTy).Contents (Elt F) → (⟨S4x67584, .i32⟩ : BufTy).Contents (Elt F)),
   StableHlo.reshape main_v7 main_v8 (rfl : (.i32 : EltTy) = .i32) shapeCasts_S4x67584_S1x270336,
   StableHlo.reshape main_arg0 main_v9 (rfl : (.i32 : EltTy) = .i32) shapeCasts_S4x151552x128_S606208x128]
abbrev post : HloOp τ sig (Elt F) := StableHlo.reshape main_v10 main_v11 (rfl : (.i32 : EltTy) = .i32) shapeCasts_S270336x128_S4x67584x128

abbrev a0' : DevRef τ sig := Proc.devRef .tc (main_arg0 : Ref sig .tc)
abbrev a1' : DevRef τ sig := Proc.devRef .tc (main_arg1 : Ref sig .tc)
abbrev i' : DevRef τ sig := Proc.devRef .tc (main_v8 : Ref sig .tc)
abbrev x' : DevRef τ sig := Proc.devRef .tc (main_v9 : Ref sig .tc)
abbrev o' : DevRef τ sig := Proc.devRef .tc (main_v10 : Ref sig .tc)
abbrev r' : DevRef τ sig := Proc.devRef .tc (main_v11 : Ref sig .tc)

/-- The arrays: at the launch, before the call, after it, at the end. -/
def V0 (d : Dev nD) : Valuation τ sig (Elt F) := fun b => m (d, b)
def V1 (d : Dev nD) : Valuation τ sig (Elt F) := after pre (V0 m d)
/-- The index list, the rows, the output before the call. -/
def II (d : Dev nD) : Buf (Elt F) (iLoc d) := V1 m d i'
def XX (d : Dev nD) : Buf (Elt F) (xLoc d) := V1 m d x'
def OO (d : Dev nD) : Buf (Elt F) (oLoc d) := V1 m d o'
def V2 (d : Dev nD) : Valuation τ sig (Elt F) := Function.update (V1 m d) o' (GO d (XX m d) (II m d))
def V3 (d : Dev nD) : Valuation τ sig (Elt F) := (post (F := F)).result (V2 m d)

/-! ## What the call's hand-overs carry -/

def P : (K (F := F)).Pay (nD := nD) (Val := Elt F) (Name := ℕ) (U := UU) where
  st := fun q d c => match q with
    | 0 => iprop(iPts d (II m d) (clo c.val) (clo (c.val + 1)) ∗ oPts d (clo c.val) (clo (c.val + 1)) (OO m d) ∗ xPts d (XX m d) (qc c))
  dn := fun q d c => match q with
    | 0 => iprop(iPts d (II m d) (clo c.val) (clo (c.val + 1)) ∗ oPts d (clo c.val) (clo (c.val + 1)) (GO d (XX m d) (II m d)) ∗ xPts d (XX m d) (qc c))
  go := fun q d c i => match q with
    | 0 => iprop(iPts d (II m d) (tlo c.val i.val) (thi c.val i.val) ∗ oPts d (tlo c.val i.val) (thi c.val i.val) (OO m d) ∗ xPts d (XX m d) (qt c i))
  td := fun q d c i => match q with
    | 0 => iprop(iPts d (II m d) (tlo c.val i.val) (thi c.val i.val) ∗ oPts d (tlo c.val i.val) (thi c.val i.val) (GO d (XX m d) (II m d)) ∗ xPts d (XX m d) (qt c i))
  x := fun _ _ => iprop(emp)

instance P_storable : (P (F := F) m).IsStorable where
  st q d c := match q with
    | 0 => (inferInstance : BI.Storable (upEmb : UEmb _ 𝕄)
      iprop(iPts d (II m d) (clo c.val) (clo (c.val + 1)) ∗ oPts d (clo c.val) (clo (c.val + 1)) (OO m d) ∗ xPts d (XX m d) (qc c)))
  dn q d c := match q with
    | 0 => (inferInstance : BI.Storable (upEmb : UEmb _ 𝕄)
      iprop(iPts d (II m d) (clo c.val) (clo (c.val + 1)) ∗ oPts d (clo c.val) (clo (c.val + 1)) (GO d (XX m d) (II m d)) ∗ xPts d (XX m d) (qc c)))
  go q d c i := match q with
    | 0 => (inferInstance : BI.Storable (upEmb : UEmb _ 𝕄)
      iprop(iPts d (II m d) (tlo c.val i.val) (thi c.val i.val) ∗ oPts d (tlo c.val i.val) (thi c.val i.val) (OO m d) ∗ xPts d (XX m d) (qt c i)))
  td q d c i := match q with
    | 0 => (inferInstance : BI.Storable (upEmb : UEmb _ 𝕄)
      iprop(iPts d (II m d) (tlo c.val i.val) (thi c.val i.val) ∗ oPts d (tlo c.val i.val) (thi c.val i.val) (GO d (XX m d) (II m d)) ∗ xPts d (XX m d) (qt c i)))

/-- What the proof asks of the launch memory: every computed row number is one of the rows. -/
def PreOK : Prop := ∀ (d : Dev nD) (c : (iLoc d).ty.Idx), (II m d c).toNat < 606208

/-! ## The obligations -/

def coordsV (c : Fin (grid0.bound 0)) (s : Fin (grid0.bound 1)) : grid0.Coords :=
  fun | 0 => c | 1 => s | ⟨_ + 2, h⟩ => absurd h (Nat.not_lt.2 (Nat.le_add_left _ _))

theorem defs₀_tile (c : Fin τ.nSC) (s : Fin τ.nSub) :
    defs₀ (F := F) (.scVector c s) 0 ()
      = SparseCore.onTile hcore0 hsub0 (fun c s => cc0_moe_gather_sc (coordsV c s)
          xV (Memref.isWhole_whole _) iV (Memref.isWhole_whole _) oV (Memref.isWhole_whole _) iB (Memref.isWhole_whole _) cc0_scoped1
          oB (Memref.isWhole_whole _) cc0_scoped3 cc0_scoped4) ⟨⟩ c s := rfl

set_option maxRecDepth 16384 in
/-- Every tile of the call runs. -/
theorem tileObl [∀ e, Nonempty (Elt F e)] (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_tile]; simp only [SparseCore.onTile, hci, and_self, ↓reduceDIte]
  exact tile_wp d (coordsV ⟨_, hci.1⟩ ⟨_, hci.2⟩) (XX m d) (II m d) (OO m d) (qt c i) (hpre d) O W hO

/-- A core's share is its tasks', and theirs is it. -/
theorem vecSplit : (K (F := F)).VecSplit' (P m) 0 := by
  intro d c
  show iprop(iPts d (II m d) (clo c.val) (clo (c.val + 1)) ∗ oPts d (clo c.val) (clo (c.val + 1)) (OO m d) ∗ xPts d (XX m d) (qc c)) ⊢ |={Set.univ}=> iprop(
      (bigSep Finset.univ fun i : Fin 16 =>
        iprop(iPts d (II m d) (tlo c.val i.val) (thi c.val i.val) ∗ oPts d (tlo c.val i.val) (thi c.val i.val) (OO m d) ∗ xPts d (XX m d) (qt c i)))
      ∗ ((bigSep Finset.univ fun i : Fin 16 =>
          iprop(iPts d (II m d) (tlo c.val i.val) (thi c.val i.val) ∗ oPts d (tlo c.val i.val) (thi c.val i.val) (GO d (XX m d) (II m d)) ∗ xPts d (XX m d) (qt c i)))
          -∗ iprop(iPts d (II m d) (clo c.val) (clo (c.val + 1)) ∗ oPts d (clo c.val) (clo (c.val + 1)) (GO d (XX m d) (II m d)) ∗ xPts d (XX m d) (qc c))))
  rw [i_tasks, o_tasks, o_tasks, x_tasks, bigSep_sep', bigSep_sep', bigSep_sep', bigSep_sep']
  iintro H; imodintro
  isplitl [H]; · iexact H
  iintro H; iexact H

/-! ## The launch element -/

def u₀ : UU := (initOf (K (F := F)).hsCells (K (F := F)).hsToks, 1)

omit [FloatOps F] in
theorem emps {A : Type} (s : Finset A) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [emps]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), emps]
  iempintro

/-! ## The host program -/

/-- The TensorCore's arrays. -/
abbrev unsc : Finset (Ref sig .tc) :=
  {main_arg0, main_arg1, main_v0, main_c, main_v1, main_v2, main_v3, main_v4, main_v5, main_v6, main_v7, main_v8, main_v9, main_v10, main_v11}
def SA : Finset (DevRef τ sig) := unsc.map ⟨Proc.devRef .tc, Proc.devRef_injective _⟩

theorem mem_SA {b : Ref sig .tc} (h : b ∈ unsc) : (Proc.devRef .tc b : DevRef τ sig) ∈ SA := Finset.mem_map_of_mem _ h

omit [FloatOps F] in
theorem unscoped_held (d : Dev nD) : (unscopedBufs d (fun b => m ((SparseCore.T d).loc b)) : sProp 𝕄) = held (SparseCore.T d) SA (V0 m d) := by
  unfold unscopedBufs held SA
  rw [show (Finset.univ.filter fun b : Ref sig .tc => ¬ b.isScoped) = unsc by decide, bigSep_map]
  rfl

theorem pre_sub : ∀ op ∈ pre (F := F), op.bufs ⊆ SA := by
  intro op h
  have h1 : ∀ {a : DevRef τ sig}, a ∈ SA → ({a} : Finset (DevRef τ sig)) ⊆ SA := fun h => Finset.singleton_subset_iff.mpr h
  have h2 : ∀ {a b : DevRef τ sig}, a ∈ SA → b ∈ SA → ({a, b} : Finset (DevRef τ sig)) ⊆ SA := fun h h' => Finset.insert_subset h (h1 h')
  have h3 : ∀ {a b c : DevRef τ sig}, a ∈ SA → b ∈ SA → c ∈ SA → ({a, b, c} : Finset (DevRef τ sig)) ⊆ SA := fun h h' h'' => Finset.insert_subset h (h2 h' h'')
  simp only [pre, List.mem_cons, List.not_mem_nil, or_false] at h
  rcases h with rfl | rfl | rfl | rfl | rfl | rfl | rfl | rfl | rfl | rfl | rfl
  · exact h1 (mem_SA (by decide))
  · exact h1 (mem_SA (by decide))
  · exact h2 (mem_SA (by decide)) (mem_SA (by decide))
  · exact h3 (mem_SA (by decide)) (mem_SA (by decide)) (mem_SA (by decide))
  · exact h2 (mem_SA (by decide)) (mem_SA (by decide))
  · exact h2 (mem_SA (by decide)) (mem_SA (by decide))
  · exact h2 (mem_SA (by decide)) (mem_SA (by decide))
  · exact h2 (mem_SA (by decide)) (mem_SA (by decide))
  · exact h3 (mem_SA (by decide)) (mem_SA (by decide)) (mem_SA (by decide))
  · exact h2 (mem_SA (by decide)) (mem_SA (by decide))
  · exact h2 (mem_SA (by decide)) (mem_SA (by decide))
theorem pre_fresh : ∀ op ∈ pre (F := F), op.fresh = ∅ := by
  intro op h
  simp only [pre, List.mem_cons, List.not_mem_nil, or_false] at h
  rcases h with rfl | rfl | rfl | rfl | rfl | rfl | rfl | rfl | rfl | rfl | rfl <;> rfl
theorem post_sub : (post (F := F)).bufs ⊆ SA :=
  Finset.insert_subset (mem_SA (by decide)) (Finset.singleton_subset_iff.mpr (mem_SA (by decide)))

/-- Three arrays out of all. -/
theorem three {a b c : Ref sig .tc} (ha : a ∈ unsc) (hb : b ∈ unsc) (hc : c ∈ unsc) (hab : a ≠ b) (hac : a ≠ c) (hbc : b ≠ c) (d : Dev nD) (W : Valuation τ sig (Elt F)) :
    (held (SparseCore.T d) SA W : sProp 𝕄) = iprop(((((SparseCore.T d).loc a) ↦{fullShare} W (Proc.devRef .tc a)) ∗ (((SparseCore.T d).loc b) ↦{fullShare} W (Proc.devRef .tc b)) ∗ (((SparseCore.T d).loc c) ↦{fullShare} W (Proc.devRef .tc c)))
      ∗ held (SparseCore.T d) (SA \ {Proc.devRef .tc a, Proc.devRef .tc b, Proc.devRef .tc c}) W) := by
  have ne : ∀ {x y : Ref sig .tc}, x ≠ y → (Proc.devRef .tc x : DevRef τ sig) ≠ Proc.devRef .tc y := fun h e => h (Proc.devRef_injective _ e)
  rw [held_sub_split (SparseCore.T d) (T := {Proc.devRef .tc a, Proc.devRef .tc b, Proc.devRef .tc c})
    (Finset.insert_subset (mem_SA ha) (Finset.insert_subset (mem_SA hb) (Finset.singleton_subset_iff.mpr (mem_SA hc))))]
  congr 1
  unfold held
  rw [SparseCore.bigSep_insert', SparseCore.bigSep_insert', bigSep_singleton]
  · simp only [Finset.mem_singleton]; exact ne hbc
  · simp only [Finset.mem_insert, Finset.mem_singleton, not_or]; exact ⟨ne hab, ne hac⟩

theorem V2_rest (d : Dev nD) : (held (SparseCore.T d) (SA \ {i', o', x'}) (V2 m d) : sProp 𝕄) = held (SparseCore.T d) (SA \ {i', o', x'}) (V1 m d) :=
  held_congr (SparseCore.T d) fun b hb => Function.update_of_ne (fun e => (Finset.mem_sdiff.mp hb).2 (by rw [e]; simp)) _ _

/-- What the call takes, and what it hands back. -/
theorem st0_eq (d : Dev nD) : (bigSep Finset.univ fun c : Fin ((K (F := F)).nCore 0) => (P m).st 0 d c)
    = iprop((iLoc d ↦{fullShare} II m d) ∗ (oLoc d ↦{fullShare} OO m d) ∗ xLoc d ↦{fullShare} XX m d) := by
  rw [i_cores, o_cores]
  show (bigSep Finset.univ fun c : Fin 2 =>
    iprop(iPts d (II m d) (clo c.val) (clo (c.val + 1)) ∗ oPts d (clo c.val) (clo (c.val + 1)) (OO m d) ∗ xPts d (XX m d) (qc c)) : sProp 𝕄) = iprop(_ ∗ _ ∗ xPts d (XX m d) fullShare)
  rw [x_cores, bigSep_sep', bigSep_sep']
theorem dn0_eq (d : Dev nD) : (bigSep Finset.univ fun c : Fin ((K (F := F)).nCore 0) => (P m).dn 0 d c)
    = iprop((iLoc d ↦{fullShare} II m d) ∗ (oLoc d ↦{fullShare} GO d (XX m d) (II m d)) ∗ xLoc d ↦{fullShare} XX m d) := by
  rw [i_cores, o_cores]
  show (bigSep Finset.univ fun c : Fin 2 =>
    iprop(iPts d (II m d) (clo c.val) (clo (c.val + 1)) ∗ oPts d (clo c.val) (clo (c.val + 1)) (GO d (XX m d) (II m d)) ∗ xPts d (XX m d) (qc c)) : sProp 𝕄) = iprop(_ ∗ _ ∗ xPts d (XX m d) fullShare)
  rw [x_cores, bigSep_sep', bigSep_sep']

/-- What the host program leaves: the arguments and the result. -/
abbrev FIN (d : Dev nD) : sProp 𝕄 :=
  iprop((((SparseCore.T d).loc main_arg0) ↦{fullShare} V3 m d a0') ∗ (((SparseCore.T d).loc main_arg1) ↦{fullShare} V3 m d a1') ∗ ((SparseCore.T d).loc main_v11) ↦{fullShare} V3 m d r')

theorem main_eq (d : Dev nD) : main (F := F) d = seq pre >>= fun _ => (sc (F := F)).run d 0 >>= fun _ => seq [post] := rfl

/-- The host program: the index arithmetic, the call, the reshape. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held, main_eq]
  iintro ⟨#Hctx, Hst, ⟨Hb, Hheld, Hts, -⟩, -⟩
  iapply (wp_seq 𝒱 none Set.univ d SA _ pre pre_sub pre_fresh (V0 m d)) $$ [Hb Hheld]
  · isplitl [Hb] <;> iassumption
  iintro ⟨Hb, Hheld⟩
  ihave Hheld := (Entails.of_eq (show (held (d.tc : Thread nD τ) SA (after pre (V0 m d)) : sProp 𝕄) = held (SparseCore.T d) SA (V1 m d) from rfl)) $$ Hheld
  ihave Hh := (Entails.of_eq (three (F := F) (a := main_v8) (b := main_v10) (c := main_v9) (by decide) (by decide) (by decide) (by decide) (by decide) (by decide) d (V1 m d))) $$ Hheld
  icases Hh with ⟨⟨Hi, Ho, Hx⟩, Hrest⟩
  rw [wp_bind]
  iapply ((K (F := F)).wp_run (D (F := F)) 𝒱 (EH := EH) (P := P m) κ d 0) $$ [Hst Hi Ho Hx Hb Hts Hrest]
  isplitr; · iexact Hctx
  isplitl [Hst]; · iexact Hst
  isplitl [Hi Ho Hx]
  · rw [st0_eq]
    isplitl [Hi]; · iexact Hi
    isplitl [Ho]; · iexact Ho
    iexact Hx
  iintro ⟨Hst, Hdn⟩
  ihave Hdn' := (Entails.of_eq (dn0_eq m d)) $$ Hdn
  ihave Hrest := (Entails.of_eq (V2_rest m d).symm) $$ Hrest
  ihave Hheld := (Entails.of_eq (three (F := F) (a := main_v8) (b := main_v10) (c := main_v9) (by decide) (by decide) (by decide) (by decide) (by decide) (by decide) d (V2 m d)).symm) $$ [Hdn' Hrest]
  · isplitl [Hdn']
    · rw [show V2 m d i' = II m d from Function.update_of_ne (show i' ≠ o' by decide) _ _, show V2 m d o' = GO d (XX m d) (II m d) from Function.update_self _ _ _,
        show V2 m d x' = XX m d from Function.update_of_ne (show x' ≠ o' by decide) _ _]
      iexact Hdn'
    iexact Hrest
  rw [show (seq [post (F := F)] : Prog (TpuEff nD τ sig (Elt F) _ .tc) PUnit) = (seq [post (F := F)] >>= fun u => Pure.pure u) from (bind_pure _).symm]
  iapply (wp_seq 𝒱 none Set.univ d SA _ [post (F := F)] (fun op h => by rw [List.mem_singleton.mp h]; exact post_sub)
    (fun op h => by rw [List.mem_singleton.mp h]; rfl) (V2 m d)) $$ [Hb Hheld]
  · isplitl [Hb] <;> iassumption
  iintro ⟨Hb, Hheld⟩
  ihave Hheld := (Entails.of_eq (show (held (d.tc : Thread nD τ) SA (after [post (F := F)] (V2 m d)) : sProp 𝕄) = held (SparseCore.T d) SA (V3 m d) from rfl)) $$ Hheld
  ihave Hh := (Entails.of_eq (three (F := F) (a := main_arg0) (b := main_arg1) (c := main_v11) (by decide) (by decide) (by decide) (by decide) (by decide) (by decide) d (V3 m d))) $$ Hheld
  icases Hh with ⟨Hfin, -⟩
  rw [wp_pure]; imodintro
  isplitl [Hst]; · iexact Hst
  isplitl [Hfin]; · iexact Hfin
  isplitl [Hb] <;> iassumption

def fq (d : Dev nD) (s' : Phys nD τ sig (Elt F)) : Prop :=
  s'.mem.mem ((SparseCore.T d).loc main_arg0) = V3 m d a0' ∧ s'.mem.mem ((SparseCore.T d).loc main_arg1) = V3 m d a1' ∧ s'.mem.mem ((SparseCore.T d).loc main_v11) = V3 m d r'

set_option maxRecDepth 16384 in
theorem hfin (d : Dev nD) (s' : Phys nD τ sig (Elt F)) : iprop(FIN m d ∗ SI s') ⊢ (⌜fq m d s'⌝ : sProp 𝕄) := by
  iintro ⟨⟨H0, H1, Hr⟩, HSI⟩
  ihave H := (persistent_entails_right (SI_pointsTo_agree (st := s') (ℓ := (SparseCore.T d).loc main_arg0) (I := Finset.univ) (q := fullShare) (f := V3 m d a0'))) $$ [HSI H0]
  · isplitl [HSI] <;> iassumption
  icases H with ⟨%h0, HSI, -⟩
  ihave H := (persistent_entails_right (SI_pointsTo_agree (st := s') (ℓ := (SparseCore.T d).loc main_arg1) (I := Finset.univ) (q := fullShare) (f := V3 m d a1'))) $$ [HSI H1]
  · isplitl [HSI] <;> iassumption
  icases H with ⟨%h1, HSI, -⟩
  ihave H := (SI_pointsTo_agree (st := s') (ℓ := (SparseCore.T d).loc main_v11) (I := Finset.univ) (q := fullShare) (f := V3 m d r')) $$ [HSI Hr]
  · isplitl [HSI] <;> iassumption
  icases H with %hr
  ipureintro
  exact ⟨funext fun i => h0 i (Finset.mem_univ i), funext fun i => h1 i (Finset.mem_univ i), funext fun i => hr i (Finset.mem_univ i)⟩

/-- The run: every device's arguments and result at the end, the semaphores at zero. -/
def QC : PUnit × MemSt nD τ sig (Elt F) → Prop := fun r =>
  (∀ d : Dev nD, r.2.mem ((SparseCore.T d).loc main_arg0) = V3 m d a0' ∧ r.2.mem ((SparseCore.T d).loc main_arg1) = V3 m d a1' ∧ r.2.mem ((SparseCore.T d).loc main_v11) = V3 m d r')
    ∧ r.2.sem = fun _ => 0

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Gath

end
-- ==== Proof.Value.lean ====
/-
  The row gather's value: the host's index arithmetic gives list entry `p·67584 + j` the row number `p·151552 + idx[j]`,
  so the result holds at `(p, j, l)` the argument's `(p, idx[j], l)`; the reference's gather, whose indices are wrapped
  and clamped, reads the same element when the row numbers are in range.
-/
module

public import proofs.«01_k».proof.Proof.Launch
public import proofs.«01_k».proof.Proof.Gen.ReferenceIdeal.Run
public import proofs.«01_k».proof.Pre_dest_in_rows
public import proofs.«01_k».proof.Proof.Gen.Pre_dest_in_rows
public import Idealize.ShloMosaic.Lib.ReduceAll
public import Idealize.ShloMosaic.Lib.Pipeline.Value
public import Idealize.ShloMosaic.Lib.Pointwise.Index

@[expose] public section

set_option Elab.async false

noncomputable section

namespace Cert.Proof.Gath

open Cert.KernelIdeal Cert.KernelIdeal.Gen
open Idealize.ShloMosaic Idealize.ShloMosaic.StableHlo Idealize.SL.Sem
open Idealize.ShloMosaic.Tactic

variable {F : FTy → Type} [FloatOps F]

/-- Every row number is one of a plane's rows. -/
def InRows (idx : S67584.Idx → BitVec 32) : Prop := ∀ j, (idx j).toNat < 151552

/-- The rows picked: `(p, j, l)` holds plane `p`'s row `idx[j]` at lane `l`. -/
def picked (x : S4x151552x128.Idx → BitVec 32) (idx : S67584.Idx → BitVec 32) : S4x67584x128.Idx → BitVec 32 :=
  fun j => x (ix3 (j 0) ⟨(idx (ix1 (j 1))).toNat % 151552, Nat.mod_lt _ (by decide)⟩ (j 2))

/-! ## The precondition -/

theorem inRows_of_pre (x : S4x151552x128.Idx → BitVec 32) (idx : S67584.Idx → BitVec 32)
    (h : Cert.Pre_dest_in_rows.fn (F := F) x idx = fun _ => 1#1) : InRows idx := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  have key : ∀ v : BitVec 32, IntOp.andi (IntOp.cmpi .sge v 0#32) (IntOp.cmpi .slt v 151552#32) = 1#1 → v.toNat < 151552 := by
    intro v e
    simp only [IntOp.cmpi, andi_ofBool, ofBool_eq_one, Bool.and_eq_true, BitVec.sle_eq_decide, BitVec.slt_eq_decide,
      decide_eq_true_eq, BitVec.toInt_eq_toNat_cond, BitVec.toNat_ofNat, Nat.reducePow, Nat.reduceMod] at e
    omega
  intro j
  have e := congrFun h (fun a => a.elim0)
  simp only [Cert.Pre_dest_in_rows.fn] at e
  haveI : Subsingleton Cert.Pre_dest_in_rows.S_.Idx := ⟨fun a b => funext fun i => i.elim0⟩
  have e := Host.reduce_andi_all _ _ _ _ _ e j
  simp only [andi, cmpi, broadcastInDim, constantI] at e
  exact key _ e

/-! ## The kernel's value -/

variable (m : (ℓ : Loc nD τ sig) → Buf (Elt F) ℓ) (d : Dev nD)

/-- The arguments. -/
def arg0 : S4x151552x128.Idx → BitVec 32 := m ((SparseCore.T d).loc main_arg0)
def arg1 : S67584.Idx → BitVec 32 := m ((SparseCore.T d).loc main_arg1)

theorem II_eq : II m d = shapeCast S1x270336 (addi
      (broadcastInDim S4x67584 ![0, 1] bcast_S1x67584_S4x67584_0_1 (broadcastInDim S1x67584 ![1] bcast_S67584_S1x67584_1 (arg1 m d)))
      (broadcastInDim S4x67584 ![0, 1] bcast_S4x1_S4x67584_0_1 (broadcastInDim S4x1 ![0] bcast_S4_S4x1_0
        (muli (iotaInDim S4 32 0) (broadcastInDim S4 ![] bcast_S_S4 (constantI S_ 32 151552#32))))))
      shapeCasts_S4x67584_S1x270336 := by
  unfold II V1 pre
  after_results <;> rfl
theorem XX_eq : XX m d = shapeCast S606208x128 (arg0 m d) shapeCasts_S4x151552x128_S606208x128 := by
  unfold XX V1 pre
  after_results <;> rfl
theorem V1_arg0 : V1 m d a0' = m ((SparseCore.T d).loc main_arg0) := by
  unfold V1 pre
  after_results <;> rfl
theorem V1_arg1 : V1 m d a1' = m ((SparseCore.T d).loc main_arg1) := by
  unfold V1 pre
  after_results <;> rfl

theorem V3_arg0 : V3 m d a0' = m ((SparseCore.T d).loc main_arg0) := by
  rw [← V1_arg0 m d]
  exact ((post (F := F)).result_of_not_mem (V2 m d) (fun h => absurd (Finset.mem_singleton.mp h) (by decide))).trans (Function.update_of_ne (show a0' ≠ o' by decide) _ _)
theorem V3_arg1 : V3 m d a1' = m ((SparseCore.T d).loc main_arg1) := by
  rw [← V1_arg1 m d]
  exact ((post (F := F)).result_of_not_mem (V2 m d) (fun h => absurd (Finset.mem_singleton.mp h) (by decide))).trans (Function.update_of_ne (show a1' ≠ o' by decide) _ _)
theorem V3_r : V3 m d r' = shapeCast S4x67584x128 (GO d (XX m d) (II m d)) shapeCasts_S270336x128_S4x67584x128 := by
  unfold V3 post
  rw [StableHlo.reshape_result, show V2 m d (Proc.devRef .tc main_v10) = GO d (XX m d) (II m d) from Function.update_self _ _ _]
  rfl

theorem II_at (p q : Nat) (hp : p < 4) (hq : q < 67584) (h : p * 67584 + q < 270336) :
    (II m d (iAt (p * 67584 + q) h) : BitVec 32) = arg1 m d (ix1 ⟨q, hq⟩) + BitVec.ofNat 32 p * 151552#32 := by
  rw [II_eq]
  refine (shapeCast_apply _ _ _ (ix2 (⟨p, hp⟩ : Fin 4) (⟨q, hq⟩ : Fin 67584)) ?_).trans ?_
  · rw [Shape.rowMajor_val_two, Shape.rowMajor_val_two]; show p * 67584 + q = 0 * 270336 + (p * 67584 + q); omega
  show IntOp.addi _ _ = _
  rw [broadcastInDim_apply _ _ _ _ (ix2 (0 : Fin 1) (⟨q, hq⟩ : Fin 67584)), broadcastInDim_apply _ _ _ _ (ix1 (⟨q, hq⟩ : Fin 67584)),
    broadcastInDim_apply _ _ _ _ (ix2 (⟨p, hp⟩ : Fin 4) (0 : Fin 1)), broadcastInDim_apply _ _ _ _ (ix1 (⟨p, hp⟩ : Fin 4))]
  · rfl
  all_goals intro a; fin_cases a <;> rfl

theorem II_nat (hin : InRows (arg1 m d)) (p q : Nat) (hp : p < 4) (hq : q < 67584) (h : p * 67584 + q < 270336) :
    (II m d (iAt (p * 67584 + q) h) : BitVec 32).toNat = p * 151552 + (arg1 m d (ix1 ⟨q, hq⟩)).toNat := by
  have h1 := hin (ix1 ⟨q, hq⟩)
  rw [II_at m d p q hp hq h, BitVec.toNat_add, BitVec.toNat_mul, BitVec.toNat_ofNat, BitVec.toNat_ofNat]
  omega

theorem preOK_of (hin : ∀ d, InRows (arg1 m d)) : PreOK m := by
  intro d c
  have hc : (c 1).val < 270336 := (c 1).isLt
  have h0 : (c 0).val = 0 := Nat.lt_one_iff.mp (c 0).isLt
  have e : c = iAt ((c 1).val / 67584 * 67584 + (c 1).val % 67584) (by omega) := by
    funext a
    refine Fin.ext ?_
    fin_cases a
    · exact h0
    · show (c 1).val = (c 1).val / 67584 * 67584 + (c 1).val % 67584; omega
  have hn := II_nat m d (hin d) ((c 1).val / 67584) ((c 1).val % 67584) (by omega) (by omega) (by omega)
  rw [e]
  refine lt_of_eq_of_lt hn ?_
  have := hin d (ix1 ⟨(c 1).val % 67584, by omega⟩)
  omega

/-- The kernel's result is the rows picked. -/
theorem kernel_value (hin : InRows (arg1 m d)) : V3 m d r' = picked (arg0 m d) (arg1 m d) := by
  rw [V3_r]
  funext j
  have h0 : (j 0).val < 4 := (j 0).isLt
  have h1 : (j 1).val < 67584 := (j 1).isLt
  have h2 : (j 2).val < 128 := (j 2).isLt
  have hr : (j 0).val * 67584 + (j 1).val < 270336 := by omega
  refine (shapeCast_apply _ _ _ (ix2 (⟨(j 0).val * 67584 + (j 1).val, hr⟩ : Fin 270336) (⟨(j 2).val, h2⟩ : Fin 128)) ?_).trans ?_
  · rw [Shape.rowMajor_val_two, Shape.rowMajor_val_three]; rfl
  show XX m d (xAt (II m d (iAt ((j 0).val * 67584 + (j 1).val) hr) : BitVec 32).toNat (j 2).val h2) = _
  rw [II_nat m d hin _ _ h0 h1 hr, XX_eq]
  have hi := hin (ix1 (j 1))
  refine shapeCast_apply _ _ _ _ ?_
  rw [Shape.rowMajor_val_two, Shape.rowMajor_val_three]
  show ((j 0).val * 151552 + (arg1 m d (ix1 (j 1))).toNat % 151552) * 128 + (j 2).val
    = ((j 0).val * 151552 + (arg1 m d (ix1 (j 1))).toNat) % 606208 * 128 + (j 2).val
  omega

/-! ## The reference's value -/

open Cert.ReferenceIdeal (gather_S4x151552x128_S67584x1_S4x67584x128_02_1_n_n_1_1_41128) in
theorem reference_value (x : S4x151552x128.Idx → BitVec 32) (idx : S67584.Idx → BitVec 32) (hin : InRows idx) :
    Host.gather gather_S4x151552x128_S67584x1_S4x67584x128_02_1_n_n_1_1_41128 x
      (broadcastInDim Cert.ReferenceIdeal.S67584x1 ![0] Cert.ReferenceIdeal.Facts₀.bcast_S67584_S67584x1_0
        (select (cmpi .slt idx (broadcastInDim S67584 ![] Cert.ReferenceIdeal.Facts₀.bcast_S_S67584 (constantI S_ 32 0#32)))
          (addi idx (broadcastInDim S67584 ![] Cert.ReferenceIdeal.Facts₀.bcast_S_S67584 (constantI S_ 32 151552#32))) idx))
      = picked x idx := by
  funext j
  unfold Host.gather picked
  refine congrArg x (funext fun a => Fin.ext ?_)
  have hi := hin (ix1 (j 1))
  have hsel : (select (cmpi .slt idx (broadcastInDim S67584 ![] Cert.ReferenceIdeal.Facts₀.bcast_S_S67584 (constantI S_ 32 0#32)))
          (addi idx (broadcastInDim S67584 ![] Cert.ReferenceIdeal.Facts₀.bcast_S_S67584 (constantI S_ 32 151552#32))) idx) = idx := by
    funext k
    have hk := hin k
    have e : (cmpi .slt idx (broadcastInDim S67584 ![] Cert.ReferenceIdeal.Facts₀.bcast_S_S67584 (constantI S_ 32 0#32)) : IVec S67584 1) k = 0#1 := by
      show BitVec.ofBool ((idx k).slt 0#32) = 0#1
      rw [BitVec.slt_eq_decide, BitVec.toInt_eq_toNat_cond]
      rw [if_pos (by omega)]
      rw [decide_eq_false]
      · rfl
      · simp
    show (if _ = 1#1 then _ else _) = _
    rw [e]; rfl
  rw [hsel]
  show (gather_S4x151552x128_S67584x1_S4x67584x128_02_1_n_n_1_1_41128).start j _ a
      + (gather_S4x151552x128_S67584x1_S4x67584x128_02_1_n_n_1_1_41128).batchCoord j a
      + (gather_S4x151552x128_S67584x1_S4x67584x128_02_1_n_n_1_1_41128).offCoord j a = _
  rw [GatherDims.batchCoord_eq_zero _ _ _ (fun h => by simp [gather_S4x151552x128_S67584x1_S4x67584x128_02_1_n_n_1_1_41128] at h), Nat.add_zero]
  have ha : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases ha with rfl | rfl | rfl
  · unfold GatherDims.start
    rw [dif_neg (by decide)]
    unfold GatherDims.offCoord
    rw [dif_pos (by decide), Nat.zero_add]
    rfl
  · rw [GatherDims.offCoord_eq_zero _ _ _ (by decide)]
    unfold GatherDims.start
    rw [dif_pos (by decide), Nat.add_zero]
    refine (congrArg (fun v : BitVec 32 => min v.toInt.toNat (151552 - 1)) (broadcastInDim_apply _ _ idx _ (ix1 (j 1)) ?_)).trans ?_
    · intro b; fin_cases b; rfl
    · show min (idx (ix1 (j 1))).toInt.toNat (151552 - 1) = (idx (ix1 (j 1))).toNat % 151552
      rw [BitVec.toInt_eq_toNat_cond, if_pos (by omega)]
      omega
  · unfold GatherDims.start
    rw [dif_neg (by decide)]
    unfold GatherDims.offCoord
    rw [dif_pos (by decide), Nat.zero_add]
    rfl

end Cert.Proof.Gath

end
-- ==== Proof.ExpKit.lean ====
/-
  Set-up of the experts' call: the launch of its one region read off the memory, the prefetched tables, the windows'
  blocks, and the memrefs the body is run on.
-/
module

public import proofs.«01_k».proof.Kernel2Ideal
public import proofs.«01_k».proof.Proof.Gen.Kernel2Ideal
public import proofs.«01_k».proof.Proof.Gen.Kernel2Ideal.Skeleton
public import proofs.«01_k».proof.Proof.Gen.Kernel2Ideal.Launch
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Proof.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat)

variable {F : FTy → Type} [FloatOps F]

local notation "𝕄" => MT nD τ sig Unit (Elt F) ℕ (UR sig nD τ) ℕ

variable (m : (ℓ : Loc nD τ sig) → Buf (Elt F) ℓ)

/-! ## The launch -/

/-- A TensorCore buffer of core `c` at the region's entry: as launched, for @main runs nothing before the region. -/
abbrev atEntry (c : Dev nD) (b : Ref sig .tc) : Buf (Elt F) ((c : Thread nD τ).loc b) := m ((c : Thread nD τ).loc b)

set_option maxHeartbeats 800000 in
/-- @main is its region, at any variants. -/
theorem main_is_region (𝒱₀ : Variants) :
    Pipeline.HMainP (Ix := Unit) (Name := ℕ) (U := UR sig nD τ) (Lvl := ℕ) pcfgs 0 defs₀ 𝒱₀ m (main (F := F)) (atEntry m) :=
  Pipeline.hmainP_region pcfgs 0 defs₀ 𝒱₀ m main fun c => (main_chain c).trans rfl

/-! ## The tables -/

/-- The three tables' contents at the region's entry. -/
def words : pre0.Contents (Elt F) := fun j => atEntry m (0 : Dev nD) (pre0.ref j)

/-- Every core finds those contents, there being one. -/
theorem atEntry_words (c : Dev nD) (j : Fin 3) : atEntry m c (pre0.ref j) = words m j := by
  obtain rfl : c = 0 := Subsingleton.elim _ _
  rfl

/-- The tables with the proof that every window they place stays inside its array. -/
abbrev placed (hO : ok0 (F := F) (words m)) : (pcfg0 (F := F)).Adm := ⟨words m, hO⟩
abbrev pipe (hO : ok0 (F := F) (words m)) : Pipeline.Cfg sig Λ₀ := cfg0 (placed m hO)

/-- The tables as the body is handed them: the experts of the blocks, their numbers of valid rows, the number of blocks. -/
abbrev expT : Memref sig .tc .smem S296 .i32 := Memref.whole main_arg1
abbrev rowT : Memref sig .tc .smem S296 .i32 := Memref.whole main_arg2
abbrev cntT : Memref sig .tc .smem S1 .i32 := Memref.whole main_arg3

abbrev TblBuf (c : Dev nD) {S : Shape} {e : EltTy} (M : Memref sig .tc .smem S e) : Type := Buf (Elt F) (M.view.loc (c : Thread nD τ))
/-- A table held at half the full share. -/
abbrev held (c : Dev nD) {S : Shape} {e : EltTy} (M : Memref sig .tc .smem S e) (f : TblBuf (F := F) c M) : sProp 𝕄 :=
  M.view.loc (c : Thread nD τ) ↦{fullShare.right} f

/-- What the region hands the body of the tables, one by one. -/
theorem tables_held (c : Dev nD) :
    (Pipeline.ΦT pre0 (words m) c : sProp 𝕄) = iprop(held c expT (words m 0) ∗ held c rowT (words m 1) ∗ held c cntT (words m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-! ## The scratch buffers -/

/-- The current expert's two weight matrices, rounded. -/
abbrev upS : Memref sig .tc .vmem S1024x2048 .bf16 := Memref.whole cc0_scratch0
abbrev downS : Memref sig .tc .vmem S1024x1024 .bf16 := Memref.whole cc0_scratch1

/-- The scoped rest of the region: the two scratch buffers at some contents, and the generator's register. -/
theorem scratch_held (c : Dev nD) :
    (Pipeline.ΦA spec0 c : sProp 𝕄)
      = iprop(iprop((∃ d, owns (c : Thread nD τ) upS fullShare d) ∗ (∃ d, owns (c : Thread nD τ) downS fullShare d)) ∗ (∃ r, prngReg c r)) := by
  unfold Pipeline.ΦA
  rw [scopedRest0_eq]
  simp only [upS, downS, owns_whole]
  rfl

/-! ## The windows -/

/-- Window `w`'s block at point `t`, off its array. -/
def blockAt (hO : ok0 (F := F) (words m)) (c : Dev nD) (w : Fin (pipe m hO).W) (t : Fin (pipe m hO).N) :
    (((pipe m hO).win w).xblock ((pipe m hO).grid.coords t)).Idx → Elt F ((pipe m hO).win w).elt :=
  (((pipe m hO).win w).blk t).view.read (Elt F) (atEntry m c (Pipeline.arrRef spec0 w))

end Cert.Proof.Ffn

end
-- ==== Proof.ExpRun.lean ====
/-
  The experts' body run at one grid point, case by case.
-/
module

public import proofs.«01_k».proof.Proof.ExpKit

public import Idealize.ShloMosaic.Lib.VecWindow
public import Idealize.ShloMosaic.Lib.ValueLayout
public import Idealize.ShloMosaic.Lib.ValueIdx

@[expose] public section

set_option maxRecDepth 16384

noncomputable section

namespace Cert.Proof.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat)
open Idealize.ShloMosaic.ValueIdx

variable {F : FTy → Type} [FloatOps F]

local notation "𝕄" => MT nD τ sig Unit (Elt F) ℕ (UR sig nD τ) ℕ

/-! ## The words the body reads -/

/-- The expert of grid point `i`'s block, the one of the block before (of block 0, its own), and the number of blocks. -/
def expWord (c : Dev nD) (i : grid0.Coords) (b0 : TblBuf (F := F) c expT) : BitVec 32 :=
  View.readAt (Elt F) expT.view (Rect.unit (s := S296) (k0_off1 i) S1.size (k0_off1_inb i)).toLoadRect b0 (Shape.Idx.first (numel1_S1.symm ▸ Nat.one_pos))
def prevWord (c : Dev nD) (i : grid0.Coords) (b0 : TblBuf (F := F) c expT) : BitVec 32 :=
  View.readAt (Elt F) expT.view (Rect.unit (s := S296) (k0_off2 i) S1.size (k0_off2_inb i)).toLoadRect b0 (Shape.Idx.first (numel1_S1.symm ▸ Nat.one_pos))
def rowWord (c : Dev nD) (i : grid0.Coords) (b1 : TblBuf (F := F) c rowT) : BitVec 32 :=
  View.readAt (Elt F) rowT.view (Rect.unit (s := S296) (k0_off3 i) S1.size (k0_off3_inb i)).toLoadRect b1 (Shape.Idx.first (numel1_S1.symm ▸ Nat.one_pos))
def cntWord (c : Dev nD) (b2 : TblBuf (F := F) c cntT) : BitVec 32 :=
  View.readAt (Elt F) cntT.view (Rect.unit (s := S1) ![0] S1.size inb_S1_S1_0).toLoadRect b2 (Shape.Idx.first (numel1_S1.symm ▸ Nat.one_pos))

/-- The body's first test: the block's expert differs from the one before (or there is none), and the block is used. -/
abbrev firstTest (c : Dev nD) (i : grid0.Coords) (b0 : TblBuf (F := F) c expT) (b2 : TblBuf (F := F) c cntT) : BitVec 1 :=
  Scalar.cmpi CmpIPredicate.ne
    (Scalar.extui
      (Scalar.andi
        (Scalar.ori (Scalar.cmpi CmpIPredicate.eq (BitVec.ofNat 32 (i 0).val) 0#32)
          (Scalar.cmpi CmpIPredicate.ne (expWord c i b0) (prevWord c i b0)))
        (Scalar.cmpi CmpIPredicate.slt (BitVec.ofNat 32 (i 0).val) (cntWord c b2))))
    0#32

/-! ## What the body leaves -/

/-- A plane of the block of packed rows, as the body loads it. -/
abbrev planeOf (k : Fin 3 → Nat) (x0 : Vec F S4x512x128 .i32) (h : ∀ a, k a + S1x512x128.size a ≤ S4x512x128.size a) : Vec F S1x512x128 .i32 :=
  VecWindow.window (s := S4x512x128) x0 k S1x512x128.size h

/-- The activated rows times the second weights, plus the second bias: what a used block's rows become, from the packed rows `x0`, the
number `bv` of valid ones, the weights in the scratch buffers and the biases. -/
def ffnTile (x0 : Vec F S4x512x128 .i32) (bv : BitVec 32) (u : Vec F S1024x2048 .bf16) (x2 : Vec F S1x1x1x2048 .f32)
    (v : Vec F S1024x1024 .bf16) (x4 : Vec F S1x1x1x1024 .f32) : FVec F S512x1024 .bf16 :=
  k0_pay10
    (k0_pay8 (planeOf ![0, 0, 0] x0 inb_S4x512x128_S1x512x128_0_0_0) (planeOf ![1, 0, 0] x0 inb_S4x512x128_S1x512x128_1_0_0)
      (planeOf ![2, 0, 0] x0 inb_S4x512x128_S1x512x128_2_0_0) (planeOf ![3, 0, 0] x0 inb_S4x512x128_S1x512x128_3_0_0) bv u x2)
    (k0_pay9 (planeOf ![0, 0, 0] x0 inb_S4x512x128_S1x512x128_0_0_0) (planeOf ![1, 0, 0] x0 inb_S4x512x128_S1x512x128_1_0_0)
      (planeOf ![2, 0, 0] x0 inb_S4x512x128_S1x512x128_2_0_0) (planeOf ![3, 0, 0] x0 inb_S4x512x128_S1x512x128_3_0_0) bv u x2)
    (Scalar.ofBits .f32 0xC0E00000#32) v x4

/-- The output block: column `128 a + b` of the tile is lane `b` of plane `a`. -/
def outBlock (T : FVec F S512x1024 .bf16) : Vec F S8x512x128 .bf16 := fun j =>
  T (ix2 (n0 := 512) (n1 := 1024) ⟨(j 1).val, (j 1).isLt⟩
    ⟨128 * (j 0).val + (j 2).val, by have h0 : (j 0).val < 8 := (j 0).isLt; have h2 : (j 2).val < 128 := (j 2).isLt; omega⟩)

/-- Lanes `o` to `o + 128` of the tile, stored as plane `k`, are plane `k` of the output block. -/
theorem piece_eq (T : FVec F S512x1024 .bf16) (k o : Nat) (h : S512x1024.Slices ![0, o] S512x128) (ho : o = 128 * k)
    (inb : ∀ a, (![k, 0, 0] : Fin 3 → Nat) a + S1x512x128.size a ≤ S8x512x128.size a)
    (x : (Rect.unit (s := S8x512x128) ![k, 0, 0] S1x512x128.size inb).shape.Idx) :
    shapeCast S1x512x128 (extractStridedSlice S512x128 ![0, o] T h) shapeCasts_S512x128_S1x512x128 x
      = outBlock T ((Rect.unit (s := S8x512x128) ![k, 0, 0] S1x512x128.size inb).emb x) := by
  subst ho
  obtain ⟨a, b, d, rfl⟩ : ∃ a b d, x = ix3 (n0 := 1) (n1 := 512) (n2 := 128) a b d := ⟨_, _, _, eq_ix3 (n0 := 1) (n1 := 512) (n2 := 128) x⟩
  refine (shapeCast_ab_1ab_apply (a := 512) (b := 128) _ _ a b d).trans ?_
  refine extractStridedSlice_apply _ T h _ _ fun e => ?_
  have ha : a.val = 0 := by omega
  match e with
  | ⟨0, _⟩ => show 0 + 1 * b.val = 0 + b.val; omega
  | ⟨1, _⟩ => show 128 * (k + 1 * a.val) + (0 + 1 * d.val) = 128 * k + d.val; rw [ha]; omega

/-- The eight stores of a block's planes leave the output block, whatever was in the buffer. -/
theorem planes_read {sp : Space} (w : View sig .tc sp S8x512x128 .bf16) (f : w.ty.Contents (Elt F)) (T : FVec F S512x1024 .bf16)
    (p0 p1 p2 p3 : FVec F S1x512x128 .bf16)
    (h0 : p0 = shapeCast S1x512x128 (extractStridedSlice S512x128 ![0, 0] T slices_S512x1024_o0_0_S512x128) shapeCasts_S512x128_S1x512x128)
    (h1 : p1 = shapeCast S1x512x128 (extractStridedSlice S512x128 ![0, 128] T slices_S512x1024_o0_128_S512x128) shapeCasts_S512x128_S1x512x128)
    (h2 : p2 = shapeCast S1x512x128 (extractStridedSlice S512x128 ![0, 256] T slices_S512x1024_o0_256_S512x128) shapeCasts_S512x128_S1x512x128)
    (h3 : p3 = shapeCast S1x512x128 (extractStridedSlice S512x128 ![0, 384] T slices_S512x1024_o0_384_S512x128) shapeCasts_S512x128_S1x512x128) :
    w.read (Elt F) (w.writes (Elt F) f
      [⟨Rect.unit ![7, 0, 0] S1x512x128.size inb_S8x512x128_S1x512x128_7_0_0, k0_pay6 T⟩,
       ⟨Rect.unit ![6, 0, 0] S1x512x128.size inb_S8x512x128_S1x512x128_6_0_0, k0_pay5 T⟩,
       ⟨Rect.unit ![5, 0, 0] S1x512x128.size inb_S8x512x128_S1x512x128_5_0_0, k0_pay4 T⟩,
       ⟨Rect.unit ![4, 0, 0] S1x512x128.size inb_S8x512x128_S1x512x128_4_0_0, k0_pay3 T⟩,
       ⟨Rect.unit ![3, 0, 0] S1x512x128.size inb_S8x512x128_S1x512x128_3_0_0, p3⟩,
       ⟨Rect.unit ![2, 0, 0] S1x512x128.size inb_S8x512x128_S1x512x128_2_0_0, p2⟩,
       ⟨Rect.unit ![1, 0, 0] S1x512x128.size inb_S8x512x128_S1x512x128_1_0_0, p1⟩,
       ⟨Rect.unit ![0, 0, 0] S1x512x128.size inb_S8x512x128_S1x512x128_0_0_0, p0⟩]) = outBlock T := by
  subst h0 h1 h2 h3
  funext y
  refine View.read_writes_apply_of_pieces w f (outBlock T) _ ?_ y (View.cover_of_tiledL (s := S8x512x128) _ S1x512x128.size (by sl_kernel_rfl) y)
  simp only [List.forall_mem_cons, List.not_mem_nil, false_imp_iff, implies_true, and_true]
  exact ⟨piece_eq T 7 896 _ rfl _, piece_eq T 6 768 _ rfl _, piece_eq T 5 640 _ rfl _, piece_eq T 4 512 _ rfl _,
    piece_eq T 3 384 _ rfl _, piece_eq T 2 256 _ rfl _, piece_eq T 1 128 _ rfl _, piece_eq T 0 0 _ rfl _⟩

/-- A buffer's contents stated by what its memref reads. -/
theorem pointsTo_rep (c : Dev nD) {sp : Space} {S : Shape} {e : EltTy} (M : Memref sig .tc sp S e) (f : Buf (Elt F) (M.view.loc (c : Thread nD τ)))
    (X : S.Idx → Elt F e) (h : M.view.read (Elt F) f = X) :
    (M.view.loc (c : Thread nD τ) ↦[M.view.set]{fullShare} f : sProp 𝕄) ⊢ (M.view.loc (c : Thread nD τ) ↦[M.view.set]{fullShare} M.view.rep X) := by
  rw [← owns_eq_rep (c : Thread nD τ) M fullShare X]
  unfold owns
  iintro H
  iexists f
  isplitr
  · ipureintro; exact h
  iexact H

set_option maxHeartbeats 1000000 in
/-- A used block with a new expert: its weights are stored in the scratch buffers, and its rows computed. -/
theorem run_new (c : Dev nD) (i : grid0.Coords) (arg4 : Memref sig .tc .vmem S4x512x128 .i32) (h4 : arg4.IsWhole)
    (arg5 : Memref sig .tc .vmem S1x1x1024x2048 .f32) (h5 : arg5.IsWhole) (arg6 : Memref sig .tc .vmem S1x1x1x2048 .f32) (h6 : arg6.IsWhole)
    (arg7 : Memref sig .tc .vmem S1x1x1024x1024 .f32) (h7 : arg7.IsWhole) (arg8 : Memref sig .tc .vmem S1x1x1x1024 .f32) (h8 : arg8.IsWhole)
    (arg9 : Memref sig .tc .vmem S8x512x128 .bf16) (h9 : arg9.IsWhole)
    (arg10 : Memref sig .tc .vmem S1024x2048 .bf16) (h10 : arg10.IsWhole) (arg11 : Memref sig .tc .vmem S1024x1024 .bf16) (h11 : arg11.IsWhole)
    (x0 : Vec F S4x512x128 .i32) (x1 : Vec F S1x1x1024x2048 .f32) (x2 : Vec F S1x1x1x2048 .f32) (x3 : Vec F S1x1x1024x1024 .f32)
    (x4 : Vec F S1x1x1x1024 .f32) (x5 : Vec F S8x512x128 .bf16) (u : Vec F S1024x2048 .bf16) (v : Vec F S1024x1024 .bf16)
    (b0 : TblBuf (F := F) c expT) (b1 : TblBuf (F := F) c rowT) (b2 : TblBuf (F := F) c cntT)
    (hn : firstTest c i b0 b2 = 1#1) (hl : k0_cond2 i (cntWord c b2) = 1#1) (E : Set ℕ) (K : PUnit → sProp 𝕄) :
    iprop(owns (c : Thread nD τ) arg4 fullShare x0 ∗ owns (c : Thread nD τ) arg5 fullShare x1 ∗ owns (c : Thread nD τ) arg6 fullShare x2
        ∗ owns (c : Thread nD τ) arg7 fullShare x3 ∗ owns (c : Thread nD τ) arg8 fullShare x4 ∗ owns (c : Thread nD τ) arg9 fullShare x5
        ∗ owns (c : Thread nD τ) arg10 fullShare u ∗ owns (c : Thread nD τ) arg11 fullShare v ∗ held c expT b0 ∗ held c rowT b1 ∗ held c cntT b2
        ∗ (iprop(owns (c : Thread nD τ) arg4 fullShare x0 ∗ owns (c : Thread nD τ) arg5 fullShare x1 ∗ owns (c : Thread nD τ) arg6 fullShare x2
        ∗ owns (c : Thread nD τ) arg7 fullShare x3 ∗ owns (c : Thread nD τ) arg8 fullShare x4 ∗ owns (c : Thread nD τ) arg9 fullShare (outBlock (ffnTile x0 (rowWord c i b1) (k0_pay1 x1) x2 (k0_pay2 x3) x4))
        ∗ owns (c : Thread nD τ) arg10 fullShare (k0_pay1 x1) ∗ owns (c : Thread nD τ) arg11 fullShare (k0_pay2 x3) ∗ held c expT b0 ∗ held c rowT b1 ∗ held c cntT b2) -∗ K ⟨⟩))
      ⊢ wp frame (wpE (defs₀ (F := F)) Variants.none c none) E
          (cc0_moe_experts i expT (Memref.isWhole_whole _) rowT (Memref.isWhole_whole _) cntT (Memref.isWhole_whole _)
            arg4 h4 arg5 h5 arg6 h6 arg7 h7 arg8 h8 arg9 h9 arg10 h10 arg11 h11) K := by
  simp only [cc0_moe_experts_eq_skeleton]
  unfold cc0_moe_experts_skel
  simp only [k0_part1_eq_skeleton, k0_part2_eq_skeleton]
  simp only [owns_eq_rep]
  iintro ⟨H0, H1, H2, H3, H4, H5, HS0, HS1, HT0, HT1, HT2, Hk⟩
  sl_exec (disch := first | (with_unfolding_all exact hn) | (with_unfolding_all exact hl))
  have hu : View.readCov arg10.view (run_new.sl.HS0_1 arg5 x1) (Rect.unit ![0, 0] S1024x2048.size inb_S1024x2048_S1024x2048_0_0).toLoadRect = k0_pay1 x1 := by
    delta run_new.sl.HS0_1 run_new.sl.v18
    rw [View.readAt_rep_full arg5.view x1]
    exact View.readCov_full arg10.view _ _ _ _
  have hv : View.readCov arg11.view (run_new.sl.HS1_1 arg7 x3) (Rect.unit ![0, 0] S1024x1024.size inb_S1024x1024_S1024x1024_0_0).toLoadRect = k0_pay2 x3 := by
    delta run_new.sl.HS1_1 run_new.sl.v24
    rw [View.readAt_rep_full arg7.view x3]
    exact View.readCov_full arg11.view _ _ _ _
  have hT : run_new.sl.r_6 c i arg4 arg5 arg6 arg7 arg8 arg10 arg11 x0 x1 x2 x3 x4 b1 = ffnTile x0 (rowWord c i b1) (k0_pay1 x1) x2 (k0_pay2 x3) x4 := by
    delta run_new.sl.r_6 run_new.sl.r_4 run_new.sl.r_5 run_new.sl.cst_21 run_new.sl.v66 run_new.sl.r_3 run_new.sl.v44
    rw [hu, hv, View.readAt_rep_full arg6.view x2, View.readAt_rep_full arg8.view x4]
    rw [View.readAt_rep_unit arg4.view x0 inb_S4x512x128_S1x512x128_0_0_0 rfl inb_S4x512x128_S1x512x128_0_0_0,
      View.readAt_rep_unit arg4.view x0 inb_S4x512x128_S1x512x128_1_0_0 rfl inb_S4x512x128_S1x512x128_1_0_0,
      View.readAt_rep_unit arg4.view x0 inb_S4x512x128_S1x512x128_2_0_0 rfl inb_S4x512x128_S1x512x128_2_0_0,
      View.readAt_rep_unit arg4.view x0 inb_S4x512x128_S1x512x128_3_0_0 rfl inb_S4x512x128_S1x512x128_3_0_0]
    delta ffnTile rowWord
    rfl
  sl_step
  iapply Hk
  isplitl [H0]; · iexact H0
  isplitl [H1]; · iexact H1
  isplitl [H2]; · iexact H2
  isplitl [H3]; · iexact H3
  isplitl [H4]; · iexact H4
  isplitl [H5]
  · iapply pointsTo_rep c arg9 ?f5 ?x5 ?r5
    rotate_left
    · iexact H5
    · exact (planes_read arg9.view _ (run_new.sl.r_6 c i arg4 arg5 arg6 arg7 arg8 arg10 arg11 x0 x1 x2 x3 x4 b1) _ _ _ _ rfl rfl rfl rfl).trans (congrArg outBlock hT)
  isplitl [HS0]
  · iapply pointsTo_rep c arg10 ?f6 ?x6 ?r6
    rotate_left
    · iexact HS0
    · delta run_new.sl.HS0_1 run_new.sl.v18
      rw [View.readAt_rep_full arg5.view x1]
      exact View.read_writes_full arg10.view _ _ _ _
  isplitl [HS1]
  · iapply pointsTo_rep c arg11 ?f7 ?x7 ?r7
    rotate_left
    · iexact HS1
    · delta run_new.sl.HS1_1 run_new.sl.v24
      rw [View.readAt_rep_full arg7.view x3]
      exact View.read_writes_full arg11.view _ _ _ _
  isplitl [HT0]; · iexact HT0
  isplitl [HT1]; · iexact HT1
  iexact HT2

set_option maxHeartbeats 1000000 in
/-- A used block with the expert of the block before: its rows are computed with the weights the scratch buffers hold. -/
theorem run_kept (c : Dev nD) (i : grid0.Coords) (arg4 : Memref sig .tc .vmem S4x512x128 .i32) (h4 : arg4.IsWhole)
    (arg5 : Memref sig .tc .vmem S1x1x1024x2048 .f32) (h5 : arg5.IsWhole) (arg6 : Memref sig .tc .vmem S1x1x1x2048 .f32) (h6 : arg6.IsWhole)
    (arg7 : Memref sig .tc .vmem S1x1x1024x1024 .f32) (h7 : arg7.IsWhole) (arg8 : Memref sig .tc .vmem S1x1x1x1024 .f32) (h8 : arg8.IsWhole)
    (arg9 : Memref sig .tc .vmem S8x512x128 .bf16) (h9 : arg9.IsWhole)
    (arg10 : Memref sig .tc .vmem S1024x2048 .bf16) (h10 : arg10.IsWhole) (arg11 : Memref sig .tc .vmem S1024x1024 .bf16) (h11 : arg11.IsWhole)
    (x0 : Vec F S4x512x128 .i32) (x1 : Vec F S1x1x1024x2048 .f32) (x2 : Vec F S1x1x1x2048 .f32) (x3 : Vec F S1x1x1024x1024 .f32)
    (x4 : Vec F S1x1x1x1024 .f32) (x5 : Vec F S8x512x128 .bf16) (u : Vec F S1024x2048 .bf16) (v : Vec F S1024x1024 .bf16)
    (b0 : TblBuf (F := F) c expT) (b1 : TblBuf (F := F) c rowT) (b2 : TblBuf (F := F) c cntT)
    (hn : ¬ firstTest c i b0 b2 = 1#1) (hl : k0_cond2 i (cntWord c b2) = 1#1) (E : Set ℕ) (K : PUnit → sProp 𝕄) :
    iprop(owns (c : Thread nD τ) arg4 fullShare x0 ∗ owns (c : Thread nD τ) arg5 fullShare x1 ∗ owns (c : Thread nD τ) arg6 fullShare x2
        ∗ owns (c : Thread nD τ) arg7 fullShare x3 ∗ owns (c : Thread nD τ) arg8 fullShare x4 ∗ owns (c : Thread nD τ) arg9 fullShare x5
        ∗ owns (c : Thread nD τ) arg10 fullShare u ∗ owns (c : Thread nD τ) arg11 fullShare v ∗ held c expT b0 ∗ held c rowT b1 ∗ held c cntT b2
        ∗ (iprop(owns (c : Thread nD τ) arg4 fullShare x0 ∗ owns (c : Thread nD τ) arg5 fullShare x1 ∗ owns (c : Thread nD τ) arg6 fullShare x2
        ∗ owns (c : Thread nD τ) arg7 fullShare x3 ∗ owns (c : Thread nD τ) arg8 fullShare x4 ∗ owns (c : Thread nD τ) arg9 fullShare (outBlock (ffnTile x0 (rowWord c i b1) u x2 v x4))
        ∗ owns (c : Thread nD τ) arg10 fullShare u ∗ owns (c : Thread nD τ) arg11 fullShare v ∗ held c expT b0 ∗ held c rowT b1 ∗ held c cntT b2) -∗ K ⟨⟩))
      ⊢ wp frame (wpE (defs₀ (F := F)) Variants.none c none) E
          (cc0_moe_experts i expT (Memref.isWhole_whole _) rowT (Memref.isWhole_whole _) cntT (Memref.isWhole_whole _)
            arg4 h4 arg5 h5 arg6 h6 arg7 h7 arg8 h8 arg9 h9 arg10 h10 arg11 h11) K := by
  simp only [cc0_moe_experts_eq_skeleton]
  unfold cc0_moe_experts_skel
  simp only [k0_part1_eq_skeleton, k0_part2_eq_skeleton]
  simp only [owns_eq_rep]
  iintro ⟨H0, H1, H2, H3, H4, H5, HS0, HS1, HT0, HT1, HT2, Hk⟩
  sl_exec (disch := first | (with_unfolding_all exact hn) | (with_unfolding_all exact hl))
  have hT : run_kept.sl.r_6 c i arg4 arg6 arg8 arg10 arg11 x0 x2 x4 u v b1 = ffnTile x0 (rowWord c i b1) u x2 v x4 := by
    delta run_kept.sl.r_6 run_kept.sl.r_4 run_kept.sl.r_5 run_kept.sl.cst_21 run_kept.sl.r_3
    rw [View.readAt_rep_full arg10.view u, View.readAt_rep_full arg11.view v, View.readAt_rep_full arg6.view x2, View.readAt_rep_full arg8.view x4]
    rw [View.readAt_rep_unit arg4.view x0 inb_S4x512x128_S1x512x128_0_0_0 rfl inb_S4x512x128_S1x512x128_0_0_0,
      View.readAt_rep_unit arg4.view x0 inb_S4x512x128_S1x512x128_1_0_0 rfl inb_S4x512x128_S1x512x128_1_0_0,
      View.readAt_rep_unit arg4.view x0 inb_S4x512x128_S1x512x128_2_0_0 rfl inb_S4x512x128_S1x512x128_2_0_0,
      View.readAt_rep_unit arg4.view x0 inb_S4x512x128_S1x512x128_3_0_0 rfl inb_S4x512x128_S1x512x128_3_0_0]
    delta ffnTile rowWord
    rfl
  sl_step
  iapply Hk
  isplitl [H0]; · iexact H0
  isplitl [H1]; · iexact H1
  isplitl [H2]; · iexact H2
  isplitl [H3]; · iexact H3
  isplitl [H4]; · iexact H4
  isplitl [H5]
  · iapply pointsTo_rep c arg9 ?f5 ?x5 ?r5
    rotate_left
    · iexact H5
    · exact (planes_read arg9.view _ (run_kept.sl.r_6 c i arg4 arg6 arg8 arg10 arg11 x0 x2 x4 u v b1) _ _ _ _ rfl rfl rfl rfl).trans (congrArg outBlock hT)
  isplitl [HS0]; · iexact HS0
  isplitl [HS1]; · iexact HS1
  isplitl [HT0]; · iexact HT0
  isplitl [HT1]; · iexact HT1
  iexact HT2

set_option maxHeartbeats 1000000 in
/-- A block past the used ones: nothing is written. -/
theorem run_past (c : Dev nD) (i : grid0.Coords) (arg4 : Memref sig .tc .vmem S4x512x128 .i32) (h4 : arg4.IsWhole)
    (arg5 : Memref sig .tc .vmem S1x1x1024x2048 .f32) (h5 : arg5.IsWhole) (arg6 : Memref sig .tc .vmem S1x1x1x2048 .f32) (h6 : arg6.IsWhole)
    (arg7 : Memref sig .tc .vmem S1x1x1024x1024 .f32) (h7 : arg7.IsWhole) (arg8 : Memref sig .tc .vmem S1x1x1x1024 .f32) (h8 : arg8.IsWhole)
    (arg9 : Memref sig .tc .vmem S8x512x128 .bf16) (h9 : arg9.IsWhole)
    (arg10 : Memref sig .tc .vmem S1024x2048 .bf16) (h10 : arg10.IsWhole) (arg11 : Memref sig .tc .vmem S1024x1024 .bf16) (h11 : arg11.IsWhole)
    (x0 : Vec F S4x512x128 .i32) (x1 : Vec F S1x1x1024x2048 .f32) (x2 : Vec F S1x1x1x2048 .f32) (x3 : Vec F S1x1x1024x1024 .f32)
    (x4 : Vec F S1x1x1x1024 .f32) (x5 : Vec F S8x512x128 .bf16) (u : Vec F S1024x2048 .bf16) (v : Vec F S1024x1024 .bf16)
    (b0 : TblBuf (F := F) c expT) (b1 : TblBuf (F := F) c rowT) (b2 : TblBuf (F := F) c cntT)
    (hn : ¬ firstTest c i b0 b2 = 1#1) (hl : ¬ k0_cond2 i (cntWord c b2) = 1#1) (E : Set ℕ) (K : PUnit → sProp 𝕄) :
    iprop(owns (c : Thread nD τ) arg4 fullShare x0 ∗ owns (c : Thread nD τ) arg5 fullShare x1 ∗ owns (c : Thread nD τ) arg6 fullShare x2
        ∗ owns (c : Thread nD τ) arg7 fullShare x3 ∗ owns (c : Thread nD τ) arg8 fullShare x4 ∗ owns (c : Thread nD τ) arg9 fullShare x5
        ∗ owns (c : Thread nD τ) arg10 fullShare u ∗ owns (c : Thread nD τ) arg11 fullShare v ∗ held c expT b0 ∗ held c rowT b1 ∗ held c cntT b2
        ∗ (iprop(owns (c : Thread nD τ) arg4 fullShare x0 ∗ owns (c : Thread nD τ) arg5 fullShare x1 ∗ owns (c : Thread nD τ) arg6 fullShare x2
        ∗ owns (c : Thread nD τ) arg7 fullShare x3 ∗ owns (c : Thread nD τ) arg8 fullShare x4 ∗ owns (c : Thread nD τ) arg9 fullShare x5
        ∗ owns (c : Thread nD τ) arg10 fullShare u ∗ owns (c : Thread nD τ) arg11 fullShare v ∗ held c expT b0 ∗ held c rowT b1 ∗ held c cntT b2) -∗ K ⟨⟩))
      ⊢ wp frame (wpE (defs₀ (F := F)) Variants.none c none) E
          (cc0_moe_experts i expT (Memref.isWhole_whole _) rowT (Memref.isWhole_whole _) cntT (Memref.isWhole_whole _)
            arg4 h4 arg5 h5 arg6 h6 arg7 h7 arg8 h8 arg9 h9 arg10 h10 arg11 h11) K := by
  simp only [cc0_moe_experts_eq_skeleton]
  unfold cc0_moe_experts_skel
  simp only [k0_part1_eq_skeleton, k0_part2_eq_skeleton]
  simp only [owns_eq_rep]
  iintro ⟨H0, H1, H2, H3, H4, H5, HS0, HS1, HT0, HT1, HT2, Hk⟩
  sl_exec (disch := first | (with_unfolding_all exact hn) | (with_unfolding_all exact hl))
  sl_step
  iapply Hk
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HT0]; · iexact HT0
  isplitl [HT1]; · iexact HT1
  iexact HT2

end Cert.Proof.Ffn

end
-- ==== Proof.ExpOk.lean ====
/-
  What the experts' prefetched tables say: the words the body and the index maps read, the blocks the windows stage, and
  that every block lies inside its array when the tables are in range.
-/
module

public import proofs.«01_k».proof.Proof.ExpRun
public import Idealize.ShloMosaic.Lib.Affine

@[expose] public section

set_option maxRecDepth 16384

noncomputable section

namespace Cert.Proof.Ffn

open Cert.Kernel2Ideal Cert.Kernel2Ideal.Gen
open Idealize.ShloMosaic Idealize.ShloMosaic.TcCoe Idealize.ShloMosaic.Tactic
open Idealize.SL Idealize.SL.RA Idealize.SL.BI
open Idealize.ShloMosaic.Pipeline (Dat)
open Idealize.ShloMosaic.ValueIdx

variable {F : FTy → Type} [FloatOps F]

/-! ## The words -/

/-- Block `n`'s expert, its number of valid rows, and the number of blocks used. -/
def expOf (pf : pre0.Contents (Elt F)) (n : Fin 296) : BitVec 32 := (pf 0 : S296.Idx → BitVec 32) (ix1 n)
def rowOf (pf : pre0.Contents (Elt F)) (n : Fin 296) : BitVec 32 := (pf 1 : S296.Idx → BitVec 32) (ix1 n)
def cntOf (pf : pre0.Contents (Elt F)) : BitVec 32 := (pf 2 : S1.Idx → BitVec 32) (ix1 0)

/-- The tables are in range: each expert is one of the 32, and between 1 and all of the 296 blocks are used. -/
def InRange (pf : pre0.Contents (Elt F)) : Prop :=
  (∀ n, (expOf pf n).toNat < 32) ∧ 1 ≤ (cntOf pf).toNat ∧ (cntOf pf).toNat ≤ 296

/-- Grid point `i`'s number. -/
abbrev num (i : grid0.Coords) : Fin 296 := ⟨(i 0).val, (i 0).isLt⟩

theorem off1_val (i : grid0.Coords) : k0_off1 i 0 = (i 0).val := by
  have h : (i 0).val < 296 := (i 0).isLt
  show (BitVec.ofNat 32 (i 0).val).toNat = _
  rw [BitVec.toNat_ofNat]; omega
theorem off3_val (i : grid0.Coords) : k0_off3 i 0 = (i 0).val := off1_val i

/-- The word before: the offset is one less, and of point 0 its own. -/
theorem off2_val (i : grid0.Coords) : k0_off2 i 0 = (i 0).val - 1 := by
  have h : (i 0).val < 296 := (i 0).isLt
  show (Scalar.maxsi (Scalar.subi (BitVec.ofNat 32 (i 0).val) 1#32) 0#32).toNat = _
  generalize (i 0).val = n at h
  revert n
  decide

/-- An index of a table of 296 words is its one coordinate; of a table of one word there is one. -/
theorem idx_eq (x : S296.Idx) (n : Fin 296) (h : (x 0).val = n.val) : x = ix1 n := funext fun a => by
  obtain rfl : a = 0 := Subsingleton.elim (α := Fin 1) _ _
  exact Fin.ext h
theorem idx_one (x y : S1.Idx) : x = y := funext fun a => by
  obtain rfl : a = 0 := Subsingleton.elim (α := Fin 1) _ _
  exact Subsingleton.elim (α := Fin 1) _ _

theorem at_exp (pf : pre0.Contents (Elt F)) (i : grid0.Coords) (h : ∀ a, k0_off1 i a + S1.size a ≤ S296.size a) :
    pf.at 0 (Rect.unit (s := S296) (k0_off1 i) S1.size h) numel1_S1 = expOf pf (num i) := by
  refine congrArg (pf 0 : S296.Idx → BitVec 32) (idx_eq _ _ ?_)
  show k0_off1 i 0 + 1 * 0 = (i 0).val
  rw [off1_val]; omega

theorem at_cnt (pf : pre0.Contents (Elt F)) (h : ∀ a, (![0] : Fin 1 → Nat) a + S1.size a ≤ S1.size a) :
    pf.at 2 (Rect.unit (s := S1) ![0] S1.size h) numel1_S1 = cntOf pf :=
  congrArg (pf 2 : S1.Idx → BitVec 32) (idx_one _ _)

theorem atD_cnt (pf : pre0.Contents (Elt F)) : pf.atD 2 ![0] = cntOf pf := by
  have h : ∀ a : Fin 1, (![0] : Fin 1 → Nat) a + 1 ≤ S1.size a := by decide
  refine (dif_pos h).trans ?_
  exact congrArg (pf 2 : S1.Idx → BitVec 32) (idx_one _ _)

section Read
variable (c : Dev nD) (i : grid0.Coords)

theorem expWord_eq (pf : pre0.Contents (Elt F)) : expWord c i (pf 0) = expOf pf (num i) := at_exp pf i (k0_off1_inb i)
theorem rowWord_eq (pf : pre0.Contents (Elt F)) : rowWord c i (pf 1) = rowOf pf (num i) := by
  refine congrArg (pf 1 : S296.Idx → BitVec 32) (idx_eq _ _ ?_)
  show k0_off3 i 0 + 1 * 0 = (i 0).val
  rw [off3_val]; omega
theorem cntWord_eq (pf : pre0.Contents (Elt F)) : cntWord c (pf 2) = cntOf pf := at_cnt pf inb_S1_S1_0
theorem prevWord_eq (pf : pre0.Contents (Elt F)) :
    prevWord c i (pf 0) = expOf pf ⟨(i 0).val - 1, by have h : (i 0).val < 296 := (i 0).isLt; omega⟩ := by
  refine congrArg (pf 0 : S296.Idx → BitVec 32) (idx_eq _ _ ?_)
  show k0_off2 i 0 + 1 * 0 = (i 0).val - 1
  rw [off2_val]; omega
end Read

/-! ## The body's two tests -/

theorem bool_test (b : Bool) : Scalar.cmpi CmpIPredicate.ne (Scalar.extui (BitVec.ofBool b) : BitVec 32) 0#32 = BitVec.ofBool b := by
  cases b <;> decide

theorem slt_word (n : Nat) (hn : n < 296) (w : BitVec 32) (hw : w.toNat ≤ 296) :
    Scalar.cmpi CmpIPredicate.slt (BitVec.ofNat 32 n) w = BitVec.ofBool (decide (n < w.toNat)) := by
  show BitVec.ofBool ((BitVec.ofNat 32 n).slt w) = _
  congr 1
  rw [BitVec.slt_eq_decide, BitVec.toInt_eq_toNat_cond, BitVec.toInt_eq_toNat_cond, BitVec.toNat_ofNat]
  refine decide_eq_decide.mpr ?_
  simp only [Nat.reducePow]
  split <;> split <;> omega

/-- The block is computed when its number is less than the number used. -/
theorem live_iff (i : grid0.Coords) (w : BitVec 32) (hw : w.toNat ≤ 296) : k0_cond2 i w = 1#1 ↔ (i 0).val < w.toNat := by
  have h : (i 0).val < 296 := (i 0).isLt
  unfold k0_cond2
  simp only [slt_word _ h w hw, bool_test]
  by_cases hlt : (i 0).val < w.toNat <;> simp [hlt]

theorem ofBool_or (p q : Bool) : Scalar.ori (BitVec.ofBool p) (BitVec.ofBool q) = BitVec.ofBool (p || q) := by cases p <;> cases q <;> decide
theorem ofBool_and (p q : Bool) : Scalar.andi (BitVec.ofBool p) (BitVec.ofBool q) = BitVec.ofBool (p && q) := by cases p <;> cases q <;> decide

/-- The weights are stored when, besides, the block is the first or its expert another than the one before's. -/
theorem first_iff (c : Dev nD) (i : grid0.Coords) (pf : pre0.Contents (Elt F)) (hr : InRange pf) :
    firstTest c i (pf 0) (pf 2) = 1#1 ↔
      ((i 0).val = 0 ∨ expOf pf (num i) ≠ expOf pf ⟨(i 0).val - 1, by have h : (i 0).val < 296 := (i 0).isLt; omega⟩) ∧ (i 0).val < (cntOf pf).toNat := by
  have h : (i 0).val < 296 := (i 0).isLt
  have e0 : Scalar.cmpi CmpIPredicate.eq (BitVec.ofNat 32 (i 0).val) 0#32 = BitVec.ofBool (decide ((i 0).val = 0)) := by
    generalize (i 0).val = n at h
    revert n
    decide
  have e1 (x y : BitVec 32) : Scalar.cmpi CmpIPredicate.ne x y = BitVec.ofBool (decide (x ≠ y)) := WordCmp.cmpi_ne_eq x y
  unfold firstTest
  rw [expWord_eq, prevWord_eq, cntWord_eq, slt_word _ h _ hr.2.2, e0, e1 (expOf pf _), ofBool_or, ofBool_and, bool_test]
  generalize expOf pf (num i) = x
  generalize expOf pf _ = y
  generalize (i 0).val = n
  generalize (cntOf pf).toNat = k
  clear e0 e1 h
  have one (b : Bool) : BitVec.ofBool b = 1#1 ↔ b = true := by cases b <;> decide
  rw [one]
  by_cases hx : x = y <;> by_cases h0 : n = 0 <;> by_cases hl : n < k <;> simp [hx, h0, hl]

/-! ## The blocks -/

/-- The block of rows that point `n` stages: its own, and past the used ones the last used one. -/
def blkNo (pf : pre0.Contents (Elt F)) (n : Nat) : Nat := min n ((cntOf pf).toNat - 1)
/-- The expert of point `n`, as an index. -/
def expNo (pf : pre0.Contents (Elt F)) (n : Fin 296) : Fin 32 := ⟨(expOf pf n).toNat % 32, Nat.mod_lt _ (by decide)⟩

theorem blkNo_lt (pf : pre0.Contents (Elt F)) (hr : InRange pf) (n : Nat) : blkNo pf n < 296 := by
  have := hr.2; unfold blkNo; omega

theorem min_word (pf : pre0.Contents (Elt F)) (hr : InRange pf) (n : Nat) (hn : n < 296) :
    (Scalar.minsi (BitVec.ofNat 32 n) (Scalar.subi (cntOf pf) 1#32)).toNat = blkNo pf n := by
  obtain ⟨-, h1, h2⟩ := hr
  unfold blkNo
  generalize cntOf pf = w at *
  have hs : (Scalar.subi w 1#32).toNat = w.toNat - 1 := by
    show (w - 1#32).toNat = _
    rw [BitVec.toNat_sub]; simp; omega
  have hmin (x y : BitVec 32) (hx : x.toNat < 2 ^ 31) (hy : y.toNat < 2 ^ 31) : (Scalar.minsi x y).toNat = min x.toNat y.toNat := by
    show (IntOp.minsi x y).toNat = _
    unfold IntOp.minsi
    simp only [BitVec.slt_eq_decide, BitVec.sle_eq_decide, BitVec.toInt_eq_toNat_cond, decide_eq_true_eq]
    repeat' split
    all_goals omega
  rw [hmin _ _ (by rw [BitVec.toNat_ofNat]; omega) (by omega), hs, BitVec.toNat_ofNat]
  congr 1
  omega

theorem rows_map (pf : pre0.Contents (Elt F)) (hr : InRange pf) (i : grid0.Coords) :
    cc0_transform_0 inb_S1_S1_0 numel1_S1 pf i = ![0, blkNo pf (i 0).val, 0] := by
  unfold cc0_transform_0
  rw [at_cnt]
  dsimp only
  rw [min_word pf hr _ (i 0).isLt]
  rfl
theorem out_map (pf : pre0.Contents (Elt F)) (hr : InRange pf) (i : grid0.Coords) :
    cc0_transform_5 inb_S1_S1_0 numel1_S1 pf i = ![0, blkNo pf (i 0).val, 0] := rows_map pf hr i
theorem exp_map (pf : pre0.Contents (Elt F)) (hr : InRange pf) (i : grid0.Coords) :
    cc0_transform_1 k0_off1_inb numel1_S1 pf i = ![1, (expNo pf (num i)).val, 0, 0] := by
  have e : (expNo pf (num i)).val = (expOf pf (num i)).toNat := Nat.mod_eq_of_lt (hr.1 _)
  rw [e, ← at_exp pf i (k0_off1_inb i)]
  rfl

/-- With the tables in range, every block of every window lies inside its array and is moved in whole words. -/
theorem ok_of_inRange (pf : pre0.Contents (Elt F)) (hr : InRange pf) : ok0 pf := by
  have hx (i : grid0.Coords) : (expNo pf (num i)).val < 32 := (expNo pf (num i)).isLt
  have hb (i : grid0.Coords) : blkNo pf (i 0).val < 296 := blkNo_lt pf hr _
  refine ⟨fun i => ⟨?_, .inl rfl⟩, fun i => ⟨?_, .inl rfl⟩, fun i => ⟨?_, .inl rfl⟩, fun i => ⟨?_, .inl rfl⟩, fun i => ⟨?_, .inl rfl⟩,
    fun i => ⟨?_, .inr (Affine.block_words_dvd (by decide) (by decide))⟩⟩
  · rw [rows_map pf hr]; have := hb i
    intro a; match a with
    | 0 => show (0 + 1) * 4 ≤ 4; omega
    | 1 => show (blkNo pf (i 0).val + 1) * 512 ≤ 151552; omega
    | 2 => show (0 + 1) * 128 ≤ 128; omega
  · rw [exp_map pf hr]; have := hx i
    intro a; match a with
    | 0 => show (1 + 1) * 1 ≤ 4; omega
    | 1 => show ((expNo pf (num i)).val + 1) * 1 ≤ 32; omega
    | 2 => show (0 + 1) * 1024 ≤ 1024; omega
    | 3 => show (0 + 1) * 2048 ≤ 2048; omega
  · rw [show cc0_transform_2 k0_off1_inb numel1_S1 pf i = _ from exp_map pf hr i]; have := hx i
    intro a; match a with
    | 0 => show (1 + 1) * 1 ≤ 4; omega
    | 1 => show ((expNo pf (num i)).val + 1) * 1 ≤ 32; omega
    | 2 => show (0 + 1) * 1 ≤ 1; omega
    | 3 => show (0 + 1) * 2048 ≤ 2048; omega
  · rw [show cc0_transform_3 k0_off1_inb numel1_S1 pf i = _ from exp_map pf hr i]; have := hx i
    intro a; match a with
    | 0 => show (1 + 1) * 1 ≤ 4; omega
    | 1 => show ((expNo pf (num i)).val + 1) * 1 ≤ 32; omega
    | 2 => show (0 + 1) * 1024 ≤ 1024; omega
    | 3 => show (0 + 1) * 1024 ≤ 1024; omega
  · rw [show cc0_transform_4 k0_off1_inb numel1_S1 pf i = _ from exp_map pf hr i]; have := hx i
    intro a; match a with
    | 0 => show (1 + 1) * 1 ≤ 4; omega
    | 1 => show ((expNo pf (num i)).val + 1) * 1 ≤ 32; omega
    | 2 => show (0 + 1) * 1 ≤ 1; omega
    | 3 => show (0 + 1) * 1024 ≤ 1024; omega
  · rw [out_map pf hr]; have := hb i
    intro a; match a with
    | 0 => show (0 + 1) * 8 ≤ 8; omega
    | 1 => show (blkNo pf (i 0).val + 1) * 512 ≤ 151552; omega
    | 2 => show (0 + 1) * 128 ≤ 128; omega

/-! ## The blocks the windows stage -/

variable (m : (ℓ : Loc nD τ sig) → Buf (Elt F) ℓ)

/-- Block `k` of the packed rows, and expert `e`'s two weight matrices and biases (of the layer). -/
def rowsBlk (c : Dev nD) (k : Nat) : Vec F S4x512x128 .i32 := fun j =>
  (atEntry m c main_arg0 : S4x151552x128.Idx → BitVec 32)
    (ix3 ⟨(j 0).val, (j 0).isLt⟩ ⟨(k * 512 + (j 1).val) % 151552, Nat.mod_lt _ (by decide)⟩ ⟨(j 2).val, (j 2).isLt⟩)
def upBlk (c : Dev nD) (e : Fin 32) : Vec F S1x1x1024x2048 .f32 := fun j =>
  (atEntry m c main_arg4 : S4x32x1024x2048.Idx → F .f32) (ix4 1 e ⟨(j 2).val, (j 2).isLt⟩ ⟨(j 3).val, (j 3).isLt⟩)
def upBias (c : Dev nD) (e : Fin 32) : Vec F S1x1x1x2048 .f32 := fun j =>
  (atEntry m c main_arg5 : S4x32x1x2048.Idx → F .f32) (ix4 1 e ⟨(j 2).val, (j 2).isLt⟩ ⟨(j 3).val, (j 3).isLt⟩)
def downBlk (c : Dev nD) (e : Fin 32) : Vec F S1x1x1024x1024 .f32 := fun j =>
  (atEntry m c main_arg6 : S4x32x1024x1024.Idx → F .f32) (ix4 1 e ⟨(j 2).val, (j 2).isLt⟩ ⟨(j 3).val, (j 3).isLt⟩)
def downBias (c : Dev nD) (e : Fin 32) : Vec F S1x1x1x1024 .f32 := fun j =>
  (atEntry m c main_arg7 : S4x32x1x1024.Idx → F .f32) (ix4 1 e ⟨(j 2).val, (j 2).isLt⟩ ⟨(j 3).val, (j 3).isLt⟩)

/-- Point `t`'s number. -/
abbrev ptNo (hO : ok0 (F := F) (words m)) (t : Fin (pipe m hO).N) : Fin 296 := num (grid0.coords t)

theorem ptNo_val (hO : ok0 (F := F) (words m)) (t : Fin (pipe m hO).N) : (ptNo m hO t).val = t.val := by
  have h : t.val < 296 := t.isLt
  show t.val / 1 % 296 = t.val
  omega

/-- Two indices with equal coordinates are equal. -/
theorem idx3_ext {n0 n1 n2 : Nat} (y z : (⟨3, ![n0, n1, n2]⟩ : Shape).Idx) (h0 : (y 0).val = (z 0).val) (h1 : (y 1).val = (z 1).val)
    (h2 : (y 2).val = (z 2).val) : y = z := funext fun a => by
  match a with
  | ⟨0, _⟩ => exact Fin.ext h0
  | ⟨1, _⟩ => exact Fin.ext h1
  | ⟨2, _⟩ => exact Fin.ext h2
theorem idx4_ext {n0 n1 n2 n3 : Nat} (y z : (⟨4, ![n0, n1, n2, n3]⟩ : Shape).Idx) (h0 : (y 0).val = (z 0).val) (h1 : (y 1).val = (z 1).val)
    (h2 : (y 2).val = (z 2).val) (h3 : (y 3).val = (z 3).val) : y = z := funext fun a => by
  match a with
  | ⟨0, _⟩ => exact Fin.ext h0
  | ⟨1, _⟩ => exact Fin.ext h1
  | ⟨2, _⟩ => exact Fin.ext h2
  | ⟨3, _⟩ => exact Fin.ext h3

section Blocks
variable (hr : InRange (words m)) (c : Dev nD) (t : Fin (pipe m (ok_of_inRange _ hr)).N)

theorem block_rows : blockAt m (ok_of_inRange _ hr) c 0 t = rowsBlk m c (blkNo (words m) (ptNo m (ok_of_inRange _ hr) t).val) := by
  refine funext fun (j : S4x512x128.Idx) => congrArg (atEntry m c main_arg0 : S4x151552x128.Idx → BitVec 32) ?_
  have hb := blkNo_lt (words m) hr (ptNo m (ok_of_inRange _ hr) t).val
  have h1 : (j 1).val < 512 := (j 1).isLt
  have hm := rows_map (words m) hr (grid0.coords t)
  refine idx3_ext (n0 := 4) (n1 := 151552) (n2 := 128) _ _ ?_ ?_ ?_
  · show cc0_transform_0 inb_S1_S1_0 numel1_S1 (words m) (grid0.coords t) 0 * 4 + 1 * (j 0).val = (j 0).val
    rw [hm]; show 0 * 4 + _ = _; omega
  · show cc0_transform_0 inb_S1_S1_0 numel1_S1 (words m) (grid0.coords t) 1 * 512 + 1 * (j 1).val
      = (blkNo (words m) (ptNo m (ok_of_inRange _ hr) t).val * 512 + (j 1).val) % 151552
    rw [hm, Nat.mod_eq_of_lt (by omega)]
    show blkNo (words m) (grid0.coords t 0).val * 512 + 1 * (j 1).val = blkNo (words m) (grid0.coords t 0).val * 512 + (j 1).val
    omega
  · show cc0_transform_0 inb_S1_S1_0 numel1_S1 (words m) (grid0.coords t) 2 * 128 + 1 * (j 2).val = (j 2).val
    rw [hm]; show 0 * 128 + _ = _; omega

theorem block_up : blockAt m (ok_of_inRange _ hr) c 1 t = upBlk m c (expNo (words m) (ptNo m (ok_of_inRange _ hr) t)) := by
  refine funext fun (j : S1x1x1024x2048.Idx) => congrArg (atEntry m c main_arg4 : S4x32x1024x2048.Idx → F .f32) ?_
  have h0 : (j 0).val < 1 := (j 0).isLt
  have h1 : (j 1).val < 1 := (j 1).isLt
  have hm : cc0_transform_1 k0_off1_inb numel1_S1 (words m) (grid0.coords t) = _ := exp_map (words m) hr (grid0.coords t)
  refine idx4_ext (n0 := 4) (n1 := 32) (n2 := 1024) (n3 := 2048) _ _ ?_ ?_ ?_ ?_
  · show cc0_transform_1 k0_off1_inb numel1_S1 (words m) (grid0.coords t) 0 * 1 + 1 * (j 0).val = 1
    rw [hm]; show 1 * 1 + _ = _; omega
  · show cc0_transform_1 k0_off1_inb numel1_S1 (words m) (grid0.coords t) 1 * 1 + 1 * (j 1).val = (expNo (words m) (num (grid0.coords t))).val
    rw [hm]; show (expNo (words m) (num (grid0.coords t))).val * 1 + 1 * (j 1).val = _; omega
  · show cc0_transform_1 k0_off1_inb numel1_S1 (words m) (grid0.coords t) 2 * 1024 + 1 * (j 2).val = (j 2).val
    rw [hm]; show 0 * 1024 + _ = _; omega
  · show cc0_transform_1 k0_off1_inb numel1_S1 (words m) (grid0.coords t) 3 * 2048 + 1 * (j 3).val = (j 3).val
    rw [hm]; show 0 * 2048 + _ = _; omega

theorem block_upBias : blockAt m (ok_of_inRange _ hr) c 2 t = upBias m c (expNo (words m) (ptNo m (ok_of_inRange _ hr) t)) := by
  refine funext fun (j : S1x1x1x2048.Idx) => congrArg (atEntry m c main_arg5 : S4x32x1x2048.Idx → F .f32) ?_
  have h0 : (j 0).val < 1 := (j 0).isLt
  have h1 : (j 1).val < 1 := (j 1).isLt
  have hm : cc0_transform_2 k0_off1_inb numel1_S1 (words m) (grid0.coords t) = _ := exp_map (words m) hr (grid0.coords t)
  refine idx4_ext (n0 := 4) (n1 := 32) (n2 := 1) (n3 := 2048) _ _ ?_ ?_ ?_ ?_
  · show cc0_transform_2 k0_off1_inb numel1_S1 (words m) (grid0.coords t) 0 * 1 + 1 * (j 0).val = 1
    rw [hm]; show 1 * 1 + _ = _; omega
  · show cc0_transform_2 k0_off1_inb numel1_S1 (words m) (grid0.coords t) 1 * 1 + 1 * (j 1).val = (expNo (words m) (num (grid0.coords t))).val
    rw [hm]; show (expNo (words m) (num (grid0.coords t))).val * 1 + 1 * (j 1).val = _; omega
  · show cc0_transform_2 k0_off1_inb numel1_S1 (words m) (grid0.coords t) 2 * 1 + 1 * (j 2).val = (j 2).val
    rw [hm]; show 0 * 1 + _ = _; omega
  · show cc0_transform_2 k0_off1_inb numel1_S1 (words m) (grid0.coords t) 3 * 2048 + 1 * (j 3).val = (j 3).val
    rw [hm]; show 0 * 2048 + _ = _; omega

theorem block_down : blockAt m (ok_of_inRange _ hr) c 3 t = downBlk m c (expNo (words m) (ptNo m (ok_of_inRange _ hr) t)) := by
  refine funext fun (j : S1x1x1024x1024.Idx) => congrArg (atEntry m c main_arg6 : S4x32x1024x1024.Idx → F .f32) ?_
  have h0 : (j 0).val < 1 := (j 0).isLt
  have h1 : (j 1).val < 1 := (j 1).isLt
  have hm : cc0_transform_3 k0_off1_inb numel1_S1 (words m) (grid0.coords t) = _ := exp_map (words m) hr (grid0.coords t)
  refine idx4_ext (n0 := 4) (n1 := 32) (n2 := 1024) (n3 := 1024) _ _ ?_ ?_ ?_ ?_
  · show cc0_transform_3 k0_off1_inb numel1_S1 (words m) (grid0.coords t) 0 * 1 + 1 * (j 0).val = 1
    rw [hm]; show 1 * 1 + _ = _; omega
  · show cc0_transform_3 k0_off1_inb numel1_S1 (words m) (grid0.coords t) 1 * 1 + 1 * (j 1).val = (expNo (words m) (num (grid0.coords t))).val
    rw [hm]; show (expNo (words m) (num (grid0.coords t))).val * 1 + 1 * (j 1).val = _; omega
  · show cc0_transform_3 k0_off1_inb numel1_S1 (words m) (grid0.coords t) 2 * 1024 + 1 * (j 2).val = (j 2).val
    rw [hm]; show 0 * 1024 + _ = _; omega
  · show cc0_transform_3 k0_off1_inb numel1_S1 (words m) (grid0.coords t) 3 * 1024 + 1 * (j 3).val = (j 3).val
    rw [hm]; show 0 * 1024 + _ = _; omega

theorem block_downBias : blockAt m (ok_of_inRange _ hr) c 4 t = downBias m c (expNo (words m) (ptNo m (ok_of_inRange _ hr) t)) := by
  refine funext fun (j : S1x1x1x1024.Idx) => congrArg (atEntry m c main_arg7 : S4x32x1x1024.Idx → F .f32) ?_
  have h0 : (j 0).val < 1 := (j 0).isLt
  have h1 : (j 1).val < 1 := (j 1).isLt
  have hm : cc0_transform_4 k0_off1_inb numel1_S1 (words m) (grid0.coords t) = _ := exp_map (words m) hr (grid0.coords t)
  refine idx4_ext (n0 := 4) (n1 := 32) (n2 := 1) (n3 := 1024) _ _ ?_ ?_ ?_ ?_
  · show cc0_transform_4 k0_off1_inb numel1_S1 (words m) (grid0.coords t) 0 * 1 + 1 * (j 0).val = 1
    rw [hm]; show 1 * 1 + _ = _; omega
  · show cc0_transform_4 k0_off1_inb numel1_S1 (words m) (grid0.coords t) 1 * 1 + 1 * (j 1).val = (expNo (words m) (num (grid0.coords t))).val
    rw [hm]; show (expNo (words m) (num (grid0.coords t))).val * 1 + 1 * (j 1).val = _; omega
  · show cc0_transform_4 k0_off1_inb numel1_S1 (words m) (grid0.coords t) 2 * 1 + 1 * (j 2).val = (j 2).val
    rw [hm]; show 0 * 1 + _ = _; omega
  · show cc0_transform_4 k0_off1_inb numel1_S1 (words m) (grid0.coords t) 3 * 1024 + 1 * (j 3).val = (j 3).val
    rw [hm]; show 0 * 1024 + _ = _; omega

end Blocks

end Cert.Proof.Ffn

end
-- ==== Proof.ExpFrame.lean ====
/-
  The experts' call at every grid point, and its run: what the staging and scratch buffers hold point by point, the body's
  obligation by the three cases of a point, and the launch.
-/
module

public import proofs.«01_k».proof.Proof.ExpOk

@[expose] public section

set_option maxRecDepth 16384

noncomputable section

namespace Cert.Proof.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold -/

/-- Block `n`'s rows computed, rounded. -/
def tileOf (c : Dev nD) (n : Fin 296) : FVec F S512x1024 .bf16 :=
  ffnTile (rowsBlk m c n.val) (rowOf (words m) n) (k0_pay1 (upBlk m c (expNo (words m) n))) (upBias m c (expNo (words m) n))
    (k0_pay2 (downBlk m c (expNo (words m) n))) (downBias m c (expNo (words m) n))

/-- The last block computed at point `n` or before. -/
def lastNo (n : Nat) : Fin 296 := ⟨blkNo (words m) n % 296, Nat.mod_lt _ (by decide)⟩

variable (hr : InRange (words m))

/-- The pipeline with the tables in range. -/
abbrev Pp : Pipeline.Cfg sig Λ₀ := pipe m (ok_of_inRange _ hr)

include hr in
theorem lastNo_val (n : Nat) : (lastNo m n).val = min n ((cntOf (words m)).toNat - 1) := Nat.mod_eq_of_lt (blkNo_lt (words m) hr n)

/-- Before point `k` the scratch buffers hold, after the first point, the weights of the last block computed. -/
def carried (c : Dev nD) (k : Nat) : sProp 𝕄 :=
  iprop(∃ u v, ⌜0 < k → u = k0_pay1 (upBlk m c (expNo (words m) (lastNo m (k - 1)))) ∧ v = k0_pay2 (downBlk m c (expNo (words m) (lastNo m (k - 1))))⌝
    ∗ owns (c : Thread nD τ) upS fullShare u ∗ owns (c : Thread nD τ) downS fullShare v)

/-- The proof data: the inputs' blocks; the output's buffer at the last block computed; the scratch buffers carried; the tables held. -/
def data (_ : Fin 1) (c : Dev nD) : Dat τ (Elt F) Unit ℕ (UR sig nD τ) ℕ (Pp m hr) c where
  A w := atEntry m c (Pipeline.arrRef spec0 w)
  after w t := match w with
    | ⟨0, _⟩ => blockAt m (ok_of_inRange _ hr) c 0 t
    | ⟨1, _⟩ => blockAt m (ok_of_inRange _ hr) c 1 t
    | ⟨2, _⟩ => blockAt m (ok_of_inRange _ hr) c 2 t
    | ⟨3, _⟩ => blockAt m (ok_of_inRange _ hr) c 3 t
    | ⟨4, _⟩ => blockAt m (ok_of_inRange _ hr) c 4 t
    | ⟨5, _⟩ => outBlock (tileOf m c (lastNo m t.val))
  Φ k := iprop(carried m c k.val ∗ (∃ r, prngReg c r) ∗ Pipeline.ΦT pre0 (words m) c)
  q _ := fullShare
  owed _ := 0

theorem data_A (c : Dev nD) (w : Fin (Pp m hr).W) : (data m hr 0 c).A w = atEntry m c (Pipeline.arrRef spec0 w) := by
  dsimp only [data]

theorem after_out (c : Dev nD) (t : Fin (Pp m hr).N) : (data m hr 0 c).after 5 t = outBlock (tileOf m c (lastNo m t.val)) := by dsimp only [data]; try rfl
theorem after_0 (c : Dev nD) (t : Fin (Pp m hr).N) : (data m hr 0 c).after 0 t = blockAt m (ok_of_inRange _ hr) c 0 t := by dsimp only [data]; try rfl
theorem after_1 (c : Dev nD) (t : Fin (Pp m hr).N) : (data m hr 0 c).after 1 t = blockAt m (ok_of_inRange _ hr) c 1 t := by dsimp only [data]; try rfl
theorem after_2 (c : Dev nD) (t : Fin (Pp m hr).N) : (data m hr 0 c).after 2 t = blockAt m (ok_of_inRange _ hr) c 2 t := by dsimp only [data]; try rfl
theorem after_3 (c : Dev nD) (t : Fin (Pp m hr).N) : (data m hr 0 c).after 3 t = blockAt m (ok_of_inRange _ hr) c 3 t := by dsimp only [data]; try rfl
theorem after_4 (c : Dev nD) (t : Fin (Pp m hr).N) : (data m hr 0 c).after 4 t = blockAt m (ok_of_inRange _ hr) c 4 t := by dsimp only [data]; try rfl

section Inputs
variable (c : Dev nD) (t : Fin (Pp m hr).N)

theorem found_0 (d) : (data m hr 0 c).before 0 t d = blockAt m (ok_of_inRange _ hr) c 0 t :=
  ((data m hr 0 c).before_in_eq_fetched 0 rfl (fun _ => rfl) (fun _ _ _ => rfl)
    (fun t => by rw [after_0]; unfold Dat.blockOf blockAt; rw [data_A]; try rfl) t d).trans (by unfold Dat.fetched Dat.blockOf blockAt; rw [data_A]; try rfl)
theorem found_1 (d) : (data m hr 0 c).before 1 t d = blockAt m (ok_of_inRange _ hr) c 1 t :=
  ((data m hr 0 c).before_in_eq_fetched 1 rfl (fun _ => rfl) (fun _ _ _ => rfl)
    (fun t => by rw [after_1]; unfold Dat.blockOf blockAt; rw [data_A]; try rfl) t d).trans (by unfold Dat.fetched Dat.blockOf blockAt; rw [data_A]; try rfl)
theorem found_2 (d) : (data m hr 0 c).before 2 t d = blockAt m (ok_of_inRange _ hr) c 2 t :=
  ((data m hr 0 c).before_in_eq_fetched 2 rfl (fun _ => rfl) (fun _ _ _ => rfl)
    (fun t => by rw [after_2]; unfold Dat.blockOf blockAt; rw [data_A]; try rfl) t d).trans (by unfold Dat.fetched Dat.blockOf blockAt; rw [data_A]; try rfl)
theorem found_3 (d) : (data m hr 0 c).before 3 t d = blockAt m (ok_of_inRange _ hr) c 3 t :=
  ((data m hr 0 c).before_in_eq_fetched 3 rfl (fun _ => rfl) (fun _ _ _ => rfl)
    (fun t => by rw [after_3]; unfold Dat.blockOf blockAt; rw [data_A]; try rfl) t d).trans (by unfold Dat.fetched Dat.blockOf blockAt; rw [data_A]; try rfl)
theorem found_4 (d) : (data m hr 0 c).before 4 t d = blockAt m (ok_of_inRange _ hr) c 4 t :=
  ((data m hr 0 c).before_in_eq_fetched 4 rfl (fun _ => rfl) (fun _ _ _ => rfl)
    (fun t => by rw [after_4]; unfold Dat.blockOf blockAt; rw [data_A]; try rfl) t d).trans (by unfold Dat.fetched Dat.blockOf blockAt; rw [data_A]; try rfl)
end Inputs

/-! ## The output's schedule -/

theorem out_index (t : Fin (Pp m hr).N) : ((Pp m hr).win 5).index t = ![0, blkNo (words m) t.val, 0] := by
  have h := out_map (words m) hr (grid0.coords t)
  rw [show (grid0.coords t 0).val = t.val from ptNo_val m (ok_of_inRange _ hr) t] at h
  exact h

/-- A point's output is idle when its block is not used. -/
theorem out_idle (t : Fin (Pp m hr).N) : (Pp m hr).idle 5 ((Pp m hr).grid.coords t) = !decide (t.val < (cntOf (words m)).toNat) := by
  show (!(k0_cond2 (grid0.coords t) ((words m).atD 2 ![0]) == 1#1)) = _
  rw [atD_cnt]
  congr 1
  have h := live_iff (grid0.coords t) (cntOf (words m)) hr.2.2
  rw [show (grid0.coords t 0).val = t.val from ptNo_val m (ok_of_inRange _ hr) t] at h
  rw [beq_eq_decide]
  exact decide_eq_decide.mpr h

/-- The output's block is written back at the used points but the last of them, and at the last point. -/
theorem out_flush (t : Fin (Pp m hr).N) : ((Pp m hr).win 5).flush t = true ↔ t.val + 1 < (cntOf (words m)).toNat ∨ t.val = 295 := by
  have ht : t.val < 296 := t.isLt
  have h1 := hr.2.1
  have h2 := hr.2.2
  rw [Pipeline.Window.flush_out _ rfl]
  constructor
  · rintro (h | ⟨h, hne⟩)
    · right; have h : t.val + 1 = 296 := h; omega
    · by_contra hc
      apply hne
      rw [out_index m hr, out_index m hr]
      have e : blkNo (words m) (t.val + 1) = blkNo (words m) t.val := by unfold blkNo; omega
      exact congrArg (fun k => ![0, k, 0]) e
  · intro h
    by_cases hl : t.val = 295
    · left; show t.val + 1 = 296; omega
    · right
      refine ⟨show t.val + 1 < 296 by omega, fun he => ?_⟩
      rw [out_index m hr, out_index m hr] at he
      have e : blkNo (words m) (t.val + 1) = blkNo (words m) t.val := congrFun he 1
      unfold blkNo at e; omega

/-- Past the used blocks the output's buffer holds what was computed. -/
theorem not_fresh (n : Nat) (hn : n < 296) (h : (cntOf (words m)).toNat ≤ n) : (Pp m hr).fresh 5 n = false := by
  induction n with
  | zero => have := hr.2.1; omega
  | succ n ih =>
    have hN : n < (Pp m hr).N := show n < 296 by omega
    rw [Pipeline.Cfg.fresh_succ _ _ n hN, out_idle]
    have hf : ((Pp m hr).win 5).flush ⟨n, hN⟩ = false := by
      rw [Bool.eq_false_iff]
      intro hc
      rcases (out_flush m hr _).mp hc with hc | hc
      · have hc : n + 1 < (cntOf (words m)).toNat := hc
        omega
      · have hc : n = 295 := hc
        omega
    rw [hf, Bool.false_or]
    by_cases hlt : n < (cntOf (words m)).toNat
    · simp [hlt]
    · rw [ih (by omega) (by omega), Bool.and_false]

/-- Past the used blocks the body finds the last block computed. -/
theorem found_out (c : Dev nD) (t : Fin (Pp m hr).N) (h : (cntOf (words m)).toNat ≤ t.val) (d) :
    (data m hr 0 c).before 5 t d = outBlock (tileOf m c (lastNo m t.val)) := by
  have h1 := hr.2.1
  have step (s : Fin (Pp m hr).N) (hs : (cntOf (words m)).toNat ≤ s.val) :
      (data m hr 0 c).after 5 ⟨s.val - 1, by omega⟩ = outBlock (tileOf m c (lastNo m s.val)) := by
    rw [after_out]
    refine congrArg (fun k => outBlock (tileOf m c k)) (Fin.ext ?_)
    rw [lastNo_val m hr, lastNo_val m hr]
    show min (s.val - 1) _ = _
    omega
  rw [(data m hr 0 c).before_out_traj 5 rfl (fun _ _ => rfl) ?_ t.val t rfl d, not_fresh m hr t.val t.isLt h, if_neg Bool.false_ne_true]
  · exact step t h
  · intro s _ hi _
    rw [out_idle] at hi
    have hs : (cntOf (words m)).toNat ≤ s.val := by simpa using hi
    rw [after_out, step s hs]

/-! ## The body at a point -/

/-- The staging memrefs at point `t`. -/
abbrev st0 (t : Fin (Pp m hr).N) : Memref sig .tc .vmem S4x512x128 .i32 := spec0_0.stage ((Pp m hr).slots t 0)
abbrev st1 (t : Fin (Pp m hr).N) : Memref sig .tc .vmem S1x1x1024x2048 .f32 := spec0_1.stage ((Pp m hr).slots t 1)
abbrev st2 (t : Fin (Pp m hr).N) : Memref sig .tc .vmem S1x1x1x2048 .f32 := spec0_2.stage ((Pp m hr).slots t 2)
abbrev st3 (t : Fin (Pp m hr).N) : Memref sig .tc .vmem S1x1x1024x1024 .f32 := spec0_3.stage ((Pp m hr).slots t 3)
abbrev st4 (t : Fin (Pp m hr).N) : Memref sig .tc .vmem S1x1x1x1024 .f32 := spec0_4.stage ((Pp m hr).slots t 4)
abbrev st5 (t : Fin (Pp m hr).N) : Memref sig .tc .vmem S8x512x128 .bf16 := spec0_5.stage ((Pp m hr).slots t 5)

/-- The body as the pipeline calls it at point `t`. -/
abbrev bodyOf (t : Fin (Pp m hr).N) : Prog (TpuEff nD τ sig (Elt F) Λ₀ .tc) PUnit :=
  cc0_moe_experts (grid0.coords t) expT (Memref.isWhole_whole _) rowT (Memref.isWhole_whole _) cntT (Memref.isWhole_whole _)
    (st0 m hr t) (hstage0_0 (((Pp m hr).slots t 0).cast nbuf0_0)) (st1 m hr t) (hstage0_1 (((Pp m hr).slots t 1).cast nbuf0_1))
    (st2 m hr t) (hstage0_2 (((Pp m hr).slots t 2).cast nbuf0_2)) (st3 m hr t) (hstage0_3 (((Pp m hr).slots t 3).cast nbuf0_3))
    (st4 m hr t) (hstage0_4 (((Pp m hr).slots t 4).cast nbuf0_4)) (st5 m hr t) (hstage0_5 (((Pp m hr).slots t 5).cast nbuf0_5))
    upS (Memref.isWhole_whole _) downS (Memref.isWhole_whole _)

theorem defs_row (t : Fin (Pp m hr).N) :
    defs₀ (F := F) .tc (Pp m hr).body ((Pp m hr).bodyArgs t ((Pp m hr).slots t)) = bodyOf m hr t := by
  unfold defs₀; rw [Defs.onTc_tc]

section Body
variable (c : Dev nD) (t : Fin (Pp m hr).N)

/-- What the body is given of the buffers besides the invariant, and what it must leave: the inputs' blocks, and the output's buffer. -/
def given (x5 : Vec F S8x512x128 .bf16) : sProp 𝕄 :=
  iprop(owns (c : Thread nD τ) (st0 m hr t) fullShare (blockAt m (ok_of_inRange _ hr) c 0 t)
    ∗ owns (c : Thread nD τ) (st1 m hr t) fullShare (blockAt m (ok_of_inRange _ hr) c 1 t)
    ∗ owns (c : Thread nD τ) (st2 m hr t) fullShare (blockAt m (ok_of_inRange _ hr) c 2 t)
    ∗ owns (c : Thread nD τ) (st3 m hr t) fullShare (blockAt m (ok_of_inRange _ hr) c 3 t)
    ∗ owns (c : Thread nD τ) (st4 m hr t) fullShare (blockAt m (ok_of_inRange _ hr) c 4 t)
    ∗ owns (c : Thread nD τ) (st5 m hr t) fullShare x5)

/-- The output's buffer after the body on a buffer that held `x5`: the block computed if it is used, and else `x5`. -/
def leftOut (x5 : Vec F S8x512x128 .bf16) : Vec F S8x512x128 .bf16 :=
  if t.val < (cntOf (words m)).toNat then outBlock (tileOf m c (lastNo m t.val)) else x5

/-- At a used block the staged blocks are the block's own. -/
theorem live_last (hl : t.val < (cntOf (words m)).toNat) : lastNo m t.val = ptNo m (ok_of_inRange _ hr) t := by
  refine Fin.ext ?_
  rw [lastNo_val m hr, ptNo_val m (ok_of_inRange _ hr) t]; omega

theorem new_up (hl : t.val < (cntOf (words m)).toNat) :
    k0_pay1 (blockAt m (ok_of_inRange _ hr) c 1 t) = k0_pay1 (upBlk m c (expNo (words m) (lastNo m t.val))) := by
  rw [live_last m hr t hl]; exact congrArg k0_pay1 (block_up m hr c t)
theorem new_down (hl : t.val < (cntOf (words m)).toNat) :
    k0_pay2 (blockAt m (ok_of_inRange _ hr) c 3 t) = k0_pay2 (downBlk m c (expNo (words m) (lastNo m t.val))) := by
  rw [live_last m hr t hl]; exact congrArg k0_pay2 (block_down m hr c t)

/-- The tile the body computes at a used block, from its own weights in the scratch buffers, is the block's. -/
theorem new_tile (hl : t.val < (cntOf (words m)).toNat) :
    ffnTile (blockAt m (ok_of_inRange _ hr) c 0 t) (rowWord c (grid0.coords t) (words m 1)) (k0_pay1 (upBlk m c (expNo (words m) (lastNo m t.val))))
      (blockAt m (ok_of_inRange _ hr) c 2 t) (k0_pay2 (downBlk m c (expNo (words m) (lastNo m t.val)))) (blockAt m (ok_of_inRange _ hr) c 4 t)
      = tileOf m c (lastNo m t.val) := by
  have e0 : blockAt m (ok_of_inRange _ hr) c 0 t = rowsBlk m c (lastNo m t.val).val := by
    rw [block_rows m hr c t, live_last m hr t hl]
    refine congrArg (rowsBlk m c) ?_
    unfold blkNo; rw [ptNo_val m (ok_of_inRange _ hr) t]; omega
  have e2 : blockAt m (ok_of_inRange _ hr) c 2 t = upBias m c (expNo (words m) (lastNo m t.val)) := by
    rw [block_upBias m hr c t, live_last m hr t hl]
  have e4 : blockAt m (ok_of_inRange _ hr) c 4 t = downBias m c (expNo (words m) (lastNo m t.val)) := by
    rw [block_downBias m hr c t, live_last m hr t hl]
  have ew : rowWord c (grid0.coords t) (words m 1) = rowOf (words m) (lastNo m t.val) := by
    rw [live_last m hr t hl]; exact rowWord_eq c (grid0.coords t) (words m)
  unfold tileOf
  rw [ew]
  exact congr (congrFun (congr (congrFun (congrArg (fun x => ffnTile x _) e0) _) e2) _) e4

/-- The body at any point, from the buffers and the scratch buffers carried. -/
theorem body_point (x5 : Vec F S8x512x128 .bf16) (K : PUnit → sProp 𝕄) :
    iprop(carried m c t.val ∗ given m hr c t x5 ∗ held c expT (words m 0) ∗ held c rowT (words m 1) ∗ held c cntT (words m 2)
      ∗ (iprop(carried m c (t.val + 1) ∗ given m hr c t (leftOut m hr c t x5) ∗ held c expT (words m 0) ∗ held c rowT (words m 1) ∗ held c cntT (words m 2)) -∗ K ⟨⟩))
    ⊢ wp frame (wpE (defs₀ (F := F)) Variants.none c none) Set.univ (bodyOf m hr t) K := by
  have hp : (grid0.coords t 0).val = t.val := ptNo_val m (ok_of_inRange _ hr) t
  have ht : t.val < 296 := t.isLt
  have h1 := hr.2.1
  have hlive : k0_cond2 (grid0.coords t) (cntWord c (words m 2)) = 1#1 ↔ t.val < (cntOf (words m)).toNat := by
    rw [cntWord_eq c (words m), live_iff (grid0.coords t) (cntOf (words m)) hr.2.2, hp]
  have hfirst := first_iff c (grid0.coords t) (words m) hr
  simp only [hp] at hfirst
  unfold given leftOut
  by_cases hl : t.val < (cntOf (words m)).toNat
  · have hlast := live_last m hr t hl
    have hv : (lastNo m t.val).val = t.val := by rw [lastNo_val m hr]; omega
    rw [if_pos hl]
    by_cases hn : firstTest c (grid0.coords t) (words m 0) (words m 2) = 1#1
    · rw [← new_tile m hr c t hl, ← new_up m hr c t hl, ← new_down m hr c t hl]
      unfold carried
      iintro ⟨⟨%u, %v, %hc, Hu, Hv⟩, ⟨H0, H1, H2, H3, H4, H5⟩, T0, T1, T2, HK⟩
      iapply (run_new c (grid0.coords t) _ _ _ _ _ _ _ _ _ _ _ _ _ _ _ _ _ _ _ _ _ x5 u v (words m 0) (words m 1) (words m 2) hn (hlive.mpr hl) _ K)
      isplitl [H0]; · iexact H0
      isplitl [H1]; · iexact H1
      isplitl [H2]; · iexact H2
      isplitl [H3]; · iexact H3
      isplitl [H4]; · iexact H4
      isplitl [H5]; · iexact H5
      isplitl [Hu]; · iexact Hu
      isplitl [Hv]; · iexact Hv
      isplitl [T0]; · iexact T0
      isplitl [T1]; · iexact T1
      isplitl [T2]; · iexact T2
      iintro ⟨H0, H1, H2, H3, H4, H5, Hu, Hv, T0, T1, T2⟩
      iapply HK
      isplitl [Hu Hv]
      · iexists _; iexists _
        isplitr
        swap
        · isplitl [Hu]; · iexact Hu
          iexact Hv
        ipureintro
        intro _
        exact ⟨new_up m hr c t hl, new_down m hr c t hl⟩
      isplitl [H0 H1 H2 H3 H4 H5]
      · isplitl [H0]; · iexact H0
        isplitl [H1]; · iexact H1
        isplitl [H2]; · iexact H2
        isplitl [H3]; · iexact H3
        isplitl [H4]; · iexact H4
        iexact H5
      isplitl [T0]; · iexact T0
      isplitl [T1]; · iexact T1
      iexact T2
    · have hk := fun h => hn (hfirst.mpr ⟨h, hl⟩)
      have h0 : 0 < t.val := by
        rcases Nat.eq_zero_or_pos t.val with h | h
        · exact absurd (Or.inl h) hk
        · exact h
      have hsame : expNo (words m) (lastNo m (t.val - 1)) = expNo (words m) (lastNo m t.val) := by
        have he := not_not.mp fun h => hk (Or.inr h)
        have ea : lastNo m (t.val - 1) = ⟨t.val - 1, by omega⟩ := Fin.ext (by rw [lastNo_val m hr]; show min (t.val - 1) _ = t.val - 1; omega)
        rw [ea, hlast]
        unfold expNo
        exact Fin.ext (congrArg (fun w : BitVec 32 => w.toNat % 32) he.symm)
      rw [← new_tile m hr c t hl]
      unfold carried
      rw [hsame, Nat.add_sub_cancel]
      iintro ⟨⟨%u, %v, %hc, Hu, Hv⟩, ⟨H0, H1, H2, H3, H4, H5⟩, T0, T1, T2, HK⟩
      obtain ⟨rfl, rfl⟩ := hc h0
      iapply (run_kept c (grid0.coords t) _ _ _ _ _ _ _ _ _ _ _ _ _ _ _ _ _ _ _ _ _ x5 _ _ (words m 0) (words m 1) (words m 2) hn (hlive.mpr hl) _ K)
      isplitl [H0]; · iexact H0
      isplitl [H1]; · iexact H1
      isplitl [H2]; · iexact H2
      isplitl [H3]; · iexact H3
      isplitl [H4]; · iexact H4
      isplitl [H5]; · iexact H5
      isplitl [Hu]; · iexact Hu
      isplitl [Hv]; · iexact Hv
      isplitl [T0]; · iexact T0
      isplitl [T1]; · iexact T1
      isplitl [T2]; · iexact T2
      iintro ⟨H0, H1, H2, H3, H4, H5, Hu, Hv, T0, T1, T2⟩
      iapply HK
      isplitl [Hu Hv]
      · iexists _; iexists _
        isplitr
        swap
        · isplitl [Hu]; · iexact Hu
          iexact Hv
        ipureintro
        intro _
        exact ⟨rfl, rfl⟩
      isplitl [H0 H1 H2 H3 H4 H5]
      · isplitl [H0]; · iexact H0
        isplitl [H1]; · iexact H1
        isplitl [H2]; · iexact H2
        isplitl [H3]; · iexact H3
        isplitl [H4]; · iexact H4
        iexact H5
      isplitl [T0]; · iexact T0
      isplitl [T1]; · iexact T1
      iexact T2
  · rw [if_neg hl]
    unfold carried
    have hlast : lastNo m (t.val + 1 - 1) = lastNo m (t.val - 1) := Fin.ext (by rw [lastNo_val m hr, lastNo_val m hr]; omega)
    rw [hlast]
    iintro ⟨⟨%u, %v, %hc, Hu, Hv⟩, ⟨H0, H1, H2, H3, H4, H5⟩, T0, T1, T2, HK⟩
    iapply (run_past c (grid0.coords t) _ _ _ _ _ _ _ _ _ _ _ _ _ _ _ _ _ _ _ _ _ x5 u v (words m 0) (words m 1) (words m 2) (fun h => hl (hfirst.mp h).2)
      (fun h => hl (hlive.mp h)) _ K)
    isplitl [H0]; · iexact H0
    isplitl [H1]; · iexact H1
    isplitl [H2]; · iexact H2
    isplitl [H3]; · iexact H3
    isplitl [H4]; · iexact H4
    isplitl [H5]; · iexact H5
    isplitl [Hu]; · iexact Hu
    isplitl [Hv]; · iexact Hv
    isplitl [T0]; · iexact T0
    isplitl [T1]; · iexact T1
    isplitl [T2]; · iexact T2
    iintro ⟨H0, H1, H2, H3, H4, H5, Hu, Hv, T0, T1, T2⟩
    iapply HK
    isplitl [Hu Hv]
    · iexists u; iexists v
      isplitr
      · ipureintro
        intro _
        exact hc (by omega)
      isplitl [Hu]; · iexact Hu
      iexact Hv
    isplitl [H0 H1 H2 H3 H4 H5]
    · isplitl [H0]; · iexact H0
      isplitl [H1]; · iexact H1
      isplitl [H2]; · iexact H2
      isplitl [H3]; · iexact H3
      isplitl [H4]; · iexact H4
      iexact H5
    isplitl [T0]; · iexact T0
    isplitl [T1]; · iexact T1
    iexact T2

theorem leftOut_live (x5) (hl : t.val < (cntOf (words m)).toNat) : leftOut m hr c t x5 = (data m hr 0 c).after 5 t :=
  (if_pos hl).trans (after_out m hr c t).symm

theorem leftOut_past (x5) (hl : ¬ t.val < (cntOf (words m)).toNat) : leftOut m hr c t x5 = x5 := if_neg hl

/-- The output's buffer as the pipeline takes it back. -/
theorem out_left (d) : (owns (c : Thread nD τ) (st5 m hr t) fullShare (leftOut m hr c t ((data m hr 0 c).before 5 t d)) : sProp 𝕄)
    ⊢ (data m hr 0 c).leavesExact 5 t := by
  by_cases hl : t.val < (cntOf (words m)).toNat
  · have e := leftOut_live m hr c t ((data m hr 0 c).before 5 t d) hl
    unfold Dat.leavesExact
    rw [out_idle, decide_eq_true hl]
    exact .of_eq (congrArg (fun x => (owns (c : Thread nD τ) (st5 m hr t) fullShare x : sProp 𝕄)) e)
  · have e := leftOut_past m hr c t ((data m hr 0 c).before 5 t d) hl
    have e' := e.trans ((found_out m hr c t (by omega) d).trans (after_out m hr c t).symm)
    unfold Dat.leavesExact
    rw [out_idle, decide_eq_false hl]
    cases hf : ((Pp m hr).win 5).flush t
    · have h1 : (owns (c : Thread nD τ) (st5 m hr t) fullShare (leftOut m hr c t ((data m hr 0 c).before 5 t d)) : sProp 𝕄)
          ⊢ owns (c : Thread nD τ) (st5 m hr t) fullShare ((data m hr 0 c).before 5 t d) :=
        .of_eq (congrArg (fun x => (owns (c : Thread nD τ) (st5 m hr t) fullShare x : sProp 𝕄)) e)
      refine h1.trans ?_
      show _ ⊢ iprop(∃ d, owns (c : Thread nD τ) (st5 m hr t) fullShare ((data m hr 0 c).before 5 t d))
      iintro H
      iexists d
      iexact H
    · exact .of_eq (congrArg (fun x => (owns (c : Thread nD τ) (st5 m hr t) fullShare x : sProp 𝕄)) e')

/-- What the body is called with at point `t`, window by window, -/
def called : sProp 𝕄 :=
  iprop((data m hr 0 c).Φ t.castSucc ∗ (data m hr 0 c).owesAt () t.castSucc
    ∗ (∃ d, owns (c : Thread nD τ) (st0 m hr t) fullShare ((data m hr 0 c).before 0 t d))
    ∗ (∃ d, owns (c : Thread nD τ) (st1 m hr t) fullShare ((data m hr 0 c).before 1 t d))
    ∗ (∃ d, owns (c : Thread nD τ) (st2 m hr t) fullShare ((data m hr 0 c).before 2 t d))
    ∗ (∃ d, owns (c : Thread nD τ) (st3 m hr t) fullShare ((data m hr 0 c).before 3 t d))
    ∗ (∃ d, owns (c : Thread nD τ) (st4 m hr t) fullShare ((data m hr 0 c).before 4 t d))
    ∗ (∃ d, owns (c : Thread nD τ) (st5 m hr t) fullShare ((data m hr 0 c).before 5 t d)))

/-- and what it returns. -/
def returned : sProp 𝕄 :=
  iprop((data m hr 0 c).Φ t.succ ∗ (data m hr 0 c).owesAt () t.succ
    ∗ owns (c : Thread nD τ) (st0 m hr t) fullShare ((data m hr 0 c).after 0 t)
    ∗ owns (c : Thread nD τ) (st1 m hr t) fullShare ((data m hr 0 c).after 1 t)
    ∗ owns (c : Thread nD τ) (st2 m hr t) fullShare ((data m hr 0 c).after 2 t)
    ∗ owns (c : Thread nD τ) (st3 m hr t) fullShare ((data m hr 0 c).after 3 t)
    ∗ owns (c : Thread nD τ) (st4 m hr t) fullShare ((data m hr 0 c).after 4 t)
    ∗ (data m hr 0 c).leavesExact 5 t)

theorem body_called : called m hr c t ⊢ wp frame (wpE (defs₀ (F := F)) Variants.none c none) Set.univ (bodyOf m hr t) (fun _ => returned m hr c t) := by
  unfold called returned
  simp only [found_0, found_1, found_2, found_3, found_4]
  rw [show (data m hr 0 c).owesAt () t.succ = (data m hr 0 c).owesAt () t.castSucc from rfl, after_0, after_1, after_2, after_3, after_4]
  rw [show (data m hr 0 c).Φ t.castSucc = iprop(carried m c t.val ∗ (∃ r, prngReg c r) ∗ Pipeline.ΦT pre0 (words m) c) from rfl,
    show (data m hr 0 c).Φ t.succ = iprop(carried m c (t.val + 1) ∗ (∃ r, prngReg c r) ∗ Pipeline.ΦT pre0 (words m) c) from rfl, tables_held]
  iintro ⟨⟨HC, Hg, T0, T1, T2⟩, Ho, ⟨%d0, H0⟩, ⟨%d1, H1⟩, ⟨%d2, H2⟩, ⟨%d3, H3⟩, ⟨%d4, H4⟩, ⟨%d5, H5⟩⟩
  iapply (body_point m hr c t ((data m hr 0 c).before 5 t d5) _)
  isplitl [HC]; · iexact HC
  isplitl [H0 H1 H2 H3 H4 H5]
  · unfold given
    isplitl [H0]; · iexact H0
    isplitl [H1]; · iexact H1
    isplitl [H2]; · iexact H2
    isplitl [H3]; · iexact H3
    isplitl [H4]; · iexact H4
    iexact H5
  isplitl [T0]; · iexact T0
  isplitl [T1]; · iexact T1
  isplitl [T2]; · iexact T2
  unfold given
  iintro ⟨HC, ⟨H0, H1, H2, H3, H4, H5⟩, T0, T1, T2⟩
  isplitl [HC Hg T0 T1 T2]
  · isplitl [HC]; · iexact HC
    isplitl [Hg]; · iexact Hg
    isplitl [T0]; · iexact T0
    isplitl [T1]; · iexact T1
    iexact T2
  isplitl [Ho]; · iexact Ho
  isplitl [H0]; · iexact H0
  isplitl [H1]; · iexact H1
  isplitl [H2]; · iexact H2
  isplitl [H3]; · iexact H3
  isplitl [H4]; · iexact H4
  iapply (out_left m hr c t d5)
  iexact H5

end Body

/-- The body's obligation at every point. -/
theorem obligation (c : Dev nD) : BodyObligation (data (F := F) m hr 0 c) (defs₀ (F := F)) Variants.none () Set.univ := fun t => by
  rw [bigSep_W0, bigSep_W0, defs_row m hr]
  exact triple_restated (body_called m hr c t) rfl .rfl fun _ => .rfl

/-! ## The run -/

/-- The region's start: the scratch buffers at whatever they hold. -/
theorem start (c : Dev nD) : iprop(Pipeline.ΦA spec0 c ∗ Pipeline.ΦT pre0 (words m) c) ⊢ (data m hr 0 c).Φ 0 := by
  rw [show (data m hr 0 c).Φ 0 = iprop(carried m c 0 ∗ (∃ r, prngReg c r) ∗ Pipeline.ΦT pre0 (words m) c) from rfl, scratch_held]
  unfold carried
  iintro ⟨⟨⟨⟨%u, Hu⟩, ⟨%v, Hv⟩⟩, Hg⟩, HT⟩
  isplitl [Hu Hv]
  · iexists u; iexists v
    isplitr
    · ipureintro; intro h; exact absurd h (Nat.lt_irrefl 0)
    isplitl [Hu]; · iexact Hu
    iexact Hv
  isplitl [Hg]; · iexact Hg
  iexact HT

/-- Its end: the scratch buffers forgotten. -/
theorem finish (c : Dev nD) : (data m hr 0 c).Φ (Fin.last (Pp m hr).N) ⊢ Pipeline.ΦA spec0 c := by
  rw [show (data m hr 0 c).Φ (Fin.last (Pp m hr).N) = iprop(carried m c (Pp m hr).N ∗ (∃ r, prngReg c r) ∗ Pipeline.ΦT pre0 (words m) c) from rfl, scratch_held]
  unfold carried
  iintro ⟨⟨%u, %v, -, Hu, Hv⟩, Hg, -⟩
  isplitl [Hu Hv]
  · isplitl [Hu]
    · iexists u; iexact Hu
    iexists v; iexact Hv
  iexact Hg

/-- The proof data of the one pipeline, with the tables in range. -/
abbrev Placed : (p : Fin 1) → (pcfgs (F := F) p).Adm := fun _ => placed m (ok_of_inRange _ hr)

set_option backward.isDefEq.respectTransparency.types false in
/-- The launch: every execution ends, with the pipeline's arrays at what the data say and every semaphore counter at zero. -/
theorem run_all : θ_run defs (onTc (τ := τ) (main (F := F))) (s₀ m ρ)
    (fun r => (Pipeline.FramePost (Pipeline.pin pcfgs (Placed m hr)) (data m hr) 0 (atEntry m)) r ∧ r.2.sem = fun _ => 0) :=
  Pipeline.θ_run_frameP_track (Q' := _) pcfgs (Placed m hr) (data m hr) (0 : Fin 1) launch0 defs₀ Variants.none m ρ main
    (hbody := fun c => (obligation m hr c).loose) (hshare := fun c => (data m hr 0 c).share_full fun _ => rfl)
    (howed := fun _ _ => rfl) (V := atEntry m) (hmain := main_is_region m Variants.none) (hA := data_A m hr) (hpf := atEntry_words m)
    (hin := start m hr) (hout := finish m hr)

/-- What an execution leaves of the experts' call: the arguments as they were, the result as the data say. -/
theorem run_exp : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.mem ((c.tc : Thread nD τ).loc main_v0) = (data m hr 0 c).arrAt 5 (Pp m hr).N)
      ∧ r.2.sem = fun _ => 0) := by
  refine (θ_run defs _ _).mono (fun r h => ⟨fun c => ⟨⟨?_, ?_, ?_, ?_, ?_, ?_, ?_, ?_⟩, ?_⟩, h.2⟩) (run_all m ρ hr)
  · exact ((h.1 c).1 0).trans (((data m hr 0 c).arrAt_in 0 rfl _).trans ((data_A m hr c 0).trans rfl))
  · exact (h.1 c).2 main_arg1 (by decide : main_arg1 ∈ Pipeline.restRefs sig spec0)
  · exact (h.1 c).2 main_arg2 (by decide : main_arg2 ∈ Pipeline.restRefs sig spec0)
  · exact (h.1 c).2 main_arg3 (by decide : main_arg3 ∈ Pipeline.restRefs sig spec0)
  · exact ((h.1 c).1 1).trans (((data m hr 0 c).arrAt_in 1 rfl _).trans ((data_A m hr c 1).trans rfl))
  · exact ((h.1 c).1 2).trans (((data m hr 0 c).arrAt_in 2 rfl _).trans ((data_A m hr c 2).trans rfl))
  · exact ((h.1 c).1 3).trans (((data m hr 0 c).arrAt_in 3 rfl _).trans ((data_A m hr c 3).trans rfl))
  · exact ((h.1 c).1 4).trans (((data m hr 0 c).arrAt_in 4 rfl _).trans ((data_A m hr c 4).trans rfl))
  · exact (h.1 c).1 5

end Cert.Proof.Ffn

end
-- ==== Proof.ExpTile.lean ====
/-
  One block of the experts' call at the ideal values, element by element: two bfloat16 halves of each packed word as the
  activations, a product and a bias, the gated activation, and a second product and bias.
-/
module

public import proofs.«01_k».proof.Proof.ExpRun
public import Idealize.ShloMosaic.Lib.MatmulPlain
public import Idealize.ShloMosaic.Lib.IdealHost
public import Idealize.ShloMosaic.Lib.Pipeline.Value
public import Idealize.ShloMosaic.PureOps.Ideal.Laws

@[expose] public section

set_option maxRecDepth 16384

noncomputable section

namespace Cert.Proof.Ffn

open Cert.Kernel2Ideal Cert.Kernel2Ideal.Gen
open Idealize.ShloMosaic Idealize.ShloMosaic.TcCoe
open Idealize.ShloMosaic.ValueIdx

/-! ## The block's mathematics -/

section Spec

/-- A packed word of row `r`: rows past the number of valid ones count as zero. -/
def validWord (W : Fin 512 → Fin 512 → BitVec 32) (bv : BitVec 32) (r k : Fin 512) : BitVec 32 :=
  Scalar.select (IntOp.cmpi .slt (BitVec.ofNat 32 r.val) bv) (W r k) 0#32

/-- Activation `k` of row `r`: below 512 word `k`'s low half, from 512 word `k - 512`'s high half. -/
def actAt (W : Fin 512 → Fin 512 → BitVec 32) (bv : BitVec 32) (r : Fin 512) (k : Fin 1024) : EReal :=
  if h : k.val < 512 then Ideal.ofBits .f32 (IntOp.shli .vector (validWord W bv r ⟨k.val, h⟩) 16#32)
  else Ideal.ofBits .f32 (IntOp.andi (validWord W bv r ⟨k.val - 512, by omega⟩) 4294901760#32)

/-- The first product and bias. -/
def upAt (W : Fin 512 → Fin 512 → BitVec 32) (bv : BitVec 32) (w1 : Fin 1024 → Fin 2048 → EReal) (b1 : Fin 2048 → EReal)
    (r : Fin 512) (q : Fin 2048) : EReal :=
  (∑ k : Fin 1024, actAt W bv r k * w1 k q) + b1 q

/-- The activation: a gate `g`, at most 7, times its logistic at slope 1.702, times one more than `l` clipped to [-7, 7]. -/
def gated (g l : EReal) : EReal :=
  (min g (Ideal.ofBits .f32 0x40E00000#32)
      * Ideal.logistic (Ideal.ofBits .f32 0x3FD9DB23#32 * min g (Ideal.ofBits .f32 0x40E00000#32)))
    * (min (Ideal.ofBits .f32 0x40E00000#32) (max (Ideal.ofBits .f32 0xC0E00000#32) l) + Ideal.ofBits .f32 0x3F800000#32)

/-- The block's element: the activations times the second weights, and the second bias. -/
def blockAtSpec (W : Fin 512 → Fin 512 → BitVec 32) (bv : BitVec 32) (w1 : Fin 1024 → Fin 2048 → EReal) (b1 : Fin 2048 → EReal)
    (w2 : Fin 1024 → Fin 1024 → EReal) (b2 : Fin 1024 → EReal) (r : Fin 512) (q : Fin 1024) : EReal :=
  (∑ k : Fin 1024, gated (upAt W bv w1 b1 r ⟨k.val, by omega⟩) (upAt W bv w1 b1 r ⟨1024 + k.val, by omega⟩) * w2 k q) + b2 q

end Spec

/-! ## The kernel's block -/

section Kernel

variable (x0 : Vec Ideal S4x512x128 .i32) (bv : BitVec 32)

/-- Word `k` of row `r` of the block of packed rows. -/
def wordsOf (r k : Fin 512) : BitVec 32 := x0 (ix3 (n0 := 4) (n1 := 512) (n2 := 128) ⟨k.val / 128, by omega⟩ r ⟨k.val % 128, Nat.mod_lt _ (by decide)⟩)

theorem plane_apply (k : Nat) (h) (hk : k < 4) (r : Fin 512) (l : Fin 128) :
    (shapeCast S512x128 (planeOf ![k, 0, 0] x0 h) shapeCasts_S1x512x128_S512x128 : IVec S512x128 32) (ix2 r l)
      = x0 (ix3 (n0 := 4) (n1 := 512) (n2 := 128) ⟨k, hk⟩ r l) := by
  refine (shapeCast_1ab_ab_apply (a := 512) (b := 128) _ _ r l).trans (congrArg x0 (funext fun a => Fin.ext ?_))
  match a with
  | ⟨0, _⟩ => show k + 1 * 0 = k; omega
  | ⟨1, _⟩ => show 0 + 1 * r.val = r.val; omega
  | ⟨2, _⟩ => show 0 + 1 * l.val = l.val; omega

theorem joined_apply (v20 v22 v24 v26 : IVec S512x128 32) (h)
    (H20 : ∀ r l, v20 (ix2 r l) = x0 (ix3 (n0 := 4) (n1 := 512) (n2 := 128) 0 r l))
    (H22 : ∀ r l, v22 (ix2 r l) = x0 (ix3 (n0 := 4) (n1 := 512) (n2 := 128) 1 r l))
    (H24 : ∀ r l, v24 (ix2 r l) = x0 (ix3 (n0 := 4) (n1 := 512) (n2 := 128) 2 r l))
    (H26 : ∀ r l, v26 (ix2 r l) = x0 (ix3 (n0 := 4) (n1 := 512) (n2 := 128) 3 r l)) (r k : Fin 512) :
    concatenate S512x512 1 [⟨S512x128, v20⟩, ⟨S512x128, v22⟩, ⟨S512x128, v24⟩, ⟨S512x128, v26⟩] h (ix2 r k) = wordsOf x0 r k := by
  have hk := k.isLt
  have hl : k.val % 128 < 128 := Nat.mod_lt _ (by decide)
  have step : ∀ (n : Nat) (v : IVec S512x128 32) (hn : n < 4)
      (hx : ([⟨S512x128, v20⟩, ⟨S512x128, v22⟩, ⟨S512x128, v24⟩, ⟨S512x128, v26⟩] : List ((s : Shape) × (s.Idx → BitVec 32)))[n]'hn = ⟨S512x128, v⟩)
      (hpre : (((([⟨S512x128, v20⟩, ⟨S512x128, v22⟩, ⟨S512x128, v24⟩, ⟨S512x128, v26⟩] : List ((s : Shape) × (s.Idx → BitVec 32))).take n).map (·.1)).map
        fun s => if h : s.rank = S512x512.rank then s.size ((1 : Fin S512x512.rank).cast h.symm) else 0).sum = 128 * n)
      (hv : v (ix2 r ⟨k.val % 128, hl⟩) = x0 (ix3 (n0 := 4) (n1 := 512) (n2 := 128) ⟨n, hn⟩ r ⟨k.val % 128, hl⟩)) (hq : k.val / 128 = n),
      concatenate S512x512 1 [⟨S512x128, v20⟩, ⟨S512x128, v22⟩, ⟨S512x128, v24⟩, ⟨S512x128, v26⟩] h (ix2 r k) = wordsOf x0 r k := by
    intro n v hn hx hpre hv hq
    refine (concatenate_apply_piece _ _ h _ n hn S512x128 v hx rfl (128 * n) hpre (ix2 r ⟨k.val % 128, hl⟩) ?_ ?_).trans (hv.trans ?_)
    · intro b hb
      match b with
      | ⟨0, _⟩ => rfl
      | ⟨1, _⟩ => exact absurd rfl hb
    · show 128 * n + k.val % 128 = k.val
      omega
    · unfold wordsOf
      subst hq
      rfl
  have h4 : k.val / 128 = 0 ∨ k.val / 128 = 1 ∨ k.val / 128 = 2 ∨ k.val / 128 = 3 := by omega
  rcases h4 with e | e | e | e
  · exact step 0 v20 (by decide) rfl rfl (H20 _ _) e
  · exact step 1 v22 (by decide) rfl rfl (H22 _ _) e
  · exact step 2 v24 (by decide) rfl rfl (H24 _ _) e
  · exact step 3 v26 (by decide) rfl rfl (H26 _ _) e

/-- The block's weights and biases at their coordinates. -/
def upOf (W : Vec Ideal S1x1x1024x2048 .f32) (k : Fin 1024) (q : Fin 2048) : EReal := W (ix4 (n0 := 1) (n1 := 1) (n2 := 1024) (n3 := 2048) 0 0 k q)
def upBiasOf (b : Vec Ideal S1x1x1x2048 .f32) (q : Fin 2048) : EReal := b (ix4 (n0 := 1) (n1 := 1) (n2 := 1) (n3 := 2048) 0 0 0 q)
def downOf (W : Vec Ideal S1x1x1024x1024 .f32) (k : Fin 1024) (q : Fin 1024) : EReal := W (ix4 (n0 := 1) (n1 := 1) (n2 := 1024) (n3 := 1024) 0 0 k q)
def downBiasOf (b : Vec Ideal S1x1x1x1024 .f32) (q : Fin 1024) : EReal := b (ix4 (n0 := 1) (n1 := 1) (n2 := 1) (n3 := 1024) 0 0 0 q)

theorem up_apply (W : Vec Ideal S1x1x1024x2048 .f32) (k : Fin 1024) (q : Fin 2048) : (k0_pay1 (F := Ideal) W : FVec Ideal S1024x2048 .bf16) (ix2 k q) = upOf W k q := by
  unfold k0_pay1 upOf
  refine (shapeCast_apply _ _ _ (ix2 k q) rfl).trans ?_
  refine (shapeCast_apply W _ _ (ix4 (n0 := 1) (n1 := 1) (n2 := 1024) (n3 := 2048) 0 0 k q) ?_)
  rw [Shape.rowMajor_val_two, Shape.rowMajor_val_four]
  show ((0 * 1 + 0) * 1024 + k.val) * 2048 + q.val = k.val * 2048 + q.val
  omega

theorem down_apply (W : Vec Ideal S1x1x1024x1024 .f32) (k : Fin 1024) (q : Fin 1024) : (k0_pay2 (F := Ideal) W : FVec Ideal S1024x1024 .bf16) (ix2 k q) = downOf W k q := by
  unfold k0_pay2 downOf
  refine (shapeCast_apply _ _ _ (ix2 k q) rfl).trans ?_
  refine (shapeCast_apply W _ _ (ix4 (n0 := 1) (n1 := 1) (n2 := 1024) (n3 := 1024) 0 0 k q) ?_)
  rw [Shape.rowMajor_val_two, Shape.rowMajor_val_four]
  show ((0 * 1 + 0) * 1024 + k.val) * 1024 + q.val = k.val * 1024 + q.val
  omega

/-- The activations: the masked words' low halves, then their high halves. -/
theorem act_apply (v27 : IVec S512x512 32) (h27 : ∀ r k : Fin 512, v27 (ix2 r k) = wordsOf x0 r k) (v31 : IVec S512x1 1)
    (h31 : ∀ r : Fin 512, v31 (ix2 r 0) = IntOp.cmpi .slt (BitVec.ofNat 32 r.val) bv) (r : Fin 512) (k : Fin 1024) :
    (concatenate S512x1024 1
      [⟨S512x512, (bitcastToFloat (F := Ideal) .f32 (shli (select (broadcastTo S512x512 v31 broadcasts_S512x1_S512x512) v27 (broadcast S512x512 0#32)) (broadcast S512x512 16#32)))⟩,
       ⟨S512x512, (bitcastToFloat (F := Ideal) .f32 (andi (select (broadcastTo S512x512 v31 broadcasts_S512x1_S512x512) v27 (broadcast S512x512 0#32)) (broadcast S512x512 4294901760#32)))⟩]
      concatenates_S512x512_S512x512_S512x1024_d1 : FVec Ideal S512x1024 .f32) (ix2 r k) = actAt (wordsOf x0) bv r k := by
  have hs : ∀ k : Fin 512, (select (broadcastTo S512x512 v31 broadcasts_S512x1_S512x512) v27 (broadcast S512x512 0#32) : IVec S512x512 32) (ix2 r k) = validWord (wordsOf x0) bv r k := by
    intro k
    show Scalar.select (broadcastTo S512x512 v31 broadcasts_S512x1_S512x512 (ix2 r k)) (v27 (ix2 r k)) 0#32 = _
    rw [h27, broadcastTo_apply v31 broadcasts_S512x1_S512x512 (ix2 r k) (ix2 r 0) (fun a => by match a with | ⟨0, _⟩ => rfl | ⟨1, _⟩ => rfl), h31]
    rfl
  unfold actAt
  by_cases hk : k.val < 512
  · rw [dif_pos hk]
    refine (concatenate_pair_apply_left (t := S512x1024) (s₁ := S512x512) (s₂ := S512x512) 1 _ _ _ (ix2 r k) rfl (ix2 r ⟨k.val, hk⟩) (fun b => by match b with | ⟨0, _⟩ => rfl | ⟨1, _⟩ => rfl)).trans ?_
    show Ideal.ofBits .f32 (IntOp.shli .vector (select _ _ _ (ix2 r ⟨k.val, hk⟩)) 16#32) = _
    rw [hs]
  · rw [dif_neg hk]
    refine (concatenate_pair_apply_right (t := S512x1024) (s₁ := S512x512) (s₂ := S512x512) 1 _ _ _ (ix2 r k) rfl rfl (ix2 r ⟨k.val - 512, by omega⟩)
      (fun b hb => by match b with | ⟨0, _⟩ => rfl | ⟨1, _⟩ => exact absurd rfl hb) (by show k.val - 512 + 512 = k.val; omega)).trans ?_
    show Ideal.ofBits .f32 (IntOp.andi (select _ _ _ (ix2 r ⟨k.val - 512, _⟩)) 4294901760#32) = _
    rw [hs]

theorem dot_up : dot_S512x1024_S1024x2048_S512x2048_1_0_0_1_n_n = DotDims.plain 512 1024 2048 := rfl
theorem dot_down : dot_S512x1024_S1024x1024_S512x1024_1_0_0_1_n_n = DotDims.plain 512 1024 1024 := rfl

/-- The first product and bias. -/
theorem first_apply (W1 : Vec Ideal S1x1x1024x2048 .f32) (b1 : Vec Ideal S1x1x1x2048 .f32) (h0 h1 h2 h3) (r : Fin 512) (q : Fin 2048) :
    (k0_pay7 (F := Ideal) (planeOf ![0, 0, 0] x0 h0) (planeOf ![1, 0, 0] x0 h1) (planeOf ![2, 0, 0] x0 h2) (planeOf ![3, 0, 0] x0 h3) bv
      (k0_pay1 (F := Ideal) W1) b1 : FVec Ideal S512x2048 .f32) (ix2 r q) = upAt (wordsOf x0) bv (upOf W1) (upBiasOf b1) r q := by
  unfold k0_pay7 upAt
  dsimp only
  refine congrArg₂ (fun a b : EReal => a + b) ?_ ?_
  · rw [dot_up]
    refine (Ideal.matmul_plain_apply none _ _ _ r q).trans ?_
    show Ideal.ofBits .f32 0x00000000#32 + _ = _
    rw [Ideal.ofBits_zero_f32, zero_add]
    refine Finset.sum_congr rfl fun k _ => ?_
    refine congrArg₂ (fun a b : EReal => a * b) ?_ (up_apply W1 k q)
    refine act_apply x0 bv _ (fun r k => joined_apply x0 _ _ _ _ _ (plane_apply x0 0 h0 (by decide)) (plane_apply x0 1 h1 (by decide))
      (plane_apply x0 2 h2 (by decide)) (plane_apply x0 3 h3 (by decide)) r k) _ (fun r => ?_) r k
    refine (shapeCast_apply _ _ _ (ix2 r 0) rfl).trans ?_
    refine congrArg (fun v => IntOp.cmpi .slt v bv) ?_
    show BitVec.ofNat 32 (0 * 512 + r.val) = _
    rw [Nat.zero_mul, Nat.zero_add]
  · refine (broadcastTo_apply _ broadcasts_S1x2048_S512x2048 (ix2 r q) (ix2 (n0 := 1) (n1 := 2048) 0 q) (fun a => by match a with | ⟨0, _⟩ => rfl | ⟨1, _⟩ => rfl)).trans ?_
    refine shapeCast_apply b1 _ _ (ix4 (n0 := 1) (n1 := 1) (n2 := 1) (n3 := 2048) 0 0 0 q) ?_
    rw [Shape.rowMajor_val_two, Shape.rowMajor_val_four]
    show ((0 * 1 + 0) * 1 + 0) * 2048 + q.val = 0 * 2048 + q.val
    omega

/-- **The kernel's block**, element by element. -/
theorem tile_apply (W1 : Vec Ideal S1x1x1024x2048 .f32) (b1 : Vec Ideal S1x1x1x2048 .f32) (W2 : Vec Ideal S1x1x1024x1024 .f32)
    (b2 : Vec Ideal S1x1x1x1024 .f32) (r : Fin 512) (q : Fin 1024) :
    (ffnTile x0 bv (k0_pay1 (F := Ideal) W1) b1 (k0_pay2 (F := Ideal) W2) b2 : FVec Ideal S512x1024 .bf16) (ix2 r q)
      = blockAtSpec (wordsOf x0) bv (upOf W1) (upBiasOf b1) (downOf W2) (downBiasOf b2) r q := by
  unfold ffnTile k0_pay10 blockAtSpec
  refine congrArg₂ (fun a b : EReal => a + b) ?_ ?_
  · rw [dot_down]
    refine (Ideal.matmul_plain_apply none _ _ _ r q).trans ?_
    show Ideal.ofBits .f32 0x00000000#32 + _ = _
    rw [Ideal.ofBits_zero_f32, zero_add]
    refine Finset.sum_congr rfl fun k _ => ?_
    refine congrArg₂ (fun a b : EReal => a * b) ?_ (down_apply W2 k q)
    have hg : (k0_pay8 (F := Ideal) (planeOf ![0, 0, 0] x0 inb_S4x512x128_S1x512x128_0_0_0) (planeOf ![1, 0, 0] x0 inb_S4x512x128_S1x512x128_1_0_0)
        (planeOf ![2, 0, 0] x0 inb_S4x512x128_S1x512x128_2_0_0) (planeOf ![3, 0, 0] x0 inb_S4x512x128_S1x512x128_3_0_0) bv (k0_pay1 (F := Ideal) W1) b1
          : FVec Ideal S512x1024 .f32) (ix2 r k)
        = min (upAt (wordsOf x0) bv (upOf W1) (upBiasOf b1) r ⟨k.val, by omega⟩) (Ideal.ofBits .f32 0x40E00000#32) := by
      unfold k0_pay8
      refine congrArg (fun a : EReal => min a (Ideal.ofBits .f32 0x40E00000#32)) ?_
      refine (extractStridedSlice_apply _ _ _ _ (ix2 (n0 := 512) (n1 := 2048) r ⟨k.val, by omega⟩) (fun a => by
        match a with | ⟨0, _⟩ => show r.val = 0 + r.val; omega | ⟨1, _⟩ => show k.val = 0 + k.val; omega)).trans (first_apply x0 bv W1 b1 _ _ _ _ r _)
    have hl : (k0_pay9 (F := Ideal) (planeOf ![0, 0, 0] x0 inb_S4x512x128_S1x512x128_0_0_0) (planeOf ![1, 0, 0] x0 inb_S4x512x128_S1x512x128_1_0_0)
        (planeOf ![2, 0, 0] x0 inb_S4x512x128_S1x512x128_2_0_0) (planeOf ![3, 0, 0] x0 inb_S4x512x128_S1x512x128_3_0_0) bv (k0_pay1 (F := Ideal) W1) b1
          : FVec Ideal S512x1024 .f32) (ix2 r k) = upAt (wordsOf x0) bv (upOf W1) (upBiasOf b1) r ⟨1024 + k.val, by omega⟩ := by
      unfold k0_pay9
      refine (extractStridedSlice_apply _ _ _ _ (ix2 (n0 := 512) (n1 := 2048) r ⟨1024 + k.val, by omega⟩) (fun a => by
        match a with | ⟨0, _⟩ => show r.val = 0 + r.val; omega | ⟨1, _⟩ => show 1024 + k.val = 1024 + k.val; rfl)).trans (first_apply x0 bv W1 b1 _ _ _ _ r _)
    unfold gated
    rw [← hg, ← hl]
    rfl
  · refine (broadcastTo_apply _ broadcasts_S1x1024_S512x1024 (ix2 r q) (ix2 (n0 := 1) (n1 := 1024) 0 q) (fun a => by match a with | ⟨0, _⟩ => rfl | ⟨1, _⟩ => rfl)).trans ?_
    refine shapeCast_apply b2 _ _ (ix4 (n0 := 1) (n1 := 1) (n2 := 1) (n3 := 1024) 0 0 0 q) ?_
    rw [Shape.rowMajor_val_two, Shape.rowMajor_val_four]
    show ((0 * 1 + 0) * 1 + 0) * 1024 + q.val = 0 * 1024 + q.val
    omega

end Kernel

end Cert.Proof.Ffn

end
-- ==== Proof.ExpRef.lean ====
/-
  The experts' reference read at an index at the ideal values: each row of block `n` is the block's mathematics
  (Proof/ExpTile.lean) at the block's packed rows, its number of valid rows and its expert's weights.
-/
module

public import proofs.«01_k».proof.Proof.ExpTile
public import proofs.«01_k».proof.Proof.Gen.Reference2Ideal.Read

@[expose] public section

set_option maxRecDepth 16384

noncomputable section

namespace Cert.Proof.FfnRef

open Cert.Reference2Ideal Cert.Reference2Ideal.Gen Cert.Reference2Ideal.Read
open Idealize.ShloMosaic Idealize.ShloMosaic.TcCoe
open Idealize.ShloMosaic.ValueIdx
open Cert.Proof.Ffn (validWord actAt upAt gated blockAtSpec)

/-! ## A gather of whole slabs -/

section Slabs
variable {α : Type} {A B : Nat}

/-- The dimension numbers of taking slab `e[n]` of a stack of 32, for 296 numbers `n`. -/
abbrev slabDims (A B : Nat)
    (wf : GatherDims.WF ⟨3, ![32, A, B]⟩ ⟨2, ![296, 1]⟩ ⟨3, ![296, A, B]⟩ [1, 2] [0] [] [0] [] 1 ![1, A, B]) :
    GatherDims ⟨3, ![32, A, B]⟩ ⟨2, ![296, 1]⟩ ⟨3, ![296, A, B]⟩ where
  offsetDims := [1, 2]
  collapsedSliceDims := [0]
  operandBatchingDims := []
  startIndicesBatchingDims := []
  startIndexMap := [0]
  indexVectorDim := 1
  sliceSizes := ![1, A, B]
  wf := wf

/-- Slab `e[n]`, for `e[n]` in range. -/
theorem slab_apply (wf) (x : (⟨3, ![32, A, B]⟩ : Shape).Idx → α) (idx : IVec ⟨2, ![296, 1]⟩ 32) (n : Fin 296) (a : Fin A) (b : Fin B)
    (e : BitVec 32) (he : idx (ix2 (n0 := 296) (n1 := 1) n 0) = e) (hlt : e.toNat < 32) :
    Host.gather (slabDims A B wf) x idx (ix3 n a b) = x (ix3 ⟨e.toNat, hlt⟩ a b) := by
  unfold Host.gather
  refine congrArg x (funext fun d => Fin.ext ?_)
  show (slabDims A B wf).start _ _ d + (slabDims A B wf).batchCoord _ d + (slabDims A B wf).offCoord _ d = _
  rw [GatherDims.batchCoord_eq_zero _ _ _ (fun h => absurd h List.not_mem_nil), Nat.add_zero]
  have hd : d = 0 ∨ d = 1 ∨ d = 2 := by
    match d with
    | ⟨0, _⟩ => exact Or.inl rfl
    | ⟨1, _⟩ => exact Or.inr (Or.inl rfl)
    | ⟨2, _⟩ => exact Or.inr (Or.inr rfl)
  rcases hd with rfl | rfl | rfl
  · rw [GatherDims.offCoord_eq_zero _ _ _ (show (0 : Fin 3) ∉ [(1 : Fin 3), 2] by decide)]
    unfold GatherDims.start
    rw [dif_pos (show (0 : Fin 3) ∈ [(0 : Fin 3)] by decide), Nat.add_zero]
    refine (congrArg (fun v : BitVec 32 => min v.toInt.toNat (32 - 1)) (?_ : _ = e)).trans ?_
    · refine (congrArg idx (funext fun f => Fin.ext ?_)).trans he
      match f with
      | ⟨0, _⟩ => rfl
      | ⟨1, _⟩ => rfl
    · show min e.toInt.toNat (32 - 1) = e.toNat
      rw [BitVec.toInt_eq_toNat_cond, if_pos (by omega)]
      omega
  · unfold GatherDims.start
    rw [dif_neg (show (1 : Fin 3) ∉ [(0 : Fin 3)] by decide)]
    unfold GatherDims.offCoord
    rw [dif_pos (show 1 ∈ (slabDims A B wf).sKept from (by decide : (1 : Fin 3) ∈ [(1 : Fin 3), 2])), Nat.zero_add]
    rfl
  · unfold GatherDims.start
    rw [dif_neg (show (2 : Fin 3) ∉ [(0 : Fin 3)] by decide)]
    unfold GatherDims.offCoord
    rw [dif_pos (show 2 ∈ (slabDims A B wf).sKept from (by decide : (2 : Fin 3) ∈ [(1 : Fin 3), 2])), Nat.zero_add]
    rfl

/-- A number in range is not wrapped. -/
theorem not_wrapped (e : BitVec 32) (hlt : e.toNat < 32) : Scalar.select (IntOp.cmpi .slt e 0#32) (IntOp.addi e 32#32) e = e := by
  have h : IntOp.cmpi .slt e 0#32 = 0#1 := by
    show BitVec.ofBool (e.slt 0#32) = 0#1
    rw [BitVec.slt_eq_decide, BitVec.toInt_eq_toNat_cond, if_pos (by omega), decide_eq_false]
    · rfl
    · simp
  rw [h]
  rfl

end Slabs

/-! ## The reference, operation by operation -/

section Read

variable (x0 : S4x151552x128.Idx → BitVec 32) (x1 x2 : S296.Idx → BitVec 32) (x4 : FVec Ideal S4x32x1024x2048 .f32)
  (x5 : FVec Ideal S4x32x1x2048 .f32) (x6 : FVec Ideal S4x32x1024x1024 .f32) (x7 : FVec Ideal S4x32x1x1024 .f32) (n : Fin 296)

/-- Block `n`'s packed words, its expert's weights and biases. -/
def wordsAt (r k : Fin 512) : BitVec 32 :=
  x0 (ix3 (n0 := 4) (n1 := 151552) (n2 := 128) ⟨k.val / 128, by omega⟩ ⟨n.val * 512 + r.val, by omega⟩ ⟨k.val % 128, Nat.mod_lt _ (by decide)⟩)
def upW (e : Fin 32) (k : Fin 1024) (q : Fin 2048) : EReal := x4 (ix4 (n0 := 4) (n1 := 32) (n2 := 1024) (n3 := 2048) 1 e k q)
def upB (e : Fin 32) (q : Fin 2048) : EReal := x5 (ix4 (n0 := 4) (n1 := 32) (n2 := 1) (n3 := 2048) 1 e 0 q)
def downW (e : Fin 32) (k : Fin 1024) (q : Fin 1024) : EReal := x6 (ix4 (n0 := 4) (n1 := 32) (n2 := 1024) (n3 := 1024) 1 e k q)
def downB (e : Fin 32) (q : Fin 1024) : EReal := x7 (ix4 (n0 := 4) (n1 := 32) (n2 := 1) (n3 := 1024) 1 e 0 q)

theorem masked_apply (p : Fin 4) (r : Fin 512) (l : Fin 128) (k : Fin 512) (hk : k.val = 128 * p.val + l.val) :
    val_main_v6 (F := Ideal) x0 x2 (ix4 (n0 := 4) (n1 := 296) (n2 := 512) (n3 := 128) p n r l)
      = validWord (wordsAt x0 n) (x2 (ix1 n)) r k := by
  rw [val_main_v6_apply, val_main_v4_apply, val_main_v1_apply, val_main_v3_apply, val_main_v2_apply, val_main_v0_apply, val_main_v5_apply, val_main_c_apply]
  unfold validWord wordsAt
  have e2 : idx_main_v2 (idx_main_v3 (ix4 (n0 := 4) (n1 := 296) (n2 := 512) (n3 := 128) p n r l)) = ix1 n := funext fun a => by
    match a with | ⟨0, _⟩ => rfl
  have e0 : idx_main_v0 (ix4 (n0 := 4) (n1 := 296) (n2 := 512) (n3 := 128) p n r l)
      = ix3 (n0 := 4) (n1 := 151552) (n2 := 128) ⟨k.val / 128, by omega⟩ ⟨n.val * 512 + r.val, by omega⟩ ⟨k.val % 128, Nat.mod_lt _ (by decide)⟩ :=
    funext fun a => Fin.ext (by
      have hp := p.isLt; have hn := n.isLt; have hr := r.isLt; have hl := l.isLt
      match a with
      | ⟨0, _⟩ => show (((p.val * 296 + n.val) * 512 + r.val) * 128 + l.val) / 19398656 = k.val / 128; omega
      | ⟨1, _⟩ => show (((p.val * 296 + n.val) * 512 + r.val) * 128 + l.val) / 128 % 151552 = n.val * 512 + r.val; omega
      | ⟨2, _⟩ => show (((p.val * 296 + n.val) * 512 + r.val) * 128 + l.val) % 128 = k.val % 128; omega)
  rw [e2, e0]

theorem planes_apply (p : Fin 8) (r : Fin 512) (l : Fin 128) (k : Fin 1024) (hk : k.val = 128 * p.val + l.val) :
    val_main_v13 (F := Ideal) x0 x2 (ix4 (n0 := 8) (n1 := 296) (n2 := 512) (n3 := 128) p n r l)
      = actAt (wordsAt x0 n) (x2 (ix1 n)) r k := by
  have hl := l.isLt
  unfold val_main_v13 actAt
  by_cases hp : p.val < 4
  · rw [dif_pos (show k.val < 512 by omega)]
    refine (concatenate_pair_apply_left (t := S8x296x512x128) (s₁ := S4x296x512x128) (s₂ := S4x296x512x128) 0 _ _ _
      (ix4 (n0 := 8) (n1 := 296) (n2 := 512) (n3 := 128) p n r l) rfl (ix4 (n0 := 4) (n1 := 296) (n2 := 512) (n3 := 128) ⟨p.val, hp⟩ n r l)
      (fun b => by match b with | ⟨0, _⟩ => rfl | ⟨1, _⟩ => rfl | ⟨2, _⟩ => rfl | ⟨3, _⟩ => rfl)).trans ?_
    rw [val_main_v9_apply, val_main_v8_apply, val_main_v7_apply, val_main_c_0_apply,
      masked_apply x0 x2 n ⟨p.val, hp⟩ r l ⟨k.val, by omega⟩ hk, shli_host]
    rfl
  · rw [dif_neg (show ¬ k.val < 512 by omega)]
    refine (concatenate_pair_apply_right (t := S8x296x512x128) (s₁ := S4x296x512x128) (s₂ := S4x296x512x128) 0 _ _ _
      (ix4 (n0 := 8) (n1 := 296) (n2 := 512) (n3 := 128) p n r l) rfl rfl (ix4 (n0 := 4) (n1 := 296) (n2 := 512) (n3 := 128) ⟨p.val - 4, by omega⟩ n r l)
      (fun b hb => by match b with | ⟨0, _⟩ => exact absurd rfl hb | ⟨1, _⟩ => rfl | ⟨2, _⟩ => rfl | ⟨3, _⟩ => rfl)
      (by show p.val - 4 + 4 = p.val; omega)).trans ?_
    rw [val_main_v12_apply, val_main_v11_apply, val_main_v10_apply, val_main_c_1_apply,
      masked_apply x0 x2 n ⟨p.val - 4, by omega⟩ r l ⟨k.val - 512, by omega⟩ (by show k.val - 512 = 128 * (p.val - 4) + l.val; omega)]
    rfl

theorem act_apply (r : Fin 512) (k : Fin 1024) :
    val_main_v16 (F := Ideal) x0 x2 (ix3 (n0 := 296) (n1 := 512) (n2 := 1024) n r k) = actAt (wordsAt x0 n) (x2 (ix1 n)) r k := by
  rw [val_main_v16_apply, val_main_v15_apply, val_main_v14_apply]
  refine Eq.trans ?_ (planes_apply x0 x2 n ⟨k.val / 128, by omega⟩ r ⟨k.val % 128, Nat.mod_lt _ (by decide)⟩ k (by show k.val = 128 * (k.val / 128) + k.val % 128; omega))
  refine congrArg (val_main_v13 (F := Ideal) x0 x2) (funext fun a => Fin.ext ?_)
  have hn := n.isLt; have hr := r.isLt; have hk := k.isLt
  match a with
  | ⟨0, _⟩ => show ((n.val * 512 + r.val) * 1024 + k.val) / 128 % 8 = k.val / 128; omega
  | ⟨1, _⟩ => show ((n.val * 512 + r.val) * 1024 + k.val) / 524288 = n.val; omega
  | ⟨2, _⟩ => show ((n.val * 512 + r.val) * 1024 + k.val) / 1024 % 512 = r.val; omega
  | ⟨3, _⟩ => show ((n.val * 512 + r.val) * 1024 + k.val) % 128 = k.val % 128; omega

/-- The expert of block `n`, when the table is in range. -/
def expertOf (hlt : (x1 (ix1 n)).toNat < 32) : Fin 32 := ⟨(x1 (ix1 n)).toNat, hlt⟩

variable (hlt : (x1 (ix1 n)).toNat < 32)

theorem slab_up : gather_S32x1024x2048_S296x1_S296x1024x2048_12_0_n_n_0_1_110242048
    = slabDims 1024 2048 gather_S32x1024x2048_S296x1_S296x1024x2048_12_0_n_n_0_1_110242048.wf := rfl
theorem slab_upB : gather_S32x1x2048_S296x1_S296x1x2048_12_0_n_n_0_1_112048
    = slabDims 1 2048 gather_S32x1x2048_S296x1_S296x1x2048_12_0_n_n_0_1_112048.wf := rfl
theorem slab_down : gather_S32x1024x1024_S296x1_S296x1024x1024_12_0_n_n_0_1_110241024
    = slabDims 1024 1024 gather_S32x1024x1024_S296x1_S296x1024x1024_12_0_n_n_0_1_110241024.wf := rfl
theorem slab_downB : gather_S32x1x1024_S296x1_S296x1x1024_12_0_n_n_0_1_111024
    = slabDims 1 1024 gather_S32x1x1024_S296x1_S296x1x1024_12_0_n_n_0_1_111024.wf := rfl

theorem idx_296x1 : idx_main_v24 (ix2 (n0 := 296) (n1 := 1) n 0) = ix1 n := funext fun a => by match a with | ⟨0, _⟩ => rfl

include hlt in
theorem number_v24 : val_main_v24 (F := Ideal) x1 (ix2 (n0 := 296) (n1 := 1) n 0) = x1 (ix1 n) := by
  rw [val_main_v24_apply, idx_296x1, val_main_v23_apply, val_main_v20_apply, val_main_v22_apply, val_main_v19_apply, val_main_v21_apply, val_main_c_2_apply, val_main_c_3_apply]
  exact not_wrapped _ hlt
include hlt in
theorem number_v35 : val_main_v35 (F := Ideal) x1 (ix2 (n0 := 296) (n1 := 1) n 0) = x1 (ix1 n) := number_v24 x1 n hlt
include hlt in
theorem number_v64 : val_main_v64 (F := Ideal) x1 (ix2 (n0 := 296) (n1 := 1) n 0) = x1 (ix1 n) := number_v24 x1 n hlt
include hlt in
theorem number_v75 : val_main_v75 (F := Ideal) x1 (ix2 (n0 := 296) (n1 := 1) n 0) = x1 (ix1 n) := number_v24 x1 n hlt

theorem up_apply (k : Fin 1024) (q : Fin 2048) :
    val_main_v26 (F := Ideal) x1 x4 (ix3 (n0 := 296) (n1 := 1024) (n2 := 2048) n k q) = upW x4 (expertOf x1 n hlt) k q := by
  rw [val_main_v26_apply]
  unfold val_main_v25
  rw [slab_up]
  refine (slab_apply _ (val_main_v18 (F := Ideal) x4) _ n k q _ (number_v24 x1 n hlt) hlt).trans ?_
  rw [val_main_v18_apply, val_main_v17_apply]
  refine congrArg x4 (funext fun a => Fin.ext ?_)
  have hk := k.isLt; have hq := q.isLt
  match a with
  | ⟨0, _⟩ => rfl
  | ⟨1, _⟩ => show (((x1 (ix1 n)).toNat * 1024 + k.val) * 2048 + q.val) / 2097152 % 32 = (x1 (ix1 n)).toNat; omega
  | ⟨2, _⟩ => show (((x1 (ix1 n)).toNat * 1024 + k.val) * 2048 + q.val) / 2048 % 1024 = k.val; omega
  | ⟨3, _⟩ => show (((x1 (ix1 n)).toNat * 1024 + k.val) * 2048 + q.val) % 2048 = q.val; omega

theorem upB_apply (r : Fin 512) (q : Fin 2048) :
    val_main_v37 (F := Ideal) x1 x5 (ix3 (n0 := 296) (n1 := 512) (n2 := 2048) n r q) = upB x5 (expertOf x1 n hlt) q := by
  rw [val_main_v37_apply]
  unfold val_main_v36
  rw [slab_upB]
  refine Eq.trans (congrArg _ (?_ : _ = ix3 (n0 := 296) (n1 := 1) (n2 := 2048) n 0 q)) ?_
  · funext a
    match a with
    | ⟨0, _⟩ => rfl
    | ⟨1, _⟩ => rfl
    | ⟨2, _⟩ => rfl
  refine (slab_apply _ (val_main_v29 (F := Ideal) x5) _ n 0 q _ (number_v35 x1 n hlt) hlt).trans ?_
  rw [val_main_v29_apply, val_main_v28_apply]
  refine congrArg x5 (funext fun a => Fin.ext ?_)
  have hq := q.isLt
  match a with
  | ⟨0, _⟩ => rfl
  | ⟨1, _⟩ => show (((x1 (ix1 n)).toNat * 1 + 0) * 2048 + q.val) / 2048 % 32 = (x1 (ix1 n)).toNat; omega
  | ⟨2, _⟩ => rfl
  | ⟨3, _⟩ => show (((x1 (ix1 n)).toNat * 1 + 0) * 2048 + q.val) % 2048 = q.val; omega

theorem down_apply (k : Fin 1024) (q : Fin 1024) :
    val_main_v66 (F := Ideal) x1 x6 (ix3 (n0 := 296) (n1 := 1024) (n2 := 1024) n k q) = downW x6 (expertOf x1 n hlt) k q := by
  rw [val_main_v66_apply]
  unfold val_main_v65
  rw [slab_down]
  refine (slab_apply _ (val_main_v58 (F := Ideal) x6) _ n k q _ (number_v64 x1 n hlt) hlt).trans ?_
  rw [val_main_v58_apply, val_main_v57_apply]
  refine congrArg x6 (funext fun a => Fin.ext ?_)
  have hk := k.isLt; have hq := q.isLt
  match a with
  | ⟨0, _⟩ => rfl
  | ⟨1, _⟩ => show (((x1 (ix1 n)).toNat * 1024 + k.val) * 1024 + q.val) / 1048576 % 32 = (x1 (ix1 n)).toNat; omega
  | ⟨2, _⟩ => show (((x1 (ix1 n)).toNat * 1024 + k.val) * 1024 + q.val) / 1024 % 1024 = k.val; omega
  | ⟨3, _⟩ => show (((x1 (ix1 n)).toNat * 1024 + k.val) * 1024 + q.val) % 1024 = q.val; omega

theorem downB_apply (r : Fin 512) (q : Fin 1024) :
    val_main_v77 (F := Ideal) x1 x7 (ix3 (n0 := 296) (n1 := 512) (n2 := 1024) n r q) = downB x7 (expertOf x1 n hlt) q := by
  rw [val_main_v77_apply]
  unfold val_main_v76
  rw [slab_downB]
  refine Eq.trans (congrArg _ (?_ : _ = ix3 (n0 := 296) (n1 := 1) (n2 := 1024) n 0 q)) ?_
  · funext a
    match a with
    | ⟨0, _⟩ => rfl
    | ⟨1, _⟩ => rfl
    | ⟨2, _⟩ => rfl
  refine (slab_apply _ (val_main_v69 (F := Ideal) x7) _ n 0 q _ (number_v75 x1 n hlt) hlt).trans ?_
  rw [val_main_v69_apply, val_main_v68_apply]
  refine congrArg x7 (funext fun a => Fin.ext ?_)
  have hq := q.isLt
  match a with
  | ⟨0, _⟩ => rfl
  | ⟨1, _⟩ => show (((x1 (ix1 n)).toNat * 1 + 0) * 1024 + q.val) / 1024 % 32 = (x1 (ix1 n)).toNat; omega
  | ⟨2, _⟩ => rfl
  | ⟨3, _⟩ => show (((x1 (ix1 n)).toNat * 1 + 0) * 1024 + q.val) % 1024 = q.val; omega

theorem first_apply (r : Fin 512) (q : Fin 2048) :
    val_main_v38 (F := Ideal) x0 x1 x2 x4 x5 (ix3 (n0 := 296) (n1 := 512) (n2 := 2048) n r q)
      = upAt (wordsAt x0 n) (x2 (ix1 n)) (upW x4 (expertOf x1 n hlt)) (upB x5 (expertOf x1 n hlt)) r q := by
  rw [val_main_v38_apply, val_main_v27_apply, upB_apply x1 x5 n hlt]
  unfold upAt
  refine congrArg (fun a : EReal => a + upB x5 (expertOf x1 n hlt) q) (Finset.sum_congr rfl fun k _ => ?_)
  refine congrArg₂ (fun a b : EReal => a * b) ((congrArg _ (funext fun a => ?_)).trans (act_apply x0 x2 n r k)) ((congrArg _ (funext fun a => ?_)).trans (up_apply x1 x4 n hlt k q))
  · match a with | ⟨0, _⟩ => rfl | ⟨1, _⟩ => rfl | ⟨2, _⟩ => rfl
  · match a with | ⟨0, _⟩ => rfl | ⟨1, _⟩ => rfl | ⟨2, _⟩ => rfl

/-- The activation. -/
theorem gated_apply (r : Fin 512) (k : Fin 1024) :
    val_main_v56 (F := Ideal) x0 x1 x2 x4 x5 (ix3 (n0 := 296) (n1 := 512) (n2 := 1024) n r k)
      = gated (upAt (wordsAt x0 n) (x2 (ix1 n)) (upW x4 (expertOf x1 n hlt)) (upB x5 (expertOf x1 n hlt)) r ⟨k.val, by omega⟩)
          (upAt (wordsAt x0 n) (x2 (ix1 n)) (upW x4 (expertOf x1 n hlt)) (upB x5 (expertOf x1 n hlt)) r ⟨1024 + k.val, by omega⟩) := by
  have h39 : val_main_v39 (F := Ideal) x0 x1 x2 x4 x5 (ix3 (n0 := 296) (n1 := 512) (n2 := 1024) n r k)
      = upAt (wordsAt x0 n) (x2 (ix1 n)) (upW x4 (expertOf x1 n hlt)) (upB x5 (expertOf x1 n hlt)) r ⟨k.val, by omega⟩ := by
    rw [val_main_v39_apply, ← first_apply x0 x1 x2 x4 x5 n hlt r ⟨k.val, by omega⟩]
    exact congrArg _ (funext fun a => by match a with | ⟨0, _⟩ => rfl | ⟨1, _⟩ => rfl | ⟨2, _⟩ => rfl)
  have h42 : val_main_v42 (F := Ideal) x0 x1 x2 x4 x5 (ix3 (n0 := 296) (n1 := 512) (n2 := 1024) n r k)
      = upAt (wordsAt x0 n) (x2 (ix1 n)) (upW x4 (expertOf x1 n hlt)) (upB x5 (expertOf x1 n hlt)) r ⟨1024 + k.val, by omega⟩ := by
    rw [val_main_v42_apply, ← first_apply x0 x1 x2 x4 x5 n hlt r ⟨1024 + k.val, by omega⟩]
    exact congrArg _ (funext fun a => by match a with | ⟨0, _⟩ => rfl | ⟨1, _⟩ => rfl | ⟨2, _⟩ => rfl)
  have h41 : val_main_v41 (F := Ideal) x0 x1 x2 x4 x5 (ix3 (n0 := 296) (n1 := 512) (n2 := 1024) n r k)
      = min (upAt (wordsAt x0 n) (x2 (ix1 n)) (upW x4 (expertOf x1 n hlt)) (upB x5 (expertOf x1 n hlt)) r ⟨k.val, by omega⟩) (Ideal.ofBits .f32 0x40E00000#32) := by
    rw [val_main_v41_apply, h39, val_main_v40_apply, val_main_cst_apply]
    rfl
  have h51 : val_main_v51 (F := Ideal) x0 x1 x2 x4 x5 (ix3 (n0 := 296) (n1 := 512) (n2 := 1024) n r k)
      = Ideal.logistic (Ideal.ofBits .f32 0x3FD9DB23#32 * val_main_v41 (F := Ideal) x0 x1 x2 x4 x5 (ix3 (n0 := 296) (n1 := 512) (n2 := 1024) n r k)) := by
    rw [val_main_v51_apply, val_main_v50_apply, val_main_cst_10_apply, val_main_v49_apply, val_main_v48_apply, val_main_cst_9_apply, val_main_v47_apply,
      val_main_v46_apply, val_main_v45_apply, val_main_v44_apply, val_main_cst_8_apply]
    show Ideal.div (Ideal.ofBits .f32 0x3F800000#32) (Ideal.ofBits .f32 0x3F800000#32 + Ideal.exp (-(Ideal.ofBits .f32 0x3FD9DB23#32 * _))) = _
    rw [Ideal.ofBits_one_f32]
    rfl
  have h43 : val_main_v43 (F := Ideal) x0 x1 x2 x4 x5 (ix3 (n0 := 296) (n1 := 512) (n2 := 1024) n r k)
      = min (Ideal.ofBits .f32 0x40E00000#32) (max (Ideal.ofBits .f32 0xC0E00000#32) (val_main_v42 (F := Ideal) x0 x1 x2 x4 x5 (ix3 (n0 := 296) (n1 := 512) (n2 := 1024) n r k))) := by
    rw [val_main_v43_apply, val_main_call1_v4_apply, val_main_call1_v2_apply, val_main_call1_v1_apply]
    rfl
  rw [val_main_v56_apply, val_main_v55_apply, val_main_v52_apply, val_main_v54_apply, h51, h43, h42, h41, val_main_v53_apply, val_main_cst_11_apply]
  rfl

/-- **The reference's element**: lane `l` of plane `p` of row `r` of block `n`. -/
theorem result_apply (p : Fin 8) (r : Fin 512) (l : Fin 128) :
    val_main_v81 (F := Ideal) x0 x1 x2 x4 x5 x6 x7 (ix3 (n0 := 8) (n1 := 151552) (n2 := 128) p ⟨n.val * 512 + r.val, by omega⟩ l)
      = blockAtSpec (wordsAt x0 n) (x2 (ix1 n)) (upW x4 (expertOf x1 n hlt)) (upB x5 (expertOf x1 n hlt)) (downW x6 (expertOf x1 n hlt))
          (downB x7 (expertOf x1 n hlt)) r ⟨128 * p.val + l.val, by omega⟩ := by
  rw [val_main_v81_apply, val_main_v80_apply]
  refine (congrArg (val_main_v79 (F := Ideal) x0 x1 x2 x4 x5 x6 x7) (?_ : _ = ix3 (n0 := 296) (n1 := 512) (n2 := 1024) n r ⟨128 * p.val + l.val, by omega⟩)).trans ?_
  · funext a
    refine Fin.ext ?_
    have hn := n.isLt; have hr := r.isLt; have hp := p.isLt; have hl := l.isLt
    match a with
    | ⟨0, _⟩ => show (((n.val * 512 + r.val) * 8 + p.val) * 128 + l.val) / 524288 = n.val; omega
    | ⟨1, _⟩ => show (((n.val * 512 + r.val) * 8 + p.val) * 128 + l.val) / 1024 % 512 = r.val; omega
    | ⟨2, _⟩ => show (((n.val * 512 + r.val) * 8 + p.val) * 128 + l.val) % 1024 = 128 * p.val + l.val; omega
  rw [val_main_v79_apply, val_main_v78_apply, val_main_v67_apply, downB_apply x1 x7 n hlt]
  unfold blockAtSpec
  refine congrArg (fun a : EReal => a + downB x7 (expertOf x1 n hlt) ⟨128 * p.val + l.val, by omega⟩) (Finset.sum_congr rfl fun k _ => ?_)
  refine congrArg₂ (fun a b : EReal => a * b) ((congrArg _ (funext fun a => ?_)).trans (gated_apply x0 x1 x2 x4 x5 n hlt r k))
    ((congrArg _ (funext fun a => ?_)).trans (down_apply x1 x6 n hlt k _))
  · match a with | ⟨0, _⟩ => rfl | ⟨1, _⟩ => rfl | ⟨2, _⟩ => rfl
  · match a with | ⟨0, _⟩ => rfl | ⟨1, _⟩ => rfl | ⟨2, _⟩ => rfl

end Read

end Cert.Proof.FfnRef

end
-- ==== Proof.ExpOut.lean ====
/-
  The experts' result: the array the run leaves is, on the used blocks, each block's tile; the precondition and the mask read;
  and the agreement with the reference's array there.
-/
module

public import proofs.«01_k».proof.Proof.ExpFrame
public import proofs.«01_k».proof.Proof.ExpRef
public import proofs.«01_k».proof.Pre_tables_in_range
public import proofs.«01_k».proof.Proof.Gen.Pre_tables_in_range
public import proofs.«01_k».proof.On_rows_used
public import proofs.«01_k».proof.Proof.Gen.On_rows_used
public import Idealize.ShloMosaic.Lib.ReduceAll
public import Idealize.ShloMosaic.Lib.Pipeline.Value

@[expose] public section

set_option maxRecDepth 16384

noncomputable section

namespace Cert.Proof.Ffn

open Cert.Kernel2Ideal Cert.Kernel2Ideal.Gen
open Idealize.ShloMosaic Idealize.ShloMosaic.TcCoe Idealize.ShloMosaic.Tactic
open Idealize.ShloMosaic.ValueIdx
open Idealize.ShloMosaic.Pipeline (Dat)

/-! ## The array the run leaves -/

section Out
variable {F : FTy → Type} [FloatOps F]
variable (m : (ℓ : Loc nD τ sig) → Buf (Elt F) ℓ) (hr : InRange (words m)) (c : Dev nD)

/-- Every block's tile, as planes: row `j` of plane `p` is row `j % 512` of block `j / 512`'s tile, lanes `128 p` on. -/
def allBlocks : S8x151552x128.Idx → F .bf16 := fun j =>
  outBlock (tileOf m c ⟨(j 1).val / 512 % 296, Nat.mod_lt _ (by decide)⟩)
    (ix3 (n0 := 8) (n1 := 512) (n2 := 128) ⟨(j 0).val, (j 0).isLt⟩ ⟨(j 1).val % 512, Nat.mod_lt _ (by decide)⟩ ⟨(j 2).val, (j 2).isLt⟩)

/-- Where an element of the output's block sits in the array. -/
theorem out_emb (t : Fin (Pp m hr).N) (y : S8x512x128.Idx) :
    (((Pp m hr).win 5).blk t).view.emb y = ix3 (n0 := 8) (n1 := 151552) (n2 := 128) ⟨(y 0).val, (y 0).isLt⟩
      ⟨blkNo (words m) t.val * 512 + (y 1).val, by have := blkNo_lt (words m) hr t.val; have h1 : (y 1).val < 512 := (y 1).isLt; omega⟩
      ⟨(y 2).val, (y 2).isLt⟩ := by
  have hm := out_map (words m) hr (grid0.coords t)
  rw [show (grid0.coords t 0).val = t.val from ptNo_val m (ok_of_inRange _ hr) t] at hm
  refine idx3_ext (n0 := 8) (n1 := 151552) (n2 := 128) _ _ ?_ ?_ ?_
  · show cc0_transform_5 inb_S1_S1_0 numel1_S1 (words m) (grid0.coords t) 0 * 8 + 1 * (y 0).val = (y 0).val
    rw [hm]; show 0 * 8 + _ = _; omega
  · show cc0_transform_5 inb_S1_S1_0 numel1_S1 (words m) (grid0.coords t) 1 * 512 + 1 * (y 1).val = blkNo (words m) t.val * 512 + (y 1).val
    rw [hm]; show blkNo (words m) t.val * 512 + 1 * (y 1).val = _; omega
  · show cc0_transform_5 inb_S1_S1_0 numel1_S1 (words m) (grid0.coords t) 2 * 128 + 1 * (y 2).val = (y 2).val
    rw [hm]; show 0 * 128 + _ = _; omega

/-- A point writes back its block of those tiles. -/
theorem out_flushed (t : Fin (Pp m hr).N) : (data m hr 0 c).flushed 5 t = (((Pp m hr).win 5).blk t).view.read (Elt F) (allBlocks m c) := by
  refine funext fun (y : S8x512x128.Idx) => ?_
  have h1 : (y 1).val < 512 := (y 1).isLt
  have hb := blkNo_lt (words m) hr t.val
  refine Eq.trans ?_ (congrArg (allBlocks m c) (out_emb m hr t y)).symm
  show (data m hr 0 c).after 5 t (((Pp m hr).win 5).xinj _ y) = _
  rw [after_out]
  have e1 : (blkNo (words m) t.val * 512 + (y 1).val) / 512 % 296 = blkNo (words m) t.val % 296 := by omega
  have e2 : (blkNo (words m) t.val * 512 + (y 1).val) % 512 = (y 1).val := by omega
  have hn : lastNo m t.val = ⟨(blkNo (words m) t.val * 512 + (y 1).val) / 512 % 296, Nat.mod_lt _ (by decide)⟩ := Fin.ext e1.symm
  rw [hn]
  exact congrArg _ (idx3_ext (n0 := 8) (n1 := 512) (n2 := 128) _ _ rfl e2.symm rfl)

/-- **The array on a used block**: the block's tile. -/
theorem out_used (p : Fin 8) (n : Fin 296) (r : Fin 512) (l : Fin 128) (hn : n.val < (cntOf (words m)).toNat) :
    ((data m hr 0 c).arrAt 5 (Pp m hr).N : S8x151552x128.Idx → F .bf16)
        (ix3 (n0 := 8) (n1 := 151552) (n2 := 128) p ⟨n.val * 512 + r.val, by omega⟩ l)
      = tileOf m c n (ix2 (n0 := 512) (n1 := 1024) r ⟨128 * p.val + l.val, by omega⟩) := by
  have hc := hr.2
  obtain ⟨t, hf, ht⟩ : ∃ t : Fin (Pp m hr).N, ((Pp m hr).win 5).flush t = true ∧ blkNo (words m) t.val = n.val := by
    by_cases hl : n.val + 1 < (cntOf (words m)).toNat
    · exact ⟨⟨n.val, n.isLt⟩, (out_flush m hr _).mpr (Or.inl hl), by unfold blkNo; show min n.val _ = _; omega⟩
    · exact ⟨⟨295, by show 295 < 296; omega⟩, (out_flush m hr _).mpr (Or.inr rfl), by unfold blkNo; show min 295 _ = _; omega⟩
  have he : (((Pp m hr).win 5).blk t).view.emb (ix3 (n0 := 8) (n1 := 512) (n2 := 128) p r l)
      = ix3 (n0 := 8) (n1 := 151552) (n2 := 128) p ⟨n.val * 512 + r.val, by omega⟩ l := by
    rw [out_emb]
    exact idx3_ext (n0 := 8) (n1 := 151552) (n2 := 128) _ _ rfl (by show blkNo (words m) t.val * 512 + r.val = _; rw [ht]) rfl
  refine ((congrArg ((data m hr 0 c).arrAt 5 (Pp m hr).N : S8x151552x128.Idx → F .bf16) he.symm).trans
    ((data m hr 0 c).arrAt_apply_of_mem 5 (allBlocks m c) (fun t _ => out_flushed m hr c t) (Pp m hr).N t _ t.isLt hf
      ((((Pp m hr).win 5).blk t).view.emb_mem_set _))).trans ?_
  refine (congrArg (allBlocks m c) he).trans ?_
  have e1 : (n.val * 512 + r.val) / 512 % 296 = n.val := by omega
  have e2 : (n.val * 512 + r.val) % 512 = r.val := by omega
  show tileOf m c ⟨(n.val * 512 + r.val) / 512 % 296, _⟩ (ix2 ⟨(n.val * 512 + r.val) % 512, _⟩ _) = _
  have hN : (⟨(n.val * 512 + r.val) / 512 % 296, Nat.mod_lt _ (by decide)⟩ : Fin 296) = n := Fin.ext e1
  have hR : (⟨(n.val * 512 + r.val) % 512, Nat.mod_lt _ (by decide)⟩ : Fin 512) = r := Fin.ext e2
  rw [hN, hR]

/-! ## The precondition -/

private theorem andi_ofBool (p q : Bool) : IntOp.andi (BitVec.ofBool p) (BitVec.ofBool q) = BitVec.ofBool (p && q) := by
  cases p <;> cases q <;> decide
private theorem ofBool_eq_one (p : Bool) : (BitVec.ofBool p = 1#1) ↔ p = true := by cases p <;> decide
private theorem andi_eq_one (p q : BitVec 1) (h : IntOp.andi p q = 1#1) : p = 1#1 ∧ q = 1#1 := by
  revert p q; decide

/-- The tables named by the precondition are in range. -/
theorem inRange_of_pre (x0 x1 x2 x3 x4 x5 x6 x7)
    (h : Cert.Pre_tables_in_range.fn (F := F) x0 x1 x2 x3 x4 x5 x6 x7 = fun _ => 1#1) :
    (∀ n : Fin 296, (x1 (ix1 n)).toNat < 32) ∧ 1 ≤ (x3 (ix1 (n := 1) 0)).toNat ∧ (x3 (ix1 (n := 1) 0)).toNat ≤ 296 := by
  have key : ∀ v : BitVec 32, IntOp.andi (IntOp.cmpi .sge v 0#32) (IntOp.cmpi .slt v 32#32) = 1#1 → v.toNat < 32 := by
    intro v e
    simp only [IntOp.cmpi, andi_ofBool, ofBool_eq_one, Bool.and_eq_true, BitVec.sle_eq_decide, BitVec.slt_eq_decide,
      decide_eq_true_eq, BitVec.toInt_eq_toNat_cond, BitVec.toNat_ofNat, Nat.reducePow, Nat.reduceMod] at e
    omega
  have keyLo : ∀ v : BitVec 32, IntOp.cmpi .sge v 1#32 = 1#1 → IntOp.cmpi .sle v 296#32 = 1#1 → 1 ≤ v.toNat ∧ v.toNat ≤ 296 := by
    intro v e e'
    simp only [IntOp.cmpi, ofBool_eq_one, BitVec.sle_eq_decide, BitVec.slt_eq_decide,
      decide_eq_true_eq, BitVec.toInt_eq_toNat_cond, BitVec.toNat_ofNat, Nat.reducePow, Nat.reduceMod] at e e'
    omega
  have e := congrFun h (fun a => a.elim0)
  simp only [Cert.Pre_tables_in_range.fn] at e
  haveI : Subsingleton Cert.Pre_tables_in_range.S_.Idx := ⟨fun a b => funext fun i => i.elim0⟩
  obtain ⟨e, eHi⟩ := andi_eq_one _ _ e
  obtain ⟨e, eLo⟩ := andi_eq_one _ _ e
  have hc : (shapeCast Cert.Pre_tables_in_range.S_ x3 Cert.Pre_tables_in_range.Facts.shapeCasts_S1_S_ : IVec Cert.Pre_tables_in_range.S_ 32) (fun a => a.elim0)
      = x3 (ix1 (n := 1) 0) := congrArg x3 (funext fun a => by match a with | ⟨0, _⟩ => exact Subsingleton.elim (α := Fin 1) _ _)
  refine ⟨fun n => ?_, ?_⟩
  · have e := Host.reduce_andi_all _ _ _ _ _ e (ix1 n)
    simp only [andi, cmpi, broadcastInDim, constantI] at e
    exact key _ e
  · simp only [cmpi, constantI] at eLo eHi
    rw [hc] at eLo eHi
    exact keyLo _ eLo eHi

/-- The mask holds on the used blocks only. -/
theorem used_of_mask (x0 x1 x2 x3 x4 x5 x6 x7) (p : Fin 8) (n : Fin 296) (r : Fin 512) (l : Fin 128)
    (hc : 1 ≤ (x3 (ix1 (n := 1) 0)).toNat ∧ (x3 (ix1 (n := 1) 0)).toNat ≤ 296)
    (h : Cert.On_rows_used.fn (F := F) x0 x1 x2 x3 x4 x5 x6 x7 (ix3 (n0 := 8) (n1 := 151552) (n2 := 128) p ⟨n.val * 512 + r.val, by omega⟩ l) = 1#1) :
    n.val < (x3 (ix1 (n := 1) 0)).toNat := by
  simp only [Cert.On_rows_used.fn] at h
  rw [shapeCast_apply _ _ _ (ix4 (n0 := 8) (n1 := 296) (n2 := 512) (n3 := 128) p n r l) (by
    rw [Shape.rowMajor_val_three, Shape.rowMajor_val_four]
    show ((p.val * 296 + n.val) * 512 + r.val) * 128 + l.val = (p.val * 151552 + (n.val * 512 + r.val)) * 128 + l.val
    omega)] at h
  have hx : (shapeCast Cert.On_rows_used.S_ x3 Cert.On_rows_used.Facts.shapeCasts_S1_S_ : IVec Cert.On_rows_used.S_ 32) = fun _ => x3 (ix1 (n := 1) 0) :=
    funext fun _ => congrArg x3 (funext fun a => by match a with | ⟨0, _⟩ => exact Subsingleton.elim (α := Fin 1) _ _)
  rw [hx] at h
  have h : IntOp.cmpi .slt (BitVec.ofNat 32 n.val) (x3 (ix1 (n := 1) 0)) = 1#1 := h
  have hn := n.isLt
  simp only [IntOp.cmpi, ofBool_eq_one, BitVec.slt_eq_decide, decide_eq_true_eq, BitVec.toInt_eq_toNat_cond, BitVec.toNat_ofNat,
    Nat.reducePow] at h
  rw [Nat.mod_eq_of_lt (by omega)] at h
  omega

end Out

/-! ## The agreement -/

/-- A row of a block is a row of the array. -/
theorem row_lt (n : Fin 296) (r : Fin 512) : n.val * 512 + r.val < 151552 := by omega

section Agree
variable (m : (ℓ : Loc nD τ sig) → Buf (Elt Ideal) ℓ) (hr : InRange (words m)) (c : Dev nD)

/-- A block's tile is the block's mathematics at the arguments. -/
theorem tileOf_apply (n : Fin 296) (hn : (expOf (words m) n).toNat < 32) (r : Fin 512) (q : Fin 1024) :
    (tileOf m c n : FVec Ideal S512x1024 .bf16) (ix2 r q)
      = blockAtSpec (FfnRef.wordsAt (m ((c.tc : Thread nD τ).loc main_arg0)) n) (rowOf (words m) n)
          (FfnRef.upW (m ((c.tc : Thread nD τ).loc main_arg4)) (expNo (words m) n)) (FfnRef.upB (m ((c.tc : Thread nD τ).loc main_arg5)) (expNo (words m) n))
          (FfnRef.downW (m ((c.tc : Thread nD τ).loc main_arg6)) (expNo (words m) n)) (FfnRef.downB (m ((c.tc : Thread nD τ).loc main_arg7)) (expNo (words m) n)) r q := by
  unfold tileOf
  rw [tile_apply]
  have e0 : wordsOf (rowsBlk m c n.val) = FfnRef.wordsAt (m ((c.tc : Thread nD τ).loc main_arg0)) n := by
    refine funext fun r => funext fun k => ?_
    refine congrArg (atEntry m c main_arg0 : S4x151552x128.Idx → BitVec 32) (idx3_ext (n0 := 4) (n1 := 151552) (n2 := 128) _ _ rfl ?_ rfl)
    show (n.val * 512 + r.val) % 151552 = n.val * 512 + r.val
    omega
  rw [e0]
  rfl

/-- **Where the mask holds, the experts' call leaves the reference's array.** -/
theorem out_eq_reference (i : S8x151552x128.Idx)
    (hin : ∀ n : Fin 296, ((m ((c.tc : Thread nD τ).loc main_arg1) : S296.Idx → BitVec 32) (ix1 n)).toNat < 32)
    (hc : 1 ≤ ((m ((c.tc : Thread nD τ).loc main_arg3) : S1.Idx → BitVec 32) (ix1 (n := 1) 0)).toNat
      ∧ ((m ((c.tc : Thread nD τ).loc main_arg3) : S1.Idx → BitVec 32) (ix1 (n := 1) 0)).toNat ≤ 296)
    (h : Cert.On_rows_used.fn (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7)) i = 1#1) :
    ((data m hr 0 c).arrAt 5 (Pp m hr).N : S8x151552x128.Idx → EReal) i
      = Cert.Reference2Ideal.Read.val_main_v81 (F := Ideal) (m ((c.tc : Thread nD τ).loc main_arg0)) (m ((c.tc : Thread nD τ).loc main_arg1))
          (m ((c.tc : Thread nD τ).loc main_arg2)) (m ((c.tc : Thread nD τ).loc main_arg4))
          (m ((c.tc : Thread nD τ).loc main_arg5)) (m ((c.tc : Thread nD τ).loc main_arg6)) (m ((c.tc : Thread nD τ).loc main_arg7)) i := by
  obtain rfl : c = 0 := Subsingleton.elim _ _
  have hi : (i 1).val < 151552 := (i 1).isLt
  obtain ⟨p, n, r, l, rfl⟩ : ∃ (p : Fin 8) (n : Fin 296) (r : Fin 512) (l : Fin 128),
      i = ix3 (n0 := 8) (n1 := 151552) (n2 := 128) p ⟨n.val * 512 + r.val, row_lt n r⟩ l :=
    ⟨⟨(i 0).val, (i 0).isLt⟩, ⟨(i 1).val / 512, by omega⟩, ⟨(i 1).val % 512, Nat.mod_lt _ (by decide)⟩, ⟨(i 2).val, (i 2).isLt⟩,
      idx3_ext (n0 := 8) (n1 := 151552) (n2 := 128) _ _ rfl (by show (i 1).val = (i 1).val / 512 * 512 + (i 1).val % 512; omega) rfl⟩
  have hn := used_of_mask _ _ _ _ _ _ _ _ p n r l hc h
  have hlt : (expOf (words m) n).toNat < 32 := hin n
  refine (out_used m hr 0 p n r l hn).trans ((tileOf_apply m 0 n hlt r _).trans ?_)
  refine Eq.trans ?_ (FfnRef.result_apply _ _ _ _ _ _ _ n (hin n) p r l).symm
  have he : expNo (words m) n = FfnRef.expertOf (m (((0 : Dev nD).tc : Thread nD τ).loc main_arg1)) n (hin n) := Fin.ext (Nat.mod_eq_of_lt hlt)
  rw [he]
  rfl

end Agree

end Cert.Proof.Ffn

end
-- ==== Proof.ExpSame.lean ====
/-
  The experts' program and its idealization are one: no operation of it was rewritten.
-/
module

public import proofs.«01_k».proof.Proof.Gen.Kernel2
public import proofs.«01_k».proof.Proof.Gen.Kernel2Ideal
public import Idealize.ShloMosaic.Adequacy

@[expose] public section

set_option maxRecDepth 16384

noncomputable section

namespace Cert.Proof.Ffn

open Idealize.ShloMosaic Idealize.SL.Sem

variable {F : FTy → Type} [FloatOps F]

theorem body_same : Cert.Kernel2.cc0_moe_experts (F := F) = Cert.Kernel2Ideal.cc0_moe_experts (F := F) := rfl
theorem table_same : Cert.Kernel2.defs₀ (F := F) = Cert.Kernel2Ideal.defs₀ (F := F) := by
  unfold Cert.Kernel2.defs₀ Cert.Kernel2Ideal.defs₀
  refine congrArg Defs.onTc (funext fun l => funext fun x => ?_)
  match l, x with
  | 0, (t, s) => rfl
/-- The pipelines are one. -/
theorem pipe_same : Cert.Kernel2.pcfg0 (F := F) = Cert.Kernel2Ideal.pcfg0 (F := F) := rfl

section Once
open Cert.Kernel2Ideal Idealize.SL.Sem

/-- A program of one call, of a pipeline `p`. -/
def callOnce (p : Pipeline.PCfg sig Λ₀ (Elt F)) : Dev nD → Prog (TpuEff nD τ sig (Elt F) (Pipeline.Sig Λ₀ (Fin 1) fun _ => p.Adm) .tc) PUnit := fun _ => do
  Prog.lift (.customCall (Pipeline.entry 0) ())
  pure ⟨⟩

/-- What its executions end in, with the bodies `D`. -/
def OnceRuns (p : Pipeline.PCfg sig Λ₀ (Elt F)) (D : Defs nD τ sig (Elt F) Λ₀) (s : MemSt nD τ sig (Elt F))
    (Q : PUnit × MemSt nD τ sig (Elt F) → Prop) : Prop := θ_run (Pipeline.defs (fun _ => p) D) (onTc (τ := τ) (callOnce p)) s Q

theorem OnceRuns.congr {p p' : Pipeline.PCfg sig Λ₀ (Elt F)} {D D' : Defs nD τ sig (Elt F) Λ₀} (hp : p = p') (hD : D = D') {s Q}
    (h : OnceRuns p D s Q) : OnceRuns p' D' s Q := by
  subst hp hD; exact h

theorem once_ideal {s Q} (h : θ_run (Cert.Kernel2Ideal.defs (F := F)) (onTc (τ := Cert.Kernel2Ideal.τ) (Cert.Kernel2Ideal.main (F := F))) s Q) :
    OnceRuns (Cert.Kernel2Ideal.pcfg0 (F := F)) (Cert.Kernel2Ideal.defs₀ (F := F)) s Q := h

end Once

theorem kernel_once {s : MemSt Cert.Kernel2.nD Cert.Kernel2.τ Cert.Kernel2.sig (Elt F)} {Q}
    (h : OnceRuns (Cert.Kernel2.pcfg0 (F := F)) (Cert.Kernel2.defs₀ (F := F)) s Q) :
    θ_run (Cert.Kernel2.defs (F := F)) (onTc (τ := Cert.Kernel2.τ) (Cert.Kernel2.main (F := F))) s Q := h

/-- An execution of the idealized program is one of the program. -/
theorem kernel_of_ideal {s : MemSt Cert.Kernel2.nD Cert.Kernel2.τ Cert.Kernel2.sig (Elt F)} {Q}
    (h : θ_run (Cert.Kernel2Ideal.defs (F := F)) (onTc (τ := Cert.Kernel2Ideal.τ) (Cert.Kernel2Ideal.main (F := F))) s Q) :
    θ_run (Cert.Kernel2.defs (F := F)) (onTc (τ := Cert.Kernel2.τ) (Cert.Kernel2.main (F := F))) s Q :=
  kernel_once ((once_ideal h).congr pipe_same.symm table_same.symm)

end Cert.Proof.Ffn

end
-- ==== Proof.lean ====
/-
  The proof of `Cert.Claim`: each call's frames from its one run over any float values; the row gather's value from the rows
  picked (Proof/Value.lean), the experts' from each block's mathematics (Proof/ExpOut.lean), the two
  projections' from the product of the rows by the weights side by side (Proof/MemProj.lean, Proof/InProj.lean), the sliding
  window's keys from the turn of a row (Proof/Turn.lean, Proof/KeyPrompt.lean, Proof/KeySample.lean), the delta rule's two tails
  from the last rows of each stream (Proof/TailVal8.lean, Proof/TailVal9.lean).
-/
module

public import proofs.«01_k».proof.Proof.InProj
public import proofs.«01_k».proof.Proof.KeyPrompt
public import proofs.«01_k».proof.Proof.KeySample
public import proofs.«01_k».proof.Proof.MixEnd
public import proofs.«01_k».proof.Proof.MemProj
public import proofs.«01_k».proof.Proof.TailSame8
public import proofs.«01_k».proof.Proof.TailSame9
public import proofs.«01_k».proof.Proof.TailVal8
public import proofs.«01_k».proof.Proof.TailVal9
public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.Reference
public import proofs.«01_k».proof.Proof.Gen.Reference.Run
public import proofs.«01_k».proof.Proof.Gen.Reference.Read
public import proofs.«01_k».proof.Proof.Gen.ReferenceIdeal
public import proofs.«01_k».proof.Proof.Gen.Pre_dest_in_rows
public import proofs.«01_k».proof.Proof.Value
public import proofs.«01_k».proof.Proof.ExpOut
public import proofs.«01_k».proof.Proof.ExpSame
public import proofs.«01_k».proof.Proof.Gen.Kernel2
public import proofs.«01_k».proof.Proof.Gen.Kernel2Ideal
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Reference8
public import proofs.«01_k».proof.Proof.Gen.Reference8.Run
public import proofs.«01_k».proof.Proof.Gen.Reference8.Read
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Reference9
public import proofs.«01_k».proof.Proof.Gen.Reference9.Run
public import proofs.«01_k».proof.Proof.Gen.Reference9.Read
public import proofs.«01_k».proof.Proof.Gen.Reference9Ideal
public import proofs.«01_k».proof.Proof.Gen.Reference9Ideal.Run
public import proofs.«01_k».proof.Proof.Gen.Reference9Ideal.Read
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The kernel's frame. -/
theorem frame_kernel : Cert.quiescent_Kernel := fun m ρ hpre =>
  (θ_run Cert.KernelIdeal.defs _ _).mono
    (fun _ h => ⟨fun c => ⟨(h.1 c).1.trans (Gath.V3_arg0 m c), (h.1 c).2.1.trans (Gath.V3_arg1 m c)⟩, h.2⟩)
    (Gath.run_main (F := Bits) m ρ (Gath.preOK_of m fun c => Gath.inRows_of_pre (F := Bits) _ _ (hpre c)))

/-- The idealized kernel's frame. -/
theorem frame_kernelIdeal : Cert.quiescent_KernelIdeal := fun m ρ hpre =>
  (θ_run Cert.KernelIdeal.defs _ _).mono
    (fun _ h => ⟨fun c => ⟨(h.1 c).1.trans (Gath.V3_arg0 m c), (h.1 c).2.1.trans (Gath.V3_arg1 m c)⟩, h.2⟩)
    (Gath.run_main (F := Ideal) m ρ (Gath.preOK_of m fun c => Gath.inRows_of_pre (F := Ideal) _ _ (hpre c)))

/-- The reference's frame. -/
theorem frame_referenceIdeal : Cert.quiescent_ReferenceIdeal := fun m ρ _ =>
  (θ_run Cert.ReferenceIdeal.defs _ _).mono (fun r h => ⟨fun c => (h c).2, sem_eq_zero_of_no_sems rfl r.2⟩)
    (Cert.ReferenceIdeal.Value.run (F := Ideal) m ρ)

/-- The kernel's result and the reference's are the rows picked. -/
theorem values : Cert.algebraic_KernelIdeal_ReferenceIdeal := by
  intro m ρ m' ρ' hpre hargs
  have hin : ∀ c, Gath.InRows (Gath.arg1 m c) := fun c => Gath.inRows_of_pre (F := Ideal) _ _ (hpre c)
  refine ⟨fun c => Gath.picked (Gath.arg0 m c) (Gath.arg1 m c), ?_, ?_⟩
  · exact (θ_run Cert.KernelIdeal.defs _ _).mono
      (fun _ h c => ⟨(h.1 c).2.2.trans (Gath.kernel_value m c (hin c)), (h.1 c).1.trans (Gath.V3_arg0 m c), (h.1 c).2.1.trans (Gath.V3_arg1 m c)⟩)
      (Gath.run_main (F := Ideal) m ρ (Gath.preOK_of m hin))
  · refine (θ_run Cert.ReferenceIdeal.defs _ _).mono (fun _ h c => ⟨(h c).1.trans ?_, (h c).2⟩) (Cert.ReferenceIdeal.Value.run (F := Ideal) m' ρ')
    rw [(hargs c).1, (hargs c).2]
    exact Gath.reference_value (Gath.arg0 m c) (Gath.arg1 m c) (hin c)

/-- The reference, read at words, ends with its arguments as they began. -/
theorem frame_reference : Cert.quiescent_Reference := fun m ρ _ =>
  (θ_run Cert.Reference.defs _ _).mono (fun r h => ⟨fun c => (h c).2, sem_eq_zero_of_no_sems rfl r.2⟩)
    (Cert.Reference.Value.run (F := Bits) m ρ)

/-- The kernel's words and the reference's are the rows picked. -/
theorem words : Cert.bitexact_Kernel_Reference := by
  intro m ρ m' ρ' hpre hargs
  have hin : ∀ c, Gath.InRows (Gath.arg1 (F := Bits) m c) := fun c => Gath.inRows_of_pre (F := Bits) _ _ (hpre c)
  refine ⟨fun c => Gath.picked (Gath.arg0 (F := Bits) m c) (Gath.arg1 (F := Bits) m c), ?_, ?_⟩
  · exact (θ_run Cert.KernelIdeal.defs _ _).mono
      (fun _ h c => ⟨(h.1 c).2.2.trans (Gath.kernel_value m c (hin c)), (h.1 c).1.trans (Gath.V3_arg0 m c), (h.1 c).2.1.trans (Gath.V3_arg1 m c)⟩)
      (Gath.run_main (F := Bits) m ρ (Gath.preOK_of m hin))
  · refine (θ_run Cert.Reference.defs _ _).mono (fun _ h c => ⟨(h c).1.trans ?_, (h c).2⟩) (Cert.Reference.Value.run (F := Bits) m' ρ')
    rw [(hargs c).1, (hargs c).2]
    exact Gath.reference_value (Gath.arg0 (F := Bits) m c) (Gath.arg1 (F := Bits) m c) (hin c)

/-- The experts' tables are in range in a state the precondition holds of. -/
theorem tables {F : FTy → Type} [FloatOps F] (m : (ℓ : Loc Cert.Kernel2Ideal.nD Cert.Kernel2Ideal.τ Cert.Kernel2Ideal.sig) → Buf (Elt F) ℓ) {x0 x4 x5 x6 x7}
    (h : Cert.Pre_tables_in_range.fn (F := F) x0 (m ((((0 : Dev Cert.Kernel2Ideal.nD)).tc : Thread Cert.Kernel2Ideal.nD Cert.Kernel2Ideal.τ).loc Cert.Kernel2Ideal.main_arg1))
      (m ((((0 : Dev Cert.Kernel2Ideal.nD)).tc : Thread Cert.Kernel2Ideal.nD Cert.Kernel2Ideal.τ).loc Cert.Kernel2Ideal.main_arg2))
      (m ((((0 : Dev Cert.Kernel2Ideal.nD)).tc : Thread Cert.Kernel2Ideal.nD Cert.Kernel2Ideal.τ).loc Cert.Kernel2Ideal.main_arg3)) x4 x5 x6 x7 = fun _ => 1#1) :
    Ffn.InRange (Ffn.words m) := Ffn.inRange_of_pre _ _ _ _ _ _ _ _ h

/-- The experts' frame. -/
theorem frame_kernel2 : Cert.quiescent_Kernel2 := fun m ρ hpre =>
  Ffn.kernel_of_ideal ((θ_run Cert.Kernel2Ideal.defs _ _).mono (fun _ h => ⟨fun c => (h.1 c).1, h.2⟩)
    (Ffn.run_exp (F := Bits) m ρ (tables (F := Bits) m (hpre 0))))

/-- The idealized experts' frame. -/
theorem frame_kernel2Ideal : Cert.quiescent_Kernel2Ideal := fun m ρ hpre =>
  (θ_run Cert.Kernel2Ideal.defs _ _).mono (fun _ h => ⟨fun c => (h.1 c).1, h.2⟩) (Ffn.run_exp (F := Ideal) m ρ (tables (F := Ideal) m (hpre 0)))

/-- The experts' reference's frame. -/
theorem frame_reference2Ideal : Cert.quiescent_Reference2Ideal := fun m ρ _ =>
  (θ_run Cert.Reference2Ideal.defs _ _).mono (fun r h => ⟨fun c => (h c).2, sem_eq_zero_of_no_sems rfl r.2⟩)
    (Cert.Reference2Ideal.Value.run (F := Ideal) m ρ)

/-- Where the mask holds the experts' result and the reference's are each block's mathematics. -/
theorem values2 : Cert.algebraic_Kernel2Ideal_Reference2Ideal_on_rows_used := by
  intro m ρ m' ρ' hpre hargs
  have hr := tables (F := Ideal) m (hpre 0)
  refine ⟨fun c => Cert.Reference2Ideal.Read.val_main_v81 (F := Ideal)
    (m ((c.tc : Thread Cert.Kernel2Ideal.nD Cert.Kernel2Ideal.τ).loc Cert.Kernel2Ideal.main_arg0))
    (m ((c.tc : Thread Cert.Kernel2Ideal.nD Cert.Kernel2Ideal.τ).loc Cert.Kernel2Ideal.main_arg1))
    (m ((c.tc : Thread Cert.Kernel2Ideal.nD Cert.Kernel2Ideal.τ).loc Cert.Kernel2Ideal.main_arg2))
    (m ((c.tc : Thread Cert.Kernel2Ideal.nD Cert.Kernel2Ideal.τ).loc Cert.Kernel2Ideal.main_arg4))
    (m ((c.tc : Thread Cert.Kernel2Ideal.nD Cert.Kernel2Ideal.τ).loc Cert.Kernel2Ideal.main_arg5))
    (m ((c.tc : Thread Cert.Kernel2Ideal.nD Cert.Kernel2Ideal.τ).loc Cert.Kernel2Ideal.main_arg6))
    (m ((c.tc : Thread Cert.Kernel2Ideal.nD Cert.Kernel2Ideal.τ).loc Cert.Kernel2Ideal.main_arg7)), ?_, ?_⟩
  · refine (θ_run Cert.Kernel2Ideal.defs _ _).mono (fun r h c => ⟨fun i hi => ?_, (h.1 c).1⟩) (Ffn.run_exp (F := Ideal) m ρ hr)
    have hp := Ffn.inRange_of_pre _ _ _ _ _ _ _ _ (hpre c)
    exact (congrFun (h.1 c).2 i).trans (Ffn.out_eq_reference m hr c i hp.1 hp.2 hi)
  · refine (θ_run Cert.Reference2Ideal.defs _ _).mono (fun r h c => ⟨fun i _ => ?_, (h c).2⟩) (Cert.Reference2Ideal.Value.run (F := Ideal) m' ρ')
    refine (congrFun ((h c).1.trans (Cert.Reference2Ideal.Read.val_main_v81_eq m' c)) i).trans ?_
    obtain ⟨e0, e1, e2, _, e4, e5, e6, e7⟩ := hargs c
    rw [e0, e1, e2, e4, e5, e6, e7]

/-- The memory's keys and values end with their arguments as they began. -/
theorem frame_kernel3 : Cert.quiescent_Kernel3 := fun m ρ _ => Cert.Kernel3.Gen.frame m ρ
/-- The memory's keys and values, idealized, end with the arguments as they began. -/
theorem frame_kernel3Ideal : Cert.quiescent_Kernel3Ideal := fun m ρ _ => Cert.Kernel3Ideal.Gen.frame m ρ
/-- The memory's reference ends with its arguments as they began. -/
theorem frame_reference3Ideal : Cert.quiescent_Reference3Ideal := fun m ρ _ =>
  (θ_run Cert.Reference3Ideal.defs _ _).mono (fun r h => ⟨fun c => (h c).2.2, sem_eq_zero_of_no_sems rfl r.2⟩)
    (Cert.Reference3Ideal.Value.run (F := Ideal) m ρ)

/-- The memory's keys and values are the reference's. -/
theorem values3 : Cert.algebraic_Kernel3Ideal_Reference3Ideal := by
  intro m ρ m' ρ' _ hargs
  refine ⟨fun c => Cert.Reference3Ideal.Read.val_main_v1 (F := Ideal)
      (m ((c.tc : Thread Cert.Kernel3Ideal.nD Cert.Kernel3Ideal.τ).loc Cert.Kernel3Ideal.main_arg0))
      (m ((c.tc : Thread Cert.Kernel3Ideal.nD Cert.Kernel3Ideal.τ).loc Cert.Kernel3Ideal.main_arg1)),
    fun c => Cert.Reference3Ideal.Read.val_main_v3 (F := Ideal)
      (m ((c.tc : Thread Cert.Kernel3Ideal.nD Cert.Kernel3Ideal.τ).loc Cert.Kernel3Ideal.main_arg0))
      (m ((c.tc : Thread Cert.Kernel3Ideal.nD Cert.Kernel3Ideal.τ).loc Cert.Kernel3Ideal.main_arg2)), MemProj.run_vals m ρ, ?_⟩
  refine (θ_run Cert.Reference3Ideal.defs _ _).mono (fun r h c => ?_) (Cert.Reference3Ideal.Value.run (F := Ideal) m' ρ')
  obtain ⟨e0, e1, e2⟩ := hargs c
  obtain ⟨h0, h1, ha⟩ := h c
  rw [e0, e1] at h0
  rw [e0, e2] at h1
  exact ⟨h0, h1, ha⟩

/-- The input projection ends with its arguments as they began. -/
theorem frame_kernel4 : Cert.quiescent_Kernel4 := fun m ρ _ => Cert.Kernel4.Gen.frame m ρ
/-- The input projection, idealized, ends with its arguments as they began. -/
theorem frame_kernel4Ideal : Cert.quiescent_Kernel4Ideal := fun m ρ _ => Cert.Kernel4Ideal.Gen.frame m ρ
/-- The input projection's reference ends with its arguments as they began. -/
theorem frame_reference4Ideal : Cert.quiescent_Reference4Ideal := fun m ρ _ =>
  (θ_run Cert.Reference4Ideal.defs _ _).mono (fun r h => ⟨fun c => (h c).2.2.2.2.2.2, sem_eq_zero_of_no_sems rfl r.2⟩)
    (Cert.Reference4Ideal.Value.run (F := Ideal) m ρ)

/-- The input projection's six results are the reference's. -/
theorem values4 : Cert.algebraic_Kernel4Ideal_Reference4Ideal := by
  intro m ρ m' ρ' _ hargs
  refine ⟨fun c => Cert.Reference4Ideal.Read.val_main_v6 (F := Ideal)
      (m ((c.tc : Thread Cert.Kernel4Ideal.nD Cert.Kernel4Ideal.τ).loc Cert.Kernel4Ideal.main_arg0))
      (m ((c.tc : Thread Cert.Kernel4Ideal.nD Cert.Kernel4Ideal.τ).loc Cert.Kernel4Ideal.main_arg1)),
    fun c => Cert.Reference4Ideal.Read.val_main_v7 (F := Ideal)
      (m ((c.tc : Thread Cert.Kernel4Ideal.nD Cert.Kernel4Ideal.τ).loc Cert.Kernel4Ideal.main_arg0))
      (m ((c.tc : Thread Cert.Kernel4Ideal.nD Cert.Kernel4Ideal.τ).loc Cert.Kernel4Ideal.main_arg1)),
    fun c => Cert.Reference4Ideal.Read.val_main_v8 (F := Ideal)
      (m ((c.tc : Thread Cert.Kernel4Ideal.nD Cert.Kernel4Ideal.τ).loc Cert.Kernel4Ideal.main_arg0))
      (m ((c.tc : Thread Cert.Kernel4Ideal.nD Cert.Kernel4Ideal.τ).loc Cert.Kernel4Ideal.main_arg1)),
    fun c => Cert.Reference4Ideal.Read.val_main_v9 (F := Ideal)
      (m ((c.tc : Thread Cert.Kernel4Ideal.nD Cert.Kernel4Ideal.τ).loc Cert.Kernel4Ideal.main_arg0))
      (m ((c.tc : Thread Cert.Kernel4Ideal.nD Cert.Kernel4Ideal.τ).loc Cert.Kernel4Ideal.main_arg1)),
    fun c => Cert.Reference4Ideal.Read.val_main_v10 (F := Ideal)
      (m ((c.tc : Thread Cert.Kernel4Ideal.nD Cert.Kernel4Ideal.τ).loc Cert.Kernel4Ideal.main_arg0))
      (m ((c.tc : Thread Cert.Kernel4Ideal.nD Cert.Kernel4Ideal.τ).loc Cert.Kernel4Ideal.main_arg1)),
    fun c => Cert.Reference4Ideal.Read.val_main_v5 (F := Ideal)
      (m ((c.tc : Thread Cert.Kernel4Ideal.nD Cert.Kernel4Ideal.τ).loc Cert.Kernel4Ideal.main_arg0))
      (m ((c.tc : Thread Cert.Kernel4Ideal.nD Cert.Kernel4Ideal.τ).loc Cert.Kernel4Ideal.main_arg1)),
    InProj.run_vals m ρ, ?_⟩
  refine (θ_run Cert.Reference4Ideal.defs _ _).mono (fun r h c => ?_) (Cert.Reference4Ideal.Value.run (F := Ideal) m' ρ')
  obtain ⟨e0, e1⟩ := hargs c
  obtain ⟨h0, h1, h2, h3, h4, h5, ha⟩ := h c
  rw [e0, e1] at h0 h1 h2 h3 h4 h5
  exact ⟨h0, h1, h2, h3, h4, h5, ha⟩

/-- The combining call ends with its arguments as they began. -/
theorem frame_kernel5 : Cert.quiescent_Kernel5 := fun m ρ _ => Cert.Kernel5.Gen.frame m ρ
/-- The combining call, idealized, ends with its arguments as they began. -/
theorem frame_kernel5Ideal : Cert.quiescent_Kernel5Ideal := fun m ρ _ => Cert.Kernel5Ideal.Gen.frame m ρ
/-- The combining call's reference ends with its arguments as they began. -/
theorem frame_reference5Ideal : Cert.quiescent_Reference5Ideal := fun m ρ _ =>
  (θ_run Cert.Reference5Ideal.defs _ _).mono (fun r h => ⟨fun c => (h c).2.2, sem_eq_zero_of_no_sems rfl r.2⟩)
    (Cert.Reference5Ideal.Value.run (F := Ideal) m ρ)

/-- The combining call's two results are the reference's. -/
theorem values5 : Cert.algebraic_Kernel5Ideal_Reference5Ideal := by
  intro m ρ m' ρ' _ hargs
  refine ⟨fun c => Cert.Reference5Ideal.Read.val_main_v42 (F := Ideal)
      (m ((c.tc : Thread Cert.Kernel5Ideal.nD Cert.Kernel5Ideal.τ).loc Cert.Kernel5Ideal.main_arg0))
      (m ((c.tc : Thread Cert.Kernel5Ideal.nD Cert.Kernel5Ideal.τ).loc Cert.Kernel5Ideal.main_arg1))
      (m ((c.tc : Thread Cert.Kernel5Ideal.nD Cert.Kernel5Ideal.τ).loc Cert.Kernel5Ideal.main_arg2))
      (m ((c.tc : Thread Cert.Kernel5Ideal.nD Cert.Kernel5Ideal.τ).loc Cert.Kernel5Ideal.main_arg3))
      (m ((c.tc : Thread Cert.Kernel5Ideal.nD Cert.Kernel5Ideal.τ).loc Cert.Kernel5Ideal.main_arg4))
      (m ((c.tc : Thread Cert.Kernel5Ideal.nD Cert.Kernel5Ideal.τ).loc Cert.Kernel5Ideal.main_arg5)),
    fun c => Cert.Reference5Ideal.Read.val_main_v44 (F := Ideal)
      (m ((c.tc : Thread Cert.Kernel5Ideal.nD Cert.Kernel5Ideal.τ).loc Cert.Kernel5Ideal.main_arg0))
      (m ((c.tc : Thread Cert.Kernel5Ideal.nD Cert.Kernel5Ideal.τ).loc Cert.Kernel5Ideal.main_arg1))
      (m ((c.tc : Thread Cert.Kernel5Ideal.nD Cert.Kernel5Ideal.τ).loc Cert.Kernel5Ideal.main_arg2))
      (m ((c.tc : Thread Cert.Kernel5Ideal.nD Cert.Kernel5Ideal.τ).loc Cert.Kernel5Ideal.main_arg3))
      (m ((c.tc : Thread Cert.Kernel5Ideal.nD Cert.Kernel5Ideal.τ).loc Cert.Kernel5Ideal.main_arg4))
      (m ((c.tc : Thread Cert.Kernel5Ideal.nD Cert.Kernel5Ideal.τ).loc Cert.Kernel5Ideal.main_arg5)),
    Mix.run_vals m ρ, ?_⟩
  refine (θ_run Cert.Reference5Ideal.defs _ _).mono (fun r h c => ?_) (Cert.Reference5Ideal.Value.run (F := Ideal) m' ρ')
  obtain ⟨e0, e1, e2, e3, e4, e5⟩ := hargs c
  obtain ⟨h0, h1, ha⟩ := h c
  rw [Cert.Reference5Ideal.Read.val_main_v42_eq, e0, e1, e2, e3, e4, e5] at h0
  rw [Cert.Reference5Ideal.Read.val_main_v44_eq, e0, e1, e2, e3, e4, e5] at h1
  exact ⟨h0, h1, ha⟩

/-- The sliding-window call of the prompts ends with its arguments as they began. -/
theorem frame_kernel6 : Cert.quiescent_Kernel6 := fun m ρ _ => Cert.Kernel6.Gen.frame m ρ
/-- The sliding-window call of the prompts, idealized, ends with its arguments as they began. -/
theorem frame_kernel6Ideal : Cert.quiescent_Kernel6Ideal := fun m ρ _ => Cert.Kernel6Ideal.Gen.frame m ρ
/-- The reference of the prompts' keys ends with its arguments as they began. -/
theorem frame_reference6Ideal : Cert.quiescent_Reference6Ideal := fun m ρ _ =>
  (θ_run Cert.Reference6Ideal.defs _ _).mono (fun r h => ⟨fun c => (h c).2, sem_eq_zero_of_no_sems rfl r.2⟩)
    (Cert.Reference6Ideal.Value.run (F := Ideal) m ρ)

/-- The prompts' rotated keys are the reference's. -/
theorem values6 : Cert.algebraic_Kernel6Ideal_Reference6Ideal := by
  intro m ρ m' ρ' _ hargs
  refine ⟨fun c => Cert.Reference6Ideal.Read.val_main_v34 (F := Ideal)
      (m ((c.tc : Thread Cert.Kernel6Ideal.nD Cert.Kernel6Ideal.τ).loc Cert.Kernel6Ideal.main_arg0)), KeyPrompt.run_vals m ρ, ?_⟩
  refine (θ_run Cert.Reference6Ideal.defs _ _).mono (fun r h c => ?_) (Cert.Reference6Ideal.Value.run (F := Ideal) m' ρ')
  obtain ⟨e0, _⟩ := hargs c
  obtain ⟨h0, ha⟩ := h c
  rw [Cert.Reference6Ideal.Read.val_main_v34_eq, e0] at h0
  exact ⟨h0, ha⟩

/-- The sliding-window call of the samples ends with its arguments as they began. -/
theorem frame_kernel7 : Cert.quiescent_Kernel7 := fun m ρ _ => Cert.Kernel7.Gen.frame m ρ
/-- The sliding-window call of the samples, idealized, ends with its arguments as they began. -/
theorem frame_kernel7Ideal : Cert.quiescent_Kernel7Ideal := fun m ρ _ => Cert.Kernel7Ideal.Gen.frame m ρ
/-- The reference of the samples' keys ends with its arguments as they began. -/
theorem frame_reference7Ideal : Cert.quiescent_Reference7Ideal := fun m ρ _ =>
  (θ_run Cert.Reference7Ideal.defs _ _).mono (fun r h => ⟨fun c => (h c).2, sem_eq_zero_of_no_sems rfl r.2⟩)
    (Cert.Reference7Ideal.Value.run (F := Ideal) m ρ)

/-- The samples' rotated keys are the reference's. -/
theorem values7 : Cert.algebraic_Kernel7Ideal_Reference7Ideal := by
  intro m ρ m' ρ' _ hargs
  refine ⟨fun c => Cert.Reference7Ideal.Read.val_main_v35 (F := Ideal)
      (m ((c.tc : Thread Cert.Kernel7Ideal.nD Cert.Kernel7Ideal.τ).loc Cert.Kernel7Ideal.main_arg0)), KeySample.run_vals m ρ, ?_⟩
  refine (θ_run Cert.Reference7Ideal.defs _ _).mono (fun r h c => ?_) (Cert.Reference7Ideal.Value.run (F := Ideal) m' ρ')
  obtain ⟨e0, _, _, _⟩ := hargs c
  obtain ⟨h0, ha⟩ := h c
  rw [Cert.Reference7Ideal.Read.val_main_v35_eq, e0] at h0
  exact ⟨h0, ha⟩

/-- The delta-rule call of the prompts ends with its arguments as they began. -/
theorem frame_kernel8 : Cert.quiescent_Kernel8 := fun m ρ _ =>
  Tail8.kernel_of_ideal ((θ_run Cert.Kernel8Ideal.defs _ _).mono (fun _ h => ⟨fun c => (h.1 c).1, h.2⟩) (Tail8.run_tails (F := Bits) m ρ))
/-- The delta-rule call of the prompts, idealized, ends with its arguments as they began. -/
theorem frame_kernel8Ideal : Cert.quiescent_Kernel8Ideal := fun m ρ _ =>
  (θ_run Cert.Kernel8Ideal.defs _ _).mono (fun _ h => ⟨fun c => (h.1 c).1, h.2⟩) (Tail8.run_tails (F := Ideal) m ρ)
/-- The reference of the prompts' tails ends with its arguments as they began. -/
theorem frame_reference8Ideal : Cert.quiescent_Reference8Ideal := fun m ρ _ =>
  (θ_run Cert.Reference8Ideal.defs _ _).mono (fun r h => ⟨fun c => (h c).2.2, sem_eq_zero_of_no_sems rfl r.2⟩)
    (Cert.Reference8Ideal.Value.run (F := Ideal) m ρ)

/-- The prompts' tails are the reference's. -/
theorem values8 : Cert.algebraic_Kernel8Ideal_Reference8Ideal := by
  intro m ρ m' ρ' _ hargs
  refine ⟨fun c => Cert.Reference8Ideal.Read.val_main_v8 (F := Ideal) (m ((c.tc : Thread Cert.Kernel8Ideal.nD Cert.Kernel8Ideal.τ).loc Cert.Kernel8Ideal.main_arg0)),
    fun c => Cert.Reference8Ideal.Read.val_main_v11 (F := Ideal) (m ((c.tc : Thread Cert.Kernel8Ideal.nD Cert.Kernel8Ideal.τ).loc Cert.Kernel8Ideal.main_arg0)),
    Tail8.run_vals (F := Ideal) m ρ, ?_⟩
  refine (θ_run Cert.Reference8Ideal.defs _ _).mono (fun r h c => ?_) (Cert.Reference8Ideal.Value.run (F := Ideal) m' ρ')
  obtain ⟨e0, _⟩ := hargs c
  obtain ⟨h0, h1, ha⟩ := h c
  rw [Cert.Reference8Ideal.Read.val_main_v8_eq, e0] at h0
  rw [Cert.Reference8Ideal.Read.val_main_v11_eq, e0] at h1
  exact ⟨h0, h1, ha⟩

/-- The reference of the prompts' tails, read at words, ends with its arguments as they began. -/
theorem frame_reference8 : Cert.quiescent_Reference8 := fun m ρ _ =>
  (θ_run Cert.Reference8.defs _ _).mono (fun r h => ⟨fun c => (h c).2.2, sem_eq_zero_of_no_sems rfl r.2⟩)
    (Cert.Reference8.Value.run (F := Bits) m ρ)

/-- The prompts' tails are the reference's word for word. -/
theorem words8 : Cert.bitexact_Kernel8_Reference8 := by
  intro m ρ m' ρ' _ hargs
  refine ⟨fun c => Cert.Reference8Ideal.Read.val_main_v8 (F := Bits) (m ((c.tc : Thread Cert.Kernel8.nD Cert.Kernel8.τ).loc Cert.Kernel8.main_arg0)),
    fun c => Cert.Reference8Ideal.Read.val_main_v11 (F := Bits) (m ((c.tc : Thread Cert.Kernel8.nD Cert.Kernel8.τ).loc Cert.Kernel8.main_arg0)),
    Tail8.kernel_of_ideal (Tail8.run_vals (F := Bits) m ρ), ?_⟩
  refine (θ_run Cert.Reference8.defs _ _).mono (fun r h c => ?_) (Cert.Reference8.Value.run (F := Bits) m' ρ')
  obtain ⟨e0, _⟩ := hargs c
  obtain ⟨h0, h1, ha⟩ := h c
  rw [Cert.Reference8.Read.val_main_v8_eq, e0] at h0
  rw [Cert.Reference8.Read.val_main_v11_eq, e0] at h1
  exact ⟨h0, h1, ha⟩

/-- The delta-rule call of the samples ends with its arguments as they began. -/
theorem frame_kernel9 : Cert.quiescent_Kernel9 := fun m ρ _ =>
  Tail9.kernel_of_ideal ((θ_run Cert.Kernel9Ideal.defs _ _).mono (fun _ h => ⟨fun c => (h.1 c).1, h.2⟩) (Tail9.run_tails (F := Bits) m ρ))
/-- The delta-rule call of the samples, idealized, ends with its arguments as they began. -/
theorem frame_kernel9Ideal : Cert.quiescent_Kernel9Ideal := fun m ρ _ =>
  (θ_run Cert.Kernel9Ideal.defs _ _).mono (fun _ h => ⟨fun c => (h.1 c).1, h.2⟩) (Tail9.run_tails (F := Ideal) m ρ)
/-- The reference of the samples' tails ends with its arguments as they began. -/
theorem frame_reference9Ideal : Cert.quiescent_Reference9Ideal := fun m ρ _ =>
  (θ_run Cert.Reference9Ideal.defs _ _).mono (fun r h => ⟨fun c => (h c).2.2, sem_eq_zero_of_no_sems rfl r.2⟩)
    (Cert.Reference9Ideal.Value.run (F := Ideal) m ρ)

/-- The samples' tails are the reference's. -/
theorem values9 : Cert.algebraic_Kernel9Ideal_Reference9Ideal := by
  intro m ρ m' ρ' _ hargs
  refine ⟨fun c => Cert.Reference9Ideal.Read.val_main_v6 (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg2)),
    fun c => Cert.Reference9Ideal.Read.val_main_v9 (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg3)),
    Tail9.run_vals (F := Ideal) m ρ, ?_⟩
  refine (θ_run Cert.Reference9Ideal.defs _ _).mono (fun r h c => ?_) (Cert.Reference9Ideal.Value.run (F := Ideal) m' ρ')
  obtain ⟨e0, _, e2, e3, _⟩ := hargs c
  obtain ⟨h0, h1, ha⟩ := h c
  rw [Cert.Reference9Ideal.Read.val_main_v6_eq, e0, e2] at h0
  rw [Cert.Reference9Ideal.Read.val_main_v9_eq, e0, e3] at h1
  exact ⟨h0, h1, ha⟩

/-- The reference of the samples' tails, read at words, ends with its arguments as they began. -/
theorem frame_reference9 : Cert.quiescent_Reference9 := fun m ρ _ =>
  (θ_run Cert.Reference9.defs _ _).mono (fun r h => ⟨fun c => (h c).2.2, sem_eq_zero_of_no_sems rfl r.2⟩)
    (Cert.Reference9.Value.run (F := Bits) m ρ)

/-- The samples' tails are the reference's word for word. -/
theorem words9 : Cert.bitexact_Kernel9_Reference9 := by
  intro m ρ m' ρ' _ hargs
  refine ⟨fun c => Cert.Reference9Ideal.Read.val_main_v6 (F := Bits) (m ((c.tc : Thread Cert.Kernel9.nD Cert.Kernel9.τ).loc Cert.Kernel9.main_arg0)) (m ((c.tc : Thread Cert.Kernel9.nD Cert.Kernel9.τ).loc Cert.Kernel9.main_arg2)),
    fun c => Cert.Reference9Ideal.Read.val_main_v9 (F := Bits) (m ((c.tc : Thread Cert.Kernel9.nD Cert.Kernel9.τ).loc Cert.Kernel9.main_arg0)) (m ((c.tc : Thread Cert.Kernel9.nD Cert.Kernel9.τ).loc Cert.Kernel9.main_arg3)),
    Tail9.kernel_of_ideal (Tail9.run_vals (F := Bits) m ρ), ?_⟩
  refine (θ_run Cert.Reference9.defs _ _).mono (fun r h c => ?_) (Cert.Reference9.Value.run (F := Bits) m' ρ')
  obtain ⟨e0, _, e2, e3, _⟩ := hargs c
  obtain ⟨h0, h1, ha⟩ := h c
  rw [Cert.Reference9.Read.val_main_v6_eq, e0, e2] at h0
  rw [Cert.Reference9.Read.val_main_v9_eq, e0, e3] at h1
  exact ⟨h0, h1, ha⟩

/-- Every claim. -/
theorem claim : Cert.Claim := ⟨Cert.Kernel.Gen.facts, Cert.KernelIdeal.Gen.facts, Cert.ReferenceIdeal.Gen.facts, Cert.Reference.Gen.facts, Cert.Kernel2.Gen.facts, Cert.Kernel2Ideal.Gen.facts,
  Cert.Reference2Ideal.Gen.facts, Cert.Kernel3.Gen.facts, Cert.Kernel3Ideal.Gen.facts, Cert.Reference3Ideal.Gen.facts, Cert.Kernel4.Gen.facts,
  Cert.Kernel4Ideal.Gen.facts, Cert.Reference4Ideal.Gen.facts, Cert.Kernel5.Gen.facts, Cert.Kernel5Ideal.Gen.facts,
  Cert.Reference5Ideal.Gen.facts, Cert.Kernel6.Gen.facts, Cert.Kernel6Ideal.Gen.facts, Cert.Reference6Ideal.Gen.facts, Cert.Kernel7.Gen.facts,
  Cert.Kernel7Ideal.Gen.facts, Cert.Reference7Ideal.Gen.facts, Cert.Kernel8.Gen.facts, Cert.Kernel8Ideal.Gen.facts,
  Cert.Reference8Ideal.Gen.facts, Cert.Reference8.Gen.facts, Cert.Kernel9.Gen.facts, Cert.Kernel9Ideal.Gen.facts, Cert.Reference9Ideal.Gen.facts, Cert.Reference9.Gen.facts,
  Cert.Pre_dest_in_rows.Gen.facts, Cert.Pre_tables_in_range.Gen.facts, Cert.On_rows_used.Gen.facts,
  frame_kernel, frame_kernelIdeal, frame_referenceIdeal, frame_reference, frame_kernel2, frame_kernel2Ideal, frame_reference2Ideal, frame_kernel3, frame_kernel3Ideal,
  frame_reference3Ideal, frame_kernel4, frame_kernel4Ideal, frame_reference4Ideal, frame_kernel5, frame_kernel5Ideal,
  frame_reference5Ideal, frame_kernel6, frame_kernel6Ideal, frame_reference6Ideal, frame_kernel7, frame_kernel7Ideal, frame_reference7Ideal,
  frame_kernel8, frame_kernel8Ideal, frame_reference8Ideal, frame_reference8, frame_kernel9, frame_kernel9Ideal, frame_reference9Ideal, frame_reference9,
  trivial, values, words, trivial, values2, trivial, values3, trivial, values4, trivial, values5,
  trivial, values6, trivial, values7,
  trivial, values8, words8, trivial, values9, words9⟩

end Cert.Proof

end
